-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Mixers (m : (ℓ : Loc Cert.Mixers.nD Cert.Mixers.τ Cert.Mixers.sig) → Buf (Elt Bits) ℓ) : Prop :=
  True

def Pre_MixersIdeal (m : (ℓ : Loc Cert.MixersIdeal.nD Cert.MixersIdeal.τ Cert.MixersIdeal.sig) → Buf (Elt Ideal) ℓ) : Prop :=
  True

def Pre_MixersRefIdeal (m : (ℓ : Loc Cert.MixersRefIdeal.nD Cert.MixersRefIdeal.τ Cert.MixersRefIdeal.sig) → Buf (Elt Ideal) ℓ) : Prop :=
  True

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def Pre_RwkvRefIdeal (m : (ℓ : Loc Cert.RwkvRefIdeal.nD Cert.RwkvRefIdeal.τ Cert.RwkvRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_InG (m : (ℓ : Loc Cert.InG.nD Cert.InG.τ Cert.InG.sig) → Buf (Elt Bits) ℓ) : Prop :=
  True

def Pre_InGIdeal (m : (ℓ : Loc Cert.InGIdeal.nD Cert.InGIdeal.τ Cert.InGIdeal.sig) → Buf (Elt Ideal) ℓ) : Prop :=
  True

def Pre_InGRefIdeal (m : (ℓ : Loc Cert.InGRefIdeal.nD Cert.InGRefIdeal.τ Cert.InGRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def Pre_InAS (m : (ℓ : Loc Cert.InAS.nD Cert.InAS.τ Cert.InAS.sig) → Buf (Elt Bits) ℓ) : Prop :=
  True

def Pre_InASIdeal (m : (ℓ : Loc Cert.InASIdeal.nD Cert.InASIdeal.τ Cert.InASIdeal.sig) → Buf (Elt Ideal) ℓ) : Prop :=
  True

def Pre_InASRefIdeal (m : (ℓ : Loc Cert.InASRefIdeal.nD Cert.InASRefIdeal.τ Cert.InASRefIdeal.sig) → Buf (Elt Ideal) ℓ) : Prop :=
  True

def Pre_InBS (m : (ℓ : Loc Cert.InBS.nD Cert.InBS.τ Cert.InBS.sig) → Buf (Elt Bits) ℓ) : Prop :=
  True

def Pre_InBSIdeal (m : (ℓ : Loc Cert.InBSIdeal.nD Cert.InBSIdeal.τ Cert.InBSIdeal.sig) → Buf (Elt Ideal) ℓ) : Prop :=
  True

def Pre_InBSRefIdeal (m : (ℓ : Loc Cert.InBSRefIdeal.nD Cert.InBSRefIdeal.τ Cert.InBSRefIdeal.sig) → Buf (Elt Ideal) ℓ) : Prop :=
  True

def Pre_InGS (m : (ℓ : Loc Cert.InGS.nD Cert.InGS.τ Cert.InGS.sig) → Buf (Elt Bits) ℓ) : Prop :=
  True

def Pre_InGSIdeal (m : (ℓ : Loc Cert.InGSIdeal.nD Cert.InGSIdeal.τ Cert.InGSIdeal.sig) → Buf (Elt Ideal) ℓ) : Prop :=
  True

def Pre_InGSRefIdeal (m : (ℓ : Loc Cert.InGSRefIdeal.nD Cert.InGSRefIdeal.τ Cert.InGSRefIdeal.sig) → Buf (Elt Ideal) ℓ) : Prop :=
  True

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_MergeSRefIdeal (m : (ℓ : Loc Cert.MergeSRefIdeal.nD Cert.MergeSRefIdeal.τ Cert.MergeSRefIdeal.sig) → Buf (Elt Ideal) ℓ) : Prop :=
  True

def Pre_PrenormS (m : (ℓ : Loc Cert.PrenormS.nD Cert.PrenormS.τ Cert.PrenormS.sig) → Buf (Elt Bits) ℓ) : Prop :=
  True

def Pre_PrenormSIdeal (m : (ℓ : Loc Cert.PrenormSIdeal.nD Cert.PrenormSIdeal.τ Cert.PrenormSIdeal.sig) → Buf (Elt Ideal) ℓ) : Prop :=
  True

def Pre_PrenormSRefIdeal (m : (ℓ : Loc Cert.PrenormSRefIdeal.nD Cert.PrenormSRefIdeal.τ Cert.PrenormSRefIdeal.sig) → Buf (Elt Ideal) ℓ) : Prop :=
  True

def Pre_FfnN (m : (ℓ : Loc Cert.FfnN.nD Cert.FfnN.τ Cert.FfnN.sig) → Buf (Elt Bits) ℓ) : Prop :=
  True

def Pre_FfnNIdeal (m : (ℓ : Loc Cert.FfnNIdeal.nD Cert.FfnNIdeal.τ Cert.FfnNIdeal.sig) → Buf (Elt Ideal) ℓ) : Prop :=
  True

def Pre_FfnNRefIdeal (m : (ℓ : Loc Cert.FfnNRefIdeal.nD Cert.FfnNRefIdeal.τ Cert.FfnNRefIdeal.sig) → Buf (Elt Ideal) ℓ) : Prop :=
  True

def Pre_FfnNS (m : (ℓ : Loc Cert.FfnNS.nD Cert.FfnNS.τ Cert.FfnNS.sig) → Buf (Elt Bits) ℓ) : Prop :=
  True

def Pre_FfnNSIdeal (m : (ℓ : Loc Cert.FfnNSIdeal.nD Cert.FfnNSIdeal.τ Cert.FfnNSIdeal.sig) → Buf (Elt Ideal) ℓ) : Prop :=
  True

def Pre_FfnNSRefIdeal (m : (ℓ : Loc Cert.FfnNSRefIdeal.nD Cert.FfnNSRefIdeal.τ Cert.FfnNSRefIdeal.sig) → Buf (Elt Ideal) ℓ) : Prop :=
  True

def Pre_RetF (m : (ℓ : Loc Cert.RetF.nD Cert.RetF.τ Cert.RetF.sig) → Buf (Elt Bits) ℓ) : Prop :=
  True

def Pre_RetFIdeal (m : (ℓ : Loc Cert.RetFIdeal.nD Cert.RetFIdeal.τ Cert.RetFIdeal.sig) → Buf (Elt Ideal) ℓ) : Prop :=
  True

def Pre_RetFRefIdeal (m : (ℓ : Loc Cert.RetFRefIdeal.nD Cert.RetFRefIdeal.τ Cert.RetFRefIdeal.sig) → Buf (Elt Ideal) ℓ) : Prop :=
  True

def Pre_MixersF (m : (ℓ : Loc Cert.MixersF.nD Cert.MixersF.τ Cert.MixersF.sig) → Buf (Elt Bits) ℓ) : Prop :=
  True

def Pre_MixersFIdeal (m : (ℓ : Loc Cert.MixersFIdeal.nD Cert.MixersFIdeal.τ Cert.MixersFIdeal.sig) → Buf (Elt Ideal) ℓ) : Prop :=
  True

def Pre_MixersFRefIdeal (m : (ℓ : Loc Cert.MixersFRefIdeal.nD Cert.MixersFRefIdeal.τ Cert.MixersFRefIdeal.sig) → Buf (Elt Ideal) ℓ) : Prop :=
  True

def Pre_RwkvF (m : (ℓ : Loc Cert.RwkvF.nD Cert.RwkvF.τ Cert.RwkvF.sig) → Buf (Elt Bits) ℓ) : Prop :=
  True

def Pre_RwkvFIdeal (m : (ℓ : Loc Cert.RwkvFIdeal.nD Cert.RwkvFIdeal.τ Cert.RwkvFIdeal.sig) → Buf (Elt Ideal) ℓ) : Prop :=
  True

def Pre_RwkvFRefIdeal (m : (ℓ : Loc Cert.RwkvFRefIdeal.nD Cert.RwkvFRefIdeal.τ Cert.RwkvFRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2))
      ∧ r.2.sem = fun _ => 0)

def quiescent_Mixers [hMixers : Cert.Mixers.Facts] : Prop :=
  ∀ (m : (ℓ : Loc Cert.Mixers.nD Cert.Mixers.τ Cert.Mixers.sig) → Buf (Elt Bits) ℓ) (g : Dev Cert.Mixers.nD → PrngReg), Pre_Mixers m →
    θ_run (Cert.Mixers.defs (F := Bits)) (onTc (τ := Cert.Mixers.τ) (Cert.Mixers.main (F := Bits))) ⟨m, fun _ => 0, g⟩ (fun r => (∀ c : Dev Cert.Mixers.nD,
      r.2.mem ((c.tc : Thread Cert.Mixers.nD Cert.Mixers.τ).loc Cert.Mixers.main_arg0) = m ((c.tc : Thread Cert.Mixers.nD Cert.Mixers.τ).loc Cert.Mixers.main_arg0)
      ∧ r.2.mem ((c.tc : Thread Cert.Mixers.nD Cert.Mixers.τ).loc Cert.Mixers.main_arg1) = m ((c.tc : Thread Cert.Mixers.nD Cert.Mixers.τ).loc Cert.Mixers.main_arg1)
      ∧ r.2.mem ((c.tc : Thread Cert.Mixers.nD Cert.Mixers.τ).loc Cert.Mixers.main_arg2) = m ((c.tc : Thread Cert.Mixers.nD Cert.Mixers.τ).loc Cert.Mixers.main_arg2)
      ∧ r.2.mem ((c.tc : Thread Cert.Mixers.nD Cert.Mixers.τ).loc Cert.Mixers.main_arg3) = m ((c.tc : Thread Cert.Mixers.nD Cert.Mixers.τ).loc Cert.Mixers.main_arg3)
      ∧ r.2.mem ((c.tc : Thread Cert.Mixers.nD Cert.Mixers.τ).loc Cert.Mixers.main_arg4) = m ((c.tc : Thread Cert.Mixers.nD Cert.Mixers.τ).loc Cert.Mixers.main_arg4)
      ∧ r.2.mem ((c.tc : Thread Cert.Mixers.nD Cert.Mixers.τ).loc Cert.Mixers.main_arg5) = m ((c.tc : Thread Cert.Mixers.nD Cert.Mixers.τ).loc Cert.Mixers.main_arg5)
      ∧ r.2.mem ((c.tc : Thread Cert.Mixers.nD Cert.Mixers.τ).loc Cert.Mixers.main_arg6) = m ((c.tc : Thread Cert.Mixers.nD Cert.Mixers.τ).loc Cert.Mixers.main_arg6)
      ∧ r.2.mem ((c.tc : Thread Cert.Mixers.nD Cert.Mixers.τ).loc Cert.Mixers.main_arg7) = m ((c.tc : Thread Cert.Mixers.nD Cert.Mixers.τ).loc Cert.Mixers.main_arg7)
      ∧ r.2.mem ((c.tc : Thread Cert.Mixers.nD Cert.Mixers.τ).loc Cert.Mixers.main_arg8) = m ((c.tc : Thread Cert.Mixers.nD Cert.Mixers.τ).loc Cert.Mixers.main_arg8)
      ∧ r.2.mem ((c.tc : Thread Cert.Mixers.nD Cert.Mixers.τ).loc Cert.Mixers.main_arg9) = m ((c.tc : Thread Cert.Mixers.nD Cert.Mixers.τ).loc Cert.Mixers.main_arg9)
      ∧ r.2.mem ((c.tc : Thread Cert.Mixers.nD Cert.Mixers.τ).loc Cert.Mixers.main_arg10) = m ((c.tc : Thread Cert.Mixers.nD Cert.Mixers.τ).loc Cert.Mixers.main_arg10)
      ∧ r.2.mem ((c.tc : Thread Cert.Mixers.nD Cert.Mixers.τ).loc Cert.Mixers.main_arg11) = m ((c.tc : Thread Cert.Mixers.nD Cert.Mixers.τ).loc Cert.Mixers.main_arg11)
      ∧ r.2.mem ((c.tc : Thread Cert.Mixers.nD Cert.Mixers.τ).loc Cert.Mixers.main_arg12) = m ((c.tc : Thread Cert.Mixers.nD Cert.Mixers.τ).loc Cert.Mixers.main_arg12)
      ∧ r.2.mem ((c.tc : Thread Cert.Mixers.nD Cert.Mixers.τ).loc Cert.Mixers.main_arg13) = m ((c.tc : Thread Cert.Mixers.nD Cert.Mixers.τ).loc Cert.Mixers.main_arg13)
      ∧ r.2.mem ((c.tc : Thread Cert.Mixers.nD Cert.Mixers.τ).loc Cert.Mixers.main_arg14) = m ((c.tc : Thread Cert.Mixers.nD Cert.Mixers.τ).loc Cert.Mixers.main_arg14)
      ∧ r.2.mem ((c.tc : Thread Cert.Mixers.nD Cert.Mixers.τ).loc Cert.Mixers.main_arg15) = m ((c.tc : Thread Cert.Mixers.nD Cert.Mixers.τ).loc Cert.Mixers.main_arg15))
      ∧ r.2.sem = fun _ => 0)

def quiescent_MixersIdeal [hMixersIdeal : Cert.MixersIdeal.Facts] : Prop :=
  ∀ (m : (ℓ : Loc Cert.MixersIdeal.nD Cert.MixersIdeal.τ Cert.MixersIdeal.sig) → Buf (Elt Ideal) ℓ) (g : Dev Cert.MixersIdeal.nD → PrngReg), Pre_MixersIdeal m →
    θ_run (Cert.MixersIdeal.defs (F := Ideal)) (onTc (τ := Cert.MixersIdeal.τ) (Cert.MixersIdeal.main (F := Ideal))) ⟨m, fun _ => 0, g⟩ (fun r => (∀ c : Dev Cert.MixersIdeal.nD,
      r.2.mem ((c.tc : Thread Cert.MixersIdeal.nD Cert.MixersIdeal.τ).loc Cert.MixersIdeal.main_arg0) = m ((c.tc : Thread Cert.MixersIdeal.nD Cert.MixersIdeal.τ).loc Cert.MixersIdeal.main_arg0)
      ∧ r.2.mem ((c.tc : Thread Cert.MixersIdeal.nD Cert.MixersIdeal.τ).loc Cert.MixersIdeal.main_arg1) = m ((c.tc : Thread Cert.MixersIdeal.nD Cert.MixersIdeal.τ).loc Cert.MixersIdeal.main_arg1)
      ∧ r.2.mem ((c.tc : Thread Cert.MixersIdeal.nD Cert.MixersIdeal.τ).loc Cert.MixersIdeal.main_arg2) = m ((c.tc : Thread Cert.MixersIdeal.nD Cert.MixersIdeal.τ).loc Cert.MixersIdeal.main_arg2)
      ∧ r.2.mem ((c.tc : Thread Cert.MixersIdeal.nD Cert.MixersIdeal.τ).loc Cert.MixersIdeal.main_arg3) = m ((c.tc : Thread Cert.MixersIdeal.nD Cert.MixersIdeal.τ).loc Cert.MixersIdeal.main_arg3)
      ∧ r.2.mem ((c.tc : Thread Cert.MixersIdeal.nD Cert.MixersIdeal.τ).loc Cert.MixersIdeal.main_arg4) = m ((c.tc : Thread Cert.MixersIdeal.nD Cert.MixersIdeal.τ).loc Cert.MixersIdeal.main_arg4)
      ∧ r.2.mem ((c.tc : Thread Cert.MixersIdeal.nD Cert.MixersIdeal.τ).loc Cert.MixersIdeal.main_arg5) = m ((c.tc : Thread Cert.MixersIdeal.nD Cert.MixersIdeal.τ).loc Cert.MixersIdeal.main_arg5)
      ∧ r.2.mem ((c.tc : Thread Cert.MixersIdeal.nD Cert.MixersIdeal.τ).loc Cert.MixersIdeal.main_arg6) = m ((c.tc : Thread Cert.MixersIdeal.nD Cert.MixersIdeal.τ).loc Cert.MixersIdeal.main_arg6)
      ∧ r.2.mem ((c.tc : Thread Cert.MixersIdeal.nD Cert.MixersIdeal.τ).loc Cert.MixersIdeal.main_arg7) = m ((c.tc : Thread Cert.MixersIdeal.nD Cert.MixersIdeal.τ).loc Cert.MixersIdeal.main_arg7)
      ∧ r.2.mem ((c.tc : Thread Cert.MixersIdeal.nD Cert.MixersIdeal.τ).loc Cert.MixersIdeal.main_arg8) = m ((c.tc : Thread Cert.MixersIdeal.nD Cert.MixersIdeal.τ).loc Cert.MixersIdeal.main_arg8)
      ∧ r.2.mem ((c.tc : Thread Cert.MixersIdeal.nD Cert.MixersIdeal.τ).loc Cert.MixersIdeal.main_arg9) = m ((c.tc : Thread Cert.MixersIdeal.nD Cert.MixersIdeal.τ).loc Cert.MixersIdeal.main_arg9)
      ∧ r.2.mem ((c.tc : Thread Cert.MixersIdeal.nD Cert.MixersIdeal.τ).loc Cert.MixersIdeal.main_arg10) = m ((c.tc : Thread Cert.MixersIdeal.nD Cert.MixersIdeal.τ).loc Cert.MixersIdeal.main_arg10)
      ∧ r.2.mem ((c.tc : Thread Cert.MixersIdeal.nD Cert.MixersIdeal.τ).loc Cert.MixersIdeal.main_arg11) = m ((c.tc : Thread Cert.MixersIdeal.nD Cert.MixersIdeal.τ).loc Cert.MixersIdeal.main_arg11)
      ∧ r.2.mem ((c.tc : Thread Cert.MixersIdeal.nD Cert.MixersIdeal.τ).loc Cert.MixersIdeal.main_arg12) = m ((c.tc : Thread Cert.MixersIdeal.nD Cert.MixersIdeal.τ).loc Cert.MixersIdeal.main_arg12)
      ∧ r.2.mem ((c.tc : Thread Cert.MixersIdeal.nD Cert.MixersIdeal.τ).loc Cert.MixersIdeal.main_arg13) = m ((c.tc : Thread Cert.MixersIdeal.nD Cert.MixersIdeal.τ).loc Cert.MixersIdeal.main_arg13)
      ∧ r.2.mem ((c.tc : Thread Cert.MixersIdeal.nD Cert.MixersIdeal.τ).loc Cert.MixersIdeal.main_arg14) = m ((c.tc : Thread Cert.MixersIdeal.nD Cert.MixersIdeal.τ).loc Cert.MixersIdeal.main_arg14)
      ∧ r.2.mem ((c.tc : Thread Cert.MixersIdeal.nD Cert.MixersIdeal.τ).loc Cert.MixersIdeal.main_arg15) = m ((c.tc : Thread Cert.MixersIdeal.nD Cert.MixersIdeal.τ).loc Cert.MixersIdeal.main_arg15))
      ∧ r.2.sem = fun _ => 0)

def quiescent_MixersRefIdeal [hMixersRefIdeal : Cert.MixersRefIdeal.Facts] : Prop :=
  ∀ (m : (ℓ : Loc Cert.MixersRefIdeal.nD Cert.MixersRefIdeal.τ Cert.MixersRefIdeal.sig) → Buf (Elt Ideal) ℓ) (g : Dev Cert.MixersRefIdeal.nD → PrngReg), Pre_MixersRefIdeal m →
    θ_run (Cert.MixersRefIdeal.defs (F := Ideal)) (onTc (τ := Cert.MixersRefIdeal.τ) (Cert.MixersRefIdeal.main (F := Ideal))) ⟨m, fun _ => 0, g⟩ (fun r => (∀ c : Dev Cert.MixersRefIdeal.nD,
      r.2.mem ((c.tc : Thread Cert.MixersRefIdeal.nD Cert.MixersRefIdeal.τ).loc Cert.MixersRefIdeal.main_arg0) = m ((c.tc : Thread Cert.MixersRefIdeal.nD Cert.MixersRefIdeal.τ).loc Cert.MixersRefIdeal.main_arg0)
      ∧ r.2.mem ((c.tc : Thread Cert.MixersRefIdeal.nD Cert.MixersRefIdeal.τ).loc Cert.MixersRefIdeal.main_arg1) = m ((c.tc : Thread Cert.MixersRefIdeal.nD Cert.MixersRefIdeal.τ).loc Cert.MixersRefIdeal.main_arg1)
      ∧ r.2.mem ((c.tc : Thread Cert.MixersRefIdeal.nD Cert.MixersRefIdeal.τ).loc Cert.MixersRefIdeal.main_arg2) = m ((c.tc : Thread Cert.MixersRefIdeal.nD Cert.MixersRefIdeal.τ).loc Cert.MixersRefIdeal.main_arg2)
      ∧ r.2.mem ((c.tc : Thread Cert.MixersRefIdeal.nD Cert.MixersRefIdeal.τ).loc Cert.MixersRefIdeal.main_arg3) = m ((c.tc : Thread Cert.MixersRefIdeal.nD Cert.MixersRefIdeal.τ).loc Cert.MixersRefIdeal.main_arg3)
      ∧ r.2.mem ((c.tc : Thread Cert.MixersRefIdeal.nD Cert.MixersRefIdeal.τ).loc Cert.MixersRefIdeal.main_arg4) = m ((c.tc : Thread Cert.MixersRefIdeal.nD Cert.MixersRefIdeal.τ).loc Cert.MixersRefIdeal.main_arg4)
      ∧ r.2.mem ((c.tc : Thread Cert.MixersRefIdeal.nD Cert.MixersRefIdeal.τ).loc Cert.MixersRefIdeal.main_arg5) = m ((c.tc : Thread Cert.MixersRefIdeal.nD Cert.MixersRefIdeal.τ).loc Cert.MixersRefIdeal.main_arg5)
      ∧ r.2.mem ((c.tc : Thread Cert.MixersRefIdeal.nD Cert.MixersRefIdeal.τ).loc Cert.MixersRefIdeal.main_arg6) = m ((c.tc : Thread Cert.MixersRefIdeal.nD Cert.MixersRefIdeal.τ).loc Cert.MixersRefIdeal.main_arg6)
      ∧ r.2.mem ((c.tc : Thread Cert.MixersRefIdeal.nD Cert.MixersRefIdeal.τ).loc Cert.MixersRefIdeal.main_arg7) = m ((c.tc : Thread Cert.MixersRefIdeal.nD Cert.MixersRefIdeal.τ).loc Cert.MixersRefIdeal.main_arg7)
      ∧ r.2.mem ((c.tc : Thread Cert.MixersRefIdeal.nD Cert.MixersRefIdeal.τ).loc Cert.MixersRefIdeal.main_arg8) = m ((c.tc : Thread Cert.MixersRefIdeal.nD Cert.MixersRefIdeal.τ).loc Cert.MixersRefIdeal.main_arg8)
      ∧ r.2.mem ((c.tc : Thread Cert.MixersRefIdeal.nD Cert.MixersRefIdeal.τ).loc Cert.MixersRefIdeal.main_arg9) = m ((c.tc : Thread Cert.MixersRefIdeal.nD Cert.MixersRefIdeal.τ).loc Cert.MixersRefIdeal.main_arg9)
      ∧ r.2.mem ((c.tc : Thread Cert.MixersRefIdeal.nD Cert.MixersRefIdeal.τ).loc Cert.MixersRefIdeal.main_arg10) = m ((c.tc : Thread Cert.MixersRefIdeal.nD Cert.MixersRefIdeal.τ).loc Cert.MixersRefIdeal.main_arg10)
      ∧ r.2.mem ((c.tc : Thread Cert.MixersRefIdeal.nD Cert.MixersRefIdeal.τ).loc Cert.MixersRefIdeal.main_arg11) = m ((c.tc : Thread Cert.MixersRefIdeal.nD Cert.MixersRefIdeal.τ).loc Cert.MixersRefIdeal.main_arg11)
      ∧ r.2.mem ((c.tc : Thread Cert.MixersRefIdeal.nD Cert.MixersRefIdeal.τ).loc Cert.MixersRefIdeal.main_arg12) = m ((c.tc : Thread Cert.MixersRefIdeal.nD Cert.MixersRefIdeal.τ).loc Cert.MixersRefIdeal.main_arg12)
      ∧ r.2.mem ((c.tc : Thread Cert.MixersRefIdeal.nD Cert.MixersRefIdeal.τ).loc Cert.MixersRefIdeal.main_arg13) = m ((c.tc : Thread Cert.MixersRefIdeal.nD Cert.MixersRefIdeal.τ).loc Cert.MixersRefIdeal.main_arg13)
      ∧ r.2.mem ((c.tc : Thread Cert.MixersRefIdeal.nD Cert.MixersRefIdeal.τ).loc Cert.MixersRefIdeal.main_arg14) = m ((c.tc : Thread Cert.MixersRefIdeal.nD Cert.MixersRefIdeal.τ).loc Cert.MixersRefIdeal.main_arg14)
      ∧ r.2.mem ((c.tc : Thread Cert.MixersRefIdeal.nD Cert.MixersRefIdeal.τ).loc Cert.MixersRefIdeal.main_arg15) = m ((c.tc : Thread Cert.MixersRefIdeal.nD Cert.MixersRefIdeal.τ).loc Cert.MixersRefIdeal.main_arg15))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6)
      ∧ r.2.mem ((c.tc : Thread Cert.Rwkv.nD Cert.Rwkv.τ).loc Cert.Rwkv.main_arg7) = m ((c.tc : Thread Cert.Rwkv.nD Cert.Rwkv.τ).loc Cert.Rwkv.main_arg7)
      ∧ r.2.mem ((c.tc : Thread Cert.Rwkv.nD Cert.Rwkv.τ).loc Cert.Rwkv.main_arg8) = m ((c.tc : Thread Cert.Rwkv.nD Cert.Rwkv.τ).loc Cert.Rwkv.main_arg8)
      ∧ r.2.mem ((c.tc : Thread Cert.Rwkv.nD Cert.Rwkv.τ).loc Cert.Rwkv.main_arg9) = m ((c.tc : Thread Cert.Rwkv.nD Cert.Rwkv.τ).loc Cert.Rwkv.main_arg9)
      ∧ r.2.mem ((c.tc : Thread Cert.Rwkv.nD Cert.Rwkv.τ).loc Cert.Rwkv.main_arg10) = m ((c.tc : Thread Cert.Rwkv.nD Cert.Rwkv.τ).loc Cert.Rwkv.main_arg10)
      ∧ r.2.mem ((c.tc : Thread Cert.Rwkv.nD Cert.Rwkv.τ).loc Cert.Rwkv.main_arg11) = m ((c.tc : Thread Cert.Rwkv.nD Cert.Rwkv.τ).loc Cert.Rwkv.main_arg11)
      ∧ r.2.mem ((c.tc : Thread Cert.Rwkv.nD Cert.Rwkv.τ).loc Cert.Rwkv.main_arg12) = m ((c.tc : Thread Cert.Rwkv.nD Cert.Rwkv.τ).loc Cert.Rwkv.main_arg12)
      ∧ r.2.mem ((c.tc : Thread Cert.Rwkv.nD Cert.Rwkv.τ).loc Cert.Rwkv.main_arg13) = m ((c.tc : Thread Cert.Rwkv.nD Cert.Rwkv.τ).loc Cert.Rwkv.main_arg13)
      ∧ r.2.mem ((c.tc : Thread Cert.Rwkv.nD Cert.Rwkv.τ).loc Cert.Rwkv.main_arg14) = m ((c.tc : Thread Cert.Rwkv.nD Cert.Rwkv.τ).loc Cert.Rwkv.main_arg14)
      ∧ r.2.mem ((c.tc : Thread Cert.Rwkv.nD Cert.Rwkv.τ).loc Cert.Rwkv.main_arg15) = m ((c.tc : Thread Cert.Rwkv.nD Cert.Rwkv.τ).loc Cert.Rwkv.main_arg15))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11)
      ∧ r.2.mem ((c.tc : Thread Cert.RwkvIdeal.nD Cert.RwkvIdeal.τ).loc Cert.RwkvIdeal.main_arg12) = m ((c.tc : Thread Cert.RwkvIdeal.nD Cert.RwkvIdeal.τ).loc Cert.RwkvIdeal.main_arg12)
      ∧ r.2.mem ((c.tc : Thread Cert.RwkvIdeal.nD Cert.RwkvIdeal.τ).loc Cert.RwkvIdeal.main_arg13) = m ((c.tc : Thread Cert.RwkvIdeal.nD Cert.RwkvIdeal.τ).loc Cert.RwkvIdeal.main_arg13)
      ∧ r.2.mem ((c.tc : Thread Cert.RwkvIdeal.nD Cert.RwkvIdeal.τ).loc Cert.RwkvIdeal.main_arg14) = m ((c.tc : Thread Cert.RwkvIdeal.nD Cert.RwkvIdeal.τ).loc Cert.RwkvIdeal.main_arg14)
      ∧ r.2.mem ((c.tc : Thread Cert.RwkvIdeal.nD Cert.RwkvIdeal.τ).loc Cert.RwkvIdeal.main_arg15) = m ((c.tc : Thread Cert.RwkvIdeal.nD Cert.RwkvIdeal.τ).loc Cert.RwkvIdeal.main_arg15))
      ∧ r.2.sem = fun _ => 0)

def quiescent_RwkvRefIdeal [hRwkvRefIdeal : Cert.RwkvRefIdeal.Facts] : Prop :=
  ∀ (m : (ℓ : Loc Cert.RwkvRefIdeal.nD Cert.RwkvRefIdeal.τ Cert.RwkvRefIdeal.sig) → Buf (Elt Ideal) ℓ) (g : Dev Cert.RwkvRefIdeal.nD → PrngReg), Pre_RwkvRefIdeal m →
    θ_run (Cert.RwkvRefIdeal.defs (F := Ideal)) (onTc (τ := Cert.RwkvRefIdeal.τ) (Cert.RwkvRefIdeal.main (F := Ideal))) ⟨m, fun _ => 0, g⟩ (fun r => (∀ c : Dev Cert.RwkvRefIdeal.nD,
      r.2.mem ((c.tc : Thread Cert.RwkvRefIdeal.nD Cert.RwkvRefIdeal.τ).loc Cert.RwkvRefIdeal.main_arg0) = m ((c.tc : Thread Cert.RwkvRefIdeal.nD Cert.RwkvRefIdeal.τ).loc Cert.RwkvRefIdeal.main_arg0)
      ∧ r.2.mem ((c.tc : Thread Cert.RwkvRefIdeal.nD Cert.RwkvRefIdeal.τ).loc Cert.RwkvRefIdeal.main_arg1) = m ((c.tc : Thread Cert.RwkvRefIdeal.nD Cert.RwkvRefIdeal.τ).loc Cert.RwkvRefIdeal.main_arg1)
      ∧ r.2.mem ((c.tc : Thread Cert.RwkvRefIdeal.nD Cert.RwkvRefIdeal.τ).loc Cert.RwkvRefIdeal.main_arg2) = m ((c.tc : Thread Cert.RwkvRefIdeal.nD Cert.RwkvRefIdeal.τ).loc Cert.RwkvRefIdeal.main_arg2)
      ∧ r.2.mem ((c.tc : Thread Cert.RwkvRefIdeal.nD Cert.RwkvRefIdeal.τ).loc Cert.RwkvRefIdeal.main_arg3) = m ((c.tc : Thread Cert.RwkvRefIdeal.nD Cert.RwkvRefIdeal.τ).loc Cert.RwkvRefIdeal.main_arg3)
      ∧ r.2.mem ((c.tc : Thread Cert.RwkvRefIdeal.nD Cert.RwkvRefIdeal.τ).loc Cert.RwkvRefIdeal.main_arg4) = m ((c.tc : Thread Cert.RwkvRefIdeal.nD Cert.RwkvRefIdeal.τ).loc Cert.RwkvRefIdeal.main_arg4)
      ∧ r.2.mem ((c.tc : Thread Cert.RwkvRefIdeal.nD Cert.RwkvRefIdeal.τ).loc Cert.RwkvRefIdeal.main_arg5) = m ((c.tc : Thread Cert.RwkvRefIdeal.nD Cert.RwkvRefIdeal.τ).loc Cert.RwkvRefIdeal.main_arg5)
      ∧ r.2.mem ((c.tc : Thread Cert.RwkvRefIdeal.nD Cert.RwkvRefIdeal.τ).loc Cert.RwkvRefIdeal.main_arg6) = m ((c.tc : Thread Cert.RwkvRefIdeal.nD Cert.RwkvRefIdeal.τ).loc Cert.RwkvRefIdeal.main_arg6)
      ∧ r.2.mem ((c.tc : Thread Cert.RwkvRefIdeal.nD Cert.RwkvRefIdeal.τ).loc Cert.RwkvRefIdeal.main_arg7) = m ((c.tc : Thread Cert.RwkvRefIdeal.nD Cert.RwkvRefIdeal.τ).loc Cert.RwkvRefIdeal.main_arg7)
      ∧ r.2.mem ((c.tc : Thread Cert.RwkvRefIdeal.nD Cert.RwkvRefIdeal.τ).loc Cert.RwkvRefIdeal.main_arg8) = m ((c.tc : Thread Cert.RwkvRefIdeal.nD Cert.RwkvRefIdeal.τ).loc Cert.RwkvRefIdeal.main_arg8)
      ∧ r.2.mem ((c.tc : Thread Cert.RwkvRefIdeal.nD Cert.RwkvRefIdeal.τ).loc Cert.RwkvRefIdeal.main_arg9) = m ((c.tc : Thread Cert.RwkvRefIdeal.nD Cert.RwkvRefIdeal.τ).loc Cert.RwkvRefIdeal.main_arg9)
      ∧ r.2.mem ((c.tc : Thread Cert.RwkvRefIdeal.nD Cert.RwkvRefIdeal.τ).loc Cert.RwkvRefIdeal.main_arg10) = m ((c.tc : Thread Cert.RwkvRefIdeal.nD Cert.RwkvRefIdeal.τ).loc Cert.RwkvRefIdeal.main_arg10)
      ∧ r.2.mem ((c.tc : Thread Cert.RwkvRefIdeal.nD Cert.RwkvRefIdeal.τ).loc Cert.RwkvRefIdeal.main_arg11) = m ((c.tc : Thread Cert.RwkvRefIdeal.nD Cert.RwkvRefIdeal.τ).loc Cert.RwkvRefIdeal.main_arg11)
      ∧ r.2.mem ((c.tc : Thread Cert.RwkvRefIdeal.nD Cert.RwkvRefIdeal.τ).loc Cert.RwkvRefIdeal.main_arg12) = m ((c.tc : Thread Cert.RwkvRefIdeal.nD Cert.RwkvRefIdeal.τ).loc Cert.RwkvRefIdeal.main_arg12)
      ∧ r.2.mem ((c.tc : Thread Cert.RwkvRefIdeal.nD Cert.RwkvRefIdeal.τ).loc Cert.RwkvRefIdeal.main_arg13) = m ((c.tc : Thread Cert.RwkvRefIdeal.nD Cert.RwkvRefIdeal.τ).loc Cert.RwkvRefIdeal.main_arg13)
      ∧ r.2.mem ((c.tc : Thread Cert.RwkvRefIdeal.nD Cert.RwkvRefIdeal.τ).loc Cert.RwkvRefIdeal.main_arg14) = m ((c.tc : Thread Cert.RwkvRefIdeal.nD Cert.RwkvRefIdeal.τ).loc Cert.RwkvRefIdeal.main_arg14)
      ∧ r.2.mem ((c.tc : Thread Cert.RwkvRefIdeal.nD Cert.RwkvRefIdeal.τ).loc Cert.RwkvRefIdeal.main_arg15) = m ((c.tc : Thread Cert.RwkvRefIdeal.nD Cert.RwkvRefIdeal.τ).loc Cert.RwkvRefIdeal.main_arg15))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1))
      ∧ r.2.sem = fun _ => 0)

def quiescent_InG [hInG : Cert.InG.Facts] : Prop :=
  ∀ (m : (ℓ : Loc Cert.InG.nD Cert.InG.τ Cert.InG.sig) → Buf (Elt Bits) ℓ) (g : Dev Cert.InG.nD → PrngReg), Pre_InG m →
    θ_run (Cert.InG.defs (F := Bits)) (onTc (τ := Cert.InG.τ) (Cert.InG.main (F := Bits))) ⟨m, fun _ => 0, g⟩ (fun r => (∀ c : Dev Cert.InG.nD,
      r.2.mem ((c.tc : Thread Cert.InG.nD Cert.InG.τ).loc Cert.InG.main_arg0) = m ((c.tc : Thread Cert.InG.nD Cert.InG.τ).loc Cert.InG.main_arg0)
      ∧ r.2.mem ((c.tc : Thread Cert.InG.nD Cert.InG.τ).loc Cert.InG.main_arg1) = m ((c.tc : Thread Cert.InG.nD Cert.InG.τ).loc Cert.InG.main_arg1))
      ∧ r.2.sem = fun _ => 0)

def quiescent_InGIdeal [hInGIdeal : Cert.InGIdeal.Facts] : Prop :=
  ∀ (m : (ℓ : Loc Cert.InGIdeal.nD Cert.InGIdeal.τ Cert.InGIdeal.sig) → Buf (Elt Ideal) ℓ) (g : Dev Cert.InGIdeal.nD → PrngReg), Pre_InGIdeal m →
    θ_run (Cert.InGIdeal.defs (F := Ideal)) (onTc (τ := Cert.InGIdeal.τ) (Cert.InGIdeal.main (F := Ideal))) ⟨m, fun _ => 0, g⟩ (fun r => (∀ c : Dev Cert.InGIdeal.nD,
      r.2.mem ((c.tc : Thread Cert.InGIdeal.nD Cert.InGIdeal.τ).loc Cert.InGIdeal.main_arg0) = m ((c.tc : Thread Cert.InGIdeal.nD Cert.InGIdeal.τ).loc Cert.InGIdeal.main_arg0)
      ∧ r.2.mem ((c.tc : Thread Cert.InGIdeal.nD Cert.InGIdeal.τ).loc Cert.InGIdeal.main_arg1) = m ((c.tc : Thread Cert.InGIdeal.nD Cert.InGIdeal.τ).loc Cert.InGIdeal.main_arg1))
      ∧ r.2.sem = fun _ => 0)

def quiescent_InGRefIdeal [hInGRefIdeal : Cert.InGRefIdeal.Facts] : Prop :=
  ∀ (m : (ℓ : Loc Cert.InGRefIdeal.nD Cert.InGRefIdeal.τ Cert.InGRefIdeal.sig) → Buf (Elt Ideal) ℓ) (g : Dev Cert.InGRefIdeal.nD → PrngReg), Pre_InGRefIdeal m →
    θ_run (Cert.InGRefIdeal.defs (F := Ideal)) (onTc (τ := Cert.InGRefIdeal.τ) (Cert.InGRefIdeal.main (F := Ideal))) ⟨m, fun _ => 0, g⟩ (fun r => (∀ c : Dev Cert.InGRefIdeal.nD,
      r.2.mem ((c.tc : Thread Cert.InGRefIdeal.nD Cert.InGRefIdeal.τ).loc Cert.InGRefIdeal.main_arg0) = m ((c.tc : Thread Cert.InGRefIdeal.nD Cert.InGRefIdeal.τ).loc Cert.InGRefIdeal.main_arg0)
      ∧ r.2.mem ((c.tc : Thread Cert.InGRefIdeal.nD Cert.InGRefIdeal.τ).loc Cert.InGRefIdeal.main_arg1) = m ((c.tc : Thread Cert.InGRefIdeal.nD Cert.InGRefIdeal.τ).loc Cert.InGRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1)
      ∧ r.2.mem ((c.tc : Thread Cert.PrenormRefIdeal.nD Cert.PrenormRefIdeal.τ).loc Cert.PrenormRefIdeal.main_arg2) = m ((c.tc : Thread Cert.PrenormRefIdeal.nD Cert.PrenormRefIdeal.τ).loc Cert.PrenormRefIdeal.main_arg2))
      ∧ r.2.sem = fun _ => 0)

def quiescent_InAS [hInAS : Cert.InAS.Facts] : Prop :=
  ∀ (m : (ℓ : Loc Cert.InAS.nD Cert.InAS.τ Cert.InAS.sig) → Buf (Elt Bits) ℓ) (g : Dev Cert.InAS.nD → PrngReg), Pre_InAS m →
    θ_run (Cert.InAS.defs (F := Bits)) (onTc (τ := Cert.InAS.τ) (Cert.InAS.main (F := Bits))) ⟨m, fun _ => 0, g⟩ (fun r => (∀ c : Dev Cert.InAS.nD,
      r.2.mem ((c.tc : Thread Cert.InAS.nD Cert.InAS.τ).loc Cert.InAS.main_arg0) = m ((c.tc : Thread Cert.InAS.nD Cert.InAS.τ).loc Cert.InAS.main_arg0)
      ∧ r.2.mem ((c.tc : Thread Cert.InAS.nD Cert.InAS.τ).loc Cert.InAS.main_arg1) = m ((c.tc : Thread Cert.InAS.nD Cert.InAS.τ).loc Cert.InAS.main_arg1))
      ∧ r.2.sem = fun _ => 0)

def quiescent_InASIdeal [hInASIdeal : Cert.InASIdeal.Facts] : Prop :=
  ∀ (m : (ℓ : Loc Cert.InASIdeal.nD Cert.InASIdeal.τ Cert.InASIdeal.sig) → Buf (Elt Ideal) ℓ) (g : Dev Cert.InASIdeal.nD → PrngReg), Pre_InASIdeal m →
    θ_run (Cert.InASIdeal.defs (F := Ideal)) (onTc (τ := Cert.InASIdeal.τ) (Cert.InASIdeal.main (F := Ideal))) ⟨m, fun _ => 0, g⟩ (fun r => (∀ c : Dev Cert.InASIdeal.nD,
      r.2.mem ((c.tc : Thread Cert.InASIdeal.nD Cert.InASIdeal.τ).loc Cert.InASIdeal.main_arg0) = m ((c.tc : Thread Cert.InASIdeal.nD Cert.InASIdeal.τ).loc Cert.InASIdeal.main_arg0)
      ∧ r.2.mem ((c.tc : Thread Cert.InASIdeal.nD Cert.InASIdeal.τ).loc Cert.InASIdeal.main_arg1) = m ((c.tc : Thread Cert.InASIdeal.nD Cert.InASIdeal.τ).loc Cert.InASIdeal.main_arg1))
      ∧ r.2.sem = fun _ => 0)

def quiescent_InASRefIdeal [hInASRefIdeal : Cert.InASRefIdeal.Facts] : Prop :=
  ∀ (m : (ℓ : Loc Cert.InASRefIdeal.nD Cert.InASRefIdeal.τ Cert.InASRefIdeal.sig) → Buf (Elt Ideal) ℓ) (g : Dev Cert.InASRefIdeal.nD → PrngReg), Pre_InASRefIdeal m →
    θ_run (Cert.InASRefIdeal.defs (F := Ideal)) (onTc (τ := Cert.InASRefIdeal.τ) (Cert.InASRefIdeal.main (F := Ideal))) ⟨m, fun _ => 0, g⟩ (fun r => (∀ c : Dev Cert.InASRefIdeal.nD,
      r.2.mem ((c.tc : Thread Cert.InASRefIdeal.nD Cert.InASRefIdeal.τ).loc Cert.InASRefIdeal.main_arg0) = m ((c.tc : Thread Cert.InASRefIdeal.nD Cert.InASRefIdeal.τ).loc Cert.InASRefIdeal.main_arg0)
      ∧ r.2.mem ((c.tc : Thread Cert.InASRefIdeal.nD Cert.InASRefIdeal.τ).loc Cert.InASRefIdeal.main_arg1) = m ((c.tc : Thread Cert.InASRefIdeal.nD Cert.InASRefIdeal.τ).loc Cert.InASRefIdeal.main_arg1))
      ∧ r.2.sem = fun _ => 0)

def quiescent_InBS [hInBS : Cert.InBS.Facts] : Prop :=
  ∀ (m : (ℓ : Loc Cert.InBS.nD Cert.InBS.τ Cert.InBS.sig) → Buf (Elt Bits) ℓ) (g : Dev Cert.InBS.nD → PrngReg), Pre_InBS m →
    θ_run (Cert.InBS.defs (F := Bits)) (onTc (τ := Cert.InBS.τ) (Cert.InBS.main (F := Bits))) ⟨m, fun _ => 0, g⟩ (fun r => (∀ c : Dev Cert.InBS.nD,
      r.2.mem ((c.tc : Thread Cert.InBS.nD Cert.InBS.τ).loc Cert.InBS.main_arg0) = m ((c.tc : Thread Cert.InBS.nD Cert.InBS.τ).loc Cert.InBS.main_arg0)
      ∧ r.2.mem ((c.tc : Thread Cert.InBS.nD Cert.InBS.τ).loc Cert.InBS.main_arg1) = m ((c.tc : Thread Cert.InBS.nD Cert.InBS.τ).loc Cert.InBS.main_arg1))
      ∧ r.2.sem = fun _ => 0)

def quiescent_InBSIdeal [hInBSIdeal : Cert.InBSIdeal.Facts] : Prop :=
  ∀ (m : (ℓ : Loc Cert.InBSIdeal.nD Cert.InBSIdeal.τ Cert.InBSIdeal.sig) → Buf (Elt Ideal) ℓ) (g : Dev Cert.InBSIdeal.nD → PrngReg), Pre_InBSIdeal m →
    θ_run (Cert.InBSIdeal.defs (F := Ideal)) (onTc (τ := Cert.InBSIdeal.τ) (Cert.InBSIdeal.main (F := Ideal))) ⟨m, fun _ => 0, g⟩ (fun r => (∀ c : Dev Cert.InBSIdeal.nD,
      r.2.mem ((c.tc : Thread Cert.InBSIdeal.nD Cert.InBSIdeal.τ).loc Cert.InBSIdeal.main_arg0) = m ((c.tc : Thread Cert.InBSIdeal.nD Cert.InBSIdeal.τ).loc Cert.InBSIdeal.main_arg0)
      ∧ r.2.mem ((c.tc : Thread Cert.InBSIdeal.nD Cert.InBSIdeal.τ).loc Cert.InBSIdeal.main_arg1) = m ((c.tc : Thread Cert.InBSIdeal.nD Cert.InBSIdeal.τ).loc Cert.InBSIdeal.main_arg1))
      ∧ r.2.sem = fun _ => 0)

def quiescent_InBSRefIdeal [hInBSRefIdeal : Cert.InBSRefIdeal.Facts] : Prop :=
  ∀ (m : (ℓ : Loc Cert.InBSRefIdeal.nD Cert.InBSRefIdeal.τ Cert.InBSRefIdeal.sig) → Buf (Elt Ideal) ℓ) (g : Dev Cert.InBSRefIdeal.nD → PrngReg), Pre_InBSRefIdeal m →
    θ_run (Cert.InBSRefIdeal.defs (F := Ideal)) (onTc (τ := Cert.InBSRefIdeal.τ) (Cert.InBSRefIdeal.main (F := Ideal))) ⟨m, fun _ => 0, g⟩ (fun r => (∀ c : Dev Cert.InBSRefIdeal.nD,
      r.2.mem ((c.tc : Thread Cert.InBSRefIdeal.nD Cert.InBSRefIdeal.τ).loc Cert.InBSRefIdeal.main_arg0) = m ((c.tc : Thread Cert.InBSRefIdeal.nD Cert.InBSRefIdeal.τ).loc Cert.InBSRefIdeal.main_arg0)
      ∧ r.2.mem ((c.tc : Thread Cert.InBSRefIdeal.nD Cert.InBSRefIdeal.τ).loc Cert.InBSRefIdeal.main_arg1) = m ((c.tc : Thread Cert.InBSRefIdeal.nD Cert.InBSRefIdeal.τ).loc Cert.InBSRefIdeal.main_arg1))
      ∧ r.2.sem = fun _ => 0)

def quiescent_InGS [hInGS : Cert.InGS.Facts] : Prop :=
  ∀ (m : (ℓ : Loc Cert.InGS.nD Cert.InGS.τ Cert.InGS.sig) → Buf (Elt Bits) ℓ) (g : Dev Cert.InGS.nD → PrngReg), Pre_InGS m →
    θ_run (Cert.InGS.defs (F := Bits)) (onTc (τ := Cert.InGS.τ) (Cert.InGS.main (F := Bits))) ⟨m, fun _ => 0, g⟩ (fun r => (∀ c : Dev Cert.InGS.nD,
      r.2.mem ((c.tc : Thread Cert.InGS.nD Cert.InGS.τ).loc Cert.InGS.main_arg0) = m ((c.tc : Thread Cert.InGS.nD Cert.InGS.τ).loc Cert.InGS.main_arg0)
      ∧ r.2.mem ((c.tc : Thread Cert.InGS.nD Cert.InGS.τ).loc Cert.InGS.main_arg1) = m ((c.tc : Thread Cert.InGS.nD Cert.InGS.τ).loc Cert.InGS.main_arg1))
      ∧ r.2.sem = fun _ => 0)

def quiescent_InGSIdeal [hInGSIdeal : Cert.InGSIdeal.Facts] : Prop :=
  ∀ (m : (ℓ : Loc Cert.InGSIdeal.nD Cert.InGSIdeal.τ Cert.InGSIdeal.sig) → Buf (Elt Ideal) ℓ) (g : Dev Cert.InGSIdeal.nD → PrngReg), Pre_InGSIdeal m →
    θ_run (Cert.InGSIdeal.defs (F := Ideal)) (onTc (τ := Cert.InGSIdeal.τ) (Cert.InGSIdeal.main (F := Ideal))) ⟨m, fun _ => 0, g⟩ (fun r => (∀ c : Dev Cert.InGSIdeal.nD,
      r.2.mem ((c.tc : Thread Cert.InGSIdeal.nD Cert.InGSIdeal.τ).loc Cert.InGSIdeal.main_arg0) = m ((c.tc : Thread Cert.InGSIdeal.nD Cert.InGSIdeal.τ).loc Cert.InGSIdeal.main_arg0)
      ∧ r.2.mem ((c.tc : Thread Cert.InGSIdeal.nD Cert.InGSIdeal.τ).loc Cert.InGSIdeal.main_arg1) = m ((c.tc : Thread Cert.InGSIdeal.nD Cert.InGSIdeal.τ).loc Cert.InGSIdeal.main_arg1))
      ∧ r.2.sem = fun _ => 0)

def quiescent_InGSRefIdeal [hInGSRefIdeal : Cert.InGSRefIdeal.Facts] : Prop :=
  ∀ (m : (ℓ : Loc Cert.InGSRefIdeal.nD Cert.InGSRefIdeal.τ Cert.InGSRefIdeal.sig) → Buf (Elt Ideal) ℓ) (g : Dev Cert.InGSRefIdeal.nD → PrngReg), Pre_InGSRefIdeal m →
    θ_run (Cert.InGSRefIdeal.defs (F := Ideal)) (onTc (τ := Cert.InGSRefIdeal.τ) (Cert.InGSRefIdeal.main (F := Ideal))) ⟨m, fun _ => 0, g⟩ (fun r => (∀ c : Dev Cert.InGSRefIdeal.nD,
      r.2.mem ((c.tc : Thread Cert.InGSRefIdeal.nD Cert.InGSRefIdeal.τ).loc Cert.InGSRefIdeal.main_arg0) = m ((c.tc : Thread Cert.InGSRefIdeal.nD Cert.InGSRefIdeal.τ).loc Cert.InGSRefIdeal.main_arg0)
      ∧ r.2.mem ((c.tc : Thread Cert.InGSRefIdeal.nD Cert.InGSRefIdeal.τ).loc Cert.InGSRefIdeal.main_arg1) = m ((c.tc : Thread Cert.InGSRefIdeal.nD Cert.InGSRefIdeal.τ).loc Cert.InGSRefIdeal.main_arg1))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3)
      ∧ r.2.mem ((c.tc : Thread Cert.MergeS.nD Cert.MergeS.τ).loc Cert.MergeS.main_arg4) = m ((c.tc : Thread Cert.MergeS.nD Cert.MergeS.τ).loc Cert.MergeS.main_arg4)
      ∧ r.2.mem ((c.tc : Thread Cert.MergeS.nD Cert.MergeS.τ).loc Cert.MergeS.main_arg5) = m ((c.tc : Thread Cert.MergeS.nD Cert.MergeS.τ).loc Cert.MergeS.main_arg5)
      ∧ r.2.mem ((c.tc : Thread Cert.MergeS.nD Cert.MergeS.τ).loc Cert.MergeS.main_arg6) = m ((c.tc : Thread Cert.MergeS.nD Cert.MergeS.τ).loc Cert.MergeS.main_arg6)
      ∧ r.2.mem ((c.tc : Thread Cert.MergeS.nD Cert.MergeS.τ).loc Cert.MergeS.main_arg7) = m ((c.tc : Thread Cert.MergeS.nD Cert.MergeS.τ).loc Cert.MergeS.main_arg7)
      ∧ r.2.mem ((c.tc : Thread Cert.MergeS.nD Cert.MergeS.τ).loc Cert.MergeS.main_arg8) = m ((c.tc : Thread Cert.MergeS.nD Cert.MergeS.τ).loc Cert.MergeS.main_arg8))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
      ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
      ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
      ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
      ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8))
      ∧ r.2.sem = fun _ => 0)

def quiescent_MergeSRefIdeal [hMergeSRefIdeal : Cert.MergeSRefIdeal.Facts] : Prop :=
  ∀ (m : (ℓ : Loc Cert.MergeSRefIdeal.nD Cert.MergeSRefIdeal.τ Cert.MergeSRefIdeal.sig) → Buf (Elt Ideal) ℓ) (g : Dev Cert.MergeSRefIdeal.nD → PrngReg), Pre_MergeSRefIdeal m →
    θ_run (Cert.MergeSRefIdeal.defs (F := Ideal)) (onTc (τ := Cert.MergeSRefIdeal.τ) (Cert.MergeSRefIdeal.main (F := Ideal))) ⟨m, fun _ => 0, g⟩ (fun r => (∀ c : Dev Cert.MergeSRefIdeal.nD,
      r.2.mem ((c.tc : Thread Cert.MergeSRefIdeal.nD Cert.MergeSRefIdeal.τ).loc Cert.MergeSRefIdeal.main_arg0) = m ((c.tc : Thread Cert.MergeSRefIdeal.nD Cert.MergeSRefIdeal.τ).loc Cert.MergeSRefIdeal.main_arg0)
      ∧ r.2.mem ((c.tc : Thread Cert.MergeSRefIdeal.nD Cert.MergeSRefIdeal.τ).loc Cert.MergeSRefIdeal.main_arg1) = m ((c.tc : Thread Cert.MergeSRefIdeal.nD Cert.MergeSRefIdeal.τ).loc Cert.MergeSRefIdeal.main_arg1)
      ∧ r.2.mem ((c.tc : Thread Cert.MergeSRefIdeal.nD Cert.MergeSRefIdeal.τ).loc Cert.MergeSRefIdeal.main_arg2) = m ((c.tc : Thread Cert.MergeSRefIdeal.nD Cert.MergeSRefIdeal.τ).loc Cert.MergeSRefIdeal.main_arg2)
      ∧ r.2.mem ((c.tc : Thread Cert.MergeSRefIdeal.nD Cert.MergeSRefIdeal.τ).loc Cert.MergeSRefIdeal.main_arg3) = m ((c.tc : Thread Cert.MergeSRefIdeal.nD Cert.MergeSRefIdeal.τ).loc Cert.MergeSRefIdeal.main_arg3)
      ∧ r.2.mem ((c.tc : Thread Cert.MergeSRefIdeal.nD Cert.MergeSRefIdeal.τ).loc Cert.MergeSRefIdeal.main_arg4) = m ((c.tc : Thread Cert.MergeSRefIdeal.nD Cert.MergeSRefIdeal.τ).loc Cert.MergeSRefIdeal.main_arg4)
      ∧ r.2.mem ((c.tc : Thread Cert.MergeSRefIdeal.nD Cert.MergeSRefIdeal.τ).loc Cert.MergeSRefIdeal.main_arg5) = m ((c.tc : Thread Cert.MergeSRefIdeal.nD Cert.MergeSRefIdeal.τ).loc Cert.MergeSRefIdeal.main_arg5)
      ∧ r.2.mem ((c.tc : Thread Cert.MergeSRefIdeal.nD Cert.MergeSRefIdeal.τ).loc Cert.MergeSRefIdeal.main_arg6) = m ((c.tc : Thread Cert.MergeSRefIdeal.nD Cert.MergeSRefIdeal.τ).loc Cert.MergeSRefIdeal.main_arg6)
      ∧ r.2.mem ((c.tc : Thread Cert.MergeSRefIdeal.nD Cert.MergeSRefIdeal.τ).loc Cert.MergeSRefIdeal.main_arg7) = m ((c.tc : Thread Cert.MergeSRefIdeal.nD Cert.MergeSRefIdeal.τ).loc Cert.MergeSRefIdeal.main_arg7)
      ∧ r.2.mem ((c.tc : Thread Cert.MergeSRefIdeal.nD Cert.MergeSRefIdeal.τ).loc Cert.MergeSRefIdeal.main_arg8) = m ((c.tc : Thread Cert.MergeSRefIdeal.nD Cert.MergeSRefIdeal.τ).loc Cert.MergeSRefIdeal.main_arg8))
      ∧ r.2.sem = fun _ => 0)

def quiescent_PrenormS [hPrenormS : Cert.PrenormS.Facts] : Prop :=
  ∀ (m : (ℓ : Loc Cert.PrenormS.nD Cert.PrenormS.τ Cert.PrenormS.sig) → Buf (Elt Bits) ℓ) (g : Dev Cert.PrenormS.nD → PrngReg), Pre_PrenormS m →
    θ_run (Cert.PrenormS.defs (F := Bits)) (onTc (τ := Cert.PrenormS.τ) (Cert.PrenormS.main (F := Bits))) ⟨m, fun _ => 0, g⟩ (fun r => (∀ c : Dev Cert.PrenormS.nD,
      r.2.mem ((c.tc : Thread Cert.PrenormS.nD Cert.PrenormS.τ).loc Cert.PrenormS.main_arg0) = m ((c.tc : Thread Cert.PrenormS.nD Cert.PrenormS.τ).loc Cert.PrenormS.main_arg0)
      ∧ r.2.mem ((c.tc : Thread Cert.PrenormS.nD Cert.PrenormS.τ).loc Cert.PrenormS.main_arg1) = m ((c.tc : Thread Cert.PrenormS.nD Cert.PrenormS.τ).loc Cert.PrenormS.main_arg1)
      ∧ r.2.mem ((c.tc : Thread Cert.PrenormS.nD Cert.PrenormS.τ).loc Cert.PrenormS.main_arg2) = m ((c.tc : Thread Cert.PrenormS.nD Cert.PrenormS.τ).loc Cert.PrenormS.main_arg2))
      ∧ r.2.sem = fun _ => 0)

def quiescent_PrenormSIdeal [hPrenormSIdeal : Cert.PrenormSIdeal.Facts] : Prop :=
  ∀ (m : (ℓ : Loc Cert.PrenormSIdeal.nD Cert.PrenormSIdeal.τ Cert.PrenormSIdeal.sig) → Buf (Elt Ideal) ℓ) (g : Dev Cert.PrenormSIdeal.nD → PrngReg), Pre_PrenormSIdeal m →
    θ_run (Cert.PrenormSIdeal.defs (F := Ideal)) (onTc (τ := Cert.PrenormSIdeal.τ) (Cert.PrenormSIdeal.main (F := Ideal))) ⟨m, fun _ => 0, g⟩ (fun r => (∀ c : Dev Cert.PrenormSIdeal.nD,
      r.2.mem ((c.tc : Thread Cert.PrenormSIdeal.nD Cert.PrenormSIdeal.τ).loc Cert.PrenormSIdeal.main_arg0) = m ((c.tc : Thread Cert.PrenormSIdeal.nD Cert.PrenormSIdeal.τ).loc Cert.PrenormSIdeal.main_arg0)
      ∧ r.2.mem ((c.tc : Thread Cert.PrenormSIdeal.nD Cert.PrenormSIdeal.τ).loc Cert.PrenormSIdeal.main_arg1) = m ((c.tc : Thread Cert.PrenormSIdeal.nD Cert.PrenormSIdeal.τ).loc Cert.PrenormSIdeal.main_arg1)
      ∧ r.2.mem ((c.tc : Thread Cert.PrenormSIdeal.nD Cert.PrenormSIdeal.τ).loc Cert.PrenormSIdeal.main_arg2) = m ((c.tc : Thread Cert.PrenormSIdeal.nD Cert.PrenormSIdeal.τ).loc Cert.PrenormSIdeal.main_arg2))
      ∧ r.2.sem = fun _ => 0)

def quiescent_PrenormSRefIdeal [hPrenormSRefIdeal : Cert.PrenormSRefIdeal.Facts] : Prop :=
  ∀ (m : (ℓ : Loc Cert.PrenormSRefIdeal.nD Cert.PrenormSRefIdeal.τ Cert.PrenormSRefIdeal.sig) → Buf (Elt Ideal) ℓ) (g : Dev Cert.PrenormSRefIdeal.nD → PrngReg), Pre_PrenormSRefIdeal m →
    θ_run (Cert.PrenormSRefIdeal.defs (F := Ideal)) (onTc (τ := Cert.PrenormSRefIdeal.τ) (Cert.PrenormSRefIdeal.main (F := Ideal))) ⟨m, fun _ => 0, g⟩ (fun r => (∀ c : Dev Cert.PrenormSRefIdeal.nD,
      r.2.mem ((c.tc : Thread Cert.PrenormSRefIdeal.nD Cert.PrenormSRefIdeal.τ).loc Cert.PrenormSRefIdeal.main_arg0) = m ((c.tc : Thread Cert.PrenormSRefIdeal.nD Cert.PrenormSRefIdeal.τ).loc Cert.PrenormSRefIdeal.main_arg0)
      ∧ r.2.mem ((c.tc : Thread Cert.PrenormSRefIdeal.nD Cert.PrenormSRefIdeal.τ).loc Cert.PrenormSRefIdeal.main_arg1) = m ((c.tc : Thread Cert.PrenormSRefIdeal.nD Cert.PrenormSRefIdeal.τ).loc Cert.PrenormSRefIdeal.main_arg1)
      ∧ r.2.mem ((c.tc : Thread Cert.PrenormSRefIdeal.nD Cert.PrenormSRefIdeal.τ).loc Cert.PrenormSRefIdeal.main_arg2) = m ((c.tc : Thread Cert.PrenormSRefIdeal.nD Cert.PrenormSRefIdeal.τ).loc Cert.PrenormSRefIdeal.main_arg2))
      ∧ r.2.sem = fun _ => 0)

def quiescent_FfnN [hFfnN : Cert.FfnN.Facts] : Prop :=
  ∀ (m : (ℓ : Loc Cert.FfnN.nD Cert.FfnN.τ Cert.FfnN.sig) → Buf (Elt Bits) ℓ) (g : Dev Cert.FfnN.nD → PrngReg), Pre_FfnN m →
    θ_run (Cert.FfnN.defs (F := Bits)) (onTc (τ := Cert.FfnN.τ) (Cert.FfnN.main (F := Bits))) ⟨m, fun _ => 0, g⟩ (fun r => (∀ c : Dev Cert.FfnN.nD,
      r.2.mem ((c.tc : Thread Cert.FfnN.nD Cert.FfnN.τ).loc Cert.FfnN.main_arg0) = m ((c.tc : Thread Cert.FfnN.nD Cert.FfnN.τ).loc Cert.FfnN.main_arg0)
      ∧ r.2.mem ((c.tc : Thread Cert.FfnN.nD Cert.FfnN.τ).loc Cert.FfnN.main_arg1) = m ((c.tc : Thread Cert.FfnN.nD Cert.FfnN.τ).loc Cert.FfnN.main_arg1)
      ∧ r.2.mem ((c.tc : Thread Cert.FfnN.nD Cert.FfnN.τ).loc Cert.FfnN.main_arg2) = m ((c.tc : Thread Cert.FfnN.nD Cert.FfnN.τ).loc Cert.FfnN.main_arg2)
      ∧ r.2.mem ((c.tc : Thread Cert.FfnN.nD Cert.FfnN.τ).loc Cert.FfnN.main_arg3) = m ((c.tc : Thread Cert.FfnN.nD Cert.FfnN.τ).loc Cert.FfnN.main_arg3)
      ∧ r.2.mem ((c.tc : Thread Cert.FfnN.nD Cert.FfnN.τ).loc Cert.FfnN.main_arg4) = m ((c.tc : Thread Cert.FfnN.nD Cert.FfnN.τ).loc Cert.FfnN.main_arg4)
      ∧ r.2.mem ((c.tc : Thread Cert.FfnN.nD Cert.FfnN.τ).loc Cert.FfnN.main_arg5) = m ((c.tc : Thread Cert.FfnN.nD Cert.FfnN.τ).loc Cert.FfnN.main_arg5)
      ∧ r.2.mem ((c.tc : Thread Cert.FfnN.nD Cert.FfnN.τ).loc Cert.FfnN.main_arg6) = m ((c.tc : Thread Cert.FfnN.nD Cert.FfnN.τ).loc Cert.FfnN.main_arg6)
      ∧ r.2.mem ((c.tc : Thread Cert.FfnN.nD Cert.FfnN.τ).loc Cert.FfnN.main_arg7) = m ((c.tc : Thread Cert.FfnN.nD Cert.FfnN.τ).loc Cert.FfnN.main_arg7))
      ∧ r.2.sem = fun _ => 0)

def quiescent_FfnNIdeal [hFfnNIdeal : Cert.FfnNIdeal.Facts] : Prop :=
  ∀ (m : (ℓ : Loc Cert.FfnNIdeal.nD Cert.FfnNIdeal.τ Cert.FfnNIdeal.sig) → Buf (Elt Ideal) ℓ) (g : Dev Cert.FfnNIdeal.nD → PrngReg), Pre_FfnNIdeal m →
    θ_run (Cert.FfnNIdeal.defs (F := Ideal)) (onTc (τ := Cert.FfnNIdeal.τ) (Cert.FfnNIdeal.main (F := Ideal))) ⟨m, fun _ => 0, g⟩ (fun r => (∀ c : Dev Cert.FfnNIdeal.nD,
      r.2.mem ((c.tc : Thread Cert.FfnNIdeal.nD Cert.FfnNIdeal.τ).loc Cert.FfnNIdeal.main_arg0) = m ((c.tc : Thread Cert.FfnNIdeal.nD Cert.FfnNIdeal.τ).loc Cert.FfnNIdeal.main_arg0)
      ∧ r.2.mem ((c.tc : Thread Cert.FfnNIdeal.nD Cert.FfnNIdeal.τ).loc Cert.FfnNIdeal.main_arg1) = m ((c.tc : Thread Cert.FfnNIdeal.nD Cert.FfnNIdeal.τ).loc Cert.FfnNIdeal.main_arg1)
      ∧ r.2.mem ((c.tc : Thread Cert.FfnNIdeal.nD Cert.FfnNIdeal.τ).loc Cert.FfnNIdeal.main_arg2) = m ((c.tc : Thread Cert.FfnNIdeal.nD Cert.FfnNIdeal.τ).loc Cert.FfnNIdeal.main_arg2)
      ∧ r.2.mem ((c.tc : Thread Cert.FfnNIdeal.nD Cert.FfnNIdeal.τ).loc Cert.FfnNIdeal.main_arg3) = m ((c.tc : Thread Cert.FfnNIdeal.nD Cert.FfnNIdeal.τ).loc Cert.FfnNIdeal.main_arg3)
      ∧ r.2.mem ((c.tc : Thread Cert.FfnNIdeal.nD Cert.FfnNIdeal.τ).loc Cert.FfnNIdeal.main_arg4) = m ((c.tc : Thread Cert.FfnNIdeal.nD Cert.FfnNIdeal.τ).loc Cert.FfnNIdeal.main_arg4)
      ∧ r.2.mem ((c.tc : Thread Cert.FfnNIdeal.nD Cert.FfnNIdeal.τ).loc Cert.FfnNIdeal.main_arg5) = m ((c.tc : Thread Cert.FfnNIdeal.nD Cert.FfnNIdeal.τ).loc Cert.FfnNIdeal.main_arg5)
      ∧ r.2.mem ((c.tc : Thread Cert.FfnNIdeal.nD Cert.FfnNIdeal.τ).loc Cert.FfnNIdeal.main_arg6) = m ((c.tc : Thread Cert.FfnNIdeal.nD Cert.FfnNIdeal.τ).loc Cert.FfnNIdeal.main_arg6)
      ∧ r.2.mem ((c.tc : Thread Cert.FfnNIdeal.nD Cert.FfnNIdeal.τ).loc Cert.FfnNIdeal.main_arg7) = m ((c.tc : Thread Cert.FfnNIdeal.nD Cert.FfnNIdeal.τ).loc Cert.FfnNIdeal.main_arg7))
      ∧ r.2.sem = fun _ => 0)

def quiescent_FfnNRefIdeal [hFfnNRefIdeal : Cert.FfnNRefIdeal.Facts] : Prop :=
  ∀ (m : (ℓ : Loc Cert.FfnNRefIdeal.nD Cert.FfnNRefIdeal.τ Cert.FfnNRefIdeal.sig) → Buf (Elt Ideal) ℓ) (g : Dev Cert.FfnNRefIdeal.nD → PrngReg), Pre_FfnNRefIdeal m →
    θ_run (Cert.FfnNRefIdeal.defs (F := Ideal)) (onTc (τ := Cert.FfnNRefIdeal.τ) (Cert.FfnNRefIdeal.main (F := Ideal))) ⟨m, fun _ => 0, g⟩ (fun r => (∀ c : Dev Cert.FfnNRefIdeal.nD,
      r.2.mem ((c.tc : Thread Cert.FfnNRefIdeal.nD Cert.FfnNRefIdeal.τ).loc Cert.FfnNRefIdeal.main_arg0) = m ((c.tc : Thread Cert.FfnNRefIdeal.nD Cert.FfnNRefIdeal.τ).loc Cert.FfnNRefIdeal.main_arg0)
      ∧ r.2.mem ((c.tc : Thread Cert.FfnNRefIdeal.nD Cert.FfnNRefIdeal.τ).loc Cert.FfnNRefIdeal.main_arg1) = m ((c.tc : Thread Cert.FfnNRefIdeal.nD Cert.FfnNRefIdeal.τ).loc Cert.FfnNRefIdeal.main_arg1)
      ∧ r.2.mem ((c.tc : Thread Cert.FfnNRefIdeal.nD Cert.FfnNRefIdeal.τ).loc Cert.FfnNRefIdeal.main_arg2) = m ((c.tc : Thread Cert.FfnNRefIdeal.nD Cert.FfnNRefIdeal.τ).loc Cert.FfnNRefIdeal.main_arg2)
      ∧ r.2.mem ((c.tc : Thread Cert.FfnNRefIdeal.nD Cert.FfnNRefIdeal.τ).loc Cert.FfnNRefIdeal.main_arg3) = m ((c.tc : Thread Cert.FfnNRefIdeal.nD Cert.FfnNRefIdeal.τ).loc Cert.FfnNRefIdeal.main_arg3)
      ∧ r.2.mem ((c.tc : Thread Cert.FfnNRefIdeal.nD Cert.FfnNRefIdeal.τ).loc Cert.FfnNRefIdeal.main_arg4) = m ((c.tc : Thread Cert.FfnNRefIdeal.nD Cert.FfnNRefIdeal.τ).loc Cert.FfnNRefIdeal.main_arg4)
      ∧ r.2.mem ((c.tc : Thread Cert.FfnNRefIdeal.nD Cert.FfnNRefIdeal.τ).loc Cert.FfnNRefIdeal.main_arg5) = m ((c.tc : Thread Cert.FfnNRefIdeal.nD Cert.FfnNRefIdeal.τ).loc Cert.FfnNRefIdeal.main_arg5)
      ∧ r.2.mem ((c.tc : Thread Cert.FfnNRefIdeal.nD Cert.FfnNRefIdeal.τ).loc Cert.FfnNRefIdeal.main_arg6) = m ((c.tc : Thread Cert.FfnNRefIdeal.nD Cert.FfnNRefIdeal.τ).loc Cert.FfnNRefIdeal.main_arg6)
      ∧ r.2.mem ((c.tc : Thread Cert.FfnNRefIdeal.nD Cert.FfnNRefIdeal.τ).loc Cert.FfnNRefIdeal.main_arg7) = m ((c.tc : Thread Cert.FfnNRefIdeal.nD Cert.FfnNRefIdeal.τ).loc Cert.FfnNRefIdeal.main_arg7))
      ∧ r.2.sem = fun _ => 0)

def quiescent_FfnNS [hFfnNS : Cert.FfnNS.Facts] : Prop :=
  ∀ (m : (ℓ : Loc Cert.FfnNS.nD Cert.FfnNS.τ Cert.FfnNS.sig) → Buf (Elt Bits) ℓ) (g : Dev Cert.FfnNS.nD → PrngReg), Pre_FfnNS m →
    θ_run (Cert.FfnNS.defs (F := Bits)) (onTc (τ := Cert.FfnNS.τ) (Cert.FfnNS.main (F := Bits))) ⟨m, fun _ => 0, g⟩ (fun r => (∀ c : Dev Cert.FfnNS.nD,
      r.2.mem ((c.tc : Thread Cert.FfnNS.nD Cert.FfnNS.τ).loc Cert.FfnNS.main_arg0) = m ((c.tc : Thread Cert.FfnNS.nD Cert.FfnNS.τ).loc Cert.FfnNS.main_arg0)
      ∧ r.2.mem ((c.tc : Thread Cert.FfnNS.nD Cert.FfnNS.τ).loc Cert.FfnNS.main_arg1) = m ((c.tc : Thread Cert.FfnNS.nD Cert.FfnNS.τ).loc Cert.FfnNS.main_arg1)
      ∧ r.2.mem ((c.tc : Thread Cert.FfnNS.nD Cert.FfnNS.τ).loc Cert.FfnNS.main_arg2) = m ((c.tc : Thread Cert.FfnNS.nD Cert.FfnNS.τ).loc Cert.FfnNS.main_arg2)
      ∧ r.2.mem ((c.tc : Thread Cert.FfnNS.nD Cert.FfnNS.τ).loc Cert.FfnNS.main_arg3) = m ((c.tc : Thread Cert.FfnNS.nD Cert.FfnNS.τ).loc Cert.FfnNS.main_arg3)
      ∧ r.2.mem ((c.tc : Thread Cert.FfnNS.nD Cert.FfnNS.τ).loc Cert.FfnNS.main_arg4) = m ((c.tc : Thread Cert.FfnNS.nD Cert.FfnNS.τ).loc Cert.FfnNS.main_arg4)
      ∧ r.2.mem ((c.tc : Thread Cert.FfnNS.nD Cert.FfnNS.τ).loc Cert.FfnNS.main_arg5) = m ((c.tc : Thread Cert.FfnNS.nD Cert.FfnNS.τ).loc Cert.FfnNS.main_arg5)
      ∧ r.2.mem ((c.tc : Thread Cert.FfnNS.nD Cert.FfnNS.τ).loc Cert.FfnNS.main_arg6) = m ((c.tc : Thread Cert.FfnNS.nD Cert.FfnNS.τ).loc Cert.FfnNS.main_arg6)
      ∧ r.2.mem ((c.tc : Thread Cert.FfnNS.nD Cert.FfnNS.τ).loc Cert.FfnNS.main_arg7) = m ((c.tc : Thread Cert.FfnNS.nD Cert.FfnNS.τ).loc Cert.FfnNS.main_arg7))
      ∧ r.2.sem = fun _ => 0)

def quiescent_FfnNSIdeal [hFfnNSIdeal : Cert.FfnNSIdeal.Facts] : Prop :=
  ∀ (m : (ℓ : Loc Cert.FfnNSIdeal.nD Cert.FfnNSIdeal.τ Cert.FfnNSIdeal.sig) → Buf (Elt Ideal) ℓ) (g : Dev Cert.FfnNSIdeal.nD → PrngReg), Pre_FfnNSIdeal m →
    θ_run (Cert.FfnNSIdeal.defs (F := Ideal)) (onTc (τ := Cert.FfnNSIdeal.τ) (Cert.FfnNSIdeal.main (F := Ideal))) ⟨m, fun _ => 0, g⟩ (fun r => (∀ c : Dev Cert.FfnNSIdeal.nD,
      r.2.mem ((c.tc : Thread Cert.FfnNSIdeal.nD Cert.FfnNSIdeal.τ).loc Cert.FfnNSIdeal.main_arg0) = m ((c.tc : Thread Cert.FfnNSIdeal.nD Cert.FfnNSIdeal.τ).loc Cert.FfnNSIdeal.main_arg0)
      ∧ r.2.mem ((c.tc : Thread Cert.FfnNSIdeal.nD Cert.FfnNSIdeal.τ).loc Cert.FfnNSIdeal.main_arg1) = m ((c.tc : Thread Cert.FfnNSIdeal.nD Cert.FfnNSIdeal.τ).loc Cert.FfnNSIdeal.main_arg1)
      ∧ r.2.mem ((c.tc : Thread Cert.FfnNSIdeal.nD Cert.FfnNSIdeal.τ).loc Cert.FfnNSIdeal.main_arg2) = m ((c.tc : Thread Cert.FfnNSIdeal.nD Cert.FfnNSIdeal.τ).loc Cert.FfnNSIdeal.main_arg2)
      ∧ r.2.mem ((c.tc : Thread Cert.FfnNSIdeal.nD Cert.FfnNSIdeal.τ).loc Cert.FfnNSIdeal.main_arg3) = m ((c.tc : Thread Cert.FfnNSIdeal.nD Cert.FfnNSIdeal.τ).loc Cert.FfnNSIdeal.main_arg3)
      ∧ r.2.mem ((c.tc : Thread Cert.FfnNSIdeal.nD Cert.FfnNSIdeal.τ).loc Cert.FfnNSIdeal.main_arg4) = m ((c.tc : Thread Cert.FfnNSIdeal.nD Cert.FfnNSIdeal.τ).loc Cert.FfnNSIdeal.main_arg4)
      ∧ r.2.mem ((c.tc : Thread Cert.FfnNSIdeal.nD Cert.FfnNSIdeal.τ).loc Cert.FfnNSIdeal.main_arg5) = m ((c.tc : Thread Cert.FfnNSIdeal.nD Cert.FfnNSIdeal.τ).loc Cert.FfnNSIdeal.main_arg5)
      ∧ r.2.mem ((c.tc : Thread Cert.FfnNSIdeal.nD Cert.FfnNSIdeal.τ).loc Cert.FfnNSIdeal.main_arg6) = m ((c.tc : Thread Cert.FfnNSIdeal.nD Cert.FfnNSIdeal.τ).loc Cert.FfnNSIdeal.main_arg6)
      ∧ r.2.mem ((c.tc : Thread Cert.FfnNSIdeal.nD Cert.FfnNSIdeal.τ).loc Cert.FfnNSIdeal.main_arg7) = m ((c.tc : Thread Cert.FfnNSIdeal.nD Cert.FfnNSIdeal.τ).loc Cert.FfnNSIdeal.main_arg7))
      ∧ r.2.sem = fun _ => 0)

def quiescent_FfnNSRefIdeal [hFfnNSRefIdeal : Cert.FfnNSRefIdeal.Facts] : Prop :=
  ∀ (m : (ℓ : Loc Cert.FfnNSRefIdeal.nD Cert.FfnNSRefIdeal.τ Cert.FfnNSRefIdeal.sig) → Buf (Elt Ideal) ℓ) (g : Dev Cert.FfnNSRefIdeal.nD → PrngReg), Pre_FfnNSRefIdeal m →
    θ_run (Cert.FfnNSRefIdeal.defs (F := Ideal)) (onTc (τ := Cert.FfnNSRefIdeal.τ) (Cert.FfnNSRefIdeal.main (F := Ideal))) ⟨m, fun _ => 0, g⟩ (fun r => (∀ c : Dev Cert.FfnNSRefIdeal.nD,
      r.2.mem ((c.tc : Thread Cert.FfnNSRefIdeal.nD Cert.FfnNSRefIdeal.τ).loc Cert.FfnNSRefIdeal.main_arg0) = m ((c.tc : Thread Cert.FfnNSRefIdeal.nD Cert.FfnNSRefIdeal.τ).loc Cert.FfnNSRefIdeal.main_arg0)
      ∧ r.2.mem ((c.tc : Thread Cert.FfnNSRefIdeal.nD Cert.FfnNSRefIdeal.τ).loc Cert.FfnNSRefIdeal.main_arg1) = m ((c.tc : Thread Cert.FfnNSRefIdeal.nD Cert.FfnNSRefIdeal.τ).loc Cert.FfnNSRefIdeal.main_arg1)
      ∧ r.2.mem ((c.tc : Thread Cert.FfnNSRefIdeal.nD Cert.FfnNSRefIdeal.τ).loc Cert.FfnNSRefIdeal.main_arg2) = m ((c.tc : Thread Cert.FfnNSRefIdeal.nD Cert.FfnNSRefIdeal.τ).loc Cert.FfnNSRefIdeal.main_arg2)
      ∧ r.2.mem ((c.tc : Thread Cert.FfnNSRefIdeal.nD Cert.FfnNSRefIdeal.τ).loc Cert.FfnNSRefIdeal.main_arg3) = m ((c.tc : Thread Cert.FfnNSRefIdeal.nD Cert.FfnNSRefIdeal.τ).loc Cert.FfnNSRefIdeal.main_arg3)
      ∧ r.2.mem ((c.tc : Thread Cert.FfnNSRefIdeal.nD Cert.FfnNSRefIdeal.τ).loc Cert.FfnNSRefIdeal.main_arg4) = m ((c.tc : Thread Cert.FfnNSRefIdeal.nD Cert.FfnNSRefIdeal.τ).loc Cert.FfnNSRefIdeal.main_arg4)
      ∧ r.2.mem ((c.tc : Thread Cert.FfnNSRefIdeal.nD Cert.FfnNSRefIdeal.τ).loc Cert.FfnNSRefIdeal.main_arg5) = m ((c.tc : Thread Cert.FfnNSRefIdeal.nD Cert.FfnNSRefIdeal.τ).loc Cert.FfnNSRefIdeal.main_arg5)
      ∧ r.2.mem ((c.tc : Thread Cert.FfnNSRefIdeal.nD Cert.FfnNSRefIdeal.τ).loc Cert.FfnNSRefIdeal.main_arg6) = m ((c.tc : Thread Cert.FfnNSRefIdeal.nD Cert.FfnNSRefIdeal.τ).loc Cert.FfnNSRefIdeal.main_arg6)
      ∧ r.2.mem ((c.tc : Thread Cert.FfnNSRefIdeal.nD Cert.FfnNSRefIdeal.τ).loc Cert.FfnNSRefIdeal.main_arg7) = m ((c.tc : Thread Cert.FfnNSRefIdeal.nD Cert.FfnNSRefIdeal.τ).loc Cert.FfnNSRefIdeal.main_arg7))
      ∧ r.2.sem = fun _ => 0)

def quiescent_RetF [hRetF : Cert.RetF.Facts] : Prop :=
  ∀ (m : (ℓ : Loc Cert.RetF.nD Cert.RetF.τ Cert.RetF.sig) → Buf (Elt Bits) ℓ) (g : Dev Cert.RetF.nD → PrngReg), Pre_RetF m →
    θ_run (Cert.RetF.defs (F := Bits)) (onTc (τ := Cert.RetF.τ) (Cert.RetF.main (F := Bits))) ⟨m, fun _ => 0, g⟩ (fun r => (∀ c : Dev Cert.RetF.nD,
      r.2.mem ((c.tc : Thread Cert.RetF.nD Cert.RetF.τ).loc Cert.RetF.main_arg0) = m ((c.tc : Thread Cert.RetF.nD Cert.RetF.τ).loc Cert.RetF.main_arg0)
      ∧ r.2.mem ((c.tc : Thread Cert.RetF.nD Cert.RetF.τ).loc Cert.RetF.main_arg1) = m ((c.tc : Thread Cert.RetF.nD Cert.RetF.τ).loc Cert.RetF.main_arg1))
      ∧ r.2.sem = fun _ => 0)

def quiescent_RetFIdeal [hRetFIdeal : Cert.RetFIdeal.Facts] : Prop :=
  ∀ (m : (ℓ : Loc Cert.RetFIdeal.nD Cert.RetFIdeal.τ Cert.RetFIdeal.sig) → Buf (Elt Ideal) ℓ) (g : Dev Cert.RetFIdeal.nD → PrngReg), Pre_RetFIdeal m →
    θ_run (Cert.RetFIdeal.defs (F := Ideal)) (onTc (τ := Cert.RetFIdeal.τ) (Cert.RetFIdeal.main (F := Ideal))) ⟨m, fun _ => 0, g⟩ (fun r => (∀ c : Dev Cert.RetFIdeal.nD,
      r.2.mem ((c.tc : Thread Cert.RetFIdeal.nD Cert.RetFIdeal.τ).loc Cert.RetFIdeal.main_arg0) = m ((c.tc : Thread Cert.RetFIdeal.nD Cert.RetFIdeal.τ).loc Cert.RetFIdeal.main_arg0)
      ∧ r.2.mem ((c.tc : Thread Cert.RetFIdeal.nD Cert.RetFIdeal.τ).loc Cert.RetFIdeal.main_arg1) = m ((c.tc : Thread Cert.RetFIdeal.nD Cert.RetFIdeal.τ).loc Cert.RetFIdeal.main_arg1))
      ∧ r.2.sem = fun _ => 0)

def quiescent_RetFRefIdeal [hRetFRefIdeal : Cert.RetFRefIdeal.Facts] : Prop :=
  ∀ (m : (ℓ : Loc Cert.RetFRefIdeal.nD Cert.RetFRefIdeal.τ Cert.RetFRefIdeal.sig) → Buf (Elt Ideal) ℓ) (g : Dev Cert.RetFRefIdeal.nD → PrngReg), Pre_RetFRefIdeal m →
    θ_run (Cert.RetFRefIdeal.defs (F := Ideal)) (onTc (τ := Cert.RetFRefIdeal.τ) (Cert.RetFRefIdeal.main (F := Ideal))) ⟨m, fun _ => 0, g⟩ (fun r => (∀ c : Dev Cert.RetFRefIdeal.nD,
      r.2.mem ((c.tc : Thread Cert.RetFRefIdeal.nD Cert.RetFRefIdeal.τ).loc Cert.RetFRefIdeal.main_arg0) = m ((c.tc : Thread Cert.RetFRefIdeal.nD Cert.RetFRefIdeal.τ).loc Cert.RetFRefIdeal.main_arg0)
      ∧ r.2.mem ((c.tc : Thread Cert.RetFRefIdeal.nD Cert.RetFRefIdeal.τ).loc Cert.RetFRefIdeal.main_arg1) = m ((c.tc : Thread Cert.RetFRefIdeal.nD Cert.RetFRefIdeal.τ).loc Cert.RetFRefIdeal.main_arg1))
      ∧ r.2.sem = fun _ => 0)

def quiescent_MixersF [hMixersF : Cert.MixersF.Facts] : Prop :=
  ∀ (m : (ℓ : Loc Cert.MixersF.nD Cert.MixersF.τ Cert.MixersF.sig) → Buf (Elt Bits) ℓ) (g : Dev Cert.MixersF.nD → PrngReg), Pre_MixersF m →
    θ_run (Cert.MixersF.defs (F := Bits)) (onTc (τ := Cert.MixersF.τ) (Cert.MixersF.main (F := Bits))) ⟨m, fun _ => 0, g⟩ (fun r => (∀ c : Dev Cert.MixersF.nD,
      r.2.mem ((c.tc : Thread Cert.MixersF.nD Cert.MixersF.τ).loc Cert.MixersF.main_arg0) = m ((c.tc : Thread Cert.MixersF.nD Cert.MixersF.τ).loc Cert.MixersF.main_arg0)
      ∧ r.2.mem ((c.tc : Thread Cert.MixersF.nD Cert.MixersF.τ).loc Cert.MixersF.main_arg1) = m ((c.tc : Thread Cert.MixersF.nD Cert.MixersF.τ).loc Cert.MixersF.main_arg1)
      ∧ r.2.mem ((c.tc : Thread Cert.MixersF.nD Cert.MixersF.τ).loc Cert.MixersF.main_arg2) = m ((c.tc : Thread Cert.MixersF.nD Cert.MixersF.τ).loc Cert.MixersF.main_arg2)
      ∧ r.2.mem ((c.tc : Thread Cert.MixersF.nD Cert.MixersF.τ).loc Cert.MixersF.main_arg3) = m ((c.tc : Thread Cert.MixersF.nD Cert.MixersF.τ).loc Cert.MixersF.main_arg3)
      ∧ r.2.mem ((c.tc : Thread Cert.MixersF.nD Cert.MixersF.τ).loc Cert.MixersF.main_arg4) = m ((c.tc : Thread Cert.MixersF.nD Cert.MixersF.τ).loc Cert.MixersF.main_arg4)
      ∧ r.2.mem ((c.tc : Thread Cert.MixersF.nD Cert.MixersF.τ).loc Cert.MixersF.main_arg5) = m ((c.tc : Thread Cert.MixersF.nD Cert.MixersF.τ).loc Cert.MixersF.main_arg5)
      ∧ r.2.mem ((c.tc : Thread Cert.MixersF.nD Cert.MixersF.τ).loc Cert.MixersF.main_arg6) = m ((c.tc : Thread Cert.MixersF.nD Cert.MixersF.τ).loc Cert.MixersF.main_arg6)
      ∧ r.2.mem ((c.tc : Thread Cert.MixersF.nD Cert.MixersF.τ).loc Cert.MixersF.main_arg7) = m ((c.tc : Thread Cert.MixersF.nD Cert.MixersF.τ).loc Cert.MixersF.main_arg7)
      ∧ r.2.mem ((c.tc : Thread Cert.MixersF.nD Cert.MixersF.τ).loc Cert.MixersF.main_arg8) = m ((c.tc : Thread Cert.MixersF.nD Cert.MixersF.τ).loc Cert.MixersF.main_arg8)
      ∧ r.2.mem ((c.tc : Thread Cert.MixersF.nD Cert.MixersF.τ).loc Cert.MixersF.main_arg9) = m ((c.tc : Thread Cert.MixersF.nD Cert.MixersF.τ).loc Cert.MixersF.main_arg9)
      ∧ r.2.mem ((c.tc : Thread Cert.MixersF.nD Cert.MixersF.τ).loc Cert.MixersF.main_arg10) = m ((c.tc : Thread Cert.MixersF.nD Cert.MixersF.τ).loc Cert.MixersF.main_arg10)
      ∧ r.2.mem ((c.tc : Thread Cert.MixersF.nD Cert.MixersF.τ).loc Cert.MixersF.main_arg11) = m ((c.tc : Thread Cert.MixersF.nD Cert.MixersF.τ).loc Cert.MixersF.main_arg11)
      ∧ r.2.mem ((c.tc : Thread Cert.MixersF.nD Cert.MixersF.τ).loc Cert.MixersF.main_arg12) = m ((c.tc : Thread Cert.MixersF.nD Cert.MixersF.τ).loc Cert.MixersF.main_arg12))
      ∧ r.2.sem = fun _ => 0)

def quiescent_MixersFIdeal [hMixersFIdeal : Cert.MixersFIdeal.Facts] : Prop :=
  ∀ (m : (ℓ : Loc Cert.MixersFIdeal.nD Cert.MixersFIdeal.τ Cert.MixersFIdeal.sig) → Buf (Elt Ideal) ℓ) (g : Dev Cert.MixersFIdeal.nD → PrngReg), Pre_MixersFIdeal m →
    θ_run (Cert.MixersFIdeal.defs (F := Ideal)) (onTc (τ := Cert.MixersFIdeal.τ) (Cert.MixersFIdeal.main (F := Ideal))) ⟨m, fun _ => 0, g⟩ (fun r => (∀ c : Dev Cert.MixersFIdeal.nD,
      r.2.mem ((c.tc : Thread Cert.MixersFIdeal.nD Cert.MixersFIdeal.τ).loc Cert.MixersFIdeal.main_arg0) = m ((c.tc : Thread Cert.MixersFIdeal.nD Cert.MixersFIdeal.τ).loc Cert.MixersFIdeal.main_arg0)
      ∧ r.2.mem ((c.tc : Thread Cert.MixersFIdeal.nD Cert.MixersFIdeal.τ).loc Cert.MixersFIdeal.main_arg1) = m ((c.tc : Thread Cert.MixersFIdeal.nD Cert.MixersFIdeal.τ).loc Cert.MixersFIdeal.main_arg1)
      ∧ r.2.mem ((c.tc : Thread Cert.MixersFIdeal.nD Cert.MixersFIdeal.τ).loc Cert.MixersFIdeal.main_arg2) = m ((c.tc : Thread Cert.MixersFIdeal.nD Cert.MixersFIdeal.τ).loc Cert.MixersFIdeal.main_arg2)
      ∧ r.2.mem ((c.tc : Thread Cert.MixersFIdeal.nD Cert.MixersFIdeal.τ).loc Cert.MixersFIdeal.main_arg3) = m ((c.tc : Thread Cert.MixersFIdeal.nD Cert.MixersFIdeal.τ).loc Cert.MixersFIdeal.main_arg3)
      ∧ r.2.mem ((c.tc : Thread Cert.MixersFIdeal.nD Cert.MixersFIdeal.τ).loc Cert.MixersFIdeal.main_arg4) = m ((c.tc : Thread Cert.MixersFIdeal.nD Cert.MixersFIdeal.τ).loc Cert.MixersFIdeal.main_arg4)
      ∧ r.2.mem ((c.tc : Thread Cert.MixersFIdeal.nD Cert.MixersFIdeal.τ).loc Cert.MixersFIdeal.main_arg5) = m ((c.tc : Thread Cert.MixersFIdeal.nD Cert.MixersFIdeal.τ).loc Cert.MixersFIdeal.main_arg5)
      ∧ r.2.mem ((c.tc : Thread Cert.MixersFIdeal.nD Cert.MixersFIdeal.τ).loc Cert.MixersFIdeal.main_arg6) = m ((c.tc : Thread Cert.MixersFIdeal.nD Cert.MixersFIdeal.τ).loc Cert.MixersFIdeal.main_arg6)
      ∧ r.2.mem ((c.tc : Thread Cert.MixersFIdeal.nD Cert.MixersFIdeal.τ).loc Cert.MixersFIdeal.main_arg7) = m ((c.tc : Thread Cert.MixersFIdeal.nD Cert.MixersFIdeal.τ).loc Cert.MixersFIdeal.main_arg7)
      ∧ r.2.mem ((c.tc : Thread Cert.MixersFIdeal.nD Cert.MixersFIdeal.τ).loc Cert.MixersFIdeal.main_arg8) = m ((c.tc : Thread Cert.MixersFIdeal.nD Cert.MixersFIdeal.τ).loc Cert.MixersFIdeal.main_arg8)
      ∧ r.2.mem ((c.tc : Thread Cert.MixersFIdeal.nD Cert.MixersFIdeal.τ).loc Cert.MixersFIdeal.main_arg9) = m ((c.tc : Thread Cert.MixersFIdeal.nD Cert.MixersFIdeal.τ).loc Cert.MixersFIdeal.main_arg9)
      ∧ r.2.mem ((c.tc : Thread Cert.MixersFIdeal.nD Cert.MixersFIdeal.τ).loc Cert.MixersFIdeal.main_arg10) = m ((c.tc : Thread Cert.MixersFIdeal.nD Cert.MixersFIdeal.τ).loc Cert.MixersFIdeal.main_arg10)
      ∧ r.2.mem ((c.tc : Thread Cert.MixersFIdeal.nD Cert.MixersFIdeal.τ).loc Cert.MixersFIdeal.main_arg11) = m ((c.tc : Thread Cert.MixersFIdeal.nD Cert.MixersFIdeal.τ).loc Cert.MixersFIdeal.main_arg11)
      ∧ r.2.mem ((c.tc : Thread Cert.MixersFIdeal.nD Cert.MixersFIdeal.τ).loc Cert.MixersFIdeal.main_arg12) = m ((c.tc : Thread Cert.MixersFIdeal.nD Cert.MixersFIdeal.τ).loc Cert.MixersFIdeal.main_arg12))
      ∧ r.2.sem = fun _ => 0)

def quiescent_MixersFRefIdeal [hMixersFRefIdeal : Cert.MixersFRefIdeal.Facts] : Prop :=
  ∀ (m : (ℓ : Loc Cert.MixersFRefIdeal.nD Cert.MixersFRefIdeal.τ Cert.MixersFRefIdeal.sig) → Buf (Elt Ideal) ℓ) (g : Dev Cert.MixersFRefIdeal.nD → PrngReg), Pre_MixersFRefIdeal m →
    θ_run (Cert.MixersFRefIdeal.defs (F := Ideal)) (onTc (τ := Cert.MixersFRefIdeal.τ) (Cert.MixersFRefIdeal.main (F := Ideal))) ⟨m, fun _ => 0, g⟩ (fun r => (∀ c : Dev Cert.MixersFRefIdeal.nD,
      r.2.mem ((c.tc : Thread Cert.MixersFRefIdeal.nD Cert.MixersFRefIdeal.τ).loc Cert.MixersFRefIdeal.main_arg0) = m ((c.tc : Thread Cert.MixersFRefIdeal.nD Cert.MixersFRefIdeal.τ).loc Cert.MixersFRefIdeal.main_arg0)
      ∧ r.2.mem ((c.tc : Thread Cert.MixersFRefIdeal.nD Cert.MixersFRefIdeal.τ).loc Cert.MixersFRefIdeal.main_arg1) = m ((c.tc : Thread Cert.MixersFRefIdeal.nD Cert.MixersFRefIdeal.τ).loc Cert.MixersFRefIdeal.main_arg1)
      ∧ r.2.mem ((c.tc : Thread Cert.MixersFRefIdeal.nD Cert.MixersFRefIdeal.τ).loc Cert.MixersFRefIdeal.main_arg2) = m ((c.tc : Thread Cert.MixersFRefIdeal.nD Cert.MixersFRefIdeal.τ).loc Cert.MixersFRefIdeal.main_arg2)
      ∧ r.2.mem ((c.tc : Thread Cert.MixersFRefIdeal.nD Cert.MixersFRefIdeal.τ).loc Cert.MixersFRefIdeal.main_arg3) = m ((c.tc : Thread Cert.MixersFRefIdeal.nD Cert.MixersFRefIdeal.τ).loc Cert.MixersFRefIdeal.main_arg3)
      ∧ r.2.mem ((c.tc : Thread Cert.MixersFRefIdeal.nD Cert.MixersFRefIdeal.τ).loc Cert.MixersFRefIdeal.main_arg4) = m ((c.tc : Thread Cert.MixersFRefIdeal.nD Cert.MixersFRefIdeal.τ).loc Cert.MixersFRefIdeal.main_arg4)
      ∧ r.2.mem ((c.tc : Thread Cert.MixersFRefIdeal.nD Cert.MixersFRefIdeal.τ).loc Cert.MixersFRefIdeal.main_arg5) = m ((c.tc : Thread Cert.MixersFRefIdeal.nD Cert.MixersFRefIdeal.τ).loc Cert.MixersFRefIdeal.main_arg5)
      ∧ r.2.mem ((c.tc : Thread Cert.MixersFRefIdeal.nD Cert.MixersFRefIdeal.τ).loc Cert.MixersFRefIdeal.main_arg6) = m ((c.tc : Thread Cert.MixersFRefIdeal.nD Cert.MixersFRefIdeal.τ).loc Cert.MixersFRefIdeal.main_arg6)
      ∧ r.2.mem ((c.tc : Thread Cert.MixersFRefIdeal.nD Cert.MixersFRefIdeal.τ).loc Cert.MixersFRefIdeal.main_arg7) = m ((c.tc : Thread Cert.MixersFRefIdeal.nD Cert.MixersFRefIdeal.τ).loc Cert.MixersFRefIdeal.main_arg7)
      ∧ r.2.mem ((c.tc : Thread Cert.MixersFRefIdeal.nD Cert.MixersFRefIdeal.τ).loc Cert.MixersFRefIdeal.main_arg8) = m ((c.tc : Thread Cert.MixersFRefIdeal.nD Cert.MixersFRefIdeal.τ).loc Cert.MixersFRefIdeal.main_arg8)
      ∧ r.2.mem ((c.tc : Thread Cert.MixersFRefIdeal.nD Cert.MixersFRefIdeal.τ).loc Cert.MixersFRefIdeal.main_arg9) = m ((c.tc : Thread Cert.MixersFRefIdeal.nD Cert.MixersFRefIdeal.τ).loc Cert.MixersFRefIdeal.main_arg9)
      ∧ r.2.mem ((c.tc : Thread Cert.MixersFRefIdeal.nD Cert.MixersFRefIdeal.τ).loc Cert.MixersFRefIdeal.main_arg10) = m ((c.tc : Thread Cert.MixersFRefIdeal.nD Cert.MixersFRefIdeal.τ).loc Cert.MixersFRefIdeal.main_arg10)
      ∧ r.2.mem ((c.tc : Thread Cert.MixersFRefIdeal.nD Cert.MixersFRefIdeal.τ).loc Cert.MixersFRefIdeal.main_arg11) = m ((c.tc : Thread Cert.MixersFRefIdeal.nD Cert.MixersFRefIdeal.τ).loc Cert.MixersFRefIdeal.main_arg11)
      ∧ r.2.mem ((c.tc : Thread Cert.MixersFRefIdeal.nD Cert.MixersFRefIdeal.τ).loc Cert.MixersFRefIdeal.main_arg12) = m ((c.tc : Thread Cert.MixersFRefIdeal.nD Cert.MixersFRefIdeal.τ).loc Cert.MixersFRefIdeal.main_arg12))
      ∧ r.2.sem = fun _ => 0)

def quiescent_RwkvF [hRwkvF : Cert.RwkvF.Facts] : Prop :=
  ∀ (m : (ℓ : Loc Cert.RwkvF.nD Cert.RwkvF.τ Cert.RwkvF.sig) → Buf (Elt Bits) ℓ) (g : Dev Cert.RwkvF.nD → PrngReg), Pre_RwkvF m →
    θ_run (Cert.RwkvF.defs (F := Bits)) (onTc (τ := Cert.RwkvF.τ) (Cert.RwkvF.main (F := Bits))) ⟨m, fun _ => 0, g⟩ (fun r => (∀ c : Dev Cert.RwkvF.nD,
      r.2.mem ((c.tc : Thread Cert.RwkvF.nD Cert.RwkvF.τ).loc Cert.RwkvF.main_arg0) = m ((c.tc : Thread Cert.RwkvF.nD Cert.RwkvF.τ).loc Cert.RwkvF.main_arg0)
      ∧ r.2.mem ((c.tc : Thread Cert.RwkvF.nD Cert.RwkvF.τ).loc Cert.RwkvF.main_arg1) = m ((c.tc : Thread Cert.RwkvF.nD Cert.RwkvF.τ).loc Cert.RwkvF.main_arg1)
      ∧ r.2.mem ((c.tc : Thread Cert.RwkvF.nD Cert.RwkvF.τ).loc Cert.RwkvF.main_arg2) = m ((c.tc : Thread Cert.RwkvF.nD Cert.RwkvF.τ).loc Cert.RwkvF.main_arg2)
      ∧ r.2.mem ((c.tc : Thread Cert.RwkvF.nD Cert.RwkvF.τ).loc Cert.RwkvF.main_arg3) = m ((c.tc : Thread Cert.RwkvF.nD Cert.RwkvF.τ).loc Cert.RwkvF.main_arg3)
      ∧ r.2.mem ((c.tc : Thread Cert.RwkvF.nD Cert.RwkvF.τ).loc Cert.RwkvF.main_arg4) = m ((c.tc : Thread Cert.RwkvF.nD Cert.RwkvF.τ).loc Cert.RwkvF.main_arg4)
      ∧ r.2.mem ((c.tc : Thread Cert.RwkvF.nD Cert.RwkvF.τ).loc Cert.RwkvF.main_arg5) = m ((c.tc : Thread Cert.RwkvF.nD Cert.RwkvF.τ).loc Cert.RwkvF.main_arg5)
      ∧ r.2.mem ((c.tc : Thread Cert.RwkvF.nD Cert.RwkvF.τ).loc Cert.RwkvF.main_arg6) = m ((c.tc : Thread Cert.RwkvF.nD Cert.RwkvF.τ).loc Cert.RwkvF.main_arg6)
      ∧ r.2.mem ((c.tc : Thread Cert.RwkvF.nD Cert.RwkvF.τ).loc Cert.RwkvF.main_arg7) = m ((c.tc : Thread Cert.RwkvF.nD Cert.RwkvF.τ).loc Cert.RwkvF.main_arg7)
      ∧ r.2.mem ((c.tc : Thread Cert.RwkvF.nD Cert.RwkvF.τ).loc Cert.RwkvF.main_arg8) = m ((c.tc : Thread Cert.RwkvF.nD Cert.RwkvF.τ).loc Cert.RwkvF.main_arg8)
      ∧ r.2.mem ((c.tc : Thread Cert.RwkvF.nD Cert.RwkvF.τ).loc Cert.RwkvF.main_arg9) = m ((c.tc : Thread Cert.RwkvF.nD Cert.RwkvF.τ).loc Cert.RwkvF.main_arg9)
      ∧ r.2.mem ((c.tc : Thread Cert.RwkvF.nD Cert.RwkvF.τ).loc Cert.RwkvF.main_arg10) = m ((c.tc : Thread Cert.RwkvF.nD Cert.RwkvF.τ).loc Cert.RwkvF.main_arg10)
      ∧ r.2.mem ((c.tc : Thread Cert.RwkvF.nD Cert.RwkvF.τ).loc Cert.RwkvF.main_arg11) = m ((c.tc : Thread Cert.RwkvF.nD Cert.RwkvF.τ).loc Cert.RwkvF.main_arg11)
      ∧ r.2.mem ((c.tc : Thread Cert.RwkvF.nD Cert.RwkvF.τ).loc Cert.RwkvF.main_arg12) = m ((c.tc : Thread Cert.RwkvF.nD Cert.RwkvF.τ).loc Cert.RwkvF.main_arg12)
      ∧ r.2.mem ((c.tc : Thread Cert.RwkvF.nD Cert.RwkvF.τ).loc Cert.RwkvF.main_arg13) = m ((c.tc : Thread Cert.RwkvF.nD Cert.RwkvF.τ).loc Cert.RwkvF.main_arg13))
      ∧ r.2.sem = fun _ => 0)

def quiescent_RwkvFIdeal [hRwkvFIdeal : Cert.RwkvFIdeal.Facts] : Prop :=
  ∀ (m : (ℓ : Loc Cert.RwkvFIdeal.nD Cert.RwkvFIdeal.τ Cert.RwkvFIdeal.sig) → Buf (Elt Ideal) ℓ) (g : Dev Cert.RwkvFIdeal.nD → PrngReg), Pre_RwkvFIdeal m →
    θ_run (Cert.RwkvFIdeal.defs (F := Ideal)) (onTc (τ := Cert.RwkvFIdeal.τ) (Cert.RwkvFIdeal.main (F := Ideal))) ⟨m, fun _ => 0, g⟩ (fun r => (∀ c : Dev Cert.RwkvFIdeal.nD,
      r.2.mem ((c.tc : Thread Cert.RwkvFIdeal.nD Cert.RwkvFIdeal.τ).loc Cert.RwkvFIdeal.main_arg0) = m ((c.tc : Thread Cert.RwkvFIdeal.nD Cert.RwkvFIdeal.τ).loc Cert.RwkvFIdeal.main_arg0)
      ∧ r.2.mem ((c.tc : Thread Cert.RwkvFIdeal.nD Cert.RwkvFIdeal.τ).loc Cert.RwkvFIdeal.main_arg1) = m ((c.tc : Thread Cert.RwkvFIdeal.nD Cert.RwkvFIdeal.τ).loc Cert.RwkvFIdeal.main_arg1)
      ∧ r.2.mem ((c.tc : Thread Cert.RwkvFIdeal.nD Cert.RwkvFIdeal.τ).loc Cert.RwkvFIdeal.main_arg2) = m ((c.tc : Thread Cert.RwkvFIdeal.nD Cert.RwkvFIdeal.τ).loc Cert.RwkvFIdeal.main_arg2)
      ∧ r.2.mem ((c.tc : Thread Cert.RwkvFIdeal.nD Cert.RwkvFIdeal.τ).loc Cert.RwkvFIdeal.main_arg3) = m ((c.tc : Thread Cert.RwkvFIdeal.nD Cert.RwkvFIdeal.τ).loc Cert.RwkvFIdeal.main_arg3)
      ∧ r.2.mem ((c.tc : Thread Cert.RwkvFIdeal.nD Cert.RwkvFIdeal.τ).loc Cert.RwkvFIdeal.main_arg4) = m ((c.tc : Thread Cert.RwkvFIdeal.nD Cert.RwkvFIdeal.τ).loc Cert.RwkvFIdeal.main_arg4)
      ∧ r.2.mem ((c.tc : Thread Cert.RwkvFIdeal.nD Cert.RwkvFIdeal.τ).loc Cert.RwkvFIdeal.main_arg5) = m ((c.tc : Thread Cert.RwkvFIdeal.nD Cert.RwkvFIdeal.τ).loc Cert.RwkvFIdeal.main_arg5)
      ∧ r.2.mem ((c.tc : Thread Cert.RwkvFIdeal.nD Cert.RwkvFIdeal.τ).loc Cert.RwkvFIdeal.main_arg6) = m ((c.tc : Thread Cert.RwkvFIdeal.nD Cert.RwkvFIdeal.τ).loc Cert.RwkvFIdeal.main_arg6)
      ∧ r.2.mem ((c.tc : Thread Cert.RwkvFIdeal.nD Cert.RwkvFIdeal.τ).loc Cert.RwkvFIdeal.main_arg7) = m ((c.tc : Thread Cert.RwkvFIdeal.nD Cert.RwkvFIdeal.τ).loc Cert.RwkvFIdeal.main_arg7)
      ∧ r.2.mem ((c.tc : Thread Cert.RwkvFIdeal.nD Cert.RwkvFIdeal.τ).loc Cert.RwkvFIdeal.main_arg8) = m ((c.tc : Thread Cert.RwkvFIdeal.nD Cert.RwkvFIdeal.τ).loc Cert.RwkvFIdeal.main_arg8)
      ∧ r.2.mem ((c.tc : Thread Cert.RwkvFIdeal.nD Cert.RwkvFIdeal.τ).loc Cert.RwkvFIdeal.main_arg9) = m ((c.tc : Thread Cert.RwkvFIdeal.nD Cert.RwkvFIdeal.τ).loc Cert.RwkvFIdeal.main_arg9)
      ∧ r.2.mem ((c.tc : Thread Cert.RwkvFIdeal.nD Cert.RwkvFIdeal.τ).loc Cert.RwkvFIdeal.main_arg10) = m ((c.tc : Thread Cert.RwkvFIdeal.nD Cert.RwkvFIdeal.τ).loc Cert.RwkvFIdeal.main_arg10)
      ∧ r.2.mem ((c.tc : Thread Cert.RwkvFIdeal.nD Cert.RwkvFIdeal.τ).loc Cert.RwkvFIdeal.main_arg11) = m ((c.tc : Thread Cert.RwkvFIdeal.nD Cert.RwkvFIdeal.τ).loc Cert.RwkvFIdeal.main_arg11)
      ∧ r.2.mem ((c.tc : Thread Cert.RwkvFIdeal.nD Cert.RwkvFIdeal.τ).loc Cert.RwkvFIdeal.main_arg12) = m ((c.tc : Thread Cert.RwkvFIdeal.nD Cert.RwkvFIdeal.τ).loc Cert.RwkvFIdeal.main_arg12)
      ∧ r.2.mem ((c.tc : Thread Cert.RwkvFIdeal.nD Cert.RwkvFIdeal.τ).loc Cert.RwkvFIdeal.main_arg13) = m ((c.tc : Thread Cert.RwkvFIdeal.nD Cert.RwkvFIdeal.τ).loc Cert.RwkvFIdeal.main_arg13))
      ∧ r.2.sem = fun _ => 0)

def quiescent_RwkvFRefIdeal [hRwkvFRefIdeal : Cert.RwkvFRefIdeal.Facts] : Prop :=
  ∀ (m : (ℓ : Loc Cert.RwkvFRefIdeal.nD Cert.RwkvFRefIdeal.τ Cert.RwkvFRefIdeal.sig) → Buf (Elt Ideal) ℓ) (g : Dev Cert.RwkvFRefIdeal.nD → PrngReg), Pre_RwkvFRefIdeal m →
    θ_run (Cert.RwkvFRefIdeal.defs (F := Ideal)) (onTc (τ := Cert.RwkvFRefIdeal.τ) (Cert.RwkvFRefIdeal.main (F := Ideal))) ⟨m, fun _ => 0, g⟩ (fun r => (∀ c : Dev Cert.RwkvFRefIdeal.nD,
      r.2.mem ((c.tc : Thread Cert.RwkvFRefIdeal.nD Cert.RwkvFRefIdeal.τ).loc Cert.RwkvFRefIdeal.main_arg0) = m ((c.tc : Thread Cert.RwkvFRefIdeal.nD Cert.RwkvFRefIdeal.τ).loc Cert.RwkvFRefIdeal.main_arg0)
      ∧ r.2.mem ((c.tc : Thread Cert.RwkvFRefIdeal.nD Cert.RwkvFRefIdeal.τ).loc Cert.RwkvFRefIdeal.main_arg1) = m ((c.tc : Thread Cert.RwkvFRefIdeal.nD Cert.RwkvFRefIdeal.τ).loc Cert.RwkvFRefIdeal.main_arg1)
      ∧ r.2.mem ((c.tc : Thread Cert.RwkvFRefIdeal.nD Cert.RwkvFRefIdeal.τ).loc Cert.RwkvFRefIdeal.main_arg2) = m ((c.tc : Thread Cert.RwkvFRefIdeal.nD Cert.RwkvFRefIdeal.τ).loc Cert.RwkvFRefIdeal.main_arg2)
      ∧ r.2.mem ((c.tc : Thread Cert.RwkvFRefIdeal.nD Cert.RwkvFRefIdeal.τ).loc Cert.RwkvFRefIdeal.main_arg3) = m ((c.tc : Thread Cert.RwkvFRefIdeal.nD Cert.RwkvFRefIdeal.τ).loc Cert.RwkvFRefIdeal.main_arg3)
      ∧ r.2.mem ((c.tc : Thread Cert.RwkvFRefIdeal.nD Cert.RwkvFRefIdeal.τ).loc Cert.RwkvFRefIdeal.main_arg4) = m ((c.tc : Thread Cert.RwkvFRefIdeal.nD Cert.RwkvFRefIdeal.τ).loc Cert.RwkvFRefIdeal.main_arg4)
      ∧ r.2.mem ((c.tc : Thread Cert.RwkvFRefIdeal.nD Cert.RwkvFRefIdeal.τ).loc Cert.RwkvFRefIdeal.main_arg5) = m ((c.tc : Thread Cert.RwkvFRefIdeal.nD Cert.RwkvFRefIdeal.τ).loc Cert.RwkvFRefIdeal.main_arg5)
      ∧ r.2.mem ((c.tc : Thread Cert.RwkvFRefIdeal.nD Cert.RwkvFRefIdeal.τ).loc Cert.RwkvFRefIdeal.main_arg6) = m ((c.tc : Thread Cert.RwkvFRefIdeal.nD Cert.RwkvFRefIdeal.τ).loc Cert.RwkvFRefIdeal.main_arg6)
      ∧ r.2.mem ((c.tc : Thread Cert.RwkvFRefIdeal.nD Cert.RwkvFRefIdeal.τ).loc Cert.RwkvFRefIdeal.main_arg7) = m ((c.tc : Thread Cert.RwkvFRefIdeal.nD Cert.RwkvFRefIdeal.τ).loc Cert.RwkvFRefIdeal.main_arg7)
      ∧ r.2.mem ((c.tc : Thread Cert.RwkvFRefIdeal.nD Cert.RwkvFRefIdeal.τ).loc Cert.RwkvFRefIdeal.main_arg8) = m ((c.tc : Thread Cert.RwkvFRefIdeal.nD Cert.RwkvFRefIdeal.τ).loc Cert.RwkvFRefIdeal.main_arg8)
      ∧ r.2.mem ((c.tc : Thread Cert.RwkvFRefIdeal.nD Cert.RwkvFRefIdeal.τ).loc Cert.RwkvFRefIdeal.main_arg9) = m ((c.tc : Thread Cert.RwkvFRefIdeal.nD Cert.RwkvFRefIdeal.τ).loc Cert.RwkvFRefIdeal.main_arg9)
      ∧ r.2.mem ((c.tc : Thread Cert.RwkvFRefIdeal.nD Cert.RwkvFRefIdeal.τ).loc Cert.RwkvFRefIdeal.main_arg10) = m ((c.tc : Thread Cert.RwkvFRefIdeal.nD Cert.RwkvFRefIdeal.τ).loc Cert.RwkvFRefIdeal.main_arg10)
      ∧ r.2.mem ((c.tc : Thread Cert.RwkvFRefIdeal.nD Cert.RwkvFRefIdeal.τ).loc Cert.RwkvFRefIdeal.main_arg11) = m ((c.tc : Thread Cert.RwkvFRefIdeal.nD Cert.RwkvFRefIdeal.τ).loc Cert.RwkvFRefIdeal.main_arg11)
      ∧ r.2.mem ((c.tc : Thread Cert.RwkvFRefIdeal.nD Cert.RwkvFRefIdeal.τ).loc Cert.RwkvFRefIdeal.main_arg12) = m ((c.tc : Thread Cert.RwkvFRefIdeal.nD Cert.RwkvFRefIdeal.τ).loc Cert.RwkvFRefIdeal.main_arg12)
      ∧ r.2.mem ((c.tc : Thread Cert.RwkvFRefIdeal.nD Cert.RwkvFRefIdeal.τ).loc Cert.RwkvFRefIdeal.main_arg13) = m ((c.tc : Thread Cert.RwkvFRefIdeal.nD Cert.RwkvFRefIdeal.τ).loc Cert.RwkvFRefIdeal.main_arg13))
      ∧ r.2.sem = fun _ => 0)

def preserves_Ret_RetIdeal : Prop :=
  IdealRules.named_const.Statement Cert.RetIdeal.κ "log_g0" .f32 0xBD020AEC#32 ((Real.log (31 / 32) : ℝ) : EReal)
  ∧ IdealRules.named_const.Statement Cert.RetIdeal.κ "g16_0" .f32 0x3F1A09B0#32 ((727423121747185263828481 / 1208925819614629174706176 : ℝ) : EReal)
  ∧ IdealRules.named_const.Statement Cert.RetIdeal.κ "log_g1" .f32 0xBC8102B3#32 ((Real.log (63 / 64) : ℝ) : EReal)
  ∧ IdealRules.named_const.Statement Cert.RetIdeal.κ "g16_1" .f32 0x3F46FADA#32 ((61581291280182164914327485441 / 79228162514264337593543950336 : ℝ) : EReal)
  ∧ IdealRules.named_const.Statement Cert.RetIdeal.κ "log_g2" .f32 0xBC0080AC#32 ((Real.log (127 / 128) : ℝ) : EReal)
  ∧ IdealRules.named_const.Statement Cert.RetIdeal.κ "g16_2" .f32 0x3F61CEF0#32 ((4579937329576774398276408998492161 / 5192296858534827628530496329220096 : ℝ) : EReal)
  ∧ IdealRules.named_const.Statement Cert.RetIdeal.κ "log_g3" .f32 0xBB80402B#32 ((Real.log (255 / 256) : ℝ) : EReal)
  ∧ IdealRules.named_const.Statement Cert.RetIdeal.κ "g16_3" .f32 0x3F7075D7#32 ((319626579315078487616775634918212890625 / 340282366920938463463374607431768211456 : ℝ) : EReal)

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)) →
    ∃ (v0 : (c : Dev Cert.RetIdeal.nD) → Buf (Elt Ideal) ((c.tc : Thread Cert.RetIdeal.nD Cert.RetIdeal.τ).loc Cert.RetIdeal.main_v22)) (v1 : (c : Dev Cert.RetIdeal.nD) → Buf (Elt Ideal) ((c.tc : Thread Cert.RetIdeal.nD Cert.RetIdeal.τ).loc Cert.RetIdeal.main_v19_1)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v22) = v0 c
          ∧ r.2.mem ((c.tc : Thread Cert.RetIdeal.nD Cert.RetIdeal.τ).loc Cert.RetIdeal.main_v19_1) = v1 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v149) = v0 c
          ∧ r.2.mem ((c.tc : Thread Cert.RetRefIdeal.nD Cert.RetRefIdeal.τ).loc Cert.RetRefIdeal.main_v154) = v1 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2))

def preserves_Mixers_MixersIdeal : Prop :=
  IdealRules.named_const.Statement Cert.MixersIdeal.κ "log_g0" .f32 0xBD020AEC#32 ((Real.log (31 / 32) : ℝ) : EReal)
  ∧ IdealRules.named_const.Statement Cert.MixersIdeal.κ "g128_0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.MixersIdeal.κ "log_g1" .f32 0xBC8102B3#32 ((Real.log (63 / 64) : ℝ) : EReal)
  ∧ IdealRules.named_const.Statement Cert.MixersIdeal.κ "g128_1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.MixersIdeal.κ "log_g2" .f32 0xBC0080AC#32 ((Real.log (127 / 128) : ℝ) : EReal)
  ∧ IdealRules.named_const.Statement Cert.MixersIdeal.κ "g128_2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.MixersIdeal.κ "log_g3" .f32 0xBB80402B#32 ((Real.log (255 / 256) : ℝ) : EReal)
  ∧ IdealRules.named_const.Statement Cert.MixersIdeal.κ "g128_3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_MixersIdeal_MixersRefIdeal [hMixersIdeal : Cert.MixersIdeal.Facts] [hMixersRefIdeal : Cert.MixersRefIdeal.Facts] : Prop :=
  ∀ (m : (ℓ : Loc Cert.MixersIdeal.nD Cert.MixersIdeal.τ Cert.MixersIdeal.sig) → Buf (Elt Ideal) ℓ) (g : Dev Cert.MixersIdeal.nD → PrngReg)
    (m' : (ℓ : Loc Cert.MixersRefIdeal.nD Cert.MixersRefIdeal.τ Cert.MixersRefIdeal.sig) → Buf (Elt Ideal) ℓ) (g' : Dev Cert.MixersRefIdeal.nD → PrngReg), Pre_MixersIdeal m →
    (∀ c : Dev Cert.MixersIdeal.nD,
      m' ((c.tc : Thread Cert.MixersRefIdeal.nD Cert.MixersRefIdeal.τ).loc Cert.MixersRefIdeal.main_arg0) = m ((c.tc : Thread Cert.MixersIdeal.nD Cert.MixersIdeal.τ).loc Cert.MixersIdeal.main_arg0)
      ∧ m' ((c.tc : Thread Cert.MixersRefIdeal.nD Cert.MixersRefIdeal.τ).loc Cert.MixersRefIdeal.main_arg1) = m ((c.tc : Thread Cert.MixersIdeal.nD Cert.MixersIdeal.τ).loc Cert.MixersIdeal.main_arg1)
      ∧ m' ((c.tc : Thread Cert.MixersRefIdeal.nD Cert.MixersRefIdeal.τ).loc Cert.MixersRefIdeal.main_arg2) = m ((c.tc : Thread Cert.MixersIdeal.nD Cert.MixersIdeal.τ).loc Cert.MixersIdeal.main_arg2)
      ∧ m' ((c.tc : Thread Cert.MixersRefIdeal.nD Cert.MixersRefIdeal.τ).loc Cert.MixersRefIdeal.main_arg3) = m ((c.tc : Thread Cert.MixersIdeal.nD Cert.MixersIdeal.τ).loc Cert.MixersIdeal.main_arg3)
      ∧ m' ((c.tc : Thread Cert.MixersRefIdeal.nD Cert.MixersRefIdeal.τ).loc Cert.MixersRefIdeal.main_arg4) = m ((c.tc : Thread Cert.MixersIdeal.nD Cert.MixersIdeal.τ).loc Cert.MixersIdeal.main_arg4)
      ∧ m' ((c.tc : Thread Cert.MixersRefIdeal.nD Cert.MixersRefIdeal.τ).loc Cert.MixersRefIdeal.main_arg5) = m ((c.tc : Thread Cert.MixersIdeal.nD Cert.MixersIdeal.τ).loc Cert.MixersIdeal.main_arg5)
      ∧ m' ((c.tc : Thread Cert.MixersRefIdeal.nD Cert.MixersRefIdeal.τ).loc Cert.MixersRefIdeal.main_arg6) = m ((c.tc : Thread Cert.MixersIdeal.nD Cert.MixersIdeal.τ).loc Cert.MixersIdeal.main_arg6)
      ∧ m' ((c.tc : Thread Cert.MixersRefIdeal.nD Cert.MixersRefIdeal.τ).loc Cert.MixersRefIdeal.main_arg7) = m ((c.tc : Thread Cert.MixersIdeal.nD Cert.MixersIdeal.τ).loc Cert.MixersIdeal.main_arg7)
      ∧ m' ((c.tc : Thread Cert.MixersRefIdeal.nD Cert.MixersRefIdeal.τ).loc Cert.MixersRefIdeal.main_arg8) = m ((c.tc : Thread Cert.MixersIdeal.nD Cert.MixersIdeal.τ).loc Cert.MixersIdeal.main_arg8)
      ∧ m' ((c.tc : Thread Cert.MixersRefIdeal.nD Cert.MixersRefIdeal.τ).loc Cert.MixersRefIdeal.main_arg9) = m ((c.tc : Thread Cert.MixersIdeal.nD Cert.MixersIdeal.τ).loc Cert.MixersIdeal.main_arg9)
      ∧ m' ((c.tc : Thread Cert.MixersRefIdeal.nD Cert.MixersRefIdeal.τ).loc Cert.MixersRefIdeal.main_arg10) = m ((c.tc : Thread Cert.MixersIdeal.nD Cert.MixersIdeal.τ).loc Cert.MixersIdeal.main_arg10)
      ∧ m' ((c.tc : Thread Cert.MixersRefIdeal.nD Cert.MixersRefIdeal.τ).loc Cert.MixersRefIdeal.main_arg11) = m ((c.tc : Thread Cert.MixersIdeal.nD Cert.MixersIdeal.τ).loc Cert.MixersIdeal.main_arg11)
      ∧ m' ((c.tc : Thread Cert.MixersRefIdeal.nD Cert.MixersRefIdeal.τ).loc Cert.MixersRefIdeal.main_arg12) = m ((c.tc : Thread Cert.MixersIdeal.nD Cert.MixersIdeal.τ).loc Cert.MixersIdeal.main_arg12)
      ∧ m' ((c.tc : Thread Cert.MixersRefIdeal.nD Cert.MixersRefIdeal.τ).loc Cert.MixersRefIdeal.main_arg13) = m ((c.tc : Thread Cert.MixersIdeal.nD Cert.MixersIdeal.τ).loc Cert.MixersIdeal.main_arg13)
      ∧ m' ((c.tc : Thread Cert.MixersRefIdeal.nD Cert.MixersRefIdeal.τ).loc Cert.MixersRefIdeal.main_arg14) = m ((c.tc : Thread Cert.MixersIdeal.nD Cert.MixersIdeal.τ).loc Cert.MixersIdeal.main_arg14)
      ∧ m' ((c.tc : Thread Cert.MixersRefIdeal.nD Cert.MixersRefIdeal.τ).loc Cert.MixersRefIdeal.main_arg15) = m ((c.tc : Thread Cert.MixersIdeal.nD Cert.MixersIdeal.τ).loc Cert.MixersIdeal.main_arg15)) →
    ∃ (v0 : (c : Dev Cert.MixersIdeal.nD) → Buf (Elt Ideal) ((c.tc : Thread Cert.MixersIdeal.nD Cert.MixersIdeal.τ).loc Cert.MixersIdeal.main_v32)) (v1 : (c : Dev Cert.MixersIdeal.nD) → Buf (Elt Ideal) ((c.tc : Thread Cert.MixersIdeal.nD Cert.MixersIdeal.τ).loc Cert.MixersIdeal.main_v31_4)),
      θ_run (Cert.MixersIdeal.defs (F := Ideal)) (onTc (τ := Cert.MixersIdeal.τ) (Cert.MixersIdeal.main (F := Ideal))) ⟨m, fun _ => 0, g⟩ (fun r => ∀ c : Dev Cert.MixersIdeal.nD,
          r.2.mem ((c.tc : Thread Cert.MixersIdeal.nD Cert.MixersIdeal.τ).loc Cert.MixersIdeal.main_v32) = v0 c
          ∧ r.2.mem ((c.tc : Thread Cert.MixersIdeal.nD Cert.MixersIdeal.τ).loc Cert.MixersIdeal.main_v31_4) = v1 c
          ∧ r.2.mem ((c.tc : Thread Cert.MixersIdeal.nD Cert.MixersIdeal.τ).loc Cert.MixersIdeal.main_arg0) = m ((c.tc : Thread Cert.MixersIdeal.nD Cert.MixersIdeal.τ).loc Cert.MixersIdeal.main_arg0)
          ∧ r.2.mem ((c.tc : Thread Cert.MixersIdeal.nD Cert.MixersIdeal.τ).loc Cert.MixersIdeal.main_arg1) = m ((c.tc : Thread Cert.MixersIdeal.nD Cert.MixersIdeal.τ).loc Cert.MixersIdeal.main_arg1)
          ∧ r.2.mem ((c.tc : Thread Cert.MixersIdeal.nD Cert.MixersIdeal.τ).loc Cert.MixersIdeal.main_arg2) = m ((c.tc : Thread Cert.MixersIdeal.nD Cert.MixersIdeal.τ).loc Cert.MixersIdeal.main_arg2)
          ∧ r.2.mem ((c.tc : Thread Cert.MixersIdeal.nD Cert.MixersIdeal.τ).loc Cert.MixersIdeal.main_arg3) = m ((c.tc : Thread Cert.MixersIdeal.nD Cert.MixersIdeal.τ).loc Cert.MixersIdeal.main_arg3)
          ∧ r.2.mem ((c.tc : Thread Cert.MixersIdeal.nD Cert.MixersIdeal.τ).loc Cert.MixersIdeal.main_arg4) = m ((c.tc : Thread Cert.MixersIdeal.nD Cert.MixersIdeal.τ).loc Cert.MixersIdeal.main_arg4)
          ∧ r.2.mem ((c.tc : Thread Cert.MixersIdeal.nD Cert.MixersIdeal.τ).loc Cert.MixersIdeal.main_arg5) = m ((c.tc : Thread Cert.MixersIdeal.nD Cert.MixersIdeal.τ).loc Cert.MixersIdeal.main_arg5)
          ∧ r.2.mem ((c.tc : Thread Cert.MixersIdeal.nD Cert.MixersIdeal.τ).loc Cert.MixersIdeal.main_arg6) = m ((c.tc : Thread Cert.MixersIdeal.nD Cert.MixersIdeal.τ).loc Cert.MixersIdeal.main_arg6)
          ∧ r.2.mem ((c.tc : Thread Cert.MixersIdeal.nD Cert.MixersIdeal.τ).loc Cert.MixersIdeal.main_arg7) = m ((c.tc : Thread Cert.MixersIdeal.nD Cert.MixersIdeal.τ).loc Cert.MixersIdeal.main_arg7)
          ∧ r.2.mem ((c.tc : Thread Cert.MixersIdeal.nD Cert.MixersIdeal.τ).loc Cert.MixersIdeal.main_arg8) = m ((c.tc : Thread Cert.MixersIdeal.nD Cert.MixersIdeal.τ).loc Cert.MixersIdeal.main_arg8)
          ∧ r.2.mem ((c.tc : Thread Cert.MixersIdeal.nD Cert.MixersIdeal.τ).loc Cert.MixersIdeal.main_arg9) = m ((c.tc : Thread Cert.MixersIdeal.nD Cert.MixersIdeal.τ).loc Cert.MixersIdeal.main_arg9)
          ∧ r.2.mem ((c.tc : Thread Cert.MixersIdeal.nD Cert.MixersIdeal.τ).loc Cert.MixersIdeal.main_arg10) = m ((c.tc : Thread Cert.MixersIdeal.nD Cert.MixersIdeal.τ).loc Cert.MixersIdeal.main_arg10)
          ∧ r.2.mem ((c.tc : Thread Cert.MixersIdeal.nD Cert.MixersIdeal.τ).loc Cert.MixersIdeal.main_arg11) = m ((c.tc : Thread Cert.MixersIdeal.nD Cert.MixersIdeal.τ).loc Cert.MixersIdeal.main_arg11)
          ∧ r.2.mem ((c.tc : Thread Cert.MixersIdeal.nD Cert.MixersIdeal.τ).loc Cert.MixersIdeal.main_arg12) = m ((c.tc : Thread Cert.MixersIdeal.nD Cert.MixersIdeal.τ).loc Cert.MixersIdeal.main_arg12)
          ∧ r.2.mem ((c.tc : Thread Cert.MixersIdeal.nD Cert.MixersIdeal.τ).loc Cert.MixersIdeal.main_arg13) = m ((c.tc : Thread Cert.MixersIdeal.nD Cert.MixersIdeal.τ).loc Cert.MixersIdeal.main_arg13)
          ∧ r.2.mem ((c.tc : Thread Cert.MixersIdeal.nD Cert.MixersIdeal.τ).loc Cert.MixersIdeal.main_arg14) = m ((c.tc : Thread Cert.MixersIdeal.nD Cert.MixersIdeal.τ).loc Cert.MixersIdeal.main_arg14)
          ∧ r.2.mem ((c.tc : Thread Cert.MixersIdeal.nD Cert.MixersIdeal.τ).loc Cert.MixersIdeal.main_arg15) = m ((c.tc : Thread Cert.MixersIdeal.nD Cert.MixersIdeal.τ).loc Cert.MixersIdeal.main_arg15))
      ∧ θ_run (Cert.MixersRefIdeal.defs (F := Ideal)) (onTc (τ := Cert.MixersRefIdeal.τ) (Cert.MixersRefIdeal.main (F := Ideal))) ⟨m', fun _ => 0, g'⟩ (fun r => ∀ c : Dev Cert.MixersRefIdeal.nD,
          r.2.mem ((c.tc : Thread Cert.MixersRefIdeal.nD Cert.MixersRefIdeal.τ).loc Cert.MixersRefIdeal.main_v391) = v0 c
          ∧ r.2.mem ((c.tc : Thread Cert.MixersRefIdeal.nD Cert.MixersRefIdeal.τ).loc Cert.MixersRefIdeal.main_v396) = v1 c
          ∧ r.2.mem ((c.tc : Thread Cert.MixersRefIdeal.nD Cert.MixersRefIdeal.τ).loc Cert.MixersRefIdeal.main_arg0) = m' ((c.tc : Thread Cert.MixersRefIdeal.nD Cert.MixersRefIdeal.τ).loc Cert.MixersRefIdeal.main_arg0)
          ∧ r.2.mem ((c.tc : Thread Cert.MixersRefIdeal.nD Cert.MixersRefIdeal.τ).loc Cert.MixersRefIdeal.main_arg1) = m' ((c.tc : Thread Cert.MixersRefIdeal.nD Cert.MixersRefIdeal.τ).loc Cert.MixersRefIdeal.main_arg1)
          ∧ r.2.mem ((c.tc : Thread Cert.MixersRefIdeal.nD Cert.MixersRefIdeal.τ).loc Cert.MixersRefIdeal.main_arg2) = m' ((c.tc : Thread Cert.MixersRefIdeal.nD Cert.MixersRefIdeal.τ).loc Cert.MixersRefIdeal.main_arg2)
          ∧ r.2.mem ((c.tc : Thread Cert.MixersRefIdeal.nD Cert.MixersRefIdeal.τ).loc Cert.MixersRefIdeal.main_arg3) = m' ((c.tc : Thread Cert.MixersRefIdeal.nD Cert.MixersRefIdeal.τ).loc Cert.MixersRefIdeal.main_arg3)
          ∧ r.2.mem ((c.tc : Thread Cert.MixersRefIdeal.nD Cert.MixersRefIdeal.τ).loc Cert.MixersRefIdeal.main_arg4) = m' ((c.tc : Thread Cert.MixersRefIdeal.nD Cert.MixersRefIdeal.τ).loc Cert.MixersRefIdeal.main_arg4)
          ∧ r.2.mem ((c.tc : Thread Cert.MixersRefIdeal.nD Cert.MixersRefIdeal.τ).loc Cert.MixersRefIdeal.main_arg5) = m' ((c.tc : Thread Cert.MixersRefIdeal.nD Cert.MixersRefIdeal.τ).loc Cert.MixersRefIdeal.main_arg5)
          ∧ r.2.mem ((c.tc : Thread Cert.MixersRefIdeal.nD Cert.MixersRefIdeal.τ).loc Cert.MixersRefIdeal.main_arg6) = m' ((c.tc : Thread Cert.MixersRefIdeal.nD Cert.MixersRefIdeal.τ).loc Cert.MixersRefIdeal.main_arg6)
          ∧ r.2.mem ((c.tc : Thread Cert.MixersRefIdeal.nD Cert.MixersRefIdeal.τ).loc Cert.MixersRefIdeal.main_arg7) = m' ((c.tc : Thread Cert.MixersRefIdeal.nD Cert.MixersRefIdeal.τ).loc Cert.MixersRefIdeal.main_arg7)
          ∧ r.2.mem ((c.tc : Thread Cert.MixersRefIdeal.nD Cert.MixersRefIdeal.τ).loc Cert.MixersRefIdeal.main_arg8) = m' ((c.tc : Thread Cert.MixersRefIdeal.nD Cert.MixersRefIdeal.τ).loc Cert.MixersRefIdeal.main_arg8)
          ∧ r.2.mem ((c.tc : Thread Cert.MixersRefIdeal.nD Cert.MixersRefIdeal.τ).loc Cert.MixersRefIdeal.main_arg9) = m' ((c.tc : Thread Cert.MixersRefIdeal.nD Cert.MixersRefIdeal.τ).loc Cert.MixersRefIdeal.main_arg9)
          ∧ r.2.mem ((c.tc : Thread Cert.MixersRefIdeal.nD Cert.MixersRefIdeal.τ).loc Cert.MixersRefIdeal.main_arg10) = m' ((c.tc : Thread Cert.MixersRefIdeal.nD Cert.MixersRefIdeal.τ).loc Cert.MixersRefIdeal.main_arg10)
          ∧ r.2.mem ((c.tc : Thread Cert.MixersRefIdeal.nD Cert.MixersRefIdeal.τ).loc Cert.MixersRefIdeal.main_arg11) = m' ((c.tc : Thread Cert.MixersRefIdeal.nD Cert.MixersRefIdeal.τ).loc Cert.MixersRefIdeal.main_arg11)
          ∧ r.2.mem ((c.tc : Thread Cert.MixersRefIdeal.nD Cert.MixersRefIdeal.τ).loc Cert.MixersRefIdeal.main_arg12) = m' ((c.tc : Thread Cert.MixersRefIdeal.nD Cert.MixersRefIdeal.τ).loc Cert.MixersRefIdeal.main_arg12)
          ∧ r.2.mem ((c.tc : Thread Cert.MixersRefIdeal.nD Cert.MixersRefIdeal.τ).loc Cert.MixersRefIdeal.main_arg13) = m' ((c.tc : Thread Cert.MixersRefIdeal.nD Cert.MixersRefIdeal.τ).loc Cert.MixersRefIdeal.main_arg13)
          ∧ r.2.mem ((c.tc : Thread Cert.MixersRefIdeal.nD Cert.MixersRefIdeal.τ).loc Cert.MixersRefIdeal.main_arg14) = m' ((c.tc : Thread Cert.MixersRefIdeal.nD Cert.MixersRefIdeal.τ).loc Cert.MixersRefIdeal.main_arg14)
          ∧ r.2.mem ((c.tc : Thread Cert.MixersRefIdeal.nD Cert.MixersRefIdeal.τ).loc Cert.MixersRefIdeal.main_arg15) = m' ((c.tc : Thread Cert.MixersRefIdeal.nD Cert.MixersRefIdeal.τ).loc Cert.MixersRefIdeal.main_arg15))

def preserves_Rwkv_RwkvIdeal : Prop :=
  True

def algebraic_RwkvIdeal_RwkvRefIdeal [hRwkvIdeal : Cert.RwkvIdeal.Facts] [hRwkvRefIdeal : Cert.RwkvRefIdeal.Facts] : Prop :=
  ∀ (m : (ℓ : Loc Cert.RwkvIdeal.nD Cert.RwkvIdeal.τ Cert.RwkvIdeal.sig) → Buf (Elt Ideal) ℓ) (g : Dev Cert.RwkvIdeal.nD → PrngReg)
    (m' : (ℓ : Loc Cert.RwkvRefIdeal.nD Cert.RwkvRefIdeal.τ Cert.RwkvRefIdeal.sig) → Buf (Elt Ideal) ℓ) (g' : Dev Cert.RwkvRefIdeal.nD → PrngReg), Pre_RwkvIdeal m →
    (∀ c : Dev Cert.RwkvIdeal.nD,
      m' ((c.tc : Thread Cert.RwkvRefIdeal.nD Cert.RwkvRefIdeal.τ).loc Cert.RwkvRefIdeal.main_arg0) = m ((c.tc : Thread Cert.RwkvIdeal.nD Cert.RwkvIdeal.τ).loc Cert.RwkvIdeal.main_arg0)
      ∧ m' ((c.tc : Thread Cert.RwkvRefIdeal.nD Cert.RwkvRefIdeal.τ).loc Cert.RwkvRefIdeal.main_arg1) = m ((c.tc : Thread Cert.RwkvIdeal.nD Cert.RwkvIdeal.τ).loc Cert.RwkvIdeal.main_arg1)
      ∧ m' ((c.tc : Thread Cert.RwkvRefIdeal.nD Cert.RwkvRefIdeal.τ).loc Cert.RwkvRefIdeal.main_arg2) = m ((c.tc : Thread Cert.RwkvIdeal.nD Cert.RwkvIdeal.τ).loc Cert.RwkvIdeal.main_arg2)
      ∧ m' ((c.tc : Thread Cert.RwkvRefIdeal.nD Cert.RwkvRefIdeal.τ).loc Cert.RwkvRefIdeal.main_arg3) = m ((c.tc : Thread Cert.RwkvIdeal.nD Cert.RwkvIdeal.τ).loc Cert.RwkvIdeal.main_arg3)
      ∧ m' ((c.tc : Thread Cert.RwkvRefIdeal.nD Cert.RwkvRefIdeal.τ).loc Cert.RwkvRefIdeal.main_arg4) = m ((c.tc : Thread Cert.RwkvIdeal.nD Cert.RwkvIdeal.τ).loc Cert.RwkvIdeal.main_arg4)
      ∧ m' ((c.tc : Thread Cert.RwkvRefIdeal.nD Cert.RwkvRefIdeal.τ).loc Cert.RwkvRefIdeal.main_arg5) = m ((c.tc : Thread Cert.RwkvIdeal.nD Cert.RwkvIdeal.τ).loc Cert.RwkvIdeal.main_arg5)
      ∧ m' ((c.tc : Thread Cert.RwkvRefIdeal.nD Cert.RwkvRefIdeal.τ).loc Cert.RwkvRefIdeal.main_arg6) = m ((c.tc : Thread Cert.RwkvIdeal.nD Cert.RwkvIdeal.τ).loc Cert.RwkvIdeal.main_arg6)
      ∧ m' ((c.tc : Thread Cert.RwkvRefIdeal.nD Cert.RwkvRefIdeal.τ).loc Cert.RwkvRefIdeal.main_arg7) = m ((c.tc : Thread Cert.RwkvIdeal.nD Cert.RwkvIdeal.τ).loc Cert.RwkvIdeal.main_arg7)
      ∧ m' ((c.tc : Thread Cert.RwkvRefIdeal.nD Cert.RwkvRefIdeal.τ).loc Cert.RwkvRefIdeal.main_arg8) = m ((c.tc : Thread Cert.RwkvIdeal.nD Cert.RwkvIdeal.τ).loc Cert.RwkvIdeal.main_arg8)
      ∧ m' ((c.tc : Thread Cert.RwkvRefIdeal.nD Cert.RwkvRefIdeal.τ).loc Cert.RwkvRefIdeal.main_arg9) = m ((c.tc : Thread Cert.RwkvIdeal.nD Cert.RwkvIdeal.τ).loc Cert.RwkvIdeal.main_arg9)
      ∧ m' ((c.tc : Thread Cert.RwkvRefIdeal.nD Cert.RwkvRefIdeal.τ).loc Cert.RwkvRefIdeal.main_arg10) = m ((c.tc : Thread Cert.RwkvIdeal.nD Cert.RwkvIdeal.τ).loc Cert.RwkvIdeal.main_arg10)
      ∧ m' ((c.tc : Thread Cert.RwkvRefIdeal.nD Cert.RwkvRefIdeal.τ).loc Cert.RwkvRefIdeal.main_arg11) = m ((c.tc : Thread Cert.RwkvIdeal.nD Cert.RwkvIdeal.τ).loc Cert.RwkvIdeal.main_arg11)
      ∧ m' ((c.tc : Thread Cert.RwkvRefIdeal.nD Cert.RwkvRefIdeal.τ).loc Cert.RwkvRefIdeal.main_arg12) = m ((c.tc : Thread Cert.RwkvIdeal.nD Cert.RwkvIdeal.τ).loc Cert.RwkvIdeal.main_arg12)
      ∧ m' ((c.tc : Thread Cert.RwkvRefIdeal.nD Cert.RwkvRefIdeal.τ).loc Cert.RwkvRefIdeal.main_arg13) = m ((c.tc : Thread Cert.RwkvIdeal.nD Cert.RwkvIdeal.τ).loc Cert.RwkvIdeal.main_arg13)
      ∧ m' ((c.tc : Thread Cert.RwkvRefIdeal.nD Cert.RwkvRefIdeal.τ).loc Cert.RwkvRefIdeal.main_arg14) = m ((c.tc : Thread Cert.RwkvIdeal.nD Cert.RwkvIdeal.τ).loc Cert.RwkvIdeal.main_arg14)
      ∧ m' ((c.tc : Thread Cert.RwkvRefIdeal.nD Cert.RwkvRefIdeal.τ).loc Cert.RwkvRefIdeal.main_arg15) = m ((c.tc : Thread Cert.RwkvIdeal.nD Cert.RwkvIdeal.τ).loc Cert.RwkvIdeal.main_arg15)) →
    ∃ (v0 : (c : Dev Cert.RwkvIdeal.nD) → Buf (Elt Ideal) ((c.tc : Thread Cert.RwkvIdeal.nD Cert.RwkvIdeal.τ).loc Cert.RwkvIdeal.main_v31)),
      θ_run (Cert.RwkvIdeal.defs (F := Ideal)) (onTc (τ := Cert.RwkvIdeal.τ) (Cert.RwkvIdeal.main (F := Ideal))) ⟨m, fun _ => 0, g⟩ (fun r => ∀ c : Dev Cert.RwkvIdeal.nD,
          r.2.mem ((c.tc : Thread Cert.RwkvIdeal.nD Cert.RwkvIdeal.τ).loc Cert.RwkvIdeal.main_v31) = v0 c
          ∧ r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
          ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
          ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
          ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
          ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
          ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
          ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
          ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
          ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
          ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
          ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
          ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11)
          ∧ r.2.mem ((c.tc : Thread Cert.RwkvIdeal.nD Cert.RwkvIdeal.τ).loc Cert.RwkvIdeal.main_arg12) = m ((c.tc : Thread Cert.RwkvIdeal.nD Cert.RwkvIdeal.τ).loc Cert.RwkvIdeal.main_arg12)
          ∧ r.2.mem ((c.tc : Thread Cert.RwkvIdeal.nD Cert.RwkvIdeal.τ).loc Cert.RwkvIdeal.main_arg13) = m ((c.tc : Thread Cert.RwkvIdeal.nD Cert.RwkvIdeal.τ).loc Cert.RwkvIdeal.main_arg13)
          ∧ r.2.mem ((c.tc : Thread Cert.RwkvIdeal.nD Cert.RwkvIdeal.τ).loc Cert.RwkvIdeal.main_arg14) = m ((c.tc : Thread Cert.RwkvIdeal.nD Cert.RwkvIdeal.τ).loc Cert.RwkvIdeal.main_arg14)
          ∧ r.2.mem ((c.tc : Thread Cert.RwkvIdeal.nD Cert.RwkvIdeal.τ).loc Cert.RwkvIdeal.main_arg15) = m ((c.tc : Thread Cert.RwkvIdeal.nD Cert.RwkvIdeal.τ).loc Cert.RwkvIdeal.main_arg15))
      ∧ θ_run (Cert.RwkvRefIdeal.defs (F := Ideal)) (onTc (τ := Cert.RwkvRefIdeal.τ) (Cert.RwkvRefIdeal.main (F := Ideal))) ⟨m', fun _ => 0, g'⟩ (fun r => ∀ c : Dev Cert.RwkvRefIdeal.nD,
          r.2.mem ((c.tc : Thread Cert.RwkvRefIdeal.nD Cert.RwkvRefIdeal.τ).loc Cert.RwkvRefIdeal.main_v7) = v0 c
          ∧ r.2.mem ((c.tc : Thread Cert.RwkvRefIdeal.nD Cert.RwkvRefIdeal.τ).loc Cert.RwkvRefIdeal.main_arg0) = m' ((c.tc : Thread Cert.RwkvRefIdeal.nD Cert.RwkvRefIdeal.τ).loc Cert.RwkvRefIdeal.main_arg0)
          ∧ r.2.mem ((c.tc : Thread Cert.RwkvRefIdeal.nD Cert.RwkvRefIdeal.τ).loc Cert.RwkvRefIdeal.main_arg1) = m' ((c.tc : Thread Cert.RwkvRefIdeal.nD Cert.RwkvRefIdeal.τ).loc Cert.RwkvRefIdeal.main_arg1)
          ∧ r.2.mem ((c.tc : Thread Cert.RwkvRefIdeal.nD Cert.RwkvRefIdeal.τ).loc Cert.RwkvRefIdeal.main_arg2) = m' ((c.tc : Thread Cert.RwkvRefIdeal.nD Cert.RwkvRefIdeal.τ).loc Cert.RwkvRefIdeal.main_arg2)
          ∧ r.2.mem ((c.tc : Thread Cert.RwkvRefIdeal.nD Cert.RwkvRefIdeal.τ).loc Cert.RwkvRefIdeal.main_arg3) = m' ((c.tc : Thread Cert.RwkvRefIdeal.nD Cert.RwkvRefIdeal.τ).loc Cert.RwkvRefIdeal.main_arg3)
          ∧ r.2.mem ((c.tc : Thread Cert.RwkvRefIdeal.nD Cert.RwkvRefIdeal.τ).loc Cert.RwkvRefIdeal.main_arg4) = m' ((c.tc : Thread Cert.RwkvRefIdeal.nD Cert.RwkvRefIdeal.τ).loc Cert.RwkvRefIdeal.main_arg4)
          ∧ r.2.mem ((c.tc : Thread Cert.RwkvRefIdeal.nD Cert.RwkvRefIdeal.τ).loc Cert.RwkvRefIdeal.main_arg5) = m' ((c.tc : Thread Cert.RwkvRefIdeal.nD Cert.RwkvRefIdeal.τ).loc Cert.RwkvRefIdeal.main_arg5)
          ∧ r.2.mem ((c.tc : Thread Cert.RwkvRefIdeal.nD Cert.RwkvRefIdeal.τ).loc Cert.RwkvRefIdeal.main_arg6) = m' ((c.tc : Thread Cert.RwkvRefIdeal.nD Cert.RwkvRefIdeal.τ).loc Cert.RwkvRefIdeal.main_arg6)
          ∧ r.2.mem ((c.tc : Thread Cert.RwkvRefIdeal.nD Cert.RwkvRefIdeal.τ).loc Cert.RwkvRefIdeal.main_arg7) = m' ((c.tc : Thread Cert.RwkvRefIdeal.nD Cert.RwkvRefIdeal.τ).loc Cert.RwkvRefIdeal.main_arg7)
          ∧ r.2.mem ((c.tc : Thread Cert.RwkvRefIdeal.nD Cert.RwkvRefIdeal.τ).loc Cert.RwkvRefIdeal.main_arg8) = m' ((c.tc : Thread Cert.RwkvRefIdeal.nD Cert.RwkvRefIdeal.τ).loc Cert.RwkvRefIdeal.main_arg8)
          ∧ r.2.mem ((c.tc : Thread Cert.RwkvRefIdeal.nD Cert.RwkvRefIdeal.τ).loc Cert.RwkvRefIdeal.main_arg9) = m' ((c.tc : Thread Cert.RwkvRefIdeal.nD Cert.RwkvRefIdeal.τ).loc Cert.RwkvRefIdeal.main_arg9)
          ∧ r.2.mem ((c.tc : Thread Cert.RwkvRefIdeal.nD Cert.RwkvRefIdeal.τ).loc Cert.RwkvRefIdeal.main_arg10) = m' ((c.tc : Thread Cert.RwkvRefIdeal.nD Cert.RwkvRefIdeal.τ).loc Cert.RwkvRefIdeal.main_arg10)
          ∧ r.2.mem ((c.tc : Thread Cert.RwkvRefIdeal.nD Cert.RwkvRefIdeal.τ).loc Cert.RwkvRefIdeal.main_arg11) = m' ((c.tc : Thread Cert.RwkvRefIdeal.nD Cert.RwkvRefIdeal.τ).loc Cert.RwkvRefIdeal.main_arg11)
          ∧ r.2.mem ((c.tc : Thread Cert.RwkvRefIdeal.nD Cert.RwkvRefIdeal.τ).loc Cert.RwkvRefIdeal.main_arg12) = m' ((c.tc : Thread Cert.RwkvRefIdeal.nD Cert.RwkvRefIdeal.τ).loc Cert.RwkvRefIdeal.main_arg12)
          ∧ r.2.mem ((c.tc : Thread Cert.RwkvRefIdeal.nD Cert.RwkvRefIdeal.τ).loc Cert.RwkvRefIdeal.main_arg13) = m' ((c.tc : Thread Cert.RwkvRefIdeal.nD Cert.RwkvRefIdeal.τ).loc Cert.RwkvRefIdeal.main_arg13)
          ∧ r.2.mem ((c.tc : Thread Cert.RwkvRefIdeal.nD Cert.RwkvRefIdeal.τ).loc Cert.RwkvRefIdeal.main_arg14) = m' ((c.tc : Thread Cert.RwkvRefIdeal.nD Cert.RwkvRefIdeal.τ).loc Cert.RwkvRefIdeal.main_arg14)
          ∧ r.2.mem ((c.tc : Thread Cert.RwkvRefIdeal.nD Cert.RwkvRefIdeal.τ).loc Cert.RwkvRefIdeal.main_arg15) = m' ((c.tc : Thread Cert.RwkvRefIdeal.nD Cert.RwkvRefIdeal.τ).loc Cert.RwkvRefIdeal.main_arg15))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v21)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v21) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v56) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)) →
    ∃ (v0 : (c : Dev Cert.FfnSIdeal.nD) → Buf (Elt Ideal) ((c.tc : Thread Cert.FfnSIdeal.nD Cert.FfnSIdeal.τ).loc Cert.FfnSIdeal.main_v33)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v33) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v56) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v22)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v22) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v50) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)) →
    ∃ (v0 : (c : Dev Cert.InAIdeal.nD) → Buf (Elt Ideal) ((c.tc : Thread Cert.InAIdeal.nD Cert.InAIdeal.τ).loc Cert.InAIdeal.main_v3)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v3) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v6) = v0 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)) →
    ∃ (v0 : (c : Dev Cert.InBIdeal.nD) → Buf (Elt Ideal) ((c.tc : Thread Cert.InBIdeal.nD Cert.InBIdeal.τ).loc Cert.InBIdeal.main_v3)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v3) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v6) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1))

def preserves_InG_InGIdeal : Prop :=
  True

def algebraic_InGIdeal_InGRefIdeal [hInGIdeal : Cert.InGIdeal.Facts] [hInGRefIdeal : Cert.InGRefIdeal.Facts] : Prop :=
  ∀ (m : (ℓ : Loc Cert.InGIdeal.nD Cert.InGIdeal.τ Cert.InGIdeal.sig) → Buf (Elt Ideal) ℓ) (g : Dev Cert.InGIdeal.nD → PrngReg)
    (m' : (ℓ : Loc Cert.InGRefIdeal.nD Cert.InGRefIdeal.τ Cert.InGRefIdeal.sig) → Buf (Elt Ideal) ℓ) (g' : Dev Cert.InGRefIdeal.nD → PrngReg), Pre_InGIdeal m →
    (∀ c : Dev Cert.InGIdeal.nD,
      m' ((c.tc : Thread Cert.InGRefIdeal.nD Cert.InGRefIdeal.τ).loc Cert.InGRefIdeal.main_arg0) = m ((c.tc : Thread Cert.InGIdeal.nD Cert.InGIdeal.τ).loc Cert.InGIdeal.main_arg0)
      ∧ m' ((c.tc : Thread Cert.InGRefIdeal.nD Cert.InGRefIdeal.τ).loc Cert.InGRefIdeal.main_arg1) = m ((c.tc : Thread Cert.InGIdeal.nD Cert.InGIdeal.τ).loc Cert.InGIdeal.main_arg1)) →
    ∃ (v0 : (c : Dev Cert.InGIdeal.nD) → Buf (Elt Ideal) ((c.tc : Thread Cert.InGIdeal.nD Cert.InGIdeal.τ).loc Cert.InGIdeal.main_v3)),
      θ_run (Cert.InGIdeal.defs (F := Ideal)) (onTc (τ := Cert.InGIdeal.τ) (Cert.InGIdeal.main (F := Ideal))) ⟨m, fun _ => 0, g⟩ (fun r => ∀ c : Dev Cert.InGIdeal.nD,
          r.2.mem ((c.tc : Thread Cert.InGIdeal.nD Cert.InGIdeal.τ).loc Cert.InGIdeal.main_v3) = v0 c
          ∧ r.2.mem ((c.tc : Thread Cert.InGIdeal.nD Cert.InGIdeal.τ).loc Cert.InGIdeal.main_arg0) = m ((c.tc : Thread Cert.InGIdeal.nD Cert.InGIdeal.τ).loc Cert.InGIdeal.main_arg0)
          ∧ r.2.mem ((c.tc : Thread Cert.InGIdeal.nD Cert.InGIdeal.τ).loc Cert.InGIdeal.main_arg1) = m ((c.tc : Thread Cert.InGIdeal.nD Cert.InGIdeal.τ).loc Cert.InGIdeal.main_arg1))
      ∧ θ_run (Cert.InGRefIdeal.defs (F := Ideal)) (onTc (τ := Cert.InGRefIdeal.τ) (Cert.InGRefIdeal.main (F := Ideal))) ⟨m', fun _ => 0, g'⟩ (fun r => ∀ c : Dev Cert.InGRefIdeal.nD,
          r.2.mem ((c.tc : Thread Cert.InGRefIdeal.nD Cert.InGRefIdeal.τ).loc Cert.InGRefIdeal.main_v6) = v0 c
          ∧ r.2.mem ((c.tc : Thread Cert.InGRefIdeal.nD Cert.InGRefIdeal.τ).loc Cert.InGRefIdeal.main_arg0) = m' ((c.tc : Thread Cert.InGRefIdeal.nD Cert.InGRefIdeal.τ).loc Cert.InGRefIdeal.main_arg0)
          ∧ r.2.mem ((c.tc : Thread Cert.InGRefIdeal.nD Cert.InGRefIdeal.τ).loc Cert.InGRefIdeal.main_arg1) = m' ((c.tc : Thread Cert.InGRefIdeal.nD Cert.InGRefIdeal.τ).loc Cert.InGRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v10) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)
      ∧ m' ((c.tc : Thread Cert.PrenormRefIdeal.nD Cert.PrenormRefIdeal.τ).loc Cert.PrenormRefIdeal.main_arg2) = m ((c.tc : Thread Cert.PrenormIdeal.nD Cert.PrenormIdeal.τ).loc Cert.PrenormIdeal.main_arg2)) →
    ∃ (v0 : (c : Dev Cert.PrenormIdeal.nD) → Buf (Elt Ideal) ((c.tc : Thread Cert.PrenormIdeal.nD Cert.PrenormIdeal.τ).loc Cert.PrenormIdeal.main_v16)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v16) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v34) = v0 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1)
          ∧ r.2.mem ((c.tc : Thread Cert.PrenormRefIdeal.nD Cert.PrenormRefIdeal.τ).loc Cert.PrenormRefIdeal.main_arg2) = m' ((c.tc : Thread Cert.PrenormRefIdeal.nD Cert.PrenormRefIdeal.τ).loc Cert.PrenormRefIdeal.main_arg2))

def preserves_InAS_InASIdeal : Prop :=
  True

def algebraic_InASIdeal_InASRefIdeal [hInASIdeal : Cert.InASIdeal.Facts] [hInASRefIdeal : Cert.InASRefIdeal.Facts] : Prop :=
  ∀ (m : (ℓ : Loc Cert.InASIdeal.nD Cert.InASIdeal.τ Cert.InASIdeal.sig) → Buf (Elt Ideal) ℓ) (g : Dev Cert.InASIdeal.nD → PrngReg)
    (m' : (ℓ : Loc Cert.InASRefIdeal.nD Cert.InASRefIdeal.τ Cert.InASRefIdeal.sig) → Buf (Elt Ideal) ℓ) (g' : Dev Cert.InASRefIdeal.nD → PrngReg), Pre_InASIdeal m →
    (∀ c : Dev Cert.InASIdeal.nD,
      m' ((c.tc : Thread Cert.InASRefIdeal.nD Cert.InASRefIdeal.τ).loc Cert.InASRefIdeal.main_arg0) = m ((c.tc : Thread Cert.InASIdeal.nD Cert.InASIdeal.τ).loc Cert.InASIdeal.main_arg0)
      ∧ m' ((c.tc : Thread Cert.InASRefIdeal.nD Cert.InASRefIdeal.τ).loc Cert.InASRefIdeal.main_arg1) = m ((c.tc : Thread Cert.InASIdeal.nD Cert.InASIdeal.τ).loc Cert.InASIdeal.main_arg1)) →
    ∃ (v0 : (c : Dev Cert.InASIdeal.nD) → Buf (Elt Ideal) ((c.tc : Thread Cert.InASIdeal.nD Cert.InASIdeal.τ).loc Cert.InASIdeal.main_v3)),
      θ_run (Cert.InASIdeal.defs (F := Ideal)) (onTc (τ := Cert.InASIdeal.τ) (Cert.InASIdeal.main (F := Ideal))) ⟨m, fun _ => 0, g⟩ (fun r => ∀ c : Dev Cert.InASIdeal.nD,
          r.2.mem ((c.tc : Thread Cert.InASIdeal.nD Cert.InASIdeal.τ).loc Cert.InASIdeal.main_v3) = v0 c
          ∧ r.2.mem ((c.tc : Thread Cert.InASIdeal.nD Cert.InASIdeal.τ).loc Cert.InASIdeal.main_arg0) = m ((c.tc : Thread Cert.InASIdeal.nD Cert.InASIdeal.τ).loc Cert.InASIdeal.main_arg0)
          ∧ r.2.mem ((c.tc : Thread Cert.InASIdeal.nD Cert.InASIdeal.τ).loc Cert.InASIdeal.main_arg1) = m ((c.tc : Thread Cert.InASIdeal.nD Cert.InASIdeal.τ).loc Cert.InASIdeal.main_arg1))
      ∧ θ_run (Cert.InASRefIdeal.defs (F := Ideal)) (onTc (τ := Cert.InASRefIdeal.τ) (Cert.InASRefIdeal.main (F := Ideal))) ⟨m', fun _ => 0, g'⟩ (fun r => ∀ c : Dev Cert.InASRefIdeal.nD,
          r.2.mem ((c.tc : Thread Cert.InASRefIdeal.nD Cert.InASRefIdeal.τ).loc Cert.InASRefIdeal.main_v6) = v0 c
          ∧ r.2.mem ((c.tc : Thread Cert.InASRefIdeal.nD Cert.InASRefIdeal.τ).loc Cert.InASRefIdeal.main_arg0) = m' ((c.tc : Thread Cert.InASRefIdeal.nD Cert.InASRefIdeal.τ).loc Cert.InASRefIdeal.main_arg0)
          ∧ r.2.mem ((c.tc : Thread Cert.InASRefIdeal.nD Cert.InASRefIdeal.τ).loc Cert.InASRefIdeal.main_arg1) = m' ((c.tc : Thread Cert.InASRefIdeal.nD Cert.InASRefIdeal.τ).loc Cert.InASRefIdeal.main_arg1))

def preserves_InBS_InBSIdeal : Prop :=
  True

def algebraic_InBSIdeal_InBSRefIdeal [hInBSIdeal : Cert.InBSIdeal.Facts] [hInBSRefIdeal : Cert.InBSRefIdeal.Facts] : Prop :=
  ∀ (m : (ℓ : Loc Cert.InBSIdeal.nD Cert.InBSIdeal.τ Cert.InBSIdeal.sig) → Buf (Elt Ideal) ℓ) (g : Dev Cert.InBSIdeal.nD → PrngReg)
    (m' : (ℓ : Loc Cert.InBSRefIdeal.nD Cert.InBSRefIdeal.τ Cert.InBSRefIdeal.sig) → Buf (Elt Ideal) ℓ) (g' : Dev Cert.InBSRefIdeal.nD → PrngReg), Pre_InBSIdeal m →
    (∀ c : Dev Cert.InBSIdeal.nD,
      m' ((c.tc : Thread Cert.InBSRefIdeal.nD Cert.InBSRefIdeal.τ).loc Cert.InBSRefIdeal.main_arg0) = m ((c.tc : Thread Cert.InBSIdeal.nD Cert.InBSIdeal.τ).loc Cert.InBSIdeal.main_arg0)
      ∧ m' ((c.tc : Thread Cert.InBSRefIdeal.nD Cert.InBSRefIdeal.τ).loc Cert.InBSRefIdeal.main_arg1) = m ((c.tc : Thread Cert.InBSIdeal.nD Cert.InBSIdeal.τ).loc Cert.InBSIdeal.main_arg1)) →
    ∃ (v0 : (c : Dev Cert.InBSIdeal.nD) → Buf (Elt Ideal) ((c.tc : Thread Cert.InBSIdeal.nD Cert.InBSIdeal.τ).loc Cert.InBSIdeal.main_v3)),
      θ_run (Cert.InBSIdeal.defs (F := Ideal)) (onTc (τ := Cert.InBSIdeal.τ) (Cert.InBSIdeal.main (F := Ideal))) ⟨m, fun _ => 0, g⟩ (fun r => ∀ c : Dev Cert.InBSIdeal.nD,
          r.2.mem ((c.tc : Thread Cert.InBSIdeal.nD Cert.InBSIdeal.τ).loc Cert.InBSIdeal.main_v3) = v0 c
          ∧ r.2.mem ((c.tc : Thread Cert.InBSIdeal.nD Cert.InBSIdeal.τ).loc Cert.InBSIdeal.main_arg0) = m ((c.tc : Thread Cert.InBSIdeal.nD Cert.InBSIdeal.τ).loc Cert.InBSIdeal.main_arg0)
          ∧ r.2.mem ((c.tc : Thread Cert.InBSIdeal.nD Cert.InBSIdeal.τ).loc Cert.InBSIdeal.main_arg1) = m ((c.tc : Thread Cert.InBSIdeal.nD Cert.InBSIdeal.τ).loc Cert.InBSIdeal.main_arg1))
      ∧ θ_run (Cert.InBSRefIdeal.defs (F := Ideal)) (onTc (τ := Cert.InBSRefIdeal.τ) (Cert.InBSRefIdeal.main (F := Ideal))) ⟨m', fun _ => 0, g'⟩ (fun r => ∀ c : Dev Cert.InBSRefIdeal.nD,
          r.2.mem ((c.tc : Thread Cert.InBSRefIdeal.nD Cert.InBSRefIdeal.τ).loc Cert.InBSRefIdeal.main_v6) = v0 c
          ∧ r.2.mem ((c.tc : Thread Cert.InBSRefIdeal.nD Cert.InBSRefIdeal.τ).loc Cert.InBSRefIdeal.main_arg0) = m' ((c.tc : Thread Cert.InBSRefIdeal.nD Cert.InBSRefIdeal.τ).loc Cert.InBSRefIdeal.main_arg0)
          ∧ r.2.mem ((c.tc : Thread Cert.InBSRefIdeal.nD Cert.InBSRefIdeal.τ).loc Cert.InBSRefIdeal.main_arg1) = m' ((c.tc : Thread Cert.InBSRefIdeal.nD Cert.InBSRefIdeal.τ).loc Cert.InBSRefIdeal.main_arg1))

def preserves_InGS_InGSIdeal : Prop :=
  True

def algebraic_InGSIdeal_InGSRefIdeal [hInGSIdeal : Cert.InGSIdeal.Facts] [hInGSRefIdeal : Cert.InGSRefIdeal.Facts] : Prop :=
  ∀ (m : (ℓ : Loc Cert.InGSIdeal.nD Cert.InGSIdeal.τ Cert.InGSIdeal.sig) → Buf (Elt Ideal) ℓ) (g : Dev Cert.InGSIdeal.nD → PrngReg)
    (m' : (ℓ : Loc Cert.InGSRefIdeal.nD Cert.InGSRefIdeal.τ Cert.InGSRefIdeal.sig) → Buf (Elt Ideal) ℓ) (g' : Dev Cert.InGSRefIdeal.nD → PrngReg), Pre_InGSIdeal m →
    (∀ c : Dev Cert.InGSIdeal.nD,
      m' ((c.tc : Thread Cert.InGSRefIdeal.nD Cert.InGSRefIdeal.τ).loc Cert.InGSRefIdeal.main_arg0) = m ((c.tc : Thread Cert.InGSIdeal.nD Cert.InGSIdeal.τ).loc Cert.InGSIdeal.main_arg0)
      ∧ m' ((c.tc : Thread Cert.InGSRefIdeal.nD Cert.InGSRefIdeal.τ).loc Cert.InGSRefIdeal.main_arg1) = m ((c.tc : Thread Cert.InGSIdeal.nD Cert.InGSIdeal.τ).loc Cert.InGSIdeal.main_arg1)) →
    ∃ (v0 : (c : Dev Cert.InGSIdeal.nD) → Buf (Elt Ideal) ((c.tc : Thread Cert.InGSIdeal.nD Cert.InGSIdeal.τ).loc Cert.InGSIdeal.main_v3)),
      θ_run (Cert.InGSIdeal.defs (F := Ideal)) (onTc (τ := Cert.InGSIdeal.τ) (Cert.InGSIdeal.main (F := Ideal))) ⟨m, fun _ => 0, g⟩ (fun r => ∀ c : Dev Cert.InGSIdeal.nD,
          r.2.mem ((c.tc : Thread Cert.InGSIdeal.nD Cert.InGSIdeal.τ).loc Cert.InGSIdeal.main_v3) = v0 c
          ∧ r.2.mem ((c.tc : Thread Cert.InGSIdeal.nD Cert.InGSIdeal.τ).loc Cert.InGSIdeal.main_arg0) = m ((c.tc : Thread Cert.InGSIdeal.nD Cert.InGSIdeal.τ).loc Cert.InGSIdeal.main_arg0)
          ∧ r.2.mem ((c.tc : Thread Cert.InGSIdeal.nD Cert.InGSIdeal.τ).loc Cert.InGSIdeal.main_arg1) = m ((c.tc : Thread Cert.InGSIdeal.nD Cert.InGSIdeal.τ).loc Cert.InGSIdeal.main_arg1))
      ∧ θ_run (Cert.InGSRefIdeal.defs (F := Ideal)) (onTc (τ := Cert.InGSRefIdeal.τ) (Cert.InGSRefIdeal.main (F := Ideal))) ⟨m', fun _ => 0, g'⟩ (fun r => ∀ c : Dev Cert.InGSRefIdeal.nD,
          r.2.mem ((c.tc : Thread Cert.InGSRefIdeal.nD Cert.InGSRefIdeal.τ).loc Cert.InGSRefIdeal.main_v6) = v0 c
          ∧ r.2.mem ((c.tc : Thread Cert.InGSRefIdeal.nD Cert.InGSRefIdeal.τ).loc Cert.InGSRefIdeal.main_arg0) = m' ((c.tc : Thread Cert.InGSRefIdeal.nD Cert.InGSRefIdeal.τ).loc Cert.InGSRefIdeal.main_arg0)
          ∧ r.2.mem ((c.tc : Thread Cert.InGSRefIdeal.nD Cert.InGSRefIdeal.τ).loc Cert.InGSRefIdeal.main_arg1) = m' ((c.tc : Thread Cert.InGSRefIdeal.nD Cert.InGSRefIdeal.τ).loc Cert.InGSRefIdeal.main_arg1))

def preserves_MergeS_MergeSIdeal : Prop :=
  True

def algebraic_MergeSIdeal_MergeSRefIdeal [hMergeSIdeal : Cert.MergeSIdeal.Facts] [hMergeSRefIdeal : Cert.MergeSRefIdeal.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.MergeSRefIdeal.nD Cert.MergeSRefIdeal.τ Cert.MergeSRefIdeal.sig) → Buf (Elt Ideal) ℓ) (g' : Dev Cert.MergeSRefIdeal.nD → PrngReg), Pre_MergeSIdeal m →
    (∀ c : Dev Cert.MergeSIdeal.nD,
      m' ((c.tc : Thread Cert.MergeSRefIdeal.nD Cert.MergeSRefIdeal.τ).loc Cert.MergeSRefIdeal.main_arg0) = m ((c.tc : Thread Cert.MergeSIdeal.nD Cert.MergeSIdeal.τ).loc Cert.MergeSIdeal.main_arg0)
      ∧ m' ((c.tc : Thread Cert.MergeSRefIdeal.nD Cert.MergeSRefIdeal.τ).loc Cert.MergeSRefIdeal.main_arg1) = m ((c.tc : Thread Cert.MergeSIdeal.nD Cert.MergeSIdeal.τ).loc Cert.MergeSIdeal.main_arg1)
      ∧ m' ((c.tc : Thread Cert.MergeSRefIdeal.nD Cert.MergeSRefIdeal.τ).loc Cert.MergeSRefIdeal.main_arg2) = m ((c.tc : Thread Cert.MergeSIdeal.nD Cert.MergeSIdeal.τ).loc Cert.MergeSIdeal.main_arg2)
      ∧ m' ((c.tc : Thread Cert.MergeSRefIdeal.nD Cert.MergeSRefIdeal.τ).loc Cert.MergeSRefIdeal.main_arg3) = m ((c.tc : Thread Cert.MergeSIdeal.nD Cert.MergeSIdeal.τ).loc Cert.MergeSIdeal.main_arg3)
      ∧ m' ((c.tc : Thread Cert.MergeSRefIdeal.nD Cert.MergeSRefIdeal.τ).loc Cert.MergeSRefIdeal.main_arg4) = m ((c.tc : Thread Cert.MergeSIdeal.nD Cert.MergeSIdeal.τ).loc Cert.MergeSIdeal.main_arg4)
      ∧ m' ((c.tc : Thread Cert.MergeSRefIdeal.nD Cert.MergeSRefIdeal.τ).loc Cert.MergeSRefIdeal.main_arg5) = m ((c.tc : Thread Cert.MergeSIdeal.nD Cert.MergeSIdeal.τ).loc Cert.MergeSIdeal.main_arg5)
      ∧ m' ((c.tc : Thread Cert.MergeSRefIdeal.nD Cert.MergeSRefIdeal.τ).loc Cert.MergeSRefIdeal.main_arg6) = m ((c.tc : Thread Cert.MergeSIdeal.nD Cert.MergeSIdeal.τ).loc Cert.MergeSIdeal.main_arg6)
      ∧ m' ((c.tc : Thread Cert.MergeSRefIdeal.nD Cert.MergeSRefIdeal.τ).loc Cert.MergeSRefIdeal.main_arg7) = m ((c.tc : Thread Cert.MergeSIdeal.nD Cert.MergeSIdeal.τ).loc Cert.MergeSIdeal.main_arg7)
      ∧ m' ((c.tc : Thread Cert.MergeSRefIdeal.nD Cert.MergeSRefIdeal.τ).loc Cert.MergeSRefIdeal.main_arg8) = m ((c.tc : Thread Cert.MergeSIdeal.nD Cert.MergeSIdeal.τ).loc Cert.MergeSIdeal.main_arg8)) →
    ∃ (v0 : (c : Dev Cert.MergeSIdeal.nD) → Buf (Elt Ideal) ((c.tc : Thread Cert.MergeSIdeal.nD Cert.MergeSIdeal.τ).loc Cert.MergeSIdeal.main_v34)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          r.2.mem ((c.tc : Thread Cert.MergeSIdeal.nD Cert.MergeSIdeal.τ).loc Cert.MergeSIdeal.main_v34) = v0 c
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
          ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
          ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
          ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
          ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
          ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8))
      ∧ θ_run (Cert.MergeSRefIdeal.defs (F := Ideal)) (onTc (τ := Cert.MergeSRefIdeal.τ) (Cert.MergeSRefIdeal.main (F := Ideal))) ⟨m', fun _ => 0, g'⟩ (fun r => ∀ c : Dev Cert.MergeSRefIdeal.nD,
          r.2.mem ((c.tc : Thread Cert.MergeSRefIdeal.nD Cert.MergeSRefIdeal.τ).loc Cert.MergeSRefIdeal.main_v50) = v0 c
          ∧ r.2.mem ((c.tc : Thread Cert.MergeSRefIdeal.nD Cert.MergeSRefIdeal.τ).loc Cert.MergeSRefIdeal.main_arg0) = m' ((c.tc : Thread Cert.MergeSRefIdeal.nD Cert.MergeSRefIdeal.τ).loc Cert.MergeSRefIdeal.main_arg0)
          ∧ r.2.mem ((c.tc : Thread Cert.MergeSRefIdeal.nD Cert.MergeSRefIdeal.τ).loc Cert.MergeSRefIdeal.main_arg1) = m' ((c.tc : Thread Cert.MergeSRefIdeal.nD Cert.MergeSRefIdeal.τ).loc Cert.MergeSRefIdeal.main_arg1)
          ∧ r.2.mem ((c.tc : Thread Cert.MergeSRefIdeal.nD Cert.MergeSRefIdeal.τ).loc Cert.MergeSRefIdeal.main_arg2) = m' ((c.tc : Thread Cert.MergeSRefIdeal.nD Cert.MergeSRefIdeal.τ).loc Cert.MergeSRefIdeal.main_arg2)
          ∧ r.2.mem ((c.tc : Thread Cert.MergeSRefIdeal.nD Cert.MergeSRefIdeal.τ).loc Cert.MergeSRefIdeal.main_arg3) = m' ((c.tc : Thread Cert.MergeSRefIdeal.nD Cert.MergeSRefIdeal.τ).loc Cert.MergeSRefIdeal.main_arg3)
          ∧ r.2.mem ((c.tc : Thread Cert.MergeSRefIdeal.nD Cert.MergeSRefIdeal.τ).loc Cert.MergeSRefIdeal.main_arg4) = m' ((c.tc : Thread Cert.MergeSRefIdeal.nD Cert.MergeSRefIdeal.τ).loc Cert.MergeSRefIdeal.main_arg4)
          ∧ r.2.mem ((c.tc : Thread Cert.MergeSRefIdeal.nD Cert.MergeSRefIdeal.τ).loc Cert.MergeSRefIdeal.main_arg5) = m' ((c.tc : Thread Cert.MergeSRefIdeal.nD Cert.MergeSRefIdeal.τ).loc Cert.MergeSRefIdeal.main_arg5)
          ∧ r.2.mem ((c.tc : Thread Cert.MergeSRefIdeal.nD Cert.MergeSRefIdeal.τ).loc Cert.MergeSRefIdeal.main_arg6) = m' ((c.tc : Thread Cert.MergeSRefIdeal.nD Cert.MergeSRefIdeal.τ).loc Cert.MergeSRefIdeal.main_arg6)
          ∧ r.2.mem ((c.tc : Thread Cert.MergeSRefIdeal.nD Cert.MergeSRefIdeal.τ).loc Cert.MergeSRefIdeal.main_arg7) = m' ((c.tc : Thread Cert.MergeSRefIdeal.nD Cert.MergeSRefIdeal.τ).loc Cert.MergeSRefIdeal.main_arg7)
          ∧ r.2.mem ((c.tc : Thread Cert.MergeSRefIdeal.nD Cert.MergeSRefIdeal.τ).loc Cert.MergeSRefIdeal.main_arg8) = m' ((c.tc : Thread Cert.MergeSRefIdeal.nD Cert.MergeSRefIdeal.τ).loc Cert.MergeSRefIdeal.main_arg8))

def preserves_PrenormS_PrenormSIdeal : Prop :=
  True

def algebraic_PrenormSIdeal_PrenormSRefIdeal [hPrenormSIdeal : Cert.PrenormSIdeal.Facts] [hPrenormSRefIdeal : Cert.PrenormSRefIdeal.Facts] : Prop :=
  ∀ (m : (ℓ : Loc Cert.PrenormSIdeal.nD Cert.PrenormSIdeal.τ Cert.PrenormSIdeal.sig) → Buf (Elt Ideal) ℓ) (g : Dev Cert.PrenormSIdeal.nD → PrngReg)
    (m' : (ℓ : Loc Cert.PrenormSRefIdeal.nD Cert.PrenormSRefIdeal.τ Cert.PrenormSRefIdeal.sig) → Buf (Elt Ideal) ℓ) (g' : Dev Cert.PrenormSRefIdeal.nD → PrngReg), Pre_PrenormSIdeal m →
    (∀ c : Dev Cert.PrenormSIdeal.nD,
      m' ((c.tc : Thread Cert.PrenormSRefIdeal.nD Cert.PrenormSRefIdeal.τ).loc Cert.PrenormSRefIdeal.main_arg0) = m ((c.tc : Thread Cert.PrenormSIdeal.nD Cert.PrenormSIdeal.τ).loc Cert.PrenormSIdeal.main_arg0)
      ∧ m' ((c.tc : Thread Cert.PrenormSRefIdeal.nD Cert.PrenormSRefIdeal.τ).loc Cert.PrenormSRefIdeal.main_arg1) = m ((c.tc : Thread Cert.PrenormSIdeal.nD Cert.PrenormSIdeal.τ).loc Cert.PrenormSIdeal.main_arg1)
      ∧ m' ((c.tc : Thread Cert.PrenormSRefIdeal.nD Cert.PrenormSRefIdeal.τ).loc Cert.PrenormSRefIdeal.main_arg2) = m ((c.tc : Thread Cert.PrenormSIdeal.nD Cert.PrenormSIdeal.τ).loc Cert.PrenormSIdeal.main_arg2)) →
    ∃ (v0 : (c : Dev Cert.PrenormSIdeal.nD) → Buf (Elt Ideal) ((c.tc : Thread Cert.PrenormSIdeal.nD Cert.PrenormSIdeal.τ).loc Cert.PrenormSIdeal.main_v28)),
      θ_run (Cert.PrenormSIdeal.defs (F := Ideal)) (onTc (τ := Cert.PrenormSIdeal.τ) (Cert.PrenormSIdeal.main (F := Ideal))) ⟨m, fun _ => 0, g⟩ (fun r => ∀ c : Dev Cert.PrenormSIdeal.nD,
          r.2.mem ((c.tc : Thread Cert.PrenormSIdeal.nD Cert.PrenormSIdeal.τ).loc Cert.PrenormSIdeal.main_v28) = v0 c
          ∧ r.2.mem ((c.tc : Thread Cert.PrenormSIdeal.nD Cert.PrenormSIdeal.τ).loc Cert.PrenormSIdeal.main_arg0) = m ((c.tc : Thread Cert.PrenormSIdeal.nD Cert.PrenormSIdeal.τ).loc Cert.PrenormSIdeal.main_arg0)
          ∧ r.2.mem ((c.tc : Thread Cert.PrenormSIdeal.nD Cert.PrenormSIdeal.τ).loc Cert.PrenormSIdeal.main_arg1) = m ((c.tc : Thread Cert.PrenormSIdeal.nD Cert.PrenormSIdeal.τ).loc Cert.PrenormSIdeal.main_arg1)
          ∧ r.2.mem ((c.tc : Thread Cert.PrenormSIdeal.nD Cert.PrenormSIdeal.τ).loc Cert.PrenormSIdeal.main_arg2) = m ((c.tc : Thread Cert.PrenormSIdeal.nD Cert.PrenormSIdeal.τ).loc Cert.PrenormSIdeal.main_arg2))
      ∧ θ_run (Cert.PrenormSRefIdeal.defs (F := Ideal)) (onTc (τ := Cert.PrenormSRefIdeal.τ) (Cert.PrenormSRefIdeal.main (F := Ideal))) ⟨m', fun _ => 0, g'⟩ (fun r => ∀ c : Dev Cert.PrenormSRefIdeal.nD,
          r.2.mem ((c.tc : Thread Cert.PrenormSRefIdeal.nD Cert.PrenormSRefIdeal.τ).loc Cert.PrenormSRefIdeal.main_v34) = v0 c
          ∧ r.2.mem ((c.tc : Thread Cert.PrenormSRefIdeal.nD Cert.PrenormSRefIdeal.τ).loc Cert.PrenormSRefIdeal.main_arg0) = m' ((c.tc : Thread Cert.PrenormSRefIdeal.nD Cert.PrenormSRefIdeal.τ).loc Cert.PrenormSRefIdeal.main_arg0)
          ∧ r.2.mem ((c.tc : Thread Cert.PrenormSRefIdeal.nD Cert.PrenormSRefIdeal.τ).loc Cert.PrenormSRefIdeal.main_arg1) = m' ((c.tc : Thread Cert.PrenormSRefIdeal.nD Cert.PrenormSRefIdeal.τ).loc Cert.PrenormSRefIdeal.main_arg1)
          ∧ r.2.mem ((c.tc : Thread Cert.PrenormSRefIdeal.nD Cert.PrenormSRefIdeal.τ).loc Cert.PrenormSRefIdeal.main_arg2) = m' ((c.tc : Thread Cert.PrenormSRefIdeal.nD Cert.PrenormSRefIdeal.τ).loc Cert.PrenormSRefIdeal.main_arg2))

def preserves_FfnN_FfnNIdeal : Prop :=
  True

def algebraic_FfnNIdeal_FfnNRefIdeal [hFfnNIdeal : Cert.FfnNIdeal.Facts] [hFfnNRefIdeal : Cert.FfnNRefIdeal.Facts] : Prop :=
  ∀ (m : (ℓ : Loc Cert.FfnNIdeal.nD Cert.FfnNIdeal.τ Cert.FfnNIdeal.sig) → Buf (Elt Ideal) ℓ) (g : Dev Cert.FfnNIdeal.nD → PrngReg)
    (m' : (ℓ : Loc Cert.FfnNRefIdeal.nD Cert.FfnNRefIdeal.τ Cert.FfnNRefIdeal.sig) → Buf (Elt Ideal) ℓ) (g' : Dev Cert.FfnNRefIdeal.nD → PrngReg), Pre_FfnNIdeal m →
    (∀ c : Dev Cert.FfnNIdeal.nD,
      m' ((c.tc : Thread Cert.FfnNRefIdeal.nD Cert.FfnNRefIdeal.τ).loc Cert.FfnNRefIdeal.main_arg0) = m ((c.tc : Thread Cert.FfnNIdeal.nD Cert.FfnNIdeal.τ).loc Cert.FfnNIdeal.main_arg0)
      ∧ m' ((c.tc : Thread Cert.FfnNRefIdeal.nD Cert.FfnNRefIdeal.τ).loc Cert.FfnNRefIdeal.main_arg1) = m ((c.tc : Thread Cert.FfnNIdeal.nD Cert.FfnNIdeal.τ).loc Cert.FfnNIdeal.main_arg1)
      ∧ m' ((c.tc : Thread Cert.FfnNRefIdeal.nD Cert.FfnNRefIdeal.τ).loc Cert.FfnNRefIdeal.main_arg2) = m ((c.tc : Thread Cert.FfnNIdeal.nD Cert.FfnNIdeal.τ).loc Cert.FfnNIdeal.main_arg2)
      ∧ m' ((c.tc : Thread Cert.FfnNRefIdeal.nD Cert.FfnNRefIdeal.τ).loc Cert.FfnNRefIdeal.main_arg3) = m ((c.tc : Thread Cert.FfnNIdeal.nD Cert.FfnNIdeal.τ).loc Cert.FfnNIdeal.main_arg3)
      ∧ m' ((c.tc : Thread Cert.FfnNRefIdeal.nD Cert.FfnNRefIdeal.τ).loc Cert.FfnNRefIdeal.main_arg4) = m ((c.tc : Thread Cert.FfnNIdeal.nD Cert.FfnNIdeal.τ).loc Cert.FfnNIdeal.main_arg4)
      ∧ m' ((c.tc : Thread Cert.FfnNRefIdeal.nD Cert.FfnNRefIdeal.τ).loc Cert.FfnNRefIdeal.main_arg5) = m ((c.tc : Thread Cert.FfnNIdeal.nD Cert.FfnNIdeal.τ).loc Cert.FfnNIdeal.main_arg5)
      ∧ m' ((c.tc : Thread Cert.FfnNRefIdeal.nD Cert.FfnNRefIdeal.τ).loc Cert.FfnNRefIdeal.main_arg6) = m ((c.tc : Thread Cert.FfnNIdeal.nD Cert.FfnNIdeal.τ).loc Cert.FfnNIdeal.main_arg6)
      ∧ m' ((c.tc : Thread Cert.FfnNRefIdeal.nD Cert.FfnNRefIdeal.τ).loc Cert.FfnNRefIdeal.main_arg7) = m ((c.tc : Thread Cert.FfnNIdeal.nD Cert.FfnNIdeal.τ).loc Cert.FfnNIdeal.main_arg7)) →
    ∃ (v0 : (c : Dev Cert.FfnNIdeal.nD) → Buf (Elt Ideal) ((c.tc : Thread Cert.FfnNIdeal.nD Cert.FfnNIdeal.τ).loc Cert.FfnNIdeal.main_v36_0)) (v1 : (c : Dev Cert.FfnNIdeal.nD) → Buf (Elt Ideal) ((c.tc : Thread Cert.FfnNIdeal.nD Cert.FfnNIdeal.τ).loc Cert.FfnNIdeal.main_v36_1)),
      θ_run (Cert.FfnNIdeal.defs (F := Ideal)) (onTc (τ := Cert.FfnNIdeal.τ) (Cert.FfnNIdeal.main (F := Ideal))) ⟨m, fun _ => 0, g⟩ (fun r => ∀ c : Dev Cert.FfnNIdeal.nD,
          r.2.mem ((c.tc : Thread Cert.FfnNIdeal.nD Cert.FfnNIdeal.τ).loc Cert.FfnNIdeal.main_v36_0) = v0 c
          ∧ r.2.mem ((c.tc : Thread Cert.FfnNIdeal.nD Cert.FfnNIdeal.τ).loc Cert.FfnNIdeal.main_v36_1) = v1 c
          ∧ r.2.mem ((c.tc : Thread Cert.FfnNIdeal.nD Cert.FfnNIdeal.τ).loc Cert.FfnNIdeal.main_arg0) = m ((c.tc : Thread Cert.FfnNIdeal.nD Cert.FfnNIdeal.τ).loc Cert.FfnNIdeal.main_arg0)
          ∧ r.2.mem ((c.tc : Thread Cert.FfnNIdeal.nD Cert.FfnNIdeal.τ).loc Cert.FfnNIdeal.main_arg1) = m ((c.tc : Thread Cert.FfnNIdeal.nD Cert.FfnNIdeal.τ).loc Cert.FfnNIdeal.main_arg1)
          ∧ r.2.mem ((c.tc : Thread Cert.FfnNIdeal.nD Cert.FfnNIdeal.τ).loc Cert.FfnNIdeal.main_arg2) = m ((c.tc : Thread Cert.FfnNIdeal.nD Cert.FfnNIdeal.τ).loc Cert.FfnNIdeal.main_arg2)
          ∧ r.2.mem ((c.tc : Thread Cert.FfnNIdeal.nD Cert.FfnNIdeal.τ).loc Cert.FfnNIdeal.main_arg3) = m ((c.tc : Thread Cert.FfnNIdeal.nD Cert.FfnNIdeal.τ).loc Cert.FfnNIdeal.main_arg3)
          ∧ r.2.mem ((c.tc : Thread Cert.FfnNIdeal.nD Cert.FfnNIdeal.τ).loc Cert.FfnNIdeal.main_arg4) = m ((c.tc : Thread Cert.FfnNIdeal.nD Cert.FfnNIdeal.τ).loc Cert.FfnNIdeal.main_arg4)
          ∧ r.2.mem ((c.tc : Thread Cert.FfnNIdeal.nD Cert.FfnNIdeal.τ).loc Cert.FfnNIdeal.main_arg5) = m ((c.tc : Thread Cert.FfnNIdeal.nD Cert.FfnNIdeal.τ).loc Cert.FfnNIdeal.main_arg5)
          ∧ r.2.mem ((c.tc : Thread Cert.FfnNIdeal.nD Cert.FfnNIdeal.τ).loc Cert.FfnNIdeal.main_arg6) = m ((c.tc : Thread Cert.FfnNIdeal.nD Cert.FfnNIdeal.τ).loc Cert.FfnNIdeal.main_arg6)
          ∧ r.2.mem ((c.tc : Thread Cert.FfnNIdeal.nD Cert.FfnNIdeal.τ).loc Cert.FfnNIdeal.main_arg7) = m ((c.tc : Thread Cert.FfnNIdeal.nD Cert.FfnNIdeal.τ).loc Cert.FfnNIdeal.main_arg7))
      ∧ θ_run (Cert.FfnNRefIdeal.defs (F := Ideal)) (onTc (τ := Cert.FfnNRefIdeal.τ) (Cert.FfnNRefIdeal.main (F := Ideal))) ⟨m', fun _ => 0, g'⟩ (fun r => ∀ c : Dev Cert.FfnNRefIdeal.nD,
          r.2.mem ((c.tc : Thread Cert.FfnNRefIdeal.nD Cert.FfnNRefIdeal.τ).loc Cert.FfnNRefIdeal.main_v89) = v0 c
          ∧ r.2.mem ((c.tc : Thread Cert.FfnNRefIdeal.nD Cert.FfnNRefIdeal.τ).loc Cert.FfnNRefIdeal.main_v91) = v1 c
          ∧ r.2.mem ((c.tc : Thread Cert.FfnNRefIdeal.nD Cert.FfnNRefIdeal.τ).loc Cert.FfnNRefIdeal.main_arg0) = m' ((c.tc : Thread Cert.FfnNRefIdeal.nD Cert.FfnNRefIdeal.τ).loc Cert.FfnNRefIdeal.main_arg0)
          ∧ r.2.mem ((c.tc : Thread Cert.FfnNRefIdeal.nD Cert.FfnNRefIdeal.τ).loc Cert.FfnNRefIdeal.main_arg1) = m' ((c.tc : Thread Cert.FfnNRefIdeal.nD Cert.FfnNRefIdeal.τ).loc Cert.FfnNRefIdeal.main_arg1)
          ∧ r.2.mem ((c.tc : Thread Cert.FfnNRefIdeal.nD Cert.FfnNRefIdeal.τ).loc Cert.FfnNRefIdeal.main_arg2) = m' ((c.tc : Thread Cert.FfnNRefIdeal.nD Cert.FfnNRefIdeal.τ).loc Cert.FfnNRefIdeal.main_arg2)
          ∧ r.2.mem ((c.tc : Thread Cert.FfnNRefIdeal.nD Cert.FfnNRefIdeal.τ).loc Cert.FfnNRefIdeal.main_arg3) = m' ((c.tc : Thread Cert.FfnNRefIdeal.nD Cert.FfnNRefIdeal.τ).loc Cert.FfnNRefIdeal.main_arg3)
          ∧ r.2.mem ((c.tc : Thread Cert.FfnNRefIdeal.nD Cert.FfnNRefIdeal.τ).loc Cert.FfnNRefIdeal.main_arg4) = m' ((c.tc : Thread Cert.FfnNRefIdeal.nD Cert.FfnNRefIdeal.τ).loc Cert.FfnNRefIdeal.main_arg4)
          ∧ r.2.mem ((c.tc : Thread Cert.FfnNRefIdeal.nD Cert.FfnNRefIdeal.τ).loc Cert.FfnNRefIdeal.main_arg5) = m' ((c.tc : Thread Cert.FfnNRefIdeal.nD Cert.FfnNRefIdeal.τ).loc Cert.FfnNRefIdeal.main_arg5)
          ∧ r.2.mem ((c.tc : Thread Cert.FfnNRefIdeal.nD Cert.FfnNRefIdeal.τ).loc Cert.FfnNRefIdeal.main_arg6) = m' ((c.tc : Thread Cert.FfnNRefIdeal.nD Cert.FfnNRefIdeal.τ).loc Cert.FfnNRefIdeal.main_arg6)
          ∧ r.2.mem ((c.tc : Thread Cert.FfnNRefIdeal.nD Cert.FfnNRefIdeal.τ).loc Cert.FfnNRefIdeal.main_arg7) = m' ((c.tc : Thread Cert.FfnNRefIdeal.nD Cert.FfnNRefIdeal.τ).loc Cert.FfnNRefIdeal.main_arg7))

def preserves_FfnNS_FfnNSIdeal : Prop :=
  True

def algebraic_FfnNSIdeal_FfnNSRefIdeal [hFfnNSIdeal : Cert.FfnNSIdeal.Facts] [hFfnNSRefIdeal : Cert.FfnNSRefIdeal.Facts] : Prop :=
  ∀ (m : (ℓ : Loc Cert.FfnNSIdeal.nD Cert.FfnNSIdeal.τ Cert.FfnNSIdeal.sig) → Buf (Elt Ideal) ℓ) (g : Dev Cert.FfnNSIdeal.nD → PrngReg)
    (m' : (ℓ : Loc Cert.FfnNSRefIdeal.nD Cert.FfnNSRefIdeal.τ Cert.FfnNSRefIdeal.sig) → Buf (Elt Ideal) ℓ) (g' : Dev Cert.FfnNSRefIdeal.nD → PrngReg), Pre_FfnNSIdeal m →
    (∀ c : Dev Cert.FfnNSIdeal.nD,
      m' ((c.tc : Thread Cert.FfnNSRefIdeal.nD Cert.FfnNSRefIdeal.τ).loc Cert.FfnNSRefIdeal.main_arg0) = m ((c.tc : Thread Cert.FfnNSIdeal.nD Cert.FfnNSIdeal.τ).loc Cert.FfnNSIdeal.main_arg0)
      ∧ m' ((c.tc : Thread Cert.FfnNSRefIdeal.nD Cert.FfnNSRefIdeal.τ).loc Cert.FfnNSRefIdeal.main_arg1) = m ((c.tc : Thread Cert.FfnNSIdeal.nD Cert.FfnNSIdeal.τ).loc Cert.FfnNSIdeal.main_arg1)
      ∧ m' ((c.tc : Thread Cert.FfnNSRefIdeal.nD Cert.FfnNSRefIdeal.τ).loc Cert.FfnNSRefIdeal.main_arg2) = m ((c.tc : Thread Cert.FfnNSIdeal.nD Cert.FfnNSIdeal.τ).loc Cert.FfnNSIdeal.main_arg2)
      ∧ m' ((c.tc : Thread Cert.FfnNSRefIdeal.nD Cert.FfnNSRefIdeal.τ).loc Cert.FfnNSRefIdeal.main_arg3) = m ((c.tc : Thread Cert.FfnNSIdeal.nD Cert.FfnNSIdeal.τ).loc Cert.FfnNSIdeal.main_arg3)
      ∧ m' ((c.tc : Thread Cert.FfnNSRefIdeal.nD Cert.FfnNSRefIdeal.τ).loc Cert.FfnNSRefIdeal.main_arg4) = m ((c.tc : Thread Cert.FfnNSIdeal.nD Cert.FfnNSIdeal.τ).loc Cert.FfnNSIdeal.main_arg4)
      ∧ m' ((c.tc : Thread Cert.FfnNSRefIdeal.nD Cert.FfnNSRefIdeal.τ).loc Cert.FfnNSRefIdeal.main_arg5) = m ((c.tc : Thread Cert.FfnNSIdeal.nD Cert.FfnNSIdeal.τ).loc Cert.FfnNSIdeal.main_arg5)
      ∧ m' ((c.tc : Thread Cert.FfnNSRefIdeal.nD Cert.FfnNSRefIdeal.τ).loc Cert.FfnNSRefIdeal.main_arg6) = m ((c.tc : Thread Cert.FfnNSIdeal.nD Cert.FfnNSIdeal.τ).loc Cert.FfnNSIdeal.main_arg6)
      ∧ m' ((c.tc : Thread Cert.FfnNSRefIdeal.nD Cert.FfnNSRefIdeal.τ).loc Cert.FfnNSRefIdeal.main_arg7) = m ((c.tc : Thread Cert.FfnNSIdeal.nD Cert.FfnNSIdeal.τ).loc Cert.FfnNSIdeal.main_arg7)) →
    ∃ (v0 : (c : Dev Cert.FfnNSIdeal.nD) → Buf (Elt Ideal) ((c.tc : Thread Cert.FfnNSIdeal.nD Cert.FfnNSIdeal.τ).loc Cert.FfnNSIdeal.main_v60_0)) (v1 : (c : Dev Cert.FfnNSIdeal.nD) → Buf (Elt Ideal) ((c.tc : Thread Cert.FfnNSIdeal.nD Cert.FfnNSIdeal.τ).loc Cert.FfnNSIdeal.main_v60_1)),
      θ_run (Cert.FfnNSIdeal.defs (F := Ideal)) (onTc (τ := Cert.FfnNSIdeal.τ) (Cert.FfnNSIdeal.main (F := Ideal))) ⟨m, fun _ => 0, g⟩ (fun r => ∀ c : Dev Cert.FfnNSIdeal.nD,
          r.2.mem ((c.tc : Thread Cert.FfnNSIdeal.nD Cert.FfnNSIdeal.τ).loc Cert.FfnNSIdeal.main_v60_0) = v0 c
          ∧ r.2.mem ((c.tc : Thread Cert.FfnNSIdeal.nD Cert.FfnNSIdeal.τ).loc Cert.FfnNSIdeal.main_v60_1) = v1 c
          ∧ r.2.mem ((c.tc : Thread Cert.FfnNSIdeal.nD Cert.FfnNSIdeal.τ).loc Cert.FfnNSIdeal.main_arg0) = m ((c.tc : Thread Cert.FfnNSIdeal.nD Cert.FfnNSIdeal.τ).loc Cert.FfnNSIdeal.main_arg0)
          ∧ r.2.mem ((c.tc : Thread Cert.FfnNSIdeal.nD Cert.FfnNSIdeal.τ).loc Cert.FfnNSIdeal.main_arg1) = m ((c.tc : Thread Cert.FfnNSIdeal.nD Cert.FfnNSIdeal.τ).loc Cert.FfnNSIdeal.main_arg1)
          ∧ r.2.mem ((c.tc : Thread Cert.FfnNSIdeal.nD Cert.FfnNSIdeal.τ).loc Cert.FfnNSIdeal.main_arg2) = m ((c.tc : Thread Cert.FfnNSIdeal.nD Cert.FfnNSIdeal.τ).loc Cert.FfnNSIdeal.main_arg2)
          ∧ r.2.mem ((c.tc : Thread Cert.FfnNSIdeal.nD Cert.FfnNSIdeal.τ).loc Cert.FfnNSIdeal.main_arg3) = m ((c.tc : Thread Cert.FfnNSIdeal.nD Cert.FfnNSIdeal.τ).loc Cert.FfnNSIdeal.main_arg3)
          ∧ r.2.mem ((c.tc : Thread Cert.FfnNSIdeal.nD Cert.FfnNSIdeal.τ).loc Cert.FfnNSIdeal.main_arg4) = m ((c.tc : Thread Cert.FfnNSIdeal.nD Cert.FfnNSIdeal.τ).loc Cert.FfnNSIdeal.main_arg4)
          ∧ r.2.mem ((c.tc : Thread Cert.FfnNSIdeal.nD Cert.FfnNSIdeal.τ).loc Cert.FfnNSIdeal.main_arg5) = m ((c.tc : Thread Cert.FfnNSIdeal.nD Cert.FfnNSIdeal.τ).loc Cert.FfnNSIdeal.main_arg5)
          ∧ r.2.mem ((c.tc : Thread Cert.FfnNSIdeal.nD Cert.FfnNSIdeal.τ).loc Cert.FfnNSIdeal.main_arg6) = m ((c.tc : Thread Cert.FfnNSIdeal.nD Cert.FfnNSIdeal.τ).loc Cert.FfnNSIdeal.main_arg6)
          ∧ r.2.mem ((c.tc : Thread Cert.FfnNSIdeal.nD Cert.FfnNSIdeal.τ).loc Cert.FfnNSIdeal.main_arg7) = m ((c.tc : Thread Cert.FfnNSIdeal.nD Cert.FfnNSIdeal.τ).loc Cert.FfnNSIdeal.main_arg7))
      ∧ θ_run (Cert.FfnNSRefIdeal.defs (F := Ideal)) (onTc (τ := Cert.FfnNSRefIdeal.τ) (Cert.FfnNSRefIdeal.main (F := Ideal))) ⟨m', fun _ => 0, g'⟩ (fun r => ∀ c : Dev Cert.FfnNSRefIdeal.nD,
          r.2.mem ((c.tc : Thread Cert.FfnNSRefIdeal.nD Cert.FfnNSRefIdeal.τ).loc Cert.FfnNSRefIdeal.main_v89) = v0 c
          ∧ r.2.mem ((c.tc : Thread Cert.FfnNSRefIdeal.nD Cert.FfnNSRefIdeal.τ).loc Cert.FfnNSRefIdeal.main_v91) = v1 c
          ∧ r.2.mem ((c.tc : Thread Cert.FfnNSRefIdeal.nD Cert.FfnNSRefIdeal.τ).loc Cert.FfnNSRefIdeal.main_arg0) = m' ((c.tc : Thread Cert.FfnNSRefIdeal.nD Cert.FfnNSRefIdeal.τ).loc Cert.FfnNSRefIdeal.main_arg0)
          ∧ r.2.mem ((c.tc : Thread Cert.FfnNSRefIdeal.nD Cert.FfnNSRefIdeal.τ).loc Cert.FfnNSRefIdeal.main_arg1) = m' ((c.tc : Thread Cert.FfnNSRefIdeal.nD Cert.FfnNSRefIdeal.τ).loc Cert.FfnNSRefIdeal.main_arg1)
          ∧ r.2.mem ((c.tc : Thread Cert.FfnNSRefIdeal.nD Cert.FfnNSRefIdeal.τ).loc Cert.FfnNSRefIdeal.main_arg2) = m' ((c.tc : Thread Cert.FfnNSRefIdeal.nD Cert.FfnNSRefIdeal.τ).loc Cert.FfnNSRefIdeal.main_arg2)
          ∧ r.2.mem ((c.tc : Thread Cert.FfnNSRefIdeal.nD Cert.FfnNSRefIdeal.τ).loc Cert.FfnNSRefIdeal.main_arg3) = m' ((c.tc : Thread Cert.FfnNSRefIdeal.nD Cert.FfnNSRefIdeal.τ).loc Cert.FfnNSRefIdeal.main_arg3)
          ∧ r.2.mem ((c.tc : Thread Cert.FfnNSRefIdeal.nD Cert.FfnNSRefIdeal.τ).loc Cert.FfnNSRefIdeal.main_arg4) = m' ((c.tc : Thread Cert.FfnNSRefIdeal.nD Cert.FfnNSRefIdeal.τ).loc Cert.FfnNSRefIdeal.main_arg4)
          ∧ r.2.mem ((c.tc : Thread Cert.FfnNSRefIdeal.nD Cert.FfnNSRefIdeal.τ).loc Cert.FfnNSRefIdeal.main_arg5) = m' ((c.tc : Thread Cert.FfnNSRefIdeal.nD Cert.FfnNSRefIdeal.τ).loc Cert.FfnNSRefIdeal.main_arg5)
          ∧ r.2.mem ((c.tc : Thread Cert.FfnNSRefIdeal.nD Cert.FfnNSRefIdeal.τ).loc Cert.FfnNSRefIdeal.main_arg6) = m' ((c.tc : Thread Cert.FfnNSRefIdeal.nD Cert.FfnNSRefIdeal.τ).loc Cert.FfnNSRefIdeal.main_arg6)
          ∧ r.2.mem ((c.tc : Thread Cert.FfnNSRefIdeal.nD Cert.FfnNSRefIdeal.τ).loc Cert.FfnNSRefIdeal.main_arg7) = m' ((c.tc : Thread Cert.FfnNSRefIdeal.nD Cert.FfnNSRefIdeal.τ).loc Cert.FfnNSRefIdeal.main_arg7))

def preserves_RetF_RetFIdeal : Prop :=
  IdealRules.named_const.Statement Cert.RetFIdeal.κ "log_g0" .f32 0xBD020AEC#32 ((Real.log (31 / 32) : ℝ) : EReal)
  ∧ IdealRules.named_const.Statement Cert.RetFIdeal.κ "g16_0" .f32 0x3F1A09B0#32 ((727423121747185263828481 / 1208925819614629174706176 : ℝ) : EReal)
  ∧ IdealRules.named_const.Statement Cert.RetFIdeal.κ "log_g1" .f32 0xBC8102B3#32 ((Real.log (63 / 64) : ℝ) : EReal)
  ∧ IdealRules.named_const.Statement Cert.RetFIdeal.κ "g16_1" .f32 0x3F46FADA#32 ((61581291280182164914327485441 / 79228162514264337593543950336 : ℝ) : EReal)
  ∧ IdealRules.named_const.Statement Cert.RetFIdeal.κ "log_g2" .f32 0xBC0080AC#32 ((Real.log (127 / 128) : ℝ) : EReal)
  ∧ IdealRules.named_const.Statement Cert.RetFIdeal.κ "g16_2" .f32 0x3F61CEF0#32 ((4579937329576774398276408998492161 / 5192296858534827628530496329220096 : ℝ) : EReal)
  ∧ IdealRules.named_const.Statement Cert.RetFIdeal.κ "log_g3" .f32 0xBB80402B#32 ((Real.log (255 / 256) : ℝ) : EReal)
  ∧ IdealRules.named_const.Statement Cert.RetFIdeal.κ "g16_3" .f32 0x3F7075D7#32 ((319626579315078487616775634918212890625 / 340282366920938463463374607431768211456 : ℝ) : EReal)

def algebraic_RetFIdeal_RetFRefIdeal [hRetFIdeal : Cert.RetFIdeal.Facts] [hRetFRefIdeal : Cert.RetFRefIdeal.Facts] : Prop :=
  ∀ (m : (ℓ : Loc Cert.RetFIdeal.nD Cert.RetFIdeal.τ Cert.RetFIdeal.sig) → Buf (Elt Ideal) ℓ) (g : Dev Cert.RetFIdeal.nD → PrngReg)
    (m' : (ℓ : Loc Cert.RetFRefIdeal.nD Cert.RetFRefIdeal.τ Cert.RetFRefIdeal.sig) → Buf (Elt Ideal) ℓ) (g' : Dev Cert.RetFRefIdeal.nD → PrngReg), Pre_RetFIdeal m →
    (∀ c : Dev Cert.RetFIdeal.nD,
      m' ((c.tc : Thread Cert.RetFRefIdeal.nD Cert.RetFRefIdeal.τ).loc Cert.RetFRefIdeal.main_arg0) = m ((c.tc : Thread Cert.RetFIdeal.nD Cert.RetFIdeal.τ).loc Cert.RetFIdeal.main_arg0)
      ∧ m' ((c.tc : Thread Cert.RetFRefIdeal.nD Cert.RetFRefIdeal.τ).loc Cert.RetFRefIdeal.main_arg1) = m ((c.tc : Thread Cert.RetFIdeal.nD Cert.RetFIdeal.τ).loc Cert.RetFIdeal.main_arg1)) →
    ∃ (v0 : (c : Dev Cert.RetFIdeal.nD) → Buf (Elt Ideal) ((c.tc : Thread Cert.RetFIdeal.nD Cert.RetFIdeal.τ).loc Cert.RetFIdeal.main_v22)) (v1 : (c : Dev Cert.RetFIdeal.nD) → Buf (Elt Ideal) ((c.tc : Thread Cert.RetFIdeal.nD Cert.RetFIdeal.τ).loc Cert.RetFIdeal.main_v24)),
      θ_run (Cert.RetFIdeal.defs (F := Ideal)) (onTc (τ := Cert.RetFIdeal.τ) (Cert.RetFIdeal.main (F := Ideal))) ⟨m, fun _ => 0, g⟩ (fun r => ∀ c : Dev Cert.RetFIdeal.nD,
          r.2.mem ((c.tc : Thread Cert.RetFIdeal.nD Cert.RetFIdeal.τ).loc Cert.RetFIdeal.main_v22) = v0 c
          ∧ r.2.mem ((c.tc : Thread Cert.RetFIdeal.nD Cert.RetFIdeal.τ).loc Cert.RetFIdeal.main_v24) = v1 c
          ∧ r.2.mem ((c.tc : Thread Cert.RetFIdeal.nD Cert.RetFIdeal.τ).loc Cert.RetFIdeal.main_arg0) = m ((c.tc : Thread Cert.RetFIdeal.nD Cert.RetFIdeal.τ).loc Cert.RetFIdeal.main_arg0)
          ∧ r.2.mem ((c.tc : Thread Cert.RetFIdeal.nD Cert.RetFIdeal.τ).loc Cert.RetFIdeal.main_arg1) = m ((c.tc : Thread Cert.RetFIdeal.nD Cert.RetFIdeal.τ).loc Cert.RetFIdeal.main_arg1))
      ∧ θ_run (Cert.RetFRefIdeal.defs (F := Ideal)) (onTc (τ := Cert.RetFRefIdeal.τ) (Cert.RetFRefIdeal.main (F := Ideal))) ⟨m', fun _ => 0, g'⟩ (fun r => ∀ c : Dev Cert.RetFRefIdeal.nD,
          r.2.mem ((c.tc : Thread Cert.RetFRefIdeal.nD Cert.RetFRefIdeal.τ).loc Cert.RetFRefIdeal.main_v149) = v0 c
          ∧ r.2.mem ((c.tc : Thread Cert.RetFRefIdeal.nD Cert.RetFRefIdeal.τ).loc Cert.RetFRefIdeal.main_v132) = v1 c
          ∧ r.2.mem ((c.tc : Thread Cert.RetFRefIdeal.nD Cert.RetFRefIdeal.τ).loc Cert.RetFRefIdeal.main_arg0) = m' ((c.tc : Thread Cert.RetFRefIdeal.nD Cert.RetFRefIdeal.τ).loc Cert.RetFRefIdeal.main_arg0)
          ∧ r.2.mem ((c.tc : Thread Cert.RetFRefIdeal.nD Cert.RetFRefIdeal.τ).loc Cert.RetFRefIdeal.main_arg1) = m' ((c.tc : Thread Cert.RetFRefIdeal.nD Cert.RetFRefIdeal.τ).loc Cert.RetFRefIdeal.main_arg1))

def preserves_MixersF_MixersFIdeal : Prop :=
  IdealRules.named_const.Statement Cert.MixersFIdeal.κ "log_g0" .f32 0xBD020AEC#32 ((Real.log (31 / 32) : ℝ) : EReal)
  ∧ IdealRules.named_const.Statement Cert.MixersFIdeal.κ "g128_0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.MixersFIdeal.κ "log_g1" .f32 0xBC8102B3#32 ((Real.log (63 / 64) : ℝ) : EReal)
  ∧ IdealRules.named_const.Statement Cert.MixersFIdeal.κ "g128_1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.MixersFIdeal.κ "log_g2" .f32 0xBC0080AC#32 ((Real.log (127 / 128) : ℝ) : EReal)
  ∧ IdealRules.named_const.Statement Cert.MixersFIdeal.κ "g128_2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.MixersFIdeal.κ "log_g3" .f32 0xBB80402B#32 ((Real.log (255 / 256) : ℝ) : EReal)
  ∧ IdealRules.named_const.Statement Cert.MixersFIdeal.κ "g128_3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_MixersFIdeal_MixersFRefIdeal [hMixersFIdeal : Cert.MixersFIdeal.Facts] [hMixersFRefIdeal : Cert.MixersFRefIdeal.Facts] : Prop :=
  ∀ (m : (ℓ : Loc Cert.MixersFIdeal.nD Cert.MixersFIdeal.τ Cert.MixersFIdeal.sig) → Buf (Elt Ideal) ℓ) (g : Dev Cert.MixersFIdeal.nD → PrngReg)
    (m' : (ℓ : Loc Cert.MixersFRefIdeal.nD Cert.MixersFRefIdeal.τ Cert.MixersFRefIdeal.sig) → Buf (Elt Ideal) ℓ) (g' : Dev Cert.MixersFRefIdeal.nD → PrngReg), Pre_MixersFIdeal m →
    (∀ c : Dev Cert.MixersFIdeal.nD,
      m' ((c.tc : Thread Cert.MixersFRefIdeal.nD Cert.MixersFRefIdeal.τ).loc Cert.MixersFRefIdeal.main_arg0) = m ((c.tc : Thread Cert.MixersFIdeal.nD Cert.MixersFIdeal.τ).loc Cert.MixersFIdeal.main_arg0)
      ∧ m' ((c.tc : Thread Cert.MixersFRefIdeal.nD Cert.MixersFRefIdeal.τ).loc Cert.MixersFRefIdeal.main_arg1) = m ((c.tc : Thread Cert.MixersFIdeal.nD Cert.MixersFIdeal.τ).loc Cert.MixersFIdeal.main_arg1)
      ∧ m' ((c.tc : Thread Cert.MixersFRefIdeal.nD Cert.MixersFRefIdeal.τ).loc Cert.MixersFRefIdeal.main_arg2) = m ((c.tc : Thread Cert.MixersFIdeal.nD Cert.MixersFIdeal.τ).loc Cert.MixersFIdeal.main_arg2)
      ∧ m' ((c.tc : Thread Cert.MixersFRefIdeal.nD Cert.MixersFRefIdeal.τ).loc Cert.MixersFRefIdeal.main_arg3) = m ((c.tc : Thread Cert.MixersFIdeal.nD Cert.MixersFIdeal.τ).loc Cert.MixersFIdeal.main_arg3)
      ∧ m' ((c.tc : Thread Cert.MixersFRefIdeal.nD Cert.MixersFRefIdeal.τ).loc Cert.MixersFRefIdeal.main_arg4) = m ((c.tc : Thread Cert.MixersFIdeal.nD Cert.MixersFIdeal.τ).loc Cert.MixersFIdeal.main_arg4)
      ∧ m' ((c.tc : Thread Cert.MixersFRefIdeal.nD Cert.MixersFRefIdeal.τ).loc Cert.MixersFRefIdeal.main_arg5) = m ((c.tc : Thread Cert.MixersFIdeal.nD Cert.MixersFIdeal.τ).loc Cert.MixersFIdeal.main_arg5)
      ∧ m' ((c.tc : Thread Cert.MixersFRefIdeal.nD Cert.MixersFRefIdeal.τ).loc Cert.MixersFRefIdeal.main_arg6) = m ((c.tc : Thread Cert.MixersFIdeal.nD Cert.MixersFIdeal.τ).loc Cert.MixersFIdeal.main_arg6)
      ∧ m' ((c.tc : Thread Cert.MixersFRefIdeal.nD Cert.MixersFRefIdeal.τ).loc Cert.MixersFRefIdeal.main_arg7) = m ((c.tc : Thread Cert.MixersFIdeal.nD Cert.MixersFIdeal.τ).loc Cert.MixersFIdeal.main_arg7)
      ∧ m' ((c.tc : Thread Cert.MixersFRefIdeal.nD Cert.MixersFRefIdeal.τ).loc Cert.MixersFRefIdeal.main_arg8) = m ((c.tc : Thread Cert.MixersFIdeal.nD Cert.MixersFIdeal.τ).loc Cert.MixersFIdeal.main_arg8)
      ∧ m' ((c.tc : Thread Cert.MixersFRefIdeal.nD Cert.MixersFRefIdeal.τ).loc Cert.MixersFRefIdeal.main_arg9) = m ((c.tc : Thread Cert.MixersFIdeal.nD Cert.MixersFIdeal.τ).loc Cert.MixersFIdeal.main_arg9)
      ∧ m' ((c.tc : Thread Cert.MixersFRefIdeal.nD Cert.MixersFRefIdeal.τ).loc Cert.MixersFRefIdeal.main_arg10) = m ((c.tc : Thread Cert.MixersFIdeal.nD Cert.MixersFIdeal.τ).loc Cert.MixersFIdeal.main_arg10)
      ∧ m' ((c.tc : Thread Cert.MixersFRefIdeal.nD Cert.MixersFRefIdeal.τ).loc Cert.MixersFRefIdeal.main_arg11) = m ((c.tc : Thread Cert.MixersFIdeal.nD Cert.MixersFIdeal.τ).loc Cert.MixersFIdeal.main_arg11)
      ∧ m' ((c.tc : Thread Cert.MixersFRefIdeal.nD Cert.MixersFRefIdeal.τ).loc Cert.MixersFRefIdeal.main_arg12) = m ((c.tc : Thread Cert.MixersFIdeal.nD Cert.MixersFIdeal.τ).loc Cert.MixersFIdeal.main_arg12)) →
    ∃ (v0 : (c : Dev Cert.MixersFIdeal.nD) → Buf (Elt Ideal) ((c.tc : Thread Cert.MixersFIdeal.nD Cert.MixersFIdeal.τ).loc Cert.MixersFIdeal.main_v34)) (v1 : (c : Dev Cert.MixersFIdeal.nD) → Buf (Elt Ideal) ((c.tc : Thread Cert.MixersFIdeal.nD Cert.MixersFIdeal.τ).loc Cert.MixersFIdeal.main_v36)),
      θ_run (Cert.MixersFIdeal.defs (F := Ideal)) (onTc (τ := Cert.MixersFIdeal.τ) (Cert.MixersFIdeal.main (F := Ideal))) ⟨m, fun _ => 0, g⟩ (fun r => ∀ c : Dev Cert.MixersFIdeal.nD,
          r.2.mem ((c.tc : Thread Cert.MixersFIdeal.nD Cert.MixersFIdeal.τ).loc Cert.MixersFIdeal.main_v34) = v0 c
          ∧ r.2.mem ((c.tc : Thread Cert.MixersFIdeal.nD Cert.MixersFIdeal.τ).loc Cert.MixersFIdeal.main_v36) = v1 c
          ∧ r.2.mem ((c.tc : Thread Cert.MixersFIdeal.nD Cert.MixersFIdeal.τ).loc Cert.MixersFIdeal.main_arg0) = m ((c.tc : Thread Cert.MixersFIdeal.nD Cert.MixersFIdeal.τ).loc Cert.MixersFIdeal.main_arg0)
          ∧ r.2.mem ((c.tc : Thread Cert.MixersFIdeal.nD Cert.MixersFIdeal.τ).loc Cert.MixersFIdeal.main_arg1) = m ((c.tc : Thread Cert.MixersFIdeal.nD Cert.MixersFIdeal.τ).loc Cert.MixersFIdeal.main_arg1)
          ∧ r.2.mem ((c.tc : Thread Cert.MixersFIdeal.nD Cert.MixersFIdeal.τ).loc Cert.MixersFIdeal.main_arg2) = m ((c.tc : Thread Cert.MixersFIdeal.nD Cert.MixersFIdeal.τ).loc Cert.MixersFIdeal.main_arg2)
          ∧ r.2.mem ((c.tc : Thread Cert.MixersFIdeal.nD Cert.MixersFIdeal.τ).loc Cert.MixersFIdeal.main_arg3) = m ((c.tc : Thread Cert.MixersFIdeal.nD Cert.MixersFIdeal.τ).loc Cert.MixersFIdeal.main_arg3)
          ∧ r.2.mem ((c.tc : Thread Cert.MixersFIdeal.nD Cert.MixersFIdeal.τ).loc Cert.MixersFIdeal.main_arg4) = m ((c.tc : Thread Cert.MixersFIdeal.nD Cert.MixersFIdeal.τ).loc Cert.MixersFIdeal.main_arg4)
          ∧ r.2.mem ((c.tc : Thread Cert.MixersFIdeal.nD Cert.MixersFIdeal.τ).loc Cert.MixersFIdeal.main_arg5) = m ((c.tc : Thread Cert.MixersFIdeal.nD Cert.MixersFIdeal.τ).loc Cert.MixersFIdeal.main_arg5)
          ∧ r.2.mem ((c.tc : Thread Cert.MixersFIdeal.nD Cert.MixersFIdeal.τ).loc Cert.MixersFIdeal.main_arg6) = m ((c.tc : Thread Cert.MixersFIdeal.nD Cert.MixersFIdeal.τ).loc Cert.MixersFIdeal.main_arg6)
          ∧ r.2.mem ((c.tc : Thread Cert.MixersFIdeal.nD Cert.MixersFIdeal.τ).loc Cert.MixersFIdeal.main_arg7) = m ((c.tc : Thread Cert.MixersFIdeal.nD Cert.MixersFIdeal.τ).loc Cert.MixersFIdeal.main_arg7)
          ∧ r.2.mem ((c.tc : Thread Cert.MixersFIdeal.nD Cert.MixersFIdeal.τ).loc Cert.MixersFIdeal.main_arg8) = m ((c.tc : Thread Cert.MixersFIdeal.nD Cert.MixersFIdeal.τ).loc Cert.MixersFIdeal.main_arg8)
          ∧ r.2.mem ((c.tc : Thread Cert.MixersFIdeal.nD Cert.MixersFIdeal.τ).loc Cert.MixersFIdeal.main_arg9) = m ((c.tc : Thread Cert.MixersFIdeal.nD Cert.MixersFIdeal.τ).loc Cert.MixersFIdeal.main_arg9)
          ∧ r.2.mem ((c.tc : Thread Cert.MixersFIdeal.nD Cert.MixersFIdeal.τ).loc Cert.MixersFIdeal.main_arg10) = m ((c.tc : Thread Cert.MixersFIdeal.nD Cert.MixersFIdeal.τ).loc Cert.MixersFIdeal.main_arg10)
          ∧ r.2.mem ((c.tc : Thread Cert.MixersFIdeal.nD Cert.MixersFIdeal.τ).loc Cert.MixersFIdeal.main_arg11) = m ((c.tc : Thread Cert.MixersFIdeal.nD Cert.MixersFIdeal.τ).loc Cert.MixersFIdeal.main_arg11)
          ∧ r.2.mem ((c.tc : Thread Cert.MixersFIdeal.nD Cert.MixersFIdeal.τ).loc Cert.MixersFIdeal.main_arg12) = m ((c.tc : Thread Cert.MixersFIdeal.nD Cert.MixersFIdeal.τ).loc Cert.MixersFIdeal.main_arg12))
      ∧ θ_run (Cert.MixersFRefIdeal.defs (F := Ideal)) (onTc (τ := Cert.MixersFRefIdeal.τ) (Cert.MixersFRefIdeal.main (F := Ideal))) ⟨m', fun _ => 0, g'⟩ (fun r => ∀ c : Dev Cert.MixersFRefIdeal.nD,
          r.2.mem ((c.tc : Thread Cert.MixersFRefIdeal.nD Cert.MixersFRefIdeal.τ).loc Cert.MixersFRefIdeal.main_v3) = v0 c
          ∧ r.2.mem ((c.tc : Thread Cert.MixersFRefIdeal.nD Cert.MixersFRefIdeal.τ).loc Cert.MixersFRefIdeal.main_v386) = v1 c
          ∧ r.2.mem ((c.tc : Thread Cert.MixersFRefIdeal.nD Cert.MixersFRefIdeal.τ).loc Cert.MixersFRefIdeal.main_arg0) = m' ((c.tc : Thread Cert.MixersFRefIdeal.nD Cert.MixersFRefIdeal.τ).loc Cert.MixersFRefIdeal.main_arg0)
          ∧ r.2.mem ((c.tc : Thread Cert.MixersFRefIdeal.nD Cert.MixersFRefIdeal.τ).loc Cert.MixersFRefIdeal.main_arg1) = m' ((c.tc : Thread Cert.MixersFRefIdeal.nD Cert.MixersFRefIdeal.τ).loc Cert.MixersFRefIdeal.main_arg1)
          ∧ r.2.mem ((c.tc : Thread Cert.MixersFRefIdeal.nD Cert.MixersFRefIdeal.τ).loc Cert.MixersFRefIdeal.main_arg2) = m' ((c.tc : Thread Cert.MixersFRefIdeal.nD Cert.MixersFRefIdeal.τ).loc Cert.MixersFRefIdeal.main_arg2)
          ∧ r.2.mem ((c.tc : Thread Cert.MixersFRefIdeal.nD Cert.MixersFRefIdeal.τ).loc Cert.MixersFRefIdeal.main_arg3) = m' ((c.tc : Thread Cert.MixersFRefIdeal.nD Cert.MixersFRefIdeal.τ).loc Cert.MixersFRefIdeal.main_arg3)
          ∧ r.2.mem ((c.tc : Thread Cert.MixersFRefIdeal.nD Cert.MixersFRefIdeal.τ).loc Cert.MixersFRefIdeal.main_arg4) = m' ((c.tc : Thread Cert.MixersFRefIdeal.nD Cert.MixersFRefIdeal.τ).loc Cert.MixersFRefIdeal.main_arg4)
          ∧ r.2.mem ((c.tc : Thread Cert.MixersFRefIdeal.nD Cert.MixersFRefIdeal.τ).loc Cert.MixersFRefIdeal.main_arg5) = m' ((c.tc : Thread Cert.MixersFRefIdeal.nD Cert.MixersFRefIdeal.τ).loc Cert.MixersFRefIdeal.main_arg5)
          ∧ r.2.mem ((c.tc : Thread Cert.MixersFRefIdeal.nD Cert.MixersFRefIdeal.τ).loc Cert.MixersFRefIdeal.main_arg6) = m' ((c.tc : Thread Cert.MixersFRefIdeal.nD Cert.MixersFRefIdeal.τ).loc Cert.MixersFRefIdeal.main_arg6)
          ∧ r.2.mem ((c.tc : Thread Cert.MixersFRefIdeal.nD Cert.MixersFRefIdeal.τ).loc Cert.MixersFRefIdeal.main_arg7) = m' ((c.tc : Thread Cert.MixersFRefIdeal.nD Cert.MixersFRefIdeal.τ).loc Cert.MixersFRefIdeal.main_arg7)
          ∧ r.2.mem ((c.tc : Thread Cert.MixersFRefIdeal.nD Cert.MixersFRefIdeal.τ).loc Cert.MixersFRefIdeal.main_arg8) = m' ((c.tc : Thread Cert.MixersFRefIdeal.nD Cert.MixersFRefIdeal.τ).loc Cert.MixersFRefIdeal.main_arg8)
          ∧ r.2.mem ((c.tc : Thread Cert.MixersFRefIdeal.nD Cert.MixersFRefIdeal.τ).loc Cert.MixersFRefIdeal.main_arg9) = m' ((c.tc : Thread Cert.MixersFRefIdeal.nD Cert.MixersFRefIdeal.τ).loc Cert.MixersFRefIdeal.main_arg9)
          ∧ r.2.mem ((c.tc : Thread Cert.MixersFRefIdeal.nD Cert.MixersFRefIdeal.τ).loc Cert.MixersFRefIdeal.main_arg10) = m' ((c.tc : Thread Cert.MixersFRefIdeal.nD Cert.MixersFRefIdeal.τ).loc Cert.MixersFRefIdeal.main_arg10)
          ∧ r.2.mem ((c.tc : Thread Cert.MixersFRefIdeal.nD Cert.MixersFRefIdeal.τ).loc Cert.MixersFRefIdeal.main_arg11) = m' ((c.tc : Thread Cert.MixersFRefIdeal.nD Cert.MixersFRefIdeal.τ).loc Cert.MixersFRefIdeal.main_arg11)
          ∧ r.2.mem ((c.tc : Thread Cert.MixersFRefIdeal.nD Cert.MixersFRefIdeal.τ).loc Cert.MixersFRefIdeal.main_arg12) = m' ((c.tc : Thread Cert.MixersFRefIdeal.nD Cert.MixersFRefIdeal.τ).loc Cert.MixersFRefIdeal.main_arg12))

def preserves_RwkvF_RwkvFIdeal : Prop :=
  True

def algebraic_RwkvFIdeal_RwkvFRefIdeal [hRwkvFIdeal : Cert.RwkvFIdeal.Facts] [hRwkvFRefIdeal : Cert.RwkvFRefIdeal.Facts] : Prop :=
  ∀ (m : (ℓ : Loc Cert.RwkvFIdeal.nD Cert.RwkvFIdeal.τ Cert.RwkvFIdeal.sig) → Buf (Elt Ideal) ℓ) (g : Dev Cert.RwkvFIdeal.nD → PrngReg)
    (m' : (ℓ : Loc Cert.RwkvFRefIdeal.nD Cert.RwkvFRefIdeal.τ Cert.RwkvFRefIdeal.sig) → Buf (Elt Ideal) ℓ) (g' : Dev Cert.RwkvFRefIdeal.nD → PrngReg), Pre_RwkvFIdeal m →
    (∀ c : Dev Cert.RwkvFIdeal.nD,
      m' ((c.tc : Thread Cert.RwkvFRefIdeal.nD Cert.RwkvFRefIdeal.τ).loc Cert.RwkvFRefIdeal.main_arg0) = m ((c.tc : Thread Cert.RwkvFIdeal.nD Cert.RwkvFIdeal.τ).loc Cert.RwkvFIdeal.main_arg0)
      ∧ m' ((c.tc : Thread Cert.RwkvFRefIdeal.nD Cert.RwkvFRefIdeal.τ).loc Cert.RwkvFRefIdeal.main_arg1) = m ((c.tc : Thread Cert.RwkvFIdeal.nD Cert.RwkvFIdeal.τ).loc Cert.RwkvFIdeal.main_arg1)
      ∧ m' ((c.tc : Thread Cert.RwkvFRefIdeal.nD Cert.RwkvFRefIdeal.τ).loc Cert.RwkvFRefIdeal.main_arg2) = m ((c.tc : Thread Cert.RwkvFIdeal.nD Cert.RwkvFIdeal.τ).loc Cert.RwkvFIdeal.main_arg2)
      ∧ m' ((c.tc : Thread Cert.RwkvFRefIdeal.nD Cert.RwkvFRefIdeal.τ).loc Cert.RwkvFRefIdeal.main_arg3) = m ((c.tc : Thread Cert.RwkvFIdeal.nD Cert.RwkvFIdeal.τ).loc Cert.RwkvFIdeal.main_arg3)
      ∧ m' ((c.tc : Thread Cert.RwkvFRefIdeal.nD Cert.RwkvFRefIdeal.τ).loc Cert.RwkvFRefIdeal.main_arg4) = m ((c.tc : Thread Cert.RwkvFIdeal.nD Cert.RwkvFIdeal.τ).loc Cert.RwkvFIdeal.main_arg4)
      ∧ m' ((c.tc : Thread Cert.RwkvFRefIdeal.nD Cert.RwkvFRefIdeal.τ).loc Cert.RwkvFRefIdeal.main_arg5) = m ((c.tc : Thread Cert.RwkvFIdeal.nD Cert.RwkvFIdeal.τ).loc Cert.RwkvFIdeal.main_arg5)
      ∧ m' ((c.tc : Thread Cert.RwkvFRefIdeal.nD Cert.RwkvFRefIdeal.τ).loc Cert.RwkvFRefIdeal.main_arg6) = m ((c.tc : Thread Cert.RwkvFIdeal.nD Cert.RwkvFIdeal.τ).loc Cert.RwkvFIdeal.main_arg6)
      ∧ m' ((c.tc : Thread Cert.RwkvFRefIdeal.nD Cert.RwkvFRefIdeal.τ).loc Cert.RwkvFRefIdeal.main_arg7) = m ((c.tc : Thread Cert.RwkvFIdeal.nD Cert.RwkvFIdeal.τ).loc Cert.RwkvFIdeal.main_arg7)
      ∧ m' ((c.tc : Thread Cert.RwkvFRefIdeal.nD Cert.RwkvFRefIdeal.τ).loc Cert.RwkvFRefIdeal.main_arg8) = m ((c.tc : Thread Cert.RwkvFIdeal.nD Cert.RwkvFIdeal.τ).loc Cert.RwkvFIdeal.main_arg8)
      ∧ m' ((c.tc : Thread Cert.RwkvFRefIdeal.nD Cert.RwkvFRefIdeal.τ).loc Cert.RwkvFRefIdeal.main_arg9) = m ((c.tc : Thread Cert.RwkvFIdeal.nD Cert.RwkvFIdeal.τ).loc Cert.RwkvFIdeal.main_arg9)
      ∧ m' ((c.tc : Thread Cert.RwkvFRefIdeal.nD Cert.RwkvFRefIdeal.τ).loc Cert.RwkvFRefIdeal.main_arg10) = m ((c.tc : Thread Cert.RwkvFIdeal.nD Cert.RwkvFIdeal.τ).loc Cert.RwkvFIdeal.main_arg10)
      ∧ m' ((c.tc : Thread Cert.RwkvFRefIdeal.nD Cert.RwkvFRefIdeal.τ).loc Cert.RwkvFRefIdeal.main_arg11) = m ((c.tc : Thread Cert.RwkvFIdeal.nD Cert.RwkvFIdeal.τ).loc Cert.RwkvFIdeal.main_arg11)
      ∧ m' ((c.tc : Thread Cert.RwkvFRefIdeal.nD Cert.RwkvFRefIdeal.τ).loc Cert.RwkvFRefIdeal.main_arg12) = m ((c.tc : Thread Cert.RwkvFIdeal.nD Cert.RwkvFIdeal.τ).loc Cert.RwkvFIdeal.main_arg12)
      ∧ m' ((c.tc : Thread Cert.RwkvFRefIdeal.nD Cert.RwkvFRefIdeal.τ).loc Cert.RwkvFRefIdeal.main_arg13) = m ((c.tc : Thread Cert.RwkvFIdeal.nD Cert.RwkvFIdeal.τ).loc Cert.RwkvFIdeal.main_arg13)) →
    ∃ (v0 : (c : Dev Cert.RwkvFIdeal.nD) → Buf (Elt Ideal) ((c.tc : Thread Cert.RwkvFIdeal.nD Cert.RwkvFIdeal.τ).loc Cert.RwkvFIdeal.main_v33)),
      θ_run (Cert.RwkvFIdeal.defs (F := Ideal)) (onTc (τ := Cert.RwkvFIdeal.τ) (Cert.RwkvFIdeal.main (F := Ideal))) ⟨m, fun _ => 0, g⟩ (fun r => ∀ c : Dev Cert.RwkvFIdeal.nD,
          r.2.mem ((c.tc : Thread Cert.RwkvFIdeal.nD Cert.RwkvFIdeal.τ).loc Cert.RwkvFIdeal.main_v33) = v0 c
          ∧ r.2.mem ((c.tc : Thread Cert.RwkvFIdeal.nD Cert.RwkvFIdeal.τ).loc Cert.RwkvFIdeal.main_arg0) = m ((c.tc : Thread Cert.RwkvFIdeal.nD Cert.RwkvFIdeal.τ).loc Cert.RwkvFIdeal.main_arg0)
          ∧ r.2.mem ((c.tc : Thread Cert.RwkvFIdeal.nD Cert.RwkvFIdeal.τ).loc Cert.RwkvFIdeal.main_arg1) = m ((c.tc : Thread Cert.RwkvFIdeal.nD Cert.RwkvFIdeal.τ).loc Cert.RwkvFIdeal.main_arg1)
          ∧ r.2.mem ((c.tc : Thread Cert.RwkvFIdeal.nD Cert.RwkvFIdeal.τ).loc Cert.RwkvFIdeal.main_arg2) = m ((c.tc : Thread Cert.RwkvFIdeal.nD Cert.RwkvFIdeal.τ).loc Cert.RwkvFIdeal.main_arg2)
          ∧ r.2.mem ((c.tc : Thread Cert.RwkvFIdeal.nD Cert.RwkvFIdeal.τ).loc Cert.RwkvFIdeal.main_arg3) = m ((c.tc : Thread Cert.RwkvFIdeal.nD Cert.RwkvFIdeal.τ).loc Cert.RwkvFIdeal.main_arg3)
          ∧ r.2.mem ((c.tc : Thread Cert.RwkvFIdeal.nD Cert.RwkvFIdeal.τ).loc Cert.RwkvFIdeal.main_arg4) = m ((c.tc : Thread Cert.RwkvFIdeal.nD Cert.RwkvFIdeal.τ).loc Cert.RwkvFIdeal.main_arg4)
          ∧ r.2.mem ((c.tc : Thread Cert.RwkvFIdeal.nD Cert.RwkvFIdeal.τ).loc Cert.RwkvFIdeal.main_arg5) = m ((c.tc : Thread Cert.RwkvFIdeal.nD Cert.RwkvFIdeal.τ).loc Cert.RwkvFIdeal.main_arg5)
          ∧ r.2.mem ((c.tc : Thread Cert.RwkvFIdeal.nD Cert.RwkvFIdeal.τ).loc Cert.RwkvFIdeal.main_arg6) = m ((c.tc : Thread Cert.RwkvFIdeal.nD Cert.RwkvFIdeal.τ).loc Cert.RwkvFIdeal.main_arg6)
          ∧ r.2.mem ((c.tc : Thread Cert.RwkvFIdeal.nD Cert.RwkvFIdeal.τ).loc Cert.RwkvFIdeal.main_arg7) = m ((c.tc : Thread Cert.RwkvFIdeal.nD Cert.RwkvFIdeal.τ).loc Cert.RwkvFIdeal.main_arg7)
          ∧ r.2.mem ((c.tc : Thread Cert.RwkvFIdeal.nD Cert.RwkvFIdeal.τ).loc Cert.RwkvFIdeal.main_arg8) = m ((c.tc : Thread Cert.RwkvFIdeal.nD Cert.RwkvFIdeal.τ).loc Cert.RwkvFIdeal.main_arg8)
          ∧ r.2.mem ((c.tc : Thread Cert.RwkvFIdeal.nD Cert.RwkvFIdeal.τ).loc Cert.RwkvFIdeal.main_arg9) = m ((c.tc : Thread Cert.RwkvFIdeal.nD Cert.RwkvFIdeal.τ).loc Cert.RwkvFIdeal.main_arg9)
          ∧ r.2.mem ((c.tc : Thread Cert.RwkvFIdeal.nD Cert.RwkvFIdeal.τ).loc Cert.RwkvFIdeal.main_arg10) = m ((c.tc : Thread Cert.RwkvFIdeal.nD Cert.RwkvFIdeal.τ).loc Cert.RwkvFIdeal.main_arg10)
          ∧ r.2.mem ((c.tc : Thread Cert.RwkvFIdeal.nD Cert.RwkvFIdeal.τ).loc Cert.RwkvFIdeal.main_arg11) = m ((c.tc : Thread Cert.RwkvFIdeal.nD Cert.RwkvFIdeal.τ).loc Cert.RwkvFIdeal.main_arg11)
          ∧ r.2.mem ((c.tc : Thread Cert.RwkvFIdeal.nD Cert.RwkvFIdeal.τ).loc Cert.RwkvFIdeal.main_arg12) = m ((c.tc : Thread Cert.RwkvFIdeal.nD Cert.RwkvFIdeal.τ).loc Cert.RwkvFIdeal.main_arg12)
          ∧ r.2.mem ((c.tc : Thread Cert.RwkvFIdeal.nD Cert.RwkvFIdeal.τ).loc Cert.RwkvFIdeal.main_arg13) = m ((c.tc : Thread Cert.RwkvFIdeal.nD Cert.RwkvFIdeal.τ).loc Cert.RwkvFIdeal.main_arg13))
      ∧ θ_run (Cert.RwkvFRefIdeal.defs (F := Ideal)) (onTc (τ := Cert.RwkvFRefIdeal.τ) (Cert.RwkvFRefIdeal.main (F := Ideal))) ⟨m', fun _ => 0, g'⟩ (fun r => ∀ c : Dev Cert.RwkvFRefIdeal.nD,
          r.2.mem ((c.tc : Thread Cert.RwkvFRefIdeal.nD Cert.RwkvFRefIdeal.τ).loc Cert.RwkvFRefIdeal.main_v2) = v0 c
          ∧ r.2.mem ((c.tc : Thread Cert.RwkvFRefIdeal.nD Cert.RwkvFRefIdeal.τ).loc Cert.RwkvFRefIdeal.main_arg0) = m' ((c.tc : Thread Cert.RwkvFRefIdeal.nD Cert.RwkvFRefIdeal.τ).loc Cert.RwkvFRefIdeal.main_arg0)
          ∧ r.2.mem ((c.tc : Thread Cert.RwkvFRefIdeal.nD Cert.RwkvFRefIdeal.τ).loc Cert.RwkvFRefIdeal.main_arg1) = m' ((c.tc : Thread Cert.RwkvFRefIdeal.nD Cert.RwkvFRefIdeal.τ).loc Cert.RwkvFRefIdeal.main_arg1)
          ∧ r.2.mem ((c.tc : Thread Cert.RwkvFRefIdeal.nD Cert.RwkvFRefIdeal.τ).loc Cert.RwkvFRefIdeal.main_arg2) = m' ((c.tc : Thread Cert.RwkvFRefIdeal.nD Cert.RwkvFRefIdeal.τ).loc Cert.RwkvFRefIdeal.main_arg2)
          ∧ r.2.mem ((c.tc : Thread Cert.RwkvFRefIdeal.nD Cert.RwkvFRefIdeal.τ).loc Cert.RwkvFRefIdeal.main_arg3) = m' ((c.tc : Thread Cert.RwkvFRefIdeal.nD Cert.RwkvFRefIdeal.τ).loc Cert.RwkvFRefIdeal.main_arg3)
          ∧ r.2.mem ((c.tc : Thread Cert.RwkvFRefIdeal.nD Cert.RwkvFRefIdeal.τ).loc Cert.RwkvFRefIdeal.main_arg4) = m' ((c.tc : Thread Cert.RwkvFRefIdeal.nD Cert.RwkvFRefIdeal.τ).loc Cert.RwkvFRefIdeal.main_arg4)
          ∧ r.2.mem ((c.tc : Thread Cert.RwkvFRefIdeal.nD Cert.RwkvFRefIdeal.τ).loc Cert.RwkvFRefIdeal.main_arg5) = m' ((c.tc : Thread Cert.RwkvFRefIdeal.nD Cert.RwkvFRefIdeal.τ).loc Cert.RwkvFRefIdeal.main_arg5)
          ∧ r.2.mem ((c.tc : Thread Cert.RwkvFRefIdeal.nD Cert.RwkvFRefIdeal.τ).loc Cert.RwkvFRefIdeal.main_arg6) = m' ((c.tc : Thread Cert.RwkvFRefIdeal.nD Cert.RwkvFRefIdeal.τ).loc Cert.RwkvFRefIdeal.main_arg6)
          ∧ r.2.mem ((c.tc : Thread Cert.RwkvFRefIdeal.nD Cert.RwkvFRefIdeal.τ).loc Cert.RwkvFRefIdeal.main_arg7) = m' ((c.tc : Thread Cert.RwkvFRefIdeal.nD Cert.RwkvFRefIdeal.τ).loc Cert.RwkvFRefIdeal.main_arg7)
          ∧ r.2.mem ((c.tc : Thread Cert.RwkvFRefIdeal.nD Cert.RwkvFRefIdeal.τ).loc Cert.RwkvFRefIdeal.main_arg8) = m' ((c.tc : Thread Cert.RwkvFRefIdeal.nD Cert.RwkvFRefIdeal.τ).loc Cert.RwkvFRefIdeal.main_arg8)
          ∧ r.2.mem ((c.tc : Thread Cert.RwkvFRefIdeal.nD Cert.RwkvFRefIdeal.τ).loc Cert.RwkvFRefIdeal.main_arg9) = m' ((c.tc : Thread Cert.RwkvFRefIdeal.nD Cert.RwkvFRefIdeal.τ).loc Cert.RwkvFRefIdeal.main_arg9)
          ∧ r.2.mem ((c.tc : Thread Cert.RwkvFRefIdeal.nD Cert.RwkvFRefIdeal.τ).loc Cert.RwkvFRefIdeal.main_arg10) = m' ((c.tc : Thread Cert.RwkvFRefIdeal.nD Cert.RwkvFRefIdeal.τ).loc Cert.RwkvFRefIdeal.main_arg10)
          ∧ r.2.mem ((c.tc : Thread Cert.RwkvFRefIdeal.nD Cert.RwkvFRefIdeal.τ).loc Cert.RwkvFRefIdeal.main_arg11) = m' ((c.tc : Thread Cert.RwkvFRefIdeal.nD Cert.RwkvFRefIdeal.τ).loc Cert.RwkvFRefIdeal.main_arg11)
          ∧ r.2.mem ((c.tc : Thread Cert.RwkvFRefIdeal.nD Cert.RwkvFRefIdeal.τ).loc Cert.RwkvFRefIdeal.main_arg12) = m' ((c.tc : Thread Cert.RwkvFRefIdeal.nD Cert.RwkvFRefIdeal.τ).loc Cert.RwkvFRefIdeal.main_arg12)
          ∧ r.2.mem ((c.tc : Thread Cert.RwkvFRefIdeal.nD Cert.RwkvFRefIdeal.τ).loc Cert.RwkvFRefIdeal.main_arg13) = m' ((c.tc : Thread Cert.RwkvFRefIdeal.nD Cert.RwkvFRefIdeal.τ).loc Cert.RwkvFRefIdeal.main_arg13))

def Claim : Prop :=
  ∃ (hRet : Cert.Ret.Facts) (hRetIdeal : Cert.RetIdeal.Facts) (hRetRefIdeal : Cert.RetRefIdeal.Facts) (hMixers : Cert.Mixers.Facts) (hMixersIdeal : Cert.MixersIdeal.Facts) (hMixersRefIdeal : Cert.MixersRefIdeal.Facts) (hRwkv : Cert.Rwkv.Facts) (hRwkvIdeal : Cert.RwkvIdeal.Facts) (hRwkvRefIdeal : Cert.RwkvRefIdeal.Facts) (hFfn : Cert.Ffn.Facts) (hFfnIdeal : Cert.FfnIdeal.Facts) (hFfnRefIdeal : Cert.FfnRefIdeal.Facts) (hFfnS : Cert.FfnS.Facts) (hFfnSIdeal : Cert.FfnSIdeal.Facts) (hFfnSRefIdeal : Cert.FfnSRefIdeal.Facts) (hMerge : Cert.Merge.Facts) (hMergeIdeal : Cert.MergeIdeal.Facts) (hMergeRefIdeal : Cert.MergeRefIdeal.Facts) (hInA : Cert.InA.Facts) (hInAIdeal : Cert.InAIdeal.Facts) (hInARefIdeal : Cert.InARefIdeal.Facts) (hInB : Cert.InB.Facts) (hInBIdeal : Cert.InBIdeal.Facts) (hInBRefIdeal : Cert.InBRefIdeal.Facts) (hInG : Cert.InG.Facts) (hInGIdeal : Cert.InGIdeal.Facts) (hInGRefIdeal : Cert.InGRefIdeal.Facts) (hAda : Cert.Ada.Facts) (hAdaIdeal : Cert.AdaIdeal.Facts) (hAdaRefIdeal : Cert.AdaRefIdeal.Facts) (hPrenorm : Cert.Prenorm.Facts) (hPrenormIdeal : Cert.PrenormIdeal.Facts) (hPrenormRefIdeal : Cert.PrenormRefIdeal.Facts) (hInAS : Cert.InAS.Facts) (hInASIdeal : Cert.InASIdeal.Facts) (hInASRefIdeal : Cert.InASRefIdeal.Facts) (hInBS : Cert.InBS.Facts) (hInBSIdeal : Cert.InBSIdeal.Facts) (hInBSRefIdeal : Cert.InBSRefIdeal.Facts) (hInGS : Cert.InGS.Facts) (hInGSIdeal : Cert.InGSIdeal.Facts) (hInGSRefIdeal : Cert.InGSRefIdeal.Facts) (hMergeS : Cert.MergeS.Facts) (hMergeSIdeal : Cert.MergeSIdeal.Facts) (hMergeSRefIdeal : Cert.MergeSRefIdeal.Facts) (hPrenormS : Cert.PrenormS.Facts) (hPrenormSIdeal : Cert.PrenormSIdeal.Facts) (hPrenormSRefIdeal : Cert.PrenormSRefIdeal.Facts) (hFfnN : Cert.FfnN.Facts) (hFfnNIdeal : Cert.FfnNIdeal.Facts) (hFfnNRefIdeal : Cert.FfnNRefIdeal.Facts) (hFfnNS : Cert.FfnNS.Facts) (hFfnNSIdeal : Cert.FfnNSIdeal.Facts) (hFfnNSRefIdeal : Cert.FfnNSRefIdeal.Facts) (hRetF : Cert.RetF.Facts) (hRetFIdeal : Cert.RetFIdeal.Facts) (hRetFRefIdeal : Cert.RetFRefIdeal.Facts) (hMixersF : Cert.MixersF.Facts) (hMixersFIdeal : Cert.MixersFIdeal.Facts) (hMixersFRefIdeal : Cert.MixersFRefIdeal.Facts) (hRwkvF : Cert.RwkvF.Facts) (hRwkvFIdeal : Cert.RwkvFIdeal.Facts) (hRwkvFRefIdeal : Cert.RwkvFRefIdeal.Facts),
    quiescent_Ret (hRet := hRet)
    ∧ quiescent_RetIdeal (hRetIdeal := hRetIdeal)
    ∧ quiescent_RetRefIdeal (hRetRefIdeal := hRetRefIdeal)
    ∧ quiescent_Mixers (hMixers := hMixers)
    ∧ quiescent_MixersIdeal (hMixersIdeal := hMixersIdeal)
    ∧ quiescent_MixersRefIdeal (hMixersRefIdeal := hMixersRefIdeal)
    ∧ quiescent_Rwkv (hRwkv := hRwkv)
    ∧ quiescent_RwkvIdeal (hRwkvIdeal := hRwkvIdeal)
    ∧ quiescent_RwkvRefIdeal (hRwkvRefIdeal := hRwkvRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_Merge (hMerge := hMerge)
    ∧ quiescent_MergeIdeal (hMergeIdeal := hMergeIdeal)
    ∧ quiescent_MergeRefIdeal (hMergeRefIdeal := hMergeRefIdeal)
    ∧ quiescent_InA (hInA := hInA)
    ∧ quiescent_InAIdeal (hInAIdeal := hInAIdeal)
    ∧ quiescent_InARefIdeal (hInARefIdeal := hInARefIdeal)
    ∧ quiescent_InB (hInB := hInB)
    ∧ quiescent_InBIdeal (hInBIdeal := hInBIdeal)
    ∧ quiescent_InBRefIdeal (hInBRefIdeal := hInBRefIdeal)
    ∧ quiescent_InG (hInG := hInG)
    ∧ quiescent_InGIdeal (hInGIdeal := hInGIdeal)
    ∧ quiescent_InGRefIdeal (hInGRefIdeal := hInGRefIdeal)
    ∧ quiescent_Ada (hAda := hAda)
    ∧ quiescent_AdaIdeal (hAdaIdeal := hAdaIdeal)
    ∧ quiescent_AdaRefIdeal (hAdaRefIdeal := hAdaRefIdeal)
    ∧ quiescent_Prenorm (hPrenorm := hPrenorm)
    ∧ quiescent_PrenormIdeal (hPrenormIdeal := hPrenormIdeal)
    ∧ quiescent_PrenormRefIdeal (hPrenormRefIdeal := hPrenormRefIdeal)
    ∧ quiescent_InAS (hInAS := hInAS)
    ∧ quiescent_InASIdeal (hInASIdeal := hInASIdeal)
    ∧ quiescent_InASRefIdeal (hInASRefIdeal := hInASRefIdeal)
    ∧ quiescent_InBS (hInBS := hInBS)
    ∧ quiescent_InBSIdeal (hInBSIdeal := hInBSIdeal)
    ∧ quiescent_InBSRefIdeal (hInBSRefIdeal := hInBSRefIdeal)
    ∧ quiescent_InGS (hInGS := hInGS)
    ∧ quiescent_InGSIdeal (hInGSIdeal := hInGSIdeal)
    ∧ quiescent_InGSRefIdeal (hInGSRefIdeal := hInGSRefIdeal)
    ∧ quiescent_MergeS (hMergeS := hMergeS)
    ∧ quiescent_MergeSIdeal (hMergeSIdeal := hMergeSIdeal)
    ∧ quiescent_MergeSRefIdeal (hMergeSRefIdeal := hMergeSRefIdeal)
    ∧ quiescent_PrenormS (hPrenormS := hPrenormS)
    ∧ quiescent_PrenormSIdeal (hPrenormSIdeal := hPrenormSIdeal)
    ∧ quiescent_PrenormSRefIdeal (hPrenormSRefIdeal := hPrenormSRefIdeal)
    ∧ quiescent_FfnN (hFfnN := hFfnN)
    ∧ quiescent_FfnNIdeal (hFfnNIdeal := hFfnNIdeal)
    ∧ quiescent_FfnNRefIdeal (hFfnNRefIdeal := hFfnNRefIdeal)
    ∧ quiescent_FfnNS (hFfnNS := hFfnNS)
    ∧ quiescent_FfnNSIdeal (hFfnNSIdeal := hFfnNSIdeal)
    ∧ quiescent_FfnNSRefIdeal (hFfnNSRefIdeal := hFfnNSRefIdeal)
    ∧ quiescent_RetF (hRetF := hRetF)
    ∧ quiescent_RetFIdeal (hRetFIdeal := hRetFIdeal)
    ∧ quiescent_RetFRefIdeal (hRetFRefIdeal := hRetFRefIdeal)
    ∧ quiescent_MixersF (hMixersF := hMixersF)
    ∧ quiescent_MixersFIdeal (hMixersFIdeal := hMixersFIdeal)
    ∧ quiescent_MixersFRefIdeal (hMixersFRefIdeal := hMixersFRefIdeal)
    ∧ quiescent_RwkvF (hRwkvF := hRwkvF)
    ∧ quiescent_RwkvFIdeal (hRwkvFIdeal := hRwkvFIdeal)
    ∧ quiescent_RwkvFRefIdeal (hRwkvFRefIdeal := hRwkvFRefIdeal)
    ∧ preserves_Ret_RetIdeal
    ∧ algebraic_RetIdeal_RetRefIdeal (hRetIdeal := hRetIdeal) (hRetRefIdeal := hRetRefIdeal)
    ∧ preserves_Mixers_MixersIdeal
    ∧ algebraic_MixersIdeal_MixersRefIdeal (hMixersIdeal := hMixersIdeal) (hMixersRefIdeal := hMixersRefIdeal)
    ∧ preserves_Rwkv_RwkvIdeal
    ∧ algebraic_RwkvIdeal_RwkvRefIdeal (hRwkvIdeal := hRwkvIdeal) (hRwkvRefIdeal := hRwkvRefIdeal)
    ∧ preserves_Ffn_FfnIdeal
    ∧ algebraic_FfnIdeal_FfnRefIdeal (hFfnIdeal := hFfnIdeal) (hFfnRefIdeal := hFfnRefIdeal)
    ∧ preserves_FfnS_FfnSIdeal
    ∧ algebraic_FfnSIdeal_FfnSRefIdeal (hFfnSIdeal := hFfnSIdeal) (hFfnSRefIdeal := hFfnSRefIdeal)
    ∧ preserves_Merge_MergeIdeal
    ∧ algebraic_MergeIdeal_MergeRefIdeal (hMergeIdeal := hMergeIdeal) (hMergeRefIdeal := hMergeRefIdeal)
    ∧ preserves_InA_InAIdeal
    ∧ algebraic_InAIdeal_InARefIdeal (hInAIdeal := hInAIdeal) (hInARefIdeal := hInARefIdeal)
    ∧ preserves_InB_InBIdeal
    ∧ algebraic_InBIdeal_InBRefIdeal (hInBIdeal := hInBIdeal) (hInBRefIdeal := hInBRefIdeal)
    ∧ preserves_InG_InGIdeal
    ∧ algebraic_InGIdeal_InGRefIdeal (hInGIdeal := hInGIdeal) (hInGRefIdeal := hInGRefIdeal)
    ∧ preserves_Ada_AdaIdeal
    ∧ algebraic_AdaIdeal_AdaRefIdeal (hAdaIdeal := hAdaIdeal) (hAdaRefIdeal := hAdaRefIdeal)
    ∧ preserves_Prenorm_PrenormIdeal
    ∧ algebraic_PrenormIdeal_PrenormRefIdeal (hPrenormIdeal := hPrenormIdeal) (hPrenormRefIdeal := hPrenormRefIdeal)
    ∧ preserves_InAS_InASIdeal
    ∧ algebraic_InASIdeal_InASRefIdeal (hInASIdeal := hInASIdeal) (hInASRefIdeal := hInASRefIdeal)
    ∧ preserves_InBS_InBSIdeal
    ∧ algebraic_InBSIdeal_InBSRefIdeal (hInBSIdeal := hInBSIdeal) (hInBSRefIdeal := hInBSRefIdeal)
    ∧ preserves_InGS_InGSIdeal
    ∧ algebraic_InGSIdeal_InGSRefIdeal (hInGSIdeal := hInGSIdeal) (hInGSRefIdeal := hInGSRefIdeal)
    ∧ preserves_MergeS_MergeSIdeal
    ∧ algebraic_MergeSIdeal_MergeSRefIdeal (hMergeSIdeal := hMergeSIdeal) (hMergeSRefIdeal := hMergeSRefIdeal)
    ∧ preserves_PrenormS_PrenormSIdeal
    ∧ algebraic_PrenormSIdeal_PrenormSRefIdeal (hPrenormSIdeal := hPrenormSIdeal) (hPrenormSRefIdeal := hPrenormSRefIdeal)
    ∧ preserves_FfnN_FfnNIdeal
    ∧ algebraic_FfnNIdeal_FfnNRefIdeal (hFfnNIdeal := hFfnNIdeal) (hFfnNRefIdeal := hFfnNRefIdeal)
    ∧ preserves_FfnNS_FfnNSIdeal
    ∧ algebraic_FfnNSIdeal_FfnNSRefIdeal (hFfnNSIdeal := hFfnNSIdeal) (hFfnNSRefIdeal := hFfnNSRefIdeal)
    ∧ preserves_RetF_RetFIdeal
    ∧ algebraic_RetFIdeal_RetFRefIdeal (hRetFIdeal := hRetFIdeal) (hRetFRefIdeal := hRetFRefIdeal)
    ∧ preserves_MixersF_MixersFIdeal
    ∧ algebraic_MixersFIdeal_MixersFRefIdeal (hMixersFIdeal := hMixersFIdeal) (hMixersFRefIdeal := hMixersFRefIdeal)
    ∧ preserves_RwkvF_RwkvFIdeal
    ∧ algebraic_RwkvFIdeal_RwkvFRefIdeal (hRwkvFIdeal := hRwkvFIdeal) (hRwkvFRefIdeal := hRwkvFRefIdeal)
-- ==== Ret.lean ====
abbrev S32x16x6144 : Shape := ⟨3, ![32, 16, 6144]⟩
abbrev S2x32x4x256x512 : Shape := ⟨5, ![2, 32, 4, 256, 512]⟩
abbrev S512x6144 : Shape := ⟨2, ![512, 6144]⟩
abbrev S_ : Shape := ⟨0, ![]⟩
abbrev S127 : Shape := ⟨1, ![127]⟩
abbrev S1 : Shape := ⟨1, ![1]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S32x128x6144 : Shape := ⟨3, ![32, 128, 6144]⟩
abbrev S4096x6144 : Shape := ⟨2, ![4096, 6144]⟩
abbrev S4096x2048 : Shape := ⟨2, ![4096, 2048]⟩
abbrev S128x6144 : Shape := ⟨2, ![128, 6144]⟩
abbrev S1x1x4x256x512 : Shape := ⟨5, ![1, 1, 4, 256, 512]⟩
abbrev S128x2048 : Shape := ⟨2, ![128, 2048]⟩
abbrev S4x256x512 : Shape := ⟨3, ![4, 256, 512]⟩
abbrev S128x256 : Shape := ⟨2, ![128, 256]⟩
abbrev S128x512 : Shape := ⟨2, ![128, 512]⟩
abbrev S1x1x1x256x512 : Shape := ⟨5, ![1, 1, 1, 256, 512]⟩
abbrev S256x512 : Shape := ⟨2, ![256, 512]⟩
abbrev S256x128 : Shape := ⟨2, ![256, 128]⟩
abbrev S32x128x2048 : Shape := ⟨3, ![32, 128, 2048]⟩
abbrev S32x16x2048 : Shape := ⟨3, ![32, 16, 2048]⟩
abbrev S512x2048 : Shape := ⟨2, ![512, 2048]⟩

abbrev nBuf : Space → Nat
  | .hbm => 53
  | .vmem => 10
  | .smem => 0
  | _ => 0

abbrev bufTy : (tb : Table) → Fin (tcTables nBuf tb) → BufTy
  | .hbm, ⟨0, _⟩ => ⟨S32x16x6144, .bf16⟩
  | .hbm, ⟨1, _⟩ => ⟨S2x32x4x256x512, .f32⟩
  | .hbm, ⟨2, _⟩ => ⟨S2x32x4x256x512, .f32⟩
  | .hbm, ⟨3, _⟩ => ⟨S512x6144, .bf16⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S127, .f32⟩
  | .hbm, ⟨12, _⟩ => ⟨S_, .f32⟩
  | .hbm, ⟨13, _⟩ => ⟨S127, .f32⟩
  | .hbm, ⟨14, _⟩ => ⟨S127, .f32⟩
  | .hbm, ⟨15, _⟩ => ⟨S1, .f32⟩
  | .hbm, ⟨16, _⟩ => ⟨S_, .f32⟩
  | .hbm, ⟨17, _⟩ => ⟨S127, .f32⟩
  | .hbm, ⟨18, _⟩ => ⟨S127, .f32⟩
  | .hbm, ⟨19, _⟩ => ⟨S127, .f32⟩
  | .hbm, ⟨20, _⟩ => ⟨S127, .f32⟩
  | .hbm, ⟨21, _⟩ => ⟨S1, .f32⟩
  | .hbm, ⟨22, _⟩ => ⟨S127, .f32⟩
  | .hbm, ⟨23, _⟩ => ⟨S127, .f32⟩
  | .hbm, ⟨24, _⟩ => ⟨S127, .f32⟩
  | .hbm, ⟨25, _⟩ => ⟨S1, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S128, .i32⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S128, .f32⟩
  | .hbm, ⟨36, _⟩ => ⟨S128x1, .f32⟩
  | .hbm, ⟨37, _⟩ => ⟨S1x128, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S32x16x6144, .bf16⟩
  | .hbm, ⟨42, _⟩ => ⟨S_, .i32⟩
  | .hbm, ⟨43, _⟩ => ⟨S_, .bf16⟩
  | .hbm, ⟨44, _⟩ => ⟨S32x128x6144, .bf16⟩
  | .hbm, ⟨45, _⟩ => ⟨S4096x6144, .bf16⟩
  | .hbm, ⟨46, _⟩ => ⟨S128x128, .f32⟩
  | .hbm, ⟨47, _⟩ => ⟨S128x128, .f32⟩
  | .hbm, ⟨48, _⟩ => ⟨S4096x2048, .bf16⟩
  | .hbm, ⟨49, _⟩ => ⟨S2x32x4x256x512, .f32⟩
  | .hbm, ⟨50, _⟩ => ⟨S32x128x2048, .bf16⟩
  | .hbm, ⟨51, _⟩ => ⟨S32x16x2048, .bf16⟩
  | .hbm, ⟨52, _⟩ => ⟨S512x2048, .bf16⟩
  | .local _ .vmem, ⟨0, _⟩ => ⟨S128x6144, .bf16⟩
  | .local _ .vmem, ⟨1, _⟩ => ⟨S128x6144, .bf16⟩
  | .local _ .vmem, ⟨2, _⟩ => ⟨S128x128, .f32⟩
  | .local _ .vmem, ⟨3, _⟩ => ⟨S128x128, .f32⟩
  | .local _ .vmem, ⟨4, _⟩ => ⟨S1x1x4x256x512, .f32⟩
  | .local _ .vmem, ⟨5, _⟩ => ⟨S1x1x4x256x512, .f32⟩
  | .local _ .vmem, ⟨6, _⟩ => ⟨S128x2048, .bf16⟩
  | .local _ .vmem, ⟨7, _⟩ => ⟨S128x2048, .bf16⟩
  | .local _ .vmem, ⟨8, _⟩ => ⟨S1x1x4x256x512, .f32⟩
  | .local _ .vmem, ⟨9, _⟩ => ⟨S1x1x4x256x512, .f32⟩
  | _, _ => ⟨S32x16x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v1 : Ref sig .tc := ⟨.hbm, 26, rfl⟩
abbrev main_v2 : Ref sig .tc := ⟨.hbm, 27, rfl⟩
abbrev main_cst_1 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_c : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_2 : Ref sig .tc := ⟨.hbm, 42, rfl⟩
abbrev main_call1_v0 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19_0 : Ref sig .tc := ⟨.hbm, 48, rfl⟩
abbrev main_v19_1 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

abbrev stage0_0 : Fin 2 → Memref sig .tc .vmem S128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x1x4x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RetIdeal.lean ====
variable {F : FTy → Type} [FloatOps F] [Named F]
def κ : String → Option EReal := fun
  | "g16_0" => some ((727423121747185263828481 / 1208925819614629174706176 : ℝ) : EReal)
  | "g16_1" => some ((61581291280182164914327485441 / 79228162514264337593543950336 : ℝ) : EReal)
  | "g16_2" => some ((4579937329576774398276408998492161 / 5192296858534827628530496329220096 : ℝ) : EReal)
  | "g16_3" => some ((319626579315078487616775634918212890625 / 340282366920938463463374607431768211456 : ℝ) : EReal)
  | "log_g0" => some ((Real.log (31 / 32) : ℝ) : EReal)
  | "log_g1" => some ((Real.log (63 / 64) : ℝ) : EReal)
  | "log_g2" => some ((Real.log (127 / 128) : ℝ) : EReal)
  | "log_g3" => some ((Real.log (255 / 256) : ℝ) : EReal)
  | _ => none
-- ==== RetRefIdeal.lean ====
abbrev S32x16x6144 : Shape := ⟨3, ![32, 16, 6144]⟩
abbrev S2x32x4x256x512 : Shape := ⟨5, ![2, 32, 4, 256, 512]⟩
abbrev S1x32x4x256x512 : Shape := ⟨5, ![1, 32, 4, 256, 512]⟩
abbrev S32x4x256x512 : Shape := ⟨4, ![32, 4, 256, 512]⟩
abbrev S16 : Shape := ⟨1, ![16]⟩
abbrev S_ : Shape := ⟨0, ![]⟩
abbrev S32x16x1024 : Shape := ⟨3, ![32, 16, 1024]⟩
abbrev S32x16x2048 : Shape := ⟨3, ![32, 16, 2048]⟩
abbrev S32x16x4x256 : Shape := ⟨4, ![32, 16, 4, 256]⟩
abbrev S127 : Shape := ⟨1, ![127]⟩
abbrev S1 : Shape := ⟨1, ![1]⟩
abbrev S128 : Shape := ⟨1, ![128]⟩
abbrev S16x1 : Shape := ⟨2, ![16, 1]⟩
abbrev S1x128 : Shape := ⟨2, ![1, 128]⟩
abbrev S16x128 : Shape := ⟨2, ![16, 128]⟩
abbrev S1x16x1x128 : Shape := ⟨4, ![1, 16, 1, 128]⟩
abbrev S32x16x4x128 : Shape := ⟨4, ![32, 16, 4, 128]⟩
abbrev S32x16x4x512 : Shape := ⟨4, ![32, 16, 4, 512]⟩
abbrev S32x4x16x256 : Shape := ⟨4, ![32, 4, 16, 256]⟩
abbrev S32x4x16x512 : Shape := ⟨4, ![32, 4, 16, 512]⟩
abbrev S4 : Shape := ⟨1, ![4]⟩
abbrev S1x16 : Shape := ⟨2, ![1, 16]⟩
abbrev S16x16 : Shape := ⟨2, ![16, 16]⟩
abbrev S1x16x16 : Shape := ⟨3, ![1, 16, 16]⟩
abbrev S4x1x1 : Shape := ⟨3, ![4, 1, 1]⟩
abbrev S4x16x16 : Shape := ⟨3, ![4, 16, 16]⟩
abbrev S32x4x16x16 : Shape := ⟨4, ![32, 4, 16, 16]⟩
abbrev S1x4x16x16 : Shape := ⟨4, ![1, 4, 16, 16]⟩
abbrev S4x1 : Shape := ⟨2, ![4, 1]⟩
abbrev S4x16 : Shape := ⟨2, ![4, 16]⟩
abbrev S1x4x16x1 : Shape := ⟨4, ![1, 4, 16, 1]⟩
abbrev S1x4x1x1 : Shape := ⟨4, ![1, 4, 1, 1]⟩
abbrev S32x16x4 : Shape := ⟨3, ![32, 16, 4]⟩
abbrev S32x16x4x1 : Shape := ⟨4, ![32, 16, 4, 1]⟩
abbrev S512x2048 : Shape := ⟨2, ![512, 2048]⟩

abbrev nBuf : Space → Nat
  | .hbm => 229
  | .vmem => 0
  | .smem => 0
  | _ => 0

abbrev hbmTy0_0 (i : Nat) : BufTy := match i % 128 with
  | 0 => ⟨S32x16x6144, .bf16⟩
  | 1 => ⟨S2x32x4x256x512, .f32⟩
  | 2 => ⟨S2x32x4x256x512, .f32⟩
  | 3 => ⟨S1x32x4x256x512, .f32⟩
  | 4 => ⟨S32x4x256x512, .f32⟩
  | 5 => ⟨S16, .i32⟩
  | 6 => ⟨S_, .i32⟩
  | 7 => ⟨S16, .i32⟩
  | 8 => ⟨S16, .i32⟩
  | 9 => ⟨S32x16x6144, .f32⟩
  | 10 => ⟨S32x16x1024, .f32⟩
  | 11 => ⟨S32x16x1024, .f32⟩
  | 12 => ⟨S32x16x2048, .f32⟩
  | 13 => ⟨S32x16x2048, .f32⟩
  | 14 => ⟨S32x16x4x256, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S127, .f32⟩
  | 23 => ⟨S_, .f32⟩
  | 24 => ⟨S127, .f32⟩
  | 25 => ⟨S127, .f32⟩
  | 26 => ⟨S1, .f32⟩
  | 27 => ⟨S_, .f32⟩
  | 28 => ⟨S127, .f32⟩
  | 29 => ⟨S127, .f32⟩
  | 30 => ⟨S127, .f32⟩
  | 31 => ⟨S127, .f32⟩
  | 32 => ⟨S1, .f32⟩
  | 33 => ⟨S127, .f32⟩
  | 34 => ⟨S127, .f32⟩
  | 35 => ⟨S127, .f32⟩
  | 36 => ⟨S1, .f32⟩
  | 37 => ⟨S128, .f32⟩
  | 38 => ⟨S128, .f32⟩
  | 39 => ⟨S_, .f32⟩
  | 40 => ⟨S128, .f32⟩
  | 41 => ⟨S128, .f32⟩
  | 42 => ⟨S16, .f32⟩
  | 43 => ⟨S16x1, .f32⟩
  | 44 => ⟨S1x128, .f32⟩
  | 45 => ⟨S16x128, .f32⟩
  | 46 => ⟨S16x128, .f32⟩
  | 47 => ⟨S16x128, .f32⟩
  | 48 => ⟨S16x128, .f32⟩
  | 49 => ⟨S1x16x1x128, .f32⟩
  | 50 => ⟨S16x128, .f32⟩
  | 51 => ⟨S1x16x1x128, .f32⟩
  | 52 => ⟨S32x16x4x128, .f32⟩
  | 53 => ⟨S32x16x4x128, .f32⟩
  | 54 => ⟨S32x16x4x128, .f32⟩
  | 55 => ⟨S32x16x4x128, .f32⟩
  | 56 => ⟨S32x16x4x128, .f32⟩
  | 57 => ⟨S32x16x4x128, .f32⟩
  | 58 => ⟨S32x16x4x128, .f32⟩
  | 59 => ⟨S32x16x4x128, .f32⟩
  | 60 => ⟨S32x16x4x128, .f32⟩
  | 61 => ⟨S32x16x4x128, .f32⟩
  | 62 => ⟨S32x16x4x128, .f32⟩
  | 63 => ⟨S32x16x4x128, .f32⟩
  | 64 => ⟨S32x16x4x256, .f32⟩
  | 65 => ⟨S32x16x4x256, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S127, .f32⟩
  | 74 => ⟨S_, .f32⟩
  | 75 => ⟨S127, .f32⟩
  | 76 => ⟨S127, .f32⟩
  | 77 => ⟨S1, .f32⟩
  | 78 => ⟨S_, .f32⟩
  | 79 => ⟨S127, .f32⟩
  | 80 => ⟨S127, .f32⟩
  | 81 => ⟨S127, .f32⟩
  | 82 => ⟨S127, .f32⟩
  | 83 => ⟨S1, .f32⟩
  | 84 => ⟨S127, .f32⟩
  | 85 => ⟨S127, .f32⟩
  | 86 => ⟨S127, .f32⟩
  | 87 => ⟨S1, .f32⟩
  | 88 => ⟨S128, .f32⟩
  | 89 => ⟨S128, .f32⟩
  | 90 => ⟨S_, .f32⟩
  | 91 => ⟨S128, .f32⟩
  | 92 => ⟨S128, .f32⟩
  | 93 => ⟨S16, .f32⟩
  | 94 => ⟨S16x1, .f32⟩
  | 95 => ⟨S1x128, .f32⟩
  | 96 => ⟨S16x128, .f32⟩
  | 97 => ⟨S16x128, .f32⟩
  | 98 => ⟨S16x128, .f32⟩
  | 99 => ⟨S16x128, .f32⟩
  | 100 => ⟨S1x16x1x128, .f32⟩
  | 101 => ⟨S16x128, .f32⟩
  | 102 => ⟨S1x16x1x128, .f32⟩
  | 103 => ⟨S32x16x4x128, .f32⟩
  | 104 => ⟨S32x16x4x128, .f32⟩
  | 105 => ⟨S32x16x4x128, .f32⟩
  | 106 => ⟨S32x16x4x128, .f32⟩
  | 107 => ⟨S32x16x4x128, .f32⟩
  | 108 => ⟨S32x16x4x128, .f32⟩
  | 109 => ⟨S32x16x4x128, .f32⟩
  | 110 => ⟨S32x16x4x128, .f32⟩
  | 111 => ⟨S32x16x4x128, .f32⟩
  | 112 => ⟨S32x16x4x128, .f32⟩
  | 113 => ⟨S32x16x4x128, .f32⟩
  | 114 => ⟨S32x16x4x128, .f32⟩
  | 115 => ⟨S32x16x4x256, .f32⟩
  | 116 => ⟨S_, .f32⟩
  | 117 => ⟨S32x16x4x256, .f32⟩
  | 118 => ⟨S32x16x4x256, .f32⟩
  | 119 => ⟨S32x16x4x512, .f32⟩
  | 120 => ⟨S32x4x16x256, .f32⟩
  | 121 => ⟨S32x4x16x256, .f32⟩
  | 122 => ⟨S32x4x16x512, .f32⟩
  | 123 => ⟨S4, .f32⟩
  | 124 => ⟨S_, .f32⟩
  | 125 => ⟨S4, .f32⟩
  | 126 => ⟨S4, .f32⟩
  | 127 => ⟨S_, .f32⟩
  | _ => ⟨S32x16x6144, .bf16⟩

abbrev hbmTy0_1 (i : Nat) : BufTy := match i % 128 with
  | 0 => ⟨S4, .f32⟩
  | 1 => ⟨S4, .f32⟩
  | 2 => ⟨S_, .f32⟩
  | 3 => ⟨S4, .f32⟩
  | 4 => ⟨S4, .f32⟩
  | 5 => ⟨S4, .f32⟩
  | 6 => ⟨S16, .f32⟩
  | 7 => ⟨S16x1, .f32⟩
  | 8 => ⟨S1x16, .f32⟩
  | 9 => ⟨S16x16, .f32⟩
  | 10 => ⟨S16x16, .f32⟩
  | 11 => ⟨S16x16, .f32⟩
  | 12 => ⟨S_, .f32⟩
  | 13 => ⟨S16x16, .f32⟩
  | 14 => ⟨S16x16, .i1⟩
  | 15 => ⟨S_, .f32⟩
  | 16 => ⟨S16x16, .f32⟩
  | 17 => ⟨S16x16, .f32⟩
  | 18 => ⟨S1x16x16, .f32⟩
  | 19 => ⟨S4x1x1, .f32⟩
  | 20 => ⟨S4x16x16, .f32⟩
  | 21 => ⟨S4x16x16, .f32⟩
  | 22 => ⟨S4x16x16, .f32⟩
  | 23 => ⟨S4x16x16, .f32⟩
  | 24 => ⟨S_, .f32⟩
  | 25 => ⟨S_, .f32⟩
  | 26 => ⟨S4x16x16, .i1⟩
  | 27 => ⟨S4x16x16, .f32⟩
  | 28 => ⟨S4x16x16, .f32⟩
  | 29 => ⟨S32x4x16x16, .f32⟩
  | 30 => ⟨S1x4x16x16, .f32⟩
  | 31 => ⟨S32x4x16x16, .f32⟩
  | 32 => ⟨S32x4x16x16, .f32⟩
  | 33 => ⟨S32x4x16x512, .f32⟩
  | 34 => ⟨S_, .f32⟩
  | 35 => ⟨S16, .f32⟩
  | 36 => ⟨S16, .f32⟩
  | 37 => ⟨S1x16, .f32⟩
  | 38 => ⟨S4x1, .f32⟩
  | 39 => ⟨S4x16, .f32⟩
  | 40 => ⟨S4x16, .f32⟩
  | 41 => ⟨S4x16, .f32⟩
  | 42 => ⟨S4x16, .f32⟩
  | 43 => ⟨S1x4x16x1, .f32⟩
  | 44 => ⟨S32x4x16x256, .f32⟩
  | 45 => ⟨S32x4x16x256, .f32⟩
  | 46 => ⟨S32x4x16x512, .f32⟩
  | 47 => ⟨S_, .f32⟩
  | 48 => ⟨S16, .f32⟩
  | 49 => ⟨S16, .f32⟩
  | 50 => ⟨S1x16, .f32⟩
  | 51 => ⟨S4x1, .f32⟩
  | 52 => ⟨S4x16, .f32⟩
  | 53 => ⟨S4x16, .f32⟩
  | 54 => ⟨S4x16, .f32⟩
  | 55 => ⟨S4x16, .f32⟩
  | 56 => ⟨S1x4x16x1, .f32⟩
  | 57 => ⟨S32x4x16x256, .f32⟩
  | 58 => ⟨S32x4x16x256, .f32⟩
  | 59 => ⟨S_, .f32⟩
  | 60 => ⟨S4, .f32⟩
  | 61 => ⟨S4, .f32⟩
  | 62 => ⟨S4, .f32⟩
  | 63 => ⟨S1x4x1x1, .f32⟩
  | 64 => ⟨S32x4x256x512, .f32⟩
  | 65 => ⟨S32x4x256x512, .f32⟩
  | 66 => ⟨S32x4x256x512, .f32⟩
  | 67 => ⟨S32x4x256x512, .f32⟩
  | 68 => ⟨S32x4x16x512, .f32⟩
  | 69 => ⟨S32x16x4x512, .f32⟩
  | 70 => ⟨S32x16x4x512, .f32⟩
  | 71 => ⟨S_, .f32⟩
  | 72 => ⟨S32x16x4, .f32⟩
  | 73 => ⟨S32x16x4x1, .f32⟩
  | 74 => ⟨S_, .f32⟩
  | 75 => ⟨S32x16x4x1, .f32⟩
  | 76 => ⟨S32x16x4x1, .f32⟩
  | 77 => ⟨S_, .f32⟩
  | 78 => ⟨S32x16x4x1, .f32⟩
  | 79 => ⟨S32x16x4x1, .f32⟩
  | 80 => ⟨S32x16x4x1, .f32⟩
  | 81 => ⟨S32x16x4x512, .f32⟩
  | 82 => ⟨S32x16x4x512, .f32⟩
  | 83 => ⟨S32x16x2048, .f32⟩
  | 84 => ⟨S32x16x2048, .f32⟩
  | 85 => ⟨S_, .f32⟩
  | 86 => ⟨S32x16x2048, .f32⟩
  | 87 => ⟨S32x16x2048, .f32⟩
  | 88 => ⟨S_, .f32⟩
  | 89 => ⟨S32x16x2048, .f32⟩
  | 90 => ⟨S32x16x2048, .f32⟩
  | 91 => ⟨S32x16x2048, .f32⟩
  | 92 => ⟨S32x16x2048, .f32⟩
  | 93 => ⟨S32x16x2048, .f32⟩
  | 94 => ⟨S512x2048, .f32⟩
  | 95 => ⟨S512x2048, .bf16⟩
  | 96 => ⟨S1x32x4x256x512, .f32⟩
  | 97 => ⟨S32x4x256x512, .f32⟩
  | 98 => ⟨S1x32x4x256x512, .f32⟩
  | 99 => ⟨S1x32x4x256x512, .f32⟩
  | 100 => ⟨S2x32x4x256x512, .f32⟩
  | _ => ⟨S32x16x6144, .bf16⟩

abbrev hbmTy (i : Nat) : BufTy := match i / 128 with
  | 0 => hbmTy0_0 i
  | 1 => hbmTy0_1 i
  | _ => ⟨S32x16x6144, .bf16⟩

abbrev bufTy : (tb : Table) → Fin (tcTables nBuf tb) → BufTy
  | .hbm, ⟨i, _⟩ => hbmTy i
  | _, _ => ⟨S32x16x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_cst : Ref sig .tc := ⟨.hbm, 20, rfl⟩
abbrev main_call0_v3 : Ref sig .tc := ⟨.hbm, 21, rfl⟩
abbrev main_call0_v4 : Ref sig .tc := ⟨.hbm, 22, rfl⟩
abbrev main_call0_cst_0 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_v11 : Ref sig .tc := ⟨.hbm, 37, rfl⟩
abbrev main_v12 : Ref sig .tc := ⟨.hbm, 38, rfl⟩
abbrev main_cst_1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_2 : Ref sig .tc := ⟨.hbm, 66, rfl⟩
abbrev main_cst_3 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_cst : Ref sig .tc := ⟨.hbm, 71, rfl⟩
abbrev main_call1_v3 : Ref sig .tc := ⟨.hbm, 72, rfl⟩
abbrev main_call1_v4 : Ref sig .tc := ⟨.hbm, 73, rfl⟩
abbrev main_call1_cst_0 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_cst_1 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_v15 : Ref sig .tc := ⟨.hbm, 86, rfl⟩
abbrev main_call1_v16 : Ref sig .tc := ⟨.hbm, 87, rfl⟩
abbrev main_v39 : Ref sig .tc := ⟨.hbm, 88, rfl⟩
abbrev main_v40 : Ref sig .tc := ⟨.hbm, 89, rfl⟩
abbrev main_cst_4 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_5 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_cst_6 : Ref sig .tc := ⟨.hbm, 124, rfl⟩
abbrev main_v73 : Ref sig .tc := ⟨.hbm, 125, rfl⟩
abbrev main_v74 : Ref sig .tc := ⟨.hbm, 126, rfl⟩
abbrev main_cst_7 : Ref sig .tc := ⟨.hbm, 127, rfl⟩
abbrev main_v75 : Ref sig .tc := ⟨.hbm, 128, rfl⟩
abbrev main_v76 : Ref sig .tc := ⟨.hbm, 129, rfl⟩
abbrev main_cst_8 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_cst_9 : Ref sig .tc := ⟨.hbm, 140, rfl⟩
abbrev main_v86 : Ref sig .tc := ⟨.hbm, 141, rfl⟩
abbrev main_v87 : Ref sig .tc := ⟨.hbm, 142, rfl⟩
abbrev main_cst_10 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_cst_11 : Ref sig .tc := ⟨.hbm, 152, rfl⟩
abbrev main_call2_v0 : Ref sig .tc := ⟨.hbm, 153, rfl⟩
abbrev main_call2_v1 : Ref sig .tc := ⟨.hbm, 154, rfl⟩
abbrev main_call2_v2 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_cst_12 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_cst_13 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_cst_14 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_cst_15 : Ref sig .tc := ⟨.hbm, 199, rfl⟩
abbrev main_v136 : Ref sig .tc := ⟨.hbm, 200, rfl⟩
abbrev main_v137 : Ref sig .tc := ⟨.hbm, 201, rfl⟩
abbrev main_cst_16 : Ref sig .tc := ⟨.hbm, 202, rfl⟩
abbrev main_v138 : Ref sig .tc := ⟨.hbm, 203, rfl⟩
abbrev main_v139 : Ref sig .tc := ⟨.hbm, 204, rfl⟩
abbrev main_cst_17 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_call3_v0 : Ref sig .tc := ⟨.hbm, 211, rfl⟩
abbrev main_call3_v1 : Ref sig .tc := ⟨.hbm, 212, rfl⟩
abbrev main_call3_cst : Ref sig .tc := ⟨.hbm, 213, rfl⟩
abbrev main_call3_v2 : Ref sig .tc := ⟨.hbm, 214, rfl⟩
abbrev main_call3_v3 : Ref sig .tc := ⟨.hbm, 215, rfl⟩
abbrev main_call3_cst_0 : Ref sig .tc := ⟨.hbm, 216, rfl⟩
abbrev main_call3_v4 : Ref sig .tc := ⟨.hbm, 217, rfl⟩
abbrev main_call3_v5 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩

abbrev nD : Nat := 1
abbrev τ : Topo := Topo.v7x

variable {F : FTy → Type} [FloatOps F]
-- ==== Mixers.lean ====
abbrev S32x2048x3328 : Shape := ⟨3, ![32, 2048, 3328]⟩
abbrev S32x2048x6144 : Shape := ⟨3, ![32, 2048, 6144]⟩
abbrev S3328 : Shape := ⟨1, ![3328]⟩
abbrev S1024 : Shape := ⟨1, ![1024]⟩
abbrev S64x1024 : Shape := ⟨2, ![64, 1024]⟩
abbrev S128x1024 : Shape := ⟨2, ![128, 1024]⟩
abbrev S16x64 : Shape := ⟨2, ![16, 64]⟩
abbrev S2x32x8x128x128 : Shape := ⟨5, ![2, 32, 8, 128, 128]⟩
abbrev S2x32x1x3328 : Shape := ⟨4, ![2, 32, 1, 3328]⟩
abbrev S2x32x4x256x512 : Shape := ⟨5, ![2, 32, 4, 256, 512]⟩
abbrev S_ : Shape := ⟨0, ![]⟩
abbrev S1x3328 : Shape := ⟨2, ![1, 3328]⟩
abbrev S1x1024 : Shape := ⟨2, ![1, 1024]⟩
abbrev S127 : Shape := ⟨1, ![127]⟩
abbrev S1 : Shape := ⟨1, ![1]⟩
abbrev S128 : Shape := ⟨1, ![128]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S65536x3328 : Shape := ⟨2, ![65536, 3328]⟩
abbrev S65536x6144 : Shape := ⟨2, ![65536, 6144]⟩
abbrev S65536x1024 : Shape := ⟨2, ![65536, 1024]⟩
abbrev S65536x2048 : Shape := ⟨2, ![65536, 2048]⟩
abbrev S256x3328 : Shape := ⟨2, ![256, 3328]⟩
abbrev S256x6144 : Shape := ⟨2, ![256, 6144]⟩
abbrev S256x128 : Shape := ⟨2, ![256, 128]⟩
abbrev S256x1024 : Shape := ⟨2, ![256, 1024]⟩
abbrev S1x1x8x128x128 : Shape := ⟨5, ![1, 1, 8, 128, 128]⟩
abbrev S1x1x1x3328 : Shape := ⟨4, ![1, 1, 1, 3328]⟩
abbrev S256x2048 : Shape := ⟨2, ![256, 2048]⟩
abbrev S1x1x4x256x512 : Shape := ⟨5, ![1, 1, 4, 256, 512]⟩
abbrev S8x128x128 : Shape := ⟨3, ![8, 128, 128]⟩
abbrev S4x256x512 : Shape := ⟨3, ![4, 256, 512]⟩
abbrev S256x1 : Shape := ⟨2, ![256, 1]⟩
abbrev S128x128 : Shape := ⟨2, ![128, 128]⟩
abbrev S256x256 : Shape := ⟨2, ![256, 256]⟩
abbrev S1024x256 : Shape := ⟨2, ![1024, 256]⟩
abbrev S64x128 : Shape := ⟨2, ![64, 128]⟩
abbrev S32x128 : Shape := ⟨2, ![32, 128]⟩
abbrev S1x1x1x128x128 : Shape := ⟨5, ![1, 1, 1, 128, 128]⟩
abbrev S192x128 : Shape := ⟨2, ![192, 128]⟩
abbrev S128x1 : Shape := ⟨2, ![128, 1]⟩
abbrev S128x256 : Shape := ⟨2, ![128, 256]⟩
abbrev S128x512 : Shape := ⟨2, ![128, 512]⟩
abbrev S1x1x1x256x512 : Shape := ⟨5, ![1, 1, 1, 256, 512]⟩
abbrev S256x512 : Shape := ⟨2, ![256, 512]⟩
abbrev S2x32x3328 : Shape := ⟨3, ![2, 32, 3328]⟩

abbrev nBuf : Space → Nat
  | .hbm => 78
  | .vmem => 30
  | .smem => 0
  | _ => 0

abbrev bufTy : (tb : Table) → Fin (tcTables nBuf tb) → BufTy
  | .hbm, ⟨0, _⟩ => ⟨S32x2048x3328, .bf16⟩
  | .hbm, ⟨1, _⟩ => ⟨S32x2048x6144, .bf16⟩
  | .hbm, ⟨2, _⟩ => ⟨S3328, .f32⟩
  | .hbm, ⟨3, _⟩ => ⟨S1024, .f32⟩
  | .hbm, ⟨4, _⟩ => ⟨S64x1024, .f32⟩
  | .hbm, ⟨5, _⟩ => ⟨S1024, .f32⟩
  | .hbm, ⟨6, _⟩ => ⟨S64x1024, .f32⟩
  | .hbm, ⟨7, _⟩ => ⟨S128x1024, .f32⟩
  | .hbm, ⟨8, _⟩ => ⟨S1024, .f32⟩
  | .hbm, ⟨9, _⟩ => ⟨S1024, .f32⟩
  | .hbm, ⟨10, _⟩ => ⟨S16x64, .f32⟩
  | .hbm, ⟨11, _⟩ => ⟨S1024, .f32⟩
  | .hbm, ⟨12, _⟩ => ⟨S1024, .f32⟩
  | .hbm, ⟨13, _⟩ => ⟨S2x32x8x128x128, .f32⟩
  | .hbm, ⟨14, _⟩ => ⟨S2x32x1x3328, .f32⟩
  | .hbm, ⟨15, _⟩ => ⟨S2x32x4x256x512, .f32⟩
  | .hbm, ⟨16, _⟩ => ⟨S_, .bf16⟩
  | .hbm, ⟨17, _⟩ => ⟨S64x1024, .bf16⟩
  | .hbm, ⟨18, _⟩ => ⟨S1x3328, .f32⟩
  | .hbm, ⟨19, _⟩ => ⟨S1x1024, .f32⟩
  | .hbm, ⟨20, _⟩ => ⟨S1x1024, .f32⟩
  | .hbm, ⟨21, _⟩ => ⟨S64x1024, .bf16⟩
  | .hbm, ⟨22, _⟩ => ⟨S128x1024, .bf16⟩
  | .hbm, ⟨23, _⟩ => ⟨S64x1024, .bf16⟩
  | .hbm, ⟨24, _⟩ => ⟨S128x1024, .bf16⟩
  | .hbm, ⟨25, _⟩ => ⟨S128x1024, .bf16⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S127, .f32⟩
  | .hbm, ⟨39, _⟩ => ⟨S_, .f32⟩
  | .hbm, ⟨40, _⟩ => ⟨S127, .f32⟩
  | .hbm, ⟨41, _⟩ => ⟨S127, .f32⟩
  | .hbm, ⟨42, _⟩ => ⟨S1, .f32⟩
  | .hbm, ⟨43, _⟩ => ⟨S_, .f32⟩
  | .hbm, ⟨44, _⟩ => ⟨S127, .f32⟩
  | .hbm, ⟨45, _⟩ => ⟨S127, .f32⟩
  | .hbm, ⟨46, _⟩ => ⟨S127, .f32⟩
  | .hbm, ⟨47, _⟩ => ⟨S127, .f32⟩
  | .hbm, ⟨48, _⟩ => ⟨S1, .f32⟩
  | .hbm, ⟨49, _⟩ => ⟨S127, .f32⟩
  | .hbm, ⟨50, _⟩ => ⟨S127, .f32⟩
  | .hbm, ⟨51, _⟩ => ⟨S127, .f32⟩
  | .hbm, ⟨52, _⟩ => ⟨S1, .f32⟩
  | .hbm, ⟨53, _⟩ => ⟨S128, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S2048, .i32⟩
  | .hbm, ⟨59, _⟩ => ⟨S_, .i32⟩
  | .hbm, ⟨60, _⟩ => ⟨S2048, .i32⟩
  | .hbm, ⟨61, _⟩ => ⟨S2048, .i32⟩
  | .hbm, ⟨62, _⟩ => ⟨S2048, .f32⟩
  | .hbm, ⟨63, _⟩ => ⟨S2048x1, .f32⟩
  | .hbm, ⟨64, _⟩ => ⟨S1x128, .f32⟩
  | .hbm, ⟨65, _⟩ => ⟨S2048x128, .f32⟩
  | .hbm, ⟨66, _⟩ => ⟨S2048x128, .f32⟩
  | .hbm, ⟨67, _⟩ => ⟨S2048x128, .f32⟩
  | .hbm, ⟨68, _⟩ => ⟨S65536x3328, .bf16⟩
  | .hbm, ⟨69, _⟩ => ⟨S65536x6144, .bf16⟩
  | .hbm, ⟨70, _⟩ => ⟨S2048x128, .f32⟩
  | .hbm, ⟨71, _⟩ => ⟨S2048x128, .f32⟩
  | .hbm, ⟨72, _⟩ => ⟨S65536x1024, .bf16⟩
  | .hbm, ⟨73, _⟩ => ⟨S2x32x8x128x128, .f32⟩
  | .hbm, ⟨74, _⟩ => ⟨S2x32x1x3328, .f32⟩
  | .hbm, ⟨75, _⟩ => ⟨S65536x2048, .bf16⟩
  | .hbm, ⟨76, _⟩ => ⟨S2x32x4x256x512, .f32⟩
  | .hbm, ⟨77, _⟩ => ⟨S2x32x3328, .f32⟩
  | .local _ .vmem, ⟨0, _⟩ => ⟨S256x3328, .bf16⟩
  | .local _ .vmem, ⟨1, _⟩ => ⟨S256x3328, .bf16⟩
  | .local _ .vmem, ⟨2, _⟩ => ⟨S256x6144, .bf16⟩
  | .local _ .vmem, ⟨3, _⟩ => ⟨S256x6144, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x3328, .f32⟩
  | .local _ .vmem, ⟨9, _⟩ => ⟨S1x1024, .f32⟩
  | .local _ .vmem, ⟨10, _⟩ => ⟨S128x1024, .bf16⟩
  | .local _ .vmem, ⟨11, _⟩ => ⟨S1x1024, .f32⟩
  | .local _ .vmem, ⟨12, _⟩ => ⟨S128x1024, .bf16⟩
  | .local _ .vmem, ⟨13, _⟩ => ⟨S128x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S256x1024, .bf16⟩
  | .local _ .vmem, ⟨20, _⟩ => ⟨S256x1024, .bf16⟩
  | .local _ .vmem, ⟨21, _⟩ => ⟨S1x1x8x128x128, .f32⟩
  | .local _ .vmem, ⟨22, _⟩ => ⟨S1x1x8x128x128, .f32⟩
  | .local _ .vmem, ⟨23, _⟩ => ⟨S1x1x1x3328, .f32⟩
  | .local _ .vmem, ⟨24, _⟩ => ⟨S1x1x1x3328, .f32⟩
  | .local _ .vmem, ⟨25, _⟩ => ⟨S256x2048, .bf16⟩
  | .local _ .vmem, ⟨26, _⟩ => ⟨S256x2048, .bf16⟩
  | .local _ .vmem, ⟨27, _⟩ => ⟨S1x1x4x256x512, .f32⟩
  | .local _ .vmem, ⟨28, _⟩ => ⟨S1x1x4x256x512, .f32⟩
  | .local _ .vmem, ⟨29, _⟩ => ⟨S1x3328, .f32⟩
  | _, _ => ⟨S32x2048x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_cst : Ref sig .tc := ⟨.hbm, 36, rfl⟩
abbrev main_call0_v3 : Ref sig .tc := ⟨.hbm, 37, rfl⟩
abbrev main_call0_v4 : Ref sig .tc := ⟨.hbm, 38, rfl⟩
abbrev main_call0_cst_0 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_v15 : Ref sig .tc := ⟨.hbm, 51, rfl⟩
abbrev main_call0_v16 : Ref sig .tc := ⟨.hbm, 52, rfl⟩
abbrev main_v14 : Ref sig .tc := ⟨.hbm, 53, rfl⟩
abbrev main_v15 : Ref sig .tc := ⟨.hbm, 54, rfl⟩
abbrev main_cst_2 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31_0 : Ref sig .tc := ⟨.hbm, 72, rfl⟩
abbrev main_v31_1 : Ref sig .tc := ⟨.hbm, 73, rfl⟩
abbrev main_v31_2 : Ref sig .tc := ⟨.hbm, 74, rfl⟩
abbrev main_v31_3 : Ref sig .tc := ⟨.hbm, 75, rfl⟩
abbrev main_v31_4 : Ref sig .tc := ⟨.hbm, 76, rfl⟩
abbrev main_v32 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_20 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_22 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

abbrev stage0_0 : Fin 2 → Memref sig .tc .vmem S256x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x3328 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x8x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x1x3328 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S256x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x4x256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== MixersIdeal.lean ====
variable {F : FTy → Type} [FloatOps F] [Named F]
def κ : String → Option EReal := fun
  | "g128_0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "g128_1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "g128_2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "g128_3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "log_g0" => some ((Real.log (31 / 32) : ℝ) : EReal)
  | "log_g1" => some ((Real.log (63 / 64) : ℝ) : EReal)
  | "log_g2" => some ((Real.log (127 / 128) : ℝ) : EReal)
  | "log_g3" => some ((Real.log (255 / 256) : ℝ) : EReal)
  | _ => none
-- ==== MixersRefIdeal.lean ====
abbrev S32x2048x3328 : Shape := ⟨3, ![32, 2048, 3328]⟩
abbrev S32x2048x6144 : Shape := ⟨3, ![32, 2048, 6144]⟩
abbrev S3328 : Shape := ⟨1, ![3328]⟩
abbrev S1024 : Shape := ⟨1, ![1024]⟩
abbrev S64x1024 : Shape := ⟨2, ![64, 1024]⟩
abbrev S128x1024 : Shape := ⟨2, ![128, 1024]⟩
abbrev S16x64 : Shape := ⟨2, ![16, 64]⟩
abbrev S2x32x8x128x128 : Shape := ⟨5, ![2, 32, 8, 128, 128]⟩
abbrev S2x32x1x3328 : Shape := ⟨4, ![2, 32, 1, 3328]⟩
abbrev S2x32x4x256x512 : Shape := ⟨5, ![2, 32, 4, 256, 512]⟩
abbrev S2048 : Shape := ⟨1, ![2048]⟩
abbrev S32x1x3328 : Shape := ⟨3, ![32, 1, 3328]⟩
abbrev S32x3328 : Shape := ⟨2, ![32, 3328]⟩
abbrev S32x2048x1024 : Shape := ⟨3, ![32, 2048, 1024]⟩
abbrev S32x2048x2048 : Shape := ⟨3, ![32, 2048, 2048]⟩
abbrev S32x2048x4x256 : Shape := ⟨4, ![32, 2048, 4, 256]⟩
abbrev S_ : Shape := ⟨0, ![]⟩
abbrev S127 : Shape := ⟨1, ![127]⟩
abbrev S1 : Shape := ⟨1, ![1]⟩
abbrev S128 : Shape := ⟨1, ![128]⟩
abbrev S2048x1 : Shape := ⟨2, ![2048, 1]⟩
abbrev S1x128 : Shape := ⟨2, ![1, 128]⟩
abbrev S2048x128 : Shape := ⟨2, ![2048, 128]⟩
abbrev S1x2048x1x128 : Shape := ⟨4, ![1, 2048, 1, 128]⟩
abbrev S32x2048x4x128 : Shape := ⟨4, ![32, 2048, 4, 128]⟩
abbrev S32x2048x4x512 : Shape := ⟨4, ![32, 2048, 4, 512]⟩
abbrev S32x4x256x512 : Shape := ⟨4, ![32, 4, 256, 512]⟩
abbrev S32x32x64x4x256 : Shape := ⟨5, ![32, 32, 64, 4, 256]⟩
abbrev S32x32x4x64x256 : Shape := ⟨5, ![32, 32, 4, 64, 256]⟩
abbrev S32x32x64x4x512 : Shape := ⟨5, ![32, 32, 64, 4, 512]⟩
abbrev S32x32x4x64x512 : Shape := ⟨5, ![32, 32, 4, 64, 512]⟩
abbrev S4 : Shape := ⟨1, ![4]⟩
abbrev S64 : Shape := ⟨1, ![64]⟩
abbrev S1x64 : Shape := ⟨2, ![1, 64]⟩
abbrev S4x1 : Shape := ⟨2, ![4, 1]⟩
abbrev S4x64 : Shape := ⟨2, ![4, 64]⟩
abbrev S1x4x64x1 : Shape := ⟨4, ![1, 4, 64, 1]⟩
abbrev S1x4x1x1 : Shape := ⟨4, ![1, 4, 1, 1]⟩
abbrev S1x32x4x64x256 : Shape := ⟨5, ![1, 32, 4, 64, 256]⟩
abbrev S32x4x64x256 : Shape := ⟨4, ![32, 4, 64, 256]⟩
abbrev S1x32x4x64x512 : Shape := ⟨5, ![1, 32, 4, 64, 512]⟩
abbrev S32x4x64x512 : Shape := ⟨4, ![32, 4, 64, 512]⟩
abbrev S1x32x1x3328 : Shape := ⟨4, ![1, 32, 1, 3328]⟩
abbrev S1x32x3328 : Shape := ⟨3, ![1, 32, 3328]⟩
abbrev S2x32x3328 : Shape := ⟨3, ![2, 32, 3328]⟩
abbrev S1x32x4x256x512 : Shape := ⟨5, ![1, 32, 4, 256, 512]⟩

abbrev nBuf : Space → Nat
  | .hbm => 443
  | .vmem => 0
  | .smem => 0
  | _ => 0

abbrev hbmTy0_0 (i : Nat) : BufTy := match i % 128 with
  | 0 => ⟨S32x2048x3328, .bf16⟩
  | 1 => ⟨S32x2048x6144, .bf16⟩
  | 2 => ⟨S3328, .f32⟩
  | 3 => ⟨S1024, .f32⟩
  | 4 => ⟨S64x1024, .f32⟩
  | 5 => ⟨S1024, .f32⟩
  | 6 => ⟨S64x1024, .f32⟩
  | 7 => ⟨S128x1024, .f32⟩
  | 8 => ⟨S1024, .f32⟩
  | 9 => ⟨S1024, .f32⟩
  | 10 => ⟨S16x64, .f32⟩
  | 11 => ⟨S1024, .f32⟩
  | 12 => ⟨S1024, .f32⟩
  | 13 => ⟨S2x32x8x128x128, .f32⟩
  | 14 => ⟨S2x32x1x3328, .f32⟩
  | 15 => ⟨S2x32x4x256x512, .f32⟩
  | 16 => ⟨S2048, .i32⟩
  | 17 => ⟨S32x2048x3328, .f32⟩
  | 18 => ⟨S32x1x3328, .f32⟩
  | 19 => ⟨S32x3328, .f32⟩
  | 20 => ⟨S32x2048x6144, .f32⟩
  | 21 => ⟨S32x2048x1024, .f32⟩
  | 22 => ⟨S32x2048x1024, .f32⟩
  | 23 => ⟨S32x2048x2048, .f32⟩
  | 24 => ⟨S32x2048x2048, .f32⟩
  | 25 => ⟨S32x2048x4x256, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S127, .f32⟩
  | 34 => ⟨S_, .f32⟩
  | 35 => ⟨S127, .f32⟩
  | 36 => ⟨S127, .f32⟩
  | 37 => ⟨S1, .f32⟩
  | 38 => ⟨S_, .f32⟩
  | 39 => ⟨S127, .f32⟩
  | 40 => ⟨S127, .f32⟩
  | 41 => ⟨S127, .f32⟩
  | 42 => ⟨S127, .f32⟩
  | 43 => ⟨S1, .f32⟩
  | 44 => ⟨S127, .f32⟩
  | 45 => ⟨S127, .f32⟩
  | 46 => ⟨S127, .f32⟩
  | 47 => ⟨S1, .f32⟩
  | 48 => ⟨S128, .f32⟩
  | 49 => ⟨S128, .f32⟩
  | 50 => ⟨S_, .f32⟩
  | 51 => ⟨S128, .f32⟩
  | 52 => ⟨S128, .f32⟩
  | 53 => ⟨S2048, .f32⟩
  | 54 => ⟨S2048x1, .f32⟩
  | 55 => ⟨S1x128, .f32⟩
  | 56 => ⟨S2048x128, .f32⟩
  | 57 => ⟨S2048x128, .f32⟩
  | 58 => ⟨S2048x128, .f32⟩
  | 59 => ⟨S2048x128, .f32⟩
  | 60 => ⟨S1x2048x1x128, .f32⟩
  | 61 => ⟨S2048x128, .f32⟩
  | 62 => ⟨S1x2048x1x128, .f32⟩
  | 63 => ⟨S32x2048x4x128, .f32⟩
  | 64 => ⟨S32x2048x4x128, .f32⟩
  | 65 => ⟨S32x2048x4x128, .f32⟩
  | 66 => ⟨S32x2048x4x128, .f32⟩
  | 67 => ⟨S32x2048x4x128, .f32⟩
  | 68 => ⟨S32x2048x4x128, .f32⟩
  | 69 => ⟨S32x2048x4x128, .f32⟩
  | 70 => ⟨S32x2048x4x128, .f32⟩
  | 71 => ⟨S32x2048x4x128, .f32⟩
  | 72 => ⟨S32x2048x4x128, .f32⟩
  | 73 => ⟨S32x2048x4x128, .f32⟩
  | 74 => ⟨S32x2048x4x128, .f32⟩
  | 75 => ⟨S32x2048x4x256, .f32⟩
  | 76 => ⟨S_, .f32⟩
  | 77 => ⟨S32x2048x4x256, .f32⟩
  | 78 => ⟨S32x2048x4x256, .f32⟩
  | 79 => ⟨S32x2048x4x512, .f32⟩
  | 80 => ⟨S_, .f32⟩
  | 81 => ⟨S32x4x256x512, .f32⟩
  | 82 => ⟨S32x32x64x4x256, .f32⟩
  | 83 => ⟨S32x32x4x64x256, .f32⟩
  | 84 => ⟨S32x32x64x4x512, .f32⟩
  | 85 => ⟨S32x32x4x64x512, .f32⟩
  | 86 => ⟨S4, .f32⟩
  | 87 => ⟨S_, .f32⟩
  | 88 => ⟨S4, .f32⟩
  | 89 => ⟨S4, .f32⟩
  | 90 => ⟨S_, .f32⟩
  | 91 => ⟨S4, .f32⟩
  | 92 => ⟨S4, .f32⟩
  | 93 => ⟨S_, .f32⟩
  | 94 => ⟨S4, .f32⟩
  | 95 => ⟨S4, .f32⟩
  | 96 => ⟨S4, .f32⟩
  | 97 => ⟨S64, .f32⟩
  | 98 => ⟨S_, .f32⟩
  | 99 => ⟨S64, .f32⟩
  | 100 => ⟨S64, .f32⟩
  | 101 => ⟨S1x64, .f32⟩
  | 102 => ⟨S4x1, .f32⟩
  | 103 => ⟨S4x64, .f32⟩
  | 104 => ⟨S4x64, .f32⟩
  | 105 => ⟨S4x64, .f32⟩
  | 106 => ⟨S4x64, .f32⟩
  | 107 => ⟨S1x4x64x1, .f32⟩
  | 108 => ⟨S_, .f32⟩
  | 109 => ⟨S4, .f32⟩
  | 110 => ⟨S4, .f32⟩
  | 111 => ⟨S4, .f32⟩
  | 112 => ⟨S1x4x1x1, .f32⟩
  | 113 => ⟨S32x4x256x512, .f32⟩
  | 114 => ⟨S32x4x256x512, .f32⟩
  | 115 => ⟨S1x32x4x64x256, .f32⟩
  | 116 => ⟨S32x4x64x256, .f32⟩
  | 117 => ⟨S32x4x64x256, .f32⟩
  | 118 => ⟨S32x4x64x256, .f32⟩
  | 119 => ⟨S1x32x4x64x512, .f32⟩
  | 120 => ⟨S32x4x64x512, .f32⟩
  | 121 => ⟨S32x4x256x512, .f32⟩
  | 122 => ⟨S32x4x256x512, .f32⟩
  | 123 => ⟨S32x4x256x512, .f32⟩
  | 124 => ⟨S32x4x256x512, .f32⟩
  | 125 => ⟨S1x32x4x64x256, .f32⟩
  | 126 => ⟨S32x4x64x256, .f32⟩
  | 127 => ⟨S32x4x64x256, .f32⟩
  | _ => ⟨S32x2048x3328, .bf16⟩

abbrev hbmTy0_1 (i : Nat) : BufTy := match i % 128 with
  | 0 => ⟨S32x4x64x256, .f32⟩
  | 1 => ⟨S1x32x4x64x512, .f32⟩
  | 2 => ⟨S32x4x64x512, .f32⟩
  | 3 => ⟨S32x4x256x512, .f32⟩
  | 4 => ⟨S32x4x256x512, .f32⟩
  | 5 => ⟨S32x4x256x512, .f32⟩
  | 6 => ⟨S32x4x256x512, .f32⟩
  | 7 => ⟨S1x32x4x64x256, .f32⟩
  | 8 => ⟨S32x4x64x256, .f32⟩
  | 9 => ⟨S32x4x64x256, .f32⟩
  | 10 => ⟨S32x4x64x256, .f32⟩
  | 11 => ⟨S1x32x4x64x512, .f32⟩
  | 12 => ⟨S32x4x64x512, .f32⟩
  | 13 => ⟨S32x4x256x512, .f32⟩
  | 14 => ⟨S32x4x256x512, .f32⟩
  | 15 => ⟨S32x4x256x512, .f32⟩
  | 16 => ⟨S32x4x256x512, .f32⟩
  | 17 => ⟨S1x32x4x64x256, .f32⟩
  | 18 => ⟨S32x4x64x256, .f32⟩
  | 19 => ⟨S32x4x64x256, .f32⟩
  | 20 => ⟨S32x4x64x256, .f32⟩
  | 21 => ⟨S1x32x4x64x512, .f32⟩
  | 22 => ⟨S32x4x64x512, .f32⟩
  | 23 => ⟨S32x4x256x512, .f32⟩
  | 24 => ⟨S32x4x256x512, .f32⟩
  | 25 => ⟨S32x4x256x512, .f32⟩
  | 26 => ⟨S32x4x256x512, .f32⟩
  | 27 => ⟨S1x32x4x64x256, .f32⟩
  | 28 => ⟨S32x4x64x256, .f32⟩
  | 29 => ⟨S32x4x64x256, .f32⟩
  | 30 => ⟨S32x4x64x256, .f32⟩
  | 31 => ⟨S1x32x4x64x512, .f32⟩
  | 32 => ⟨S32x4x64x512, .f32⟩
  | 33 => ⟨S32x4x256x512, .f32⟩
  | 34 => ⟨S32x4x256x512, .f32⟩
  | 35 => ⟨S32x4x256x512, .f32⟩
  | 36 => ⟨S32x4x256x512, .f32⟩
  | 37 => ⟨S1x32x4x64x256, .f32⟩
  | 38 => ⟨S32x4x64x256, .f32⟩
  | 39 => ⟨S32x4x64x256, .f32⟩
  | 40 => ⟨S32x4x64x256, .f32⟩
  | 41 => ⟨S1x32x4x64x512, .f32⟩
  | 42 => ⟨S32x4x64x512, .f32⟩
  | 43 => ⟨S32x4x256x512, .f32⟩
  | 44 => ⟨S32x4x256x512, .f32⟩
  | 45 => ⟨S32x4x256x512, .f32⟩
  | 46 => ⟨S32x4x256x512, .f32⟩
  | 47 => ⟨S1x32x4x64x256, .f32⟩
  | 48 => ⟨S32x4x64x256, .f32⟩
  | 49 => ⟨S32x4x64x256, .f32⟩
  | 50 => ⟨S32x4x64x256, .f32⟩
  | 51 => ⟨S1x32x4x64x512, .f32⟩
  | 52 => ⟨S32x4x64x512, .f32⟩
  | 53 => ⟨S32x4x256x512, .f32⟩
  | 54 => ⟨S32x4x256x512, .f32⟩
  | 55 => ⟨S32x4x256x512, .f32⟩
  | 56 => ⟨S32x4x256x512, .f32⟩
  | 57 => ⟨S1x32x4x64x256, .f32⟩
  | 58 => ⟨S32x4x64x256, .f32⟩
  | 59 => ⟨S32x4x64x256, .f32⟩
  | 60 => ⟨S32x4x64x256, .f32⟩
  | 61 => ⟨S1x32x4x64x512, .f32⟩
  | 62 => ⟨S32x4x64x512, .f32⟩
  | 63 => ⟨S32x4x256x512, .f32⟩
  | 64 => ⟨S32x4x256x512, .f32⟩
  | 65 => ⟨S32x4x256x512, .f32⟩
  | 66 => ⟨S32x4x256x512, .f32⟩
  | 67 => ⟨S1x32x4x64x256, .f32⟩
  | 68 => ⟨S32x4x64x256, .f32⟩
  | 69 => ⟨S32x4x64x256, .f32⟩
  | 70 => ⟨S32x4x64x256, .f32⟩
  | 71 => ⟨S1x32x4x64x512, .f32⟩
  | 72 => ⟨S32x4x64x512, .f32⟩
  | 73 => ⟨S32x4x256x512, .f32⟩
  | 74 => ⟨S32x4x256x512, .f32⟩
  | 75 => ⟨S32x4x256x512, .f32⟩
  | 76 => ⟨S32x4x256x512, .f32⟩
  | 77 => ⟨S1x32x4x64x256, .f32⟩
  | 78 => ⟨S32x4x64x256, .f32⟩
  | 79 => ⟨S32x4x64x256, .f32⟩
  | 80 => ⟨S32x4x64x256, .f32⟩
  | 81 => ⟨S1x32x4x64x512, .f32⟩
  | 82 => ⟨S32x4x64x512, .f32⟩
  | 83 => ⟨S32x4x256x512, .f32⟩
  | 84 => ⟨S32x4x256x512, .f32⟩
  | 85 => ⟨S32x4x256x512, .f32⟩
  | 86 => ⟨S32x4x256x512, .f32⟩
  | 87 => ⟨S1x32x4x64x256, .f32⟩
  | 88 => ⟨S32x4x64x256, .f32⟩
  | 89 => ⟨S32x4x64x256, .f32⟩
  | 90 => ⟨S32x4x64x256, .f32⟩
  | 91 => ⟨S1x32x4x64x512, .f32⟩
  | 92 => ⟨S32x4x64x512, .f32⟩
  | 93 => ⟨S32x4x256x512, .f32⟩
  | 94 => ⟨S32x4x256x512, .f32⟩
  | 95 => ⟨S32x4x256x512, .f32⟩
  | 96 => ⟨S32x4x256x512, .f32⟩
  | 97 => ⟨S1x32x4x64x256, .f32⟩
  | 98 => ⟨S32x4x64x256, .f32⟩
  | 99 => ⟨S32x4x64x256, .f32⟩
  | 100 => ⟨S32x4x64x256, .f32⟩
  | 101 => ⟨S1x32x4x64x512, .f32⟩
  | 102 => ⟨S32x4x64x512, .f32⟩
  | 103 => ⟨S32x4x256x512, .f32⟩
  | 104 => ⟨S32x4x256x512, .f32⟩
  | 105 => ⟨S32x4x256x512, .f32⟩
  | 106 => ⟨S32x4x256x512, .f32⟩
  | 107 => ⟨S1x32x4x64x256, .f32⟩
  | 108 => ⟨S32x4x64x256, .f32⟩
  | 109 => ⟨S32x4x64x256, .f32⟩
  | 110 => ⟨S32x4x64x256, .f32⟩
  | 111 => ⟨S1x32x4x64x512, .f32⟩
  | 112 => ⟨S32x4x64x512, .f32⟩
  | 113 => ⟨S32x4x256x512, .f32⟩
  | 114 => ⟨S32x4x256x512, .f32⟩
  | 115 => ⟨S32x4x256x512, .f32⟩
  | 116 => ⟨S32x4x256x512, .f32⟩
  | 117 => ⟨S1x32x4x64x256, .f32⟩
  | 118 => ⟨S32x4x64x256, .f32⟩
  | 119 => ⟨S32x4x64x256, .f32⟩
  | 120 => ⟨S32x4x64x256, .f32⟩
  | 121 => ⟨S1x32x4x64x512, .f32⟩
  | 122 => ⟨S32x4x64x512, .f32⟩
  | 123 => ⟨S32x4x256x512, .f32⟩
  | 124 => ⟨S32x4x256x512, .f32⟩
  | 125 => ⟨S32x4x256x512, .f32⟩
  | 126 => ⟨S32x4x256x512, .f32⟩
  | 127 => ⟨S1x32x4x64x256, .f32⟩
  | _ => ⟨S32x2048x3328, .bf16⟩

abbrev hbmTy0_2 (i : Nat) : BufTy := match i % 128 with
  | 0 => ⟨S32x4x64x256, .f32⟩
  | 1 => ⟨S32x4x64x256, .f32⟩
  | 2 => ⟨S32x4x64x256, .f32⟩
  | 3 => ⟨S1x32x4x64x512, .f32⟩
  | 4 => ⟨S32x4x64x512, .f32⟩
  | 5 => ⟨S32x4x256x512, .f32⟩
  | 6 => ⟨S32x4x256x512, .f32⟩
  | 7 => ⟨S32x4x256x512, .f32⟩
  | 8 => ⟨S32x4x256x512, .f32⟩
  | 9 => ⟨S1x32x4x64x256, .f32⟩
  | 10 => ⟨S32x4x64x256, .f32⟩
  | 11 => ⟨S32x4x64x256, .f32⟩
  | 12 => ⟨S32x4x64x256, .f32⟩
  | 13 => ⟨S1x32x4x64x512, .f32⟩
  | 14 => ⟨S32x4x64x512, .f32⟩
  | 15 => ⟨S32x4x256x512, .f32⟩
  | 16 => ⟨S32x4x256x512, .f32⟩
  | 17 => ⟨S32x4x256x512, .f32⟩
  | 18 => ⟨S32x4x256x512, .f32⟩
  | 19 => ⟨S1x32x4x64x256, .f32⟩
  | 20 => ⟨S32x4x64x256, .f32⟩
  | 21 => ⟨S32x4x64x256, .f32⟩
  | 22 => ⟨S32x4x64x256, .f32⟩
  | 23 => ⟨S1x32x4x64x512, .f32⟩
  | 24 => ⟨S32x4x64x512, .f32⟩
  | 25 => ⟨S32x4x256x512, .f32⟩
  | 26 => ⟨S32x4x256x512, .f32⟩
  | 27 => ⟨S32x4x256x512, .f32⟩
  | 28 => ⟨S32x4x256x512, .f32⟩
  | 29 => ⟨S1x32x4x64x256, .f32⟩
  | 30 => ⟨S32x4x64x256, .f32⟩
  | 31 => ⟨S32x4x64x256, .f32⟩
  | 32 => ⟨S32x4x64x256, .f32⟩
  | 33 => ⟨S1x32x4x64x512, .f32⟩
  | 34 => ⟨S32x4x64x512, .f32⟩
  | 35 => ⟨S32x4x256x512, .f32⟩
  | 36 => ⟨S32x4x256x512, .f32⟩
  | 37 => ⟨S32x4x256x512, .f32⟩
  | 38 => ⟨S32x4x256x512, .f32⟩
  | 39 => ⟨S1x32x4x64x256, .f32⟩
  | 40 => ⟨S32x4x64x256, .f32⟩
  | 41 => ⟨S32x4x64x256, .f32⟩
  | 42 => ⟨S32x4x64x256, .f32⟩
  | 43 => ⟨S1x32x4x64x512, .f32⟩
  | 44 => ⟨S32x4x64x512, .f32⟩
  | 45 => ⟨S32x4x256x512, .f32⟩
  | 46 => ⟨S32x4x256x512, .f32⟩
  | 47 => ⟨S32x4x256x512, .f32⟩
  | 48 => ⟨S32x4x256x512, .f32⟩
  | 49 => ⟨S1x32x4x64x256, .f32⟩
  | 50 => ⟨S32x4x64x256, .f32⟩
  | 51 => ⟨S32x4x64x256, .f32⟩
  | 52 => ⟨S32x4x64x256, .f32⟩
  | 53 => ⟨S1x32x4x64x512, .f32⟩
  | 54 => ⟨S32x4x64x512, .f32⟩
  | 55 => ⟨S32x4x256x512, .f32⟩
  | 56 => ⟨S32x4x256x512, .f32⟩
  | 57 => ⟨S32x4x256x512, .f32⟩
  | 58 => ⟨S32x4x256x512, .f32⟩
  | 59 => ⟨S1x32x4x64x256, .f32⟩
  | 60 => ⟨S32x4x64x256, .f32⟩
  | 61 => ⟨S32x4x64x256, .f32⟩
  | 62 => ⟨S32x4x64x256, .f32⟩
  | 63 => ⟨S1x32x4x64x512, .f32⟩
  | 64 => ⟨S32x4x64x512, .f32⟩
  | 65 => ⟨S32x4x256x512, .f32⟩
  | 66 => ⟨S32x4x256x512, .f32⟩
  | 67 => ⟨S32x4x256x512, .f32⟩
  | 68 => ⟨S32x4x256x512, .f32⟩
  | 69 => ⟨S1x32x4x64x256, .f32⟩
  | 70 => ⟨S32x4x64x256, .f32⟩
  | 71 => ⟨S32x4x64x256, .f32⟩
  | 72 => ⟨S32x4x64x256, .f32⟩
  | 73 => ⟨S1x32x4x64x512, .f32⟩
  | 74 => ⟨S32x4x64x512, .f32⟩
  | 75 => ⟨S32x4x256x512, .f32⟩
  | 76 => ⟨S32x4x256x512, .f32⟩
  | 77 => ⟨S32x4x256x512, .f32⟩
  | 78 => ⟨S32x4x256x512, .f32⟩
  | 79 => ⟨S1x32x4x64x256, .f32⟩
  | 80 => ⟨S32x4x64x256, .f32⟩
  | 81 => ⟨S32x4x64x256, .f32⟩
  | 82 => ⟨S32x4x64x256, .f32⟩
  | 83 => ⟨S1x32x4x64x512, .f32⟩
  | 84 => ⟨S32x4x64x512, .f32⟩
  | 85 => ⟨S32x4x256x512, .f32⟩
  | 86 => ⟨S32x4x256x512, .f32⟩
  | 87 => ⟨S32x4x256x512, .f32⟩
  | 88 => ⟨S32x4x256x512, .f32⟩
  | 89 => ⟨S1x32x4x64x256, .f32⟩
  | 90 => ⟨S32x4x64x256, .f32⟩
  | 91 => ⟨S32x4x64x256, .f32⟩
  | 92 => ⟨S32x4x64x256, .f32⟩
  | 93 => ⟨S1x32x4x64x512, .f32⟩
  | 94 => ⟨S32x4x64x512, .f32⟩
  | 95 => ⟨S32x4x256x512, .f32⟩
  | 96 => ⟨S32x4x256x512, .f32⟩
  | 97 => ⟨S32x4x256x512, .f32⟩
  | 98 => ⟨S32x4x256x512, .f32⟩
  | 99 => ⟨S1x32x4x64x256, .f32⟩
  | 100 => ⟨S32x4x64x256, .f32⟩
  | 101 => ⟨S32x4x64x256, .f32⟩
  | 102 => ⟨S32x4x64x256, .f32⟩
  | 103 => ⟨S1x32x4x64x512, .f32⟩
  | 104 => ⟨S32x4x64x512, .f32⟩
  | 105 => ⟨S32x4x256x512, .f32⟩
  | 106 => ⟨S32x4x256x512, .f32⟩
  | 107 => ⟨S32x4x256x512, .f32⟩
  | 108 => ⟨S32x4x256x512, .f32⟩
  | 109 => ⟨S1x32x4x64x256, .f32⟩
  | 110 => ⟨S32x4x64x256, .f32⟩
  | 111 => ⟨S32x4x64x256, .f32⟩
  | 112 => ⟨S32x4x64x256, .f32⟩
  | 113 => ⟨S1x32x4x64x512, .f32⟩
  | 114 => ⟨S32x4x64x512, .f32⟩
  | 115 => ⟨S32x4x256x512, .f32⟩
  | 116 => ⟨S32x4x256x512, .f32⟩
  | 117 => ⟨S32x4x256x512, .f32⟩
  | 118 => ⟨S32x4x256x512, .f32⟩
  | 119 => ⟨S1x32x4x64x256, .f32⟩
  | 120 => ⟨S32x4x64x256, .f32⟩
  | 121 => ⟨S32x4x64x256, .f32⟩
  | 122 => ⟨S32x4x64x256, .f32⟩
  | 123 => ⟨S1x32x4x64x512, .f32⟩
  | 124 => ⟨S32x4x64x512, .f32⟩
  | 125 => ⟨S32x4x256x512, .f32⟩
  | 126 => ⟨S32x4x256x512, .f32⟩
  | 127 => ⟨S32x4x256x512, .f32⟩
  | _ => ⟨S32x2048x3328, .bf16⟩

abbrev hbmTy0_3 (i : Nat) : BufTy := match i % 128 with
  | 0 => ⟨S32x4x256x512, .f32⟩
  | 1 => ⟨S1x32x4x64x256, .f32⟩
  | 2 => ⟨S32x4x64x256, .f32⟩
  | 3 => ⟨S32x4x64x256, .f32⟩
  | 4 => ⟨S32x4x64x256, .f32⟩
  | 5 => ⟨S1x32x4x64x512, .f32⟩
  | 6 => ⟨S32x4x64x512, .f32⟩
  | 7 => ⟨S32x4x256x512, .f32⟩
  | 8 => ⟨S32x4x256x512, .f32⟩
  | 9 => ⟨S32x4x256x512, .f32⟩
  | 10 => ⟨S32x4x256x512, .f32⟩
  | 11 => ⟨S1x32x4x64x256, .f32⟩
  | 12 => ⟨S32x4x64x256, .f32⟩
  | 13 => ⟨S32x4x64x256, .f32⟩
  | 14 => ⟨S32x4x64x256, .f32⟩
  | 15 => ⟨S1x32x4x64x512, .f32⟩
  | 16 => ⟨S32x4x64x512, .f32⟩
  | 17 => ⟨S32x4x256x512, .f32⟩
  | 18 => ⟨S32x4x256x512, .f32⟩
  | 19 => ⟨S32x4x256x512, .f32⟩
  | 20 => ⟨S32x4x256x512, .f32⟩
  | 21 => ⟨S1x32x4x64x256, .f32⟩
  | 22 => ⟨S32x4x64x256, .f32⟩
  | 23 => ⟨S32x4x64x256, .f32⟩
  | 24 => ⟨S32x4x64x256, .f32⟩
  | 25 => ⟨S1x32x4x64x512, .f32⟩
  | 26 => ⟨S32x4x64x512, .f32⟩
  | 27 => ⟨S32x4x256x512, .f32⟩
  | 28 => ⟨S32x4x256x512, .f32⟩
  | 29 => ⟨S32x4x256x512, .f32⟩
  | 30 => ⟨S32x4x256x512, .f32⟩
  | 31 => ⟨S1x32x4x64x256, .f32⟩
  | 32 => ⟨S32x4x64x256, .f32⟩
  | 33 => ⟨S32x4x64x256, .f32⟩
  | 34 => ⟨S32x4x64x256, .f32⟩
  | 35 => ⟨S1x32x4x64x512, .f32⟩
  | 36 => ⟨S32x4x64x512, .f32⟩
  | 37 => ⟨S32x4x256x512, .f32⟩
  | 38 => ⟨S32x4x256x512, .f32⟩
  | 39 => ⟨S32x4x256x512, .f32⟩
  | 40 => ⟨S32x4x256x512, .f32⟩
  | 41 => ⟨S1x32x4x64x256, .f32⟩
  | 42 => ⟨S32x4x64x256, .f32⟩
  | 43 => ⟨S32x4x64x256, .f32⟩
  | 44 => ⟨S32x4x64x256, .f32⟩
  | 45 => ⟨S1x32x4x64x512, .f32⟩
  | 46 => ⟨S32x4x64x512, .f32⟩
  | 47 => ⟨S32x4x256x512, .f32⟩
  | 48 => ⟨S32x4x256x512, .f32⟩
  | 49 => ⟨S1x32x1x3328, .f32⟩
  | 50 => ⟨S32x3328, .f32⟩
  | 51 => ⟨S1x32x3328, .f32⟩
  | 52 => ⟨S1x32x3328, .f32⟩
  | 53 => ⟨S2x32x3328, .f32⟩
  | 54 => ⟨S1x32x4x256x512, .f32⟩
  | 55 => ⟨S32x4x256x512, .f32⟩
  | 56 => ⟨S1x32x4x256x512, .f32⟩
  | 57 => ⟨S1x32x4x256x512, .f32⟩
  | 58 => ⟨S2x32x4x256x512, .f32⟩
  | _ => ⟨S32x2048x3328, .bf16⟩

abbrev hbmTy (i : Nat) : BufTy := match i / 128 with
  | 0 => hbmTy0_0 i
  | 1 => hbmTy0_1 i
  | 2 => hbmTy0_2 i
  | 3 => hbmTy0_3 i
  | _ => ⟨S32x2048x3328, .bf16⟩

abbrev bufTy : (tb : Table) → Fin (tcTables nBuf tb) → BufTy
  | .hbm, ⟨i, _⟩ => hbmTy i
  | _, _ => ⟨S32x2048x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_cst : Ref sig .tc := ⟨.hbm, 31, rfl⟩
abbrev main_call0_v3 : Ref sig .tc := ⟨.hbm, 32, rfl⟩
abbrev main_call0_v4 : Ref sig .tc := ⟨.hbm, 33, rfl⟩
abbrev main_call0_cst_0 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_v15 : Ref sig .tc := ⟨.hbm, 46, rfl⟩
abbrev main_call0_v16 : Ref sig .tc := ⟨.hbm, 47, rfl⟩
abbrev main_v10 : Ref sig .tc := ⟨.hbm, 48, rfl⟩
abbrev main_v11 : Ref sig .tc := ⟨.hbm, 49, rfl⟩
abbrev main_cst_1 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_2 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_3 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_4 : Ref sig .tc := ⟨.hbm, 87, rfl⟩
abbrev main_v46 : Ref sig .tc := ⟨.hbm, 88, rfl⟩
abbrev main_v47 : Ref sig .tc := ⟨.hbm, 89, rfl⟩
abbrev main_cst_5 : Ref sig .tc := ⟨.hbm, 90, rfl⟩
abbrev main_v48 : Ref sig .tc := ⟨.hbm, 91, rfl⟩
abbrev main_v49 : Ref sig .tc := ⟨.hbm, 92, rfl⟩
abbrev main_cst_6 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_7 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_cst_8 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_v262 : Ref sig .tc := ⟨.hbm, 308, rfl⟩
abbrev main_v263 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_v275 : Ref sig .tc := ⟨.hbm, 321, rfl⟩
abbrev main_v276 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_v280 : Ref sig .tc := ⟨.hbm, 326, rfl⟩
abbrev main_v281 : Ref sig .tc := ⟨.hbm, 327, rfl⟩
abbrev main_v282 : Ref sig .tc := ⟨.hbm, 328, rfl⟩
abbrev main_v283 : Ref sig .tc := ⟨.hbm, 329, rfl⟩
abbrev main_v284 : Ref sig .tc := ⟨.hbm, 330, rfl⟩
abbrev main_v285 : Ref sig .tc := ⟨.hbm, 331, rfl⟩
abbrev main_v286 : Ref sig .tc := ⟨.hbm, 332, rfl⟩
abbrev main_v287 : Ref sig .tc := ⟨.hbm, 333, rfl⟩
abbrev main_v288 : Ref sig .tc := ⟨.hbm, 334, rfl⟩
abbrev main_v289 : Ref sig .tc := ⟨.hbm, 335, rfl⟩
abbrev main_v290 : Ref sig .tc := ⟨.hbm, 336, rfl⟩
abbrev main_v291 : Ref sig .tc := ⟨.hbm, 337, rfl⟩
abbrev main_v292 : Ref sig .tc := ⟨.hbm, 338, rfl⟩
abbrev main_v293 : Ref sig .tc := ⟨.hbm, 339, rfl⟩
abbrev main_v294 : Ref sig .tc := ⟨.hbm, 340, rfl⟩
abbrev main_v295 : Ref sig .tc := ⟨.hbm, 341, rfl⟩
abbrev main_v296 : Ref sig .tc := ⟨.hbm, 342, rfl⟩
abbrev main_v297 : Ref sig .tc := ⟨.hbm, 343, rfl⟩
abbrev main_v298 : Ref sig .tc := ⟨.hbm, 344, rfl⟩
abbrev main_v299 : Ref sig .tc := ⟨.hbm, 345, rfl⟩
abbrev main_v300 : Ref sig .tc := ⟨.hbm, 346, rfl⟩
abbrev main_v301 : Ref sig .tc := ⟨.hbm, 347, rfl⟩
abbrev main_v302 : Ref sig .tc := ⟨.hbm, 348, rfl⟩
abbrev main_v303 : Ref sig .tc := ⟨.hbm, 349, rfl⟩
abbrev main_v304 : Ref sig .tc := ⟨.hbm, 350, rfl⟩
abbrev main_v305 : Ref sig .tc := ⟨.hbm, 351, rfl⟩
abbrev main_v306 : Ref sig .tc := ⟨.hbm, 352, rfl⟩
abbrev main_v307 : Ref sig .tc := ⟨.hbm, 353, rfl⟩
abbrev main_v308 : Ref sig .tc := ⟨.hbm, 354, rfl⟩
abbrev main_v309 : Ref sig .tc := ⟨.hbm, 355, rfl⟩
abbrev main_v310 : Ref sig .tc := ⟨.hbm, 356, rfl⟩
abbrev main_v311 : Ref sig .tc := ⟨.hbm, 357, rfl⟩
abbrev main_v312 : Ref sig .tc := ⟨.hbm, 358, rfl⟩
abbrev main_v313 : Ref sig .tc := ⟨.hbm, 359, rfl⟩
abbrev main_v314 : Ref sig .tc := ⟨.hbm, 360, rfl⟩
abbrev main_v315 : Ref sig .tc := ⟨.hbm, 361, rfl⟩
abbrev main_v316 : Ref sig .tc := ⟨.hbm, 362, rfl⟩
abbrev main_v317 : Ref sig .tc := ⟨.hbm, 363, rfl⟩
abbrev main_v318 : Ref sig .tc := ⟨.hbm, 364, rfl⟩
abbrev main_v319 : Ref sig .tc := ⟨.hbm, 365, rfl⟩
abbrev main_v320 : Ref sig .tc := ⟨.hbm, 366, rfl⟩
abbrev main_v321 : Ref sig .tc := ⟨.hbm, 367, rfl⟩
abbrev main_v322 : Ref sig .tc := ⟨.hbm, 368, rfl⟩
abbrev main_v323 : Ref sig .tc := ⟨.hbm, 369, rfl⟩
abbrev main_v324 : Ref sig .tc := ⟨.hbm, 370, rfl⟩
abbrev main_v325 : Ref sig .tc := ⟨.hbm, 371, rfl⟩
abbrev main_v326 : Ref sig .tc := ⟨.hbm, 372, rfl⟩
abbrev main_v327 : Ref sig .tc := ⟨.hbm, 373, rfl⟩
abbrev main_v328 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_v332 : Ref sig .tc := ⟨.hbm, 378, rfl⟩
abbrev main_v333 : Ref sig .tc := ⟨.hbm, 379, rfl⟩
abbrev main_v334 : Ref sig .tc := ⟨.hbm, 380, rfl⟩
abbrev main_v335 : Ref sig .tc := ⟨.hbm, 381, rfl⟩
abbrev main_v336 : Ref sig .tc := ⟨.hbm, 382, rfl⟩
abbrev main_v337 : Ref sig .tc := ⟨.hbm, 383, rfl⟩
abbrev main_v338 : Ref sig .tc := ⟨.hbm, 384, rfl⟩
abbrev main_v339 : Ref sig .tc := ⟨.hbm, 385, rfl⟩
abbrev main_v340 : Ref sig .tc := ⟨.hbm, 386, rfl⟩
abbrev main_v341 : Ref sig .tc := ⟨.hbm, 387, rfl⟩
abbrev main_v342 : Ref sig .tc := ⟨.hbm, 388, rfl⟩
abbrev main_v343 : Ref sig .tc := ⟨.hbm, 389, rfl⟩
abbrev main_v344 : Ref sig .tc := ⟨.hbm, 390, rfl⟩
abbrev main_v345 : Ref sig .tc := ⟨.hbm, 391, rfl⟩
abbrev main_v346 : Ref sig .tc := ⟨.hbm, 392, rfl⟩
abbrev main_v347 : Ref sig .tc := ⟨.hbm, 393, rfl⟩
abbrev main_v348 : Ref sig .tc := ⟨.hbm, 394, rfl⟩
abbrev main_v349 : Ref sig .tc := ⟨.hbm, 395, rfl⟩
abbrev main_v350 : Ref sig .tc := ⟨.hbm, 396, rfl⟩
abbrev main_v351 : Ref sig .tc := ⟨.hbm, 397, rfl⟩
abbrev main_v352 : Ref sig .tc := ⟨.hbm, 398, rfl⟩
abbrev main_v353 : Ref sig .tc := ⟨.hbm, 399, rfl⟩
abbrev main_v354 : Ref sig .tc := ⟨.hbm, 400, rfl⟩
abbrev main_v355 : Ref sig .tc := ⟨.hbm, 401, rfl⟩
abbrev main_v356 : Ref sig .tc := ⟨.hbm, 402, rfl⟩
abbrev main_v357 : Ref sig .tc := ⟨.hbm, 403, rfl⟩
abbrev main_v358 : Ref sig .tc := ⟨.hbm, 404, rfl⟩
abbrev main_v359 : Ref sig .tc := ⟨.hbm, 405, rfl⟩
abbrev main_v360 : Ref sig .tc := ⟨.hbm, 406, rfl⟩
abbrev main_v361 : Ref sig .tc := ⟨.hbm, 407, rfl⟩
abbrev main_v362 : Ref sig .tc := ⟨.hbm, 408, rfl⟩
abbrev main_v363 : Ref sig .tc := ⟨.hbm, 409, rfl⟩
abbrev main_v364 : Ref sig .tc := ⟨.hbm, 410, rfl⟩
abbrev main_v365 : Ref sig .tc := ⟨.hbm, 411, rfl⟩
abbrev main_v366 : Ref sig .tc := ⟨.hbm, 412, rfl⟩
abbrev main_v367 : Ref sig .tc := ⟨.hbm, 413, rfl⟩
abbrev main_v368 : Ref sig .tc := ⟨.hbm, 414, rfl⟩
abbrev main_v369 : Ref sig .tc := ⟨.hbm, 415, rfl⟩
abbrev main_v370 : Ref sig .tc := ⟨.hbm, 416, rfl⟩
abbrev main_v371 : Ref sig .tc := ⟨.hbm, 417, rfl⟩
abbrev main_v372 : Ref sig .tc := ⟨.hbm, 418, rfl⟩
abbrev main_v373 : Ref sig .tc := ⟨.hbm, 419, rfl⟩
abbrev main_v374 : Ref sig .tc := ⟨.hbm, 420, rfl⟩
abbrev main_v375 : Ref sig .tc := ⟨.hbm, 421, rfl⟩
abbrev main_v376 : Ref sig .tc := ⟨.hbm, 422, rfl⟩
abbrev main_v377 : Ref sig .tc := ⟨.hbm, 423, rfl⟩
abbrev main_v378 : Ref sig .tc := ⟨.hbm, 424, rfl⟩
abbrev main_v379 : Ref sig .tc := ⟨.hbm, 425, rfl⟩
abbrev main_v380 : Ref sig .tc := ⟨.hbm, 426, rfl⟩
abbrev main_v381 : Ref sig .tc := ⟨.hbm, 427, rfl⟩
abbrev main_v382 : Ref sig .tc := ⟨.hbm, 428, rfl⟩
abbrev main_v383 : Ref sig .tc := ⟨.hbm, 429, rfl⟩
abbrev main_v384 : Ref sig .tc := ⟨.hbm, 430, rfl⟩
abbrev main_v385 : Ref sig .tc := ⟨.hbm, 431, rfl⟩
abbrev main_v386 : Ref sig .tc := ⟨.hbm, 432, rfl⟩
abbrev main_v387 : Ref sig .tc := ⟨.hbm, 433, rfl⟩
abbrev main_v388 : Ref sig .tc := ⟨.hbm, 434, rfl⟩
abbrev main_v389 : Ref sig .tc := ⟨.hbm, 435, rfl⟩
abbrev main_v390 : Ref sig .tc := ⟨.hbm, 436, rfl⟩
abbrev main_v391 : Ref sig .tc := ⟨.hbm, 437, rfl⟩
abbrev main_v392 : Ref sig .tc := ⟨.hbm, 438, rfl⟩
abbrev main_v393 : Ref sig .tc := ⟨.hbm, 439, rfl⟩
abbrev main_v394 : Ref sig .tc := ⟨.hbm, 440, rfl⟩
abbrev main_v395 : Ref sig .tc := ⟨.hbm, 441, rfl⟩
abbrev main_v396 : Ref sig .tc := ⟨.hbm, 442, rfl⟩

abbrev nD : Nat := 1
abbrev τ : Topo := Topo.v7x

variable {F : FTy → Type} [FloatOps F]
-- ==== Rwkv.lean ====
abbrev S32x16x3328 : Shape := ⟨3, ![32, 16, 3328]⟩
abbrev S32x3328 : Shape := ⟨2, ![32, 3328]⟩
abbrev S32x16x64x64 : Shape := ⟨4, ![32, 16, 64, 64]⟩
abbrev S3328 : Shape := ⟨1, ![3328]⟩
abbrev S1024 : Shape := ⟨1, ![1024]⟩
abbrev S64x1024 : Shape := ⟨2, ![64, 1024]⟩
abbrev S128x1024 : Shape := ⟨2, ![128, 1024]⟩
abbrev S16x64 : Shape := ⟨2, ![16, 64]⟩
abbrev S2x32x8x128x128 : Shape := ⟨5, ![2, 32, 8, 128, 128]⟩
abbrev S2x32x1x3328 : Shape := ⟨4, ![2, 32, 1, 3328]⟩
abbrev S_ : Shape := ⟨0, ![]⟩
abbrev S1x3328 : Shape := ⟨2, ![1, 3328]⟩
abbrev S1x1024 : Shape := ⟨2, ![1, 1024]⟩
abbrev S512x3328 : Shape := ⟨2, ![512, 3328]⟩
abbrev S32x64x3328 : Shape := ⟨3, ![32, 64, 3328]⟩
abbrev S2048x3328 : Shape := ⟨2, ![2048, 3328]⟩
abbrev S32x1x3328 : Shape := ⟨3, ![32, 1, 3328]⟩
abbrev S32x8x2x64x64 : Shape := ⟨5, ![32, 8, 2, 64, 64]⟩
abbrev S32x8x1x64x64 : Shape := ⟨5, ![32, 8, 1, 64, 64]⟩
abbrev S32x8x64x64 : Shape := ⟨4, ![32, 8, 64, 64]⟩
abbrev S32x8x64x128 : Shape := ⟨4, ![32, 8, 64, 128]⟩
abbrev S32x8x128x128 : Shape := ⟨4, ![32, 8, 128, 128]⟩
abbrev S2048x1024 : Shape := ⟨2, ![2048, 1024]⟩
abbrev S64x3328 : Shape := ⟨2, ![64, 3328]⟩
abbrev S1x1x3328 : Shape := ⟨3, ![1, 1, 3328]⟩
abbrev S1x8x128x128 : Shape := ⟨4, ![1, 8, 128, 128]⟩
abbrev S1x1x8x128x128 : Shape := ⟨5, ![1, 1, 8, 128, 128]⟩
abbrev S1x1x1x3328 : Shape := ⟨4, ![1, 1, 1, 3328]⟩
abbrev S8x128x128 : Shape := ⟨3, ![8, 128, 128]⟩
abbrev S64x1 : Shape := ⟨2, ![64, 1]⟩
abbrev S64x128 : Shape := ⟨2, ![64, 128]⟩
abbrev S128x128 : Shape := ⟨2, ![128, 128]⟩
abbrev S256x256 : Shape := ⟨2, ![256, 256]⟩
abbrev S64x256 : Shape := ⟨2, ![64, 256]⟩
abbrev S256x128 : Shape := ⟨2, ![256, 128]⟩
abbrev S1x128 : Shape := ⟨2, ![1, 128]⟩
abbrev S32x128 : Shape := ⟨2, ![32, 128]⟩
abbrev S1x1x1x128x128 : Shape := ⟨5, ![1, 1, 1, 128, 128]⟩
abbrev S192x128 : Shape := ⟨2, ![192, 128]⟩
abbrev S2x32x3328 : Shape := ⟨3, ![2, 32, 3328]⟩

abbrev nBuf : Space → Nat
  | .hbm => 54
  | .vmem => 24
  | .smem => 0
  | _ => 0

abbrev bufTy : (tb : Table) → Fin (tcTables nBuf tb) → BufTy
  | .hbm, ⟨0, _⟩ => ⟨S32x16x3328, .bf16⟩
  | .hbm, ⟨1, _⟩ => ⟨S32x3328, .f32⟩
  | .hbm, ⟨2, _⟩ => ⟨S32x16x64x64, .f32⟩
  | .hbm, ⟨3, _⟩ => ⟨S3328, .f32⟩
  | .hbm, ⟨4, _⟩ => ⟨S1024, .f32⟩
  | .hbm, ⟨5, _⟩ => ⟨S64x1024, .f32⟩
  | .hbm, ⟨6, _⟩ => ⟨S1024, .f32⟩
  | .hbm, ⟨7, _⟩ => ⟨S64x1024, .f32⟩
  | .hbm, ⟨8, _⟩ => ⟨S128x1024, .f32⟩
  | .hbm, ⟨9, _⟩ => ⟨S1024, .f32⟩
  | .hbm, ⟨10, _⟩ => ⟨S1024, .f32⟩
  | .hbm, ⟨11, _⟩ => ⟨S16x64, .f32⟩
  | .hbm, ⟨12, _⟩ => ⟨S1024, .f32⟩
  | .hbm, ⟨13, _⟩ => ⟨S1024, .f32⟩
  | .hbm, ⟨14, _⟩ => ⟨S2x32x8x128x128, .f32⟩
  | .hbm, ⟨15, _⟩ => ⟨S2x32x1x3328, .f32⟩
  | .hbm, ⟨16, _⟩ => ⟨S_, .bf16⟩
  | .hbm, ⟨17, _⟩ => ⟨S64x1024, .bf16⟩
  | .hbm, ⟨18, _⟩ => ⟨S1x3328, .f32⟩
  | .hbm, ⟨19, _⟩ => ⟨S1x1024, .f32⟩
  | .hbm, ⟨20, _⟩ => ⟨S1x1024, .f32⟩
  | .hbm, ⟨21, _⟩ => ⟨S64x1024, .bf16⟩
  | .hbm, ⟨22, _⟩ => ⟨S128x1024, .bf16⟩
  | .hbm, ⟨23, _⟩ => ⟨S64x1024, .bf16⟩
  | .hbm, ⟨24, _⟩ => ⟨S128x1024, .bf16⟩
  | .hbm, ⟨25, _⟩ => ⟨S128x1024, .bf16⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S512x3328, .bf16⟩
  | .hbm, ⟨32, _⟩ => ⟨S32x16x3328, .bf16⟩
  | .hbm, ⟨33, _⟩ => ⟨S_, .i32⟩
  | .hbm, ⟨34, _⟩ => ⟨S_, .bf16⟩
  | .hbm, ⟨35, _⟩ => ⟨S32x64x3328, .bf16⟩
  | .hbm, ⟨36, _⟩ => ⟨S2048x3328, .bf16⟩
  | .hbm, ⟨37, _⟩ => ⟨S32x1x3328, .f32⟩
  | .hbm, ⟨38, _⟩ => ⟨S32x8x2x64x64, .f32⟩
  | .hbm, ⟨39, _⟩ => ⟨S32x8x1x64x64, .f32⟩
  | .hbm, ⟨40, _⟩ => ⟨S32x8x64x64, .f32⟩
  | .hbm, ⟨41, _⟩ => ⟨S_, .f32⟩
  | .hbm, ⟨42, _⟩ => ⟨S32x8x64x64, .f32⟩
  | .hbm, ⟨43, _⟩ => ⟨S32x8x1x64x64, .f32⟩
  | .hbm, ⟨44, _⟩ => ⟨S32x8x64x64, .f32⟩
  | .hbm, ⟨45, _⟩ => ⟨S32x8x64x128, .f32⟩
  | .hbm, ⟨46, _⟩ => ⟨S32x8x1x64x64, .f32⟩
  | .hbm, ⟨47, _⟩ => ⟨S32x8x64x64, .f32⟩
  | .hbm, ⟨48, _⟩ => ⟨S32x8x64x128, .f32⟩
  | .hbm, ⟨49, _⟩ => ⟨S32x8x128x128, .f32⟩
  | .hbm, ⟨50, _⟩ => ⟨S2048x1024, .bf16⟩
  | .hbm, ⟨51, _⟩ => ⟨S2x32x8x128x128, .f32⟩
  | .hbm, ⟨52, _⟩ => ⟨S2x32x1x3328, .f32⟩
  | .hbm, ⟨53, _⟩ => ⟨S2x32x3328, .f32⟩
  | .local _ .vmem, ⟨0, _⟩ => ⟨S64x3328, .bf16⟩
  | .local _ .vmem, ⟨1, _⟩ => ⟨S64x3328, .bf16⟩
  | .local _ .vmem, ⟨2, _⟩ => ⟨S1x1x3328, .f32⟩
  | .local _ .vmem, ⟨3, _⟩ => ⟨S1x1x3328, .f32⟩
  | .local _ .vmem, ⟨4, _⟩ => ⟨S1x8x128x128, .f32⟩
  | .local _ .vmem, ⟨5, _⟩ => ⟨S1x8x128x128, .f32⟩
  | .local _ .vmem, ⟨6, _⟩ => ⟨S1x3328, .f32⟩
  | .local _ .vmem, ⟨7, _⟩ => ⟨S1x1024, .f32⟩
  | .local _ .vmem, ⟨8, _⟩ => ⟨S128x1024, .bf16⟩
  | .local _ .vmem, ⟨9, _⟩ => ⟨S1x1024, .f32⟩
  | .local _ .vmem, ⟨10, _⟩ => ⟨S128x1024, .bf16⟩
  | .local _ .vmem, ⟨11, _⟩ => ⟨S128x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S64x1024, .bf16⟩
  | .local _ .vmem, ⟨18, _⟩ => ⟨S64x1024, .bf16⟩
  | .local _ .vmem, ⟨19, _⟩ => ⟨S1x1x8x128x128, .f32⟩
  | .local _ .vmem, ⟨20, _⟩ => ⟨S1x1x8x128x128, .f32⟩
  | .local _ .vmem, ⟨21, _⟩ => ⟨S1x1x1x3328, .f32⟩
  | .local _ .vmem, ⟨22, _⟩ => ⟨S1x1x1x3328, .f32⟩
  | .local _ .vmem, ⟨23, _⟩ => ⟨S1x3328, .f32⟩
  | _, _ => ⟨S32x16x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_call0_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30_0 : Ref sig .tc := ⟨.hbm, 50, rfl⟩
abbrev main_v30_1 : Ref sig .tc := ⟨.hbm, 51, rfl⟩
abbrev main_v30_2 : Ref sig .tc := ⟨.hbm, 52, rfl⟩
abbrev main_v31 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_18 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

abbrev stage0_0 : Fin 2 → Memref sig .tc .vmem S64x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3328 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x3328 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x8x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x1x3328 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== RwkvRefIdeal.lean ====
abbrev S32x16x3328 : Shape := ⟨3, ![32, 16, 3328]⟩
abbrev S32x3328 : Shape := ⟨2, ![32, 3328]⟩
abbrev S32x16x64x64 : Shape := ⟨4, ![32, 16, 64, 64]⟩
abbrev S3328 : Shape := ⟨1, ![3328]⟩
abbrev S1024 : Shape := ⟨1, ![1024]⟩
abbrev S64x1024 : Shape := ⟨2, ![64, 1024]⟩
abbrev S128x1024 : Shape := ⟨2, ![128, 1024]⟩
abbrev S16x64 : Shape := ⟨2, ![16, 64]⟩
abbrev S2x32x8x128x128 : Shape := ⟨5, ![2, 32, 8, 128, 128]⟩
abbrev S2x32x1x3328 : Shape := ⟨4, ![2, 32, 1, 3328]⟩
abbrev S1x32x1x3328 : Shape := ⟨4, ![1, 32, 1, 3328]⟩
abbrev S32x1x3328 : Shape := ⟨3, ![32, 1, 3328]⟩
abbrev S1x32x3328 : Shape := ⟨3, ![1, 32, 3328]⟩
abbrev S2x32x3328 : Shape := ⟨3, ![2, 32, 3328]⟩

abbrev nBuf : Space → Nat
  | .hbm => 24
  | .vmem => 0
  | .smem => 0
  | _ => 0

abbrev bufTy : (tb : Table) → Fin (tcTables nBuf tb) → BufTy
  | .hbm, ⟨0, _⟩ => ⟨S32x16x3328, .bf16⟩
  | .hbm, ⟨1, _⟩ => ⟨S32x3328, .f32⟩
  | .hbm, ⟨2, _⟩ => ⟨S32x16x64x64, .f32⟩
  | .hbm, ⟨3, _⟩ => ⟨S3328, .f32⟩
  | .hbm, ⟨4, _⟩ => ⟨S1024, .f32⟩
  | .hbm, ⟨5, _⟩ => ⟨S64x1024, .f32⟩
  | .hbm, ⟨6, _⟩ => ⟨S1024, .f32⟩
  | .hbm, ⟨7, _⟩ => ⟨S64x1024, .f32⟩
  | .hbm, ⟨8, _⟩ => ⟨S128x1024, .f32⟩
  | .hbm, ⟨9, _⟩ => ⟨S1024, .f32⟩
  | .hbm, ⟨10, _⟩ => ⟨S1024, .f32⟩
  | .hbm, ⟨11, _⟩ => ⟨S16x64, .f32⟩
  | .hbm, ⟨12, _⟩ => ⟨S1024, .f32⟩
  | .hbm, ⟨13, _⟩ => ⟨S1024, .f32⟩
  | .hbm, ⟨14, _⟩ => ⟨S2x32x8x128x128, .f32⟩
  | .hbm, ⟨15, _⟩ => ⟨S2x32x1x3328, .f32⟩
  | .hbm, ⟨16, _⟩ => ⟨S1x32x1x3328, .f32⟩
  | .hbm, ⟨17, _⟩ => ⟨S32x3328, .f32⟩
  | .hbm, ⟨18, _⟩ => ⟨S32x16x3328, .f32⟩
  | .hbm, ⟨19, _⟩ => ⟨S32x1x3328, .f32⟩
  | .hbm, ⟨20, _⟩ => ⟨S32x3328, .f32⟩
  | .hbm, ⟨21, _⟩ => ⟨S1x32x3328, .f32⟩
  | .hbm, ⟨22, _⟩ => ⟨S1x32x3328, .f32⟩
  | .hbm, ⟨23, _⟩ => ⟨S2x32x3328, .f32⟩
  | _, _ => ⟨S32x16x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩

abbrev nD : Nat := 1
abbrev τ : Topo := Topo.v7x

variable {F : FTy → Type} [FloatOps F]
-- ==== Ffn.lean ====
abbrev S32x2048x1024 : Shape := ⟨3, ![32, 2048, 1024]⟩
abbrev S32x6144 : Shape := ⟨2, ![32, 6144]⟩
abbrev S2x1024 : Shape := ⟨2, ![2, 1024]⟩
abbrev S1024x4096 : Shape := ⟨2, ![1024, 4096]⟩
abbrev S4096x1024 : Shape := ⟨2, ![4096, 1024]⟩
abbrev S32x1024 : Shape := ⟨2, ![32, 1024]⟩
abbrev S32x1x1024 : Shape := ⟨3, ![32, 1, 1024]⟩
abbrev S65536x1024 : Shape := ⟨2, ![65536, 1024]⟩
abbrev S1x1024 : Shape := ⟨2, ![1, 1024]⟩
abbrev S1024 : Shape := ⟨1, ![1024]⟩
abbrev S512x1024 : Shape := ⟨2, ![512, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 28
  | .vmem => 14
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S2x1024, .f32⟩
  | .hbm, ⟨3, _⟩ => ⟨S2x1024, .f32⟩
  | .hbm, ⟨4, _⟩ => ⟨S1024x4096, .f32⟩
  | .hbm, ⟨5, _⟩ => ⟨S4096x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S32x1x1024, .f32⟩
  | .hbm, ⟨17, _⟩ => ⟨S32x1x1024, .f32⟩
  | .hbm, ⟨18, _⟩ => ⟨S65536x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1024x4096, .bf16⟩
  | .hbm, ⟨26, _⟩ => ⟨S4096x1024, .bf16⟩
  | .hbm, ⟨27, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S512x1024, .f32⟩
  | .local _ .vmem, ⟨13, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnIdeal.lean ====
abbrev S32x2048x1024 : Shape := ⟨3, ![32, 2048, 1024]⟩
abbrev S32x6144 : Shape := ⟨2, ![32, 6144]⟩
abbrev S2x1024 : Shape := ⟨2, ![2, 1024]⟩
abbrev S1024x4096 : Shape := ⟨2, ![1024, 4096]⟩
abbrev S4096x1024 : Shape := ⟨2, ![4096, 1024]⟩
abbrev S32x1024 : Shape := ⟨2, ![32, 1024]⟩
abbrev S32x1x1024 : Shape := ⟨3, ![32, 1, 1024]⟩
abbrev S65536x1024 : Shape := ⟨2, ![65536, 1024]⟩
abbrev S1x1024 : Shape := ⟨2, ![1, 1024]⟩
abbrev S1024 : Shape := ⟨1, ![1024]⟩
abbrev S512x1024 : Shape := ⟨2, ![512, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 28
  | .vmem => 14
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S2x1024, .f32⟩
  | .hbm, ⟨3, _⟩ => ⟨S2x1024, .f32⟩
  | .hbm, ⟨4, _⟩ => ⟨S1024x4096, .f32⟩
  | .hbm, ⟨5, _⟩ => ⟨S4096x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S32x1x1024, .f32⟩
  | .hbm, ⟨17, _⟩ => ⟨S32x1x1024, .f32⟩
  | .hbm, ⟨18, _⟩ => ⟨S65536x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1024x4096, .bf16⟩
  | .hbm, ⟨26, _⟩ => ⟨S4096x1024, .bf16⟩
  | .hbm, ⟨27, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S512x1024, .f32⟩
  | .local _ .vmem, ⟨13, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnRefIdeal.lean ====
abbrev S32x2048x1024 : Shape := ⟨3, ![32, 2048, 1024]⟩
abbrev S32x6144 : Shape := ⟨2, ![32, 6144]⟩
abbrev S2x1024 : Shape := ⟨2, ![2, 1024]⟩
abbrev S1024x4096 : Shape := ⟨2, ![1024, 4096]⟩
abbrev S4096x1024 : Shape := ⟨2, ![4096, 1024]⟩
abbrev S32x1024 : Shape := ⟨2, ![32, 1024]⟩
abbrev S32x1x1024 : Shape := ⟨3, ![32, 1, 1024]⟩
abbrev S1x1024 : Shape := ⟨2, ![1, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4096 : Shape := ⟨3, ![32, 2048, 4096]⟩
abbrev S65536x1024 : Shape := ⟨2, ![65536, 1024]⟩

abbrev nBuf : Space → Nat
  | .hbm => 71
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S2x1024, .f32⟩
  | .hbm, ⟨3, _⟩ => ⟨S2x1024, .f32⟩
  | .hbm, ⟨4, _⟩ => ⟨S1024x4096, .f32⟩
  | .hbm, ⟨5, _⟩ => ⟨S4096x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S32x1x1024, .f32⟩
  | .hbm, ⟨17, _⟩ => ⟨S32x1x1024, .f32⟩
  | .hbm, ⟨18, _⟩ => ⟨S1x1024, .f32⟩
  | .hbm, ⟨19, _⟩ => ⟨S1024, .f32⟩
  | .hbm, ⟨20, _⟩ => ⟨S32x2048x1024, .f32⟩
  | .hbm, ⟨21, _⟩ => ⟨S_, .f32⟩
  | .hbm, ⟨22, _⟩ => ⟨S32x2048, .f32⟩
  | .hbm, ⟨23, _⟩ => ⟨S32x2048x1, .f32⟩
  | .hbm, ⟨24, _⟩ => ⟨S_, .f32⟩
  | .hbm, ⟨25, _⟩ => ⟨S32x2048x1, .f32⟩
  | .hbm, ⟨26, _⟩ => ⟨S32x2048x1, .f32⟩
  | .hbm, ⟨27, _⟩ => ⟨S_, .f32⟩
  | .hbm, ⟨28, _⟩ => ⟨S32x2048x1, .f32⟩
  | .hbm, ⟨29, _⟩ => ⟨S32x2048x1, .f32⟩
  | .hbm, ⟨30, _⟩ => ⟨S32x2048x1, .f32⟩
  | .hbm, ⟨31, _⟩ => ⟨S32x2048x1024, .f32⟩
  | .hbm, ⟨32, _⟩ => ⟨S32x2048x1024, .f32⟩
  | .hbm, ⟨33, _⟩ => ⟨S1x1x1024, .f32⟩
  | .hbm, ⟨34, _⟩ => ⟨S32x2048x1024, .f32⟩
  | .hbm, ⟨35, _⟩ => ⟨S32x2048x1024, .f32⟩
  | .hbm, ⟨36, _⟩ => ⟨S_, .f32⟩
  | .hbm, ⟨37, _⟩ => ⟨S32x1x1024, .f32⟩
  | .hbm, ⟨38, _⟩ => ⟨S32x1x1024, .f32⟩
  | .hbm, ⟨39, _⟩ => ⟨S32x2048x1024, .f32⟩
  | .hbm, ⟨40, _⟩ => ⟨S32x2048x1024, .f32⟩
  | .hbm, ⟨41, _⟩ => ⟨S32x2048x1024, .f32⟩
  | .hbm, ⟨42, _⟩ => ⟨S32x2048x1024, .f32⟩
  | .hbm, ⟨43, _⟩ => ⟨S32x2048x4096, .f32⟩
  | .hbm, ⟨44, _⟩ => ⟨S_, .f32⟩
  | .hbm, ⟨45, _⟩ => ⟨S32x2048x4096, .f32⟩
  | .hbm, ⟨46, _⟩ => ⟨S32x2048x4096, .f32⟩
  | .hbm, ⟨47, _⟩ => ⟨S32x2048x4096, .f32⟩
  | .hbm, ⟨48, _⟩ => ⟨S32x2048x1024, .f32⟩
  | .hbm, ⟨49, _⟩ => ⟨S1x1024, .f32⟩
  | .hbm, ⟨50, _⟩ => ⟨S1024, .f32⟩
  | .hbm, ⟨51, _⟩ => ⟨S32x2048x1024, .f32⟩
  | .hbm, ⟨52, _⟩ => ⟨S_, .f32⟩
  | .hbm, ⟨53, _⟩ => ⟨S32x2048, .f32⟩
  | .hbm, ⟨54, _⟩ => ⟨S32x2048x1, .f32⟩
  | .hbm, ⟨55, _⟩ => ⟨S_, .f32⟩
  | .hbm, ⟨56, _⟩ => ⟨S32x2048x1, .f32⟩
  | .hbm, ⟨57, _⟩ => ⟨S32x2048x1, .f32⟩
  | .hbm, ⟨58, _⟩ => ⟨S_, .f32⟩
  | .hbm, ⟨59, _⟩ => ⟨S32x2048x1, .f32⟩
  | .hbm, ⟨60, _⟩ => ⟨S32x2048x1, .f32⟩
  | .hbm, ⟨61, _⟩ => ⟨S32x2048x1, .f32⟩
  | .hbm, ⟨62, _⟩ => ⟨S32x2048x1024, .f32⟩
  | .hbm, ⟨63, _⟩ => ⟨S32x2048x1024, .f32⟩
  | .hbm, ⟨64, _⟩ => ⟨S1x1x1024, .f32⟩
  | .hbm, ⟨65, _⟩ => ⟨S32x2048x1024, .f32⟩
  | .hbm, ⟨66, _⟩ => ⟨S32x2048x1024, .f32⟩
  | .hbm, ⟨67, _⟩ => ⟨S32x2048x1024, .f32⟩
  | .hbm, ⟨68, _⟩ => ⟨S32x2048x1024, .f32⟩
  | .hbm, ⟨69, _⟩ => ⟨S32x2048x1024, .f32⟩
  | .hbm, ⟨70, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩

abbrev nD : Nat := 1
abbrev τ : Topo := Topo.v7x

variable {F : FTy → Type} [FloatOps F]
-- ==== FfnS.lean ====
abbrev S32x16x1024 : Shape := ⟨3, ![32, 16, 1024]⟩
abbrev S32x6144 : Shape := ⟨2, ![32, 6144]⟩
abbrev S2x1024 : Shape := ⟨2, ![2, 1024]⟩
abbrev S1024x4096 : Shape := ⟨2, ![1024, 4096]⟩
abbrev S4096x1024 : Shape := ⟨2, ![4096, 1024]⟩
abbrev S32x1024 : Shape := ⟨2, ![32, 1024]⟩
abbrev S512x1024 : Shape := ⟨2, ![512, 1024]⟩
abbrev S1x512x1024 : Shape := ⟨3, ![1, 512, 1024]⟩
abbrev S1x1024 : Shape := ⟨2, ![1, 1024]⟩
abbrev S1024 : Shape := ⟨1, ![1024]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1024x1024 : Shape := ⟨2, ![1024, 1024]⟩

abbrev nBuf : Space → Nat
  | .hbm => 40
  | .vmem => 9
  | .smem => 0
  | _ => 0

abbrev bufTy : (tb : Table) → Fin (tcTables nBuf tb) → BufTy
  | .hbm, ⟨0, _⟩ => ⟨S32x16x1024, .f32⟩
  | .hbm, ⟨1, _⟩ => ⟨S32x6144, .f32⟩
  | .hbm, ⟨2, _⟩ => ⟨S2x1024, .f32⟩
  | .hbm, ⟨3, _⟩ => ⟨S2x1024, .f32⟩
  | .hbm, ⟨4, _⟩ => ⟨S1024x4096, .f32⟩
  | .hbm, ⟨5, _⟩ => ⟨S4096x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x16x1024, .f32⟩
  | .hbm, ⟨13, _⟩ => ⟨S512x1024, .f32⟩
  | .hbm, ⟨14, _⟩ => ⟨S1x512x1024, .f32⟩
  | .hbm, ⟨15, _⟩ => ⟨S32x16x1024, .f32⟩
  | .hbm, ⟨16, _⟩ => ⟨S512x1024, .f32⟩
  | .hbm, ⟨17, _⟩ => ⟨S1x512x1024, .f32⟩
  | .hbm, ⟨18, _⟩ => ⟨S32x16x1024, .f32⟩
  | .hbm, ⟨19, _⟩ => ⟨S512x1024, .f32⟩
  | .hbm, ⟨20, _⟩ => ⟨S1x512x1024, .f32⟩
  | .hbm, ⟨21, _⟩ => ⟨S32x16x1024, .f32⟩
  | .hbm, ⟨22, _⟩ => ⟨S512x1024, .f32⟩
  | .hbm, ⟨23, _⟩ => ⟨S1x512x1024, .f32⟩
  | .hbm, ⟨24, _⟩ => ⟨S32x16x1024, .f32⟩
  | .hbm, ⟨25, _⟩ => ⟨S512x1024, .f32⟩
  | .hbm, ⟨26, _⟩ => ⟨S1x512x1024, .f32⟩
  | .hbm, ⟨27, _⟩ => ⟨S32x16x1024, .f32⟩
  | .hbm, ⟨28, _⟩ => ⟨S512x1024, .f32⟩
  | .hbm, ⟨29, _⟩ => ⟨S1x512x1024, .f32⟩
  | .hbm, ⟨30, _⟩ => ⟨S512x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1024x4096, .bf16⟩
  | .hbm, ⟨38, _⟩ => ⟨S4096x1024, .bf16⟩
  | .hbm, ⟨39, _⟩ => ⟨S512x1024, .f32⟩
  | .local _ .vmem, ⟨0, _⟩ => ⟨S512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S512x1024, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== FfnSRefIdeal.lean ====
abbrev S32x16x1024 : Shape := ⟨3, ![32, 16, 1024]⟩
abbrev S32x6144 : Shape := ⟨2, ![32, 6144]⟩
abbrev S2x1024 : Shape := ⟨2, ![2, 1024]⟩
abbrev S1024x4096 : Shape := ⟨2, ![1024, 4096]⟩
abbrev S4096x1024 : Shape := ⟨2, ![4096, 1024]⟩
abbrev S32x1024 : Shape := ⟨2, ![32, 1024]⟩
abbrev S32x1x1024 : Shape := ⟨3, ![32, 1, 1024]⟩
abbrev S1x1024 : Shape := ⟨2, ![1, 1024]⟩
abbrev S1024 : Shape := ⟨1, ![1024]⟩
abbrev S_ : Shape := ⟨0, ![]⟩
abbrev S32x16 : Shape := ⟨2, ![32, 16]⟩
abbrev S32x16x1 : Shape := ⟨3, ![32, 16, 1]⟩
abbrev S1x1x1024 : Shape := ⟨3, ![1, 1, 1024]⟩
abbrev S32x16x4096 : Shape := ⟨3, ![32, 16, 4096]⟩
abbrev S512x1024 : Shape := ⟨2, ![512, 1024]⟩

abbrev nBuf : Space → Nat
  | .hbm => 71
  | .vmem => 0
  | .smem => 0
  | _ => 0

abbrev bufTy : (tb : Table) → Fin (tcTables nBuf tb) → BufTy
  | .hbm, ⟨0, _⟩ => ⟨S32x16x1024, .f32⟩
  | .hbm, ⟨1, _⟩ => ⟨S32x6144, .f32⟩
  | .hbm, ⟨2, _⟩ => ⟨S2x1024, .f32⟩
  | .hbm, ⟨3, _⟩ => ⟨S2x1024, .f32⟩
  | .hbm, ⟨4, _⟩ => ⟨S1024x4096, .f32⟩
  | .hbm, ⟨5, _⟩ => ⟨S4096x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S32x1x1024, .f32⟩
  | .hbm, ⟨17, _⟩ => ⟨S32x1x1024, .f32⟩
  | .hbm, ⟨18, _⟩ => ⟨S1x1024, .f32⟩
  | .hbm, ⟨19, _⟩ => ⟨S1024, .f32⟩
  | .hbm, ⟨20, _⟩ => ⟨S32x16x1024, .f32⟩
  | .hbm, ⟨21, _⟩ => ⟨S_, .f32⟩
  | .hbm, ⟨22, _⟩ => ⟨S32x16, .f32⟩
  | .hbm, ⟨23, _⟩ => ⟨S32x16x1, .f32⟩
  | .hbm, ⟨24, _⟩ => ⟨S_, .f32⟩
  | .hbm, ⟨25, _⟩ => ⟨S32x16x1, .f32⟩
  | .hbm, ⟨26, _⟩ => ⟨S32x16x1, .f32⟩
  | .hbm, ⟨27, _⟩ => ⟨S_, .f32⟩
  | .hbm, ⟨28, _⟩ => ⟨S32x16x1, .f32⟩
  | .hbm, ⟨29, _⟩ => ⟨S32x16x1, .f32⟩
  | .hbm, ⟨30, _⟩ => ⟨S32x16x1, .f32⟩
  | .hbm, ⟨31, _⟩ => ⟨S32x16x1024, .f32⟩
  | .hbm, ⟨32, _⟩ => ⟨S32x16x1024, .f32⟩
  | .hbm, ⟨33, _⟩ => ⟨S1x1x1024, .f32⟩
  | .hbm, ⟨34, _⟩ => ⟨S32x16x1024, .f32⟩
  | .hbm, ⟨35, _⟩ => ⟨S32x16x1024, .f32⟩
  | .hbm, ⟨36, _⟩ => ⟨S_, .f32⟩
  | .hbm, ⟨37, _⟩ => ⟨S32x1x1024, .f32⟩
  | .hbm, ⟨38, _⟩ => ⟨S32x1x1024, .f32⟩
  | .hbm, ⟨39, _⟩ => ⟨S32x16x1024, .f32⟩
  | .hbm, ⟨40, _⟩ => ⟨S32x16x1024, .f32⟩
  | .hbm, ⟨41, _⟩ => ⟨S32x16x1024, .f32⟩
  | .hbm, ⟨42, _⟩ => ⟨S32x16x1024, .f32⟩
  | .hbm, ⟨43, _⟩ => ⟨S32x16x4096, .f32⟩
  | .hbm, ⟨44, _⟩ => ⟨S_, .f32⟩
  | .hbm, ⟨45, _⟩ => ⟨S32x16x4096, .f32⟩
  | .hbm, ⟨46, _⟩ => ⟨S32x16x4096, .f32⟩
  | .hbm, ⟨47, _⟩ => ⟨S32x16x4096, .f32⟩
  | .hbm, ⟨48, _⟩ => ⟨S32x16x1024, .f32⟩
  | .hbm, ⟨49, _⟩ => ⟨S1x1024, .f32⟩
  | .hbm, ⟨50, _⟩ => ⟨S1024, .f32⟩
  | .hbm, ⟨51, _⟩ => ⟨S32x16x1024, .f32⟩
  | .hbm, ⟨52, _⟩ => ⟨S_, .f32⟩
  | .hbm, ⟨53, _⟩ => ⟨S32x16, .f32⟩
  | .hbm, ⟨54, _⟩ => ⟨S32x16x1, .f32⟩
  | .hbm, ⟨55, _⟩ => ⟨S_, .f32⟩
  | .hbm, ⟨56, _⟩ => ⟨S32x16x1, .f32⟩
  | .hbm, ⟨57, _⟩ => ⟨S32x16x1, .f32⟩
  | .hbm, ⟨58, _⟩ => ⟨S_, .f32⟩
  | .hbm, ⟨59, _⟩ => ⟨S32x16x1, .f32⟩
  | .hbm, ⟨60, _⟩ => ⟨S32x16x1, .f32⟩
  | .hbm, ⟨61, _⟩ => ⟨S32x16x1, .f32⟩
  | .hbm, ⟨62, _⟩ => ⟨S32x16x1024, .f32⟩
  | .hbm, ⟨63, _⟩ => ⟨S32x16x1024, .f32⟩
  | .hbm, ⟨64, _⟩ => ⟨S1x1x1024, .f32⟩
  | .hbm, ⟨65, _⟩ => ⟨S32x16x1024, .f32⟩
  | .hbm, ⟨66, _⟩ => ⟨S32x16x1024, .f32⟩
  | .hbm, ⟨67, _⟩ => ⟨S32x16x1024, .f32⟩
  | .hbm, ⟨68, _⟩ => ⟨S32x16x1024, .f32⟩
  | .hbm, ⟨69, _⟩ => ⟨S32x16x1024, .f32⟩
  | .hbm, ⟨70, _⟩ => ⟨S512x1024, .f32⟩
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩

abbrev nD : Nat := 1
abbrev τ : Topo := Topo.v7x

variable {F : FTy → Type} [FloatOps F]
-- ==== Merge.lean ====
abbrev S32x2048x1024 : Shape := ⟨3, ![32, 2048, 1024]⟩
abbrev S32x2048x2048 : Shape := ⟨3, ![32, 2048, 2048]⟩
abbrev S32x6144 : Shape := ⟨2, ![32, 6144]⟩
abbrev S2x1024 : Shape := ⟨2, ![2, 1024]⟩
abbrev S1024x1024 : Shape := ⟨2, ![1024, 1024]⟩
abbrev S2048x1024 : Shape := ⟨2, ![2048, 1024]⟩
abbrev S32x1024 : Shape := ⟨2, ![32, 1024]⟩
abbrev S32x1x1024 : Shape := ⟨3, ![32, 1, 1024]⟩
abbrev S65536x1024 : Shape := ⟨2, ![65536, 1024]⟩
abbrev S65536x2048 : Shape := ⟨2, ![65536, 2048]⟩
abbrev S1x1024 : Shape := ⟨2, ![1, 1024]⟩
abbrev S1024 : Shape := ⟨1, ![1024]⟩
abbrev S512x1024 : Shape := ⟨2, ![512, 1024]⟩
abbrev S512x2048 : Shape := ⟨2, ![512, 2048]⟩
abbrev S1x1x1024 : Shape := ⟨3, ![1, 1, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 32
  | .vmem => 16
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x2048, .bf16⟩
  | .hbm, ⟨2, _⟩ => ⟨S32x2048x2048, .bf16⟩
  | .hbm, ⟨3, _⟩ => ⟨S32x2048x1024, .f32⟩
  | .hbm, ⟨4, _⟩ => ⟨S32x6144, .f32⟩
  | .hbm, ⟨5, _⟩ => ⟨S2x1024, .f32⟩
  | .hbm, ⟨6, _⟩ => ⟨S1024x1024, .f32⟩
  | .hbm, ⟨7, _⟩ => ⟨S2048x1024, .f32⟩
  | .hbm, ⟨8, _⟩ => ⟨S1024x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S32x1x1024, .f32⟩
  | .hbm, ⟨16, _⟩ => ⟨S32x1x1024, .f32⟩
  | .hbm, ⟨17, _⟩ => ⟨S32x1x1024, .f32⟩
  | .hbm, ⟨18, _⟩ => ⟨S32x1x1024, .f32⟩
  | .hbm, ⟨19, _⟩ => ⟨S32x1x1024, .f32⟩
  | .hbm, ⟨20, _⟩ => ⟨S32x1x1024, .f32⟩
  | .hbm, ⟨21, _⟩ => ⟨S65536x1024, .bf16⟩
  | .hbm, ⟨22, _⟩ => ⟨S65536x2048, .bf16⟩
  | .hbm, ⟨23, _⟩ => ⟨S65536x2048, .bf16⟩
  | .hbm, ⟨24, _⟩ => ⟨S65536x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1024x1024, .bf16⟩
  | .hbm, ⟨29, _⟩ => ⟨S2048x1024, .bf16⟩
  | .hbm, ⟨30, _⟩ => ⟨S1024x1024, .bf16⟩
  | .hbm, ⟨31, _⟩ => ⟨S65536x1024, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x1024, .bf16⟩
  | .local _ .vmem, ⟨12, _⟩ => ⟨S2048x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeIdeal.lean ====
abbrev S32x2048x1024 : Shape := ⟨3, ![32, 2048, 1024]⟩
abbrev S32x2048x2048 : Shape := ⟨3, ![32, 2048, 2048]⟩
abbrev S32x6144 : Shape := ⟨2, ![32, 6144]⟩
abbrev S2x1024 : Shape := ⟨2, ![2, 1024]⟩
abbrev S1024x1024 : Shape := ⟨2, ![1024, 1024]⟩
abbrev S2048x1024 : Shape := ⟨2, ![2048, 1024]⟩
abbrev S32x1024 : Shape := ⟨2, ![32, 1024]⟩
abbrev S32x1x1024 : Shape := ⟨3, ![32, 1, 1024]⟩
abbrev S65536x1024 : Shape := ⟨2, ![65536, 1024]⟩
abbrev S65536x2048 : Shape := ⟨2, ![65536, 2048]⟩
abbrev S1x1024 : Shape := ⟨2, ![1, 1024]⟩
abbrev S1024 : Shape := ⟨1, ![1024]⟩
abbrev S512x1024 : Shape := ⟨2, ![512, 1024]⟩
abbrev S512x2048 : Shape := ⟨2, ![512, 2048]⟩
abbrev S1x1x1024 : Shape := ⟨3, ![1, 1, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 32
  | .vmem => 16
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x2048, .bf16⟩
  | .hbm, ⟨2, _⟩ => ⟨S32x2048x2048, .bf16⟩
  | .hbm, ⟨3, _⟩ => ⟨S32x2048x1024, .f32⟩
  | .hbm, ⟨4, _⟩ => ⟨S32x6144, .f32⟩
  | .hbm, ⟨5, _⟩ => ⟨S2x1024, .f32⟩
  | .hbm, ⟨6, _⟩ => ⟨S1024x1024, .f32⟩
  | .hbm, ⟨7, _⟩ => ⟨S2048x1024, .f32⟩
  | .hbm, ⟨8, _⟩ => ⟨S1024x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S32x1x1024, .f32⟩
  | .hbm, ⟨16, _⟩ => ⟨S32x1x1024, .f32⟩
  | .hbm, ⟨17, _⟩ => ⟨S32x1x1024, .f32⟩
  | .hbm, ⟨18, _⟩ => ⟨S32x1x1024, .f32⟩
  | .hbm, ⟨19, _⟩ => ⟨S32x1x1024, .f32⟩
  | .hbm, ⟨20, _⟩ => ⟨S32x1x1024, .f32⟩
  | .hbm, ⟨21, _⟩ => ⟨S65536x1024, .bf16⟩
  | .hbm, ⟨22, _⟩ => ⟨S65536x2048, .bf16⟩
  | .hbm, ⟨23, _⟩ => ⟨S65536x2048, .bf16⟩
  | .hbm, ⟨24, _⟩ => ⟨S65536x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1024x1024, .bf16⟩
  | .hbm, ⟨29, _⟩ => ⟨S2048x1024, .bf16⟩
  | .hbm, ⟨30, _⟩ => ⟨S1024x1024, .bf16⟩
  | .hbm, ⟨31, _⟩ => ⟨S65536x1024, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x1024, .bf16⟩
  | .local _ .vmem, ⟨12, _⟩ => ⟨S2048x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S32x2048x1024 : Shape := ⟨3, ![32, 2048, 1024]⟩
abbrev S32x2048x2048 : Shape := ⟨3, ![32, 2048, 2048]⟩
abbrev S32x6144 : Shape := ⟨2, ![32, 6144]⟩
abbrev S2x1024 : Shape := ⟨2, ![2, 1024]⟩
abbrev S1024x1024 : Shape := ⟨2, ![1024, 1024]⟩
abbrev S2048x1024 : Shape := ⟨2, ![2048, 1024]⟩
abbrev S32x1024 : Shape := ⟨2, ![32, 1024]⟩
abbrev S32x1x1024 : Shape := ⟨3, ![32, 1, 1024]⟩
abbrev S_ : Shape := ⟨0, ![]⟩
abbrev S32x2048x2x1024 : Shape := ⟨4, ![32, 2048, 2, 1024]⟩
abbrev S32x2048x1x1024 : Shape := ⟨4, ![32, 2048, 1, 1024]⟩
abbrev S1x1024 : Shape := ⟨2, ![1, 1024]⟩
abbrev S1024 : Shape := ⟨1, ![1024]⟩
abbrev S32x2048 : Shape := ⟨2, ![32, 2048]⟩
abbrev S32x2048x1 : Shape := ⟨3, ![32, 2048, 1]⟩
abbrev S1x1x1024 : Shape := ⟨3, ![1, 1, 1024]⟩
abbrev S65536x1024 : Shape := ⟨2, ![65536, 1024]⟩

abbrev nBuf : Space → Nat
  | .hbm => 65
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x2048, .bf16⟩
  | .hbm, ⟨2, _⟩ => ⟨S32x2048x2048, .bf16⟩
  | .hbm, ⟨3, _⟩ => ⟨S32x2048x1024, .f32⟩
  | .hbm, ⟨4, _⟩ => ⟨S32x6144, .f32⟩
  | .hbm, ⟨5, _⟩ => ⟨S2x1024, .f32⟩
  | .hbm, ⟨6, _⟩ => ⟨S1024x1024, .f32⟩
  | .hbm, ⟨7, _⟩ => ⟨S2048x1024, .f32⟩
  | .hbm, ⟨8, _⟩ => ⟨S1024x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S32x1x1024, .f32⟩
  | .hbm, ⟨16, _⟩ => ⟨S32x1x1024, .f32⟩
  | .hbm, ⟨17, _⟩ => ⟨S32x1x1024, .f32⟩
  | .hbm, ⟨18, _⟩ => ⟨S32x1x1024, .f32⟩
  | .hbm, ⟨19, _⟩ => ⟨S32x1x1024, .f32⟩
  | .hbm, ⟨20, _⟩ => ⟨S32x1x1024, .f32⟩
  | .hbm, ⟨21, _⟩ => ⟨S32x2048x2048, .f32⟩
  | .hbm, ⟨22, _⟩ => ⟨S32x2048x2048, .f32⟩
  | .hbm, ⟨23, _⟩ => ⟨S32x2048x2048, .f32⟩
  | .hbm, ⟨24, _⟩ => ⟨S_, .f32⟩
  | .hbm, ⟨25, _⟩ => ⟨S32x2048x2048, .f32⟩
  | .hbm, ⟨26, _⟩ => ⟨S32x2048x2048, .f32⟩
  | .hbm, ⟨27, _⟩ => ⟨S_, .f32⟩
  | .hbm, ⟨28, _⟩ => ⟨S32x2048x2048, .f32⟩
  | .hbm, ⟨29, _⟩ => ⟨S32x2048x2048, .f32⟩
  | .hbm, ⟨30, _⟩ => ⟨S32x2048x2x1024, .f32⟩
  | .hbm, ⟨31, _⟩ => ⟨S32x2048x1x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | .hbm, ⟨36, _⟩ => ⟨S32x2048x1x1024, .f32⟩
  | .hbm, ⟨37, _⟩ => ⟨S32x2048x1024, .f32⟩
  | .hbm, ⟨38, _⟩ => ⟨S32x2048x2048, .f32⟩
  | .hbm, ⟨39, _⟩ => ⟨S32x2048x1024, .f32⟩
  | .hbm, ⟨40, _⟩ => ⟨S32x2048x1024, .f32⟩
  | .hbm, ⟨41, _⟩ => ⟨S32x2048x1024, .f32⟩
  | .hbm, ⟨42, _⟩ => ⟨S32x2048x1024, .f32⟩
  | .hbm, ⟨43, _⟩ => ⟨S1x1024, .f32⟩
  | .hbm, ⟨44, _⟩ => ⟨S1024, .f32⟩
  | .hbm, ⟨45, _⟩ => ⟨S32x2048x1024, .f32⟩
  | .hbm, ⟨46, _⟩ => ⟨S_, .f32⟩
  | .hbm, ⟨47, _⟩ => ⟨S32x2048, .f32⟩
  | .hbm, ⟨48, _⟩ => ⟨S32x2048x1, .f32⟩
  | .hbm, ⟨49, _⟩ => ⟨S_, .f32⟩
  | .hbm, ⟨50, _⟩ => ⟨S32x2048x1, .f32⟩
  | .hbm, ⟨51, _⟩ => ⟨S32x2048x1, .f32⟩
  | .hbm, ⟨52, _⟩ => ⟨S_, .f32⟩
  | .hbm, ⟨53, _⟩ => ⟨S32x2048x1, .f32⟩
  | .hbm, ⟨54, _⟩ => ⟨S32x2048x1, .f32⟩
  | .hbm, ⟨55, _⟩ => ⟨S32x2048x1, .f32⟩
  | .hbm, ⟨56, _⟩ => ⟨S32x2048x1024, .f32⟩
  | .hbm, ⟨57, _⟩ => ⟨S32x2048x1024, .f32⟩
  | .hbm, ⟨58, _⟩ => ⟨S1x1x1024, .f32⟩
  | .hbm, ⟨59, _⟩ => ⟨S32x2048x1024, .f32⟩
  | .hbm, ⟨60, _⟩ => ⟨S32x2048x1024, .f32⟩
  | .hbm, ⟨61, _⟩ => ⟨S32x2048x1024, .f32⟩
  | .hbm, ⟨62, _⟩ => ⟨S32x2048x1024, .f32⟩
  | .hbm, ⟨63, _⟩ => ⟨S32x2048x1024, .f32⟩
  | .hbm, ⟨64, _⟩ => ⟨S65536x1024, .f32⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== InA.lean ====
abbrev S32x2048x1024 : Shape := ⟨3, ![32, 2048, 1024]⟩
abbrev S1024x11520 : Shape := ⟨2, ![1024, 11520]⟩
abbrev S65536x1024 : Shape := ⟨2, ![65536, 1024]⟩
abbrev S1024x3328 : Shape := ⟨2, ![1024, 3328]⟩
abbrev S65536x3328 : Shape := ⟨2, ![65536, 3328]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S32x2048x1024, .bf16⟩
  | .hbm, ⟨1, _⟩ => ⟨S1024x11520, .f32⟩
  | .hbm, ⟨2, _⟩ => ⟨S65536x1024, .bf16⟩
  | .hbm, ⟨3, _⟩ => ⟨S1024x11520, .bf16⟩
  | .hbm, ⟨4, _⟩ => ⟨S1024x3328, .bf16⟩
  | .hbm, ⟨5, _⟩ => ⟨S65536x3328, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3328, .bf16⟩
  | .local _ .vmem, ⟨3, _⟩ => ⟨S1024x3328, .bf16⟩
  | .local _ .vmem, ⟨4, _⟩ => ⟨S1024x3328, .bf16⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x3328 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InAIdeal.lean ====
abbrev S32x2048x1024 : Shape := ⟨3, ![32, 2048, 1024]⟩
abbrev S1024x11520 : Shape := ⟨2, ![1024, 11520]⟩
abbrev S65536x1024 : Shape := ⟨2, ![65536, 1024]⟩
abbrev S1024x3328 : Shape := ⟨2, ![1024, 3328]⟩
abbrev S65536x3328 : Shape := ⟨2, ![65536, 3328]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S32x2048x1024, .bf16⟩
  | .hbm, ⟨1, _⟩ => ⟨S1024x11520, .f32⟩
  | .hbm, ⟨2, _⟩ => ⟨S65536x1024, .bf16⟩
  | .hbm, ⟨3, _⟩ => ⟨S1024x11520, .bf16⟩
  | .hbm, ⟨4, _⟩ => ⟨S1024x3328, .bf16⟩
  | .hbm, ⟨5, _⟩ => ⟨S65536x3328, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3328, .bf16⟩
  | .local _ .vmem, ⟨3, _⟩ => ⟨S1024x3328, .bf16⟩
  | .local _ .vmem, ⟨4, _⟩ => ⟨S1024x3328, .bf16⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x3328 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InARefIdeal.lean ====
abbrev S32x2048x1024 : Shape := ⟨3, ![32, 2048, 1024]⟩
abbrev S1024x11520 : Shape := ⟨2, ![1024, 11520]⟩
abbrev S32x2048x11520 : Shape := ⟨3, ![32, 2048, 11520]⟩
abbrev S32x2048x3328 : Shape := ⟨3, ![32, 2048, 3328]⟩
abbrev S32x2048x6144 : Shape := ⟨3, ![32, 2048, 6144]⟩
abbrev S32x2048x2048 : Shape := ⟨3, ![32, 2048, 2048]⟩
abbrev S65536x3328 : Shape := ⟨2, ![65536, 3328]⟩

abbrev nBuf : Space → Nat
  | .hbm => 9
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S1024x11520, .f32⟩
  | .hbm, ⟨2, _⟩ => ⟨S32x2048x1024, .f32⟩
  | .hbm, ⟨3, _⟩ => ⟨S32x2048x11520, .f32⟩
  | .hbm, ⟨4, _⟩ => ⟨S32x2048x3328, .f32⟩
  | .hbm, ⟨5, _⟩ => ⟨S32x2048x6144, .f32⟩
  | .hbm, ⟨6, _⟩ => ⟨S32x2048x2048, .f32⟩
  | .hbm, ⟨7, _⟩ => ⟨S65536x3328, .f32⟩
  | .hbm, ⟨8, _⟩ => ⟨S65536x3328, .bf16⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== InB.lean ====
abbrev S32x2048x1024 : Shape := ⟨3, ![32, 2048, 1024]⟩
abbrev S1024x11520 : Shape := ⟨2, ![1024, 11520]⟩
abbrev S65536x1024 : Shape := ⟨2, ![65536, 1024]⟩
abbrev S1024x6144 : Shape := ⟨2, ![1024, 6144]⟩
abbrev S65536x6144 : Shape := ⟨2, ![65536, 6144]⟩
abbrev S1024x1024 : Shape := ⟨2, ![1024, 1024]⟩
abbrev S1024x1536 : Shape := ⟨2, ![1024, 1536]⟩

abbrev nBuf : Space → Nat
  | .hbm => 6
  | .vmem => 6
  | .smem => 0
  | _ => 0

abbrev bufTy : (tb : Table) → Fin (tcTables nBuf tb) → BufTy
  | .hbm, ⟨0, _⟩ => ⟨S32x2048x1024, .bf16⟩
  | .hbm, ⟨1, _⟩ => ⟨S1024x11520, .f32⟩
  | .hbm, ⟨2, _⟩ => ⟨S65536x1024, .bf16⟩
  | .hbm, ⟨3, _⟩ => ⟨S1024x11520, .bf16⟩
  | .hbm, ⟨4, _⟩ => ⟨S1024x6144, .bf16⟩
  | .hbm, ⟨5, _⟩ => ⟨S65536x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InBIdeal.lean ====
abbrev S32x2048x1024 : Shape := ⟨3, ![32, 2048, 1024]⟩
abbrev S1024x11520 : Shape := ⟨2, ![1024, 11520]⟩
abbrev S65536x1024 : Shape := ⟨2, ![65536, 1024]⟩
abbrev S1024x6144 : Shape := ⟨2, ![1024, 6144]⟩
abbrev S65536x6144 : Shape := ⟨2, ![65536, 6144]⟩
abbrev S1024x1024 : Shape := ⟨2, ![1024, 1024]⟩
abbrev S1024x1536 : Shape := ⟨2, ![1024, 1536]⟩

abbrev nBuf : Space → Nat
  | .hbm => 6
  | .vmem => 6
  | .smem => 0
  | _ => 0

abbrev bufTy : (tb : Table) → Fin (tcTables nBuf tb) → BufTy
  | .hbm, ⟨0, _⟩ => ⟨S32x2048x1024, .bf16⟩
  | .hbm, ⟨1, _⟩ => ⟨S1024x11520, .f32⟩
  | .hbm, ⟨2, _⟩ => ⟨S65536x1024, .bf16⟩
  | .hbm, ⟨3, _⟩ => ⟨S1024x11520, .bf16⟩
  | .hbm, ⟨4, _⟩ => ⟨S1024x6144, .bf16⟩
  | .hbm, ⟨5, _⟩ => ⟨S65536x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InBRefIdeal.lean ====
abbrev S32x2048x1024 : Shape := ⟨3, ![32, 2048, 1024]⟩
abbrev S1024x11520 : Shape := ⟨2, ![1024, 11520]⟩
abbrev S32x2048x11520 : Shape := ⟨3, ![32, 2048, 11520]⟩
abbrev S32x2048x3328 : Shape := ⟨3, ![32, 2048, 3328]⟩
abbrev S32x2048x6144 : Shape := ⟨3, ![32, 2048, 6144]⟩
abbrev S32x2048x2048 : Shape := ⟨3, ![32, 2048, 2048]⟩
abbrev S65536x6144 : Shape := ⟨2, ![65536, 6144]⟩

abbrev nBuf : Space → Nat
  | .hbm => 9
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S1024x11520, .f32⟩
  | .hbm, ⟨2, _⟩ => ⟨S32x2048x1024, .f32⟩
  | .hbm, ⟨3, _⟩ => ⟨S32x2048x11520, .f32⟩
  | .hbm, ⟨4, _⟩ => ⟨S32x2048x3328, .f32⟩
  | .hbm, ⟨5, _⟩ => ⟨S32x2048x6144, .f32⟩
  | .hbm, ⟨6, _⟩ => ⟨S32x2048x2048, .f32⟩
  | .hbm, ⟨7, _⟩ => ⟨S65536x6144, .f32⟩
  | .hbm, ⟨8, _⟩ => ⟨S65536x6144, .bf16⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== InG.lean ====
abbrev S32x2048x1024 : Shape := ⟨3, ![32, 2048, 1024]⟩
abbrev S1024x11520 : Shape := ⟨2, ![1024, 11520]⟩
abbrev S65536x1024 : Shape := ⟨2, ![65536, 1024]⟩
abbrev S1024x2048 : Shape := ⟨2, ![1024, 2048]⟩
abbrev S65536x2048 : Shape := ⟨2, ![65536, 2048]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S32x2048x1024, .bf16⟩
  | .hbm, ⟨1, _⟩ => ⟨S1024x11520, .f32⟩
  | .hbm, ⟨2, _⟩ => ⟨S65536x1024, .bf16⟩
  | .hbm, ⟨3, _⟩ => ⟨S1024x11520, .bf16⟩
  | .hbm, ⟨4, _⟩ => ⟨S1024x2048, .bf16⟩
  | .hbm, ⟨5, _⟩ => ⟨S65536x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InGIdeal.lean ====
abbrev S32x2048x1024 : Shape := ⟨3, ![32, 2048, 1024]⟩
abbrev S1024x11520 : Shape := ⟨2, ![1024, 11520]⟩
abbrev S65536x1024 : Shape := ⟨2, ![65536, 1024]⟩
abbrev S1024x2048 : Shape := ⟨2, ![1024, 2048]⟩
abbrev S65536x2048 : Shape := ⟨2, ![65536, 2048]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S32x2048x1024, .bf16⟩
  | .hbm, ⟨1, _⟩ => ⟨S1024x11520, .f32⟩
  | .hbm, ⟨2, _⟩ => ⟨S65536x1024, .bf16⟩
  | .hbm, ⟨3, _⟩ => ⟨S1024x11520, .bf16⟩
  | .hbm, ⟨4, _⟩ => ⟨S1024x2048, .bf16⟩
  | .hbm, ⟨5, _⟩ => ⟨S65536x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InGRefIdeal.lean ====
abbrev S32x2048x1024 : Shape := ⟨3, ![32, 2048, 1024]⟩
abbrev S1024x11520 : Shape := ⟨2, ![1024, 11520]⟩
abbrev S32x2048x11520 : Shape := ⟨3, ![32, 2048, 11520]⟩
abbrev S32x2048x3328 : Shape := ⟨3, ![32, 2048, 3328]⟩
abbrev S32x2048x6144 : Shape := ⟨3, ![32, 2048, 6144]⟩
abbrev S32x2048x2048 : Shape := ⟨3, ![32, 2048, 2048]⟩
abbrev S65536x2048 : Shape := ⟨2, ![65536, 2048]⟩

abbrev nBuf : Space → Nat
  | .hbm => 9
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S1024x11520, .f32⟩
  | .hbm, ⟨2, _⟩ => ⟨S32x2048x1024, .f32⟩
  | .hbm, ⟨3, _⟩ => ⟨S32x2048x11520, .f32⟩
  | .hbm, ⟨4, _⟩ => ⟨S32x2048x3328, .f32⟩
  | .hbm, ⟨5, _⟩ => ⟨S32x2048x6144, .f32⟩
  | .hbm, ⟨6, _⟩ => ⟨S32x2048x2048, .f32⟩
  | .hbm, ⟨7, _⟩ => ⟨S65536x2048, .f32⟩
  | .hbm, ⟨8, _⟩ => ⟨S65536x2048, .bf16⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Ada.lean ====
abbrev S32x1024 : Shape := ⟨2, ![32, 1024]⟩
abbrev S1024x6144 : Shape := ⟨2, ![1024, 6144]⟩
abbrev S6144 : Shape := ⟨1, ![6144]⟩
abbrev S64x1024 : Shape := ⟨2, ![64, 1024]⟩
abbrev S1x6144 : Shape := ⟨2, ![1, 6144]⟩
abbrev S64x6144 : Shape := ⟨2, ![64, 6144]⟩
abbrev S1024x1536 : Shape := ⟨2, ![1024, 1536]⟩
abbrev S1x1536 : Shape := ⟨2, ![1, 1536]⟩
abbrev S64x1536 : Shape := ⟨2, ![64, 1536]⟩

abbrev nBuf : Space → Nat
  | .hbm => 8
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S1024x6144, .f32⟩
  | .hbm, ⟨3, _⟩ => ⟨S6144, .f32⟩
  | .hbm, ⟨4, _⟩ => ⟨S64x1024, .f32⟩
  | .hbm, ⟨5, _⟩ => ⟨S1024x6144, .bf16⟩
  | .hbm, ⟨6, _⟩ => ⟨S1x6144, .f32⟩
  | .hbm, ⟨7, _⟩ => ⟨S64x6144, .f32⟩
  | .local _ .vmem, ⟨0, _⟩ => ⟨S64x1024, .f32⟩
  | .local _ .vmem, ⟨1, _⟩ => ⟨S1024x1536, .bf16⟩
  | .local _ .vmem, ⟨2, _⟩ => ⟨S1024x1536, .bf16⟩
  | .local _ .vmem, ⟨3, _⟩ => ⟨S1x1536, .f32⟩
  | .local _ .vmem, ⟨4, _⟩ => ⟨S1x1536, .f32⟩
  | .local _ .vmem, ⟨5, _⟩ => ⟨S64x1536, .f32⟩
  | .local _ .vmem, ⟨6, _⟩ => ⟨S64x1536, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S32x1024 : Shape := ⟨2, ![32, 1024]⟩
abbrev S1024x6144 : Shape := ⟨2, ![1024, 6144]⟩
abbrev S6144 : Shape := ⟨1, ![6144]⟩
abbrev S_ : Shape := ⟨0, ![]⟩
abbrev S32x6144 : Shape := ⟨2, ![32, 6144]⟩
abbrev S1x6144 : Shape := ⟨2, ![1, 6144]⟩
abbrev S64x6144 : Shape := ⟨2, ![64, 6144]⟩

abbrev nBuf : Space → Nat
  | .hbm => 31
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S1024x6144, .f32⟩
  | .hbm, ⟨3, _⟩ => ⟨S6144, .f32⟩
  | .hbm, ⟨4, _⟩ => ⟨S32x1024, .f32⟩
  | .hbm, ⟨5, _⟩ => ⟨S32x1024, .f32⟩
  | .hbm, ⟨6, _⟩ => ⟨S_, .f32⟩
  | .hbm, ⟨7, _⟩ => ⟨S32x1024, .f32⟩
  | .hbm, ⟨8, _⟩ => ⟨S32x1024, .f32⟩
  | .hbm, ⟨9, _⟩ => ⟨S_, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x6144, .f32⟩
  | .hbm, ⟨14, _⟩ => ⟨S1x6144, .f32⟩
  | .hbm, ⟨15, _⟩ => ⟨S32x6144, .f32⟩
  | .hbm, ⟨16, _⟩ => ⟨S32x6144, .f32⟩
  | .hbm, ⟨17, _⟩ => ⟨S32x1024, .f32⟩
  | .hbm, ⟨18, _⟩ => ⟨S32x1024, .f32⟩
  | .hbm, ⟨19, _⟩ => ⟨S_, .f32⟩
  | .hbm, ⟨20, _⟩ => ⟨S32x1024, .f32⟩
  | .hbm, ⟨21, _⟩ => ⟨S32x1024, .f32⟩
  | .hbm, ⟨22, _⟩ => ⟨S_, .f32⟩
  | .hbm, ⟨23, _⟩ => ⟨S32x1024, .f32⟩
  | .hbm, ⟨24, _⟩ => ⟨S32x1024, .f32⟩
  | .hbm, ⟨25, _⟩ => ⟨S32x1024, .f32⟩
  | .hbm, ⟨26, _⟩ => ⟨S32x6144, .f32⟩
  | .hbm, ⟨27, _⟩ => ⟨S1x6144, .f32⟩
  | .hbm, ⟨28, _⟩ => ⟨S32x6144, .f32⟩
  | .hbm, ⟨29, _⟩ => ⟨S32x6144, .f32⟩
  | .hbm, ⟨30, _⟩ => ⟨S64x6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Prenorm.lean ====
abbrev S32x2048x1024 : Shape := ⟨3, ![32, 2048, 1024]⟩
abbrev S32x6144 : Shape := ⟨2, ![32, 6144]⟩
abbrev S2x1024 : Shape := ⟨2, ![2, 1024]⟩
abbrev S32x1024 : Shape := ⟨2, ![32, 1024]⟩
abbrev S32x1x1024 : Shape := ⟨3, ![32, 1, 1024]⟩
abbrev S65536x1024 : Shape := ⟨2, ![65536, 1024]⟩
abbrev S1x1024 : Shape := ⟨2, ![1, 1024]⟩
abbrev S1024 : Shape := ⟨1, ![1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 20
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S2x1024, .f32⟩
  | .hbm, ⟨3, _⟩ => ⟨S32x1024, .f32⟩
  | .hbm, ⟨4, _⟩ => ⟨S32x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S65536x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .bf16⟩
  | .local _ .vmem, ⟨8, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PrenormIdeal.lean ====
abbrev S32x2048x1024 : Shape := ⟨3, ![32, 2048, 1024]⟩
abbrev S32x6144 : Shape := ⟨2, ![32, 6144]⟩
abbrev S2x1024 : Shape := ⟨2, ![2, 1024]⟩
abbrev S32x1024 : Shape := ⟨2, ![32, 1024]⟩
abbrev S32x1x1024 : Shape := ⟨3, ![32, 1, 1024]⟩
abbrev S65536x1024 : Shape := ⟨2, ![65536, 1024]⟩
abbrev S1x1024 : Shape := ⟨2, ![1, 1024]⟩
abbrev S1024 : Shape := ⟨1, ![1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 20
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S2x1024, .f32⟩
  | .hbm, ⟨3, _⟩ => ⟨S32x1024, .f32⟩
  | .hbm, ⟨4, _⟩ => ⟨S32x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S65536x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .bf16⟩
  | .local _ .vmem, ⟨8, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PrenormRefIdeal.lean ====
abbrev S32x2048x1024 : Shape := ⟨3, ![32, 2048, 1024]⟩
abbrev S32x6144 : Shape := ⟨2, ![32, 6144]⟩
abbrev S2x1024 : Shape := ⟨2, ![2, 1024]⟩
abbrev S32x1024 : Shape := ⟨2, ![32, 1024]⟩
abbrev S32x1x1024 : Shape := ⟨3, ![32, 1, 1024]⟩
abbrev S1x1024 : Shape := ⟨2, ![1, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S65536x1024 : Shape := ⟨2, ![65536, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S2x1024, .f32⟩
  | .hbm, ⟨3, _⟩ => ⟨S32x1024, .f32⟩
  | .hbm, ⟨4, _⟩ => ⟨S32x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S1x1024, .f32⟩
  | .hbm, ⟨16, _⟩ => ⟨S1024, .f32⟩
  | .hbm, ⟨17, _⟩ => ⟨S32x2048x1024, .f32⟩
  | .hbm, ⟨18, _⟩ => ⟨S_, .f32⟩
  | .hbm, ⟨19, _⟩ => ⟨S32x2048, .f32⟩
  | .hbm, ⟨20, _⟩ => ⟨S32x2048x1, .f32⟩
  | .hbm, ⟨21, _⟩ => ⟨S_, .f32⟩
  | .hbm, ⟨22, _⟩ => ⟨S32x2048x1, .f32⟩
  | .hbm, ⟨23, _⟩ => ⟨S32x2048x1, .f32⟩
  | .hbm, ⟨24, _⟩ => ⟨S_, .f32⟩
  | .hbm, ⟨25, _⟩ => ⟨S32x2048x1, .f32⟩
  | .hbm, ⟨26, _⟩ => ⟨S32x2048x1, .f32⟩
  | .hbm, ⟨27, _⟩ => ⟨S32x2048x1, .f32⟩
  | .hbm, ⟨28, _⟩ => ⟨S32x2048x1024, .f32⟩
  | .hbm, ⟨29, _⟩ => ⟨S32x2048x1024, .f32⟩
  | .hbm, ⟨30, _⟩ => ⟨S1x1x1024, .f32⟩
  | .hbm, ⟨31, _⟩ => ⟨S32x2048x1024, .f32⟩
  | .hbm, ⟨32, _⟩ => ⟨S32x2048x1024, .f32⟩
  | .hbm, ⟨33, _⟩ => ⟨S_, .f32⟩
  | .hbm, ⟨34, _⟩ => ⟨S32x1x1024, .f32⟩
  | .hbm, ⟨35, _⟩ => ⟨S32x1x1024, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S32x2048x1024, .f32⟩
  | .hbm, ⟨40, _⟩ => ⟨S65536x1024, .f32⟩
  | .hbm, ⟨41, _⟩ => ⟨S65536x1024, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== InAS.lean ====
abbrev S32x16x1024 : Shape := ⟨3, ![32, 16, 1024]⟩
abbrev S1024x11520 : Shape := ⟨2, ![1024, 11520]⟩
abbrev S512x1024 : Shape := ⟨2, ![512, 1024]⟩
abbrev S1024x3328 : Shape := ⟨2, ![1024, 3328]⟩
abbrev S512x3328 : Shape := ⟨2, ![512, 3328]⟩

abbrev nBuf : Space → Nat
  | .hbm => 6
  | .vmem => 3
  | .smem => 0
  | _ => 0

abbrev bufTy : (tb : Table) → Fin (tcTables nBuf tb) → BufTy
  | .hbm, ⟨0, _⟩ => ⟨S32x16x1024, .bf16⟩
  | .hbm, ⟨1, _⟩ => ⟨S1024x11520, .f32⟩
  | .hbm, ⟨2, _⟩ => ⟨S512x1024, .bf16⟩
  | .hbm, ⟨3, _⟩ => ⟨S1024x11520, .bf16⟩
  | .hbm, ⟨4, _⟩ => ⟨S1024x3328, .bf16⟩
  | .hbm, ⟨5, _⟩ => ⟨S512x3328, .bf16⟩
  | .local _ .vmem, ⟨0, _⟩ => ⟨S512x1024, .bf16⟩
  | .local _ .vmem, ⟨1, _⟩ => ⟨S1024x3328, .bf16⟩
  | .local _ .vmem, ⟨2, _⟩ => ⟨S512x3328, .bf16⟩
  | _, _ => ⟨S32x16x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1024x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== InASRefIdeal.lean ====
abbrev S32x16x1024 : Shape := ⟨3, ![32, 16, 1024]⟩
abbrev S1024x11520 : Shape := ⟨2, ![1024, 11520]⟩
abbrev S32x16x11520 : Shape := ⟨3, ![32, 16, 11520]⟩
abbrev S32x16x3328 : Shape := ⟨3, ![32, 16, 3328]⟩
abbrev S32x16x6144 : Shape := ⟨3, ![32, 16, 6144]⟩
abbrev S32x16x2048 : Shape := ⟨3, ![32, 16, 2048]⟩
abbrev S512x3328 : Shape := ⟨2, ![512, 3328]⟩

abbrev nBuf : Space → Nat
  | .hbm => 9
  | .vmem => 0
  | .smem => 0
  | _ => 0

abbrev bufTy : (tb : Table) → Fin (tcTables nBuf tb) → BufTy
  | .hbm, ⟨0, _⟩ => ⟨S32x16x1024, .bf16⟩
  | .hbm, ⟨1, _⟩ => ⟨S1024x11520, .f32⟩
  | .hbm, ⟨2, _⟩ => ⟨S32x16x1024, .f32⟩
  | .hbm, ⟨3, _⟩ => ⟨S32x16x11520, .f32⟩
  | .hbm, ⟨4, _⟩ => ⟨S32x16x3328, .f32⟩
  | .hbm, ⟨5, _⟩ => ⟨S32x16x6144, .f32⟩
  | .hbm, ⟨6, _⟩ => ⟨S32x16x2048, .f32⟩
  | .hbm, ⟨7, _⟩ => ⟨S512x3328, .f32⟩
  | .hbm, ⟨8, _⟩ => ⟨S512x3328, .bf16⟩
  | _, _ => ⟨S32x16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== InBS.lean ====
abbrev S32x16x1024 : Shape := ⟨3, ![32, 16, 1024]⟩
abbrev S1024x11520 : Shape := ⟨2, ![1024, 11520]⟩
abbrev S512x1024 : Shape := ⟨2, ![512, 1024]⟩
abbrev S1024x6144 : Shape := ⟨2, ![1024, 6144]⟩
abbrev S512x6144 : Shape := ⟨2, ![512, 6144]⟩
abbrev S1024x1536 : Shape := ⟨2, ![1024, 1536]⟩
abbrev S512x1536 : Shape := ⟨2, ![512, 1536]⟩

abbrev nBuf : Space → Nat
  | .hbm => 6
  | .vmem => 5
  | .smem => 0
  | _ => 0

abbrev bufTy : (tb : Table) → Fin (tcTables nBuf tb) → BufTy
  | .hbm, ⟨0, _⟩ => ⟨S32x16x1024, .bf16⟩
  | .hbm, ⟨1, _⟩ => ⟨S1024x11520, .f32⟩
  | .hbm, ⟨2, _⟩ => ⟨S512x1024, .bf16⟩
  | .hbm, ⟨3, _⟩ => ⟨S1024x11520, .bf16⟩
  | .hbm, ⟨4, _⟩ => ⟨S1024x6144, .bf16⟩
  | .hbm, ⟨5, _⟩ => ⟨S512x6144, .bf16⟩
  | .local _ .vmem, ⟨0, _⟩ => ⟨S512x1024, .bf16⟩
  | .local _ .vmem, ⟨1, _⟩ => ⟨S1024x1536, .bf16⟩
  | .local _ .vmem, ⟨2, _⟩ => ⟨S1024x1536, .bf16⟩
  | .local _ .vmem, ⟨3, _⟩ => ⟨S512x1536, .bf16⟩
  | .local _ .vmem, ⟨4, _⟩ => ⟨S512x1536, .bf16⟩
  | _, _ => ⟨S32x16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InBSRefIdeal.lean ====
abbrev S32x16x1024 : Shape := ⟨3, ![32, 16, 1024]⟩
abbrev S1024x11520 : Shape := ⟨2, ![1024, 11520]⟩
abbrev S32x16x11520 : Shape := ⟨3, ![32, 16, 11520]⟩
abbrev S32x16x3328 : Shape := ⟨3, ![32, 16, 3328]⟩
abbrev S32x16x6144 : Shape := ⟨3, ![32, 16, 6144]⟩
abbrev S32x16x2048 : Shape := ⟨3, ![32, 16, 2048]⟩
abbrev S512x6144 : Shape := ⟨2, ![512, 6144]⟩

abbrev nBuf : Space → Nat
  | .hbm => 9
  | .vmem => 0
  | .smem => 0
  | _ => 0

abbrev bufTy : (tb : Table) → Fin (tcTables nBuf tb) → BufTy
  | .hbm, ⟨0, _⟩ => ⟨S32x16x1024, .bf16⟩
  | .hbm, ⟨1, _⟩ => ⟨S1024x11520, .f32⟩
  | .hbm, ⟨2, _⟩ => ⟨S32x16x1024, .f32⟩
  | .hbm, ⟨3, _⟩ => ⟨S32x16x11520, .f32⟩
  | .hbm, ⟨4, _⟩ => ⟨S32x16x3328, .f32⟩
  | .hbm, ⟨5, _⟩ => ⟨S32x16x6144, .f32⟩
  | .hbm, ⟨6, _⟩ => ⟨S32x16x2048, .f32⟩
  | .hbm, ⟨7, _⟩ => ⟨S512x6144, .f32⟩
  | .hbm, ⟨8, _⟩ => ⟨S512x6144, .bf16⟩
  | _, _ => ⟨S32x16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== InGS.lean ====
abbrev S32x16x1024 : Shape := ⟨3, ![32, 16, 1024]⟩
abbrev S1024x11520 : Shape := ⟨2, ![1024, 11520]⟩
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 6
  | .vmem => 3
  | .smem => 0
  | _ => 0

abbrev bufTy : (tb : Table) → Fin (tcTables nBuf tb) → BufTy
  | .hbm, ⟨0, _⟩ => ⟨S32x16x1024, .bf16⟩
  | .hbm, ⟨1, _⟩ => ⟨S1024x11520, .f32⟩
  | .hbm, ⟨2, _⟩ => ⟨S512x1024, .bf16⟩
  | .hbm, ⟨3, _⟩ => ⟨S1024x11520, .bf16⟩
  | .hbm, ⟨4, _⟩ => ⟨S1024x2048, .bf16⟩
  | .hbm, ⟨5, _⟩ => ⟨S512x2048, .bf16⟩
  | .local _ .vmem, ⟨0, _⟩ => ⟨S512x1024, .bf16⟩
  | .local _ .vmem, ⟨1, _⟩ => ⟨S1024x2048, .bf16⟩
  | .local _ .vmem, ⟨2, _⟩ => ⟨S512x2048, .bf16⟩
  | _, _ => ⟨S32x16x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== InGSRefIdeal.lean ====
abbrev S32x16x1024 : Shape := ⟨3, ![32, 16, 1024]⟩
abbrev S1024x11520 : Shape := ⟨2, ![1024, 11520]⟩
abbrev S32x16x11520 : Shape := ⟨3, ![32, 16, 11520]⟩
abbrev S32x16x3328 : Shape := ⟨3, ![32, 16, 3328]⟩
abbrev S32x16x6144 : Shape := ⟨3, ![32, 16, 6144]⟩
abbrev S32x16x2048 : Shape := ⟨3, ![32, 16, 2048]⟩
abbrev S512x2048 : Shape := ⟨2, ![512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S32x16x1024, .bf16⟩
  | .hbm, ⟨1, _⟩ => ⟨S1024x11520, .f32⟩
  | .hbm, ⟨2, _⟩ => ⟨S32x16x1024, .f32⟩
  | .hbm, ⟨3, _⟩ => ⟨S32x16x11520, .f32⟩
  | .hbm, ⟨4, _⟩ => ⟨S32x16x3328, .f32⟩
  | .hbm, ⟨5, _⟩ => ⟨S32x16x6144, .f32⟩
  | .hbm, ⟨6, _⟩ => ⟨S32x16x2048, .f32⟩
  | .hbm, ⟨7, _⟩ => ⟨S512x2048, .f32⟩
  | .hbm, ⟨8, _⟩ => ⟨S512x2048, .bf16⟩
  | _, _ => ⟨S32x16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== MergeS.lean ====
abbrev S32x16x1024 : Shape := ⟨3, ![32, 16, 1024]⟩
abbrev S32x16x2048 : Shape := ⟨3, ![32, 16, 2048]⟩
abbrev S32x6144 : Shape := ⟨2, ![32, 6144]⟩
abbrev S2x1024 : Shape := ⟨2, ![2, 1024]⟩
abbrev S1024x1024 : Shape := ⟨2, ![1024, 1024]⟩
abbrev S2048x1024 : Shape := ⟨2, ![2048, 1024]⟩
abbrev S32x1024 : Shape := ⟨2, ![32, 1024]⟩
abbrev S512x1024 : Shape := ⟨2, ![512, 1024]⟩
abbrev S1x512x1024 : Shape := ⟨3, ![1, 512, 1024]⟩
abbrev S512x2048 : Shape := ⟨2, ![512, 2048]⟩
abbrev S1x1024 : Shape := ⟨2, ![1, 1024]⟩
abbrev S1024 : Shape := ⟨1, ![1024]⟩
abbrev S256x1024 : Shape := ⟨2, ![256, 1024]⟩
abbrev S256x2048 : Shape := ⟨2, ![256, 2048]⟩
abbrev S1x256x1024 : Shape := ⟨3, ![1, 256, 1024]⟩
abbrev S256 : Shape := ⟨1, ![256]⟩
abbrev S256x1 : Shape := ⟨2, ![256, 1]⟩

abbrev nBuf : Space → Nat
  | .hbm => 44
  | .vmem => 10
  | .smem => 0
  | _ => 0

abbrev bufTy : (tb : Table) → Fin (tcTables nBuf tb) → BufTy
  | .hbm, ⟨0, _⟩ => ⟨S32x16x1024, .bf16⟩
  | .hbm, ⟨1, _⟩ => ⟨S32x16x2048, .bf16⟩
  | .hbm, ⟨2, _⟩ => ⟨S32x16x2048, .bf16⟩
  | .hbm, ⟨3, _⟩ => ⟨S32x16x1024, .f32⟩
  | .hbm, ⟨4, _⟩ => ⟨S32x6144, .f32⟩
  | .hbm, ⟨5, _⟩ => ⟨S2x1024, .f32⟩
  | .hbm, ⟨6, _⟩ => ⟨S1024x1024, .f32⟩
  | .hbm, ⟨7, _⟩ => ⟨S2048x1024, .f32⟩
  | .hbm, ⟨8, _⟩ => ⟨S1024x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S32x16x1024, .f32⟩
  | .hbm, ⟨16, _⟩ => ⟨S512x1024, .f32⟩
  | .hbm, ⟨17, _⟩ => ⟨S1x512x1024, .f32⟩
  | .hbm, ⟨18, _⟩ => ⟨S32x16x1024, .f32⟩
  | .hbm, ⟨19, _⟩ => ⟨S512x1024, .f32⟩
  | .hbm, ⟨20, _⟩ => ⟨S1x512x1024, .f32⟩
  | .hbm, ⟨21, _⟩ => ⟨S32x16x1024, .f32⟩
  | .hbm, ⟨22, _⟩ => ⟨S512x1024, .f32⟩
  | .hbm, ⟨23, _⟩ => ⟨S1x512x1024, .f32⟩
  | .hbm, ⟨24, _⟩ => ⟨S32x16x1024, .f32⟩
  | .hbm, ⟨25, _⟩ => ⟨S512x1024, .f32⟩
  | .hbm, ⟨26, _⟩ => ⟨S1x512x1024, .f32⟩
  | .hbm, ⟨27, _⟩ => ⟨S32x16x1024, .f32⟩
  | .hbm, ⟨28, _⟩ => ⟨S512x1024, .f32⟩
  | .hbm, ⟨29, _⟩ => ⟨S1x512x1024, .f32⟩
  | .hbm, ⟨30, _⟩ => ⟨S32x16x1024, .f32⟩
  | .hbm, ⟨31, _⟩ => ⟨S512x1024, .f32⟩
  | .hbm, ⟨32, _⟩ => ⟨S1x512x1024, .f32⟩
  | .hbm, ⟨33, _⟩ => ⟨S512x1024, .bf16⟩
  | .hbm, ⟨34, _⟩ => ⟨S512x2048, .bf16⟩
  | .hbm, ⟨35, _⟩ => ⟨S512x2048, .bf16⟩
  | .hbm, ⟨36, _⟩ => ⟨S512x1024, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S1024x1024, .bf16⟩
  | .hbm, ⟨41, _⟩ => ⟨S2048x1024, .bf16⟩
  | .hbm, ⟨42, _⟩ => ⟨S1024x1024, .bf16⟩
  | .hbm, ⟨43, _⟩ => ⟨S512x1024, .f32⟩
  | .local _ .vmem, ⟨0, _⟩ => ⟨S512x1024, .bf16⟩
  | .local _ .vmem, ⟨1, _⟩ => ⟨S512x2048, .bf16⟩
  | .local _ .vmem, ⟨2, _⟩ => ⟨S512x2048, .bf16⟩
  | .local _ .vmem, ⟨3, _⟩ => ⟨S512x1024, .f32⟩
  | .local _ .vmem, ⟨4, _⟩ => ⟨S1x512x1024, .f32⟩
  | .local _ .vmem, ⟨5, _⟩ => ⟨S1x1024, .f32⟩
  | .local _ .vmem, ⟨6, _⟩ => ⟨S1024x1024, .bf16⟩
  | .local _ .vmem, ⟨7, _⟩ => ⟨S2048x1024, .bf16⟩
  | .local _ .vmem, ⟨8, _⟩ => ⟨S1024x1024, .bf16⟩
  | .local _ .vmem, ⟨9, _⟩ => ⟨S512x1024, .f32⟩
  | _, _ => ⟨S32x16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== MergeSRefIdeal.lean ====
abbrev S32x16x1024 : Shape := ⟨3, ![32, 16, 1024]⟩
abbrev S32x16x2048 : Shape := ⟨3, ![32, 16, 2048]⟩
abbrev S32x6144 : Shape := ⟨2, ![32, 6144]⟩
abbrev S2x1024 : Shape := ⟨2, ![2, 1024]⟩
abbrev S1024x1024 : Shape := ⟨2, ![1024, 1024]⟩
abbrev S2048x1024 : Shape := ⟨2, ![2048, 1024]⟩
abbrev S32x1024 : Shape := ⟨2, ![32, 1024]⟩
abbrev S32x1x1024 : Shape := ⟨3, ![32, 1, 1024]⟩
abbrev S_ : Shape := ⟨0, ![]⟩
abbrev S32x16x2x1024 : Shape := ⟨4, ![32, 16, 2, 1024]⟩
abbrev S32x16x1x1024 : Shape := ⟨4, ![32, 16, 1, 1024]⟩
abbrev S1x1024 : Shape := ⟨2, ![1, 1024]⟩
abbrev S1024 : Shape := ⟨1, ![1024]⟩
abbrev S32x16 : Shape := ⟨2, ![32, 16]⟩
abbrev S32x16x1 : Shape := ⟨3, ![32, 16, 1]⟩
abbrev S1x1x1024 : Shape := ⟨3, ![1, 1, 1024]⟩
abbrev S512x1024 : Shape := ⟨2, ![512, 1024]⟩

abbrev nBuf : Space → Nat
  | .hbm => 65
  | .vmem => 0
  | .smem => 0
  | _ => 0

abbrev bufTy : (tb : Table) → Fin (tcTables nBuf tb) → BufTy
  | .hbm, ⟨0, _⟩ => ⟨S32x16x1024, .bf16⟩
  | .hbm, ⟨1, _⟩ => ⟨S32x16x2048, .bf16⟩
  | .hbm, ⟨2, _⟩ => ⟨S32x16x2048, .bf16⟩
  | .hbm, ⟨3, _⟩ => ⟨S32x16x1024, .f32⟩
  | .hbm, ⟨4, _⟩ => ⟨S32x6144, .f32⟩
  | .hbm, ⟨5, _⟩ => ⟨S2x1024, .f32⟩
  | .hbm, ⟨6, _⟩ => ⟨S1024x1024, .f32⟩
  | .hbm, ⟨7, _⟩ => ⟨S2048x1024, .f32⟩
  | .hbm, ⟨8, _⟩ => ⟨S1024x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S32x1x1024, .f32⟩
  | .hbm, ⟨16, _⟩ => ⟨S32x1x1024, .f32⟩
  | .hbm, ⟨17, _⟩ => ⟨S32x1x1024, .f32⟩
  | .hbm, ⟨18, _⟩ => ⟨S32x1x1024, .f32⟩
  | .hbm, ⟨19, _⟩ => ⟨S32x1x1024, .f32⟩
  | .hbm, ⟨20, _⟩ => ⟨S32x1x1024, .f32⟩
  | .hbm, ⟨21, _⟩ => ⟨S32x16x2048, .f32⟩
  | .hbm, ⟨22, _⟩ => ⟨S32x16x2048, .f32⟩
  | .hbm, ⟨23, _⟩ => ⟨S32x16x2048, .f32⟩
  | .hbm, ⟨24, _⟩ => ⟨S_, .f32⟩
  | .hbm, ⟨25, _⟩ => ⟨S32x16x2048, .f32⟩
  | .hbm, ⟨26, _⟩ => ⟨S32x16x2048, .f32⟩
  | .hbm, ⟨27, _⟩ => ⟨S_, .f32⟩
  | .hbm, ⟨28, _⟩ => ⟨S32x16x2048, .f32⟩
  | .hbm, ⟨29, _⟩ => ⟨S32x16x2048, .f32⟩
  | .hbm, ⟨30, _⟩ => ⟨S32x16x2x1024, .f32⟩
  | .hbm, ⟨31, _⟩ => ⟨S32x16x1x1024, .f32⟩
  | .hbm, ⟨32, _⟩ => ⟨S32x16x1024, .f32⟩
  | .hbm, ⟨33, _⟩ => ⟨S32x16x1024, .f32⟩
  | .hbm, ⟨34, _⟩ => ⟨S32x16x1024, .f32⟩
  | .hbm, ⟨35, _⟩ => ⟨S32x16x1024, .f32⟩
  | .hbm, ⟨36, _⟩ => ⟨S32x16x1x1024, .f32⟩
  | .hbm, ⟨37, _⟩ => ⟨S32x16x1024, .f32⟩
  | .hbm, ⟨38, _⟩ => ⟨S32x16x2048, .f32⟩
  | .hbm, ⟨39, _⟩ => ⟨S32x16x1024, .f32⟩
  | .hbm, ⟨40, _⟩ => ⟨S32x16x1024, .f32⟩
  | .hbm, ⟨41, _⟩ => ⟨S32x16x1024, .f32⟩
  | .hbm, ⟨42, _⟩ => ⟨S32x16x1024, .f32⟩
  | .hbm, ⟨43, _⟩ => ⟨S1x1024, .f32⟩
  | .hbm, ⟨44, _⟩ => ⟨S1024, .f32⟩
  | .hbm, ⟨45, _⟩ => ⟨S32x16x1024, .f32⟩
  | .hbm, ⟨46, _⟩ => ⟨S_, .f32⟩
  | .hbm, ⟨47, _⟩ => ⟨S32x16, .f32⟩
  | .hbm, ⟨48, _⟩ => ⟨S32x16x1, .f32⟩
  | .hbm, ⟨49, _⟩ => ⟨S_, .f32⟩
  | .hbm, ⟨50, _⟩ => ⟨S32x16x1, .f32⟩
  | .hbm, ⟨51, _⟩ => ⟨S32x16x1, .f32⟩
  | .hbm, ⟨52, _⟩ => ⟨S_, .f32⟩
  | .hbm, ⟨53, _⟩ => ⟨S32x16x1, .f32⟩
  | .hbm, ⟨54, _⟩ => ⟨S32x16x1, .f32⟩
  | .hbm, ⟨55, _⟩ => ⟨S32x16x1, .f32⟩
  | .hbm, ⟨56, _⟩ => ⟨S32x16x1024, .f32⟩
  | .hbm, ⟨57, _⟩ => ⟨S32x16x1024, .f32⟩
  | .hbm, ⟨58, _⟩ => ⟨S1x1x1024, .f32⟩
  | .hbm, ⟨59, _⟩ => ⟨S32x16x1024, .f32⟩
  | .hbm, ⟨60, _⟩ => ⟨S32x16x1024, .f32⟩
  | .hbm, ⟨61, _⟩ => ⟨S32x16x1024, .f32⟩
  | .hbm, ⟨62, _⟩ => ⟨S32x16x1024, .f32⟩
  | .hbm, ⟨63, _⟩ => ⟨S32x16x1024, .f32⟩
  | .hbm, ⟨64, _⟩ => ⟨S512x1024, .f32⟩
  | _, _ => ⟨S32x16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== PrenormS.lean ====
abbrev S32x16x1024 : Shape := ⟨3, ![32, 16, 1024]⟩
abbrev S32x6144 : Shape := ⟨2, ![32, 6144]⟩
abbrev S2x1024 : Shape := ⟨2, ![2, 1024]⟩
abbrev S32x1024 : Shape := ⟨2, ![32, 1024]⟩
abbrev S512x1024 : Shape := ⟨2, ![512, 1024]⟩
abbrev S1x512x1024 : Shape := ⟨3, ![1, 512, 1024]⟩
abbrev S1x1024 : Shape := ⟨2, ![1, 1024]⟩
abbrev S1024 : Shape := ⟨1, ![1024]⟩
abbrev S512 : Shape := ⟨1, ![512]⟩
abbrev S512x1 : Shape := ⟨2, ![512, 1]⟩

abbrev nBuf : Space → Nat
  | .hbm => 32
  | .vmem => 5
  | .smem => 0
  | _ => 0

abbrev bufTy : (tb : Table) → Fin (tcTables nBuf tb) → BufTy
  | .hbm, ⟨0, _⟩ => ⟨S32x16x1024, .f32⟩
  | .hbm, ⟨1, _⟩ => ⟨S32x6144, .f32⟩
  | .hbm, ⟨2, _⟩ => ⟨S2x1024, .f32⟩
  | .hbm, ⟨3, _⟩ => ⟨S32x1024, .f32⟩
  | .hbm, ⟨4, _⟩ => ⟨S32x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x16x1024, .f32⟩
  | .hbm, ⟨10, _⟩ => ⟨S512x1024, .f32⟩
  | .hbm, ⟨11, _⟩ => ⟨S1x512x1024, .f32⟩
  | .hbm, ⟨12, _⟩ => ⟨S32x16x1024, .f32⟩
  | .hbm, ⟨13, _⟩ => ⟨S512x1024, .f32⟩
  | .hbm, ⟨14, _⟩ => ⟨S1x512x1024, .f32⟩
  | .hbm, ⟨15, _⟩ => ⟨S32x16x1024, .f32⟩
  | .hbm, ⟨16, _⟩ => ⟨S512x1024, .f32⟩
  | .hbm, ⟨17, _⟩ => ⟨S1x512x1024, .f32⟩
  | .hbm, ⟨18, _⟩ => ⟨S32x16x1024, .f32⟩
  | .hbm, ⟨19, _⟩ => ⟨S512x1024, .f32⟩
  | .hbm, ⟨20, _⟩ => ⟨S1x512x1024, .f32⟩
  | .hbm, ⟨21, _⟩ => ⟨S32x16x1024, .f32⟩
  | .hbm, ⟨22, _⟩ => ⟨S512x1024, .f32⟩
  | .hbm, ⟨23, _⟩ => ⟨S1x512x1024, .f32⟩
  | .hbm, ⟨24, _⟩ => ⟨S32x16x1024, .f32⟩
  | .hbm, ⟨25, _⟩ => ⟨S512x1024, .f32⟩
  | .hbm, ⟨26, _⟩ => ⟨S1x512x1024, .f32⟩
  | .hbm, ⟨27, _⟩ => ⟨S512x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S1x512x1024, .f32⟩
  | .local _ .vmem, ⟨3, _⟩ => ⟨S1x512x1024, .f32⟩
  | .local _ .vmem, ⟨4, _⟩ => ⟨S512x1024, .bf16⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== PrenormSRefIdeal.lean ====
abbrev S32x16x1024 : Shape := ⟨3, ![32, 16, 1024]⟩
abbrev S32x6144 : Shape := ⟨2, ![32, 6144]⟩
abbrev S2x1024 : Shape := ⟨2, ![2, 1024]⟩
abbrev S32x1024 : Shape := ⟨2, ![32, 1024]⟩
abbrev S32x1x1024 : Shape := ⟨3, ![32, 1, 1024]⟩
abbrev S1x1024 : Shape := ⟨2, ![1, 1024]⟩
abbrev S1024 : Shape := ⟨1, ![1024]⟩
abbrev S_ : Shape := ⟨0, ![]⟩
abbrev S32x16 : Shape := ⟨2, ![32, 16]⟩
abbrev S32x16x1 : Shape := ⟨3, ![32, 16, 1]⟩
abbrev S1x1x1024 : Shape := ⟨3, ![1, 1, 1024]⟩
abbrev S512x1024 : Shape := ⟨2, ![512, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32x16x1024, .f32⟩
  | .hbm, ⟨1, _⟩ => ⟨S32x6144, .f32⟩
  | .hbm, ⟨2, _⟩ => ⟨S2x1024, .f32⟩
  | .hbm, ⟨3, _⟩ => ⟨S32x1024, .f32⟩
  | .hbm, ⟨4, _⟩ => ⟨S32x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S1x1024, .f32⟩
  | .hbm, ⟨16, _⟩ => ⟨S1024, .f32⟩
  | .hbm, ⟨17, _⟩ => ⟨S32x16x1024, .f32⟩
  | .hbm, ⟨18, _⟩ => ⟨S_, .f32⟩
  | .hbm, ⟨19, _⟩ => ⟨S32x16, .f32⟩
  | .hbm, ⟨20, _⟩ => ⟨S32x16x1, .f32⟩
  | .hbm, ⟨21, _⟩ => ⟨S_, .f32⟩
  | .hbm, ⟨22, _⟩ => ⟨S32x16x1, .f32⟩
  | .hbm, ⟨23, _⟩ => ⟨S32x16x1, .f32⟩
  | .hbm, ⟨24, _⟩ => ⟨S_, .f32⟩
  | .hbm, ⟨25, _⟩ => ⟨S32x16x1, .f32⟩
  | .hbm, ⟨26, _⟩ => ⟨S32x16x1, .f32⟩
  | .hbm, ⟨27, _⟩ => ⟨S32x16x1, .f32⟩
  | .hbm, ⟨28, _⟩ => ⟨S32x16x1024, .f32⟩
  | .hbm, ⟨29, _⟩ => ⟨S32x16x1024, .f32⟩
  | .hbm, ⟨30, _⟩ => ⟨S1x1x1024, .f32⟩
  | .hbm, ⟨31, _⟩ => ⟨S32x16x1024, .f32⟩
  | .hbm, ⟨32, _⟩ => ⟨S32x16x1024, .f32⟩
  | .hbm, ⟨33, _⟩ => ⟨S_, .f32⟩
  | .hbm, ⟨34, _⟩ => ⟨S32x1x1024, .f32⟩
  | .hbm, ⟨35, _⟩ => ⟨S32x1x1024, .f32⟩
  | .hbm, ⟨36, _⟩ => ⟨S32x16x1024, .f32⟩
  | .hbm, ⟨37, _⟩ => ⟨S32x16x1024, .f32⟩
  | .hbm, ⟨38, _⟩ => ⟨S32x16x1024, .f32⟩
  | .hbm, ⟨39, _⟩ => ⟨S32x16x1024, .f32⟩
  | .hbm, ⟨40, _⟩ => ⟨S512x1024, .f32⟩
  | .hbm, ⟨41, _⟩ => ⟨S512x1024, .bf16⟩
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== FfnN.lean ====
abbrev S32x2048x1024 : Shape := ⟨3, ![32, 2048, 1024]⟩
abbrev S32x6144 : Shape := ⟨2, ![32, 6144]⟩
abbrev S2x1024 : Shape := ⟨2, ![2, 1024]⟩
abbrev S1024x4096 : Shape := ⟨2, ![1024, 4096]⟩
abbrev S4096x1024 : Shape := ⟨2, ![4096, 1024]⟩
abbrev S32x1024 : Shape := ⟨2, ![32, 1024]⟩
abbrev S32x1x1024 : Shape := ⟨3, ![32, 1, 1024]⟩
abbrev S65536x1024 : Shape := ⟨2, ![65536, 1024]⟩
abbrev S1x1024 : Shape := ⟨2, ![1, 1024]⟩
abbrev S1024 : Shape := ⟨1, ![1024]⟩
abbrev S512x1024 : Shape := ⟨2, ![512, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 46
  | .vmem => 21
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S2x1024, .f32⟩
  | .hbm, ⟨3, _⟩ => ⟨S2x1024, .f32⟩
  | .hbm, ⟨4, _⟩ => ⟨S1024x4096, .f32⟩
  | .hbm, ⟨5, _⟩ => ⟨S4096x1024, .f32⟩
  | .hbm, ⟨6, _⟩ => ⟨S32x6144, .f32⟩
  | .hbm, ⟨7, _⟩ => ⟨S2x1024, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x1024, .f32⟩
  | .hbm, ⟨14, _⟩ => ⟨S32x1x1024, .f32⟩
  | .hbm, ⟨15, _⟩ => ⟨S32x1x1024, .f32⟩
  | .hbm, ⟨16, _⟩ => ⟨S32x1x1024, .f32⟩
  | .hbm, ⟨17, _⟩ => ⟨S32x1x1024, .f32⟩
  | .hbm, ⟨18, _⟩ => ⟨S32x1x1024, .f32⟩
  | .hbm, ⟨19, _⟩ => ⟨S32x1x1024, .f32⟩
  | .hbm, ⟨20, _⟩ => ⟨S32x1024, .f32⟩
  | .hbm, ⟨21, _⟩ => ⟨S32x1024, .f32⟩
  | .hbm, ⟨22, _⟩ => ⟨S32x1024, .f32⟩
  | .hbm, ⟨23, _⟩ => ⟨S32x1024, .f32⟩
  | .hbm, ⟨24, _⟩ => ⟨S32x1024, .f32⟩
  | .hbm, ⟨25, _⟩ => ⟨S32x1024, .f32⟩
  | .hbm, ⟨26, _⟩ => ⟨S32x1x1024, .f32⟩
  | .hbm, ⟨27, _⟩ => ⟨S32x1x1024, .f32⟩
  | .hbm, ⟨28, _⟩ => ⟨S32x1x1024, .f32⟩
  | .hbm, ⟨29, _⟩ => ⟨S32x1x1024, .f32⟩
  | .hbm, ⟨30, _⟩ => ⟨S32x1x1024, .f32⟩
  | .hbm, ⟨31, _⟩ => ⟨S32x1x1024, .f32⟩
  | .hbm, ⟨32, _⟩ => ⟨S65536x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S1024x4096, .bf16⟩
  | .hbm, ⟨40, _⟩ => ⟨S4096x1024, .bf16⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S65536x1024, .f32⟩
  | .hbm, ⟨45, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36_0 : Ref sig .tc := ⟨.hbm, 44, rfl⟩
abbrev main_v36_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FfnNIdeal.lean ====
abbrev S32x2048x1024 : Shape := ⟨3, ![32, 2048, 1024]⟩
abbrev S32x6144 : Shape := ⟨2, ![32, 6144]⟩
abbrev S2x1024 : Shape := ⟨2, ![2, 1024]⟩
abbrev S1024x4096 : Shape := ⟨2, ![1024, 4096]⟩
abbrev S4096x1024 : Shape := ⟨2, ![4096, 1024]⟩
abbrev S32x1024 : Shape := ⟨2, ![32, 1024]⟩
abbrev S32x1x1024 : Shape := ⟨3, ![32, 1, 1024]⟩
abbrev S65536x1024 : Shape := ⟨2, ![65536, 1024]⟩
abbrev S1x1024 : Shape := ⟨2, ![1, 1024]⟩
abbrev S1024 : Shape := ⟨1, ![1024]⟩
abbrev S512x1024 : Shape := ⟨2, ![512, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 46
  | .vmem => 21
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S2x1024, .f32⟩
  | .hbm, ⟨3, _⟩ => ⟨S2x1024, .f32⟩
  | .hbm, ⟨4, _⟩ => ⟨S1024x4096, .f32⟩
  | .hbm, ⟨5, _⟩ => ⟨S4096x1024, .f32⟩
  | .hbm, ⟨6, _⟩ => ⟨S32x6144, .f32⟩
  | .hbm, ⟨7, _⟩ => ⟨S2x1024, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x1024, .f32⟩
  | .hbm, ⟨14, _⟩ => ⟨S32x1x1024, .f32⟩
  | .hbm, ⟨15, _⟩ => ⟨S32x1x1024, .f32⟩
  | .hbm, ⟨16, _⟩ => ⟨S32x1x1024, .f32⟩
  | .hbm, ⟨17, _⟩ => ⟨S32x1x1024, .f32⟩
  | .hbm, ⟨18, _⟩ => ⟨S32x1x1024, .f32⟩
  | .hbm, ⟨19, _⟩ => ⟨S32x1x1024, .f32⟩
  | .hbm, ⟨20, _⟩ => ⟨S32x1024, .f32⟩
  | .hbm, ⟨21, _⟩ => ⟨S32x1024, .f32⟩
  | .hbm, ⟨22, _⟩ => ⟨S32x1024, .f32⟩
  | .hbm, ⟨23, _⟩ => ⟨S32x1024, .f32⟩
  | .hbm, ⟨24, _⟩ => ⟨S32x1024, .f32⟩
  | .hbm, ⟨25, _⟩ => ⟨S32x1024, .f32⟩
  | .hbm, ⟨26, _⟩ => ⟨S32x1x1024, .f32⟩
  | .hbm, ⟨27, _⟩ => ⟨S32x1x1024, .f32⟩
  | .hbm, ⟨28, _⟩ => ⟨S32x1x1024, .f32⟩
  | .hbm, ⟨29, _⟩ => ⟨S32x1x1024, .f32⟩
  | .hbm, ⟨30, _⟩ => ⟨S32x1x1024, .f32⟩
  | .hbm, ⟨31, _⟩ => ⟨S32x1x1024, .f32⟩
  | .hbm, ⟨32, _⟩ => ⟨S65536x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S1024x4096, .bf16⟩
  | .hbm, ⟨40, _⟩ => ⟨S4096x1024, .bf16⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S65536x1024, .f32⟩
  | .hbm, ⟨45, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36_0 : Ref sig .tc := ⟨.hbm, 44, rfl⟩
abbrev main_v36_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FfnNRefIdeal.lean ====
abbrev S32x2048x1024 : Shape := ⟨3, ![32, 2048, 1024]⟩
abbrev S32x6144 : Shape := ⟨2, ![32, 6144]⟩
abbrev S2x1024 : Shape := ⟨2, ![2, 1024]⟩
abbrev S1024x4096 : Shape := ⟨2, ![1024, 4096]⟩
abbrev S4096x1024 : Shape := ⟨2, ![4096, 1024]⟩
abbrev S32x1024 : Shape := ⟨2, ![32, 1024]⟩
abbrev S32x1x1024 : Shape := ⟨3, ![32, 1, 1024]⟩
abbrev S1x1024 : Shape := ⟨2, ![1, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4096 : Shape := ⟨3, ![32, 2048, 4096]⟩
abbrev S65536x1024 : Shape := ⟨2, ![65536, 1024]⟩

abbrev nBuf : Space → Nat
  | .hbm => 112
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S2x1024, .f32⟩
  | .hbm, ⟨3, _⟩ => ⟨S2x1024, .f32⟩
  | .hbm, ⟨4, _⟩ => ⟨S1024x4096, .f32⟩
  | .hbm, ⟨5, _⟩ => ⟨S4096x1024, .f32⟩
  | .hbm, ⟨6, _⟩ => ⟨S32x6144, .f32⟩
  | .hbm, ⟨7, _⟩ => ⟨S2x1024, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x1024, .f32⟩
  | .hbm, ⟨14, _⟩ => ⟨S32x1x1024, .f32⟩
  | .hbm, ⟨15, _⟩ => ⟨S32x1x1024, .f32⟩
  | .hbm, ⟨16, _⟩ => ⟨S32x1x1024, .f32⟩
  | .hbm, ⟨17, _⟩ => ⟨S32x1x1024, .f32⟩
  | .hbm, ⟨18, _⟩ => ⟨S32x1x1024, .f32⟩
  | .hbm, ⟨19, _⟩ => ⟨S32x1x1024, .f32⟩
  | .hbm, ⟨20, _⟩ => ⟨S1x1024, .f32⟩
  | .hbm, ⟨21, _⟩ => ⟨S1024, .f32⟩
  | .hbm, ⟨22, _⟩ => ⟨S32x2048x1024, .f32⟩
  | .hbm, ⟨23, _⟩ => ⟨S_, .f32⟩
  | .hbm, ⟨24, _⟩ => ⟨S32x2048, .f32⟩
  | .hbm, ⟨25, _⟩ => ⟨S32x2048x1, .f32⟩
  | .hbm, ⟨26, _⟩ => ⟨S_, .f32⟩
  | .hbm, ⟨27, _⟩ => ⟨S32x2048x1, .f32⟩
  | .hbm, ⟨28, _⟩ => ⟨S32x2048x1, .f32⟩
  | .hbm, ⟨29, _⟩ => ⟨S_, .f32⟩
  | .hbm, ⟨30, _⟩ => ⟨S32x2048x1, .f32⟩
  | .hbm, ⟨31, _⟩ => ⟨S32x2048x1, .f32⟩
  | .hbm, ⟨32, _⟩ => ⟨S32x2048x1, .f32⟩
  | .hbm, ⟨33, _⟩ => ⟨S32x2048x1024, .f32⟩
  | .hbm, ⟨34, _⟩ => ⟨S32x2048x1024, .f32⟩
  | .hbm, ⟨35, _⟩ => ⟨S1x1x1024, .f32⟩
  | .hbm, ⟨36, _⟩ => ⟨S32x2048x1024, .f32⟩
  | .hbm, ⟨37, _⟩ => ⟨S32x2048x1024, .f32⟩
  | .hbm, ⟨38, _⟩ => ⟨S_, .f32⟩
  | .hbm, ⟨39, _⟩ => ⟨S32x1x1024, .f32⟩
  | .hbm, ⟨40, _⟩ => ⟨S32x1x1024, .f32⟩
  | .hbm, ⟨41, _⟩ => ⟨S32x2048x1024, .f32⟩
  | .hbm, ⟨42, _⟩ => ⟨S32x2048x1024, .f32⟩
  | .hbm, ⟨43, _⟩ => ⟨S32x2048x1024, .f32⟩
  | .hbm, ⟨44, _⟩ => ⟨S32x2048x1024, .f32⟩
  | .hbm, ⟨45, _⟩ => ⟨S32x2048x4096, .f32⟩
  | .hbm, ⟨46, _⟩ => ⟨S_, .f32⟩
  | .hbm, ⟨47, _⟩ => ⟨S32x2048x4096, .f32⟩
  | .hbm, ⟨48, _⟩ => ⟨S32x2048x4096, .f32⟩
  | .hbm, ⟨49, _⟩ => ⟨S32x2048x4096, .f32⟩
  | .hbm, ⟨50, _⟩ => ⟨S32x2048x1024, .f32⟩
  | .hbm, ⟨51, _⟩ => ⟨S1x1024, .f32⟩
  | .hbm, ⟨52, _⟩ => ⟨S1024, .f32⟩
  | .hbm, ⟨53, _⟩ => ⟨S32x2048x1024, .f32⟩
  | .hbm, ⟨54, _⟩ => ⟨S_, .f32⟩
  | .hbm, ⟨55, _⟩ => ⟨S32x2048, .f32⟩
  | .hbm, ⟨56, _⟩ => ⟨S32x2048x1, .f32⟩
  | .hbm, ⟨57, _⟩ => ⟨S_, .f32⟩
  | .hbm, ⟨58, _⟩ => ⟨S32x2048x1, .f32⟩
  | .hbm, ⟨59, _⟩ => ⟨S32x2048x1, .f32⟩
  | .hbm, ⟨60, _⟩ => ⟨S_, .f32⟩
  | .hbm, ⟨61, _⟩ => ⟨S32x2048x1, .f32⟩
  | .hbm, ⟨62, _⟩ => ⟨S32x2048x1, .f32⟩
  | .hbm, ⟨63, _⟩ => ⟨S32x2048x1, .f32⟩
  | .hbm, ⟨64, _⟩ => ⟨S32x2048x1024, .f32⟩
  | .hbm, ⟨65, _⟩ => ⟨S32x2048x1024, .f32⟩
  | .hbm, ⟨66, _⟩ => ⟨S1x1x1024, .f32⟩
  | .hbm, ⟨67, _⟩ => ⟨S32x2048x1024, .f32⟩
  | .hbm, ⟨68, _⟩ => ⟨S32x2048x1024, .f32⟩
  | .hbm, ⟨69, _⟩ => ⟨S32x2048x1024, .f32⟩
  | .hbm, ⟨70, _⟩ => ⟨S32x2048x1024, .f32⟩
  | .hbm, ⟨71, _⟩ => ⟨S32x2048x1024, .f32⟩
  | .hbm, ⟨72, _⟩ => ⟨S32x1024, .f32⟩
  | .hbm, ⟨73, _⟩ => ⟨S32x1024, .f32⟩
  | .hbm, ⟨74, _⟩ => ⟨S32x1024, .f32⟩
  | .hbm, ⟨75, _⟩ => ⟨S32x1024, .f32⟩
  | .hbm, ⟨76, _⟩ => ⟨S32x1024, .f32⟩
  | .hbm, ⟨77, _⟩ => ⟨S32x1024, .f32⟩
  | .hbm, ⟨78, _⟩ => ⟨S32x1x1024, .f32⟩
  | .hbm, ⟨79, _⟩ => ⟨S32x1x1024, .f32⟩
  | .hbm, ⟨80, _⟩ => ⟨S32x1x1024, .f32⟩
  | .hbm, ⟨81, _⟩ => ⟨S32x1x1024, .f32⟩
  | .hbm, ⟨82, _⟩ => ⟨S32x1x1024, .f32⟩
  | .hbm, ⟨83, _⟩ => ⟨S32x1x1024, .f32⟩
  | .hbm, ⟨84, _⟩ => ⟨S1x1024, .f32⟩
  | .hbm, ⟨85, _⟩ => ⟨S1024, .f32⟩
  | .hbm, ⟨86, _⟩ => ⟨S32x2048x1024, .f32⟩
  | .hbm, ⟨87, _⟩ => ⟨S_, .f32⟩
  | .hbm, ⟨88, _⟩ => ⟨S32x2048, .f32⟩
  | .hbm, ⟨89, _⟩ => ⟨S32x2048x1, .f32⟩
  | .hbm, ⟨90, _⟩ => ⟨S_, .f32⟩
  | .hbm, ⟨91, _⟩ => ⟨S32x2048x1, .f32⟩
  | .hbm, ⟨92, _⟩ => ⟨S32x2048x1, .f32⟩
  | .hbm, ⟨93, _⟩ => ⟨S_, .f32⟩
  | .hbm, ⟨94, _⟩ => ⟨S32x2048x1, .f32⟩
  | .hbm, ⟨95, _⟩ => ⟨S32x2048x1, .f32⟩
  | .hbm, ⟨96, _⟩ => ⟨S32x2048x1, .f32⟩
  | .hbm, ⟨97, _⟩ => ⟨S32x2048x1024, .f32⟩
  | .hbm, ⟨98, _⟩ => ⟨S32x2048x1024, .f32⟩
  | .hbm, ⟨99, _⟩ => ⟨S1x1x1024, .f32⟩
  | .hbm, ⟨100, _⟩ => ⟨S32x2048x1024, .f32⟩
  | .hbm, ⟨101, _⟩ => ⟨S32x2048x1024, .f32⟩
  | .hbm, ⟨102, _⟩ => ⟨S_, .f32⟩
  | .hbm, ⟨103, _⟩ => ⟨S32x1x1024, .f32⟩
  | .hbm, ⟨104, _⟩ => ⟨S32x1x1024, .f32⟩
  | .hbm, ⟨105, _⟩ => ⟨S32x2048x1024, .f32⟩
  | .hbm, ⟨106, _⟩ => ⟨S32x2048x1024, .f32⟩
  | .hbm, ⟨107, _⟩ => ⟨S32x2048x1024, .f32⟩
  | .hbm, ⟨108, _⟩ => ⟨S32x2048x1024, .f32⟩
  | .hbm, ⟨109, _⟩ => ⟨S65536x1024, .f32⟩
  | .hbm, ⟨110, _⟩ => ⟨S65536x1024, .f32⟩
  | .hbm, ⟨111, _⟩ => ⟨S65536x1024, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_7 : Ref sig .tc := ⟨.hbm, 87, rfl⟩
abbrev main_v71 : Ref sig .tc := ⟨.hbm, 88, rfl⟩
abbrev main_v72 : Ref sig .tc := ⟨.hbm, 89, rfl⟩
abbrev main_cst_8 : Ref sig .tc := ⟨.hbm, 90, rfl⟩
abbrev main_v73 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_10 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩

abbrev nD : Nat := 1
abbrev τ : Topo := Topo.v7x

variable {F : FTy → Type} [FloatOps F]
-- ==== FfnNS.lean ====
abbrev S32x16x1024 : Shape := ⟨3, ![32, 16, 1024]⟩
abbrev S32x6144 : Shape := ⟨2, ![32, 6144]⟩
abbrev S2x1024 : Shape := ⟨2, ![2, 1024]⟩
abbrev S1024x4096 : Shape := ⟨2, ![1024, 4096]⟩
abbrev S4096x1024 : Shape := ⟨2, ![4096, 1024]⟩
abbrev S32x1024 : Shape := ⟨2, ![32, 1024]⟩
abbrev S512x1024 : Shape := ⟨2, ![512, 1024]⟩
abbrev S1x512x1024 : Shape := ⟨3, ![1, 512, 1024]⟩
abbrev S1x1024 : Shape := ⟨2, ![1, 1024]⟩
abbrev S1024 : Shape := ⟨1, ![1024]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1024x1024 : Shape := ⟨2, ![1024, 1024]⟩

abbrev nBuf : Space → Nat
  | .hbm => 70
  | .vmem => 13
  | .smem => 0
  | _ => 0

abbrev bufTy : (tb : Table) → Fin (tcTables nBuf tb) → BufTy
  | .hbm, ⟨0, _⟩ => ⟨S32x16x1024, .f32⟩
  | .hbm, ⟨1, _⟩ => ⟨S32x6144, .f32⟩
  | .hbm, ⟨2, _⟩ => ⟨S2x1024, .f32⟩
  | .hbm, ⟨3, _⟩ => ⟨S2x1024, .f32⟩
  | .hbm, ⟨4, _⟩ => ⟨S1024x4096, .f32⟩
  | .hbm, ⟨5, _⟩ => ⟨S4096x1024, .f32⟩
  | .hbm, ⟨6, _⟩ => ⟨S32x6144, .f32⟩
  | .hbm, ⟨7, _⟩ => ⟨S2x1024, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x1024, .f32⟩
  | .hbm, ⟨14, _⟩ => ⟨S32x16x1024, .f32⟩
  | .hbm, ⟨15, _⟩ => ⟨S512x1024, .f32⟩
  | .hbm, ⟨16, _⟩ => ⟨S1x512x1024, .f32⟩
  | .hbm, ⟨17, _⟩ => ⟨S32x16x1024, .f32⟩
  | .hbm, ⟨18, _⟩ => ⟨S512x1024, .f32⟩
  | .hbm, ⟨19, _⟩ => ⟨S1x512x1024, .f32⟩
  | .hbm, ⟨20, _⟩ => ⟨S32x16x1024, .f32⟩
  | .hbm, ⟨21, _⟩ => ⟨S512x1024, .f32⟩
  | .hbm, ⟨22, _⟩ => ⟨S1x512x1024, .f32⟩
  | .hbm, ⟨23, _⟩ => ⟨S32x16x1024, .f32⟩
  | .hbm, ⟨24, _⟩ => ⟨S512x1024, .f32⟩
  | .hbm, ⟨25, _⟩ => ⟨S1x512x1024, .f32⟩
  | .hbm, ⟨26, _⟩ => ⟨S32x16x1024, .f32⟩
  | .hbm, ⟨27, _⟩ => ⟨S512x1024, .f32⟩
  | .hbm, ⟨28, _⟩ => ⟨S1x512x1024, .f32⟩
  | .hbm, ⟨29, _⟩ => ⟨S32x16x1024, .f32⟩
  | .hbm, ⟨30, _⟩ => ⟨S512x1024, .f32⟩
  | .hbm, ⟨31, _⟩ => ⟨S1x512x1024, .f32⟩
  | .hbm, ⟨32, _⟩ => ⟨S32x1024, .f32⟩
  | .hbm, ⟨33, _⟩ => ⟨S32x1024, .f32⟩
  | .hbm, ⟨34, _⟩ => ⟨S32x1024, .f32⟩
  | .hbm, ⟨35, _⟩ => ⟨S32x1024, .f32⟩
  | .hbm, ⟨36, _⟩ => ⟨S32x1024, .f32⟩
  | .hbm, ⟨37, _⟩ => ⟨S32x1024, .f32⟩
  | .hbm, ⟨38, _⟩ => ⟨S32x16x1024, .f32⟩
  | .hbm, ⟨39, _⟩ => ⟨S512x1024, .f32⟩
  | .hbm, ⟨40, _⟩ => ⟨S1x512x1024, .f32⟩
  | .hbm, ⟨41, _⟩ => ⟨S32x16x1024, .f32⟩
  | .hbm, ⟨42, _⟩ => ⟨S512x1024, .f32⟩
  | .hbm, ⟨43, _⟩ => ⟨S1x512x1024, .f32⟩
  | .hbm, ⟨44, _⟩ => ⟨S32x16x1024, .f32⟩
  | .hbm, ⟨45, _⟩ => ⟨S512x1024, .f32⟩
  | .hbm, ⟨46, _⟩ => ⟨S1x512x1024, .f32⟩
  | .hbm, ⟨47, _⟩ => ⟨S32x16x1024, .f32⟩
  | .hbm, ⟨48, _⟩ => ⟨S512x1024, .f32⟩
  | .hbm, ⟨49, _⟩ => ⟨S1x512x1024, .f32⟩
  | .hbm, ⟨50, _⟩ => ⟨S32x16x1024, .f32⟩
  | .hbm, ⟨51, _⟩ => ⟨S512x1024, .f32⟩
  | .hbm, ⟨52, _⟩ => ⟨S1x512x1024, .f32⟩
  | .hbm, ⟨53, _⟩ => ⟨S32x16x1024, .f32⟩
  | .hbm, ⟨54, _⟩ => ⟨S512x1024, .f32⟩
  | .hbm, ⟨55, _⟩ => ⟨S1x512x1024, .f32⟩
  | .hbm, ⟨56, _⟩ => ⟨S512x1024, .f32⟩
  | .hbm, ⟨57, _⟩ => ⟨S1x1024, .f32⟩
  | .hbm, ⟨58, _⟩ => ⟨S1024, .f32⟩
  | .hbm, ⟨59, _⟩ => ⟨S1x1024, .f32⟩
  | .hbm, ⟨60, _⟩ => ⟨S1x1024, .f32⟩
  | .hbm, ⟨61, _⟩ => ⟨S1024, .f32⟩
  | .hbm, ⟨62, _⟩ => ⟨S1x1024, .f32⟩
  | .hbm, ⟨63, _⟩ => ⟨S1024x4096, .bf16⟩
  | .hbm, ⟨64, _⟩ => ⟨S4096x1024, .bf16⟩
  | .hbm, ⟨65, _⟩ => ⟨S1x1024, .f32⟩
  | .hbm, ⟨66, _⟩ => ⟨S1024, .f32⟩
  | .hbm, ⟨67, _⟩ => ⟨S1x1024, .f32⟩
  | .hbm, ⟨68, _⟩ => ⟨S512x1024, .f32⟩
  | .hbm, ⟨69, _⟩ => ⟨S512x1024, .bf16⟩
  | .local _ .vmem, ⟨0, _⟩ => ⟨S512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S512x1024, .f32⟩
  | .local _ .vmem, ⟨12, _⟩ => ⟨S512x1024, .bf16⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60_0 : Ref sig .tc := ⟨.hbm, 68, rfl⟩
abbrev main_v60_1 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_10 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== FfnNSRefIdeal.lean ====
abbrev S32x16x1024 : Shape := ⟨3, ![32, 16, 1024]⟩
abbrev S32x6144 : Shape := ⟨2, ![32, 6144]⟩
abbrev S2x1024 : Shape := ⟨2, ![2, 1024]⟩
abbrev S1024x4096 : Shape := ⟨2, ![1024, 4096]⟩
abbrev S4096x1024 : Shape := ⟨2, ![4096, 1024]⟩
abbrev S32x1024 : Shape := ⟨2, ![32, 1024]⟩
abbrev S32x1x1024 : Shape := ⟨3, ![32, 1, 1024]⟩
abbrev S1x1024 : Shape := ⟨2, ![1, 1024]⟩
abbrev S1024 : Shape := ⟨1, ![1024]⟩
abbrev S_ : Shape := ⟨0, ![]⟩
abbrev S32x16 : Shape := ⟨2, ![32, 16]⟩
abbrev S32x16x1 : Shape := ⟨3, ![32, 16, 1]⟩
abbrev S1x1x1024 : Shape := ⟨3, ![1, 1, 1024]⟩
abbrev S32x16x4096 : Shape := ⟨3, ![32, 16, 4096]⟩
abbrev S512x1024 : Shape := ⟨2, ![512, 1024]⟩

abbrev nBuf : Space → Nat
  | .hbm => 112
  | .vmem => 0
  | .smem => 0
  | _ => 0

abbrev bufTy : (tb : Table) → Fin (tcTables nBuf tb) → BufTy
  | .hbm, ⟨0, _⟩ => ⟨S32x16x1024, .f32⟩
  | .hbm, ⟨1, _⟩ => ⟨S32x6144, .f32⟩
  | .hbm, ⟨2, _⟩ => ⟨S2x1024, .f32⟩
  | .hbm, ⟨3, _⟩ => ⟨S2x1024, .f32⟩
  | .hbm, ⟨4, _⟩ => ⟨S1024x4096, .f32⟩
  | .hbm, ⟨5, _⟩ => ⟨S4096x1024, .f32⟩
  | .hbm, ⟨6, _⟩ => ⟨S32x6144, .f32⟩
  | .hbm, ⟨7, _⟩ => ⟨S2x1024, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x1024, .f32⟩
  | .hbm, ⟨14, _⟩ => ⟨S32x1x1024, .f32⟩
  | .hbm, ⟨15, _⟩ => ⟨S32x1x1024, .f32⟩
  | .hbm, ⟨16, _⟩ => ⟨S32x1x1024, .f32⟩
  | .hbm, ⟨17, _⟩ => ⟨S32x1x1024, .f32⟩
  | .hbm, ⟨18, _⟩ => ⟨S32x1x1024, .f32⟩
  | .hbm, ⟨19, _⟩ => ⟨S32x1x1024, .f32⟩
  | .hbm, ⟨20, _⟩ => ⟨S1x1024, .f32⟩
  | .hbm, ⟨21, _⟩ => ⟨S1024, .f32⟩
  | .hbm, ⟨22, _⟩ => ⟨S32x16x1024, .f32⟩
  | .hbm, ⟨23, _⟩ => ⟨S_, .f32⟩
  | .hbm, ⟨24, _⟩ => ⟨S32x16, .f32⟩
  | .hbm, ⟨25, _⟩ => ⟨S32x16x1, .f32⟩
  | .hbm, ⟨26, _⟩ => ⟨S_, .f32⟩
  | .hbm, ⟨27, _⟩ => ⟨S32x16x1, .f32⟩
  | .hbm, ⟨28, _⟩ => ⟨S32x16x1, .f32⟩
  | .hbm, ⟨29, _⟩ => ⟨S_, .f32⟩
  | .hbm, ⟨30, _⟩ => ⟨S32x16x1, .f32⟩
  | .hbm, ⟨31, _⟩ => ⟨S32x16x1, .f32⟩
  | .hbm, ⟨32, _⟩ => ⟨S32x16x1, .f32⟩
  | .hbm, ⟨33, _⟩ => ⟨S32x16x1024, .f32⟩
  | .hbm, ⟨34, _⟩ => ⟨S32x16x1024, .f32⟩
  | .hbm, ⟨35, _⟩ => ⟨S1x1x1024, .f32⟩
  | .hbm, ⟨36, _⟩ => ⟨S32x16x1024, .f32⟩
  | .hbm, ⟨37, _⟩ => ⟨S32x16x1024, .f32⟩
  | .hbm, ⟨38, _⟩ => ⟨S_, .f32⟩
  | .hbm, ⟨39, _⟩ => ⟨S32x1x1024, .f32⟩
  | .hbm, ⟨40, _⟩ => ⟨S32x1x1024, .f32⟩
  | .hbm, ⟨41, _⟩ => ⟨S32x16x1024, .f32⟩
  | .hbm, ⟨42, _⟩ => ⟨S32x16x1024, .f32⟩
  | .hbm, ⟨43, _⟩ => ⟨S32x16x1024, .f32⟩
  | .hbm, ⟨44, _⟩ => ⟨S32x16x1024, .f32⟩
  | .hbm, ⟨45, _⟩ => ⟨S32x16x4096, .f32⟩
  | .hbm, ⟨46, _⟩ => ⟨S_, .f32⟩
  | .hbm, ⟨47, _⟩ => ⟨S32x16x4096, .f32⟩
  | .hbm, ⟨48, _⟩ => ⟨S32x16x4096, .f32⟩
  | .hbm, ⟨49, _⟩ => ⟨S32x16x4096, .f32⟩
  | .hbm, ⟨50, _⟩ => ⟨S32x16x1024, .f32⟩
  | .hbm, ⟨51, _⟩ => ⟨S1x1024, .f32⟩
  | .hbm, ⟨52, _⟩ => ⟨S1024, .f32⟩
  | .hbm, ⟨53, _⟩ => ⟨S32x16x1024, .f32⟩
  | .hbm, ⟨54, _⟩ => ⟨S_, .f32⟩
  | .hbm, ⟨55, _⟩ => ⟨S32x16, .f32⟩
  | .hbm, ⟨56, _⟩ => ⟨S32x16x1, .f32⟩
  | .hbm, ⟨57, _⟩ => ⟨S_, .f32⟩
  | .hbm, ⟨58, _⟩ => ⟨S32x16x1, .f32⟩
  | .hbm, ⟨59, _⟩ => ⟨S32x16x1, .f32⟩
  | .hbm, ⟨60, _⟩ => ⟨S_, .f32⟩
  | .hbm, ⟨61, _⟩ => ⟨S32x16x1, .f32⟩
  | .hbm, ⟨62, _⟩ => ⟨S32x16x1, .f32⟩
  | .hbm, ⟨63, _⟩ => ⟨S32x16x1, .f32⟩
  | .hbm, ⟨64, _⟩ => ⟨S32x16x1024, .f32⟩
  | .hbm, ⟨65, _⟩ => ⟨S32x16x1024, .f32⟩
  | .hbm, ⟨66, _⟩ => ⟨S1x1x1024, .f32⟩
  | .hbm, ⟨67, _⟩ => ⟨S32x16x1024, .f32⟩
  | .hbm, ⟨68, _⟩ => ⟨S32x16x1024, .f32⟩
  | .hbm, ⟨69, _⟩ => ⟨S32x16x1024, .f32⟩
  | .hbm, ⟨70, _⟩ => ⟨S32x16x1024, .f32⟩
  | .hbm, ⟨71, _⟩ => ⟨S32x16x1024, .f32⟩
  | .hbm, ⟨72, _⟩ => ⟨S32x1024, .f32⟩
  | .hbm, ⟨73, _⟩ => ⟨S32x1024, .f32⟩
  | .hbm, ⟨74, _⟩ => ⟨S32x1024, .f32⟩
  | .hbm, ⟨75, _⟩ => ⟨S32x1024, .f32⟩
  | .hbm, ⟨76, _⟩ => ⟨S32x1024, .f32⟩
  | .hbm, ⟨77, _⟩ => ⟨S32x1024, .f32⟩
  | .hbm, ⟨78, _⟩ => ⟨S32x1x1024, .f32⟩
  | .hbm, ⟨79, _⟩ => ⟨S32x1x1024, .f32⟩
  | .hbm, ⟨80, _⟩ => ⟨S32x1x1024, .f32⟩
  | .hbm, ⟨81, _⟩ => ⟨S32x1x1024, .f32⟩
  | .hbm, ⟨82, _⟩ => ⟨S32x1x1024, .f32⟩
  | .hbm, ⟨83, _⟩ => ⟨S32x1x1024, .f32⟩
  | .hbm, ⟨84, _⟩ => ⟨S1x1024, .f32⟩
  | .hbm, ⟨85, _⟩ => ⟨S1024, .f32⟩
  | .hbm, ⟨86, _⟩ => ⟨S32x16x1024, .f32⟩
  | .hbm, ⟨87, _⟩ => ⟨S_, .f32⟩
  | .hbm, ⟨88, _⟩ => ⟨S32x16, .f32⟩
  | .hbm, ⟨89, _⟩ => ⟨S32x16x1, .f32⟩
  | .hbm, ⟨90, _⟩ => ⟨S_, .f32⟩
  | .hbm, ⟨91, _⟩ => ⟨S32x16x1, .f32⟩
  | .hbm, ⟨92, _⟩ => ⟨S32x16x1, .f32⟩
  | .hbm, ⟨93, _⟩ => ⟨S_, .f32⟩
  | .hbm, ⟨94, _⟩ => ⟨S32x16x1, .f32⟩
  | .hbm, ⟨95, _⟩ => ⟨S32x16x1, .f32⟩
  | .hbm, ⟨96, _⟩ => ⟨S32x16x1, .f32⟩
  | .hbm, ⟨97, _⟩ => ⟨S32x16x1024, .f32⟩
  | .hbm, ⟨98, _⟩ => ⟨S32x16x1024, .f32⟩
  | .hbm, ⟨99, _⟩ => ⟨S1x1x1024, .f32⟩
  | .hbm, ⟨100, _⟩ => ⟨S32x16x1024, .f32⟩
  | .hbm, ⟨101, _⟩ => ⟨S32x16x1024, .f32⟩
  | .hbm, ⟨102, _⟩ => ⟨S_, .f32⟩
  | .hbm, ⟨103, _⟩ => ⟨S32x1x1024, .f32⟩
  | .hbm, ⟨104, _⟩ => ⟨S32x1x1024, .f32⟩
  | .hbm, ⟨105, _⟩ => ⟨S32x16x1024, .f32⟩
  | .hbm, ⟨106, _⟩ => ⟨S32x16x1024, .f32⟩
  | .hbm, ⟨107, _⟩ => ⟨S32x16x1024, .f32⟩
  | .hbm, ⟨108, _⟩ => ⟨S32x16x1024, .f32⟩
  | .hbm, ⟨109, _⟩ => ⟨S512x1024, .f32⟩
  | .hbm, ⟨110, _⟩ => ⟨S512x1024, .f32⟩
  | .hbm, ⟨111, _⟩ => ⟨S512x1024, .bf16⟩
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_7 : Ref sig .tc := ⟨.hbm, 87, rfl⟩
abbrev main_v71 : Ref sig .tc := ⟨.hbm, 88, rfl⟩
abbrev main_v72 : Ref sig .tc := ⟨.hbm, 89, rfl⟩
abbrev main_cst_8 : Ref sig .tc := ⟨.hbm, 90, rfl⟩
abbrev main_v73 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_10 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩

abbrev nD : Nat := 1
abbrev τ : Topo := Topo.v7x

variable {F : FTy → Type} [FloatOps F]
-- ==== RetF.lean ====
abbrev S32x16x6144 : Shape := ⟨3, ![32, 16, 6144]⟩
abbrev S2x32x4x256x512 : Shape := ⟨5, ![2, 32, 4, 256, 512]⟩
abbrev S512x6144 : Shape := ⟨2, ![512, 6144]⟩
abbrev S_ : Shape := ⟨0, ![]⟩
abbrev S127 : Shape := ⟨1, ![127]⟩
abbrev S1 : Shape := ⟨1, ![1]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S32x128x6144 : Shape := ⟨3, ![32, 128, 6144]⟩
abbrev S4096x6144 : Shape := ⟨2, ![4096, 6144]⟩
abbrev S4096x2048 : Shape := ⟨2, ![4096, 2048]⟩
abbrev S128x6144 : Shape := ⟨2, ![128, 6144]⟩
abbrev S1x1x4x256x512 : Shape := ⟨5, ![1, 1, 4, 256, 512]⟩
abbrev S128x2048 : Shape := ⟨2, ![128, 2048]⟩
abbrev S4x256x512 : Shape := ⟨3, ![4, 256, 512]⟩
abbrev S128x256 : Shape := ⟨2, ![128, 256]⟩
abbrev S128x512 : Shape := ⟨2, ![128, 512]⟩
abbrev S1x1x1x256x512 : Shape := ⟨5, ![1, 1, 1, 256, 512]⟩
abbrev S256x512 : Shape := ⟨2, ![256, 512]⟩
abbrev S256x128 : Shape := ⟨2, ![256, 128]⟩
abbrev S32x128x2048 : Shape := ⟨3, ![32, 128, 2048]⟩
abbrev S32x16x2048 : Shape := ⟨3, ![32, 16, 2048]⟩
abbrev S512x2048 : Shape := ⟨2, ![512, 2048]⟩
abbrev S1x32x4x256x512 : Shape := ⟨5, ![1, 32, 4, 256, 512]⟩
abbrev S32x4x256x512 : Shape := ⟨4, ![32, 4, 256, 512]⟩

abbrev nBuf : Space → Nat
  | .hbm => 54
  | .vmem => 10
  | .smem => 0
  | _ => 0

abbrev bufTy : (tb : Table) → Fin (tcTables nBuf tb) → BufTy
  | .hbm, ⟨0, _⟩ => ⟨S32x16x6144, .bf16⟩
  | .hbm, ⟨1, _⟩ => ⟨S2x32x4x256x512, .f32⟩
  | .hbm, ⟨2, _⟩ => ⟨S512x6144, .bf16⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S127, .f32⟩
  | .hbm, ⟨11, _⟩ => ⟨S_, .f32⟩
  | .hbm, ⟨12, _⟩ => ⟨S127, .f32⟩
  | .hbm, ⟨13, _⟩ => ⟨S127, .f32⟩
  | .hbm, ⟨14, _⟩ => ⟨S1, .f32⟩
  | .hbm, ⟨15, _⟩ => ⟨S_, .f32⟩
  | .hbm, ⟨16, _⟩ => ⟨S127, .f32⟩
  | .hbm, ⟨17, _⟩ => ⟨S127, .f32⟩
  | .hbm, ⟨18, _⟩ => ⟨S127, .f32⟩
  | .hbm, ⟨19, _⟩ => ⟨S127, .f32⟩
  | .hbm, ⟨20, _⟩ => ⟨S1, .f32⟩
  | .hbm, ⟨21, _⟩ => ⟨S127, .f32⟩
  | .hbm, ⟨22, _⟩ => ⟨S127, .f32⟩
  | .hbm, ⟨23, _⟩ => ⟨S127, .f32⟩
  | .hbm, ⟨24, _⟩ => ⟨S1, .f32⟩
  | .hbm, ⟨25, _⟩ => ⟨S128, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S128, .i32⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S128, .f32⟩
  | .hbm, ⟨35, _⟩ => ⟨S128x1, .f32⟩
  | .hbm, ⟨36, _⟩ => ⟨S1x128, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S32x16x6144, .bf16⟩
  | .hbm, ⟨41, _⟩ => ⟨S_, .i32⟩
  | .hbm, ⟨42, _⟩ => ⟨S_, .bf16⟩
  | .hbm, ⟨43, _⟩ => ⟨S32x128x6144, .bf16⟩
  | .hbm, ⟨44, _⟩ => ⟨S4096x6144, .bf16⟩
  | .hbm, ⟨45, _⟩ => ⟨S128x128, .f32⟩
  | .hbm, ⟨46, _⟩ => ⟨S128x128, .f32⟩
  | .hbm, ⟨47, _⟩ => ⟨S4096x2048, .bf16⟩
  | .hbm, ⟨48, _⟩ => ⟨S2x32x4x256x512, .f32⟩
  | .hbm, ⟨49, _⟩ => ⟨S32x128x2048, .bf16⟩
  | .hbm, ⟨50, _⟩ => ⟨S32x16x2048, .bf16⟩
  | .hbm, ⟨51, _⟩ => ⟨S512x2048, .bf16⟩
  | .hbm, ⟨52, _⟩ => ⟨S1x32x4x256x512, .f32⟩
  | .hbm, ⟨53, _⟩ => ⟨S32x4x256x512, .f32⟩
  | .local _ .vmem, ⟨0, _⟩ => ⟨S128x6144, .bf16⟩
  | .local _ .vmem, ⟨1, _⟩ => ⟨S128x6144, .bf16⟩
  | .local _ .vmem, ⟨2, _⟩ => ⟨S128x128, .f32⟩
  | .local _ .vmem, ⟨3, _⟩ => ⟨S128x128, .f32⟩
  | .local _ .vmem, ⟨4, _⟩ => ⟨S1x1x4x256x512, .f32⟩
  | .local _ .vmem, ⟨5, _⟩ => ⟨S1x1x4x256x512, .f32⟩
  | .local _ .vmem, ⟨6, _⟩ => ⟨S128x2048, .bf16⟩
  | .local _ .vmem, ⟨7, _⟩ => ⟨S128x2048, .bf16⟩
  | .local _ .vmem, ⟨8, _⟩ => ⟨S1x1x4x256x512, .f32⟩
  | .local _ .vmem, ⟨9, _⟩ => ⟨S1x1x4x256x512, .f32⟩
  | _, _ => ⟨S32x16x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_v1 : Ref sig .tc := ⟨.hbm, 25, rfl⟩
abbrev main_v2 : Ref sig .tc := ⟨.hbm, 26, rfl⟩
abbrev main_cst_1 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_c : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c_2 : Ref sig .tc := ⟨.hbm, 41, rfl⟩
abbrev main_call1_v0 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19_0 : Ref sig .tc := ⟨.hbm, 47, rfl⟩
abbrev main_v19_1 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x1x4x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RetFIdeal.lean ====
variable {F : FTy → Type} [FloatOps F] [Named F]
def κ : String → Option EReal := fun
  | "g16_0" => some ((727423121747185263828481 / 1208925819614629174706176 : ℝ) : EReal)
  | "g16_1" => some ((61581291280182164914327485441 / 79228162514264337593543950336 : ℝ) : EReal)
  | "g16_2" => some ((4579937329576774398276408998492161 / 5192296858534827628530496329220096 : ℝ) : EReal)
  | "g16_3" => some ((319626579315078487616775634918212890625 / 340282366920938463463374607431768211456 : ℝ) : EReal)
  | "log_g0" => some ((Real.log (31 / 32) : ℝ) : EReal)
  | "log_g1" => some ((Real.log (63 / 64) : ℝ) : EReal)
  | "log_g2" => some ((Real.log (127 / 128) : ℝ) : EReal)
  | "log_g3" => some ((Real.log (255 / 256) : ℝ) : EReal)
  | _ => none
-- ==== RetFRefIdeal.lean ====
abbrev S32x16x6144 : Shape := ⟨3, ![32, 16, 6144]⟩
abbrev S2x32x4x256x512 : Shape := ⟨5, ![2, 32, 4, 256, 512]⟩
abbrev S1x32x4x256x512 : Shape := ⟨5, ![1, 32, 4, 256, 512]⟩
abbrev S32x4x256x512 : Shape := ⟨4, ![32, 4, 256, 512]⟩
abbrev S16 : Shape := ⟨1, ![16]⟩
abbrev S_ : Shape := ⟨0, ![]⟩
abbrev S32x16x1024 : Shape := ⟨3, ![32, 16, 1024]⟩
abbrev S32x16x2048 : Shape := ⟨3, ![32, 16, 2048]⟩
abbrev S32x16x4x256 : Shape := ⟨4, ![32, 16, 4, 256]⟩
abbrev S127 : Shape := ⟨1, ![127]⟩
abbrev S1 : Shape := ⟨1, ![1]⟩
abbrev S128 : Shape := ⟨1, ![128]⟩
abbrev S16x1 : Shape := ⟨2, ![16, 1]⟩
abbrev S1x128 : Shape := ⟨2, ![1, 128]⟩
abbrev S16x128 : Shape := ⟨2, ![16, 128]⟩
abbrev S1x16x1x128 : Shape := ⟨4, ![1, 16, 1, 128]⟩
abbrev S32x16x4x128 : Shape := ⟨4, ![32, 16, 4, 128]⟩
abbrev S32x16x4x512 : Shape := ⟨4, ![32, 16, 4, 512]⟩
abbrev S32x4x16x256 : Shape := ⟨4, ![32, 4, 16, 256]⟩
abbrev S32x4x16x512 : Shape := ⟨4, ![32, 4, 16, 512]⟩
abbrev S4 : Shape := ⟨1, ![4]⟩
abbrev S1x16 : Shape := ⟨2, ![1, 16]⟩
abbrev S16x16 : Shape := ⟨2, ![16, 16]⟩
abbrev S1x16x16 : Shape := ⟨3, ![1, 16, 16]⟩
abbrev S4x1x1 : Shape := ⟨3, ![4, 1, 1]⟩
abbrev S4x16x16 : Shape := ⟨3, ![4, 16, 16]⟩
abbrev S32x4x16x16 : Shape := ⟨4, ![32, 4, 16, 16]⟩
abbrev S1x4x16x16 : Shape := ⟨4, ![1, 4, 16, 16]⟩
abbrev S4x1 : Shape := ⟨2, ![4, 1]⟩
abbrev S4x16 : Shape := ⟨2, ![4, 16]⟩
abbrev S1x4x16x1 : Shape := ⟨4, ![1, 4, 16, 1]⟩
abbrev S1x4x1x1 : Shape := ⟨4, ![1, 4, 1, 1]⟩
abbrev S32x16x4 : Shape := ⟨3, ![32, 16, 4]⟩
abbrev S32x16x4x1 : Shape := ⟨4, ![32, 16, 4, 1]⟩
abbrev S512x2048 : Shape := ⟨2, ![512, 2048]⟩

abbrev nBuf : Space → Nat
  | .hbm => 223
  | .vmem => 0
  | .smem => 0
  | _ => 0

abbrev hbmTy0_0 (i : Nat) : BufTy := match i % 128 with
  | 0 => ⟨S32x16x6144, .bf16⟩
  | 1 => ⟨S2x32x4x256x512, .f32⟩
  | 2 => ⟨S1x32x4x256x512, .f32⟩
  | 3 => ⟨S32x4x256x512, .f32⟩
  | 4 => ⟨S16, .i32⟩
  | 5 => ⟨S_, .i32⟩
  | 6 => ⟨S16, .i32⟩
  | 7 => ⟨S16, .i32⟩
  | 8 => ⟨S32x16x6144, .f32⟩
  | 9 => ⟨S32x16x1024, .f32⟩
  | 10 => ⟨S32x16x1024, .f32⟩
  | 11 => ⟨S32x16x2048, .f32⟩
  | 12 => ⟨S32x16x2048, .f32⟩
  | 13 => ⟨S32x16x4x256, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S127, .f32⟩
  | 22 => ⟨S_, .f32⟩
  | 23 => ⟨S127, .f32⟩
  | 24 => ⟨S127, .f32⟩
  | 25 => ⟨S1, .f32⟩
  | 26 => ⟨S_, .f32⟩
  | 27 => ⟨S127, .f32⟩
  | 28 => ⟨S127, .f32⟩
  | 29 => ⟨S127, .f32⟩
  | 30 => ⟨S127, .f32⟩
  | 31 => ⟨S1, .f32⟩
  | 32 => ⟨S127, .f32⟩
  | 33 => ⟨S127, .f32⟩
  | 34 => ⟨S127, .f32⟩
  | 35 => ⟨S1, .f32⟩
  | 36 => ⟨S128, .f32⟩
  | 37 => ⟨S128, .f32⟩
  | 38 => ⟨S_, .f32⟩
  | 39 => ⟨S128, .f32⟩
  | 40 => ⟨S128, .f32⟩
  | 41 => ⟨S16, .f32⟩
  | 42 => ⟨S16x1, .f32⟩
  | 43 => ⟨S1x128, .f32⟩
  | 44 => ⟨S16x128, .f32⟩
  | 45 => ⟨S16x128, .f32⟩
  | 46 => ⟨S16x128, .f32⟩
  | 47 => ⟨S16x128, .f32⟩
  | 48 => ⟨S1x16x1x128, .f32⟩
  | 49 => ⟨S16x128, .f32⟩
  | 50 => ⟨S1x16x1x128, .f32⟩
  | 51 => ⟨S32x16x4x128, .f32⟩
  | 52 => ⟨S32x16x4x128, .f32⟩
  | 53 => ⟨S32x16x4x128, .f32⟩
  | 54 => ⟨S32x16x4x128, .f32⟩
  | 55 => ⟨S32x16x4x128, .f32⟩
  | 56 => ⟨S32x16x4x128, .f32⟩
  | 57 => ⟨S32x16x4x128, .f32⟩
  | 58 => ⟨S32x16x4x128, .f32⟩
  | 59 => ⟨S32x16x4x128, .f32⟩
  | 60 => ⟨S32x16x4x128, .f32⟩
  | 61 => ⟨S32x16x4x128, .f32⟩
  | 62 => ⟨S32x16x4x128, .f32⟩
  | 63 => ⟨S32x16x4x256, .f32⟩
  | 64 => ⟨S32x16x4x256, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S127, .f32⟩
  | 73 => ⟨S_, .f32⟩
  | 74 => ⟨S127, .f32⟩
  | 75 => ⟨S127, .f32⟩
  | 76 => ⟨S1, .f32⟩
  | 77 => ⟨S_, .f32⟩
  | 78 => ⟨S127, .f32⟩
  | 79 => ⟨S127, .f32⟩
  | 80 => ⟨S127, .f32⟩
  | 81 => ⟨S127, .f32⟩
  | 82 => ⟨S1, .f32⟩
  | 83 => ⟨S127, .f32⟩
  | 84 => ⟨S127, .f32⟩
  | 85 => ⟨S127, .f32⟩
  | 86 => ⟨S1, .f32⟩
  | 87 => ⟨S128, .f32⟩
  | 88 => ⟨S128, .f32⟩
  | 89 => ⟨S_, .f32⟩
  | 90 => ⟨S128, .f32⟩
  | 91 => ⟨S128, .f32⟩
  | 92 => ⟨S16, .f32⟩
  | 93 => ⟨S16x1, .f32⟩
  | 94 => ⟨S1x128, .f32⟩
  | 95 => ⟨S16x128, .f32⟩
  | 96 => ⟨S16x128, .f32⟩
  | 97 => ⟨S16x128, .f32⟩
  | 98 => ⟨S16x128, .f32⟩
  | 99 => ⟨S1x16x1x128, .f32⟩
  | 100 => ⟨S16x128, .f32⟩
  | 101 => ⟨S1x16x1x128, .f32⟩
  | 102 => ⟨S32x16x4x128, .f32⟩
  | 103 => ⟨S32x16x4x128, .f32⟩
  | 104 => ⟨S32x16x4x128, .f32⟩
  | 105 => ⟨S32x16x4x128, .f32⟩
  | 106 => ⟨S32x16x4x128, .f32⟩
  | 107 => ⟨S32x16x4x128, .f32⟩
  | 108 => ⟨S32x16x4x128, .f32⟩
  | 109 => ⟨S32x16x4x128, .f32⟩
  | 110 => ⟨S32x16x4x128, .f32⟩
  | 111 => ⟨S32x16x4x128, .f32⟩
  | 112 => ⟨S32x16x4x128, .f32⟩
  | 113 => ⟨S32x16x4x128, .f32⟩
  | 114 => ⟨S32x16x4x256, .f32⟩
  | 115 => ⟨S_, .f32⟩
  | 116 => ⟨S32x16x4x256, .f32⟩
  | 117 => ⟨S32x16x4x256, .f32⟩
  | 118 => ⟨S32x16x4x512, .f32⟩
  | 119 => ⟨S32x4x16x256, .f32⟩
  | 120 => ⟨S32x4x16x256, .f32⟩
  | 121 => ⟨S32x4x16x512, .f32⟩
  | 122 => ⟨S4, .f32⟩
  | 123 => ⟨S_, .f32⟩
  | 124 => ⟨S4, .f32⟩
  | 125 => ⟨S4, .f32⟩
  | 126 => ⟨S_, .f32⟩
  | 127 => ⟨S4, .f32⟩
  | _ => ⟨S32x16x6144, .bf16⟩

abbrev hbmTy0_1 (i : Nat) : BufTy := match i % 128 with
  | 0 => ⟨S4, .f32⟩
  | 1 => ⟨S_, .f32⟩
  | 2 => ⟨S4, .f32⟩
  | 3 => ⟨S4, .f32⟩
  | 4 => ⟨S4, .f32⟩
  | 5 => ⟨S16, .f32⟩
  | 6 => ⟨S16x1, .f32⟩
  | 7 => ⟨S1x16, .f32⟩
  | 8 => ⟨S16x16, .f32⟩
  | 9 => ⟨S16x16, .f32⟩
  | 10 => ⟨S16x16, .f32⟩
  | 11 => ⟨S_, .f32⟩
  | 12 => ⟨S16x16, .f32⟩
  | 13 => ⟨S16x16, .i1⟩
  | 14 => ⟨S_, .f32⟩
  | 15 => ⟨S16x16, .f32⟩
  | 16 => ⟨S16x16, .f32⟩
  | 17 => ⟨S1x16x16, .f32⟩
  | 18 => ⟨S4x1x1, .f32⟩
  | 19 => ⟨S4x16x16, .f32⟩
  | 20 => ⟨S4x16x16, .f32⟩
  | 21 => ⟨S4x16x16, .f32⟩
  | 22 => ⟨S4x16x16, .f32⟩
  | 23 => ⟨S_, .f32⟩
  | 24 => ⟨S_, .f32⟩
  | 25 => ⟨S4x16x16, .i1⟩
  | 26 => ⟨S4x16x16, .f32⟩
  | 27 => ⟨S4x16x16, .f32⟩
  | 28 => ⟨S32x4x16x16, .f32⟩
  | 29 => ⟨S1x4x16x16, .f32⟩
  | 30 => ⟨S32x4x16x16, .f32⟩
  | 31 => ⟨S32x4x16x16, .f32⟩
  | 32 => ⟨S32x4x16x512, .f32⟩
  | 33 => ⟨S_, .f32⟩
  | 34 => ⟨S16, .f32⟩
  | 35 => ⟨S16, .f32⟩
  | 36 => ⟨S1x16, .f32⟩
  | 37 => ⟨S4x1, .f32⟩
  | 38 => ⟨S4x16, .f32⟩
  | 39 => ⟨S4x16, .f32⟩
  | 40 => ⟨S4x16, .f32⟩
  | 41 => ⟨S4x16, .f32⟩
  | 42 => ⟨S1x4x16x1, .f32⟩
  | 43 => ⟨S32x4x16x256, .f32⟩
  | 44 => ⟨S32x4x16x256, .f32⟩
  | 45 => ⟨S32x4x16x512, .f32⟩
  | 46 => ⟨S_, .f32⟩
  | 47 => ⟨S16, .f32⟩
  | 48 => ⟨S16, .f32⟩
  | 49 => ⟨S1x16, .f32⟩
  | 50 => ⟨S4x1, .f32⟩
  | 51 => ⟨S4x16, .f32⟩
  | 52 => ⟨S4x16, .f32⟩
  | 53 => ⟨S4x16, .f32⟩
  | 54 => ⟨S4x16, .f32⟩
  | 55 => ⟨S1x4x16x1, .f32⟩
  | 56 => ⟨S32x4x16x256, .f32⟩
  | 57 => ⟨S32x4x16x256, .f32⟩
  | 58 => ⟨S_, .f32⟩
  | 59 => ⟨S4, .f32⟩
  | 60 => ⟨S4, .f32⟩
  | 61 => ⟨S4, .f32⟩
  | 62 => ⟨S1x4x1x1, .f32⟩
  | 63 => ⟨S32x4x256x512, .f32⟩
  | 64 => ⟨S32x4x256x512, .f32⟩
  | 65 => ⟨S32x4x256x512, .f32⟩
  | 66 => ⟨S32x4x256x512, .f32⟩
  | 67 => ⟨S32x4x16x512, .f32⟩
  | 68 => ⟨S32x16x4x512, .f32⟩
  | 69 => ⟨S32x16x4x512, .f32⟩
  | 70 => ⟨S_, .f32⟩
  | 71 => ⟨S32x16x4, .f32⟩
  | 72 => ⟨S32x16x4x1, .f32⟩
  | 73 => ⟨S_, .f32⟩
  | 74 => ⟨S32x16x4x1, .f32⟩
  | 75 => ⟨S32x16x4x1, .f32⟩
  | 76 => ⟨S_, .f32⟩
  | 77 => ⟨S32x16x4x1, .f32⟩
  | 78 => ⟨S32x16x4x1, .f32⟩
  | 79 => ⟨S32x16x4x1, .f32⟩
  | 80 => ⟨S32x16x4x512, .f32⟩
  | 81 => ⟨S32x16x4x512, .f32⟩
  | 82 => ⟨S32x16x2048, .f32⟩
  | 83 => ⟨S32x16x2048, .f32⟩
  | 84 => ⟨S_, .f32⟩
  | 85 => ⟨S32x16x2048, .f32⟩
  | 86 => ⟨S32x16x2048, .f32⟩
  | 87 => ⟨S_, .f32⟩
  | 88 => ⟨S32x16x2048, .f32⟩
  | 89 => ⟨S32x16x2048, .f32⟩
  | 90 => ⟨S32x16x2048, .f32⟩
  | 91 => ⟨S32x16x2048, .f32⟩
  | 92 => ⟨S32x16x2048, .f32⟩
  | 93 => ⟨S512x2048, .f32⟩
  | 94 => ⟨S512x2048, .bf16⟩
  | _ => ⟨S32x16x6144, .bf16⟩

abbrev hbmTy (i : Nat) : BufTy := match i / 128 with
  | 0 => hbmTy0_0 i
  | 1 => hbmTy0_1 i
  | _ => ⟨S32x16x6144, .bf16⟩

abbrev bufTy : (tb : Table) → Fin (tcTables nBuf tb) → BufTy
  | .hbm, ⟨i, _⟩ => hbmTy i
  | _, _ => ⟨S32x16x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_cst : Ref sig .tc := ⟨.hbm, 19, rfl⟩
abbrev main_call0_v3 : Ref sig .tc := ⟨.hbm, 20, rfl⟩
abbrev main_call0_v4 : Ref sig .tc := ⟨.hbm, 21, rfl⟩
abbrev main_call0_cst_0 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_v11 : Ref sig .tc := ⟨.hbm, 36, rfl⟩
abbrev main_v12 : Ref sig .tc := ⟨.hbm, 37, rfl⟩
abbrev main_cst_1 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_2 : Ref sig .tc := ⟨.hbm, 65, rfl⟩
abbrev main_cst_3 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_cst : Ref sig .tc := ⟨.hbm, 70, rfl⟩
abbrev main_call1_v3 : Ref sig .tc := ⟨.hbm, 71, rfl⟩
abbrev main_call1_v4 : Ref sig .tc := ⟨.hbm, 72, rfl⟩
abbrev main_call1_cst_0 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_cst_1 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_v15 : Ref sig .tc := ⟨.hbm, 85, rfl⟩
abbrev main_call1_v16 : Ref sig .tc := ⟨.hbm, 86, rfl⟩
abbrev main_v39 : Ref sig .tc := ⟨.hbm, 87, rfl⟩
abbrev main_v40 : Ref sig .tc := ⟨.hbm, 88, rfl⟩
abbrev main_cst_4 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_5 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_cst_6 : Ref sig .tc := ⟨.hbm, 123, rfl⟩
abbrev main_v73 : Ref sig .tc := ⟨.hbm, 124, rfl⟩
abbrev main_v74 : Ref sig .tc := ⟨.hbm, 125, rfl⟩
abbrev main_cst_7 : Ref sig .tc := ⟨.hbm, 126, rfl⟩
abbrev main_v75 : Ref sig .tc := ⟨.hbm, 127, rfl⟩
abbrev main_v76 : Ref sig .tc := ⟨.hbm, 128, rfl⟩
abbrev main_cst_8 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_cst_9 : Ref sig .tc := ⟨.hbm, 139, rfl⟩
abbrev main_v86 : Ref sig .tc := ⟨.hbm, 140, rfl⟩
abbrev main_v87 : Ref sig .tc := ⟨.hbm, 141, rfl⟩
abbrev main_cst_10 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_cst_11 : Ref sig .tc := ⟨.hbm, 151, rfl⟩
abbrev main_call2_v0 : Ref sig .tc := ⟨.hbm, 152, rfl⟩
abbrev main_call2_v1 : Ref sig .tc := ⟨.hbm, 153, rfl⟩
abbrev main_call2_v2 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_cst_12 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_cst_13 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_cst_14 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_cst_15 : Ref sig .tc := ⟨.hbm, 198, rfl⟩
abbrev main_v136 : Ref sig .tc := ⟨.hbm, 199, rfl⟩
abbrev main_v137 : Ref sig .tc := ⟨.hbm, 200, rfl⟩
abbrev main_cst_16 : Ref sig .tc := ⟨.hbm, 201, rfl⟩
abbrev main_v138 : Ref sig .tc := ⟨.hbm, 202, rfl⟩
abbrev main_v139 : Ref sig .tc := ⟨.hbm, 203, rfl⟩
abbrev main_cst_17 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_call3_v0 : Ref sig .tc := ⟨.hbm, 210, rfl⟩
abbrev main_call3_v1 : Ref sig .tc := ⟨.hbm, 211, rfl⟩
abbrev main_call3_cst : Ref sig .tc := ⟨.hbm, 212, rfl⟩
abbrev main_call3_v2 : Ref sig .tc := ⟨.hbm, 213, rfl⟩
abbrev main_call3_v3 : Ref sig .tc := ⟨.hbm, 214, rfl⟩
abbrev main_call3_cst_0 : Ref sig .tc := ⟨.hbm, 215, rfl⟩
abbrev main_call3_v4 : Ref sig .tc := ⟨.hbm, 216, rfl⟩
abbrev main_call3_v5 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩

abbrev nD : Nat := 1
abbrev τ : Topo := Topo.v7x

variable {F : FTy → Type} [FloatOps F]
-- ==== MixersF.lean ====
abbrev S32x2048x3328 : Shape := ⟨3, ![32, 2048, 3328]⟩
abbrev S32x2048x6144 : Shape := ⟨3, ![32, 2048, 6144]⟩
abbrev S3328 : Shape := ⟨1, ![3328]⟩
abbrev S1024 : Shape := ⟨1, ![1024]⟩
abbrev S64x1024 : Shape := ⟨2, ![64, 1024]⟩
abbrev S128x1024 : Shape := ⟨2, ![128, 1024]⟩
abbrev S16x64 : Shape := ⟨2, ![16, 64]⟩
abbrev S_ : Shape := ⟨0, ![]⟩
abbrev S1x3328 : Shape := ⟨2, ![1, 3328]⟩
abbrev S1x1024 : Shape := ⟨2, ![1, 1024]⟩
abbrev S127 : Shape := ⟨1, ![127]⟩
abbrev S1 : Shape := ⟨1, ![1]⟩
abbrev S128 : Shape := ⟨1, ![128]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S65536x3328 : Shape := ⟨2, ![65536, 3328]⟩
abbrev S65536x6144 : Shape := ⟨2, ![65536, 6144]⟩
abbrev S65536x1024 : Shape := ⟨2, ![65536, 1024]⟩
abbrev S2x32x8x128x128 : Shape := ⟨5, ![2, 32, 8, 128, 128]⟩
abbrev S2x32x1x3328 : Shape := ⟨4, ![2, 32, 1, 3328]⟩
abbrev S65536x2048 : Shape := ⟨2, ![65536, 2048]⟩
abbrev S2x32x4x256x512 : Shape := ⟨5, ![2, 32, 4, 256, 512]⟩
abbrev S256x3328 : Shape := ⟨2, ![256, 3328]⟩
abbrev S256x6144 : Shape := ⟨2, ![256, 6144]⟩
abbrev S256x128 : Shape := ⟨2, ![256, 128]⟩
abbrev S256x1024 : Shape := ⟨2, ![256, 1024]⟩
abbrev S1x1x8x128x128 : Shape := ⟨5, ![1, 1, 8, 128, 128]⟩
abbrev S1x1x1x3328 : Shape := ⟨4, ![1, 1, 1, 3328]⟩
abbrev S256x2048 : Shape := ⟨2, ![256, 2048]⟩
abbrev S1x1x4x256x512 : Shape := ⟨5, ![1, 1, 4, 256, 512]⟩
abbrev S8x128x128 : Shape := ⟨3, ![8, 128, 128]⟩
abbrev S4x256x512 : Shape := ⟨3, ![4, 256, 512]⟩
abbrev S256x1 : Shape := ⟨2, ![256, 1]⟩
abbrev S128x128 : Shape := ⟨2, ![128, 128]⟩
abbrev S256x256 : Shape := ⟨2, ![256, 256]⟩
abbrev S1024x256 : Shape := ⟨2, ![1024, 256]⟩
abbrev S64x128 : Shape := ⟨2, ![64, 128]⟩
abbrev S32x128 : Shape := ⟨2, ![32, 128]⟩
abbrev S1x1x1x128x128 : Shape := ⟨5, ![1, 1, 1, 128, 128]⟩
abbrev S192x128 : Shape := ⟨2, ![192, 128]⟩
abbrev S128x1 : Shape := ⟨2, ![128, 1]⟩
abbrev S128x256 : Shape := ⟨2, ![128, 256]⟩
abbrev S128x512 : Shape := ⟨2, ![128, 512]⟩
abbrev S1x1x1x256x512 : Shape := ⟨5, ![1, 1, 1, 256, 512]⟩
abbrev S256x512 : Shape := ⟨2, ![256, 512]⟩
abbrev S2x32x3328 : Shape := ⟨3, ![2, 32, 3328]⟩
abbrev S1x32x3328 : Shape := ⟨3, ![1, 32, 3328]⟩
abbrev S32x3328 : Shape := ⟨2, ![32, 3328]⟩
abbrev S1x32x4x256x512 : Shape := ⟨5, ![1, 32, 4, 256, 512]⟩
abbrev S32x4x256x512 : Shape := ⟨4, ![32, 4, 256, 512]⟩

abbrev nBuf : Space → Nat
  | .hbm => 79
  | .vmem => 30
  | .smem => 0
  | _ => 0

abbrev bufTy : (tb : Table) → Fin (tcTables nBuf tb) → BufTy
  | .hbm, ⟨0, _⟩ => ⟨S32x2048x3328, .bf16⟩
  | .hbm, ⟨1, _⟩ => ⟨S32x2048x6144, .bf16⟩
  | .hbm, ⟨2, _⟩ => ⟨S3328, .f32⟩
  | .hbm, ⟨3, _⟩ => ⟨S1024, .f32⟩
  | .hbm, ⟨4, _⟩ => ⟨S64x1024, .f32⟩
  | .hbm, ⟨5, _⟩ => ⟨S1024, .f32⟩
  | .hbm, ⟨6, _⟩ => ⟨S64x1024, .f32⟩
  | .hbm, ⟨7, _⟩ => ⟨S128x1024, .f32⟩
  | .hbm, ⟨8, _⟩ => ⟨S1024, .f32⟩
  | .hbm, ⟨9, _⟩ => ⟨S1024, .f32⟩
  | .hbm, ⟨10, _⟩ => ⟨S16x64, .f32⟩
  | .hbm, ⟨11, _⟩ => ⟨S1024, .f32⟩
  | .hbm, ⟨12, _⟩ => ⟨S1024, .f32⟩
  | .hbm, ⟨13, _⟩ => ⟨S_, .bf16⟩
  | .hbm, ⟨14, _⟩ => ⟨S64x1024, .bf16⟩
  | .hbm, ⟨15, _⟩ => ⟨S1x3328, .f32⟩
  | .hbm, ⟨16, _⟩ => ⟨S1x1024, .f32⟩
  | .hbm, ⟨17, _⟩ => ⟨S1x1024, .f32⟩
  | .hbm, ⟨18, _⟩ => ⟨S64x1024, .bf16⟩
  | .hbm, ⟨19, _⟩ => ⟨S128x1024, .bf16⟩
  | .hbm, ⟨20, _⟩ => ⟨S64x1024, .bf16⟩
  | .hbm, ⟨21, _⟩ => ⟨S128x1024, .bf16⟩
  | .hbm, ⟨22, _⟩ => ⟨S128x1024, .bf16⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S127, .f32⟩
  | .hbm, ⟨36, _⟩ => ⟨S_, .f32⟩
  | .hbm, ⟨37, _⟩ => ⟨S127, .f32⟩
  | .hbm, ⟨38, _⟩ => ⟨S127, .f32⟩
  | .hbm, ⟨39, _⟩ => ⟨S1, .f32⟩
  | .hbm, ⟨40, _⟩ => ⟨S_, .f32⟩
  | .hbm, ⟨41, _⟩ => ⟨S127, .f32⟩
  | .hbm, ⟨42, _⟩ => ⟨S127, .f32⟩
  | .hbm, ⟨43, _⟩ => ⟨S127, .f32⟩
  | .hbm, ⟨44, _⟩ => ⟨S127, .f32⟩
  | .hbm, ⟨45, _⟩ => ⟨S1, .f32⟩
  | .hbm, ⟨46, _⟩ => ⟨S127, .f32⟩
  | .hbm, ⟨47, _⟩ => ⟨S127, .f32⟩
  | .hbm, ⟨48, _⟩ => ⟨S127, .f32⟩
  | .hbm, ⟨49, _⟩ => ⟨S1, .f32⟩
  | .hbm, ⟨50, _⟩ => ⟨S128, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S2048, .i32⟩
  | .hbm, ⟨56, _⟩ => ⟨S_, .i32⟩
  | .hbm, ⟨57, _⟩ => ⟨S2048, .i32⟩
  | .hbm, ⟨58, _⟩ => ⟨S2048, .i32⟩
  | .hbm, ⟨59, _⟩ => ⟨S2048, .f32⟩
  | .hbm, ⟨60, _⟩ => ⟨S2048x1, .f32⟩
  | .hbm, ⟨61, _⟩ => ⟨S1x128, .f32⟩
  | .hbm, ⟨62, _⟩ => ⟨S2048x128, .f32⟩
  | .hbm, ⟨63, _⟩ => ⟨S2048x128, .f32⟩
  | .hbm, ⟨64, _⟩ => ⟨S2048x128, .f32⟩
  | .hbm, ⟨65, _⟩ => ⟨S65536x3328, .bf16⟩
  | .hbm, ⟨66, _⟩ => ⟨S65536x6144, .bf16⟩
  | .hbm, ⟨67, _⟩ => ⟨S2048x128, .f32⟩
  | .hbm, ⟨68, _⟩ => ⟨S2048x128, .f32⟩
  | .hbm, ⟨69, _⟩ => ⟨S65536x1024, .bf16⟩
  | .hbm, ⟨70, _⟩ => ⟨S2x32x8x128x128, .f32⟩
  | .hbm, ⟨71, _⟩ => ⟨S2x32x1x3328, .f32⟩
  | .hbm, ⟨72, _⟩ => ⟨S65536x2048, .bf16⟩
  | .hbm, ⟨73, _⟩ => ⟨S2x32x4x256x512, .f32⟩
  | .hbm, ⟨74, _⟩ => ⟨S2x32x3328, .f32⟩
  | .hbm, ⟨75, _⟩ => ⟨S1x32x3328, .f32⟩
  | .hbm, ⟨76, _⟩ => ⟨S32x3328, .f32⟩
  | .hbm, ⟨77, _⟩ => ⟨S1x32x4x256x512, .f32⟩
  | .hbm, ⟨78, _⟩ => ⟨S32x4x256x512, .f32⟩
  | .local _ .vmem, ⟨0, _⟩ => ⟨S256x3328, .bf16⟩
  | .local _ .vmem, ⟨1, _⟩ => ⟨S256x3328, .bf16⟩
  | .local _ .vmem, ⟨2, _⟩ => ⟨S256x6144, .bf16⟩
  | .local _ .vmem, ⟨3, _⟩ => ⟨S256x6144, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x3328, .f32⟩
  | .local _ .vmem, ⟨9, _⟩ => ⟨S1x1024, .f32⟩
  | .local _ .vmem, ⟨10, _⟩ => ⟨S128x1024, .bf16⟩
  | .local _ .vmem, ⟨11, _⟩ => ⟨S1x1024, .f32⟩
  | .local _ .vmem, ⟨12, _⟩ => ⟨S128x1024, .bf16⟩
  | .local _ .vmem, ⟨13, _⟩ => ⟨S128x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S256x1024, .bf16⟩
  | .local _ .vmem, ⟨20, _⟩ => ⟨S256x1024, .bf16⟩
  | .local _ .vmem, ⟨21, _⟩ => ⟨S1x1x8x128x128, .f32⟩
  | .local _ .vmem, ⟨22, _⟩ => ⟨S1x1x8x128x128, .f32⟩
  | .local _ .vmem, ⟨23, _⟩ => ⟨S1x1x1x3328, .f32⟩
  | .local _ .vmem, ⟨24, _⟩ => ⟨S1x1x1x3328, .f32⟩
  | .local _ .vmem, ⟨25, _⟩ => ⟨S256x2048, .bf16⟩
  | .local _ .vmem, ⟨26, _⟩ => ⟨S256x2048, .bf16⟩
  | .local _ .vmem, ⟨27, _⟩ => ⟨S1x1x4x256x512, .f32⟩
  | .local _ .vmem, ⟨28, _⟩ => ⟨S1x1x4x256x512, .f32⟩
  | .local _ .vmem, ⟨29, _⟩ => ⟨S1x3328, .f32⟩
  | _, _ => ⟨S32x2048x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_cst : Ref sig .tc := ⟨.hbm, 33, rfl⟩
abbrev main_call0_v3 : Ref sig .tc := ⟨.hbm, 34, rfl⟩
abbrev main_call0_v4 : Ref sig .tc := ⟨.hbm, 35, rfl⟩
abbrev main_call0_cst_0 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_cst_1 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_v15 : Ref sig .tc := ⟨.hbm, 48, rfl⟩
abbrev main_call0_v16 : Ref sig .tc := ⟨.hbm, 49, rfl⟩
abbrev main_v14 : Ref sig .tc := ⟨.hbm, 50, rfl⟩
abbrev main_v15 : Ref sig .tc := ⟨.hbm, 51, rfl⟩
abbrev main_cst_2 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_c : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31_0 : Ref sig .tc := ⟨.hbm, 69, rfl⟩
abbrev main_v31_1 : Ref sig .tc := ⟨.hbm, 70, rfl⟩
abbrev main_v31_2 : Ref sig .tc := ⟨.hbm, 71, rfl⟩
abbrev main_v31_3 : Ref sig .tc := ⟨.hbm, 72, rfl⟩
abbrev main_v31_4 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S256x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x3328 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x8x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x1x3328 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S256x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x4x256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== MixersFIdeal.lean ====
variable {F : FTy → Type} [FloatOps F] [Named F]
def κ : String → Option EReal := fun
  | "g128_0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "g128_1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "g128_2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "g128_3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "log_g0" => some ((Real.log (31 / 32) : ℝ) : EReal)
  | "log_g1" => some ((Real.log (63 / 64) : ℝ) : EReal)
  | "log_g2" => some ((Real.log (127 / 128) : ℝ) : EReal)
  | "log_g3" => some ((Real.log (255 / 256) : ℝ) : EReal)
  | _ => none
-- ==== MixersFRefIdeal.lean ====
abbrev S32x2048x3328 : Shape := ⟨3, ![32, 2048, 3328]⟩
abbrev S32x2048x6144 : Shape := ⟨3, ![32, 2048, 6144]⟩
abbrev S3328 : Shape := ⟨1, ![3328]⟩
abbrev S1024 : Shape := ⟨1, ![1024]⟩
abbrev S64x1024 : Shape := ⟨2, ![64, 1024]⟩
abbrev S128x1024 : Shape := ⟨2, ![128, 1024]⟩
abbrev S16x64 : Shape := ⟨2, ![16, 64]⟩
abbrev S2048 : Shape := ⟨1, ![2048]⟩
abbrev S32x1x3328 : Shape := ⟨3, ![32, 1, 3328]⟩
abbrev S32x3328 : Shape := ⟨2, ![32, 3328]⟩
abbrev S32x2048x1024 : Shape := ⟨3, ![32, 2048, 1024]⟩
abbrev S32x2048x2048 : Shape := ⟨3, ![32, 2048, 2048]⟩
abbrev S32x2048x4x256 : Shape := ⟨4, ![32, 2048, 4, 256]⟩
abbrev S_ : Shape := ⟨0, ![]⟩
abbrev S127 : Shape := ⟨1, ![127]⟩
abbrev S1 : Shape := ⟨1, ![1]⟩
abbrev S128 : Shape := ⟨1, ![128]⟩
abbrev S2048x1 : Shape := ⟨2, ![2048, 1]⟩
abbrev S1x128 : Shape := ⟨2, ![1, 128]⟩
abbrev S2048x128 : Shape := ⟨2, ![2048, 128]⟩
abbrev S1x2048x1x128 : Shape := ⟨4, ![1, 2048, 1, 128]⟩
abbrev S32x2048x4x128 : Shape := ⟨4, ![32, 2048, 4, 128]⟩
abbrev S32x2048x4x512 : Shape := ⟨4, ![32, 2048, 4, 512]⟩
abbrev S32x4x256x512 : Shape := ⟨4, ![32, 4, 256, 512]⟩
abbrev S32x32x64x4x256 : Shape := ⟨5, ![32, 32, 64, 4, 256]⟩
abbrev S32x32x4x64x256 : Shape := ⟨5, ![32, 32, 4, 64, 256]⟩
abbrev S32x32x64x4x512 : Shape := ⟨5, ![32, 32, 64, 4, 512]⟩
abbrev S32x32x4x64x512 : Shape := ⟨5, ![32, 32, 4, 64, 512]⟩
abbrev S4 : Shape := ⟨1, ![4]⟩
abbrev S64 : Shape := ⟨1, ![64]⟩
abbrev S1x64 : Shape := ⟨2, ![1, 64]⟩
abbrev S4x1 : Shape := ⟨2, ![4, 1]⟩
abbrev S4x64 : Shape := ⟨2, ![4, 64]⟩
abbrev S1x4x64x1 : Shape := ⟨4, ![1, 4, 64, 1]⟩
abbrev S1x4x1x1 : Shape := ⟨4, ![1, 4, 1, 1]⟩
abbrev S1x32x4x64x256 : Shape := ⟨5, ![1, 32, 4, 64, 256]⟩
abbrev S32x4x64x256 : Shape := ⟨4, ![32, 4, 64, 256]⟩
abbrev S1x32x4x64x512 : Shape := ⟨5, ![1, 32, 4, 64, 512]⟩
abbrev S32x4x64x512 : Shape := ⟨4, ![32, 4, 64, 512]⟩

abbrev nBuf : Space → Nat
  | .hbm => 430
  | .vmem => 0
  | .smem => 0
  | _ => 0

abbrev hbmTy0_0 (i : Nat) : BufTy := match i % 128 with
  | 0 => ⟨S32x2048x3328, .bf16⟩
  | 1 => ⟨S32x2048x6144, .bf16⟩
  | 2 => ⟨S3328, .f32⟩
  | 3 => ⟨S1024, .f32⟩
  | 4 => ⟨S64x1024, .f32⟩
  | 5 => ⟨S1024, .f32⟩
  | 6 => ⟨S64x1024, .f32⟩
  | 7 => ⟨S128x1024, .f32⟩
  | 8 => ⟨S1024, .f32⟩
  | 9 => ⟨S1024, .f32⟩
  | 10 => ⟨S16x64, .f32⟩
  | 11 => ⟨S1024, .f32⟩
  | 12 => ⟨S1024, .f32⟩
  | 13 => ⟨S2048, .i32⟩
  | 14 => ⟨S32x2048x3328, .f32⟩
  | 15 => ⟨S32x1x3328, .f32⟩
  | 16 => ⟨S32x3328, .f32⟩
  | 17 => ⟨S32x2048x6144, .f32⟩
  | 18 => ⟨S32x2048x1024, .f32⟩
  | 19 => ⟨S32x2048x1024, .f32⟩
  | 20 => ⟨S32x2048x2048, .f32⟩
  | 21 => ⟨S32x2048x2048, .f32⟩
  | 22 => ⟨S32x2048x4x256, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S127, .f32⟩
  | 31 => ⟨S_, .f32⟩
  | 32 => ⟨S127, .f32⟩
  | 33 => ⟨S127, .f32⟩
  | 34 => ⟨S1, .f32⟩
  | 35 => ⟨S_, .f32⟩
  | 36 => ⟨S127, .f32⟩
  | 37 => ⟨S127, .f32⟩
  | 38 => ⟨S127, .f32⟩
  | 39 => ⟨S127, .f32⟩
  | 40 => ⟨S1, .f32⟩
  | 41 => ⟨S127, .f32⟩
  | 42 => ⟨S127, .f32⟩
  | 43 => ⟨S127, .f32⟩
  | 44 => ⟨S1, .f32⟩
  | 45 => ⟨S128, .f32⟩
  | 46 => ⟨S128, .f32⟩
  | 47 => ⟨S_, .f32⟩
  | 48 => ⟨S128, .f32⟩
  | 49 => ⟨S128, .f32⟩
  | 50 => ⟨S2048, .f32⟩
  | 51 => ⟨S2048x1, .f32⟩
  | 52 => ⟨S1x128, .f32⟩
  | 53 => ⟨S2048x128, .f32⟩
  | 54 => ⟨S2048x128, .f32⟩
  | 55 => ⟨S2048x128, .f32⟩
  | 56 => ⟨S2048x128, .f32⟩
  | 57 => ⟨S1x2048x1x128, .f32⟩
  | 58 => ⟨S2048x128, .f32⟩
  | 59 => ⟨S1x2048x1x128, .f32⟩
  | 60 => ⟨S32x2048x4x128, .f32⟩
  | 61 => ⟨S32x2048x4x128, .f32⟩
  | 62 => ⟨S32x2048x4x128, .f32⟩
  | 63 => ⟨S32x2048x4x128, .f32⟩
  | 64 => ⟨S32x2048x4x128, .f32⟩
  | 65 => ⟨S32x2048x4x128, .f32⟩
  | 66 => ⟨S32x2048x4x128, .f32⟩
  | 67 => ⟨S32x2048x4x128, .f32⟩
  | 68 => ⟨S32x2048x4x128, .f32⟩
  | 69 => ⟨S32x2048x4x128, .f32⟩
  | 70 => ⟨S32x2048x4x128, .f32⟩
  | 71 => ⟨S32x2048x4x128, .f32⟩
  | 72 => ⟨S32x2048x4x256, .f32⟩
  | 73 => ⟨S_, .f32⟩
  | 74 => ⟨S32x2048x4x256, .f32⟩
  | 75 => ⟨S32x2048x4x256, .f32⟩
  | 76 => ⟨S32x2048x4x512, .f32⟩
  | 77 => ⟨S_, .f32⟩
  | 78 => ⟨S32x4x256x512, .f32⟩
  | 79 => ⟨S32x32x64x4x256, .f32⟩
  | 80 => ⟨S32x32x4x64x256, .f32⟩
  | 81 => ⟨S32x32x64x4x512, .f32⟩
  | 82 => ⟨S32x32x4x64x512, .f32⟩
  | 83 => ⟨S4, .f32⟩
  | 84 => ⟨S_, .f32⟩
  | 85 => ⟨S4, .f32⟩
  | 86 => ⟨S4, .f32⟩
  | 87 => ⟨S_, .f32⟩
  | 88 => ⟨S4, .f32⟩
  | 89 => ⟨S4, .f32⟩
  | 90 => ⟨S_, .f32⟩
  | 91 => ⟨S4, .f32⟩
  | 92 => ⟨S4, .f32⟩
  | 93 => ⟨S4, .f32⟩
  | 94 => ⟨S64, .f32⟩
  | 95 => ⟨S_, .f32⟩
  | 96 => ⟨S64, .f32⟩
  | 97 => ⟨S64, .f32⟩
  | 98 => ⟨S1x64, .f32⟩
  | 99 => ⟨S4x1, .f32⟩
  | 100 => ⟨S4x64, .f32⟩
  | 101 => ⟨S4x64, .f32⟩
  | 102 => ⟨S4x64, .f32⟩
  | 103 => ⟨S4x64, .f32⟩
  | 104 => ⟨S1x4x64x1, .f32⟩
  | 105 => ⟨S_, .f32⟩
  | 106 => ⟨S4, .f32⟩
  | 107 => ⟨S4, .f32⟩
  | 108 => ⟨S4, .f32⟩
  | 109 => ⟨S1x4x1x1, .f32⟩
  | 110 => ⟨S32x4x256x512, .f32⟩
  | 111 => ⟨S32x4x256x512, .f32⟩
  | 112 => ⟨S1x32x4x64x256, .f32⟩
  | 113 => ⟨S32x4x64x256, .f32⟩
  | 114 => ⟨S32x4x64x256, .f32⟩
  | 115 => ⟨S32x4x64x256, .f32⟩
  | 116 => ⟨S1x32x4x64x512, .f32⟩
  | 117 => ⟨S32x4x64x512, .f32⟩
  | 118 => ⟨S32x4x256x512, .f32⟩
  | 119 => ⟨S32x4x256x512, .f32⟩
  | 120 => ⟨S32x4x256x512, .f32⟩
  | 121 => ⟨S32x4x256x512, .f32⟩
  | 122 => ⟨S1x32x4x64x256, .f32⟩
  | 123 => ⟨S32x4x64x256, .f32⟩
  | 124 => ⟨S32x4x64x256, .f32⟩
  | 125 => ⟨S32x4x64x256, .f32⟩
  | 126 => ⟨S1x32x4x64x512, .f32⟩
  | 127 => ⟨S32x4x64x512, .f32⟩
  | _ => ⟨S32x2048x3328, .bf16⟩

abbrev hbmTy0_1 (i : Nat) : BufTy := match i % 128 with
  | 0 => ⟨S32x4x256x512, .f32⟩
  | 1 => ⟨S32x4x256x512, .f32⟩
  | 2 => ⟨S32x4x256x512, .f32⟩
  | 3 => ⟨S32x4x256x512, .f32⟩
  | 4 => ⟨S1x32x4x64x256, .f32⟩
  | 5 => ⟨S32x4x64x256, .f32⟩
  | 6 => ⟨S32x4x64x256, .f32⟩
  | 7 => ⟨S32x4x64x256, .f32⟩
  | 8 => ⟨S1x32x4x64x512, .f32⟩
  | 9 => ⟨S32x4x64x512, .f32⟩
  | 10 => ⟨S32x4x256x512, .f32⟩
  | 11 => ⟨S32x4x256x512, .f32⟩
  | 12 => ⟨S32x4x256x512, .f32⟩
  | 13 => ⟨S32x4x256x512, .f32⟩
  | 14 => ⟨S1x32x4x64x256, .f32⟩
  | 15 => ⟨S32x4x64x256, .f32⟩
  | 16 => ⟨S32x4x64x256, .f32⟩
  | 17 => ⟨S32x4x64x256, .f32⟩
  | 18 => ⟨S1x32x4x64x512, .f32⟩
  | 19 => ⟨S32x4x64x512, .f32⟩
  | 20 => ⟨S32x4x256x512, .f32⟩
  | 21 => ⟨S32x4x256x512, .f32⟩
  | 22 => ⟨S32x4x256x512, .f32⟩
  | 23 => ⟨S32x4x256x512, .f32⟩
  | 24 => ⟨S1x32x4x64x256, .f32⟩
  | 25 => ⟨S32x4x64x256, .f32⟩
  | 26 => ⟨S32x4x64x256, .f32⟩
  | 27 => ⟨S32x4x64x256, .f32⟩
  | 28 => ⟨S1x32x4x64x512, .f32⟩
  | 29 => ⟨S32x4x64x512, .f32⟩
  | 30 => ⟨S32x4x256x512, .f32⟩
  | 31 => ⟨S32x4x256x512, .f32⟩
  | 32 => ⟨S32x4x256x512, .f32⟩
  | 33 => ⟨S32x4x256x512, .f32⟩
  | 34 => ⟨S1x32x4x64x256, .f32⟩
  | 35 => ⟨S32x4x64x256, .f32⟩
  | 36 => ⟨S32x4x64x256, .f32⟩
  | 37 => ⟨S32x4x64x256, .f32⟩
  | 38 => ⟨S1x32x4x64x512, .f32⟩
  | 39 => ⟨S32x4x64x512, .f32⟩
  | 40 => ⟨S32x4x256x512, .f32⟩
  | 41 => ⟨S32x4x256x512, .f32⟩
  | 42 => ⟨S32x4x256x512, .f32⟩
  | 43 => ⟨S32x4x256x512, .f32⟩
  | 44 => ⟨S1x32x4x64x256, .f32⟩
  | 45 => ⟨S32x4x64x256, .f32⟩
  | 46 => ⟨S32x4x64x256, .f32⟩
  | 47 => ⟨S32x4x64x256, .f32⟩
  | 48 => ⟨S1x32x4x64x512, .f32⟩
  | 49 => ⟨S32x4x64x512, .f32⟩
  | 50 => ⟨S32x4x256x512, .f32⟩
  | 51 => ⟨S32x4x256x512, .f32⟩
  | 52 => ⟨S32x4x256x512, .f32⟩
  | 53 => ⟨S32x4x256x512, .f32⟩
  | 54 => ⟨S1x32x4x64x256, .f32⟩
  | 55 => ⟨S32x4x64x256, .f32⟩
  | 56 => ⟨S32x4x64x256, .f32⟩
  | 57 => ⟨S32x4x64x256, .f32⟩
  | 58 => ⟨S1x32x4x64x512, .f32⟩
  | 59 => ⟨S32x4x64x512, .f32⟩
  | 60 => ⟨S32x4x256x512, .f32⟩
  | 61 => ⟨S32x4x256x512, .f32⟩
  | 62 => ⟨S32x4x256x512, .f32⟩
  | 63 => ⟨S32x4x256x512, .f32⟩
  | 64 => ⟨S1x32x4x64x256, .f32⟩
  | 65 => ⟨S32x4x64x256, .f32⟩
  | 66 => ⟨S32x4x64x256, .f32⟩
  | 67 => ⟨S32x4x64x256, .f32⟩
  | 68 => ⟨S1x32x4x64x512, .f32⟩
  | 69 => ⟨S32x4x64x512, .f32⟩
  | 70 => ⟨S32x4x256x512, .f32⟩
  | 71 => ⟨S32x4x256x512, .f32⟩
  | 72 => ⟨S32x4x256x512, .f32⟩
  | 73 => ⟨S32x4x256x512, .f32⟩
  | 74 => ⟨S1x32x4x64x256, .f32⟩
  | 75 => ⟨S32x4x64x256, .f32⟩
  | 76 => ⟨S32x4x64x256, .f32⟩
  | 77 => ⟨S32x4x64x256, .f32⟩
  | 78 => ⟨S1x32x4x64x512, .f32⟩
  | 79 => ⟨S32x4x64x512, .f32⟩
  | 80 => ⟨S32x4x256x512, .f32⟩
  | 81 => ⟨S32x4x256x512, .f32⟩
  | 82 => ⟨S32x4x256x512, .f32⟩
  | 83 => ⟨S32x4x256x512, .f32⟩
  | 84 => ⟨S1x32x4x64x256, .f32⟩
  | 85 => ⟨S32x4x64x256, .f32⟩
  | 86 => ⟨S32x4x64x256, .f32⟩
  | 87 => ⟨S32x4x64x256, .f32⟩
  | 88 => ⟨S1x32x4x64x512, .f32⟩
  | 89 => ⟨S32x4x64x512, .f32⟩
  | 90 => ⟨S32x4x256x512, .f32⟩
  | 91 => ⟨S32x4x256x512, .f32⟩
  | 92 => ⟨S32x4x256x512, .f32⟩
  | 93 => ⟨S32x4x256x512, .f32⟩
  | 94 => ⟨S1x32x4x64x256, .f32⟩
  | 95 => ⟨S32x4x64x256, .f32⟩
  | 96 => ⟨S32x4x64x256, .f32⟩
  | 97 => ⟨S32x4x64x256, .f32⟩
  | 98 => ⟨S1x32x4x64x512, .f32⟩
  | 99 => ⟨S32x4x64x512, .f32⟩
  | 100 => ⟨S32x4x256x512, .f32⟩
  | 101 => ⟨S32x4x256x512, .f32⟩
  | 102 => ⟨S32x4x256x512, .f32⟩
  | 103 => ⟨S32x4x256x512, .f32⟩
  | 104 => ⟨S1x32x4x64x256, .f32⟩
  | 105 => ⟨S32x4x64x256, .f32⟩
  | 106 => ⟨S32x4x64x256, .f32⟩
  | 107 => ⟨S32x4x64x256, .f32⟩
  | 108 => ⟨S1x32x4x64x512, .f32⟩
  | 109 => ⟨S32x4x64x512, .f32⟩
  | 110 => ⟨S32x4x256x512, .f32⟩
  | 111 => ⟨S32x4x256x512, .f32⟩
  | 112 => ⟨S32x4x256x512, .f32⟩
  | 113 => ⟨S32x4x256x512, .f32⟩
  | 114 => ⟨S1x32x4x64x256, .f32⟩
  | 115 => ⟨S32x4x64x256, .f32⟩
  | 116 => ⟨S32x4x64x256, .f32⟩
  | 117 => ⟨S32x4x64x256, .f32⟩
  | 118 => ⟨S1x32x4x64x512, .f32⟩
  | 119 => ⟨S32x4x64x512, .f32⟩
  | 120 => ⟨S32x4x256x512, .f32⟩
  | 121 => ⟨S32x4x256x512, .f32⟩
  | 122 => ⟨S32x4x256x512, .f32⟩
  | 123 => ⟨S32x4x256x512, .f32⟩
  | 124 => ⟨S1x32x4x64x256, .f32⟩
  | 125 => ⟨S32x4x64x256, .f32⟩
  | 126 => ⟨S32x4x64x256, .f32⟩
  | 127 => ⟨S32x4x64x256, .f32⟩
  | _ => ⟨S32x2048x3328, .bf16⟩

abbrev hbmTy0_2 (i : Nat) : BufTy := match i % 128 with
  | 0 => ⟨S1x32x4x64x512, .f32⟩
  | 1 => ⟨S32x4x64x512, .f32⟩
  | 2 => ⟨S32x4x256x512, .f32⟩
  | 3 => ⟨S32x4x256x512, .f32⟩
  | 4 => ⟨S32x4x256x512, .f32⟩
  | 5 => ⟨S32x4x256x512, .f32⟩
  | 6 => ⟨S1x32x4x64x256, .f32⟩
  | 7 => ⟨S32x4x64x256, .f32⟩
  | 8 => ⟨S32x4x64x256, .f32⟩
  | 9 => ⟨S32x4x64x256, .f32⟩
  | 10 => ⟨S1x32x4x64x512, .f32⟩
  | 11 => ⟨S32x4x64x512, .f32⟩
  | 12 => ⟨S32x4x256x512, .f32⟩
  | 13 => ⟨S32x4x256x512, .f32⟩
  | 14 => ⟨S32x4x256x512, .f32⟩
  | 15 => ⟨S32x4x256x512, .f32⟩
  | 16 => ⟨S1x32x4x64x256, .f32⟩
  | 17 => ⟨S32x4x64x256, .f32⟩
  | 18 => ⟨S32x4x64x256, .f32⟩
  | 19 => ⟨S32x4x64x256, .f32⟩
  | 20 => ⟨S1x32x4x64x512, .f32⟩
  | 21 => ⟨S32x4x64x512, .f32⟩
  | 22 => ⟨S32x4x256x512, .f32⟩
  | 23 => ⟨S32x4x256x512, .f32⟩
  | 24 => ⟨S32x4x256x512, .f32⟩
  | 25 => ⟨S32x4x256x512, .f32⟩
  | 26 => ⟨S1x32x4x64x256, .f32⟩
  | 27 => ⟨S32x4x64x256, .f32⟩
  | 28 => ⟨S32x4x64x256, .f32⟩
  | 29 => ⟨S32x4x64x256, .f32⟩
  | 30 => ⟨S1x32x4x64x512, .f32⟩
  | 31 => ⟨S32x4x64x512, .f32⟩
  | 32 => ⟨S32x4x256x512, .f32⟩
  | 33 => ⟨S32x4x256x512, .f32⟩
  | 34 => ⟨S32x4x256x512, .f32⟩
  | 35 => ⟨S32x4x256x512, .f32⟩
  | 36 => ⟨S1x32x4x64x256, .f32⟩
  | 37 => ⟨S32x4x64x256, .f32⟩
  | 38 => ⟨S32x4x64x256, .f32⟩
  | 39 => ⟨S32x4x64x256, .f32⟩
  | 40 => ⟨S1x32x4x64x512, .f32⟩
  | 41 => ⟨S32x4x64x512, .f32⟩
  | 42 => ⟨S32x4x256x512, .f32⟩
  | 43 => ⟨S32x4x256x512, .f32⟩
  | 44 => ⟨S32x4x256x512, .f32⟩
  | 45 => ⟨S32x4x256x512, .f32⟩
  | 46 => ⟨S1x32x4x64x256, .f32⟩
  | 47 => ⟨S32x4x64x256, .f32⟩
  | 48 => ⟨S32x4x64x256, .f32⟩
  | 49 => ⟨S32x4x64x256, .f32⟩
  | 50 => ⟨S1x32x4x64x512, .f32⟩
  | 51 => ⟨S32x4x64x512, .f32⟩
  | 52 => ⟨S32x4x256x512, .f32⟩
  | 53 => ⟨S32x4x256x512, .f32⟩
  | 54 => ⟨S32x4x256x512, .f32⟩
  | 55 => ⟨S32x4x256x512, .f32⟩
  | 56 => ⟨S1x32x4x64x256, .f32⟩
  | 57 => ⟨S32x4x64x256, .f32⟩
  | 58 => ⟨S32x4x64x256, .f32⟩
  | 59 => ⟨S32x4x64x256, .f32⟩
  | 60 => ⟨S1x32x4x64x512, .f32⟩
  | 61 => ⟨S32x4x64x512, .f32⟩
  | 62 => ⟨S32x4x256x512, .f32⟩
  | 63 => ⟨S32x4x256x512, .f32⟩
  | 64 => ⟨S32x4x256x512, .f32⟩
  | 65 => ⟨S32x4x256x512, .f32⟩
  | 66 => ⟨S1x32x4x64x256, .f32⟩
  | 67 => ⟨S32x4x64x256, .f32⟩
  | 68 => ⟨S32x4x64x256, .f32⟩
  | 69 => ⟨S32x4x64x256, .f32⟩
  | 70 => ⟨S1x32x4x64x512, .f32⟩
  | 71 => ⟨S32x4x64x512, .f32⟩
  | 72 => ⟨S32x4x256x512, .f32⟩
  | 73 => ⟨S32x4x256x512, .f32⟩
  | 74 => ⟨S32x4x256x512, .f32⟩
  | 75 => ⟨S32x4x256x512, .f32⟩
  | 76 => ⟨S1x32x4x64x256, .f32⟩
  | 77 => ⟨S32x4x64x256, .f32⟩
  | 78 => ⟨S32x4x64x256, .f32⟩
  | 79 => ⟨S32x4x64x256, .f32⟩
  | 80 => ⟨S1x32x4x64x512, .f32⟩
  | 81 => ⟨S32x4x64x512, .f32⟩
  | 82 => ⟨S32x4x256x512, .f32⟩
  | 83 => ⟨S32x4x256x512, .f32⟩
  | 84 => ⟨S32x4x256x512, .f32⟩
  | 85 => ⟨S32x4x256x512, .f32⟩
  | 86 => ⟨S1x32x4x64x256, .f32⟩
  | 87 => ⟨S32x4x64x256, .f32⟩
  | 88 => ⟨S32x4x64x256, .f32⟩
  | 89 => ⟨S32x4x64x256, .f32⟩
  | 90 => ⟨S1x32x4x64x512, .f32⟩
  | 91 => ⟨S32x4x64x512, .f32⟩
  | 92 => ⟨S32x4x256x512, .f32⟩
  | 93 => ⟨S32x4x256x512, .f32⟩
  | 94 => ⟨S32x4x256x512, .f32⟩
  | 95 => ⟨S32x4x256x512, .f32⟩
  | 96 => ⟨S1x32x4x64x256, .f32⟩
  | 97 => ⟨S32x4x64x256, .f32⟩
  | 98 => ⟨S32x4x64x256, .f32⟩
  | 99 => ⟨S32x4x64x256, .f32⟩
  | 100 => ⟨S1x32x4x64x512, .f32⟩
  | 101 => ⟨S32x4x64x512, .f32⟩
  | 102 => ⟨S32x4x256x512, .f32⟩
  | 103 => ⟨S32x4x256x512, .f32⟩
  | 104 => ⟨S32x4x256x512, .f32⟩
  | 105 => ⟨S32x4x256x512, .f32⟩
  | 106 => ⟨S1x32x4x64x256, .f32⟩
  | 107 => ⟨S32x4x64x256, .f32⟩
  | 108 => ⟨S32x4x64x256, .f32⟩
  | 109 => ⟨S32x4x64x256, .f32⟩
  | 110 => ⟨S1x32x4x64x512, .f32⟩
  | 111 => ⟨S32x4x64x512, .f32⟩
  | 112 => ⟨S32x4x256x512, .f32⟩
  | 113 => ⟨S32x4x256x512, .f32⟩
  | 114 => ⟨S32x4x256x512, .f32⟩
  | 115 => ⟨S32x4x256x512, .f32⟩
  | 116 => ⟨S1x32x4x64x256, .f32⟩
  | 117 => ⟨S32x4x64x256, .f32⟩
  | 118 => ⟨S32x4x64x256, .f32⟩
  | 119 => ⟨S32x4x64x256, .f32⟩
  | 120 => ⟨S1x32x4x64x512, .f32⟩
  | 121 => ⟨S32x4x64x512, .f32⟩
  | 122 => ⟨S32x4x256x512, .f32⟩
  | 123 => ⟨S32x4x256x512, .f32⟩
  | 124 => ⟨S32x4x256x512, .f32⟩
  | 125 => ⟨S32x4x256x512, .f32⟩
  | 126 => ⟨S1x32x4x64x256, .f32⟩
  | 127 => ⟨S32x4x64x256, .f32⟩
  | _ => ⟨S32x2048x3328, .bf16⟩

abbrev hbmTy0_3 (i : Nat) : BufTy := match i % 128 with
  | 0 => ⟨S32x4x64x256, .f32⟩
  | 1 => ⟨S32x4x64x256, .f32⟩
  | 2 => ⟨S1x32x4x64x512, .f32⟩
  | 3 => ⟨S32x4x64x512, .f32⟩
  | 4 => ⟨S32x4x256x512, .f32⟩
  | 5 => ⟨S32x4x256x512, .f32⟩
  | 6 => ⟨S32x4x256x512, .f32⟩
  | 7 => ⟨S32x4x256x512, .f32⟩
  | 8 => ⟨S1x32x4x64x256, .f32⟩
  | 9 => ⟨S32x4x64x256, .f32⟩
  | 10 => ⟨S32x4x64x256, .f32⟩
  | 11 => ⟨S32x4x64x256, .f32⟩
  | 12 => ⟨S1x32x4x64x512, .f32⟩
  | 13 => ⟨S32x4x64x512, .f32⟩
  | 14 => ⟨S32x4x256x512, .f32⟩
  | 15 => ⟨S32x4x256x512, .f32⟩
  | 16 => ⟨S32x4x256x512, .f32⟩
  | 17 => ⟨S32x4x256x512, .f32⟩
  | 18 => ⟨S1x32x4x64x256, .f32⟩
  | 19 => ⟨S32x4x64x256, .f32⟩
  | 20 => ⟨S32x4x64x256, .f32⟩
  | 21 => ⟨S32x4x64x256, .f32⟩
  | 22 => ⟨S1x32x4x64x512, .f32⟩
  | 23 => ⟨S32x4x64x512, .f32⟩
  | 24 => ⟨S32x4x256x512, .f32⟩
  | 25 => ⟨S32x4x256x512, .f32⟩
  | 26 => ⟨S32x4x256x512, .f32⟩
  | 27 => ⟨S32x4x256x512, .f32⟩
  | 28 => ⟨S1x32x4x64x256, .f32⟩
  | 29 => ⟨S32x4x64x256, .f32⟩
  | 30 => ⟨S32x4x64x256, .f32⟩
  | 31 => ⟨S32x4x64x256, .f32⟩
  | 32 => ⟨S1x32x4x64x512, .f32⟩
  | 33 => ⟨S32x4x64x512, .f32⟩
  | 34 => ⟨S32x4x256x512, .f32⟩
  | 35 => ⟨S32x4x256x512, .f32⟩
  | 36 => ⟨S32x4x256x512, .f32⟩
  | 37 => ⟨S32x4x256x512, .f32⟩
  | 38 => ⟨S1x32x4x64x256, .f32⟩
  | 39 => ⟨S32x4x64x256, .f32⟩
  | 40 => ⟨S32x4x64x256, .f32⟩
  | 41 => ⟨S32x4x64x256, .f32⟩
  | 42 => ⟨S1x32x4x64x512, .f32⟩
  | 43 => ⟨S32x4x64x512, .f32⟩
  | 44 => ⟨S32x4x256x512, .f32⟩
  | 45 => ⟨S32x4x256x512, .f32⟩
  | _ => ⟨S32x2048x3328, .bf16⟩

abbrev hbmTy (i : Nat) : BufTy := match i / 128 with
  | 0 => hbmTy0_0 i
  | 1 => hbmTy0_1 i
  | 2 => hbmTy0_2 i
  | 3 => hbmTy0_3 i
  | _ => ⟨S32x2048x3328, .bf16⟩

abbrev bufTy : (tb : Table) → Fin (tcTables nBuf tb) → BufTy
  | .hbm, ⟨i, _⟩ => hbmTy i
  | _, _ => ⟨S32x2048x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_cst : Ref sig .tc := ⟨.hbm, 28, rfl⟩
abbrev main_call0_v3 : Ref sig .tc := ⟨.hbm, 29, rfl⟩
abbrev main_call0_v4 : Ref sig .tc := ⟨.hbm, 30, rfl⟩
abbrev main_call0_cst_0 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_cst_1 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_v15 : Ref sig .tc := ⟨.hbm, 43, rfl⟩
abbrev main_call0_v16 : Ref sig .tc := ⟨.hbm, 44, rfl⟩
abbrev main_v10 : Ref sig .tc := ⟨.hbm, 45, rfl⟩
abbrev main_v11 : Ref sig .tc := ⟨.hbm, 46, rfl⟩
abbrev main_cst_1 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_2 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_3 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_4 : Ref sig .tc := ⟨.hbm, 84, rfl⟩
abbrev main_v46 : Ref sig .tc := ⟨.hbm, 85, rfl⟩
abbrev main_v47 : Ref sig .tc := ⟨.hbm, 86, rfl⟩
abbrev main_cst_5 : Ref sig .tc := ⟨.hbm, 87, rfl⟩
abbrev main_v48 : Ref sig .tc := ⟨.hbm, 88, rfl⟩
abbrev main_v49 : Ref sig .tc := ⟨.hbm, 89, rfl⟩
abbrev main_cst_6 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_7 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_8 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_v255 : Ref sig .tc := ⟨.hbm, 298, rfl⟩
abbrev main_v256 : Ref sig .tc := ⟨.hbm, 299, rfl⟩
abbrev main_v257 : Ref sig .tc := ⟨.hbm, 300, rfl⟩
abbrev main_v258 : Ref sig .tc := ⟨.hbm, 301, rfl⟩
abbrev main_v259 : Ref sig .tc := ⟨.hbm, 302, rfl⟩
abbrev main_v260 : Ref sig .tc := ⟨.hbm, 303, rfl⟩
abbrev main_v261 : Ref sig .tc := ⟨.hbm, 304, rfl⟩
abbrev main_v262 : Ref sig .tc := ⟨.hbm, 305, rfl⟩
abbrev main_v263 : Ref sig .tc := ⟨.hbm, 306, rfl⟩
abbrev main_v264 : Ref sig .tc := ⟨.hbm, 307, rfl⟩
abbrev main_v265 : Ref sig .tc := ⟨.hbm, 308, rfl⟩
abbrev main_v266 : Ref sig .tc := ⟨.hbm, 309, rfl⟩
abbrev main_v267 : Ref sig .tc := ⟨.hbm, 310, rfl⟩
abbrev main_v268 : Ref sig .tc := ⟨.hbm, 311, rfl⟩
abbrev main_v269 : Ref sig .tc := ⟨.hbm, 312, rfl⟩
abbrev main_v270 : Ref sig .tc := ⟨.hbm, 313, rfl⟩
abbrev main_v271 : Ref sig .tc := ⟨.hbm, 314, rfl⟩
abbrev main_v272 : Ref sig .tc := ⟨.hbm, 315, rfl⟩
abbrev main_v273 : Ref sig .tc := ⟨.hbm, 316, rfl⟩
abbrev main_v274 : Ref sig .tc := ⟨.hbm, 317, rfl⟩
abbrev main_v275 : Ref sig .tc := ⟨.hbm, 318, rfl⟩
abbrev main_v276 : Ref sig .tc := ⟨.hbm, 319, rfl⟩
abbrev main_v277 : Ref sig .tc := ⟨.hbm, 320, rfl⟩
abbrev main_v278 : Ref sig .tc := ⟨.hbm, 321, rfl⟩
abbrev main_v279 : Ref sig .tc := ⟨.hbm, 322, rfl⟩
abbrev main_v280 : Ref sig .tc := ⟨.hbm, 323, rfl⟩
abbrev main_v281 : Ref sig .tc := ⟨.hbm, 324, rfl⟩
abbrev main_v282 : Ref sig .tc := ⟨.hbm, 325, rfl⟩
abbrev main_v283 : Ref sig .tc := ⟨.hbm, 326, rfl⟩
abbrev main_v284 : Ref sig .tc := ⟨.hbm, 327, rfl⟩
abbrev main_v285 : Ref sig .tc := ⟨.hbm, 328, rfl⟩
abbrev main_v286 : Ref sig .tc := ⟨.hbm, 329, rfl⟩
abbrev main_v287 : Ref sig .tc := ⟨.hbm, 330, rfl⟩
abbrev main_v288 : Ref sig .tc := ⟨.hbm, 331, rfl⟩
abbrev main_v289 : Ref sig .tc := ⟨.hbm, 332, rfl⟩
abbrev main_v290 : Ref sig .tc := ⟨.hbm, 333, rfl⟩
abbrev main_v291 : Ref sig .tc := ⟨.hbm, 334, rfl⟩
abbrev main_v292 : Ref sig .tc := ⟨.hbm, 335, rfl⟩
abbrev main_v293 : Ref sig .tc := ⟨.hbm, 336, rfl⟩
abbrev main_v294 : Ref sig .tc := ⟨.hbm, 337, rfl⟩
abbrev main_v295 : Ref sig .tc := ⟨.hbm, 338, rfl⟩
abbrev main_v296 : Ref sig .tc := ⟨.hbm, 339, rfl⟩
abbrev main_v297 : Ref sig .tc := ⟨.hbm, 340, rfl⟩
abbrev main_v298 : Ref sig .tc := ⟨.hbm, 341, rfl⟩
abbrev main_v299 : Ref sig .tc := ⟨.hbm, 342, rfl⟩
abbrev main_v300 : Ref sig .tc := ⟨.hbm, 343, rfl⟩
abbrev main_v301 : Ref sig .tc := ⟨.hbm, 344, rfl⟩
abbrev main_v302 : Ref sig .tc := ⟨.hbm, 345, rfl⟩
abbrev main_v303 : Ref sig .tc := ⟨.hbm, 346, rfl⟩
abbrev main_v304 : Ref sig .tc := ⟨.hbm, 347, rfl⟩
abbrev main_v305 : Ref sig .tc := ⟨.hbm, 348, rfl⟩
abbrev main_v306 : Ref sig .tc := ⟨.hbm, 349, rfl⟩
abbrev main_v307 : Ref sig .tc := ⟨.hbm, 350, rfl⟩
abbrev main_v308 : Ref sig .tc := ⟨.hbm, 351, rfl⟩
abbrev main_v309 : Ref sig .tc := ⟨.hbm, 352, rfl⟩
abbrev main_v310 : Ref sig .tc := ⟨.hbm, 353, rfl⟩
abbrev main_v311 : Ref sig .tc := ⟨.hbm, 354, rfl⟩
abbrev main_v312 : Ref sig .tc := ⟨.hbm, 355, rfl⟩
abbrev main_v313 : Ref sig .tc := ⟨.hbm, 356, rfl⟩
abbrev main_v314 : Ref sig .tc := ⟨.hbm, 357, rfl⟩
abbrev main_v315 : Ref sig .tc := ⟨.hbm, 358, rfl⟩
abbrev main_v316 : Ref sig .tc := ⟨.hbm, 359, rfl⟩
abbrev main_v317 : Ref sig .tc := ⟨.hbm, 360, rfl⟩
abbrev main_v318 : Ref sig .tc := ⟨.hbm, 361, rfl⟩
abbrev main_v319 : Ref sig .tc := ⟨.hbm, 362, rfl⟩
abbrev main_v320 : Ref sig .tc := ⟨.hbm, 363, rfl⟩
abbrev main_v321 : Ref sig .tc := ⟨.hbm, 364, rfl⟩
abbrev main_v322 : Ref sig .tc := ⟨.hbm, 365, rfl⟩
abbrev main_v323 : Ref sig .tc := ⟨.hbm, 366, rfl⟩
abbrev main_v324 : Ref sig .tc := ⟨.hbm, 367, rfl⟩
abbrev main_v325 : Ref sig .tc := ⟨.hbm, 368, rfl⟩
abbrev main_v326 : Ref sig .tc := ⟨.hbm, 369, rfl⟩
abbrev main_v327 : Ref sig .tc := ⟨.hbm, 370, rfl⟩
abbrev main_v328 : Ref sig .tc := ⟨.hbm, 371, rfl⟩
abbrev main_v329 : Ref sig .tc := ⟨.hbm, 372, rfl⟩
abbrev main_v330 : Ref sig .tc := ⟨.hbm, 373, rfl⟩
abbrev main_v331 : Ref sig .tc := ⟨.hbm, 374, rfl⟩
abbrev main_v332 : Ref sig .tc := ⟨.hbm, 375, rfl⟩
abbrev main_v333 : Ref sig .tc := ⟨.hbm, 376, rfl⟩
abbrev main_v334 : Ref sig .tc := ⟨.hbm, 377, rfl⟩
abbrev main_v335 : Ref sig .tc := ⟨.hbm, 378, rfl⟩
abbrev main_v336 : Ref sig .tc := ⟨.hbm, 379, rfl⟩
abbrev main_v337 : Ref sig .tc := ⟨.hbm, 380, rfl⟩
abbrev main_v338 : Ref sig .tc := ⟨.hbm, 381, rfl⟩
abbrev main_v339 : Ref sig .tc := ⟨.hbm, 382, rfl⟩
abbrev main_v340 : Ref sig .tc := ⟨.hbm, 383, rfl⟩
abbrev main_v341 : Ref sig .tc := ⟨.hbm, 384, rfl⟩
abbrev main_v342 : Ref sig .tc := ⟨.hbm, 385, rfl⟩
abbrev main_v343 : Ref sig .tc := ⟨.hbm, 386, rfl⟩
abbrev main_v344 : Ref sig .tc := ⟨.hbm, 387, rfl⟩
abbrev main_v345 : Ref sig .tc := ⟨.hbm, 388, rfl⟩
abbrev main_v346 : Ref sig .tc := ⟨.hbm, 389, rfl⟩
abbrev main_v347 : Ref sig .tc := ⟨.hbm, 390, rfl⟩
abbrev main_v348 : Ref sig .tc := ⟨.hbm, 391, rfl⟩
abbrev main_v349 : Ref sig .tc := ⟨.hbm, 392, rfl⟩
abbrev main_v350 : Ref sig .tc := ⟨.hbm, 393, rfl⟩
abbrev main_v351 : Ref sig .tc := ⟨.hbm, 394, rfl⟩
abbrev main_v352 : Ref sig .tc := ⟨.hbm, 395, rfl⟩
abbrev main_v353 : Ref sig .tc := ⟨.hbm, 396, rfl⟩
abbrev main_v354 : Ref sig .tc := ⟨.hbm, 397, rfl⟩
abbrev main_v355 : Ref sig .tc := ⟨.hbm, 398, rfl⟩
abbrev main_v356 : Ref sig .tc := ⟨.hbm, 399, rfl⟩
abbrev main_v357 : Ref sig .tc := ⟨.hbm, 400, rfl⟩
abbrev main_v358 : Ref sig .tc := ⟨.hbm, 401, rfl⟩
abbrev main_v359 : Ref sig .tc := ⟨.hbm, 402, rfl⟩
abbrev main_v360 : Ref sig .tc := ⟨.hbm, 403, rfl⟩
abbrev main_v361 : Ref sig .tc := ⟨.hbm, 404, rfl⟩
abbrev main_v362 : Ref sig .tc := ⟨.hbm, 405, rfl⟩
abbrev main_v363 : Ref sig .tc := ⟨.hbm, 406, rfl⟩
abbrev main_v364 : Ref sig .tc := ⟨.hbm, 407, rfl⟩
abbrev main_v365 : Ref sig .tc := ⟨.hbm, 408, rfl⟩
abbrev main_v366 : Ref sig .tc := ⟨.hbm, 409, rfl⟩
abbrev main_v367 : Ref sig .tc := ⟨.hbm, 410, rfl⟩
abbrev main_v368 : Ref sig .tc := ⟨.hbm, 411, rfl⟩
abbrev main_v369 : Ref sig .tc := ⟨.hbm, 412, rfl⟩
abbrev main_v370 : Ref sig .tc := ⟨.hbm, 413, rfl⟩
abbrev main_v371 : Ref sig .tc := ⟨.hbm, 414, rfl⟩
abbrev main_v372 : Ref sig .tc := ⟨.hbm, 415, rfl⟩
abbrev main_v373 : Ref sig .tc := ⟨.hbm, 416, rfl⟩
abbrev main_v374 : Ref sig .tc := ⟨.hbm, 417, rfl⟩
abbrev main_v375 : Ref sig .tc := ⟨.hbm, 418, rfl⟩
abbrev main_v376 : Ref sig .tc := ⟨.hbm, 419, rfl⟩
abbrev main_v377 : Ref sig .tc := ⟨.hbm, 420, rfl⟩
abbrev main_v378 : Ref sig .tc := ⟨.hbm, 421, rfl⟩
abbrev main_v379 : Ref sig .tc := ⟨.hbm, 422, rfl⟩
abbrev main_v380 : Ref sig .tc := ⟨.hbm, 423, rfl⟩
abbrev main_v381 : Ref sig .tc := ⟨.hbm, 424, rfl⟩
abbrev main_v382 : Ref sig .tc := ⟨.hbm, 425, rfl⟩
abbrev main_v383 : Ref sig .tc := ⟨.hbm, 426, rfl⟩
abbrev main_v384 : Ref sig .tc := ⟨.hbm, 427, rfl⟩
abbrev main_v385 : Ref sig .tc := ⟨.hbm, 428, rfl⟩
abbrev main_v386 : Ref sig .tc := ⟨.hbm, 429, rfl⟩

abbrev nD : Nat := 1
abbrev τ : Topo := Topo.v7x

variable {F : FTy → Type} [FloatOps F]
-- ==== RwkvF.lean ====
abbrev S32x16x3328 : Shape := ⟨3, ![32, 16, 3328]⟩
abbrev S32x3328 : Shape := ⟨2, ![32, 3328]⟩
abbrev S32x16x64x64 : Shape := ⟨4, ![32, 16, 64, 64]⟩
abbrev S3328 : Shape := ⟨1, ![3328]⟩
abbrev S1024 : Shape := ⟨1, ![1024]⟩
abbrev S64x1024 : Shape := ⟨2, ![64, 1024]⟩
abbrev S128x1024 : Shape := ⟨2, ![128, 1024]⟩
abbrev S16x64 : Shape := ⟨2, ![16, 64]⟩
abbrev S_ : Shape := ⟨0, ![]⟩
abbrev S1x3328 : Shape := ⟨2, ![1, 3328]⟩
abbrev S1x1024 : Shape := ⟨2, ![1, 1024]⟩
abbrev S512x3328 : Shape := ⟨2, ![512, 3328]⟩
abbrev S32x64x3328 : Shape := ⟨3, ![32, 64, 3328]⟩
abbrev S2048x3328 : Shape := ⟨2, ![2048, 3328]⟩
abbrev S32x1x3328 : Shape := ⟨3, ![32, 1, 3328]⟩
abbrev S32x8x2x64x64 : Shape := ⟨5, ![32, 8, 2, 64, 64]⟩
abbrev S32x8x1x64x64 : Shape := ⟨5, ![32, 8, 1, 64, 64]⟩
abbrev S32x8x64x64 : Shape := ⟨4, ![32, 8, 64, 64]⟩
abbrev S32x8x64x128 : Shape := ⟨4, ![32, 8, 64, 128]⟩
abbrev S32x8x128x128 : Shape := ⟨4, ![32, 8, 128, 128]⟩
abbrev S2048x1024 : Shape := ⟨2, ![2048, 1024]⟩
abbrev S2x32x8x128x128 : Shape := ⟨5, ![2, 32, 8, 128, 128]⟩
abbrev S2x32x1x3328 : Shape := ⟨4, ![2, 32, 1, 3328]⟩
abbrev S64x3328 : Shape := ⟨2, ![64, 3328]⟩
abbrev S1x1x3328 : Shape := ⟨3, ![1, 1, 3328]⟩
abbrev S1x8x128x128 : Shape := ⟨4, ![1, 8, 128, 128]⟩
abbrev S1x1x8x128x128 : Shape := ⟨5, ![1, 1, 8, 128, 128]⟩
abbrev S1x1x1x3328 : Shape := ⟨4, ![1, 1, 1, 3328]⟩
abbrev S8x128x128 : Shape := ⟨3, ![8, 128, 128]⟩
abbrev S64x1 : Shape := ⟨2, ![64, 1]⟩
abbrev S64x128 : Shape := ⟨2, ![64, 128]⟩
abbrev S128x128 : Shape := ⟨2, ![128, 128]⟩
abbrev S256x256 : Shape := ⟨2, ![256, 256]⟩
abbrev S64x256 : Shape := ⟨2, ![64, 256]⟩
abbrev S256x128 : Shape := ⟨2, ![256, 128]⟩
abbrev S1x128 : Shape := ⟨2, ![1, 128]⟩
abbrev S32x128 : Shape := ⟨2, ![32, 128]⟩
abbrev S1x1x1x128x128 : Shape := ⟨5, ![1, 1, 1, 128, 128]⟩
abbrev S192x128 : Shape := ⟨2, ![192, 128]⟩
abbrev S2x32x3328 : Shape := ⟨3, ![2, 32, 3328]⟩
abbrev S1x32x3328 : Shape := ⟨3, ![1, 32, 3328]⟩

abbrev nBuf : Space → Nat
  | .hbm => 54
  | .vmem => 24
  | .smem => 0
  | _ => 0

abbrev bufTy : (tb : Table) → Fin (tcTables nBuf tb) → BufTy
  | .hbm, ⟨0, _⟩ => ⟨S32x16x3328, .bf16⟩
  | .hbm, ⟨1, _⟩ => ⟨S32x3328, .f32⟩
  | .hbm, ⟨2, _⟩ => ⟨S32x16x64x64, .f32⟩
  | .hbm, ⟨3, _⟩ => ⟨S3328, .f32⟩
  | .hbm, ⟨4, _⟩ => ⟨S1024, .f32⟩
  | .hbm, ⟨5, _⟩ => ⟨S64x1024, .f32⟩
  | .hbm, ⟨6, _⟩ => ⟨S1024, .f32⟩
  | .hbm, ⟨7, _⟩ => ⟨S64x1024, .f32⟩
  | .hbm, ⟨8, _⟩ => ⟨S128x1024, .f32⟩
  | .hbm, ⟨9, _⟩ => ⟨S1024, .f32⟩
  | .hbm, ⟨10, _⟩ => ⟨S1024, .f32⟩
  | .hbm, ⟨11, _⟩ => ⟨S16x64, .f32⟩
  | .hbm, ⟨12, _⟩ => ⟨S1024, .f32⟩
  | .hbm, ⟨13, _⟩ => ⟨S1024, .f32⟩
  | .hbm, ⟨14, _⟩ => ⟨S_, .bf16⟩
  | .hbm, ⟨15, _⟩ => ⟨S64x1024, .bf16⟩
  | .hbm, ⟨16, _⟩ => ⟨S1x3328, .f32⟩
  | .hbm, ⟨17, _⟩ => ⟨S1x1024, .f32⟩
  | .hbm, ⟨18, _⟩ => ⟨S1x1024, .f32⟩
  | .hbm, ⟨19, _⟩ => ⟨S64x1024, .bf16⟩
  | .hbm, ⟨20, _⟩ => ⟨S128x1024, .bf16⟩
  | .hbm, ⟨21, _⟩ => ⟨S64x1024, .bf16⟩
  | .hbm, ⟨22, _⟩ => ⟨S128x1024, .bf16⟩
  | .hbm, ⟨23, _⟩ => ⟨S128x1024, .bf16⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S512x3328, .bf16⟩
  | .hbm, ⟨30, _⟩ => ⟨S32x16x3328, .bf16⟩
  | .hbm, ⟨31, _⟩ => ⟨S_, .i32⟩
  | .hbm, ⟨32, _⟩ => ⟨S_, .bf16⟩
  | .hbm, ⟨33, _⟩ => ⟨S32x64x3328, .bf16⟩
  | .hbm, ⟨34, _⟩ => ⟨S2048x3328, .bf16⟩
  | .hbm, ⟨35, _⟩ => ⟨S32x1x3328, .f32⟩
  | .hbm, ⟨36, _⟩ => ⟨S32x8x2x64x64, .f32⟩
  | .hbm, ⟨37, _⟩ => ⟨S32x8x1x64x64, .f32⟩
  | .hbm, ⟨38, _⟩ => ⟨S32x8x64x64, .f32⟩
  | .hbm, ⟨39, _⟩ => ⟨S_, .f32⟩
  | .hbm, ⟨40, _⟩ => ⟨S32x8x64x64, .f32⟩
  | .hbm, ⟨41, _⟩ => ⟨S32x8x1x64x64, .f32⟩
  | .hbm, ⟨42, _⟩ => ⟨S32x8x64x64, .f32⟩
  | .hbm, ⟨43, _⟩ => ⟨S32x8x64x128, .f32⟩
  | .hbm, ⟨44, _⟩ => ⟨S32x8x1x64x64, .f32⟩
  | .hbm, ⟨45, _⟩ => ⟨S32x8x64x64, .f32⟩
  | .hbm, ⟨46, _⟩ => ⟨S32x8x64x128, .f32⟩
  | .hbm, ⟨47, _⟩ => ⟨S32x8x128x128, .f32⟩
  | .hbm, ⟨48, _⟩ => ⟨S2048x1024, .bf16⟩
  | .hbm, ⟨49, _⟩ => ⟨S2x32x8x128x128, .f32⟩
  | .hbm, ⟨50, _⟩ => ⟨S2x32x1x3328, .f32⟩
  | .hbm, ⟨51, _⟩ => ⟨S2x32x3328, .f32⟩
  | .hbm, ⟨52, _⟩ => ⟨S1x32x3328, .f32⟩
  | .hbm, ⟨53, _⟩ => ⟨S32x3328, .f32⟩
  | .local _ .vmem, ⟨0, _⟩ => ⟨S64x3328, .bf16⟩
  | .local _ .vmem, ⟨1, _⟩ => ⟨S64x3328, .bf16⟩
  | .local _ .vmem, ⟨2, _⟩ => ⟨S1x1x3328, .f32⟩
  | .local _ .vmem, ⟨3, _⟩ => ⟨S1x1x3328, .f32⟩
  | .local _ .vmem, ⟨4, _⟩ => ⟨S1x8x128x128, .f32⟩
  | .local _ .vmem, ⟨5, _⟩ => ⟨S1x8x128x128, .f32⟩
  | .local _ .vmem, ⟨6, _⟩ => ⟨S1x3328, .f32⟩
  | .local _ .vmem, ⟨7, _⟩ => ⟨S1x1024, .f32⟩
  | .local _ .vmem, ⟨8, _⟩ => ⟨S128x1024, .bf16⟩
  | .local _ .vmem, ⟨9, _⟩ => ⟨S1x1024, .f32⟩
  | .local _ .vmem, ⟨10, _⟩ => ⟨S128x1024, .bf16⟩
  | .local _ .vmem, ⟨11, _⟩ => ⟨S128x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S64x1024, .bf16⟩
  | .local _ .vmem, ⟨18, _⟩ => ⟨S64x1024, .bf16⟩
  | .local _ .vmem, ⟨19, _⟩ => ⟨S1x1x8x128x128, .f32⟩
  | .local _ .vmem, ⟨20, _⟩ => ⟨S1x1x8x128x128, .f32⟩
  | .local _ .vmem, ⟨21, _⟩ => ⟨S1x1x1x3328, .f32⟩
  | .local _ .vmem, ⟨22, _⟩ => ⟨S1x1x1x3328, .f32⟩
  | .local _ .vmem, ⟨23, _⟩ => ⟨S1x3328, .f32⟩
  | _, _ => ⟨S32x16x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_call0_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30_0 : Ref sig .tc := ⟨.hbm, 48, rfl⟩
abbrev main_v30_1 : Ref sig .tc := ⟨.hbm, 49, rfl⟩
abbrev main_v30_2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S64x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3328 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x3328 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x8x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x1x3328 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== RwkvFRefIdeal.lean ====
abbrev S32x16x3328 : Shape := ⟨3, ![32, 16, 3328]⟩
abbrev S32x3328 : Shape := ⟨2, ![32, 3328]⟩
abbrev S32x16x64x64 : Shape := ⟨4, ![32, 16, 64, 64]⟩
abbrev S3328 : Shape := ⟨1, ![3328]⟩
abbrev S1024 : Shape := ⟨1, ![1024]⟩
abbrev S64x1024 : Shape := ⟨2, ![64, 1024]⟩
abbrev S128x1024 : Shape := ⟨2, ![128, 1024]⟩
abbrev S16x64 : Shape := ⟨2, ![16, 64]⟩
abbrev S32x1x3328 : Shape := ⟨3, ![32, 1, 3328]⟩

abbrev nBuf : Space → Nat
  | .hbm => 17
  | .vmem => 0
  | .smem => 0
  | _ => 0

abbrev bufTy : (tb : Table) → Fin (tcTables nBuf tb) → BufTy
  | .hbm, ⟨0, _⟩ => ⟨S32x16x3328, .bf16⟩
  | .hbm, ⟨1, _⟩ => ⟨S32x3328, .f32⟩
  | .hbm, ⟨2, _⟩ => ⟨S32x16x64x64, .f32⟩
  | .hbm, ⟨3, _⟩ => ⟨S3328, .f32⟩
  | .hbm, ⟨4, _⟩ => ⟨S1024, .f32⟩
  | .hbm, ⟨5, _⟩ => ⟨S64x1024, .f32⟩
  | .hbm, ⟨6, _⟩ => ⟨S1024, .f32⟩
  | .hbm, ⟨7, _⟩ => ⟨S64x1024, .f32⟩
  | .hbm, ⟨8, _⟩ => ⟨S128x1024, .f32⟩
  | .hbm, ⟨9, _⟩ => ⟨S1024, .f32⟩
  | .hbm, ⟨10, _⟩ => ⟨S1024, .f32⟩
  | .hbm, ⟨11, _⟩ => ⟨S16x64, .f32⟩
  | .hbm, ⟨12, _⟩ => ⟨S1024, .f32⟩
  | .hbm, ⟨13, _⟩ => ⟨S1024, .f32⟩
  | .hbm, ⟨14, _⟩ => ⟨S32x16x3328, .f32⟩
  | .hbm, ⟨15, _⟩ => ⟨S32x1x3328, .f32⟩
  | .hbm, ⟨16, _⟩ => ⟨S32x3328, .f32⟩
  | _, _ => ⟨S32x16x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩

abbrev nD : Nat := 1
abbrev τ : Topo := Topo.v7x

variable {F : FTy → Type} [FloatOps F]
-- ==== Proof.RetRow.lean ====
module

public import Idealize.ShloMosaic.Lib.Pointwise
public import Idealize.ShloMosaic.Lib.Pipeline.ValueKit
public import Idealize.ShloMosaic.Lib.IdealHost
public import Mathlib.Analysis.SpecialFunctions.Pow.Real

@[expose] public section
set_option maxRecDepth 16384

noncomputable section

open Idealize.ShloMosaic

/-! One row of the retention recurrence over a short chunk, written over functions of the column, and the numbers it needs. -/

namespace Cert.Proof.RetRow

/-- A row of a query or key head, its two halves rotated by the row's angles. -/
def rope (x : Fin 256 → EReal) (c s : Fin 128 → EReal) (l : Fin 256) : EReal :=
  if h : l.val < 128 then x l * c ⟨l.val, h⟩ - x ⟨128 + l.val, by omega⟩ * s ⟨l.val, h⟩
  else x ⟨l.val - 128, by omega⟩ * s ⟨l.val - 128, by omega⟩ + x ⟨128 + (l.val - 128), by omega⟩ * c ⟨l.val - 128, by omega⟩

/-- The rotated key, over the root of the head's width. -/
def key (x : Fin 256 → EReal) (c s : Fin 128 → EReal) (l : Fin 256) : EReal := rope x c s l * Ideal.ofBits .f32 0x3D800000#32

/-- The logarithm of the decay of head `h`. -/
def lg (h : ℕ) : ℝ := Real.log (1 - (1 / 2) ^ (5 + h))

/-- The decay from position `j` to position `i` of a chunk: zero where `j` lies after `i`. -/
def msk (L : ℝ) (i j : ℕ) : EReal := if j ≤ i then ((Real.exp (((i : ℝ) - j) * L) : ℝ) : EReal) else 0

/-- The decay of the carried state at position `i`. -/
def qd (L : ℝ) (i : ℕ) : EReal := ((Real.exp (((i : ℝ) + 1) * L) : ℝ) : EReal)

/-- The decay from position `j` to the chunk's last position. -/
def kd (L : ℝ) (j : ℕ) : EReal := ((Real.exp ((15 - (j : ℝ)) * L) : ℝ) : EReal)

/-- The decay over a whole chunk. -/
def g16 (L : ℝ) : EReal := ((Real.exp (16 * L) : ℝ) : EReal)

/-- One entry of the retention product: the decayed scores against the values, plus the decayed query against the carried state. -/
def retY {n : ℕ} (L : ℝ) (q : Fin 256 → EReal) (K : Fin n → Fin 256 → EReal) (V : Fin n → EReal) (S : Fin 256 → EReal) (i : ℕ) : EReal :=
  (∑ j, ((∑ d, q d * K j d) * msk L i j.val) * V j) + ∑ d, q d * qd L i * S d

/-- One entry of the new state: the old one decayed over the chunk, plus the chunk's decayed keys against its values. -/
def retS {n : ℕ} (L : ℝ) (K V : Fin n → EReal) (s : EReal) : EReal :=
  s * g16 L + ∑ j, (if j.val < 16 then K j * kd L j.val else 0) * V j

/-- A row of the retention product, normalised over the head and gated. -/
def gated (g y : Fin 512 → EReal) (l : Fin 512) : EReal :=
  g l * Ideal.logistic (g l) * (y l * Ideal.rsqrt (Ideal.div (∑ x, y x * y x) (Ideal.ofBits .f32 0x44000000#32) + Ideal.ofBits .f32 0x358637BD#32))

/-- A row of one head's output, from the chunk's projections, the angles' cosines and sines and the carried state. -/
def yrow {n : ℕ} (X : Fin n → Fin 6144 → EReal) (C S : Fin n → Fin 128 → EReal) (St : Fin 4 → Fin 256 → Fin 512 → EReal) (h : Fin 4) (r : Fin n) : Fin 512 → EReal :=
  gated (fun l => X r ⟨4096 + h.val * 512 + l.val, by omega⟩)
    (fun l => retY (lg h.val) (rope (fun d => X r ⟨h.val * 256 + d.val, by omega⟩) (C r) (S r))
      (fun j => key (fun d => X j ⟨1024 + h.val * 256 + d.val, by omega⟩) (C j) (S j))
      (fun j => X j ⟨2048 + h.val * 512 + l.val, by omega⟩) (fun d => St h d l) r.val)

/-- One entry of one head's new state. -/
def srow {n : ℕ} (X : Fin n → Fin 6144 → EReal) (C S : Fin n → Fin 128 → EReal) (St : Fin 4 → Fin 256 → Fin 512 → EReal) (h : Fin 4) (d : Fin 256) (l : Fin 512) : EReal :=
  retS (lg h.val) (fun j => key (fun d => X j ⟨1024 + h.val * 256 + d.val, by omega⟩) (C j) (S j) d)
    (fun j => X j ⟨2048 + h.val * 512 + l.val, by omega⟩) (St h d l)

/-- A sum whose terms vanish from 16 on is the sum of its first 16 terms. -/
theorem sum_pad (f : Fin 128 → EReal) (h : ∀ j : Fin 128, 16 ≤ j.val → f j = 0) : ∑ j, f j = ∑ j : Fin 16, f ⟨j.val, by omega⟩ := by
  rw [Fin.sum_univ_add (a := 16) (b := 112) f, Finset.sum_eq_zero (s := Finset.univ) (f := fun i : Fin 112 => f (Fin.natAdd 16 i)) fun i _ => h _ (by simp), add_zero]
  rfl

/-- Rows past the chunk do not reach a position of the chunk. -/
theorem retY_pad (L : ℝ) (q : Fin 256 → EReal) (K : Fin 128 → Fin 256 → EReal) (V : Fin 128 → EReal) (S : Fin 256 → EReal) (i : ℕ) (hi : i < 16) :
    retY L q K V S i = retY L q (fun j : Fin 16 => K ⟨j.val, by omega⟩) (fun j => V ⟨j.val, by omega⟩) S i := by
  unfold retY
  rw [sum_pad _ fun j hj => by rw [msk, if_neg (by omega), mul_zero, zero_mul]]

/-- Rows past the chunk do not reach the new state. -/
theorem retS_pad (L : ℝ) (K V : Fin 128 → EReal) (s : EReal) :
    retS L K V s = retS L (fun j : Fin 16 => K ⟨j.val, by omega⟩) (fun j => V ⟨j.val, by omega⟩) s := by
  unfold retS
  rw [sum_pad _ fun j hj => by rw [if_neg (by omega), zero_mul]]

/-- A row of the chunk, computed beside padding rows, is the row of the chunk alone. -/
theorem yrow_pad (X : Fin 128 → Fin 6144 → EReal) (C S : Fin 128 → Fin 128 → EReal) (St : Fin 4 → Fin 256 → Fin 512 → EReal) (h : Fin 4) (r : Fin 16) :
    yrow X C S St h ⟨r.val, by omega⟩
      = yrow (fun j : Fin 16 => X ⟨j.val, by omega⟩) (fun j => C ⟨j.val, by omega⟩) (fun j => S ⟨j.val, by omega⟩) St h r := by
  unfold yrow
  exact congrArg (gated _) (funext fun l => retY_pad _ _ _ _ _ r.val r.isLt)

/-- The new state, computed beside padding rows, is that of the chunk alone. -/
theorem srow_pad (X : Fin 128 → Fin 6144 → EReal) (C S : Fin 128 → Fin 128 → EReal) (St : Fin 4 → Fin 256 → Fin 512 → EReal) (h : Fin 4) (d : Fin 256) (l : Fin 512) :
    srow X C S St h d l
      = srow (fun j : Fin 16 => X ⟨j.val, by omega⟩) (fun j => C ⟨j.val, by omega⟩) (fun j => S ⟨j.val, by omega⟩) St h d l := by
  unfold srow
  exact retS_pad _ _ _ _

/-- The float of a small integer. -/
theorem float_nat (n : ℕ) (h : n < 128) : FloatOps.sitofp (F := Ideal) .f32 (BitVec.ofNat 32 n) = ((n : ℝ) : EReal) := by
  have : (BitVec.ofNat 32 n).toInt = n := by rw [BitVec.toInt_ofNat']; simp [Int.bmod]; omega
  simp [FloatOps.sitofp, this]

/-- The float of the difference of two small integers. -/
theorem float_sub (n k : ℕ) (h : n < 128) (h' : k < 128) :
    FloatOps.sitofp (F := Ideal) .f32 (IntOp.subi (BitVec.ofNat 32 n) (BitVec.ofNat 32 k)) = (((n : ℝ) - k : ℝ) : EReal) := by
  have : (IntOp.subi (BitVec.ofNat 32 n) (BitVec.ofNat 32 k)).toInt = (n : ℤ) - k := by
    show (BitVec.ofNat 32 n - BitVec.ofNat 32 k).toInt = _
    rw [BitVec.toInt_sub, BitVec.toInt_ofNat', BitVec.toInt_ofNat']; simp [Int.bmod]; omega
  simp [FloatOps.sitofp, this]

/-- The word of sixteen. -/
theorem word16 : Ideal.ofBits .f32 0x41800000#32 = ((16 : ℝ) : EReal) := by
  simp [Ideal.ofBits, Ideal.ieee, -EReal.coe_mul]; norm_num

/-- The word of fifteen. -/
theorem word15 : Ideal.ofBits .f32 0x41700000#32 = ((15 : ℝ) : EReal) := by
  simp [Ideal.ofBits, Ideal.ieee, -EReal.coe_mul]; norm_num

/-- The word of minus five. -/
theorem word_neg5 : Ideal.ofBits .f32 0xC0A00000#32 = ((-5 : ℝ) : EReal) := by
  simp [Ideal.ofBits, Ideal.ieee, -EReal.coe_mul, -EReal.coe_neg]; norm_num

/-- The word of two. -/
theorem word2 : Ideal.ofBits .f32 0x40000000#32 = ((2 : ℝ) : EReal) := by
  simp [Ideal.ofBits, Ideal.ieee, -EReal.coe_mul]; norm_num

/-- The decay matrix entry as the difference of positions gives it. -/
theorem msk_at (L : ℝ) (i j : ℕ) :
    (if 0 ≤ ((((i : ℝ) - j : ℝ)) : EReal) then Ideal.exp (max ((((i : ℝ) - j : ℝ)) : EReal) 0 * (L : EReal)) else 0) = msk L i j := by
  unfold msk
  by_cases h : j ≤ i
  · have h' : (0 : ℝ) ≤ (i : ℝ) - j := by rw [sub_nonneg]; exact_mod_cast h
    rw [if_pos h, if_pos (by exact_mod_cast h'), max_eq_left (by exact_mod_cast h'), ← EReal.coe_mul, Ideal.exp_coe]
  · have h' : ¬ (0 : ℝ) ≤ (i : ℝ) - j := by rw [sub_nonneg]; exact_mod_cast h
    rw [if_neg h, if_neg (by exact_mod_cast h')]

/-- The decay of the carried state as the position gives it. -/
theorem qd_at (L : ℝ) (i : ℕ) : Ideal.exp ((((i : ℝ) : EReal) + 1) * (L : EReal)) = qd L i := by
  rw [show (1 : EReal) = ((1 : ℝ) : EReal) from rfl, ← EReal.coe_add, ← EReal.coe_mul, Ideal.exp_coe]; rfl

/-- The decay to the chunk's end as the position gives it. -/
theorem kd_at (L : ℝ) (j : ℕ) : Ideal.exp ((((15 : ℝ) : EReal) - ((j : ℝ) : EReal)) * (L : EReal)) = kd L j := by
  rw [← EReal.coe_sub, ← EReal.coe_mul, Ideal.exp_coe]; rfl

/-- A small position lies before sixteen as a float exactly when it does as a number. -/
theorem lt16 (j : ℕ) : (((j : ℝ) : EReal) < ((16 : ℝ) : EReal)) = (j < 16) := by
  apply propext; rw [EReal.coe_lt_coe_iff]; exact_mod_cast Iff.rfl

/-- The decay of a chunk, as the logarithm gives it. -/
theorem g16_at (L : ℝ) : Ideal.exp (((16 : ℝ) : EReal) * (L : EReal)) = g16 L := by
  rw [← EReal.coe_mul, Ideal.exp_coe]; rfl

/-- The decay of a chunk is the sixteenth power of the head's decay. -/
theorem g16_lg (h : ℕ) : g16 (lg h) = (((1 - (1 / 2) ^ (5 + h)) ^ 16 : ℝ) : EReal) := by
  have h0 : (0 : ℝ) < 1 - (1 / 2) ^ (5 + h) := by
    have : ((1 : ℝ) / 2) ^ (5 + h) < 1 := pow_lt_one₀ (by norm_num) (by norm_num) (by omega)
    linarith
  unfold g16 lg
  rw [show (16 : ℝ) * Real.log (1 - (1 / 2) ^ (5 + h)) = (16 : ℕ) * Real.log (1 - (1 / 2) ^ (5 + h)) by norm_num, ← Real.log_pow, Real.exp_log (pow_pos h0 16)]

/-- The logarithm of the head's decay, as the powers of two give it. -/
theorem lg_at (h : ℕ) : Ideal.log (1 - Ideal.pow ((2 : ℝ) : EReal) (((-5 : ℝ) : EReal) - ((h : ℝ) : EReal))) = (lg h : EReal) := by
  have h0 : (0 : ℝ) < 1 - (1 / 2) ^ (5 + h) := by
    have : ((1 : ℝ) / 2) ^ (5 + h) < 1 := pow_lt_one₀ (by norm_num) (by norm_num) (by omega)
    linarith
  have e : (2 : ℝ) ^ ((-5 : ℝ) - (h : ℝ)) = (1 / 2) ^ (5 + h) := by
    rw [show (-5 : ℝ) - (h : ℝ) = -((5 + h : ℕ) : ℝ) by push_cast; ring, Real.rpow_neg (by norm_num), Real.rpow_natCast, one_div, inv_pow]
  rw [← EReal.coe_sub, Ideal.pow_coe_coe, show Real.rpow 2 (-5 - (h : ℝ)) = (1 / 2) ^ (5 + h) from e, show (1 : EReal) = ((1 : ℝ) : EReal) from rfl,
    ← EReal.coe_sub, Ideal.log_coe, if_neg (not_le.mpr h0)]
  rfl

end Cert.Proof.RetRow
-- ==== Proof.ValRet.lean ====
module

public import proofs.«01_k».proof.Defs
public import proofs.«01_k».proof.Proof.RetRow
public import proofs.«01_k».proof.Proof.Gen.RetIdeal.Frame
public import proofs.«01_k».proof.Proof.Gen.RetRefIdeal.Read
public import Idealize.ShloMosaic.Lib.Pointwise
public import Idealize.ShloMosaic.Lib.Pipeline.ValueKit
public import Idealize.ShloMosaic.Lib.Pipeline.ReadBack
public import Idealize.ShloMosaic.Lib.Claim

@[expose] public section
set_option maxRecDepth 16384

noncomputable section

open Idealize.ShloMosaic Idealize.ShloMosaic.TcCoe Idealize.SL.Sem
open Idealize.ShloMosaic.Pipeline (Dat)
open Cert.Proof.RetRow

namespace Cert.RetRefIdeal.RefTerm
open Cert.RetRefIdeal Cert.RetRefIdeal.Gen Cert.RetRefIdeal.Read

/-- The logarithm of each head's decay. -/
theorem lg_ref (h : Fin 4) : val_main_v79 (F := Ideal) (ix1 h) = (lg h.val : EReal) := by
  have e : val_main_v79 (F := Ideal) (ix1 h) = Ideal.log (1 - Ideal.pow ((2 : ℝ) : EReal) (((-5 : ℝ) : EReal) - FloatOps.sitofp (F := Ideal) .f32 (BitVec.ofNat 32 h.val))) := by
    pointwise [val_main_v79, val_main_v78, val_main_v77, val_main_cst_8, val_main_v76, val_main_v75, val_main_cst_7, val_main_v74, val_main_v73, val_main_cst_6, val_main_v72, word2, word_neg5]
  rw [e, float_nat _ (by omega), lg_at]

/-- The rotated query. -/
theorem q_ref (X : FVec Ideal S32x16x6144 .bf16) (b : Fin 32) (r : Fin 16) (h : Fin 4) (l : Fin 256) :
    val_main_v37 (F := Ideal) X (ix4 b r h l)
      = rope (fun d => X (ix3 b r ⟨h.val * 256 + d.val, by omega⟩)) (fun d => val_main_v21 (F := Ideal) (ix2 r d)) (fun d => val_main_v23 (F := Ideal) (ix2 r d)) l := by
  pointwise [val_main_v37, val_main_v36, val_main_v35, val_main_v34, val_main_v33, val_main_v32, val_main_v31, val_main_v30, val_main_v29, val_main_v28, val_main_v27, val_main_v26, val_main_v25, val_main_v24, val_main_v22, val_main_v10, val_main_v6, val_main_v5, rope]

/-- The key's cosines are the query's. -/
theorem cos_ref : val_main_v49 (F := Ideal) = val_main_v21 := rfl

/-- The key's sines are the query's. -/
theorem sin_ref : val_main_v51 (F := Ideal) = val_main_v23 := rfl

/-- The rotated and scaled key. -/
theorem k_ref (X : FVec Ideal S32x16x6144 .bf16) (b : Fin 32) (r : Fin 16) (h : Fin 4) (l : Fin 256) :
    val_main_v67 (F := Ideal) X (ix4 b r h l)
      = key (fun d => X (ix3 b r ⟨1024 + h.val * 256 + d.val, by omega⟩)) (fun d => val_main_v21 (F := Ideal) (ix2 r d)) (fun d => val_main_v23 (F := Ideal) (ix2 r d)) l := by
  pointwise [val_main_v67, val_main_v66, val_main_cst_5, val_main_v65, val_main_v64, val_main_v63, val_main_v62, val_main_v61, val_main_v60, val_main_v59, val_main_v58, val_main_v57, val_main_v56, val_main_v55, val_main_v54, val_main_v53, val_main_v52, val_main_v50, cos_ref, sin_ref, val_main_v38, val_main_v7, val_main_v5, key, rope, Nat.add_assoc]

/-- The value. -/
theorem v_ref (X : FVec Ideal S32x16x6144 .bf16) (b : Fin 32) (r : Fin 16) (h : Fin 4) (l : Fin 512) :
    val_main_v68 (F := Ideal) X (ix4 b r h l) = X (ix3 b r ⟨2048 + h.val * 512 + l.val, by omega⟩) := by
  pointwise [val_main_v68, val_main_v8, val_main_v5, Nat.add_assoc]

/-- The decay matrix. -/
theorem msk_ref (h : Fin 4) (i j : Fin 16) : val_main_v96 (F := Ideal) (ix3 h i j) = msk (lg h.val) i.val j.val := by
  have e : val_main_v96 (F := Ideal) (ix3 h i j)
      = if 0 ≤ FloatOps.sitofp (F := Ideal) .f32 (BitVec.ofNat 32 i.val) - FloatOps.sitofp (F := Ideal) .f32 (BitVec.ofNat 32 j.val)
        then Ideal.exp (max (FloatOps.sitofp (F := Ideal) .f32 (BitVec.ofNat 32 i.val) - FloatOps.sitofp (F := Ideal) .f32 (BitVec.ofNat 32 j.val)) 0 * (lg h.val : EReal)) else 0 := by
    pointwise [val_main_v96, val_main_call2_v2, val_main_call2_v1, val_main_call2_v0, val_main_cst_11, val_main_v95, val_main_v94, val_main_v93, val_main_v92, val_main_v91, val_main_v90, val_main_v89, val_main_v88, val_main_cst_10, val_main_v87, val_main_v86, val_main_cst_9, val_main_v85, val_main_v84, val_main_v83, val_main_v82, val_main_v81, val_main_v80, lg_ref, id]
  rw [e, float_nat _ (by omega), float_nat _ (by omega), ← EReal.coe_sub, msk_at]

/-- The decay of the carried state. -/
theorem qd_ref (h : Fin 4) (i : Fin 16) : val_main_v109 (F := Ideal) (ix2 h i) = qd (lg h.val) i.val := by
  have e : val_main_v109 (F := Ideal) (ix2 h i) = Ideal.exp ((FloatOps.sitofp (F := Ideal) .f32 (BitVec.ofNat 32 i.val) + 1) * (lg h.val : EReal)) := by
    pointwise [val_main_v109, val_main_v108, val_main_v107, val_main_v106, val_main_v105, val_main_v104, val_main_v103, val_main_v102, val_main_cst_12, val_main_v80, lg_ref]
  rw [e, float_nat _ (by omega), qd_at]

/-- The decay to the chunk's end. -/
theorem kd_ref (h : Fin 4) (i : Fin 16) : val_main_v121 (F := Ideal) (ix2 h i) = kd (lg h.val) i.val := by
  have e : val_main_v121 (F := Ideal) (ix2 h i) = Ideal.exp ((((15 : ℝ) : EReal) - FloatOps.sitofp (F := Ideal) .f32 (BitVec.ofNat 32 i.val)) * (lg h.val : EReal)) := by
    pointwise [val_main_v121, val_main_v120, val_main_v119, val_main_v118, val_main_v117, val_main_v116, val_main_v115, val_main_v114, val_main_cst_13, val_main_v80, lg_ref, word15]
  rw [e, float_nat _ (by omega), kd_at]

/-- The decay over a whole chunk. -/
theorem g16_ref (h : Fin 4) : val_main_v127 (F := Ideal) (ix1 h) = g16 (lg h.val) := by
  have e : val_main_v127 (F := Ideal) (ix1 h) = Ideal.exp (((16 : ℝ) : EReal) * (lg h.val : EReal)) := by
    pointwise [val_main_v127, val_main_v126, val_main_v125, val_main_cst_14, lg_ref, word16]
  rw [e, g16_at]

/-- The retention product. -/
theorem y_ref (X : FVec Ideal S32x16x6144 .bf16) (St : FVec Ideal S2x32x4x256x512 .f32) (b : Fin 32) (h : Fin 4) (r : Fin 16) (l : Fin 512) :
    val_main_v133 (F := Ideal) X St (ix4 b h r l)
      = retY (lg h.val) (fun d => val_main_v37 (F := Ideal) X (ix4 b r h d)) (fun (j : Fin 16) d => val_main_v67 (F := Ideal) X (ix4 b j h d))
          (fun j => val_main_v68 (F := Ideal) X (ix4 b j h l)) (fun d => St (ix5 1 b h d l)) r.val := by
  pointwise [val_main_v133, val_main_v113, val_main_v112, val_main_v111, val_main_v110, qd_ref, val_main_v101, val_main_v100, val_main_v99, val_main_v98, msk_ref, val_main_v97, val_main_v71, val_main_v70, val_main_v69, val_main_v1, val_main_v0, retY]

/-- The new state. -/
theorem s_ref (X : FVec Ideal S32x16x6144 .bf16) (St : FVec Ideal S2x32x4x256x512 .f32) (b : Fin 32) (h : Fin 4) (d : Fin 256) (l : Fin 512) :
    val_main_v132 (F := Ideal) X St (ix4 b h d l)
      = srow (fun j c => X (ix3 b j c)) (fun j d => val_main_v21 (F := Ideal) (ix2 j d)) (fun j d => val_main_v23 (F := Ideal) (ix2 j d)) (fun h d l => St (ix5 1 b h d l)) h d l := by
  have e : val_main_v132 (F := Ideal) X St (ix4 b h d l)
      = St (ix5 1 b h d l) * g16 (lg h.val) + ∑ j : Fin 16, (val_main_v67 (F := Ideal) X (ix4 b j h d) * kd (lg h.val) j.val) * val_main_v68 (F := Ideal) X (ix4 b j h l) := by
    pointwise [val_main_v132, val_main_v131, val_main_v130, val_main_v129, val_main_v128, g16_ref, val_main_v124, val_main_v123, val_main_v122, kd_ref, val_main_v71, val_main_v70, val_main_v1, val_main_v0]
  rw [e]
  unfold srow retS
  simp only [k_ref, v_ref, Fin.is_lt, if_true]

/-- The gated output, before its batch is flattened. -/
theorem o_ref (X : FVec Ideal S32x16x6144 .bf16) (St : FVec Ideal S2x32x4x256x512 .f32) (b : Fin 32) (r : Fin 16) (C : Fin 2048) :
    val_main_v147 (F := Ideal) X St (ix3 b r C)
      = yrow (fun j c => X (ix3 b j c)) (fun j d => val_main_v21 (F := Ideal) (ix2 j d)) (fun j d => val_main_v23 (F := Ideal) (ix2 j d)) (fun h d l => St (ix5 1 b h d l))
          ⟨C.val / 512, by omega⟩ r ⟨C.val % 512, by omega⟩ := by
  have e : val_main_v147 (F := Ideal) X St (ix3 b r C)
      = gated (fun l => X (ix3 b r ⟨4096 + C.val / 512 * 512 + l.val, by omega⟩)) (fun l => val_main_v133 (F := Ideal) X St (ix4 b ⟨C.val / 512, by omega⟩ r l)) ⟨C.val % 512, by omega⟩ := by
    have c : (⟨4096 + C.val / 512 * 512 + C.val % 512, by omega⟩ : Fin 6144) = ⟨4096 + C.val, by omega⟩ := Fin.ext (by show 4096 + C.val / 512 * 512 + C.val % 512 = 4096 + C.val; omega)
    unfold gated
    beta_reduce
    rw [c]
    pointwise [val_main_v147, val_main_v146, val_main_v145, val_main_v144, val_main_v143, val_main_v142, val_main_v141, val_main_v140, val_main_cst_17, val_main_v139, val_main_v138, val_main_cst_16, val_main_v137, val_main_v136, val_main_cst_15, val_main_v135, val_main_v134, val_main_call3_v5, val_main_call3_v4, val_main_call3_cst_0, val_main_call3_v3, val_main_call3_v2, val_main_call3_cst, val_main_call3_v1, val_main_call3_v0, val_main_v9, val_main_v5]
    rfl
  rw [e]
  unfold yrow
  congr 1
  funext l
  rw [y_ref]
  simp only [q_ref, k_ref, v_ref]

end Cert.RetRefIdeal.RefTerm

namespace Cert.RetIdeal.RefValue
open Cert.RetIdeal Cert.RetIdeal.Gen

/-- The named logarithm of head 0's decay. -/
theorem nl0 : Named.named (F := Ideal) (φ := .f32) κ "log_g0" 0xBD020AEC#32 = (lg 0 : EReal) := by
  show ((Real.log (31/32) : ℝ) : EReal) = _
  unfold lg; norm_num

/-- The named decay of head 0 over a chunk. -/
theorem ng0 : Named.named (F := Ideal) (φ := .f32) κ "g16_0" 0x3F1A09B0#32 = g16 (lg 0) := by
  rw [g16_lg]
  show ((_ : ℝ) : EReal) = _
  congr 1; norm_num

/-- The named logarithm of head 1's decay. -/
theorem nl1 : Named.named (F := Ideal) (φ := .f32) κ "log_g1" 0xBC8102B3#32 = (lg 1 : EReal) := by
  show ((Real.log (63/64) : ℝ) : EReal) = _
  unfold lg; norm_num

/-- The named decay of head 1 over a chunk. -/
theorem ng1 : Named.named (F := Ideal) (φ := .f32) κ "g16_1" 0x3F46FADA#32 = g16 (lg 1) := by
  rw [g16_lg]
  show ((_ : ℝ) : EReal) = _
  congr 1; norm_num

/-- The named logarithm of head 2's decay. -/
theorem nl2 : Named.named (F := Ideal) (φ := .f32) κ "log_g2" 0xBC0080AC#32 = (lg 2 : EReal) := by
  show ((Real.log (127/128) : ℝ) : EReal) = _
  unfold lg; norm_num

/-- The named decay of head 2 over a chunk. -/
theorem ng2 : Named.named (F := Ideal) (φ := .f32) κ "g16_2" 0x3F61CEF0#32 = g16 (lg 2) := by
  rw [g16_lg]
  show ((_ : ℝ) : EReal) = _
  congr 1; norm_num

/-- The named logarithm of head 3's decay. -/
theorem nl3 : Named.named (F := Ideal) (φ := .f32) κ "log_g3" 0xBB80402B#32 = (lg 3 : EReal) := by
  show ((Real.log (255/256) : ℝ) : EReal) = _
  unfold lg; norm_num

/-- The named decay of head 3 over a chunk. -/
theorem ng3 : Named.named (F := Ideal) (φ := .f32) κ "g16_3" 0x3F7075D7#32 = g16 (lg 3) := by
  rw [g16_lg]
  show ((_ : ℝ) : EReal) = _
  congr 1; norm_num

/-- The retention product of head 0, read at an index. -/
theorem y0_at (C Sn : FVec Ideal S128x128 .f32) (Q K : FVec Ideal S128x256 .bf16) (V : FVec Ideal S128x512 .bf16) (S : FVec Ideal S1x1x1x256x512 .f32) (r : Fin 128) (l : Fin 512) :
    (k0_pay13 (F := Ideal) k0_pay4 k0_pay5 (k0_pay8 C Sn Q) (k0_pay9 C Sn K) (k0_pay10 V) S) (ix2 r l) = retY (lg 0) (rope (fun d => Q (ix2 r d)) (fun d => C (ix2 r d)) (fun d => Sn (ix2 r d))) (fun j => key (fun d => K (ix2 j d)) (fun d => C (ix2 j d)) (fun d => Sn (ix2 j d))) (fun j => V (ix2 j l)) (fun d => S (ix5 0 0 0 d l)) r.val := by
  pointwise [k0_pay13, k0_pay4, k0_pay5, k0_pay8, k0_pay9, k0_pay10, k0_pay12, k0_pay6, k0_pay7, float_sub, float_nat, nl0, msk_at, qd_at, retY, key, rope]

/-- The stored output of head 0, read at an index. -/
theorem o0_at (C Sn : FVec Ideal S128x128 .f32) (Q K : FVec Ideal S128x256 .bf16) (V G : FVec Ideal S128x512 .bf16) (S : FVec Ideal S1x1x1x256x512 .f32) (r : Fin 128) (l : Fin 512) :
    k0_pay18 (F := Ideal) (k0_pay11 G) (k0_pay13 (F := Ideal) k0_pay4 k0_pay5 (k0_pay8 C Sn Q) (k0_pay9 C Sn K) (k0_pay10 V) S) (ix2 r l)
      = gated (fun l => G (ix2 r l)) (fun l => retY (lg 0) (rope (fun d => Q (ix2 r d)) (fun d => C (ix2 r d)) (fun d => Sn (ix2 r d)))
          (fun j => key (fun d => K (ix2 j d)) (fun d => C (ix2 j d)) (fun d => Sn (ix2 j d))) (fun j => V (ix2 j l)) (fun d => S (ix5 0 0 0 d l)) r.val) l := by
  rw [show (fun l => retY (lg 0) (rope (fun d => Q (ix2 r d)) (fun d => C (ix2 r d)) (fun d => Sn (ix2 r d))) (fun j => key (fun d => K (ix2 j d)) (fun d => C (ix2 j d)) (fun d => Sn (ix2 j d))) (fun j => V (ix2 j l)) (fun d => S (ix5 0 0 0 d l)) r.val) = fun l => (k0_pay13 (F := Ideal) k0_pay4 k0_pay5 (k0_pay8 C Sn Q) (k0_pay9 C Sn K) (k0_pay10 V) S) (ix2 r l) from funext fun l => (y0_at C Sn Q K V S r l).symm]
  pointwise [k0_pay18, k0_pay11, gated]

/-- The stored state of head 0, read at an index. -/
theorem s0_at (C Sn : FVec Ideal S128x128 .f32) (K : FVec Ideal S128x256 .bf16) (V : FVec Ideal S128x512 .bf16) (S : FVec Ideal S1x1x1x256x512 .f32) (d : Fin 256) (l : Fin 512) :
    k0_pay17 (F := Ideal) (k0_pay10 V) (k0_pay12 S) (k0_pay14 k0_pay5 (k0_pay9 C Sn K)) (k0_pay15 (F := Ideal) k0_pay5) k0_pay16 (ix5 0 0 0 d l)
      = retS (lg 0) (fun j => key (fun d => K (ix2 j d)) (fun d => C (ix2 j d)) (fun d => Sn (ix2 j d)) d) (fun j => V (ix2 j l)) (S (ix5 0 0 0 d l)) := by
  pointwise [k0_pay17, k0_pay10, k0_pay12, k0_pay14, k0_pay5, k0_pay9, k0_pay15, k0_pay16, k0_pay6, k0_pay7, float_nat, word15, word16, nl0, ng0, kd_at, lt16, retS, key, rope]

/-- The retention product of head 1, read at an index. -/
theorem y1_at (C Sn : FVec Ideal S128x128 .f32) (Q K : FVec Ideal S128x256 .bf16) (V : FVec Ideal S128x512 .bf16) (S : FVec Ideal S1x1x1x256x512 .f32) (r : Fin 128) (l : Fin 512) :
    (addf (k0_pay27 (F := Ideal) k0_pay4 (k0_pay6 C) (k0_pay7 Sn) (k0_pay19 (k0_pay6 C) (k0_pay7 Sn) Q) (k0_pay21 K) (k0_pay22 K) V) (k0_pay28 (F := Ideal) k0_pay5 (k0_pay19 (k0_pay6 C) (k0_pay7 Sn) Q) S)) (ix2 r l) = retY (lg 1) (rope (fun d => Q (ix2 r d)) (fun d => C (ix2 r d)) (fun d => Sn (ix2 r d))) (fun j => key (fun d => K (ix2 j d)) (fun d => C (ix2 j d)) (fun d => Sn (ix2 j d))) (fun j => V (ix2 j l)) (fun d => S (ix5 0 0 0 d l)) r.val := by
  pointwise [k0_pay27, k0_pay4, k0_pay6, k0_pay7, k0_pay19, k0_pay21, k0_pay22, k0_pay28, k0_pay5, k0_pay20, k0_pay23, k0_pay24, k0_pay26, float_sub, float_nat, nl1, msk_at, qd_at, retY, key, rope]

/-- The stored output of head 1, read at an index. -/
theorem o1_at (C Sn : FVec Ideal S128x128 .f32) (Q K : FVec Ideal S128x256 .bf16) (V G : FVec Ideal S128x512 .bf16) (S : FVec Ideal S1x1x1x256x512 .f32) (r : Fin 128) (l : Fin 512) :
    k0_pay30 (F := Ideal) (k0_pay25 G) (k0_pay27 (F := Ideal) k0_pay4 (k0_pay6 C) (k0_pay7 Sn) (k0_pay19 (k0_pay6 C) (k0_pay7 Sn) Q) (k0_pay21 K) (k0_pay22 K) V) (k0_pay28 (F := Ideal) k0_pay5 (k0_pay19 (k0_pay6 C) (k0_pay7 Sn) Q) S) (ix2 r l)
      = gated (fun l => G (ix2 r l)) (fun l => retY (lg 1) (rope (fun d => Q (ix2 r d)) (fun d => C (ix2 r d)) (fun d => Sn (ix2 r d)))
          (fun j => key (fun d => K (ix2 j d)) (fun d => C (ix2 j d)) (fun d => Sn (ix2 j d))) (fun j => V (ix2 j l)) (fun d => S (ix5 0 0 0 d l)) r.val) l := by
  rw [show (fun l => retY (lg 1) (rope (fun d => Q (ix2 r d)) (fun d => C (ix2 r d)) (fun d => Sn (ix2 r d))) (fun j => key (fun d => K (ix2 j d)) (fun d => C (ix2 j d)) (fun d => Sn (ix2 j d))) (fun j => V (ix2 j l)) (fun d => S (ix5 0 0 0 d l)) r.val) = fun l => (addf (k0_pay27 (F := Ideal) k0_pay4 (k0_pay6 C) (k0_pay7 Sn) (k0_pay19 (k0_pay6 C) (k0_pay7 Sn) Q) (k0_pay21 K) (k0_pay22 K) V) (k0_pay28 (F := Ideal) k0_pay5 (k0_pay19 (k0_pay6 C) (k0_pay7 Sn) Q) S)) (ix2 r l) from funext fun l => (y1_at C Sn Q K V S r l).symm]
  pointwise [k0_pay30, k0_pay25, gated]

/-- The stored state of head 1, read at an index. -/
theorem s1_at (C Sn : FVec Ideal S128x128 .f32) (K : FVec Ideal S128x256 .bf16) (V : FVec Ideal S128x512 .bf16) (S : FVec Ideal S1x1x1x256x512 .f32) (d : Fin 256) (l : Fin 512) :
    k0_pay29 (F := Ideal) k0_pay5 (k0_pay23 (k0_pay6 C) (k0_pay7 Sn) (k0_pay21 K) (k0_pay22 K)) (k0_pay24 V) (k0_pay26 S) (ix5 0 0 0 d l)
      = retS (lg 1) (fun j => key (fun d => K (ix2 j d)) (fun d => C (ix2 j d)) (fun d => Sn (ix2 j d)) d) (fun j => V (ix2 j l)) (S (ix5 0 0 0 d l)) := by
  pointwise [k0_pay29, k0_pay5, k0_pay23, k0_pay6, k0_pay7, k0_pay21, k0_pay22, k0_pay24, k0_pay26, k0_pay20, float_nat, word15, word16, nl1, ng1, kd_at, lt16, retS, key, rope]

/-- The retention product of head 2, read at an index. -/
theorem y2_at (C Sn : FVec Ideal S128x128 .f32) (Q K : FVec Ideal S128x256 .bf16) (V : FVec Ideal S128x512 .bf16) (S : FVec Ideal S1x1x1x256x512 .f32) (r : Fin 128) (l : Fin 512) :
    (k0_pay38 (F := Ideal) k0_pay5 (k0_pay32 (k0_pay6 C) (k0_pay7 Sn) (k0_pay31 Q)) (k0_pay34 V) (k0_pay36 k0_pay4 (k0_pay6 C) (k0_pay7 Sn) (k0_pay31 Q) K) S) (ix2 r l) = retY (lg 2) (rope (fun d => Q (ix2 r d)) (fun d => C (ix2 r d)) (fun d => Sn (ix2 r d))) (fun j => key (fun d => K (ix2 j d)) (fun d => C (ix2 j d)) (fun d => Sn (ix2 j d))) (fun j => V (ix2 j l)) (fun d => S (ix5 0 0 0 d l)) r.val := by
  pointwise [k0_pay38, k0_pay5, k0_pay32, k0_pay6, k0_pay7, k0_pay31, k0_pay34, k0_pay36, k0_pay4, k0_pay33, k0_pay37, float_sub, float_nat, nl2, msk_at, qd_at, retY, key, rope]

/-- The stored output of head 2, read at an index. -/
theorem o2_at (C Sn : FVec Ideal S128x128 .f32) (Q K : FVec Ideal S128x256 .bf16) (V G : FVec Ideal S128x512 .bf16) (S : FVec Ideal S1x1x1x256x512 .f32) (r : Fin 128) (l : Fin 512) :
    k0_pay41 (F := Ideal) (k0_pay35 G) (k0_pay38 (F := Ideal) k0_pay5 (k0_pay32 (k0_pay6 C) (k0_pay7 Sn) (k0_pay31 Q)) (k0_pay34 V) (k0_pay36 k0_pay4 (k0_pay6 C) (k0_pay7 Sn) (k0_pay31 Q) K) S) (k0_pay40 (F := Ideal) k0_pay5 (k0_pay32 (k0_pay6 C) (k0_pay7 Sn) (k0_pay31 Q)) (k0_pay34 V) (k0_pay36 k0_pay4 (k0_pay6 C) (k0_pay7 Sn) (k0_pay31 Q) K) S) (FloatOps.ofBits (F := Ideal) .f32 897988541#32) (ix2 r l)
      = gated (fun l => G (ix2 r l)) (fun l => retY (lg 2) (rope (fun d => Q (ix2 r d)) (fun d => C (ix2 r d)) (fun d => Sn (ix2 r d)))
          (fun j => key (fun d => K (ix2 j d)) (fun d => C (ix2 j d)) (fun d => Sn (ix2 j d))) (fun j => V (ix2 j l)) (fun d => S (ix5 0 0 0 d l)) r.val) l := by
  rw [show (fun l => retY (lg 2) (rope (fun d => Q (ix2 r d)) (fun d => C (ix2 r d)) (fun d => Sn (ix2 r d))) (fun j => key (fun d => K (ix2 j d)) (fun d => C (ix2 j d)) (fun d => Sn (ix2 j d))) (fun j => V (ix2 j l)) (fun d => S (ix5 0 0 0 d l)) r.val) = fun l => (k0_pay38 (F := Ideal) k0_pay5 (k0_pay32 (k0_pay6 C) (k0_pay7 Sn) (k0_pay31 Q)) (k0_pay34 V) (k0_pay36 k0_pay4 (k0_pay6 C) (k0_pay7 Sn) (k0_pay31 Q) K) S) (ix2 r l) from funext fun l => (y2_at C Sn Q K V S r l).symm]
  pointwise [k0_pay41, k0_pay40, k0_pay35, gated]

/-- The stored state of head 2, read at an index. -/
theorem s2_at (C Sn : FVec Ideal S128x128 .f32) (K : FVec Ideal S128x256 .bf16) (V : FVec Ideal S128x512 .bf16) (S : FVec Ideal S1x1x1x256x512 .f32) (d : Fin 256) (l : Fin 512) :
    k0_pay39 (F := Ideal) k0_pay5 (k0_pay33 (k0_pay6 C) (k0_pay7 Sn) K) (k0_pay34 V) S (ix5 0 0 0 d l)
      = retS (lg 2) (fun j => key (fun d => K (ix2 j d)) (fun d => C (ix2 j d)) (fun d => Sn (ix2 j d)) d) (fun j => V (ix2 j l)) (S (ix5 0 0 0 d l)) := by
  pointwise [k0_pay39, k0_pay5, k0_pay33, k0_pay6, k0_pay7, k0_pay34, k0_pay37, float_nat, word15, word16, nl2, ng2, kd_at, lt16, retS, key, rope]

/-- The retention product of head 3, read at an index. -/
theorem y3_at (C Sn : FVec Ideal S128x128 .f32) (Q K : FVec Ideal S128x256 .bf16) (V : FVec Ideal S128x512 .bf16) (S : FVec Ideal S1x1x1x256x512 .f32) (r : Fin 128) (l : Fin 512) :
    (k0_pay49 (F := Ideal) k0_pay5 (k0_pay42 (k0_pay6 C) (k0_pay7 Sn) Q) (k0_pay43 (k0_pay6 C) (k0_pay7 Sn) K) (k0_pay44 V) (k0_pay46 (F := Ideal) k0_pay4) (k0_pay47 k0_pay4) (Named.named (F := Ideal) (φ := .f32) κ "log_g3" 0xBB80402B#32) S) (ix2 r l) = retY (lg 3) (rope (fun d => Q (ix2 r d)) (fun d => C (ix2 r d)) (fun d => Sn (ix2 r d))) (fun j => key (fun d => K (ix2 j d)) (fun d => C (ix2 j d)) (fun d => Sn (ix2 j d))) (fun j => V (ix2 j l)) (fun d => S (ix5 0 0 0 d l)) r.val := by
  pointwise [k0_pay49, k0_pay5, k0_pay42, k0_pay6, k0_pay7, k0_pay43, k0_pay44, k0_pay46, k0_pay4, k0_pay47, k0_pay48, float_sub, float_nat, nl3, msk_at, qd_at, retY, key, rope]

/-- The stored output of head 3, read at an index. -/
theorem o3_at (C Sn : FVec Ideal S128x128 .f32) (Q K : FVec Ideal S128x256 .bf16) (V G : FVec Ideal S128x512 .bf16) (S : FVec Ideal S1x1x1x256x512 .f32) (r : Fin 128) (l : Fin 512) :
    k0_pay2 (F := Ideal) (k0_pay45 G) (k0_pay49 (F := Ideal) k0_pay5 (k0_pay42 (k0_pay6 C) (k0_pay7 Sn) Q) (k0_pay43 (k0_pay6 C) (k0_pay7 Sn) K) (k0_pay44 V) (k0_pay46 (F := Ideal) k0_pay4) (k0_pay47 k0_pay4) (Named.named (F := Ideal) (φ := .f32) κ "log_g3" 0xBB80402B#32) S) (ix2 r l)
      = gated (fun l => G (ix2 r l)) (fun l => retY (lg 3) (rope (fun d => Q (ix2 r d)) (fun d => C (ix2 r d)) (fun d => Sn (ix2 r d)))
          (fun j => key (fun d => K (ix2 j d)) (fun d => C (ix2 j d)) (fun d => Sn (ix2 j d))) (fun j => V (ix2 j l)) (fun d => S (ix5 0 0 0 d l)) r.val) l := by
  rw [show (fun l => retY (lg 3) (rope (fun d => Q (ix2 r d)) (fun d => C (ix2 r d)) (fun d => Sn (ix2 r d))) (fun j => key (fun d => K (ix2 j d)) (fun d => C (ix2 j d)) (fun d => Sn (ix2 j d))) (fun j => V (ix2 j l)) (fun d => S (ix5 0 0 0 d l)) r.val) = fun l => (k0_pay49 (F := Ideal) k0_pay5 (k0_pay42 (k0_pay6 C) (k0_pay7 Sn) Q) (k0_pay43 (k0_pay6 C) (k0_pay7 Sn) K) (k0_pay44 V) (k0_pay46 (F := Ideal) k0_pay4) (k0_pay47 k0_pay4) (Named.named (F := Ideal) (φ := .f32) κ "log_g3" 0xBB80402B#32) S) (ix2 r l) from funext fun l => (y3_at C Sn Q K V S r l).symm]
  pointwise [k0_pay2, k0_pay45, gated]

/-- The stored state of head 3, read at an index. -/
theorem s3_at (C Sn : FVec Ideal S128x128 .f32) (K : FVec Ideal S128x256 .bf16) (V : FVec Ideal S128x512 .bf16) (S : FVec Ideal S1x1x1x256x512 .f32) (d : Fin 256) (l : Fin 512) :
    k0_pay1 (F := Ideal) (k0_pay50 (F := Ideal) k0_pay5 (k0_pay43 (k0_pay6 C) (k0_pay7 Sn) K) (k0_pay44 V) S) (ix5 0 0 0 d l)
      = retS (lg 3) (fun j => key (fun d => K (ix2 j d)) (fun d => C (ix2 j d)) (fun d => Sn (ix2 j d)) d) (fun j => V (ix2 j l)) (S (ix5 0 0 0 d l)) := by
  pointwise [k0_pay1, k0_pay50, k0_pay5, k0_pay43, k0_pay6, k0_pay7, k0_pay44, k0_pay48, float_nat, word15, word16, nl3, ng3, kd_at, lt16, retS, key, rope]

variable (m : (ℓ : Loc nD τ sig) → Buf (Elt Ideal) ℓ)

/-- Grid point `t` stages batch element `t`'s padded rows and its carried state, and the whole tables of cosines and sines. -/
theorem idx : ∀ t : Fin cfg0.N, win0_0.index t = ![t.val, 0] ∧ win0_1.index t = ![0, 0] ∧ win0_2.index t = ![0, 0] ∧ win0_3.index t = ![1, t.val, 0, 0, 0]
    ∧ win0_4.index t = ![t.val, 0] ∧ win0_5.index t = ![1, t.val, 0, 0, 0] ∧ t.val < 32 :=
  (by decide +kernel : ∀ t : Fin grid0.N, _)

/-- The padded projections the host prepares. -/
def ZP (c : Dev nD) : FVec Ideal S4096x6144 .bf16 := V m c main_v16

/-- The table of cosines the host prepares. -/
def CT (c : Dev nD) : FVec Ideal S128x128 .f32 := V m c main_v17

/-- The table of sines the host prepares. -/
def ST (c : Dev nD) : FVec Ideal S128x128 .f32 := V m c main_v18

/-- The carried state. -/
def SA (c : Dev nD) : FVec Ideal S2x32x4x256x512 .f32 := m ((c : Thread nD τ).loc main_arg1)

/-- The array the new state is written into. -/
def PA (c : Dev nD) : FVec Ideal S2x32x4x256x512 .f32 := m ((c : Thread nD τ).loc main_arg2)

/-- A row of a head's output for batch element `b`, over the padded rows. -/
def krow (c : Dev nD) (b : Fin 32) (h : Fin 4) (r : Fin 128) (l : Fin 512) : EReal :=
  yrow (fun (j : Fin 128) k => ZP m c (ix2 ⟨b.val * 128 + j.val, by omega⟩ k)) (fun j d => CT m c (ix2 j d)) (fun j d => ST m c (ix2 j d))
    (fun h d l => SA m c (ix5 1 b h d l)) h r l

/-- A head's new state for batch element `b`, over the padded rows. -/
def kstate (c : Dev nD) (b : Fin 32) (h : Fin 4) (d : Fin 256) (l : Fin 512) : EReal :=
  srow (fun (j : Fin 128) k => ZP m c (ix2 ⟨b.val * 128 + j.val, by omega⟩ k)) (fun j d => CT m c (ix2 j d)) (fun j d => ST m c (ix2 j d))
    (fun h d l => SA m c (ix5 1 b h d l)) h d l

/-- The padded output array. -/
def W4 (c : Dev nD) : S4096x2048.Idx → EReal := fun i =>
  krow m c ⟨(i 0).val / 128, by have : (i 0).val < 4096 := (i 0).isLt; omega⟩ ⟨(i 1).val / 512, by have : (i 1).val < 2048 := (i 1).isLt; omega⟩
    ⟨(i 0).val % 128, by omega⟩ ⟨(i 1).val % 512, by omega⟩

/-- The new state array's second layer. -/
def W5 (c : Dev nD) : S2x32x4x256x512.Idx → EReal := fun i => kstate m c (i 1) (i 2) (i 3) (i 4)

/-- The projection block holds the batch element's padded rows. -/
theorem blk0 (c : Dev nD) (t : Fin cfg0.N) (r : Fin 128) (k : Fin 6144) (R : Fin 4096) (hR : R.val = t.val * 128 + r.val) :
    (show FVec Ideal S128x6144 .bf16 from iblk m c 0 t) (ix2 r k) = ZP m c (ix2 R k) := by
  unfold ZP
  blk_ext [iblk, idx t]

/-- The cosine block is the whole table. -/
theorem blk1 (c : Dev nD) (t : Fin cfg0.N) (r : Fin 128) (k : Fin 128) : (show FVec Ideal S128x128 .f32 from iblk m c 1 t) (ix2 r k) = CT m c (ix2 r k) := by
  unfold CT
  blk_ext [iblk, idx t]

/-- The sine block is the whole table. -/
theorem blk2 (c : Dev nD) (t : Fin cfg0.N) (r : Fin 128) (k : Fin 128) : (show FVec Ideal S128x128 .f32 from iblk m c 2 t) (ix2 r k) = ST m c (ix2 r k) := by
  unfold ST
  blk_ext [iblk, idx t]

/-- The host leaves the carried state as it was. -/
theorem entry_state (c : Dev nD) : V m c main_arg1 = SA m c := V_main_arg1 m c

/-- The state array starts as the previous one. -/
theorem entry_prev (c : Dev nD) : V m c main_v19_1 = PA m c := by
  unfold PA
  simp only [V, V0, hostOps0, hostOps0_1, hostOps0_2, hostOps0_3, hostOps0_4, List.flatten_cons, List.flatten_nil, List.append_nil, List.cons_append, List.nil_append, StableHlo.after_cons, StableHlo.after_nil]
  after_results_simp
  after_results_loop
  try rfl

/-- The padded projections, computed out: every batch element's sixteen rows followed by rows of zeros. -/
theorem table_rows (c : Dev nD) : ZP m c = shapeCast S4096x6144 (pad S32x128x6144 ![0, 0, 0] ![0, 112, 0] ![0, 0, 0]
    (shapeCast S32x16x6144 (shapeCast S512x6144 (show FVec Ideal S32x16x6144 .bf16 from m ((c : Thread nD τ).loc main_arg0)) shapeCasts_S32x16x6144_S512x6144) shapeCasts_S512x6144_S32x16x6144)
    (sitofp (F := Ideal) .bf16 (constantI S_ 32 0#32)) pads_S32x16x6144_S32x128x6144_000_01120_000 h_S_) shapeCasts_S32x128x6144_S4096x6144 := by
  unfold ZP
  simp only [V, V0, hostOps0, hostOps0_1, hostOps0_2, hostOps0_3, hostOps0_4, List.flatten_cons, List.flatten_nil, List.append_nil, List.cons_append, List.nil_append, StableHlo.after_cons, StableHlo.after_nil]
  after_results_simp
  after_results_loop
  rfl

/-- The padded projections hold the batch element's rows. -/
theorem entry_rows (c : Dev nD) (b : Fin 32) (r : Fin 16) (k : Fin 6144) :
    ZP m c (ix2 ⟨b.val * 128 + r.val, by omega⟩ k) = (show FVec Ideal S32x16x6144 .bf16 from m ((c : Thread nD τ).loc main_arg0)) (ix3 b r k) := by
  have h : r.val < 16 := r.isLt
  rw [table_rows]
  have e : (⟨(b.val * 128 + r.val) % 128, by omega⟩ : Fin 16) = r := Fin.ext (by show (b.val * 128 + r.val) % 128 = r.val; omega)
  pointwise
  rw [dif_pos (by omega), e]

/-- The angles the host tabulates: a position counted from the start of the sequence, times each of the frequencies. -/
def angles : FVec Ideal S128x128 .f32 :=
  mulf (broadcastInDim S128x128 ![0, 1] bcast_S128x1_S128x128_0_1 (broadcastInDim S128x1 ![0] bcast_S128_S128x1_0 (sitofp .f32 (addi (broadcastInDim S128 ![] bcast_S_S128 (constantI S_ 32 4096#32)) (iotaInDim S128 32 0)))))
    (broadcastInDim S128x128 ![0, 1] bcast_S1x128_S128x128_0_1 (broadcastInDim S1x128 ![1] bcast_S128_S1x128_1 (Cert.RetRefIdeal.Read.val_main_v14 (F := Ideal))))

/-- The table of cosines, computed out. -/
theorem table_cos (c : Dev nD) : CT m c = Host.cos (angles) := by
  unfold CT
  simp only [V, V0, hostOps0, hostOps0_1, hostOps0_2, hostOps0_3, hostOps0_4, List.flatten_cons, List.flatten_nil, List.append_nil, List.cons_append, List.nil_append, StableHlo.after_cons, StableHlo.after_nil]
  after_results_simp
  after_results_loop
  rfl

/-- The first rows of the table of cosines are the reference's. -/
theorem entry_cos (c : Dev nD) (r : Fin 16) (d : Fin 128) :
    CT m c (ix2 ⟨r.val, by omega⟩ d) = Cert.RetRefIdeal.Read.val_main_v21 (F := Ideal) (ix2 r d) := by
  rw [table_cos]
  pointwise [angles, Cert.RetRefIdeal.Read.val_main_v21, Cert.RetRefIdeal.Read.val_main_v20, Cert.RetRefIdeal.Read.val_main_v19, Cert.RetRefIdeal.Read.val_main_v18, Cert.RetRefIdeal.Read.val_main_v17, Cert.RetRefIdeal.Read.val_main_v16, Cert.RetRefIdeal.Read.val_main_v15, Cert.RetRefIdeal.Read.val_main_v4, Cert.RetRefIdeal.Read.val_main_v3, Cert.RetRefIdeal.Read.val_main_v2, Cert.RetRefIdeal.Read.val_main_c]

/-- The table of sines, computed out. -/
theorem table_sin (c : Dev nD) : ST m c = Host.sin (angles) := by
  unfold ST
  simp only [V, V0, hostOps0, hostOps0_1, hostOps0_2, hostOps0_3, hostOps0_4, List.flatten_cons, List.flatten_nil, List.append_nil, List.cons_append, List.nil_append, StableHlo.after_cons, StableHlo.after_nil]
  after_results_simp
  after_results_loop
  rfl

/-- The first rows of the table of sines are the reference's. -/
theorem entry_sin (c : Dev nD) (r : Fin 16) (d : Fin 128) :
    ST m c (ix2 ⟨r.val, by omega⟩ d) = Cert.RetRefIdeal.Read.val_main_v23 (F := Ideal) (ix2 r d) := by
  rw [table_sin]
  pointwise [angles, Cert.RetRefIdeal.Read.val_main_v23, Cert.RetRefIdeal.Read.val_main_v20, Cert.RetRefIdeal.Read.val_main_v19, Cert.RetRefIdeal.Read.val_main_v18, Cert.RetRefIdeal.Read.val_main_v17, Cert.RetRefIdeal.Read.val_main_v16, Cert.RetRefIdeal.Read.val_main_v15, Cert.RetRefIdeal.Read.val_main_v4, Cert.RetRefIdeal.Read.val_main_v3, Cert.RetRefIdeal.Read.val_main_v2, Cert.RetRefIdeal.Read.val_main_c]

/-- The state block holds the batch element's carried state. -/
theorem blk3 (c : Dev nD) (t : Fin cfg0.N) (h : Fin 4) (d : Fin 256) (l : Fin 512) (b : Fin 32) (hb : b.val = t.val) :
    (show FVec Ideal S1x1x4x256x512 .f32 from iblk m c 3 t) (ix5 0 0 h d l) = SA m c (ix5 1 b h d l) := by
  have e : (show FVec Ideal S1x1x4x256x512 .f32 from iblk m c 3 t) (ix5 0 0 h d l) = (show FVec Ideal S2x32x4x256x512 .f32 from V m c main_arg1) (ix5 1 b h d l) := by
    blk_ext [iblk, idx t]
  rw [e]
  exact congrFun (entry_state m c) _

/-- An output row over the blocks of a grid point is the row of its batch element. -/
theorem krow_of (c : Dev nD) (t : Fin cfg0.N) (x0 : FVec Ideal S128x6144 .bf16) (x1 x2 : FVec Ideal S128x128 .f32) (x3 : FVec Ideal S1x1x4x256x512 .f32)
    (h0 : x0 = iblk m c 0 t) (h1 : x1 = iblk m c 1 t) (h2 : x2 = iblk m c 2 t) (h3 : x3 = iblk m c 3 t) (h : Fin 4) (r : Fin 128) (l : Fin 512) :
    yrow (fun j k => x0 (ix2 j k)) (fun j d => x1 (ix2 j d)) (fun j d => x2 (ix2 j d)) (fun h d l => x3 (ix5 0 0 h d l)) h r l
      = krow m c ⟨t.val, (idx t).2.2.2.2.2.2⟩ h r l := by
  subst h0 h1 h2 h3
  have e0 := funext fun j => funext fun k => blk0 m c t j k ⟨t.val * 128 + j.val, by have := (idx t).2.2.2.2.2.2; omega⟩ rfl
  have e1 := funext fun j => funext fun k => blk1 m c t j k
  have e2 := funext fun j => funext fun k => blk2 m c t j k
  have e3 := funext fun h => funext fun d => funext fun l => blk3 m c t h d l ⟨t.val, (idx t).2.2.2.2.2.2⟩ rfl
  exact congrFun (congrFun (congrFun (congr (congr (congr (congrArg yrow e0) e1) e2) e3) h) r) l

/-- A new state over the blocks of a grid point is that of its batch element. -/
theorem kstate_of (c : Dev nD) (t : Fin cfg0.N) (x0 : FVec Ideal S128x6144 .bf16) (x1 x2 : FVec Ideal S128x128 .f32) (x3 : FVec Ideal S1x1x4x256x512 .f32)
    (h0 : x0 = iblk m c 0 t) (h1 : x1 = iblk m c 1 t) (h2 : x2 = iblk m c 2 t) (h3 : x3 = iblk m c 3 t) (h : Fin 4) (d : Fin 256) (l : Fin 512) :
    srow (fun j k => x0 (ix2 j k)) (fun j d => x1 (ix2 j d)) (fun j d => x2 (ix2 j d)) (fun h d l => x3 (ix5 0 0 h d l)) h d l
      = kstate m c ⟨t.val, (idx t).2.2.2.2.2.2⟩ h d l := by
  subst h0 h1 h2 h3
  have e0 := funext fun j => funext fun k => blk0 m c t j k ⟨t.val * 128 + j.val, by have := (idx t).2.2.2.2.2.2; omega⟩ rfl
  have e1 := funext fun j => funext fun k => blk1 m c t j k
  have e2 := funext fun j => funext fun k => blk2 m c t j k
  have e3 := funext fun h => funext fun d => funext fun l => blk3 m c t h d l ⟨t.val, (idx t).2.2.2.2.2.2⟩ rfl
  exact congrFun (congrFun (congrFun (congr (congr (congr (congrArg srow e0) e1) e2) e3) h) d) l

/-- The padded output at a position of head `h`. -/
theorem W4_at (c : Dev nD) (b : Fin 32) (h : Fin 4) (r : Fin 128) (l : Fin 512) (R : Fin 4096) (C : Fin 2048) (hR : R.val = b.val * 128 + r.val) (hC : C.val = h.val * 512 + l.val) :
    W4 m c (ix2 R C) = krow m c b h r l := by
  have e0 : (⟨R.val / 128, by omega⟩ : Fin 32) = b := Fin.ext (by show R.val / 128 = b.val; omega)
  have e1 : (⟨C.val / 512, by omega⟩ : Fin 4) = h := Fin.ext (by show C.val / 512 = h.val; omega)
  have e2 : (⟨R.val % 128, by omega⟩ : Fin 128) = r := Fin.ext (by show R.val % 128 = r.val; omega)
  have e3 : (⟨C.val % 512, by omega⟩ : Fin 512) = l := Fin.ext (by show C.val % 512 = l.val; omega)
  show krow m c ⟨R.val / 128, _⟩ ⟨C.val / 512, _⟩ ⟨R.val % 128, _⟩ ⟨C.val % 512, _⟩ = _
  rw [e0, e1, e2, e3]

/-- Reading the carried state's block does not change it. -/
theorem init_at (S : FVec Ideal S1x1x4x256x512 .f32) : k0_pay3 (F := Ideal) S = S := by
  funext i
  obtain ⟨a, b, h, d, l, rfl⟩ : ∃ (a : Fin 1) (b : Fin 1) (h : Fin 4) (d : Fin 256) (l : Fin 512), i = ix5 a b h d l := ⟨i 0, i 1, i 2, i 3, i 4, eq_ix5 i⟩
  pointwise [k0_pay3]

/-- The padded output array after the run. -/
theorem final4 (c : Dev nD) : (dats m 0 c).arrAt 4 (cfgs 0).N = W4 m c := by
  refine (dats m 0 c).arrAt_eq_of_covers 4 _ (by decide +kernel) fun t _ y => ?_
  blk_simp
  rw [after0_4]; unfold Gen.outsAt0; frame_open; simp (disch := decide) only [↓ View.readCov_skip, ↓ View.readCov_cons_toLoadRect, ↓ View.readCov_fill]; frame_out
  obtain ⟨R, C, rfl⟩ : ∃ (R : Fin 128) (C : Fin 2048), y = ix2 R C := ⟨y 0, y 1, eq_ix2 y⟩
  have ht := (idx t).2.2.2.2.2.2
  have he : ((View.whole main_v19_0).slice (win0_4.rect t)).emb (ix2 R C) = ix2 ⟨t.val * 128 + R.val, by omega⟩ C := by
    blk_ext [idx t]
  rw [he, W4_at m c ⟨t.val, ht⟩ ⟨C.val / 512, by omega⟩ R ⟨C.val % 512, by omega⟩ _ _ rfl (by show C.val = C.val / 512 * 512 + C.val % 512; omega),
    ← krow_of m c t _ _ _ _ rfl rfl rfl rfl, init_at]
  generalize (iblk m c 0 t) = x0
  generalize (iblk m c 1 t) = x1
  generalize (iblk m c 2 t) = x2
  generalize (iblk m c 3 t) = x3
  clear he ht
  canon_tiles x h
  · obtain ⟨r, k, rfl⟩ : ∃ (r : Fin 128) (k : Fin 512), x = ix2 r k := ⟨x 0, x 1, eq_ix2 x⟩
    obtain rfl : R = r := Fin.ext h0
    have hC : C.val = 1536 + k.val := h1
    rw [show (⟨C.val / 512, by omega⟩ : Fin 4) = 3 from Fin.ext (by show C.val / 512 = 3; omega), show (⟨C.val % 512, by omega⟩ : Fin 512) = k from Fin.ext (by show C.val % 512 = k.val; omega)]
    refine (o3_at _ _ _ _ _ _ _ R k).trans ?_
    unfold yrow
    pointwise
  · obtain ⟨r, k, rfl⟩ : ∃ (r : Fin 128) (k : Fin 512), x = ix2 r k := ⟨x 0, x 1, eq_ix2 x⟩
    obtain rfl : R = r := Fin.ext h0
    have hC : C.val = 1024 + k.val := h1
    rw [show (⟨C.val / 512, by omega⟩ : Fin 4) = 2 from Fin.ext (by show C.val / 512 = 2; omega), show (⟨C.val % 512, by omega⟩ : Fin 512) = k from Fin.ext (by show C.val % 512 = k.val; omega)]
    refine (o2_at _ _ _ _ _ _ _ R k).trans ?_
    unfold yrow
    pointwise
  · obtain ⟨r, k, rfl⟩ : ∃ (r : Fin 128) (k : Fin 512), x = ix2 r k := ⟨x 0, x 1, eq_ix2 x⟩
    obtain rfl : R = r := Fin.ext h0
    have hC : C.val = 512 + k.val := h1
    rw [show (⟨C.val / 512, by omega⟩ : Fin 4) = 1 from Fin.ext (by show C.val / 512 = 1; omega), show (⟨C.val % 512, by omega⟩ : Fin 512) = k from Fin.ext (by show C.val % 512 = k.val; omega)]
    refine (o1_at _ _ _ _ _ _ _ R k).trans ?_
    unfold yrow
    pointwise
  · obtain ⟨r, k, rfl⟩ : ∃ (r : Fin 128) (k : Fin 512), x = ix2 r k := ⟨x 0, x 1, eq_ix2 x⟩
    obtain rfl : R = r := Fin.ext h0
    have hC : C.val = k.val := h1
    rw [show (⟨C.val / 512, by omega⟩ : Fin 4) = 0 from Fin.ext (by show C.val / 512 = 0; omega), show (⟨C.val % 512, by omega⟩ : Fin 512) = k from Fin.ext (by show C.val % 512 = k.val; omega)]
    refine (o0_at _ _ _ _ _ _ _ R k).trans ?_
    unfold yrow
    pointwise

/-- Stores over earlier stores that they cover leave what they would leave alone. -/
theorem canon_drop {s : Shape} {e : EltTy} (L L' : List (View.Piece (Elt Ideal) s e)) (y : s.Idx) (hc : ∃ p ∈ L, y ∈ p.1.set) :
    View.canon (L ++ L') y = View.canon L y := by
  induction L with
  | nil => obtain ⟨p, hp, _⟩ := hc; exact absurd hp List.not_mem_nil
  | cons p L ih =>
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem _ _ hm, View.canon_cons_of_not_mem _ _ hm]
      refine ih ?_
      obtain ⟨q, hq, hyq⟩ := hc
      rcases List.mem_cons.mp hq with rfl | hq'
      · exact absurd hyq hm
      · exact ⟨q, hq', hyq⟩

/-- The state array after the run: its second layer is new, its first as it was. -/
theorem final5 (c : Dev nD) : (dats m 0 c).arrAt 5 (cfgs 0).N = fun i => if (i 0).val = 1 then W5 m c i else V m c main_v19_1 i := by
  refine (dats m 0 c).arrAt_eq_of_coversWhere 5 _ (fun β => β 0 = 1) (by decide +kernel) (fun t hf y => ?_)
    (fun j => by blk_simp [Pipeline.Window.cell_apply]; omega)
  blk_simp
  rw [after0_5]; unfold Gen.outsAt0; frame_open; simp (disch := decide) only [↓ View.readCov_skip, ↓ View.readCov_cons_toLoadRect, ↓ View.readCov_fill]; frame_out
  obtain ⟨a, b, w, d, l, rfl⟩ : ∃ (a : Fin 1) (b : Fin 1) (w : Fin 4) (d : Fin 256) (l : Fin 512), y = ix5 a b w d l := ⟨y 0, y 1, y 2, y 3, y 4, eq_ix5 y⟩
  have ht := (idx t).2.2.2.2.2.2
  have he : ((View.whole main_v19_1).slice (win0_5.rect t)).emb (ix5 a b w d l) = ix5 1 ⟨t.val, ht⟩ w d l := by
    blk_ext [idx t]
  rw [he]
  show _ = kstate m c ⟨t.val, ht⟩ w d l
  rw [← kstate_of m c t _ _ _ _ rfl rfl rfl rfl, init_at]
  generalize (iblk m c 0 t) = x0
  generalize (iblk m c 1 t) = x1
  generalize (iblk m c 2 t) = x2
  generalize (iblk m c 3 t) = x3
  clear he ht
  refine (canon_drop [_, _, _, _] [_] _ (View.cover_of_tiled_head _ _ _ rfl _)).trans ?_
  obtain rfl : a = 0 := Subsingleton.elim _ _
  obtain rfl : b = 0 := Subsingleton.elim _ _
  canon_tiles x h
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext h3
    obtain rfl : l = l' := Fin.ext h4
    obtain rfl : w = 3 := Fin.ext h2
    refine (s3_at _ _ _ _ _ d l).trans ?_
    unfold srow
    pointwise
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext h3
    obtain rfl : l = l' := Fin.ext h4
    obtain rfl : w = 2 := Fin.ext h2
    refine (s2_at _ _ _ _ _ d l).trans ?_
    unfold srow
    pointwise
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext h3
    obtain rfl : l = l' := Fin.ext h4
    obtain rfl : w = 1 := Fin.ext h2
    refine (s1_at _ _ _ _ _ d l).trans ?_
    unfold srow
    pointwise
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext h3
    obtain rfl : l = l' := Fin.ext h4
    obtain rfl : w = 0 := Fin.ext h2
    refine (s0_at _ _ _ _ _ d l).trans ?_
    unfold srow
    pointwise

/-- An output row of the sixteen rows of a batch element, over the arrays given. -/
theorem krow_ref (c : Dev nD) (b : Fin 32) (h : Fin 4) (r : Fin 16) (l : Fin 512) :
    krow m c b h ⟨r.val, by omega⟩ l = yrow (fun (j : Fin 16) k => (show FVec Ideal S32x16x6144 .bf16 from m ((c : Thread nD τ).loc main_arg0)) (ix3 b j k))
      (fun j d => Cert.RetRefIdeal.Read.val_main_v21 (F := Ideal) (ix2 j d)) (fun j d => Cert.RetRefIdeal.Read.val_main_v23 (F := Ideal) (ix2 j d))
      (fun h d l => SA m c (ix5 1 b h d l)) h r l := by
  unfold krow
  rw [yrow_pad]
  have e0 := funext fun j => funext fun k => entry_rows m c b j k
  have e1 := funext fun j => funext fun d => entry_cos m c j d
  have e2 := funext fun j => funext fun d => entry_sin m c j d
  exact congrFun (congrFun (congrFun (congrFun (congr (congr (congrArg yrow e0) e1) e2) _) h) r) l

/-- A new state over the sixteen rows of a batch element, over the arrays given. -/
theorem kstate_ref (c : Dev nD) (b : Fin 32) (h : Fin 4) (d : Fin 256) (l : Fin 512) :
    kstate m c b h d l = srow (fun (j : Fin 16) k => (show FVec Ideal S32x16x6144 .bf16 from m ((c : Thread nD τ).loc main_arg0)) (ix3 b j k))
      (fun j d => Cert.RetRefIdeal.Read.val_main_v21 (F := Ideal) (ix2 j d)) (fun j d => Cert.RetRefIdeal.Read.val_main_v23 (F := Ideal) (ix2 j d))
      (fun h d l => SA m c (ix5 1 b h d l)) h d l := by
  unfold kstate
  rw [srow_pad]
  have e0 := funext fun j => funext fun k => entry_rows m c b j k
  have e1 := funext fun j => funext fun d => entry_cos m c j d
  have e2 := funext fun j => funext fun d => entry_sin m c j d
  exact congrFun (congrFun (congrFun (congrFun (congr (congr (congrArg srow e0) e1) e2) _) h) d) l

/-- The gated outputs, padding rows dropped, are the reference's. -/
theorem result_out (c : Dev nD) :
    shapeCast S512x2048 (extractStridedSlice S32x16x2048 ![0, 0, 0] (shapeCast S32x128x2048 (show FVec Ideal S4096x2048 .bf16 from W4 m c) shapeCasts_S4096x2048_S32x128x2048) slices_S32x128x2048_S32x16x2048_0_0_0) shapeCasts_S32x16x2048_S512x2048
      = Cert.RetRefIdeal.Read.val_main_v149 (F := Ideal) (m ((c : Thread nD τ).loc main_arg0)) (m ((c : Thread nD τ).loc main_arg1)) := by
  funext i
  obtain ⟨R, C, rfl⟩ : ∃ (R : Fin 512) (C : Fin 2048), i = ix2 R C := ⟨i 0, i 1, eq_ix2 i⟩
  have el : shapeCast S512x2048 (extractStridedSlice S32x16x2048 ![0, 0, 0] (shapeCast S32x128x2048 (show FVec Ideal S4096x2048 .bf16 from W4 m c) shapeCasts_S4096x2048_S32x128x2048) slices_S32x128x2048_S32x16x2048_0_0_0) shapeCasts_S32x16x2048_S512x2048 (ix2 R C)
      = W4 m c (ix2 ⟨R.val / 16 * 128 + R.val % 16, by omega⟩ C) := by
    generalize W4 m c = w
    pointwise
  have er : Cert.RetRefIdeal.Read.val_main_v149 (F := Ideal) (m ((c : Thread nD τ).loc main_arg0)) (m ((c : Thread nD τ).loc main_arg1)) (ix2 R C)
      = Cert.RetRefIdeal.Read.val_main_v147 (F := Ideal) (m ((c : Thread nD τ).loc main_arg0)) (m ((c : Thread nD τ).loc main_arg1)) (ix3 ⟨R.val / 16, by omega⟩ ⟨R.val % 16, by omega⟩ C) := by
    pointwise [Cert.RetRefIdeal.Read.val_main_v149, Cert.RetRefIdeal.Read.val_main_v148]
  rw [el, er, Cert.RetRefIdeal.RefTerm.o_ref, W4_at m c ⟨R.val / 16, by omega⟩ ⟨C.val / 512, by omega⟩ ⟨R.val % 16, by omega⟩ ⟨C.val % 512, by omega⟩ _ _ rfl (by show C.val = C.val / 512 * 512 + C.val % 512; omega)]
  exact krow_ref m c _ _ ⟨R.val % 16, by omega⟩ _

/-- The host's last result is the output array with the padding rows dropped. -/
theorem tail_out (c : Dev nD) : Pipeline.afterTail₀ cfgs (dats m) 0 (V0 m) [hostOps1] c main_v22
    = shapeCast S512x2048 (extractStridedSlice S32x16x2048 ![0, 0, 0] (shapeCast S32x128x2048 (show FVec Ideal S4096x2048 .bf16 from (dats m 0 c).arrAt 4 (cfgs 0).N) shapeCasts_S4096x2048_S32x128x2048) slices_S32x128x2048_S32x16x2048_0_0_0) shapeCasts_S32x16x2048_S512x2048 := by
  unfold Pipeline.afterTail₀
  simp only [hostOps1, List.flatten_cons, List.flatten_nil, List.append_nil, List.cons_append, List.nil_append, StableHlo.after_cons, StableHlo.after_nil]
  after_results_simp
  have e : Pipeline.withArrays (cfgs 0).spec c (V0 m c) (fun w => (dats m 0 c).arrAt w (cfgs 0).N) (Proc.devRef .tc main_v19_0) = (dats m 0 c).arrAt 4 (cfgs 0).N :=
    Pipeline.withArrays_arr spec0 (by decide) c (V0 m c) _ 4
  rw [e]
  rfl

/-- The state array after the run is the reference's. -/
theorem result_state (c : Dev nD) : (dats m 0 c).arrAt 5 (cfgs 0).N
    = Cert.RetRefIdeal.Read.val_main_v154 (F := Ideal) (m ((c : Thread nD τ).loc main_arg0)) (m ((c : Thread nD τ).loc main_arg1)) (m ((c : Thread nD τ).loc main_arg2)) := by
  rw [final5, entry_prev]
  funext i
  obtain ⟨a, b, h, d, l, rfl⟩ : ∃ (a : Fin 2) (b : Fin 32) (h : Fin 4) (d : Fin 256) (l : Fin 512), i = ix5 a b h d l := ⟨i 0, i 1, i 2, i 3, i 4, eq_ix5 i⟩
  show (if a.val = 1 then kstate m c b h d l else PA m c (ix5 a b h d l)) = _
  by_cases ha : a.val = 1
  · obtain rfl : a = 1 := Fin.ext ha
    rw [if_pos ha, kstate_ref]
    refine (Cert.RetRefIdeal.RefTerm.s_ref _ _ b h d l).symm.trans ?_
    pointwise [Cert.RetRefIdeal.Read.val_main_v154, Cert.RetRefIdeal.Read.val_main_v153, SA]
  · obtain rfl : a = 0 := Fin.ext (by show a.val = 0; omega)
    rw [if_neg ha]
    unfold PA
    pointwise [Cert.RetRefIdeal.Read.val_main_v154, Cert.RetRefIdeal.Read.val_main_v152, Cert.RetRefIdeal.Read.val_main_v151, Cert.RetRefIdeal.Read.val_main_v150]

end Cert.RetIdeal.RefValue

namespace Cert.Proof.Ret

/-- The retention kernel's gated outputs and new state equal the reference's on the same arguments. -/
theorem algebraic : Cert.algebraic_RetIdeal_RetRefIdeal := by
  intro m g m' g' _ hagree
  refine ⟨fun c => Cert.RetRefIdeal.Read.val_main_v149 (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)),
    fun c => Cert.RetRefIdeal.Read.val_main_v154 (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2)), ?_, ?_⟩
  · refine (θ_run Cert.RetIdeal.defs _ _).mono (fun r h c => ⟨?_, ?_, h.2 c⟩)
      (θ_run_and (Cert.RetIdeal.Gen.run_main (F := Ideal) m g) (Cert.RetIdeal.Gen.unchanged (F := Ideal) m g))
    · refine ((h.1 c).2 Cert.RetIdeal.main_v22 (Pipeline.mem_restRefs_of Cert.RetIdeal.main_v22 (by decide) (by decide))).trans ?_
      rw [Cert.RetIdeal.RefValue.tail_out, Cert.RetIdeal.RefValue.final4]
      exact Cert.RetIdeal.RefValue.result_out m c
    · exact ((h.1 c).1 5).trans (Cert.RetIdeal.RefValue.result_state m c)
  · refine (θ_run Cert.RetRefIdeal.defs _ _).mono (fun r h c => ⟨(h c).1.trans ?_, (h c).2.1.trans ?_, (h c).2.2⟩)
      (Cert.RetRefIdeal.Value.run (F := Ideal) m' g')
    · obtain ⟨a0, a1, a2⟩ := hagree c
      refine (Cert.RetRefIdeal.Read.val_main_v149_eq _).trans ?_
      exact congr (congrArg (Cert.RetRefIdeal.Read.val_main_v149 (F := Ideal)) a0) a1
    · obtain ⟨a0, a1, a2⟩ := hagree c
      refine (Cert.RetRefIdeal.Read.val_main_v154_eq _).trans ?_
      exact congr (congr (congrArg (Cert.RetRefIdeal.Read.val_main_v154 (F := Ideal)) a0) a1) a2

end Cert.Proof.Ret
-- ==== Proof.MixRow.lean ====
module

public import proofs.«01_k».proof.Proof.RetRow

@[expose] public section
set_option maxRecDepth 16384

noncomputable section

open Idealize.ShloMosaic
open Cert.Proof.RetRow

/-! The state of the retention recurrence over a whole sequence, however the sequence is cut into chunks. -/

namespace Cert.Proof.MixRow

/-- The decay over a real number of positions. -/
def dec (L x : ℝ) : EReal := ((Real.exp (x * L) : ℝ) : EReal)

/-- The state after `n` rows: every row's key, decayed from its position to the last one, against its value. -/
def acc (L : ℝ) (K V : ℕ → EReal) (n : ℕ) : EReal := ∑ j ∈ Finset.range n, (K j * dec L ((n : ℝ) - 1 - j)) * V j

/-- Decays over consecutive stretches multiply. -/
theorem dec_mul (L x y : ℝ) : dec L x * dec L y = dec L (x + y) := by
  unfold dec
  rw [← EReal.coe_mul, ← Real.exp_add, add_mul]

/-- A decay may be multiplied into a sum term by term. -/
theorem sum_mul_dec {ι : Type} (s : Finset ι) (f : ι → EReal) (L x : ℝ) : (∑ j ∈ s, f j) * dec L x = ∑ j ∈ s, f j * dec L x := by
  classical
  induction s using Finset.induction_on with
  | empty => simp
  | insert a s ha ih =>
    rw [Finset.sum_insert ha, Finset.sum_insert ha, ← ih]
    exact EReal.right_distrib_of_nonneg_of_ne_top (by unfold dec; exact_mod_cast (Real.exp_pos _).le) (by unfold dec; exact EReal.coe_ne_top _) _ _

/-- No rows leave the state at zero. -/
theorem acc_zero (L : ℝ) (K V : ℕ → EReal) : acc L K V 0 = 0 := by
  simp [acc]

/-- The state after a further chunk: the old one decayed over the chunk, plus the chunk's decayed keys against its values. -/
theorem acc_add (L : ℝ) (K V : ℕ → EReal) (n c : ℕ) :
    acc L K V n * dec L c + ∑ j : Fin c, (K (n + j.val) * dec L ((c : ℝ) - 1 - j.val)) * V (n + j.val) = acc L K V (n + c) := by
  unfold acc
  rw [Finset.sum_range_add, sum_mul_dec, Finset.sum_range]
  rw [← Finset.sum_range fun j => (K (n + j) * dec L ((c : ℝ) - 1 - j)) * V (n + j), Finset.sum_range (n := n)]
  congr 1
  · refine Finset.sum_congr rfl fun j _ => ?_
    rw [mul_right_comm, mul_assoc (K j.val), dec_mul]
    congr 3
    push_cast; ring
  · refine Finset.sum_congr rfl fun j _ => ?_
    congr 3
    push_cast; ring

/-- The keys of head `h` at column `d`, by position in the sequence. -/
def keys (X : Fin 2048 → Fin 6144 → EReal) (C S : Fin 2048 → Fin 128 → EReal) (h : Fin 4) (d : Fin 256) (j : ℕ) : EReal :=
  if hj : j < 2048 then key (fun d => X ⟨j, hj⟩ ⟨1024 + h.val * 256 + d.val, by omega⟩) (C ⟨j, hj⟩) (S ⟨j, hj⟩) d else 0

/-- The values of head `h` at column `l`, by position in the sequence. -/
def vals (X : Fin 2048 → Fin 6144 → EReal) (h : Fin 4) (l : Fin 512) (j : ℕ) : EReal :=
  if hj : j < 2048 then X ⟨j, hj⟩ ⟨2048 + h.val * 512 + l.val, by omega⟩ else 0

/-- One entry of head `h`'s state after `n` rows of a sequence. -/
def state (X : Fin 2048 → Fin 6144 → EReal) (C S : Fin 2048 → Fin 128 → EReal) (h : Fin 4) (d : Fin 256) (l : Fin 512) (n : ℕ) : EReal :=
  acc (lg h.val) (keys X C S h d) (vals X h l) n

/-- The float of a small integer. -/
theorem float_pos (n : ℕ) (h : n < 4096) : FloatOps.sitofp (F := Ideal) .f32 (BitVec.ofNat 32 n) = ((n : ℝ) : EReal) := by
  have : (BitVec.ofNat 32 n).toInt = n := by rw [BitVec.toInt_ofNat']; simp [Int.bmod]; omega
  simp [FloatOps.sitofp, this]

/-- The word of one hundred and twenty-eight. -/
theorem word128 : Ideal.ofBits .f32 0x43000000#32 = ((128 : ℝ) : EReal) := by
  simp [Ideal.ofBits, Ideal.ieee, -EReal.coe_mul]; norm_num

/-- The word of one hundred and twenty-seven. -/
theorem word127 : Ideal.ofBits .f32 0x42FE0000#32 = ((127 : ℝ) : EReal) := by
  simp [Ideal.ofBits, Ideal.ieee, -EReal.coe_mul]; norm_num

/-- The word of sixty-four. -/
theorem word64 : Ideal.ofBits .f32 0x42800000#32 = ((64 : ℝ) : EReal) := by
  simp [Ideal.ofBits, Ideal.ieee, -EReal.coe_mul]; norm_num

/-- The word of sixty-three. -/
theorem word63 : Ideal.ofBits .f32 0x427C0000#32 = ((63 : ℝ) : EReal) := by
  simp [Ideal.ofBits, Ideal.ieee, -EReal.coe_mul]; norm_num

/-- The decay to the end of a chunk of 128 rows as the position gives it. -/
theorem kd128_at (L : ℝ) (j : ℕ) : Ideal.exp ((((127 : ℝ) : EReal) - ((j : ℝ) : EReal)) * (L : EReal)) = dec L (128 - 1 - j) := by
  rw [← EReal.coe_sub, ← EReal.coe_mul, Ideal.exp_coe]; unfold dec; norm_num

/-- The decay to the end of a chunk of 64 rows as the position gives it. -/
theorem kd64_at (L : ℝ) (j : ℕ) : Ideal.exp ((((63 : ℝ) : EReal) - ((j : ℝ) : EReal)) * (L : EReal)) = dec L (64 - 1 - j) := by
  rw [← EReal.coe_sub, ← EReal.coe_mul, Ideal.exp_coe]; unfold dec; norm_num

/-- The decay of a chunk of 64 rows, as the logarithm gives it. -/
theorem g64_at (L : ℝ) : Ideal.exp (((64 : ℝ) : EReal) * (L : EReal)) = dec L 64 := by
  rw [← EReal.coe_mul, Ideal.exp_coe]; rfl

/-- A position of a chunk lies before 128 as a float. -/
theorem lt128 (j : Fin 128) : ((((j.val : ℕ) : ℝ) : EReal) < ((128 : ℝ) : EReal)) = True := by
  refine eq_true ?_
  rw [EReal.coe_lt_coe_iff]; exact_mod_cast j.isLt

/-- The decay of a chunk of 128 rows is the power of the head's decay. -/
theorem g128_lg (h : ℕ) : dec (lg h) 128 = (((1 - (1 / 2) ^ (5 + h)) ^ 128 : ℝ) : EReal) := by
  have h0 : (0 : ℝ) < 1 - (1 / 2) ^ (5 + h) := by
    have : ((1 : ℝ) / 2) ^ (5 + h) < 1 := pow_lt_one₀ (by norm_num) (by norm_num) (by omega)
    linarith
  unfold dec lg
  rw [show (128 : ℝ) * Real.log (1 - (1 / 2) ^ (5 + h)) = (128 : ℕ) * Real.log (1 - (1 / 2) ^ (5 + h)) by norm_num, ← Real.log_pow, Real.exp_log (pow_pos h0 128)]

/-- A chunk of 128 rows carries the state on. -/
theorem state_128 (X : Fin 2048 → Fin 6144 → EReal) (C S : Fin 2048 → Fin 128 → EReal) (h : Fin 4) (d : Fin 256) (l : Fin 512) (n : ℕ) (hn : n + 128 ≤ 2048) (s : EReal)
    (hs : s = state X C S h d l n) :
    s * dec (lg h.val) 128 + ∑ j : Fin 128, (key (fun d => X ⟨n + j.val, by omega⟩ ⟨1024 + h.val * 256 + d.val, by omega⟩) (C ⟨n + j.val, by omega⟩) (S ⟨n + j.val, by omega⟩) d
        * dec (lg h.val) (128 - 1 - j.val)) * X ⟨n + j.val, by omega⟩ ⟨2048 + h.val * 512 + l.val, by omega⟩
      = state X C S h d l (n + 128) := by
  subst hs
  unfold state
  rw [← acc_add]
  congr 1
  refine Finset.sum_congr rfl fun j _ => ?_
  have hj : n + j.val < 2048 := by omega
  rw [keys, vals, dif_pos hj, dif_pos hj]
  norm_cast

/-- A chunk of 64 rows carries the state on. -/
theorem state_64 (X : Fin 2048 → Fin 6144 → EReal) (C S : Fin 2048 → Fin 128 → EReal) (h : Fin 4) (d : Fin 256) (l : Fin 512) (n : ℕ) (hn : n + 64 ≤ 2048) (s : EReal)
    (hs : s = state X C S h d l n) :
    s * dec (lg h.val) 64 + ∑ j : Fin 64, (key (fun d => X ⟨n + j.val, by omega⟩ ⟨1024 + h.val * 256 + d.val, by omega⟩) (C ⟨n + j.val, by omega⟩) (S ⟨n + j.val, by omega⟩) d
        * dec (lg h.val) (64 - 1 - j.val)) * X ⟨n + j.val, by omega⟩ ⟨2048 + h.val * 512 + l.val, by omega⟩
      = state X C S h d l (n + 64) := by
  subst hs
  unfold state
  rw [← acc_add]
  congr 1
  refine Finset.sum_congr rfl fun j _ => ?_
  have hj : n + j.val < 2048 := by omega
  rw [keys, vals, dif_pos hj, dif_pos hj]
  norm_cast

end Cert.Proof.MixRow
-- ==== Proof.MixRef.lean ====
module

public import proofs.«01_k».proof.Defs
public import proofs.«01_k».proof.Proof.MixRow
public import proofs.«01_k».proof.Proof.Gen.MixersRefIdeal.Read
public import Idealize.ShloMosaic.Lib.Pointwise
public import Idealize.ShloMosaic.Lib.Pipeline.ValueKit

@[expose] public section
set_option maxRecDepth 16384

noncomputable section

open Idealize.ShloMosaic
open Cert.Proof.RetRow Cert.Proof.MixRow

/-! What the reference's retention state is after each of its chunks of 64 rows. -/

namespace Cert.MixersRefIdeal.RefTerm
open Cert.MixersRefIdeal Cert.MixersRefIdeal.Gen Cert.MixersRefIdeal.Read

/-- One chunk of the retention recurrence, read at an index. -/
theorem step_at (n : ℕ) (hn : n < 32) (K : FVec Ideal S32x32x4x64x256 .f32) (W : FVec Ideal S32x32x4x64x512 .f32) (S : FVec Ideal S32x4x256x512 .f32)
    (g : FVec Ideal S1x4x1x1 .f32) (kd : FVec Ideal S1x4x64x1 .f32)
    (h1 : S32x32x4x64x256.Slices ![n, 0, 0, 0, 0] S1x32x4x64x256) (h2 : S32x32x4x64x512.Slices ![n, 0, 0, 0, 0] S1x32x4x64x512)
    (b : Fin 32) (h : Fin 4) (d : Fin 256) (l : Fin 512) :
    addf (mulf S (broadcastInDim S32x4x256x512 ![0, 1, 2, 3] bcast_S1x4x1x1_S32x4x256x512_0_1_2_3 g))
      (Host.dotGeneral dot_S32x4x64x256_S32x4x64x512_S32x4x256x512_2_2_3_3_01_01 none
        (mulf (shapeCast S32x4x64x256 (extractStridedSlice S1x32x4x64x256 ![n, 0, 0, 0, 0] K h1) shapeCasts_S1x32x4x64x256_S32x4x64x256)
          (broadcastInDim S32x4x64x256 ![0, 1, 2, 3] bcast_S1x4x64x1_S32x4x64x256_0_1_2_3 kd))
        (shapeCast S32x4x64x512 (extractStridedSlice S1x32x4x64x512 ![n, 0, 0, 0, 0] W h2) shapeCasts_S1x32x4x64x512_S32x4x64x512)) (ix4 b h d l)
      = S (ix4 b h d l) * g (ix4 0 h 0 0) + ∑ j : Fin 64, (K (ix5 ⟨n, hn⟩ b h j d) * kd (ix4 0 h j 0)) * W (ix5 ⟨n, hn⟩ b h j l) := by
  pointwise

/-- The logarithm of each head's decay. -/
theorem lg_ref (h : Fin 4) : val_main_v52 (F := Ideal) (ix1 h) = (lg h.val : EReal) := by
  have e : val_main_v52 (F := Ideal) (ix1 h) = Ideal.log (1 - Ideal.pow ((2 : ℝ) : EReal) (((-5 : ℝ) : EReal) - FloatOps.sitofp (F := Ideal) .f32 (BitVec.ofNat 32 h.val))) := by
    pointwise [val_main_v52, val_main_v51, val_main_v50, val_main_cst_6, val_main_v49, val_main_v48, val_main_cst_5, val_main_v47, val_main_v46, val_main_cst_4, val_main_v45, word2, word_neg5]
  rw [e, float_pos _ (by omega), lg_at]

/-- The decay to a chunk's end. -/
theorem kd_ref (h : Fin 4) (j : Fin 64) : val_main_v61 (F := Ideal) (ix2 h j) = dec (lg h.val) (64 - 1 - j.val) := by
  have e : val_main_v61 (F := Ideal) (ix2 h j) = Ideal.exp ((((63 : ℝ) : EReal) - FloatOps.sitofp (F := Ideal) .f32 (BitVec.ofNat 32 j.val)) * (lg h.val : EReal)) := by
    pointwise [val_main_v61, val_main_v60, val_main_v59, val_main_v58, val_main_v57, val_main_v56, val_main_v55, val_main_v54, val_main_cst_7, val_main_v53, lg_ref, word63]
  rw [e, float_pos _ (by omega), kd64_at]

/-- The decay over a whole chunk. -/
theorem g64_ref (h : Fin 4) : val_main_v65 (F := Ideal) (ix1 h) = dec (lg h.val) 64 := by
  have e : val_main_v65 (F := Ideal) (ix1 h) = Ideal.exp (((64 : ℝ) : EReal) * (lg h.val : EReal)) := by
    pointwise [val_main_v65, val_main_v64, val_main_v63, val_main_cst_8, lg_ref, word64]
  rw [e, g64_at]

/-- The rotated and scaled key. -/
theorem k_ref (X : FVec Ideal S32x2048x6144 .bf16) (b : Fin 32) (r : Fin 2048) (h : Fin 4) (d : Fin 256) :
    val_main_v38 (F := Ideal) X (ix4 b r h d)
      = key (fun d => X (ix3 b r ⟨1024 + h.val * 256 + d.val, by omega⟩)) (fun d => val_main_v20 (F := Ideal) (ix2 r d)) (fun d => val_main_v22 (F := Ideal) (ix2 r d)) d := by
  pointwise [val_main_v38, val_main_v37, val_main_cst_2, val_main_v36, val_main_v35, val_main_v34, val_main_v33, val_main_v32, val_main_v31, val_main_v30, val_main_v29, val_main_v28, val_main_v27, val_main_v26, val_main_v25, val_main_v24, val_main_v23, val_main_v21, val_main_v9, val_main_v6, val_main_v4, key, rope, Nat.add_assoc]

/-- The value. -/
theorem v_ref (X : FVec Ideal S32x2048x6144 .bf16) (b : Fin 32) (r : Fin 2048) (h : Fin 4) (l : Fin 512) :
    val_main_v39 (F := Ideal) X (ix4 b r h l) = X (ix3 b r ⟨2048 + h.val * 512 + l.val, by omega⟩) := by
  pointwise [val_main_v39, val_main_v7, val_main_v4, Nat.add_assoc]

/-- The keys cut into chunks. -/
theorem kc_ref (X : FVec Ideal S32x2048x6144 .bf16) (n b : Fin 32) (h : Fin 4) (j : Fin 64) (d : Fin 256) :
    val_main_v42 (F := Ideal) X (ix5 n b h j d) = val_main_v38 (F := Ideal) X (ix4 b ⟨n.val * 64 + j.val, by omega⟩ h d) := by
  pointwise [val_main_v42, val_main_v41]

/-- The values cut into chunks. -/
theorem vc_ref (X : FVec Ideal S32x2048x6144 .bf16) (n b : Fin 32) (h : Fin 4) (j : Fin 64) (l : Fin 512) :
    val_main_v44 (F := Ideal) X (ix5 n b h j l) = val_main_v39 (F := Ideal) X (ix4 b ⟨n.val * 64 + j.val, by omega⟩ h l) := by
  pointwise [val_main_v44, val_main_v43]

/-- The state of head `h` of batch element `b` after `n` rows, over the projections given. -/
def stateR (X : FVec Ideal S32x2048x6144 .bf16) (b : Fin 32) (h : Fin 4) (d : Fin 256) (l : Fin 512) (n : ℕ) : EReal :=
  state (fun r k => X (ix3 b r k)) (fun r d => val_main_v20 (F := Ideal) (ix2 r d)) (fun r d => val_main_v22 (F := Ideal) (ix2 r d)) h d l n

/-- The decay over a whole chunk, as the recurrence multiplies by it. -/
theorem g_ref (h : Fin 4) : val_main_v66 (F := Ideal) (ix4 0 h 0 0) = dec (lg h.val) 64 := by
  rw [← g64_ref]
  pointwise [val_main_v66]

/-- The decay to a chunk's end, as the recurrence multiplies by it. -/
theorem kdec_ref (h : Fin 4) (j : Fin 64) : val_main_v62 (F := Ideal) (ix4 0 h j 0) = dec (lg h.val) (64 - 1 - j.val) := by
  rw [← kd_ref]
  pointwise [val_main_v62]

/-- One chunk of the recurrence carries the state 64 rows on. -/
theorem step_ref (X : FVec Ideal S32x2048x6144 .bf16) (n : ℕ) (hn : n < 32) (b : Fin 32) (h : Fin 4) (d : Fin 256) (l : Fin 512) (s : EReal) (hs : s = stateR X b h d l (n * 64)) :
    s * val_main_v66 (F := Ideal) (ix4 0 h 0 0) + ∑ j : Fin 64, (val_main_v42 (F := Ideal) X (ix5 ⟨n, hn⟩ b h j d) * val_main_v62 (F := Ideal) (ix4 0 h j 0)) * val_main_v44 (F := Ideal) X (ix5 ⟨n, hn⟩ b h j l)
      = stateR X b h d l (n * 64 + 64) := by
  refine Eq.trans ?_ (state_64 (fun r k => X (ix3 b r k)) (fun r d => val_main_v20 (F := Ideal) (ix2 r d)) (fun r d => val_main_v22 (F := Ideal) (ix2 r d)) h d l (n * 64) (by omega) s hs)
  rw [g_ref]
  refine congrArg (fun x : EReal => s * dec (lg h.val) 64 + x) ?_
  refine Finset.sum_congr rfl fun j _ => ?_
  rw [kdec_ref, kc_ref, vc_ref, k_ref, v_ref]

/-- The state starts at zero. -/
theorem st0 (X : FVec Ideal S32x2048x6144 .bf16) (b : Fin 32) (h : Fin 4) (d : Fin 256) (l : Fin 512) : val_main_v40 (F := Ideal) (ix4 b h d l) = stateR X b h d l 0 := by
  rw [stateR, state, acc_zero]
  pointwise [val_main_v40, val_main_cst_3]

/-- The state after chunk 0. -/
theorem st1 (X : FVec Ideal S32x2048x6144 .bf16) (b : Fin 32) (h : Fin 4) (d : Fin 256) (l : Fin 512) :
    val_main_v76 (F := Ideal) X (ix4 b h d l) = stateR X b h d l (0 * 64 + 64) := by
  unfold val_main_v76 val_main_v75 val_main_v74 val_main_v73 val_main_v72 val_main_v71 val_main_v70 val_main_v69 val_main_v68 val_main_v67
  refine (step_at 0 (by omega) (val_main_v42 (F := Ideal) X) (val_main_v44 (F := Ideal) X) (val_main_v40 (F := Ideal)) (val_main_v66 (F := Ideal)) (val_main_v62 (F := Ideal)) _ _ b h d l).trans ?_
  exact step_ref X 0 (by omega) b h d l _ (st0 X b h d l)

/-- The state after chunk 1. -/
theorem st2 (X : FVec Ideal S32x2048x6144 .bf16) (b : Fin 32) (h : Fin 4) (d : Fin 256) (l : Fin 512) :
    val_main_v86 (F := Ideal) X (ix4 b h d l) = stateR X b h d l (1 * 64 + 64) := by
  unfold val_main_v86 val_main_v85 val_main_v84 val_main_v83 val_main_v82 val_main_v81 val_main_v80 val_main_v79 val_main_v78 val_main_v77
  refine (step_at 1 (by omega) (val_main_v42 (F := Ideal) X) (val_main_v44 (F := Ideal) X) (val_main_v76 (F := Ideal) X) (val_main_v66 (F := Ideal)) (val_main_v62 (F := Ideal)) _ _ b h d l).trans ?_
  exact step_ref X 1 (by omega) b h d l _ (st1 X b h d l)

/-- The state after chunk 2. -/
theorem st3 (X : FVec Ideal S32x2048x6144 .bf16) (b : Fin 32) (h : Fin 4) (d : Fin 256) (l : Fin 512) :
    val_main_v96 (F := Ideal) X (ix4 b h d l) = stateR X b h d l (2 * 64 + 64) := by
  unfold val_main_v96 val_main_v95 val_main_v94 val_main_v93 val_main_v92 val_main_v91 val_main_v90 val_main_v89 val_main_v88 val_main_v87
  refine (step_at 2 (by omega) (val_main_v42 (F := Ideal) X) (val_main_v44 (F := Ideal) X) (val_main_v86 (F := Ideal) X) (val_main_v66 (F := Ideal)) (val_main_v62 (F := Ideal)) _ _ b h d l).trans ?_
  exact step_ref X 2 (by omega) b h d l _ (st2 X b h d l)

/-- The state after chunk 3. -/
theorem st4 (X : FVec Ideal S32x2048x6144 .bf16) (b : Fin 32) (h : Fin 4) (d : Fin 256) (l : Fin 512) :
    val_main_v106 (F := Ideal) X (ix4 b h d l) = stateR X b h d l (3 * 64 + 64) := by
  unfold val_main_v106 val_main_v105 val_main_v104 val_main_v103 val_main_v102 val_main_v101 val_main_v100 val_main_v99 val_main_v98 val_main_v97
  refine (step_at 3 (by omega) (val_main_v42 (F := Ideal) X) (val_main_v44 (F := Ideal) X) (val_main_v96 (F := Ideal) X) (val_main_v66 (F := Ideal)) (val_main_v62 (F := Ideal)) _ _ b h d l).trans ?_
  exact step_ref X 3 (by omega) b h d l _ (st3 X b h d l)

/-- The state after chunk 4. -/
theorem st5 (X : FVec Ideal S32x2048x6144 .bf16) (b : Fin 32) (h : Fin 4) (d : Fin 256) (l : Fin 512) :
    val_main_v116 (F := Ideal) X (ix4 b h d l) = stateR X b h d l (4 * 64 + 64) := by
  unfold val_main_v116 val_main_v115 val_main_v114 val_main_v113 val_main_v112 val_main_v111 val_main_v110 val_main_v109 val_main_v108 val_main_v107
  refine (step_at 4 (by omega) (val_main_v42 (F := Ideal) X) (val_main_v44 (F := Ideal) X) (val_main_v106 (F := Ideal) X) (val_main_v66 (F := Ideal)) (val_main_v62 (F := Ideal)) _ _ b h d l).trans ?_
  exact step_ref X 4 (by omega) b h d l _ (st4 X b h d l)

/-- The state after chunk 5. -/
theorem st6 (X : FVec Ideal S32x2048x6144 .bf16) (b : Fin 32) (h : Fin 4) (d : Fin 256) (l : Fin 512) :
    val_main_v126 (F := Ideal) X (ix4 b h d l) = stateR X b h d l (5 * 64 + 64) := by
  unfold val_main_v126 val_main_v125 val_main_v124 val_main_v123 val_main_v122 val_main_v121 val_main_v120 val_main_v119 val_main_v118 val_main_v117
  refine (step_at 5 (by omega) (val_main_v42 (F := Ideal) X) (val_main_v44 (F := Ideal) X) (val_main_v116 (F := Ideal) X) (val_main_v66 (F := Ideal)) (val_main_v62 (F := Ideal)) _ _ b h d l).trans ?_
  exact step_ref X 5 (by omega) b h d l _ (st5 X b h d l)

/-- The state after chunk 6. -/
theorem st7 (X : FVec Ideal S32x2048x6144 .bf16) (b : Fin 32) (h : Fin 4) (d : Fin 256) (l : Fin 512) :
    val_main_v136 (F := Ideal) X (ix4 b h d l) = stateR X b h d l (6 * 64 + 64) := by
  unfold val_main_v136 val_main_v135 val_main_v134 val_main_v133 val_main_v132 val_main_v131 val_main_v130 val_main_v129 val_main_v128 val_main_v127
  refine (step_at 6 (by omega) (val_main_v42 (F := Ideal) X) (val_main_v44 (F := Ideal) X) (val_main_v126 (F := Ideal) X) (val_main_v66 (F := Ideal)) (val_main_v62 (F := Ideal)) _ _ b h d l).trans ?_
  exact step_ref X 6 (by omega) b h d l _ (st6 X b h d l)

/-- The state after chunk 7. -/
theorem st8 (X : FVec Ideal S32x2048x6144 .bf16) (b : Fin 32) (h : Fin 4) (d : Fin 256) (l : Fin 512) :
    val_main_v146 (F := Ideal) X (ix4 b h d l) = stateR X b h d l (7 * 64 + 64) := by
  unfold val_main_v146 val_main_v145 val_main_v144 val_main_v143 val_main_v142 val_main_v141 val_main_v140 val_main_v139 val_main_v138 val_main_v137
  refine (step_at 7 (by omega) (val_main_v42 (F := Ideal) X) (val_main_v44 (F := Ideal) X) (val_main_v136 (F := Ideal) X) (val_main_v66 (F := Ideal)) (val_main_v62 (F := Ideal)) _ _ b h d l).trans ?_
  exact step_ref X 7 (by omega) b h d l _ (st7 X b h d l)

/-- The state after chunk 8. -/
theorem st9 (X : FVec Ideal S32x2048x6144 .bf16) (b : Fin 32) (h : Fin 4) (d : Fin 256) (l : Fin 512) :
    val_main_v156 (F := Ideal) X (ix4 b h d l) = stateR X b h d l (8 * 64 + 64) := by
  unfold val_main_v156 val_main_v155 val_main_v154 val_main_v153 val_main_v152 val_main_v151 val_main_v150 val_main_v149 val_main_v148 val_main_v147
  refine (step_at 8 (by omega) (val_main_v42 (F := Ideal) X) (val_main_v44 (F := Ideal) X) (val_main_v146 (F := Ideal) X) (val_main_v66 (F := Ideal)) (val_main_v62 (F := Ideal)) _ _ b h d l).trans ?_
  exact step_ref X 8 (by omega) b h d l _ (st8 X b h d l)

/-- The state after chunk 9. -/
theorem st10 (X : FVec Ideal S32x2048x6144 .bf16) (b : Fin 32) (h : Fin 4) (d : Fin 256) (l : Fin 512) :
    val_main_v166 (F := Ideal) X (ix4 b h d l) = stateR X b h d l (9 * 64 + 64) := by
  unfold val_main_v166 val_main_v165 val_main_v164 val_main_v163 val_main_v162 val_main_v161 val_main_v160 val_main_v159 val_main_v158 val_main_v157
  refine (step_at 9 (by omega) (val_main_v42 (F := Ideal) X) (val_main_v44 (F := Ideal) X) (val_main_v156 (F := Ideal) X) (val_main_v66 (F := Ideal)) (val_main_v62 (F := Ideal)) _ _ b h d l).trans ?_
  exact step_ref X 9 (by omega) b h d l _ (st9 X b h d l)

/-- The state after chunk 10. -/
theorem st11 (X : FVec Ideal S32x2048x6144 .bf16) (b : Fin 32) (h : Fin 4) (d : Fin 256) (l : Fin 512) :
    val_main_v176 (F := Ideal) X (ix4 b h d l) = stateR X b h d l (10 * 64 + 64) := by
  unfold val_main_v176 val_main_v175 val_main_v174 val_main_v173 val_main_v172 val_main_v171 val_main_v170 val_main_v169 val_main_v168 val_main_v167
  refine (step_at 10 (by omega) (val_main_v42 (F := Ideal) X) (val_main_v44 (F := Ideal) X) (val_main_v166 (F := Ideal) X) (val_main_v66 (F := Ideal)) (val_main_v62 (F := Ideal)) _ _ b h d l).trans ?_
  exact step_ref X 10 (by omega) b h d l _ (st10 X b h d l)

/-- The state after chunk 11. -/
theorem st12 (X : FVec Ideal S32x2048x6144 .bf16) (b : Fin 32) (h : Fin 4) (d : Fin 256) (l : Fin 512) :
    val_main_v186 (F := Ideal) X (ix4 b h d l) = stateR X b h d l (11 * 64 + 64) := by
  unfold val_main_v186 val_main_v185 val_main_v184 val_main_v183 val_main_v182 val_main_v181 val_main_v180 val_main_v179 val_main_v178 val_main_v177
  refine (step_at 11 (by omega) (val_main_v42 (F := Ideal) X) (val_main_v44 (F := Ideal) X) (val_main_v176 (F := Ideal) X) (val_main_v66 (F := Ideal)) (val_main_v62 (F := Ideal)) _ _ b h d l).trans ?_
  exact step_ref X 11 (by omega) b h d l _ (st11 X b h d l)

/-- The state after chunk 12. -/
theorem st13 (X : FVec Ideal S32x2048x6144 .bf16) (b : Fin 32) (h : Fin 4) (d : Fin 256) (l : Fin 512) :
    val_main_v196 (F := Ideal) X (ix4 b h d l) = stateR X b h d l (12 * 64 + 64) := by
  unfold val_main_v196 val_main_v195 val_main_v194 val_main_v193 val_main_v192 val_main_v191 val_main_v190 val_main_v189 val_main_v188 val_main_v187
  refine (step_at 12 (by omega) (val_main_v42 (F := Ideal) X) (val_main_v44 (F := Ideal) X) (val_main_v186 (F := Ideal) X) (val_main_v66 (F := Ideal)) (val_main_v62 (F := Ideal)) _ _ b h d l).trans ?_
  exact step_ref X 12 (by omega) b h d l _ (st12 X b h d l)

/-- The state after chunk 13. -/
theorem st14 (X : FVec Ideal S32x2048x6144 .bf16) (b : Fin 32) (h : Fin 4) (d : Fin 256) (l : Fin 512) :
    val_main_v206 (F := Ideal) X (ix4 b h d l) = stateR X b h d l (13 * 64 + 64) := by
  unfold val_main_v206 val_main_v205 val_main_v204 val_main_v203 val_main_v202 val_main_v201 val_main_v200 val_main_v199 val_main_v198 val_main_v197
  refine (step_at 13 (by omega) (val_main_v42 (F := Ideal) X) (val_main_v44 (F := Ideal) X) (val_main_v196 (F := Ideal) X) (val_main_v66 (F := Ideal)) (val_main_v62 (F := Ideal)) _ _ b h d l).trans ?_
  exact step_ref X 13 (by omega) b h d l _ (st13 X b h d l)

/-- The state after chunk 14. -/
theorem st15 (X : FVec Ideal S32x2048x6144 .bf16) (b : Fin 32) (h : Fin 4) (d : Fin 256) (l : Fin 512) :
    val_main_v216 (F := Ideal) X (ix4 b h d l) = stateR X b h d l (14 * 64 + 64) := by
  unfold val_main_v216 val_main_v215 val_main_v214 val_main_v213 val_main_v212 val_main_v211 val_main_v210 val_main_v209 val_main_v208 val_main_v207
  refine (step_at 14 (by omega) (val_main_v42 (F := Ideal) X) (val_main_v44 (F := Ideal) X) (val_main_v206 (F := Ideal) X) (val_main_v66 (F := Ideal)) (val_main_v62 (F := Ideal)) _ _ b h d l).trans ?_
  exact step_ref X 14 (by omega) b h d l _ (st14 X b h d l)

/-- The state after chunk 15. -/
theorem st16 (X : FVec Ideal S32x2048x6144 .bf16) (b : Fin 32) (h : Fin 4) (d : Fin 256) (l : Fin 512) :
    val_main_v226 (F := Ideal) X (ix4 b h d l) = stateR X b h d l (15 * 64 + 64) := by
  unfold val_main_v226 val_main_v225 val_main_v224 val_main_v223 val_main_v222 val_main_v221 val_main_v220 val_main_v219 val_main_v218 val_main_v217
  refine (step_at 15 (by omega) (val_main_v42 (F := Ideal) X) (val_main_v44 (F := Ideal) X) (val_main_v216 (F := Ideal) X) (val_main_v66 (F := Ideal)) (val_main_v62 (F := Ideal)) _ _ b h d l).trans ?_
  exact step_ref X 15 (by omega) b h d l _ (st15 X b h d l)

/-- The state after chunk 16. -/
theorem st17 (X : FVec Ideal S32x2048x6144 .bf16) (b : Fin 32) (h : Fin 4) (d : Fin 256) (l : Fin 512) :
    val_main_v236 (F := Ideal) X (ix4 b h d l) = stateR X b h d l (16 * 64 + 64) := by
  unfold val_main_v236 val_main_v235 val_main_v234 val_main_v233 val_main_v232 val_main_v231 val_main_v230 val_main_v229 val_main_v228 val_main_v227
  refine (step_at 16 (by omega) (val_main_v42 (F := Ideal) X) (val_main_v44 (F := Ideal) X) (val_main_v226 (F := Ideal) X) (val_main_v66 (F := Ideal)) (val_main_v62 (F := Ideal)) _ _ b h d l).trans ?_
  exact step_ref X 16 (by omega) b h d l _ (st16 X b h d l)

/-- The state after chunk 17. -/
theorem st18 (X : FVec Ideal S32x2048x6144 .bf16) (b : Fin 32) (h : Fin 4) (d : Fin 256) (l : Fin 512) :
    val_main_v246 (F := Ideal) X (ix4 b h d l) = stateR X b h d l (17 * 64 + 64) := by
  unfold val_main_v246 val_main_v245 val_main_v244 val_main_v243 val_main_v242 val_main_v241 val_main_v240 val_main_v239 val_main_v238 val_main_v237
  refine (step_at 17 (by omega) (val_main_v42 (F := Ideal) X) (val_main_v44 (F := Ideal) X) (val_main_v236 (F := Ideal) X) (val_main_v66 (F := Ideal)) (val_main_v62 (F := Ideal)) _ _ b h d l).trans ?_
  exact step_ref X 17 (by omega) b h d l _ (st17 X b h d l)

/-- The state after chunk 18. -/
theorem st19 (X : FVec Ideal S32x2048x6144 .bf16) (b : Fin 32) (h : Fin 4) (d : Fin 256) (l : Fin 512) :
    val_main_v256 (F := Ideal) X (ix4 b h d l) = stateR X b h d l (18 * 64 + 64) := by
  unfold val_main_v256 val_main_v255 val_main_v254 val_main_v253 val_main_v252 val_main_v251 val_main_v250 val_main_v249 val_main_v248 val_main_v247
  refine (step_at 18 (by omega) (val_main_v42 (F := Ideal) X) (val_main_v44 (F := Ideal) X) (val_main_v246 (F := Ideal) X) (val_main_v66 (F := Ideal)) (val_main_v62 (F := Ideal)) _ _ b h d l).trans ?_
  exact step_ref X 18 (by omega) b h d l _ (st18 X b h d l)

/-- The state after chunk 19. -/
theorem st20 (X : FVec Ideal S32x2048x6144 .bf16) (b : Fin 32) (h : Fin 4) (d : Fin 256) (l : Fin 512) :
    val_main_v266 (F := Ideal) X (ix4 b h d l) = stateR X b h d l (19 * 64 + 64) := by
  unfold val_main_v266 val_main_v265 val_main_v264 val_main_v263 val_main_v262 val_main_v261 val_main_v260 val_main_v259 val_main_v258 val_main_v257
  refine (step_at 19 (by omega) (val_main_v42 (F := Ideal) X) (val_main_v44 (F := Ideal) X) (val_main_v256 (F := Ideal) X) (val_main_v66 (F := Ideal)) (val_main_v62 (F := Ideal)) _ _ b h d l).trans ?_
  exact step_ref X 19 (by omega) b h d l _ (st19 X b h d l)

/-- The state after chunk 20. -/
theorem st21 (X : FVec Ideal S32x2048x6144 .bf16) (b : Fin 32) (h : Fin 4) (d : Fin 256) (l : Fin 512) :
    val_main_v276 (F := Ideal) X (ix4 b h d l) = stateR X b h d l (20 * 64 + 64) := by
  unfold val_main_v276 val_main_v275 val_main_v274 val_main_v273 val_main_v272 val_main_v271 val_main_v270 val_main_v269 val_main_v268 val_main_v267
  refine (step_at 20 (by omega) (val_main_v42 (F := Ideal) X) (val_main_v44 (F := Ideal) X) (val_main_v266 (F := Ideal) X) (val_main_v66 (F := Ideal)) (val_main_v62 (F := Ideal)) _ _ b h d l).trans ?_
  exact step_ref X 20 (by omega) b h d l _ (st20 X b h d l)

/-- The state after chunk 21. -/
theorem st22 (X : FVec Ideal S32x2048x6144 .bf16) (b : Fin 32) (h : Fin 4) (d : Fin 256) (l : Fin 512) :
    val_main_v286 (F := Ideal) X (ix4 b h d l) = stateR X b h d l (21 * 64 + 64) := by
  unfold val_main_v286 val_main_v285 val_main_v284 val_main_v283 val_main_v282 val_main_v281 val_main_v280 val_main_v279 val_main_v278 val_main_v277
  refine (step_at 21 (by omega) (val_main_v42 (F := Ideal) X) (val_main_v44 (F := Ideal) X) (val_main_v276 (F := Ideal) X) (val_main_v66 (F := Ideal)) (val_main_v62 (F := Ideal)) _ _ b h d l).trans ?_
  exact step_ref X 21 (by omega) b h d l _ (st21 X b h d l)

/-- The state after chunk 22. -/
theorem st23 (X : FVec Ideal S32x2048x6144 .bf16) (b : Fin 32) (h : Fin 4) (d : Fin 256) (l : Fin 512) :
    val_main_v296 (F := Ideal) X (ix4 b h d l) = stateR X b h d l (22 * 64 + 64) := by
  unfold val_main_v296 val_main_v295 val_main_v294 val_main_v293 val_main_v292 val_main_v291 val_main_v290 val_main_v289 val_main_v288 val_main_v287
  refine (step_at 22 (by omega) (val_main_v42 (F := Ideal) X) (val_main_v44 (F := Ideal) X) (val_main_v286 (F := Ideal) X) (val_main_v66 (F := Ideal)) (val_main_v62 (F := Ideal)) _ _ b h d l).trans ?_
  exact step_ref X 22 (by omega) b h d l _ (st22 X b h d l)

/-- The state after chunk 23. -/
theorem st24 (X : FVec Ideal S32x2048x6144 .bf16) (b : Fin 32) (h : Fin 4) (d : Fin 256) (l : Fin 512) :
    val_main_v306 (F := Ideal) X (ix4 b h d l) = stateR X b h d l (23 * 64 + 64) := by
  unfold val_main_v306 val_main_v305 val_main_v304 val_main_v303 val_main_v302 val_main_v301 val_main_v300 val_main_v299 val_main_v298 val_main_v297
  refine (step_at 23 (by omega) (val_main_v42 (F := Ideal) X) (val_main_v44 (F := Ideal) X) (val_main_v296 (F := Ideal) X) (val_main_v66 (F := Ideal)) (val_main_v62 (F := Ideal)) _ _ b h d l).trans ?_
  exact step_ref X 23 (by omega) b h d l _ (st23 X b h d l)

/-- The state after chunk 24. -/
theorem st25 (X : FVec Ideal S32x2048x6144 .bf16) (b : Fin 32) (h : Fin 4) (d : Fin 256) (l : Fin 512) :
    val_main_v316 (F := Ideal) X (ix4 b h d l) = stateR X b h d l (24 * 64 + 64) := by
  unfold val_main_v316 val_main_v315 val_main_v314 val_main_v313 val_main_v312 val_main_v311 val_main_v310 val_main_v309 val_main_v308 val_main_v307
  refine (step_at 24 (by omega) (val_main_v42 (F := Ideal) X) (val_main_v44 (F := Ideal) X) (val_main_v306 (F := Ideal) X) (val_main_v66 (F := Ideal)) (val_main_v62 (F := Ideal)) _ _ b h d l).trans ?_
  exact step_ref X 24 (by omega) b h d l _ (st24 X b h d l)

/-- The state after chunk 25. -/
theorem st26 (X : FVec Ideal S32x2048x6144 .bf16) (b : Fin 32) (h : Fin 4) (d : Fin 256) (l : Fin 512) :
    val_main_v326 (F := Ideal) X (ix4 b h d l) = stateR X b h d l (25 * 64 + 64) := by
  unfold val_main_v326 val_main_v325 val_main_v324 val_main_v323 val_main_v322 val_main_v321 val_main_v320 val_main_v319 val_main_v318 val_main_v317
  refine (step_at 25 (by omega) (val_main_v42 (F := Ideal) X) (val_main_v44 (F := Ideal) X) (val_main_v316 (F := Ideal) X) (val_main_v66 (F := Ideal)) (val_main_v62 (F := Ideal)) _ _ b h d l).trans ?_
  exact step_ref X 25 (by omega) b h d l _ (st25 X b h d l)

/-- The state after chunk 26. -/
theorem st27 (X : FVec Ideal S32x2048x6144 .bf16) (b : Fin 32) (h : Fin 4) (d : Fin 256) (l : Fin 512) :
    val_main_v336 (F := Ideal) X (ix4 b h d l) = stateR X b h d l (26 * 64 + 64) := by
  unfold val_main_v336 val_main_v335 val_main_v334 val_main_v333 val_main_v332 val_main_v331 val_main_v330 val_main_v329 val_main_v328 val_main_v327
  refine (step_at 26 (by omega) (val_main_v42 (F := Ideal) X) (val_main_v44 (F := Ideal) X) (val_main_v326 (F := Ideal) X) (val_main_v66 (F := Ideal)) (val_main_v62 (F := Ideal)) _ _ b h d l).trans ?_
  exact step_ref X 26 (by omega) b h d l _ (st26 X b h d l)

/-- The state after chunk 27. -/
theorem st28 (X : FVec Ideal S32x2048x6144 .bf16) (b : Fin 32) (h : Fin 4) (d : Fin 256) (l : Fin 512) :
    val_main_v346 (F := Ideal) X (ix4 b h d l) = stateR X b h d l (27 * 64 + 64) := by
  unfold val_main_v346 val_main_v345 val_main_v344 val_main_v343 val_main_v342 val_main_v341 val_main_v340 val_main_v339 val_main_v338 val_main_v337
  refine (step_at 27 (by omega) (val_main_v42 (F := Ideal) X) (val_main_v44 (F := Ideal) X) (val_main_v336 (F := Ideal) X) (val_main_v66 (F := Ideal)) (val_main_v62 (F := Ideal)) _ _ b h d l).trans ?_
  exact step_ref X 27 (by omega) b h d l _ (st27 X b h d l)

/-- The state after chunk 28. -/
theorem st29 (X : FVec Ideal S32x2048x6144 .bf16) (b : Fin 32) (h : Fin 4) (d : Fin 256) (l : Fin 512) :
    val_main_v356 (F := Ideal) X (ix4 b h d l) = stateR X b h d l (28 * 64 + 64) := by
  unfold val_main_v356 val_main_v355 val_main_v354 val_main_v353 val_main_v352 val_main_v351 val_main_v350 val_main_v349 val_main_v348 val_main_v347
  refine (step_at 28 (by omega) (val_main_v42 (F := Ideal) X) (val_main_v44 (F := Ideal) X) (val_main_v346 (F := Ideal) X) (val_main_v66 (F := Ideal)) (val_main_v62 (F := Ideal)) _ _ b h d l).trans ?_
  exact step_ref X 28 (by omega) b h d l _ (st28 X b h d l)

/-- The state after chunk 29. -/
theorem st30 (X : FVec Ideal S32x2048x6144 .bf16) (b : Fin 32) (h : Fin 4) (d : Fin 256) (l : Fin 512) :
    val_main_v366 (F := Ideal) X (ix4 b h d l) = stateR X b h d l (29 * 64 + 64) := by
  unfold val_main_v366 val_main_v365 val_main_v364 val_main_v363 val_main_v362 val_main_v361 val_main_v360 val_main_v359 val_main_v358 val_main_v357
  refine (step_at 29 (by omega) (val_main_v42 (F := Ideal) X) (val_main_v44 (F := Ideal) X) (val_main_v356 (F := Ideal) X) (val_main_v66 (F := Ideal)) (val_main_v62 (F := Ideal)) _ _ b h d l).trans ?_
  exact step_ref X 29 (by omega) b h d l _ (st29 X b h d l)

/-- The state after chunk 30. -/
theorem st31 (X : FVec Ideal S32x2048x6144 .bf16) (b : Fin 32) (h : Fin 4) (d : Fin 256) (l : Fin 512) :
    val_main_v376 (F := Ideal) X (ix4 b h d l) = stateR X b h d l (30 * 64 + 64) := by
  unfold val_main_v376 val_main_v375 val_main_v374 val_main_v373 val_main_v372 val_main_v371 val_main_v370 val_main_v369 val_main_v368 val_main_v367
  refine (step_at 30 (by omega) (val_main_v42 (F := Ideal) X) (val_main_v44 (F := Ideal) X) (val_main_v366 (F := Ideal) X) (val_main_v66 (F := Ideal)) (val_main_v62 (F := Ideal)) _ _ b h d l).trans ?_
  exact step_ref X 30 (by omega) b h d l _ (st30 X b h d l)

/-- The state after chunk 31. -/
theorem st32 (X : FVec Ideal S32x2048x6144 .bf16) (b : Fin 32) (h : Fin 4) (d : Fin 256) (l : Fin 512) :
    val_main_v386 (F := Ideal) X (ix4 b h d l) = stateR X b h d l (31 * 64 + 64) := by
  unfold val_main_v386 val_main_v385 val_main_v384 val_main_v383 val_main_v382 val_main_v381 val_main_v380 val_main_v379 val_main_v378 val_main_v377
  refine (step_at 31 (by omega) (val_main_v42 (F := Ideal) X) (val_main_v44 (F := Ideal) X) (val_main_v376 (F := Ideal) X) (val_main_v66 (F := Ideal)) (val_main_v62 (F := Ideal)) _ _ b h d l).trans ?_
  exact step_ref X 31 (by omega) b h d l _ (st31 X b h d l)

/-- The final state: every row of the sequence. -/
theorem s_ref (X : FVec Ideal S32x2048x6144 .bf16) (b : Fin 32) (h : Fin 4) (d : Fin 256) (l : Fin 512) :
    val_main_v386 (F := Ideal) X (ix4 b h d l) = stateR X b h d l 2048 := st32 X b h d l

end Cert.MixersRefIdeal.RefTerm
-- ==== Proof.MixPay.lean ====
module

public import proofs.«01_k».proof.Defs
public import proofs.«01_k».proof.Proof.MixRow
public import proofs.«01_k».proof.Proof.Gen.MixersIdeal.Skeleton
public import Idealize.ShloMosaic.Lib.Pointwise
public import Idealize.ShloMosaic.Lib.Pipeline.ValueKit

@[expose] public section
set_option maxRecDepth 16384

noncomputable section

open Idealize.ShloMosaic Idealize.ShloMosaic.TcCoe
open Cert.Proof.RetRow Cert.Proof.MixRow

/-! What each of the kernel's stores of the retention state holds, read at an index. -/

namespace Cert.MixersIdeal.RefValue
open Cert.MixersIdeal Cert.MixersIdeal.Gen

/-- One entry of the state after a chunk of 128 rows, from the one before it. -/
def chunk (L : ℝ) (K V : Fin 128 → EReal) (s : EReal) : EReal :=
  s * dec L 128 + ∑ j : Fin 128, (K j * dec L (128 - 1 - j.val)) * V j

/-- The named logarithm of head 0's decay. -/
theorem nl0 : Named.named (F := Ideal) (φ := .f32) κ "log_g0" 0xBD020AEC#32 = (lg 0 : EReal) := by
  show ((Real.log (31/32) : ℝ) : EReal) = _
  unfold lg; norm_num

/-- The named decay of head 0 over a chunk. -/
theorem ng0 : Named.named (F := Ideal) (φ := .f32) κ "g128_0" 0x3C8CC36A#32 = dec (lg 0) 128 := by
  rw [g128_lg]
  show ((_ : ℝ) : EReal) = _
  congr 1; norm_num

/-- The named logarithm of head 1's decay. -/
theorem nl1 : Named.named (F := Ideal) (φ := .f32) κ "log_g1" 0xBC8102B3#32 = (lg 1 : EReal) := by
  show ((Real.log (63/64) : ℝ) : EReal) = _
  unfold lg; norm_num

/-- The named decay of head 1 over a chunk. -/
theorem ng1 : Named.named (F := Ideal) (φ := .f32) κ "g128_1" 0x3E08698E#32 = dec (lg 1) 128 := by
  rw [g128_lg]
  show ((_ : ℝ) : EReal) = _
  congr 1; norm_num

/-- The named logarithm of head 2's decay. -/
theorem nl2 : Named.named (F := Ideal) (φ := .f32) κ "log_g2" 0xBC0080AC#32 = (lg 2 : EReal) := by
  show ((Real.log (127/128) : ℝ) : EReal) = _
  unfold lg; norm_num

/-- The named decay of head 2 over a chunk. -/
theorem ng2 : Named.named (F := Ideal) (φ := .f32) κ "g128_2" 0x3EBB9DB9#32 = dec (lg 2) 128 := by
  rw [g128_lg]
  show ((_ : ℝ) : EReal) = _
  congr 1; norm_num

/-- The named logarithm of head 3's decay. -/
theorem nl3 : Named.named (F := Ideal) (φ := .f32) κ "log_g3" 0xBB80402B#32 = (lg 3 : EReal) := by
  show ((Real.log (255/256) : ℝ) : EReal) = _
  unfold lg; norm_num

/-- The named decay of head 3 over a chunk. -/
theorem ng3 : Named.named (F := Ideal) (φ := .f32) κ "g128_3" 0x3F1B1EB1#32 = dec (lg 3) 128 := by
  rw [g128_lg]
  show ((_ : ℝ) : EReal) = _
  congr 1; norm_num

/-- The state of head 0 stored after the step's first chunk, read at an index. -/
theorem s00_at (C Sn : FVec Ideal S128x128 .f32) (K : FVec Ideal S128x256 .bf16) (V : FVec Ideal S128x512 .bf16) (S : FVec Ideal S1x1x1x256x512 .f32) (d : Fin 256) (l : Fin 512) :
    k0_pay955 (F := Ideal) k0_pay945 (k0_pay949 (k0_pay946 C) (k0_pay947 Sn) K) (k0_pay950 V) S (ix5 0 0 0 d l)
      = chunk (lg 0) (fun j => key (fun d => K (ix2 j d)) (fun d => C (ix2 j d)) (fun d => Sn (ix2 j d)) d) (fun j => V (ix2 j l)) (S (ix5 0 0 0 d l)) := by
  pointwise [k0_pay955, k0_pay945, k0_pay949, k0_pay946, k0_pay947, k0_pay950, k0_pay953, float_nat, word127, word128, nl0, ng0, kd128_at, lt128, chunk, key, rope]

/-- The state of head 1 stored after the step's first chunk, read at an index. -/
theorem s10_at (C Sn : FVec Ideal S128x128 .f32) (K : FVec Ideal S128x256 .bf16) (V : FVec Ideal S128x512 .bf16) (S : FVec Ideal S1x1x1x256x512 .f32) (d : Fin 256) (l : Fin 512) :
    k0_pay969 (F := Ideal) (k0_pay961 V) (k0_pay967 S) (k0_pay968 k0_pay945 (k0_pay960 (k0_pay946 C) (k0_pay947 Sn) K)) (constant S256x512 .f32 0x00000000#32) (ix5 0 0 0 d l)
      = chunk (lg 1) (fun j => key (fun d => K (ix2 j d)) (fun d => C (ix2 j d)) (fun d => Sn (ix2 j d)) d) (fun j => V (ix2 j l)) (S (ix5 0 0 0 d l)) := by
  pointwise [k0_pay969, k0_pay961, k0_pay967, k0_pay968, k0_pay945, k0_pay960, k0_pay946, k0_pay947, k0_pay965, float_nat, word127, word128, nl1, ng1, kd128_at, lt128, chunk, key, rope]

/-- The state of head 2 stored after the step's first chunk, read at an index. -/
theorem s20_at (C Sn : FVec Ideal S128x128 .f32) (K : FVec Ideal S128x256 .bf16) (V : FVec Ideal S128x512 .bf16) (S : FVec Ideal S1x1x1x256x512 .f32) (d : Fin 256) (l : Fin 512) :
    k0_pay980 (F := Ideal) (k0_pay973 (k0_pay972 (k0_pay946 C) (k0_pay947 Sn) K)) (k0_pay974 V) (k0_pay976 S) (k0_pay978 (F := Ideal) k0_pay945) (k0_pay979 k0_pay945) (ix5 0 0 0 d l)
      = chunk (lg 2) (fun j => key (fun d => K (ix2 j d)) (fun d => C (ix2 j d)) (fun d => Sn (ix2 j d)) d) (fun j => V (ix2 j l)) (S (ix5 0 0 0 d l)) := by
  pointwise [k0_pay980, k0_pay973, k0_pay972, k0_pay946, k0_pay947, k0_pay974, k0_pay976, k0_pay978, k0_pay945, k0_pay979, float_nat, word127, word128, nl2, ng2, kd128_at, lt128, chunk, key, rope]

/-- The state of head 3 stored after the step's first chunk, read at an index. -/
theorem s30_at (C Sn : FVec Ideal S128x128 .f32) (K : FVec Ideal S128x256 .bf16) (V : FVec Ideal S128x512 .bf16) (S : FVec Ideal S1x1x1x256x512 .f32) (d : Fin 256) (l : Fin 512) :
    k0_pay994 (F := Ideal) k0_pay945 (k0_pay988 (k0_pay946 C) (k0_pay947 Sn) K) (k0_pay989 V) (k0_pay991 S) (ix5 0 0 0 d l)
      = chunk (lg 3) (fun j => key (fun d => K (ix2 j d)) (fun d => C (ix2 j d)) (fun d => Sn (ix2 j d)) d) (fun j => V (ix2 j l)) (S (ix5 0 0 0 d l)) := by
  pointwise [k0_pay994, k0_pay945, k0_pay988, k0_pay946, k0_pay947, k0_pay989, k0_pay991, float_nat, word127, word128, nl3, ng3, kd128_at, lt128, chunk, key, rope]

/-- The state of head 0 stored after the step's second chunk, read at an index. -/
theorem s01_at (C Sn : FVec Ideal S128x128 .f32) (K : FVec Ideal S128x256 .bf16) (V : FVec Ideal S128x512 .bf16) (S : FVec Ideal S1x1x1x256x512 .f32) (d : Fin 256) (l : Fin 512) :
    k0_pay1010 (F := Ideal) (k0_pay1008 S) (k0_pay1009 k0_pay945 (k0_pay1001 C Sn K) (k0_pay1002 V)) (ix5 0 0 0 d l)
      = chunk (lg 0) (fun j => key (fun d => K (ix2 j d)) (fun d => C (ix2 j d)) (fun d => Sn (ix2 j d)) d) (fun j => V (ix2 j l)) (S (ix5 0 0 0 d l)) := by
  pointwise [k0_pay1010, k0_pay1008, k0_pay1009, k0_pay945, k0_pay1001, k0_pay998, k0_pay999, k0_pay1002, k0_pay1006, float_nat, word127, word128, nl0, ng0, kd128_at, lt128, chunk, key, rope]

/-- The state of head 1 stored after the step's second chunk, read at an index. -/
theorem s11_at (C Sn : FVec Ideal S128x128 .f32) (K : FVec Ideal S128x256 .bf16) (V : FVec Ideal S128x512 .bf16) (S : FVec Ideal S1x1x1x256x512 .f32) (d : Fin 256) (l : Fin 512) :
    k0_pay1021 (F := Ideal) (k0_pay1014 (k0_pay1013 (k0_pay998 C) (k0_pay999 Sn) K) (Scalar.ofBits .f32 0x3D800000#32)) (k0_pay1015 V) (k0_pay1017 S) (k0_pay1019 (F := Ideal) k0_pay945) (k0_pay1020 k0_pay945) (Named.named κ "log_g1" 0xBC8102B3#32) (ix5 0 0 0 d l)
      = chunk (lg 1) (fun j => key (fun d => K (ix2 j d)) (fun d => C (ix2 j d)) (fun d => Sn (ix2 j d)) d) (fun j => V (ix2 j l)) (S (ix5 0 0 0 d l)) := by
  pointwise [k0_pay1021, k0_pay1014, k0_pay1013, k0_pay998, k0_pay999, k0_pay1015, k0_pay1017, k0_pay1019, k0_pay945, k0_pay1020, float_nat, word127, word128, nl1, ng1, kd128_at, lt128, chunk, key, rope]

/-- The state of head 2 stored after the step's second chunk, read at an index. -/
theorem s21_at (C Sn : FVec Ideal S128x128 .f32) (K : FVec Ideal S128x256 .bf16) (V : FVec Ideal S128x512 .bf16) (S : FVec Ideal S1x1x1x256x512 .f32) (d : Fin 256) (l : Fin 512) :
    k0_pay1036 (F := Ideal) k0_pay945 (k0_pay1030 (k0_pay998 C) (k0_pay999 Sn) K) (k0_pay1031 V) (k0_pay1033 S) (ix5 0 0 0 d l)
      = chunk (lg 2) (fun j => key (fun d => K (ix2 j d)) (fun d => C (ix2 j d)) (fun d => Sn (ix2 j d)) d) (fun j => V (ix2 j l)) (S (ix5 0 0 0 d l)) := by
  pointwise [k0_pay1036, k0_pay945, k0_pay1030, k0_pay998, k0_pay999, k0_pay1031, k0_pay1033, float_nat, word127, word128, nl2, ng2, kd128_at, lt128, chunk, key, rope]

/-- The state of head 3 stored after the step's second chunk, read at an index. -/
theorem s31_at (C Sn : FVec Ideal S128x128 .f32) (K : FVec Ideal S128x256 .bf16) (V : FVec Ideal S128x512 .bf16) (S : FVec Ideal S1x1x1x256x512 .f32) (d : Fin 256) (l : Fin 512) :
    k0_pay1048 (F := Ideal) k0_pay945 (k0_pay1040 (k0_pay998 C) (k0_pay999 Sn) K) (k0_pay1041 V) S (ix5 0 0 0 d l)
      = chunk (lg 3) (fun j => key (fun d => K (ix2 j d)) (fun d => C (ix2 j d)) (fun d => Sn (ix2 j d)) d) (fun j => V (ix2 j l)) (S (ix5 0 0 0 d l)) := by
  pointwise [k0_pay1048, k0_pay945, k0_pay1040, k0_pay998, k0_pay999, k0_pay1041, k0_pay1046, float_nat, word127, word128, nl3, ng3, kd128_at, lt128, chunk, key, rope]

/-- The state starts at zero. -/
theorem zero_at (h : Fin 4) (d : Fin 256) (l : Fin 512) : k0_pay4 (F := Ideal) (ix5 0 0 h d l) = 0 := by
  pointwise [k0_pay4]

/-- The last row of the projections, stored as the new shift row, read at an index. -/
theorem shift_at (X : FVec Ideal S256x3328 .bf16) (k : Fin 3328) : k0_pay7 (F := Ideal) X (ix4 0 0 0 k) = X (ix2 255 k) := by
  pointwise [k0_pay7, k0_pay5]

end Cert.MixersIdeal.RefValue
-- ==== Proof.MixQ.lean ====
module

public import proofs.«01_k».proof.Defs
public import proofs.«01_k».proof.Proof.MixRef
public import proofs.«01_k».proof.Proof.MixPay
public import proofs.«01_k».proof.Proof.Gen.MixersIdeal.Frame
public import Idealize.ShloMosaic.Lib.Pointwise
public import Idealize.ShloMosaic.Lib.Pipeline.ValueKit
public import Idealize.ShloMosaic.Lib.Pipeline.ReadBack
public import Idealize.ShloMosaic.Lib.Claim

@[expose] public section
set_option maxRecDepth 16384

noncomputable section

open Idealize.ShloMosaic Idealize.ShloMosaic.TcCoe Idealize.SL.Sem
open Idealize.ShloMosaic.Pipeline (Dat)
open Cert.Proof.RetRow Cert.Proof.MixRow

/-! What the retention state of the prompt batch is after each step of 256 rows. -/

namespace Cert.MixersIdeal.RefValue
open Cert.MixersIdeal Cert.MixersIdeal.Gen

/-- Stores over earlier stores that they cover leave what they would leave alone. -/
theorem canon_drop {s : Shape} {e : EltTy} (L L' : List (View.Piece (Elt Ideal) s e)) (y : s.Idx) (hc : ∃ p ∈ L, y ∈ p.1.set) :
    View.canon (L ++ L') y = View.canon L y := by
  induction L with
  | nil => obtain ⟨p, hp, _⟩ := hc; exact absurd hp List.not_mem_nil
  | cons p L ih =>
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem _ _ hm, View.canon_cons_of_not_mem _ _ hm]
      refine ih ?_
      obtain ⟨q, hq, hyq⟩ := hc
      rcases List.mem_cons.mp hq with rfl | hq'
      · exact absurd hyq hm
      · exact ⟨q, hq', hyq⟩

/-- One chunk of 128 rows, from row `n` of a step's block on, applied to an entry of head `h`'s state. -/
def half (Z : FVec Ideal S256x6144 .bf16) (C Sn : FVec Ideal S256x128 .f32) (h : Fin 4) (d : Fin 256) (l : Fin 512) (n : ℕ) (hn : n + 128 ≤ 256) (s : EReal) : EReal :=
  chunk (lg h.val) (fun j => key (fun d => Z (ix2 ⟨n + j.val, by omega⟩ ⟨1024 + h.val * 256 + d.val, by omega⟩)) (fun d => C (ix2 ⟨n + j.val, by omega⟩ d)) (fun d => Sn (ix2 ⟨n + j.val, by omega⟩ d)) d)
    (fun j => Z (ix2 ⟨n + j.val, by omega⟩ ⟨2048 + h.val * 512 + l.val, by omega⟩)) s

/-- A step's two chunks, applied to an entry of head `h`'s state. -/
def both (Z : FVec Ideal S256x6144 .bf16) (C Sn : FVec Ideal S256x128 .f32) (h : Fin 4) (d : Fin 256) (l : Fin 512) (s : EReal) : EReal :=
  half Z C Sn h d l 128 (by omega) (half Z C Sn h d l 0 (by omega) s)

/-- The state of head 0 stored after chunk 0 of a step, written out, read at an index. -/
theorem q00_at (C Sn : FVec Ideal S128x128 .f32) (K : FVec Ideal S128x256 .bf16) (V : FVec Ideal S128x512 .bf16) (S : FVec Ideal S1x1x1x256x512 .f32) (d : Fin 256) (l : Fin 512) :
    (k0_pay955 (F := Ideal) (sitofp (F := Ideal) .f32 (iota .tc S128x1 32 [0] iota_S128x1_d0_w32)) (k0_pay949 (shapeCast S128x128 C shapeCasts_S128x128_S128x128) (shapeCast S128x128 Sn shapeCasts_S128x128_S128x128) K) (k0_pay950 V) S) (ix5 0 0 0 d l)
      = chunk (lg 0) (fun j => key (fun d => K (ix2 j d)) (fun d => C (ix2 j d)) (fun d => Sn (ix2 j d)) d) (fun j => V (ix2 j l)) (S (ix5 0 0 0 d l)) := s00_at C Sn K V S d l

/-- The state of head 1 stored after chunk 0 of a step, written out, read at an index. -/
theorem q10_at (C Sn : FVec Ideal S128x128 .f32) (K : FVec Ideal S128x256 .bf16) (V : FVec Ideal S128x512 .bf16) (S : FVec Ideal S1x1x1x256x512 .f32) (d : Fin 256) (l : Fin 512) :
    (shapeCast S1x1x1x256x512 (addf (F := Ideal) (k0_pay967 S) (matmul dot_S256x128_S128x512_S256x512_1_0_0_1_n_n none (k0_pay968 (F := Ideal) (sitofp (F := Ideal) .f32 (iota .tc S128x1 32 [0] iota_S128x1_d0_w32)) (mulf (concatenate S128x256 1 [⟨S128x128, subf (mulf (extractStridedSlice S128x128 ![0, 0] (extf .f32 (shapeCast S128x256 K shapeCasts_S128x256_S128x256) bitsLt_bf16_f32) slices_S128x256_o0_0_S128x128) (shapeCast S128x128 C shapeCasts_S128x128_S128x128)) (mulf (extractStridedSlice S128x128 ![0, 128] (extf .f32 (shapeCast S128x256 K shapeCasts_S128x256_S128x256) bitsLt_bf16_f32) slices_S128x256_o0_128_S128x128) (shapeCast S128x128 Sn shapeCasts_S128x128_S128x128))⟩, ⟨S128x128, addf (mulf (extractStridedSlice S128x128 ![0, 0] (extf .f32 (shapeCast S128x256 K shapeCasts_S128x256_S128x256) bitsLt_bf16_f32) slices_S128x256_o0_0_S128x128) (shapeCast S128x128 Sn shapeCasts_S128x128_S128x128)) (mulf (extractStridedSlice S128x128 ![0, 128] (extf .f32 (shapeCast S128x256 K shapeCasts_S128x256_S128x256) bitsLt_bf16_f32) slices_S128x256_o0_128_S128x128) (shapeCast S128x128 C shapeCasts_S128x128_S128x128))⟩] concatenates_S128x128_S128x128_S128x256_d1) (broadcast S128x256 (FloatOps.ofBits (F := Ideal) .f32 0x3D800000#32)))) (shapeCast S128x512 V shapeCasts_S128x512_S128x512) (constant (F := Ideal) S256x512 .f32 0x00000000#32))) shapeCasts_S256x512_S1x1x1x256x512) (ix5 0 0 0 d l)
      = chunk (lg 1) (fun j => key (fun d => K (ix2 j d)) (fun d => C (ix2 j d)) (fun d => Sn (ix2 j d)) d) (fun j => V (ix2 j l)) (S (ix5 0 0 0 d l)) := s10_at C Sn K V S d l

/-- The state of head 2 stored after chunk 0 of a step, written out, read at an index. -/
theorem q20_at (C Sn : FVec Ideal S128x128 .f32) (K : FVec Ideal S128x256 .bf16) (V : FVec Ideal S128x512 .bf16) (S : FVec Ideal S1x1x1x256x512 .f32) (d : Fin 256) (l : Fin 512) :
    (k0_pay980 (F := Ideal) (k0_pay973 (concatenate S128x256 1 [⟨S128x128, subf (mulf (extractStridedSlice S128x128 ![0, 0] (extf .f32 (shapeCast S128x256 K shapeCasts_S128x256_S128x256) bitsLt_bf16_f32) slices_S128x256_o0_0_S128x128) (shapeCast S128x128 C shapeCasts_S128x128_S128x128)) (mulf (extractStridedSlice S128x128 ![0, 128] (extf .f32 (shapeCast S128x256 K shapeCasts_S128x256_S128x256) bitsLt_bf16_f32) slices_S128x256_o0_128_S128x128) (shapeCast S128x128 Sn shapeCasts_S128x128_S128x128))⟩, ⟨S128x128, addf (mulf (extractStridedSlice S128x128 ![0, 0] (extf .f32 (shapeCast S128x256 K shapeCasts_S128x256_S128x256) bitsLt_bf16_f32) slices_S128x256_o0_0_S128x128) (shapeCast S128x128 Sn shapeCasts_S128x128_S128x128)) (mulf (extractStridedSlice S128x128 ![0, 128] (extf .f32 (shapeCast S128x256 K shapeCasts_S128x256_S128x256) bitsLt_bf16_f32) slices_S128x256_o0_128_S128x128) (shapeCast S128x128 C shapeCasts_S128x128_S128x128))⟩] concatenates_S128x128_S128x128_S128x256_d1)) (k0_pay974 V) (k0_pay976 S) (k0_pay978 (F := Ideal) (sitofp (F := Ideal) .f32 (iota .tc S128x1 32 [0] iota_S128x1_d0_w32))) (k0_pay979 (F := Ideal) (sitofp (F := Ideal) .f32 (iota .tc S128x1 32 [0] iota_S128x1_d0_w32)))) (ix5 0 0 0 d l)
      = chunk (lg 2) (fun j => key (fun d => K (ix2 j d)) (fun d => C (ix2 j d)) (fun d => Sn (ix2 j d)) d) (fun j => V (ix2 j l)) (S (ix5 0 0 0 d l)) := s20_at C Sn K V S d l

/-- The state of head 3 stored after chunk 0 of a step, written out, read at an index. -/
theorem q30_at (C Sn : FVec Ideal S128x128 .f32) (K : FVec Ideal S128x256 .bf16) (V : FVec Ideal S128x512 .bf16) (S : FVec Ideal S1x1x1x256x512 .f32) (d : Fin 256) (l : Fin 512) :
    (k0_pay994 (F := Ideal) (sitofp (F := Ideal) .f32 (iota .tc S128x1 32 [0] iota_S128x1_d0_w32)) (k0_pay988 (shapeCast S128x128 C shapeCasts_S128x128_S128x128) (shapeCast S128x128 Sn shapeCasts_S128x128_S128x128) K) (k0_pay989 V) (k0_pay991 S)) (ix5 0 0 0 d l)
      = chunk (lg 3) (fun j => key (fun d => K (ix2 j d)) (fun d => C (ix2 j d)) (fun d => Sn (ix2 j d)) d) (fun j => V (ix2 j l)) (S (ix5 0 0 0 d l)) := s30_at C Sn K V S d l

/-- The state of head 0 stored after chunk 1 of a step, written out, read at an index. -/
theorem q01_at (C Sn : FVec Ideal S128x128 .f32) (K : FVec Ideal S128x256 .bf16) (V : FVec Ideal S128x512 .bf16) (S : FVec Ideal S1x1x1x256x512 .f32) (d : Fin 256) (l : Fin 512) :
    (shapeCast S1x1x1x256x512 (addf (F := Ideal) (k0_pay1008 S) (k0_pay1009 (sitofp (F := Ideal) .f32 (iota .tc S128x1 32 [0] iota_S128x1_d0_w32)) (mulf (concatenate S128x256 1 [⟨S128x128, subf (mulf (extractStridedSlice S128x128 ![0, 0] (extf .f32 (shapeCast S128x256 K shapeCasts_S128x256_S128x256) bitsLt_bf16_f32) slices_S128x256_o0_0_S128x128) (shapeCast S128x128 C shapeCasts_S128x128_S128x128)) (mulf (extractStridedSlice S128x128 ![0, 128] (extf .f32 (shapeCast S128x256 K shapeCasts_S128x256_S128x256) bitsLt_bf16_f32) slices_S128x256_o0_128_S128x128) (shapeCast S128x128 Sn shapeCasts_S128x128_S128x128))⟩, ⟨S128x128, addf (mulf (extractStridedSlice S128x128 ![0, 0] (extf .f32 (shapeCast S128x256 K shapeCasts_S128x256_S128x256) bitsLt_bf16_f32) slices_S128x256_o0_0_S128x128) (shapeCast S128x128 Sn shapeCasts_S128x128_S128x128)) (mulf (extractStridedSlice S128x128 ![0, 128] (extf .f32 (shapeCast S128x256 K shapeCasts_S128x256_S128x256) bitsLt_bf16_f32) slices_S128x256_o0_128_S128x128) (shapeCast S128x128 C shapeCasts_S128x128_S128x128))⟩] concatenates_S128x128_S128x128_S128x256_d1) (broadcast S128x256 (FloatOps.ofBits (F := Ideal) .f32 0x3D800000#32))) (shapeCast S128x512 V shapeCasts_S128x512_S128x512))) shapeCasts_S256x512_S1x1x1x256x512) (ix5 0 0 0 d l)
      = chunk (lg 0) (fun j => key (fun d => K (ix2 j d)) (fun d => C (ix2 j d)) (fun d => Sn (ix2 j d)) d) (fun j => V (ix2 j l)) (S (ix5 0 0 0 d l)) := s01_at C Sn K V S d l

/-- The state of head 1 stored after chunk 1 of a step, written out, read at an index. -/
theorem q11_at (C Sn : FVec Ideal S128x128 .f32) (K : FVec Ideal S128x256 .bf16) (V : FVec Ideal S128x512 .bf16) (S : FVec Ideal S1x1x1x256x512 .f32) (d : Fin 256) (l : Fin 512) :
    (k0_pay1021 (F := Ideal) (k0_pay1014 (concatenate S128x256 1 [⟨S128x128, subf (mulf (extractStridedSlice S128x128 ![0, 0] (extf .f32 (shapeCast S128x256 K shapeCasts_S128x256_S128x256) bitsLt_bf16_f32) slices_S128x256_o0_0_S128x128) (shapeCast S128x128 C shapeCasts_S128x128_S128x128)) (mulf (extractStridedSlice S128x128 ![0, 128] (extf .f32 (shapeCast S128x256 K shapeCasts_S128x256_S128x256) bitsLt_bf16_f32) slices_S128x256_o0_128_S128x128) (shapeCast S128x128 Sn shapeCasts_S128x128_S128x128))⟩, ⟨S128x128, addf (mulf (extractStridedSlice S128x128 ![0, 0] (extf .f32 (shapeCast S128x256 K shapeCasts_S128x256_S128x256) bitsLt_bf16_f32) slices_S128x256_o0_0_S128x128) (shapeCast S128x128 Sn shapeCasts_S128x128_S128x128)) (mulf (extractStridedSlice S128x128 ![0, 128] (extf .f32 (shapeCast S128x256 K shapeCasts_S128x256_S128x256) bitsLt_bf16_f32) slices_S128x256_o0_128_S128x128) (shapeCast S128x128 C shapeCasts_S128x128_S128x128))⟩] concatenates_S128x128_S128x128_S128x256_d1) (FloatOps.ofBits (F := Ideal) .f32 0x3D800000#32)) (k0_pay1015 V) (k0_pay1017 S) (k0_pay1019 (F := Ideal) (sitofp (F := Ideal) .f32 (iota .tc S128x1 32 [0] iota_S128x1_d0_w32))) (k0_pay1020 (F := Ideal) (sitofp (F := Ideal) .f32 (iota .tc S128x1 32 [0] iota_S128x1_d0_w32))) (Named.named κ "log_g1" 0xBC8102B3#32)) (ix5 0 0 0 d l)
      = chunk (lg 1) (fun j => key (fun d => K (ix2 j d)) (fun d => C (ix2 j d)) (fun d => Sn (ix2 j d)) d) (fun j => V (ix2 j l)) (S (ix5 0 0 0 d l)) := s11_at C Sn K V S d l

/-- The state of head 2 stored after chunk 1 of a step, written out, read at an index. -/
theorem q21_at (C Sn : FVec Ideal S128x128 .f32) (K : FVec Ideal S128x256 .bf16) (V : FVec Ideal S128x512 .bf16) (S : FVec Ideal S1x1x1x256x512 .f32) (d : Fin 256) (l : Fin 512) :
    (k0_pay1036 (F := Ideal) (sitofp (F := Ideal) .f32 (iota .tc S128x1 32 [0] iota_S128x1_d0_w32)) (k0_pay1030 (shapeCast S128x128 C shapeCasts_S128x128_S128x128) (shapeCast S128x128 Sn shapeCasts_S128x128_S128x128) K) (k0_pay1031 V) (k0_pay1033 S)) (ix5 0 0 0 d l)
      = chunk (lg 2) (fun j => key (fun d => K (ix2 j d)) (fun d => C (ix2 j d)) (fun d => Sn (ix2 j d)) d) (fun j => V (ix2 j l)) (S (ix5 0 0 0 d l)) := s21_at C Sn K V S d l

/-- The state of head 3 stored after chunk 1 of a step, written out, read at an index. -/
theorem q31_at (C Sn : FVec Ideal S128x128 .f32) (K : FVec Ideal S128x256 .bf16) (V : FVec Ideal S128x512 .bf16) (S : FVec Ideal S1x1x1x256x512 .f32) (d : Fin 256) (l : Fin 512) :
    (k0_pay1048 (F := Ideal) (sitofp (F := Ideal) .f32 (iota .tc S128x1 32 [0] iota_S128x1_d0_w32)) (k0_pay1040 (shapeCast S128x128 C shapeCasts_S128x128_S128x128) (shapeCast S128x128 Sn shapeCasts_S128x128_S128x128) K) (k0_pay1041 V) S) (ix5 0 0 0 d l)
      = chunk (lg 3) (fun j => key (fun d => K (ix2 j d)) (fun d => C (ix2 j d)) (fun d => Sn (ix2 j d)) d) (fun j => V (ix2 j l)) (S (ix5 0 0 0 d l)) := s31_at C Sn K V S d l

end Cert.MixersIdeal.RefValue
-- ==== Proof.MixState.lean ====
module

public import proofs.«01_k».proof.Defs
public import proofs.«01_k».proof.Proof.MixRef
public import proofs.«01_k».proof.Proof.MixQ
public import proofs.«01_k».proof.Proof.Gen.MixersIdeal.Frame
public import Idealize.ShloMosaic.Lib.Pointwise
public import Idealize.ShloMosaic.Lib.Pipeline.ValueKit
public import Idealize.ShloMosaic.Lib.Pipeline.ReadBack
public import Idealize.ShloMosaic.Lib.Claim

@[expose] public section
set_option maxRecDepth 16384

noncomputable section

open Idealize.ShloMosaic Idealize.ShloMosaic.TcCoe Idealize.SL.Sem
open Idealize.ShloMosaic.Pipeline (Dat)
open Cert.Proof.RetRow Cert.Proof.MixRow

/-! What the retention state of the prompt batch is after each step of 256 rows. -/

namespace Cert.MixersIdeal.RefValue
open Cert.MixersIdeal Cert.MixersIdeal.Gen

variable (m : (ℓ : Loc nD τ sig) → Buf (Elt Ideal) ℓ)

/-- A sequence's first step starts its state from zero. -/
theorem stateA (c : Dev nD) (t : Fin cfg0.N) (h0 : t.val % 8 = 0) (h : Fin 4) (d : Fin 256) (l : Fin 512) :
    (outsAt0 m c t.val t.isLt).2.2.2.2.1 (ix5 0 0 h d l) = both (iblk m c 1 t) (iblk m c 2 t) (iblk m c 3 t) h d l 0 := by
  rw [outsAt0_A m c t h0]; dsimp only; frame_open; simp (disch := decide) only [↓ View.readCov_skip, ↓ View.readCov_cons_toLoadRect, ↓ View.readCov_fill]; frame_out
  refine (canon_drop [_, _, _, _] [_, _, _, _, _] _ (View.cover_of_tiled_head _ _ _ rfl _)).trans ?_
  canon_tiles x hx
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext hx3
    obtain rfl : l = l' := Fin.ext hx4
    obtain rfl : h = 3 := Fin.ext hx2
    clear x0_lt x1_lt x2_lt x3_lt x4_lt hx0 hx1 hx2 hx3 hx4
    generalize (iblk m c 1 t) = Z
    generalize (iblk m c 2 t) = C
    generalize (iblk m c 3 t) = Sn
    change FVec Ideal S256x6144 .bf16 at Z
    change FVec Ideal S256x128 .f32 at C
    change FVec Ideal S256x128 .f32 at Sn
    refine (q31_at _ _ _ _ _ d l).trans ?_
    refine Eq.trans (congrArg (chunk _ _ _) (q30_at _ _ _ _ _ d l)) ?_
    try simp only [Memref.IsWhole.read_unread]
    unfold both half
    pointwise
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext hx3
    obtain rfl : l = l' := Fin.ext hx4
    obtain rfl : h = 2 := Fin.ext hx2
    clear x0_lt x1_lt x2_lt x3_lt x4_lt hx0 hx1 hx2 hx3 hx4
    generalize (iblk m c 1 t) = Z
    generalize (iblk m c 2 t) = C
    generalize (iblk m c 3 t) = Sn
    change FVec Ideal S256x6144 .bf16 at Z
    change FVec Ideal S256x128 .f32 at C
    change FVec Ideal S256x128 .f32 at Sn
    refine (q21_at _ _ _ _ _ d l).trans ?_
    refine Eq.trans (congrArg (chunk _ _ _) (q20_at _ _ _ _ _ d l)) ?_
    try simp only [Memref.IsWhole.read_unread]
    unfold both half
    pointwise
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext hx3
    obtain rfl : l = l' := Fin.ext hx4
    obtain rfl : h = 1 := Fin.ext hx2
    clear x0_lt x1_lt x2_lt x3_lt x4_lt hx0 hx1 hx2 hx3 hx4
    generalize (iblk m c 1 t) = Z
    generalize (iblk m c 2 t) = C
    generalize (iblk m c 3 t) = Sn
    change FVec Ideal S256x6144 .bf16 at Z
    change FVec Ideal S256x128 .f32 at C
    change FVec Ideal S256x128 .f32 at Sn
    refine (q11_at _ _ _ _ _ d l).trans ?_
    refine Eq.trans (congrArg (chunk _ _ _) (q10_at _ _ _ _ _ d l)) ?_
    try simp only [Memref.IsWhole.read_unread]
    unfold both half
    pointwise
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext hx3
    obtain rfl : l = l' := Fin.ext hx4
    obtain rfl : h = 0 := Fin.ext hx2
    clear x0_lt x1_lt x2_lt x3_lt x4_lt hx0 hx1 hx2 hx3 hx4
    generalize (iblk m c 1 t) = Z
    generalize (iblk m c 2 t) = C
    generalize (iblk m c 3 t) = Sn
    change FVec Ideal S256x6144 .bf16 at Z
    change FVec Ideal S256x128 .f32 at C
    change FVec Ideal S256x128 .f32 at Sn
    refine (q01_at _ _ _ _ _ d l).trans ?_
    refine Eq.trans (congrArg (chunk _ _ _) (q00_at _ _ _ _ _ d l)) ?_
    try simp only [Memref.IsWhole.read_unread]
    unfold both half
    pointwise

/-- Every later step starts from the state the step before left. -/
theorem stateB (c : Dev nD) (t : Fin cfg0.N) (h0 : ¬t.val % 8 = 0) (h : Fin 4) (d : Fin 256) (l : Fin 512) :
    (outsAt0 m c t.val t.isLt).2.2.2.2.1 (ix5 0 0 h d l) = both (iblk m c 1 t) (iblk m c 2 t) (iblk m c 3 t) h d l ((outsAt0 m c (t.val - 1) (Nat.lt_of_le_of_lt (Nat.sub_le _ _) t.isLt)).2.2.2.2.1 (ix5 0 0 h d l)) := by
  rw [outsAt0_B m c t h0]; dsimp only; frame_open; simp (disch := decide) only [↓ View.readCov_skip, ↓ View.readCov_cons_toLoadRect, ↓ View.readCov_fill]; frame_out
  refine (canon_drop [_, _, _, _] [_, _, _, _] _ (View.cover_of_tiled_head _ _ _ rfl _)).trans ?_
  canon_tiles x hx
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext hx3
    obtain rfl : l = l' := Fin.ext hx4
    obtain rfl : h = 3 := Fin.ext hx2
    clear x0_lt x1_lt x2_lt x3_lt x4_lt hx0 hx1 hx2 hx3 hx4
    generalize (iblk m c 1 t) = Z
    generalize (iblk m c 2 t) = C
    generalize (iblk m c 3 t) = Sn
    change FVec Ideal S256x6144 .bf16 at Z
    change FVec Ideal S256x128 .f32 at C
    change FVec Ideal S256x128 .f32 at Sn
    generalize (outsAt0 m c (t.val - 1) (Nat.lt_of_le_of_lt (Nat.sub_le _ _) t.isLt)).2.2.2.2.1 = P
    change FVec Ideal S1x1x4x256x512 .f32 at P
    refine (q31_at _ _ _ _ _ d l).trans ?_
    refine Eq.trans (congrArg (chunk _ _ _) (q30_at _ _ _ _ _ d l)) ?_
    try simp only [Memref.IsWhole.read_unread]
    unfold both half
    pointwise
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext hx3
    obtain rfl : l = l' := Fin.ext hx4
    obtain rfl : h = 2 := Fin.ext hx2
    clear x0_lt x1_lt x2_lt x3_lt x4_lt hx0 hx1 hx2 hx3 hx4
    generalize (iblk m c 1 t) = Z
    generalize (iblk m c 2 t) = C
    generalize (iblk m c 3 t) = Sn
    change FVec Ideal S256x6144 .bf16 at Z
    change FVec Ideal S256x128 .f32 at C
    change FVec Ideal S256x128 .f32 at Sn
    generalize (outsAt0 m c (t.val - 1) (Nat.lt_of_le_of_lt (Nat.sub_le _ _) t.isLt)).2.2.2.2.1 = P
    change FVec Ideal S1x1x4x256x512 .f32 at P
    refine (q21_at _ _ _ _ _ d l).trans ?_
    refine Eq.trans (congrArg (chunk _ _ _) (q20_at _ _ _ _ _ d l)) ?_
    try simp only [Memref.IsWhole.read_unread]
    unfold both half
    pointwise
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext hx3
    obtain rfl : l = l' := Fin.ext hx4
    obtain rfl : h = 1 := Fin.ext hx2
    clear x0_lt x1_lt x2_lt x3_lt x4_lt hx0 hx1 hx2 hx3 hx4
    generalize (iblk m c 1 t) = Z
    generalize (iblk m c 2 t) = C
    generalize (iblk m c 3 t) = Sn
    change FVec Ideal S256x6144 .bf16 at Z
    change FVec Ideal S256x128 .f32 at C
    change FVec Ideal S256x128 .f32 at Sn
    generalize (outsAt0 m c (t.val - 1) (Nat.lt_of_le_of_lt (Nat.sub_le _ _) t.isLt)).2.2.2.2.1 = P
    change FVec Ideal S1x1x4x256x512 .f32 at P
    refine (q11_at _ _ _ _ _ d l).trans ?_
    refine Eq.trans (congrArg (chunk _ _ _) (q10_at _ _ _ _ _ d l)) ?_
    try simp only [Memref.IsWhole.read_unread]
    unfold both half
    pointwise
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext hx3
    obtain rfl : l = l' := Fin.ext hx4
    obtain rfl : h = 0 := Fin.ext hx2
    clear x0_lt x1_lt x2_lt x3_lt x4_lt hx0 hx1 hx2 hx3 hx4
    generalize (iblk m c 1 t) = Z
    generalize (iblk m c 2 t) = C
    generalize (iblk m c 3 t) = Sn
    change FVec Ideal S256x6144 .bf16 at Z
    change FVec Ideal S256x128 .f32 at C
    change FVec Ideal S256x128 .f32 at Sn
    generalize (outsAt0 m c (t.val - 1) (Nat.lt_of_le_of_lt (Nat.sub_le _ _) t.isLt)).2.2.2.2.1 = P
    change FVec Ideal S1x1x4x256x512 .f32 at P
    refine (q01_at _ _ _ _ _ d l).trans ?_
    refine Eq.trans (congrArg (chunk _ _ _) (q00_at _ _ _ _ _ d l)) ?_
    try simp only [Memref.IsWhole.read_unread]
    unfold both half
    pointwise

end Cert.MixersIdeal.RefValue
-- ==== Proof.ValMixers.lean ====
module

public import proofs.«01_k».proof.Defs
public import proofs.«01_k».proof.Proof.Gen.MixersIdeal.Frame
public import proofs.«01_k».proof.Proof.Gen.MixersRefIdeal.Run
public import proofs.«01_k».proof.Proof.Gen.MixersRefIdeal.Read
public import proofs.«01_k».proof.Proof.MixState
public import Idealize.ShloMosaic.Lib.Pointwise
public import Idealize.ShloMosaic.Lib.Pipeline.ValueKit
public import Idealize.ShloMosaic.Lib.Pipeline.ReadBack
public import Idealize.ShloMosaic.Lib.Claim

@[expose] public section
set_option maxRecDepth 16384

noncomputable section

open Idealize.ShloMosaic Idealize.ShloMosaic.TcCoe Idealize.SL.Sem
open Idealize.ShloMosaic.Pipeline (Dat)
open Cert.Proof.RetRow Cert.Proof.MixRow

/-! The prompt batch's new shift rows and its retention state after all 2048 rows. -/

namespace Cert.MixersIdeal.RefValue
open Cert.MixersIdeal Cert.MixersIdeal.Gen

variable (m : (ℓ : Loc nD τ sig) → Buf (Elt Ideal) ℓ)

/-- Grid point `t` stages rows `256 t` to `256 t + 255` of the projections and rows `256 (t mod 8)` on of the angles, and writes batch element `t / 8`'s shift row and state of the second layer. -/
theorem idx : ∀ t : Fin cfg0.N, win0_0.index t = ![t.val, 0] ∧ win0_1.index t = ![t.val, 0] ∧ win0_2.index t = ![t.val % 8, 0] ∧ win0_3.index t = ![t.val % 8, 0]
    ∧ win0_17.index t = ![1, t.val / 8, 0, 0] ∧ win0_19.index t = ![1, t.val / 8, 0, 0, 0] ∧ t.val < 256 :=
  (by decide +kernel : ∀ t : Fin grid0.N, _)

/-- The first projections given. -/
def ZA (c : Dev nD) : FVec Ideal S32x2048x3328 .bf16 := m ((c : Thread nD τ).loc main_arg0)

/-- The second projections given. -/
def ZB (c : Dev nD) : FVec Ideal S32x2048x6144 .bf16 := m ((c : Thread nD τ).loc main_arg1)

/-- The array the new shift rows are written into. -/
def PA (c : Dev nD) : FVec Ideal S2x32x1x3328 .f32 := m ((c : Thread nD τ).loc main_arg14)

/-- The array the new states are written into. -/
def PS (c : Dev nD) : FVec Ideal S2x32x4x256x512 .f32 := m ((c : Thread nD τ).loc main_arg15)

/-- The first projections as one table of rows. -/
def RA (c : Dev nD) : FVec Ideal S65536x3328 .bf16 := V m c main_v27

/-- The second projections as one table of rows. -/
def RB (c : Dev nD) : FVec Ideal S65536x6144 .bf16 := V m c main_v28

/-- The cosines. -/
def CT (c : Dev nD) : FVec Ideal S2048x128 .f32 := V m c main_v29

/-- The sines. -/
def ST (c : Dev nD) : FVec Ideal S2048x128 .f32 := V m c main_v30

/-- The rows of the first projections. -/
theorem ra_rows (c : Dev nD) : RA m c = shapeCast S65536x3328 (ZA m c) shapeCasts_S32x2048x3328_S65536x3328 := by
  unfold RA ZA
  simp only [V, V0, hostOps0, hostOps0_1, hostOps0_2, List.flatten_cons, List.flatten_nil, List.append_nil, List.cons_append, List.nil_append, StableHlo.after_cons, StableHlo.after_nil]
  after_results_simp
  try after_results_loop
  rfl

/-- The rows of the second projections. -/
theorem rb_rows (c : Dev nD) : RB m c = shapeCast S65536x6144 (ZB m c) shapeCasts_S32x2048x6144_S65536x6144 := by
  unfold RB ZB
  simp only [V, V0, hostOps0, hostOps0_1, hostOps0_2, List.flatten_cons, List.flatten_nil, List.append_nil, List.cons_append, List.nil_append, StableHlo.after_cons, StableHlo.after_nil]
  after_results_simp
  try after_results_loop
  rfl

/-- The angles the host tabulates: every position times each of the frequencies. -/
def angles : FVec Ideal S2048x128 .f32 :=
  mulf (broadcastInDim S2048x128 ![0, 1] bcast_S2048x1_S2048x128_0_1 (broadcastInDim S2048x1 ![0] bcast_S2048_S2048x1_0 (sitofp .f32 (addi (broadcastInDim S2048 ![] bcast_S_S2048 (constantI S_ 32 0#32)) (iotaInDim S2048 32 0)))))
    (broadcastInDim S2048x128 ![0, 1] bcast_S1x128_S2048x128_0_1 (broadcastInDim S1x128 ![1] bcast_S128_S1x128_1 (Cert.MixersRefIdeal.Read.val_main_v13 (F := Ideal))))

/-- The table of cosines, computed out. -/
theorem table_cos (c : Dev nD) : CT m c = Host.cos (angles) := by
  unfold CT
  simp only [V, V0, hostOps0, hostOps0_1, hostOps0_2, List.flatten_cons, List.flatten_nil, List.append_nil, List.cons_append, List.nil_append, StableHlo.after_cons, StableHlo.after_nil]
  after_results_simp
  try after_results_loop
  rfl

/-- The table of sines, computed out. -/
theorem table_sin (c : Dev nD) : ST m c = Host.sin (angles) := by
  unfold ST
  simp only [V, V0, hostOps0, hostOps0_1, hostOps0_2, List.flatten_cons, List.flatten_nil, List.append_nil, List.cons_append, List.nil_append, StableHlo.after_cons, StableHlo.after_nil]
  after_results_simp
  try after_results_loop
  rfl

/-- The host's angles are the reference's. -/
theorem angles_eq : angles = Cert.MixersRefIdeal.Read.val_main_v19 (F := Ideal) := by
  have e : addi (broadcastInDim S2048 ![] bcast_S_S2048 (constantI S_ 32 0#32)) (iotaInDim S2048 32 0) = Cert.MixersRefIdeal.Read.val_main_v0 (F := Ideal) := by
    funext i
    exact BitVec.zero_add _
  unfold angles
  rw [e]
  rfl

/-- The host's cosines are the reference's. -/
theorem ct_eq (c : Dev nD) : CT m c = Cert.MixersRefIdeal.Read.val_main_v20 (F := Ideal) := by
  rw [table_cos, angles_eq]
  rfl

/-- The host's sines are the reference's. -/
theorem st_eq (c : Dev nD) : ST m c = Cert.MixersRefIdeal.Read.val_main_v22 (F := Ideal) := by
  rw [table_sin, angles_eq]
  rfl

/-- The shift array starts as the previous one. -/
theorem entry_prev (c : Dev nD) : V m c main_v31_2 = PA m c := by
  unfold PA
  simp only [V, V0, hostOps0, hostOps0_1, hostOps0_2, List.flatten_cons, List.flatten_nil, List.append_nil, List.cons_append, List.nil_append, StableHlo.after_cons, StableHlo.after_nil]
  after_results_simp
  try after_results_loop
  try rfl

/-- The state array starts as the previous one. -/
theorem entry_state (c : Dev nD) : V m c main_v31_4 = PS m c := by
  unfold PS
  simp only [V, V0, hostOps0, hostOps0_1, hostOps0_2, List.flatten_cons, List.flatten_nil, List.append_nil, List.cons_append, List.nil_append, StableHlo.after_cons, StableHlo.after_nil]
  after_results_simp
  try after_results_loop
  try rfl

/-- Row `r` of batch element `b` in the table of first projections. -/
theorem ra_at (c : Dev nD) (b : Fin 32) (r : Fin 2048) (k : Fin 3328) (R : Fin 65536) (hR : R.val = b.val * 2048 + r.val) : RA m c (ix2 R k) = ZA m c (ix3 b r k) := by
  rw [ra_rows]
  have e1 : (⟨R.val / 2048, by omega⟩ : Fin 32) = b := Fin.ext (by show R.val / 2048 = b.val; omega)
  have e2 : (⟨R.val % 2048, by omega⟩ : Fin 2048) = r := Fin.ext (by show R.val % 2048 = r.val; omega)
  pointwise [e1, e2]

/-- Row `r` of batch element `b` in the table of second projections. -/
theorem rb_at (c : Dev nD) (b : Fin 32) (r : Fin 2048) (k : Fin 6144) (R : Fin 65536) (hR : R.val = b.val * 2048 + r.val) : RB m c (ix2 R k) = ZB m c (ix3 b r k) := by
  rw [rb_rows]
  have e1 : (⟨R.val / 2048, by omega⟩ : Fin 32) = b := Fin.ext (by show R.val / 2048 = b.val; omega)
  have e2 : (⟨R.val % 2048, by omega⟩ : Fin 2048) = r := Fin.ext (by show R.val % 2048 = r.val; omega)
  pointwise [e1, e2]

/-- The block of first projections. -/
theorem blk0 (c : Dev nD) (t : Fin cfg0.N) (r : Fin 256) (k : Fin 3328) (R : Fin 65536) (hR : R.val = t.val * 256 + r.val) :
    (show FVec Ideal S256x3328 .bf16 from iblk m c 0 t) (ix2 r k) = RA m c (ix2 R k) := by
  unfold RA
  blk_ext [iblk, idx t]

/-- The block of second projections. -/
theorem blk1 (c : Dev nD) (t : Fin cfg0.N) (r : Fin 256) (k : Fin 6144) (R : Fin 65536) (hR : R.val = t.val * 256 + r.val) :
    (show FVec Ideal S256x6144 .bf16 from iblk m c 1 t) (ix2 r k) = RB m c (ix2 R k) := by
  unfold RB
  blk_ext [iblk, idx t]

/-- The block of cosines. -/
theorem blk2 (c : Dev nD) (t : Fin cfg0.N) (r : Fin 256) (k : Fin 128) (R : Fin 2048) (hR : R.val = t.val % 8 * 256 + r.val) :
    (show FVec Ideal S256x128 .f32 from iblk m c 2 t) (ix2 r k) = CT m c (ix2 R k) := by
  unfold CT
  blk_ext [iblk, idx t]

/-- The block of sines. -/
theorem blk3 (c : Dev nD) (t : Fin cfg0.N) (r : Fin 256) (k : Fin 128) (R : Fin 2048) (hR : R.val = t.val % 8 * 256 + r.val) :
    (show FVec Ideal S256x128 .f32 from iblk m c 3 t) (ix2 r k) = ST m c (ix2 R k) := by
  unfold ST
  blk_ext [iblk, idx t]

/-- One chunk carries the reference's state on by 128 rows. -/
theorem half_state (Z : FVec Ideal S256x6144 .bf16) (C Sn : FVec Ideal S256x128 .f32) (X : FVec Ideal S32x2048x6144 .bf16) (b : Fin 32) (h : Fin 4) (d : Fin 256) (l : Fin 512)
    (n : ℕ) (hn : n + 128 ≤ 256) (N : ℕ) (hN : N + 128 ≤ 2048) (s : EReal)
    (hz : ∀ (j : Fin 128) (k : Fin 6144), Z (ix2 ⟨n + j.val, by omega⟩ k) = X (ix3 b ⟨N + j.val, by omega⟩ k))
    (hc : ∀ (j : Fin 128) (k : Fin 128), C (ix2 ⟨n + j.val, by omega⟩ k) = Cert.MixersRefIdeal.Read.val_main_v20 (F := Ideal) (ix2 ⟨N + j.val, by omega⟩ k))
    (hs : ∀ (j : Fin 128) (k : Fin 128), Sn (ix2 ⟨n + j.val, by omega⟩ k) = Cert.MixersRefIdeal.Read.val_main_v22 (F := Ideal) (ix2 ⟨N + j.val, by omega⟩ k))
    (h0 : s = Cert.MixersRefIdeal.RefTerm.stateR X b h d l N) :
    half Z C Sn h d l n hn s = Cert.MixersRefIdeal.RefTerm.stateR X b h d l (N + 128) := by
  unfold half chunk
  refine Eq.trans ?_ (state_128 (fun r k => X (ix3 b r k)) (fun r d => Cert.MixersRefIdeal.Read.val_main_v20 (F := Ideal) (ix2 r d)) (fun r d => Cert.MixersRefIdeal.Read.val_main_v22 (F := Ideal) (ix2 r d)) h d l N hN s h0)
  simp only [hz, hc, hs]

/-- A step carries the reference's state on by 256 rows. -/
theorem both_state (c : Dev nD) (t : Fin cfg0.N) (b : Fin 32) (hb : b.val = t.val / 8) (h : Fin 4) (d : Fin 256) (l : Fin 512) (s : EReal)
    (h0 : s = Cert.MixersRefIdeal.RefTerm.stateR (ZB m c) b h d l (t.val % 8 * 256)) :
    both (iblk m c 1 t) (iblk m c 2 t) (iblk m c 3 t) h d l s = Cert.MixersRefIdeal.RefTerm.stateR (ZB m c) b h d l (t.val % 8 * 256 + 256) := by
  have hb32 := b.isLt
  have e1 : ∀ (r : Fin 256) (k : Fin 6144), (show FVec Ideal S256x6144 .bf16 from iblk m c 1 t) (ix2 r k) = ZB m c (ix3 b ⟨t.val % 8 * 256 + r.val, by omega⟩ k) := fun r k =>
    (blk1 m c t r k ⟨t.val * 256 + r.val, by omega⟩ rfl).trans (rb_at m c b ⟨t.val % 8 * 256 + r.val, by omega⟩ k _ (by show t.val * 256 + r.val = b.val * 2048 + (t.val % 8 * 256 + r.val); omega))
  have e2 : ∀ (r : Fin 256) (k : Fin 128), (show FVec Ideal S256x128 .f32 from iblk m c 2 t) (ix2 r k) = Cert.MixersRefIdeal.Read.val_main_v20 (F := Ideal) (ix2 ⟨t.val % 8 * 256 + r.val, by omega⟩ k) := fun r k =>
    (blk2 m c t r k ⟨t.val % 8 * 256 + r.val, by omega⟩ rfl).trans (congrFun (ct_eq m c) _)
  have e3 : ∀ (r : Fin 256) (k : Fin 128), (show FVec Ideal S256x128 .f32 from iblk m c 3 t) (ix2 r k) = Cert.MixersRefIdeal.Read.val_main_v22 (F := Ideal) (ix2 ⟨t.val % 8 * 256 + r.val, by omega⟩ k) := fun r k =>
    (blk3 m c t r k ⟨t.val % 8 * 256 + r.val, by omega⟩ rfl).trans (congrFun (st_eq m c) _)
  have a : ∀ n j : ℕ, t.val % 8 * 256 + (n + j) = t.val % 8 * 256 + n + j := fun n j => (Nat.add_assoc _ _ _).symm
  unfold both
  refine half_state (iblk m c 1 t) (iblk m c 2 t) (iblk m c 3 t) (ZB m c) b h d l 128 (by omega) (t.val % 8 * 256 + 128) (by omega) _ (fun j k => ?_) (fun j k => ?_) (fun j k => ?_) ?_
  · refine (e1 ⟨128 + j.val, by omega⟩ k).trans (congrArg (fun r => ZB m c (ix3 b r k)) (Fin.ext (a 128 j.val)))
  · refine (e2 ⟨128 + j.val, by omega⟩ k).trans (congrArg (fun r => Cert.MixersRefIdeal.Read.val_main_v20 (F := Ideal) (ix2 r k)) (Fin.ext (a 128 j.val)))
  · refine (e3 ⟨128 + j.val, by omega⟩ k).trans (congrArg (fun r => Cert.MixersRefIdeal.Read.val_main_v22 (F := Ideal) (ix2 r k)) (Fin.ext (a 128 j.val)))
  refine half_state (iblk m c 1 t) (iblk m c 2 t) (iblk m c 3 t) (ZB m c) b h d l 0 (by omega) (t.val % 8 * 256) (by omega) _ (fun j k => ?_) (fun j k => ?_) (fun j k => ?_) h0
  · refine (e1 ⟨0 + j.val, by omega⟩ k).trans (congrArg (fun r => ZB m c (ix3 b r k)) (Fin.ext (a 0 j.val)))
  · refine (e2 ⟨0 + j.val, by omega⟩ k).trans (congrArg (fun r => Cert.MixersRefIdeal.Read.val_main_v20 (F := Ideal) (ix2 r k)) (Fin.ext (a 0 j.val)))
  · refine (e3 ⟨0 + j.val, by omega⟩ k).trans (congrArg (fun r => Cert.MixersRefIdeal.Read.val_main_v22 (F := Ideal) (ix2 r k)) (Fin.ext (a 0 j.val)))

/-- Before any row the reference's state is zero. -/
theorem state_zero (X : FVec Ideal S32x2048x6144 .bf16) (b : Fin 32) (h : Fin 4) (d : Fin 256) (l : Fin 512) : Cert.MixersRefIdeal.RefTerm.stateR X b h d l 0 = 0 := by
  rw [Cert.MixersRefIdeal.RefTerm.stateR, state, acc_zero]

/-- After grid point `n` the state held is the reference's over the rows the batch element has had so far. -/
theorem run_state (c : Dev nD) : ∀ (n : ℕ) (hn : n < cfg0.N) (b : Fin 32) (_ : b.val = n / 8) (h : Fin 4) (d : Fin 256) (l : Fin 512),
    (outsAt0 m c n hn).2.2.2.2.1 (ix5 0 0 h d l) = Cert.MixersRefIdeal.RefTerm.stateR (ZB m c) b h d l (n % 8 * 256 + 256) := by
  intro n
  induction n using Nat.strong_induction_on with
  | _ n ih =>
    intro hn b hb h d l
    by_cases h0 : n % 8 = 0
    · refine (stateA m c ⟨n, hn⟩ h0 h d l).trans (both_state m c ⟨n, hn⟩ b hb h d l 0 ?_)
      show 0 = Cert.MixersRefIdeal.RefTerm.stateR (ZB m c) b h d l (n % 8 * 256)
      rw [h0]
      exact (state_zero _ _ _ _ _).symm
    · refine (stateB m c ⟨n, hn⟩ h0 h d l).trans (both_state m c ⟨n, hn⟩ b hb h d l _ ?_)
      refine (ih (n - 1) (by omega) _ b (by omega) h d l).trans ?_
      exact congrArg (Cert.MixersRefIdeal.RefTerm.stateR (ZB m c) b h d l) (by show (n - 1) % 8 * 256 + 256 = n % 8 * 256; omega)

/-- The shift array's second layer. -/
def W17 (c : Dev nD) : S2x32x1x3328.Idx → EReal := fun i => ZA m c (ix3 (i 1) 2047 (i 3))

/-- The state array's second layer. -/
def W19 (c : Dev nD) : S2x32x4x256x512.Idx → EReal := fun i => Cert.MixersRefIdeal.RefTerm.stateR (ZB m c) (i 1) (i 2) (i 3) (i 4) 2048

/-- The shift row a grid point leaves, which is the last of its block's rows. -/
theorem shift_out (c : Dev nD) (t : Fin cfg0.N) (h0 : ¬t.val % 8 = 0) (k : Fin 3328) :
    (outsAt0 m c t.val t.isLt).2.2.1 (ix4 0 0 0 k) = (show FVec Ideal S256x3328 .bf16 from iblk m c 0 t) (ix2 255 k) := by
  rw [outsAt0_B m c t h0]; dsimp only; frame_open; simp (disch := decide) only [↓ View.readCov_skip, ↓ View.readCov_cons_toLoadRect, ↓ View.readCov_fill]; frame_out
  exact shift_at (iblk m c 0 t) k

/-- Where a grid point's shift row lies in the array. -/
theorem emb17 (t : Fin cfg0.N) (a b d : Fin 1) (k : Fin 3328) (B : Fin 32) (hB : B.val = t.val / 8) :
    ((View.whole main_v31_2).slice (win0_17.rect t)).emb (ix4 a b d k) = ix4 1 B 0 k := by
  blk_ext [idx t]

/-- Where a grid point's state lies in the array. -/
theorem emb19 (t : Fin cfg0.N) (a b : Fin 1) (h : Fin 4) (d : Fin 256) (l : Fin 512) (B : Fin 32) (hB : B.val = t.val / 8) :
    ((View.whole main_v31_4).slice (win0_19.rect t)).emb (ix5 a b h d l) = ix5 1 B h d l := by
  blk_ext [idx t]

set_option maxHeartbeats 4000000 in
/-- The shift array after the run: its second layer is new, its first as it was. -/
theorem final17 (c : Dev nD) : (dats m 0 c).arrAt 17 (cfgs 0).N = fun i => if (i 0).val = 1 then W17 m c i else V m c main_v31_2 i := by
  refine (dats m 0 c).arrAt_eq_of_coversWhere 17 _ (fun β => β 0 = 1) (by decide +kernel) (fun t hf y => ?_)
    (fun j => by blk_simp [Pipeline.Window.cell_apply]; omega)
  have h7 : t.val % 8 = 7 := (flush0_17 t).mp hf
  blk_simp
  rw [after0_17]
  obtain ⟨a, b, d, k, rfl⟩ : ∃ (a : Fin 1) (b : Fin 1) (d : Fin 1) (k : Fin 3328), y = ix4 a b d k := ⟨y 0, y 1, y 2, y 3, eq_ix4 y⟩
  have ht : t.val < 256 := (idx t).2.2.2.2.2.2
  rw [emb17 t a b d k ⟨t.val / 8, by omega⟩ rfl]
  show _ = ZA m c (ix3 ⟨t.val / 8, by omega⟩ 2047 k)
  obtain rfl : a = 0 := Subsingleton.elim _ _
  obtain rfl : b = 0 := Subsingleton.elim _ _
  obtain rfl : d = 0 := Subsingleton.elim _ _
  refine Eq.trans (shift_out m c t (by omega) k) ?_
  exact (blk0 m c t 255 k ⟨t.val * 256 + 255, by omega⟩ rfl).trans (ra_at m c ⟨t.val / 8, by omega⟩ 2047 k _ (by show t.val * 256 + 255 = t.val / 8 * 2048 + 2047; omega))

set_option maxHeartbeats 4000000 in
/-- The state array after the run: its second layer is new, its first as it was. -/
theorem final19 (c : Dev nD) : (dats m 0 c).arrAt 19 (cfgs 0).N = fun i => if (i 0).val = 1 then W19 m c i else V m c main_v31_4 i := by
  refine (dats m 0 c).arrAt_eq_of_coversWhere 19 _ (fun β => β 0 = 1) (by decide +kernel) (fun t hf y => ?_)
    (fun j => by blk_simp [Pipeline.Window.cell_apply]; omega)
  have h7 : t.val % 8 = 7 := (flush0_19 t).mp hf
  blk_simp
  rw [after0_19]
  obtain ⟨a, b, h, d, l, rfl⟩ : ∃ (a : Fin 1) (b : Fin 1) (h : Fin 4) (d : Fin 256) (l : Fin 512), y = ix5 a b h d l := ⟨y 0, y 1, y 2, y 3, y 4, eq_ix5 y⟩
  have ht : t.val < 256 := (idx t).2.2.2.2.2.2
  rw [emb19 t a b h d l ⟨t.val / 8, by omega⟩ rfl]
  show _ = Cert.MixersRefIdeal.RefTerm.stateR (ZB m c) ⟨t.val / 8, by omega⟩ h d l 2048
  obtain rfl : a = 0 := Subsingleton.elim _ _
  obtain rfl : b = 0 := Subsingleton.elim _ _
  refine (run_state m c t.val t.isLt ⟨t.val / 8, by omega⟩ rfl h d l).trans ?_
  rw [h7]

/-- The host's first result is the shift array with its unit axis dropped. -/
theorem tail_out (c : Dev nD) : Pipeline.afterTail₀ cfgs (dats m) 0 (V0 m) [hostOps1] c main_v32
    = shapeCast S2x32x3328 (show FVec Ideal S2x32x1x3328 .f32 from (dats m 0 c).arrAt 17 (cfgs 0).N) shapeCasts_S2x32x1x3328_S2x32x3328 := by
  unfold Pipeline.afterTail₀
  simp only [hostOps1, List.flatten_cons, List.flatten_nil, List.append_nil, List.cons_append, List.nil_append, StableHlo.after_cons, StableHlo.after_nil]
  after_results_simp
  have e : Pipeline.withArrays (cfgs 0).spec c (V0 m c) (fun w => (dats m 0 c).arrAt w (cfgs 0).N) (Proc.devRef .tc main_v31_2) = (dats m 0 c).arrAt 17 (cfgs 0).N :=
    Pipeline.withArrays_arr spec0 (by decide) c (V0 m c) _ 17
  rw [e]
  rfl

/-- The shift array is the reference's. -/
theorem result_shift (c : Dev nD) :
    shapeCast S2x32x3328 (show FVec Ideal S2x32x1x3328 .f32 from fun i => if (i 0).val = 1 then W17 m c i else PA m c i) shapeCasts_S2x32x1x3328_S2x32x3328
      = Cert.MixersRefIdeal.Read.val_main_v391 (F := Ideal) (m ((c : Thread nD τ).loc main_arg0)) (m ((c : Thread nD τ).loc main_arg14)) := by
  funext i
  obtain ⟨a, b, k, rfl⟩ : ∃ (a : Fin 2) (b : Fin 32) (k : Fin 3328), i = ix3 a b k := ⟨i 0, i 1, i 2, eq_ix3 i⟩
  have e : shapeCast S2x32x3328 (show FVec Ideal S2x32x1x3328 .f32 from fun i => if (i 0).val = 1 then W17 m c i else PA m c i) shapeCasts_S2x32x1x3328_S2x32x3328 (ix3 a b k)
      = (if a.val = 1 then W17 m c (ix4 a b 0 k) else PA m c (ix4 a b 0 k)) := by
    refine Eq.trans (b := (show FVec Ideal S2x32x1x3328 .f32 from fun i => if (i 0).val = 1 then W17 m c i else PA m c i) (ix4 a b 0 k)) ?_ rfl
    generalize (show FVec Ideal S2x32x1x3328 .f32 from fun i => if (i 0).val = 1 then W17 m c i else PA m c i) = w
    pointwise
  rw [e]
  by_cases ha : a.val = 1
  · obtain rfl : a = 1 := Fin.ext ha
    rw [if_pos ha]
    show ZA m c (ix3 b 2047 k) = _
    unfold ZA
    pointwise [Cert.MixersRefIdeal.Read.val_main_v391, Cert.MixersRefIdeal.Read.val_main_v390, Cert.MixersRefIdeal.Read.val_main_v387, Cert.MixersRefIdeal.Read.val_main_v3, Cert.MixersRefIdeal.Read.val_main_v2, Cert.MixersRefIdeal.Read.val_main_v1]
  · obtain rfl : a = 0 := Fin.ext (by show a.val = 0; omega)
    rw [if_neg ha]
    unfold PA
    pointwise [Cert.MixersRefIdeal.Read.val_main_v391, Cert.MixersRefIdeal.Read.val_main_v389, Cert.MixersRefIdeal.Read.val_main_v388, Cert.MixersRefIdeal.Read.val_main_v387]

/-- The state array is the reference's. -/
theorem result_state (c : Dev nD) :
    (show FVec Ideal S2x32x4x256x512 .f32 from fun i => if (i 0).val = 1 then W19 m c i else PS m c i)
      = Cert.MixersRefIdeal.Read.val_main_v396 (F := Ideal) (m ((c : Thread nD τ).loc main_arg1)) (m ((c : Thread nD τ).loc main_arg15)) := by
  funext i
  obtain ⟨a, b, h, d, l, rfl⟩ : ∃ (a : Fin 2) (b : Fin 32) (h : Fin 4) (d : Fin 256) (l : Fin 512), i = ix5 a b h d l := ⟨i 0, i 1, i 2, i 3, i 4, eq_ix5 i⟩
  show (if a.val = 1 then W19 m c (ix5 a b h d l) else PS m c (ix5 a b h d l)) = _
  by_cases ha : a.val = 1
  · obtain rfl : a = 1 := Fin.ext ha
    rw [if_pos ha]
    refine (Cert.MixersRefIdeal.RefTerm.s_ref (ZB m c) b h d l).symm.trans ?_
    unfold ZB
    unfold Cert.MixersRefIdeal.Read.val_main_v396 Cert.MixersRefIdeal.Read.val_main_v395
    generalize Cert.MixersRefIdeal.Read.val_main_v386 (F := Ideal) _ = s
    pointwise
  · obtain rfl : a = 0 := Fin.ext (by show a.val = 0; omega)
    rw [if_neg ha]
    unfold PS
    unfold Cert.MixersRefIdeal.Read.val_main_v396 Cert.MixersRefIdeal.Read.val_main_v395
    generalize Cert.MixersRefIdeal.Read.val_main_v386 (F := Ideal) _ = s
    pointwise [Cert.MixersRefIdeal.Read.val_main_v394, Cert.MixersRefIdeal.Read.val_main_v393, Cert.MixersRefIdeal.Read.val_main_v392]

end Cert.MixersIdeal.RefValue

namespace Cert.Proof.Mixers

/-- The prompt batch's new shift rows and new retention state equal the reference's on the same arguments. -/
theorem algebraic : Cert.algebraic_MixersIdeal_MixersRefIdeal := by
  intro m g m' g' _ hagree
  refine ⟨fun c => Cert.MixersRefIdeal.Read.val_main_v391 (F := Ideal) (m ((c.tc : Thread Cert.MixersIdeal.nD Cert.MixersIdeal.τ).loc Cert.MixersIdeal.main_arg0)) (m ((c.tc : Thread Cert.MixersIdeal.nD Cert.MixersIdeal.τ).loc Cert.MixersIdeal.main_arg14)),
    fun c => Cert.MixersRefIdeal.Read.val_main_v396 (F := Ideal) (m ((c.tc : Thread Cert.MixersIdeal.nD Cert.MixersIdeal.τ).loc Cert.MixersIdeal.main_arg1)) (m ((c.tc : Thread Cert.MixersIdeal.nD Cert.MixersIdeal.τ).loc Cert.MixersIdeal.main_arg15)), ?_, ?_⟩
  · refine (θ_run Cert.MixersIdeal.defs _ _).mono (fun r h c => ⟨?_, ?_, h.2 c⟩)
      (θ_run_and (Cert.MixersIdeal.Gen.run_main (F := Ideal) m g) (Cert.MixersIdeal.Gen.unchanged (F := Ideal) m g))
    · refine ((h.1 c).2 Cert.MixersIdeal.main_v32 (Pipeline.mem_restRefs_of Cert.MixersIdeal.main_v32 (by decide) (by decide))).trans ?_
      rw [Cert.MixersIdeal.RefValue.tail_out, Cert.MixersIdeal.RefValue.final17, Cert.MixersIdeal.RefValue.entry_prev]
      exact Cert.MixersIdeal.RefValue.result_shift m c
    · refine ((h.1 c).1 19).trans ?_
      rw [Cert.MixersIdeal.RefValue.final19, Cert.MixersIdeal.RefValue.entry_state]
      exact Cert.MixersIdeal.RefValue.result_state m c
  · refine (θ_run Cert.MixersRefIdeal.defs _ _).mono (fun r h c => ⟨(h c).1.trans ?_, (h c).2.1.trans ?_, (h c).2.2⟩)
      (Cert.MixersRefIdeal.Value.run (F := Ideal) m' g')
    · obtain ⟨a0, a1, a2, a3, a4, a5, a6, a7, a8, a9, a10, a11, a12, a13, a14, a15⟩ := hagree c
      refine (Cert.MixersRefIdeal.Read.val_main_v391_eq _).trans ?_
      exact congr (congrArg (Cert.MixersRefIdeal.Read.val_main_v391 (F := Ideal)) a0) a14
    · obtain ⟨a0, a1, a2, a3, a4, a5, a6, a7, a8, a9, a10, a11, a12, a13, a14, a15⟩ := hagree c
      refine (Cert.MixersRefIdeal.Read.val_main_v396_eq _).trans ?_
      exact congr (congrArg (Cert.MixersRefIdeal.Read.val_main_v396 (F := Ideal)) a1) a15

end Cert.Proof.Mixers
-- ==== Proof.ValRwkv.lean ====
module

public import proofs.«01_k».proof.Defs
public import proofs.«01_k».proof.Proof.Gen.RwkvIdeal.Frame
public import proofs.«01_k».proof.Proof.Gen.RwkvRefIdeal.Read
public import Idealize.ShloMosaic.Lib.Pointwise
public import Idealize.ShloMosaic.Lib.Pipeline.ValueKit
public import Idealize.ShloMosaic.Lib.Pipeline.ReadBack
public import Idealize.ShloMosaic.Lib.Claim

@[expose] public section
set_option maxRecDepth 16384

noncomputable section

open Idealize.ShloMosaic Idealize.ShloMosaic.TcCoe Idealize.SL.Sem
open Idealize.ShloMosaic.Pipeline (Dat)

/-! The new shift rows of the sample batch: the last of the sixteen rows of each batch element's projections. -/

namespace Cert.RwkvIdeal.RefValue
open Cert.RwkvIdeal Cert.RwkvIdeal.Gen

variable (m : (ℓ : Loc nD τ sig) → Buf (Elt Ideal) ℓ)

/-- Grid point `t` stages batch element `t`'s padded rows and writes its shift row of the second layer. -/
theorem idx : ∀ t : Fin cfg0.N, win0_0.index t = ![t.val, 0] ∧ win0_16.index t = ![1, t.val, 0, 0] ∧ t.val < 32 :=
  (by decide +kernel : ∀ t : Fin grid0.N, _)

/-- The padded projections the host prepares. -/
def ZP (c : Dev nD) : FVec Ideal S2048x3328 .bf16 := V m c main_v17

/-- The array the new shift rows are written into. -/
def PA (c : Dev nD) : FVec Ideal S2x32x1x3328 .f32 := m ((c : Thread nD τ).loc main_arg15)

/-- The projections given. -/
def ZA (c : Dev nD) : FVec Ideal S32x16x3328 .bf16 := m ((c : Thread nD τ).loc main_arg0)

/-- The shift array's second layer. -/
def W16 (c : Dev nD) : S2x32x1x3328.Idx → EReal := fun i => ZA m c (ix3 (i 1) 15 (i 3))

/-- The projection block holds the batch element's padded rows. -/
theorem blk0 (c : Dev nD) (t : Fin cfg0.N) (r : Fin 64) (k : Fin 3328) (R : Fin 2048) (hR : R.val = t.val * 64 + r.val) :
    (show FVec Ideal S64x3328 .bf16 from iblk m c 0 t) (ix2 r k) = ZP m c (ix2 R k) := by
  unfold ZP
  blk_ext [iblk, idx t]

/-- The shift array starts as the previous one. -/
theorem entry_prev (c : Dev nD) : V m c main_v30_2 = PA m c := by
  unfold PA
  simp only [V, V0, hostOps0, hostOps0_1, hostOps0_2, List.flatten_cons, List.flatten_nil, List.append_nil, List.cons_append, List.nil_append, StableHlo.after_cons, StableHlo.after_nil]
  after_results_simp
  after_results_loop
  try rfl

/-- The padded projections, computed out: every batch element's sixteen rows followed by rows of zeros. -/
theorem table_rows (c : Dev nD) : ZP m c = shapeCast S2048x3328 (pad S32x64x3328 ![0, 0, 0] ![0, 48, 0] ![0, 0, 0]
    (shapeCast S32x16x3328 (shapeCast S512x3328 (ZA m c) shapeCasts_S32x16x3328_S512x3328) shapeCasts_S512x3328_S32x16x3328)
    (sitofp (F := Ideal) .bf16 (constantI S_ 32 0#32)) pads_S32x16x3328_S32x64x3328_000_0480_000 h_S_) shapeCasts_S32x64x3328_S2048x3328 := by
  unfold ZP ZA
  simp only [V, V0, hostOps0, hostOps0_1, hostOps0_2, List.flatten_cons, List.flatten_nil, List.append_nil, List.cons_append, List.nil_append, StableHlo.after_cons, StableHlo.after_nil]
  after_results_simp
  after_results_loop
  rfl

/-- The padded projections hold the batch element's rows. -/
theorem entry_rows (c : Dev nD) (b : Fin 32) (r : Fin 16) (k : Fin 3328) :
    ZP m c (ix2 ⟨b.val * 64 + r.val, by omega⟩ k) = ZA m c (ix3 b r k) := by
  have h : r.val < 16 := r.isLt
  rw [table_rows]
  have e : (⟨(b.val * 64 + r.val) % 64, by omega⟩ : Fin 16) = r := Fin.ext (by show (b.val * 64 + r.val) % 64 = r.val; omega)
  pointwise
  rw [dif_pos (by omega), e]

/-- The stored shift row, read at an index. -/
theorem shift_at (X : FVec Ideal S64x3328 .bf16) (k : Fin 3328) : k0_pay5 (F := Ideal) X (ix4 0 0 0 k) = X (ix2 15 k) := by
  pointwise [k0_pay5, k0_pay3]

/-- The shift array after the run: its second layer is new, its first as it was. -/
theorem final16 (c : Dev nD) : (dats m 0 c).arrAt 16 (cfgs 0).N = fun i => if (i 0).val = 1 then W16 m c i else V m c main_v30_2 i := by
  refine (dats m 0 c).arrAt_eq_of_coversWhere 16 _ (fun β => β 0 = 1) (by decide +kernel) (fun t hf y => ?_)
    (fun j => by blk_simp [Pipeline.Window.cell_apply]; omega)
  blk_simp
  rw [after0_16]; unfold Gen.outsAt0; frame_open; simp (disch := decide) only [↓ View.readCov_skip, ↓ View.readCov_cons_toLoadRect, ↓ View.readCov_fill]; frame_out
  obtain ⟨a, b, d, k, rfl⟩ : ∃ (a : Fin 1) (b : Fin 1) (d : Fin 1) (k : Fin 3328), y = ix4 a b d k := ⟨y 0, y 1, y 2, y 3, eq_ix4 y⟩
  have ht := (idx t).2.2
  have he : ((View.whole main_v30_2).slice (win0_16.rect t)).emb (ix4 a b d k) = ix4 1 ⟨t.val, ht⟩ 0 k := by
    blk_ext [idx t]
  rw [he]
  show _ = ZA m c (ix3 ⟨t.val, ht⟩ 15 k)
  obtain rfl : a = 0 := Subsingleton.elim _ _
  obtain rfl : b = 0 := Subsingleton.elim _ _
  obtain rfl : d = 0 := Subsingleton.elim _ _
  refine Eq.trans (shift_at (iblk m c 0 t) k) ?_
  exact (blk0 m c t 15 k ⟨t.val * 64 + 15, by omega⟩ rfl).trans (entry_rows m c ⟨t.val, ht⟩ 15 k)

/-- The host's last result is the shift array with its unit axis dropped. -/
theorem tail_out (c : Dev nD) : Pipeline.afterTail₀ cfgs (dats m) 0 (V0 m) [hostOps1] c main_v31
    = shapeCast S2x32x3328 (show FVec Ideal S2x32x1x3328 .f32 from (dats m 0 c).arrAt 16 (cfgs 0).N) shapeCasts_S2x32x1x3328_S2x32x3328 := by
  unfold Pipeline.afterTail₀
  simp only [hostOps1, List.flatten_cons, List.flatten_nil, List.append_nil, List.cons_append, List.nil_append, StableHlo.after_cons, StableHlo.after_nil]
  after_results_simp
  have e : Pipeline.withArrays (cfgs 0).spec c (V0 m c) (fun w => (dats m 0 c).arrAt w (cfgs 0).N) (Proc.devRef .tc main_v30_2) = (dats m 0 c).arrAt 16 (cfgs 0).N :=
    Pipeline.withArrays_arr spec0 (by decide) c (V0 m c) _ 16
  rw [e]
  rfl

/-- The shift array is the reference's. -/
theorem result_shift (c : Dev nD) :
    shapeCast S2x32x3328 (show FVec Ideal S2x32x1x3328 .f32 from fun i => if (i 0).val = 1 then W16 m c i else PA m c i) shapeCasts_S2x32x1x3328_S2x32x3328
      = Cert.RwkvRefIdeal.Read.val_main_v7 (F := Ideal) (m ((c : Thread nD τ).loc main_arg0)) (m ((c : Thread nD τ).loc main_arg15)) := by
  funext i
  obtain ⟨a, b, k, rfl⟩ : ∃ (a : Fin 2) (b : Fin 32) (k : Fin 3328), i = ix3 a b k := ⟨i 0, i 1, i 2, eq_ix3 i⟩
  have e : shapeCast S2x32x3328 (show FVec Ideal S2x32x1x3328 .f32 from fun i => if (i 0).val = 1 then W16 m c i else PA m c i) shapeCasts_S2x32x1x3328_S2x32x3328 (ix3 a b k)
      = (if a.val = 1 then W16 m c (ix4 a b 0 k) else PA m c (ix4 a b 0 k)) := by
    refine Eq.trans (b := (show FVec Ideal S2x32x1x3328 .f32 from fun i => if (i 0).val = 1 then W16 m c i else PA m c i) (ix4 a b 0 k)) ?_ rfl
    generalize (show FVec Ideal S2x32x1x3328 .f32 from fun i => if (i 0).val = 1 then W16 m c i else PA m c i) = w
    pointwise
  rw [e]
  by_cases ha : a.val = 1
  · obtain rfl : a = 1 := Fin.ext ha
    rw [if_pos ha]
    show ZA m c (ix3 b 15 k) = _
    unfold ZA
    pointwise [Cert.RwkvRefIdeal.Read.val_main_v7, Cert.RwkvRefIdeal.Read.val_main_v6, Cert.RwkvRefIdeal.Read.val_main_v4, Cert.RwkvRefIdeal.Read.val_main_v3, Cert.RwkvRefIdeal.Read.val_main_v2]
  · obtain rfl : a = 0 := Fin.ext (by show a.val = 0; omega)
    rw [if_neg ha]
    unfold PA
    pointwise [Cert.RwkvRefIdeal.Read.val_main_v7, Cert.RwkvRefIdeal.Read.val_main_v5, Cert.RwkvRefIdeal.Read.val_main_v1, Cert.RwkvRefIdeal.Read.val_main_v0]

end Cert.RwkvIdeal.RefValue

namespace Cert.Proof.Rwkv

/-- The sample batch's new shift rows equal the reference's on the same arguments. -/
theorem algebraic : Cert.algebraic_RwkvIdeal_RwkvRefIdeal := by
  intro m g m' g' _ hagree
  refine ⟨fun c => Cert.RwkvRefIdeal.Read.val_main_v7 (F := Ideal) (m ((c.tc : Thread Cert.RwkvIdeal.nD Cert.RwkvIdeal.τ).loc Cert.RwkvIdeal.main_arg0)) (m ((c.tc : Thread Cert.RwkvIdeal.nD Cert.RwkvIdeal.τ).loc Cert.RwkvIdeal.main_arg15)), ?_, ?_⟩
  · refine (θ_run Cert.RwkvIdeal.defs _ _).mono (fun r h c => ⟨?_, h.2 c⟩)
      (θ_run_and (Cert.RwkvIdeal.Gen.run_main (F := Ideal) m g) (Cert.RwkvIdeal.Gen.unchanged (F := Ideal) m g))
    refine ((h.1 c).2 Cert.RwkvIdeal.main_v31 (Pipeline.mem_restRefs_of Cert.RwkvIdeal.main_v31 (by decide) (by decide))).trans ?_
    rw [Cert.RwkvIdeal.RefValue.tail_out, Cert.RwkvIdeal.RefValue.final16, Cert.RwkvIdeal.RefValue.entry_prev]
    exact Cert.RwkvIdeal.RefValue.result_shift m c
  · refine (θ_run Cert.RwkvRefIdeal.defs _ _).mono (fun r h c => ⟨(h c).1.trans ?_, (h c).2⟩)
      (Cert.RwkvRefIdeal.Value.run (F := Ideal) m' g')
    obtain ⟨a0, a1, a2, a3, a4, a5, a6, a7, a8, a9, a10, a11, a12, a13, a14, a15⟩ := hagree c
    refine (Cert.RwkvRefIdeal.Read.val_main_v7_eq _ _).trans ?_
    exact congr (congrArg (Cert.RwkvRefIdeal.Read.val_main_v7 (F := Ideal)) a0) a15

end Cert.Proof.Rwkv
-- ==== Proof.Row.lean ====
module

public import Idealize.ShloMosaic.Lib.Pointwise
public import Idealize.ShloMosaic.Lib.Pipeline.ValueKit

@[expose] public section
set_option maxRecDepth 16384

noncomputable section

open Idealize.ShloMosaic

/-! One row of the layer's normalisation and feed-forward block, written over functions of the column. -/

namespace Cert.Proof.Row

/-- The reciprocal root mean square of a row. -/
def rs (v : Fin 1024 → EReal) : EReal :=
  Ideal.rsqrt (Ideal.div (∑ k, v k * v k) (Ideal.ofBits .f32 0x44800000#32) + Ideal.ofBits .f32 0x358637BD#32)

/-- The normalised row, times a gain. -/
def rms (v g : Fin 1024 → EReal) (l : Fin 1024) : EReal := v l * rs v * g l

/-- The normalised row, scaled and shifted. -/
def hid (x g sc sh : Fin 1024 → EReal) (l : Fin 1024) : EReal := rms x g l * (1 + sc l) + sh l

/-- The squared rectified product of a row with a column of weights. -/
def act (h u : Fin 1024 → EReal) : EReal := max (∑ k, h k * u k) 0 * max (∑ k, h k * u k) 0

/-- The share of 1024 hidden columns in the feed-forward product. -/
def slab (h : Fin 1024 → EReal) (up : Fin 1024 → Fin 1024 → EReal) (dn : Fin 1024 → Fin 1024 → EReal) (l : Fin 1024) : EReal :=
  ∑ u, act h (fun k => up k u) * dn u l

/-- The feed-forward product over all 4096 hidden columns. -/
def ffn (h : Fin 1024 → EReal) (up : Fin 1024 → Fin 4096 → EReal) (dn : Fin 4096 → Fin 1024 → EReal) (l : Fin 1024) : EReal :=
  ∑ u, act h (fun k => up k u) * dn u l

/-- The row plus the gated normalised update. -/
def upd (x f gt g : Fin 1024 → EReal) (l : Fin 1024) : EReal := x l + gt l * rms f g l

/-- Four slabs of 1024 hidden columns make the whole product. -/
theorem ffn_slabs (h : Fin 1024 → EReal) (up : Fin 1024 → Fin 4096 → EReal) (dn : Fin 4096 → Fin 1024 → EReal) (l : Fin 1024) :
    ffn h up dn l
      = slab h (fun k u => up k ⟨u.val, by omega⟩) (fun u l => dn ⟨u.val, by omega⟩ l) l
        + slab h (fun k u => up k ⟨1024 + u.val, by omega⟩) (fun u l => dn ⟨1024 + u.val, by omega⟩ l) l
        + slab h (fun k u => up k ⟨2048 + u.val, by omega⟩) (fun u l => dn ⟨2048 + u.val, by omega⟩ l) l
        + slab h (fun k u => up k ⟨3072 + u.val, by omega⟩) (fun u l => dn ⟨3072 + u.val, by omega⟩ l) l := by
  unfold ffn slab
  rw [Fin.sum_univ_tiles 4 1024 rfl, Fin.sum_univ_four]
  simp [Fin.ext_iff]

end Cert.Proof.Row
-- ==== Proof.ValFfn.lean ====
module

public import proofs.«01_k».proof.Defs
public import proofs.«01_k».proof.Proof.Row
public import proofs.«01_k».proof.Proof.Gen.FfnIdeal.Value
public import proofs.«01_k».proof.Proof.Gen.FfnRefIdeal.Read
public import Idealize.ShloMosaic.Lib.Pointwise
public import Idealize.ShloMosaic.Lib.Pipeline.ValueKit
public import Idealize.ShloMosaic.Lib.Claim

@[expose] public section
set_option maxRecDepth 16384

noncomputable section

open Idealize.ShloMosaic Idealize.ShloMosaic.TcCoe Idealize.SL.Sem
open Idealize.ShloMosaic.Pipeline (Dat)
open Cert.Proof.Row

namespace Cert.FfnRefIdeal.RefTerm
open Cert.FfnRefIdeal Cert.FfnRefIdeal.Gen Cert.FfnRefIdeal.Read

/-- The reference's hidden activation, read at an index. -/
theorem hid_at (X : FVec Ideal S32x2048x1024 .f32) (M : FVec Ideal S32x6144 .f32) (G : FVec Ideal S2x1024 .f32) (b : Fin 32) (r : Fin 2048) (l : Fin 1024) :
    val_main_v32 (F := Ideal) X M G (ix3 b r l)
      = hid (fun k => X (ix3 b r k)) (fun k => G (ix2 1 k)) (fun k => M (ix2 b ⟨4096 + k.val, by omega⟩)) (fun k => M (ix2 b ⟨3072 + k.val, by omega⟩)) l := by
  pointwise [val_main_v32, val_main_v31, val_main_v30, val_main_v29, val_main_v28, val_main_v27, val_main_cst_2, val_main_v26, val_main_v25, val_main_v24, val_main_v23, val_main_v22, val_main_v21, val_main_v20, val_main_v19, val_main_cst_1, val_main_v18, val_main_v17, val_main_cst_0, val_main_v16, val_main_v15, val_main_cst, val_main_v14, val_main_v13, val_main_v12, val_main_v10, val_main_v9, val_main_v4, val_main_v3, hid, rms, rs]

/-- The reference's feed-forward product, read at an index. -/
theorem ffn_at (X : FVec Ideal S32x2048x1024 .f32) (M : FVec Ideal S32x6144 .f32) (G : FVec Ideal S2x1024 .f32) (U : FVec Ideal S1024x4096 .f32) (D : FVec Ideal S4096x1024 .f32) (b : Fin 32) (r : Fin 2048) (l : Fin 1024) :
    val_main_v37 (F := Ideal) X M G U D (ix3 b r l)
      = ffn (hid (fun k => X (ix3 b r k)) (fun k => G (ix2 1 k)) (fun k => M (ix2 b ⟨4096 + k.val, by omega⟩)) (fun k => M (ix2 b ⟨3072 + k.val, by omega⟩)))
          (fun k u => U (ix2 k u)) (fun u l => D (ix2 u l)) l := by
  pointwise [val_main_v37, val_main_v36, val_main_v35, val_main_v34, val_main_cst_3, val_main_v33, hid_at, ffn, act]

/-- The reference's result, read at an index: the updated row. -/
theorem ref_at (X : FVec Ideal S32x2048x1024 .f32) (M : FVec Ideal S32x6144 .f32) (G P : FVec Ideal S2x1024 .f32) (U : FVec Ideal S1024x4096 .f32) (D : FVec Ideal S4096x1024 .f32) (r : Fin 65536) (l : Fin 1024) :
    val_main_v56 (F := Ideal) X M G P U D (ix2 r l)
      = upd (fun k => X (ix3 ⟨r.val / 2048, by omega⟩ ⟨r.val % 2048, by omega⟩ k))
          (ffn (hid (fun k => X (ix3 ⟨r.val / 2048, by omega⟩ ⟨r.val % 2048, by omega⟩ k)) (fun k => G (ix2 1 k)) (fun k => M (ix2 ⟨r.val / 2048, by omega⟩ ⟨4096 + k.val, by omega⟩)) (fun k => M (ix2 ⟨r.val / 2048, by omega⟩ ⟨3072 + k.val, by omega⟩)))
            (fun k u => U (ix2 k u)) (fun u l => D (ix2 u l)))
          (fun k => M (ix2 ⟨r.val / 2048, by omega⟩ ⟨5120 + k.val, by omega⟩)) (fun k => P (ix2 1 k)) l := by
  pointwise [val_main_v56, val_main_v55, val_main_v54, val_main_v53, val_main_v52, val_main_v51, val_main_v50, val_main_v49, val_main_v48, val_main_v47, val_main_v46, val_main_v45, val_main_cst_6, val_main_v44, val_main_v43, val_main_cst_5, val_main_v42, val_main_v41, val_main_cst_4, val_main_v40, ffn_at, val_main_v39, val_main_v38, val_main_v11, val_main_v5, upd, rms, rs]

end Cert.FfnRefIdeal.RefTerm

namespace Cert.FfnIdeal.RefValue
open Cert.FfnIdeal Cert.FfnIdeal.Gen

/-- The hidden activation of the first half of a block, read at an index. -/
theorem pay5_at (X : FVec Ideal S256x1024 .f32) (G : FVec Ideal S1x1024 .f32) (SC SH : FVec Ideal S1x1x1024 .f32) (r : Fin 256) (l : Fin 1024) :
    k0_pay5 (F := Ideal) X G SC SH (ix2 r l)
      = hid (fun k => X (ix2 r k)) (fun k => G (ix2 0 k)) (fun k => SC (ix3 0 0 k)) (fun k => SH (ix3 0 0 k)) l := by
  pointwise [k0_pay5, k0_pay3, hid, rms, rs]

/-- The hidden activation of the second half of a block, read at an index. -/
theorem pay8_at (X : FVec Ideal S256x1024 .f32) (G : FVec Ideal S1x1024 .f32) (SC SH : FVec Ideal S1x1x1024 .f32) (r : Fin 256) (l : Fin 1024) :
    k0_pay8 (F := Ideal) (k0_pay4 X) (k0_pay6 G) (k0_pay7 X) SC SH (ix2 r l)
      = hid (fun k => X (ix2 r k)) (fun k => G (ix2 0 k)) (fun k => SC (ix3 0 0 k)) (fun k => SH (ix3 0 0 k)) l := by
  pointwise [k0_pay8, k0_pay4, k0_pay6, k0_pay7, hid, rms, rs]

/-- The feed-forward product of the first half of a block: four slabs. -/
theorem top_at (H : FVec Ideal S256x1024 .bf16)
    (U0 D0 U1 D1 U2 D2 U3 D3 : FVec Ideal S1024x1024 .bf16) (r : Fin 256) (l : Fin 1024) :
    k0_pay17 (F := Ideal) H (k0_pay13 H (k0_pay10 H U0 D0) U1 D1) (k0_pay16 H U2) D2 U3 D3 (ix2 r l)
      = slab (fun k => H (ix2 r k)) (fun k u => U0 (ix2 k u)) (fun u l => D0 (ix2 u l)) l
        + slab (fun k => H (ix2 r k)) (fun k u => U1 (ix2 k u)) (fun u l => D1 (ix2 u l)) l
        + slab (fun k => H (ix2 r k)) (fun k u => U2 (ix2 k u)) (fun u l => D2 (ix2 u l)) l
        + slab (fun k => H (ix2 r k)) (fun k u => U3 (ix2 k u)) (fun u l => D3 (ix2 u l)) l := by
  pointwise [k0_pay17, k0_pay13, k0_pay10, k0_pay16, slab, act]

/-- The feed-forward product of the second half of a block: four slabs. -/
theorem bot_at (X : FVec Ideal S256x1024 .f32) (G : FVec Ideal S1x1024 .f32) (SC SH : FVec Ideal S1x1x1024 .f32)
    (U0 D0 U1 D1 U2 D2 U3 D3 : FVec Ideal S1024x1024 .bf16) (r : Fin 256) (l : Fin 1024) :
    k0_pay18 (F := Ideal) (k0_pay8 (k0_pay4 X) (k0_pay6 G) (k0_pay7 X) SC SH)
        (k0_pay14 (k0_pay8 (k0_pay4 X) (k0_pay6 G) (k0_pay7 X) SC SH) (k0_pay9 (F := Ideal)) (k0_pay11 D0) (k0_pay12 (k0_pay4 X) (k0_pay6 G) (k0_pay7 X) SC SH U0) U1 D1)
        (k0_pay15 (k0_pay8 (k0_pay4 X) (k0_pay6 G) (k0_pay7 X) SC SH) U2) D2 U3 D3 (ix2 r l)
      = slab (hid (fun k => X (ix2 r k)) (fun k => G (ix2 0 k)) (fun k => SC (ix3 0 0 k)) (fun k => SH (ix3 0 0 k))) (fun k u => U0 (ix2 k u)) (fun u l => D0 (ix2 u l)) l
        + slab (hid (fun k => X (ix2 r k)) (fun k => G (ix2 0 k)) (fun k => SC (ix3 0 0 k)) (fun k => SH (ix3 0 0 k))) (fun k u => U1 (ix2 k u)) (fun u l => D1 (ix2 u l)) l
        + slab (hid (fun k => X (ix2 r k)) (fun k => G (ix2 0 k)) (fun k => SC (ix3 0 0 k)) (fun k => SH (ix3 0 0 k))) (fun k u => U2 (ix2 k u)) (fun u l => D2 (ix2 u l)) l
        + slab (hid (fun k => X (ix2 r k)) (fun k => G (ix2 0 k)) (fun k => SC (ix3 0 0 k)) (fun k => SH (ix3 0 0 k))) (fun k u => U3 (ix2 k u)) (fun u l => D3 (ix2 u l)) l := by
  pointwise [k0_pay18, k0_pay14, k0_pay15, k0_pay9, k0_pay11, k0_pay12, pay8_at, slab, act]

/-- The stored first half, read at an index. -/
theorem pay1_at (X F : FVec Ideal S256x1024 .f32) (GT : FVec Ideal S1x1x1024 .f32) (P : FVec Ideal S1x1024 .f32) (r : Fin 256) (l : Fin 1024) :
    k0_pay1 (F := Ideal) (k0_pay3 X) F (k0_pay19 GT) (k0_pay20 P) (ix2 r l)
      = upd (fun k => X (ix2 r k)) (fun k => F (ix2 r k)) (fun k => GT (ix3 0 0 k)) (fun k => P (ix2 0 k)) l := by
  pointwise [k0_pay1, k0_pay3, k0_pay19, k0_pay20, upd, rms, rs]

/-- The stored second half, read at an index. -/
theorem pay2_at (X F : FVec Ideal S256x1024 .f32) (GT : FVec Ideal S1x1x1024 .f32) (P : FVec Ideal S1x1024 .f32) (r : Fin 256) (l : Fin 1024) :
    k0_pay2 (F := Ideal) (k0_pay4 X) F GT P (ix2 r l)
      = upd (fun k => X (ix2 r k)) (fun k => F (ix2 r k)) (fun k => GT (ix3 0 0 k)) (fun k => P (ix2 0 k)) l := by
  pointwise [k0_pay2, k0_pay4, upd, rms, rs]

/-- The stored block, read at an index: the updated row of the blocks read. -/
theorem out_at (x0 : Vec Ideal S512x1024 .f32) (x1 x2 x3 : Vec Ideal S1x1x1024 .f32) (x4 x5 : Vec Ideal S1x1024 .f32) (x6 : Vec Ideal S1024x4096 .bf16) (x7 : Vec Ideal S4096x1024 .bf16) (R : Fin 512) (l : Fin 1024) :
    out0_8 (F := Ideal) x0 x1 x2 x3 x4 x5 x6 x7 (ix2 R l)
      = upd (fun k => x0 (ix2 R k))
          (ffn (hid (fun k => x0 (ix2 R k)) (fun k => x4 (ix2 0 k)) (fun k => x1 (ix3 0 0 k)) (fun k => x2 (ix3 0 0 k)))
            (fun k u => x6 (ix2 k u)) (fun u l => x7 (ix2 u l)))
          (fun k => x3 (ix3 0 0 k)) (fun k => x5 (ix2 0 k)) l := by
  rw [show ffn (hid (fun k => x0 (ix2 R k)) (fun k => x4 (ix2 0 k)) (fun k => x1 (ix3 0 0 k)) (fun k => x2 (ix3 0 0 k)))
            (fun k u => x6 (ix2 k u)) (fun u l => x7 (ix2 u l)) = _ from funext fun l => ffn_slabs _ _ _ l]
  have b0 : ∀ r : Fin 256, r.val < 512 := fun r => by omega
  have b1 : ∀ r : Fin 256, 256 + r.val < 512 := fun r => by omega
  unfold_out out0_8
  canon_tiles x h
  · obtain ⟨r, k, rfl⟩ : ∃ (r : Fin 256) (k : Fin 1024), x = ix2 r k := ⟨x 0, x 1, eq_ix2 x⟩
    obtain rfl : l = k := Fin.ext h1
    obtain rfl : R = ⟨256 + r.val, b1 r⟩ := Fin.ext h0
    pointwise [pay2_at, bot_at]
  · obtain ⟨r, k, rfl⟩ : ∃ (r : Fin 256) (k : Fin 1024), x = ix2 r k := ⟨x 0, x 1, eq_ix2 x⟩
    obtain rfl : l = k := Fin.ext h1
    obtain rfl : R = ⟨r.val, b0 r⟩ := Fin.ext h0
    pointwise [pay1_at, top_at, pay5_at]

variable (m : (ℓ : Loc nD τ sig) → Buf (Elt Ideal) ℓ)

/-- Where each grid point's blocks sit. -/
theorem idx : ∀ t : Fin cfg0.N, win0_0.index t = ![t.val, 0] ∧ win0_1.index t = ![t.val / 4, 0, 0] ∧ win0_2.index t = ![t.val / 4, 0, 0] ∧ win0_3.index t = ![t.val / 4, 0, 0]
    ∧ win0_4.index t = ![0, 0] ∧ win0_5.index t = ![0, 0] ∧ win0_6.index t = ![0, 0] ∧ win0_7.index t = ![0, 0] ∧ win0_8.index t = ![t.val, 0] ∧ t.val < 128 :=
  (by decide +kernel : ∀ t : Fin grid0.N, _)

/-- The activation block of a grid point holds the rows of its tile. -/
theorem blk0 (c : Dev nD) (t : Fin cfg0.N) (r : Fin 512) (k : Fin 1024) (R : Fin 65536) (hR : R.val = t.val * 512 + r.val) :
    (show FVec Ideal S512x1024 .f32 from iblk m c 0 t) (ix2 r k)
      = (show FVec Ideal S32x2048x1024 .f32 from m ((c : Thread nD τ).loc main_arg0)) (ix3 ⟨R.val / 2048, by omega⟩ ⟨R.val % 2048, by omega⟩ k) := by
  have h : (show FVec Ideal S512x1024 .f32 from iblk m c 0 t) (ix2 r k) = (show FVec Ideal S65536x1024 .f32 from V m c main_v12) (ix2 R k) := by
    blk_ext [iblk, idx t]
  rw [h]
  entry_read
  pointwise

/-- The scale block of a grid point. -/
theorem blk1 (c : Dev nD) (t : Fin cfg0.N) (k : Fin 1024) (b : Fin 32) (hb : b.val = t.val / 4) :
    (show FVec Ideal S1x1x1024 .f32 from iblk m c 1 t) (ix3 0 0 k)
      = (show FVec Ideal S32x6144 .f32 from m ((c : Thread nD τ).loc main_arg1)) (ix2 b ⟨4096 + k.val, by omega⟩) := by
  have h : (show FVec Ideal S1x1x1024 .f32 from iblk m c 1 t) (ix3 0 0 k) = (show FVec Ideal S32x1x1024 .f32 from V m c main_v10) (ix3 b 0 k) := by
    blk_ext [iblk, idx t]
  rw [h]
  entry_read
  pointwise

/-- The shift block of a grid point. -/
theorem blk2 (c : Dev nD) (t : Fin cfg0.N) (k : Fin 1024) (b : Fin 32) (hb : b.val = t.val / 4) :
    (show FVec Ideal S1x1x1024 .f32 from iblk m c 2 t) (ix3 0 0 k)
      = (show FVec Ideal S32x6144 .f32 from m ((c : Thread nD τ).loc main_arg1)) (ix2 b ⟨3072 + k.val, by omega⟩) := by
  have h : (show FVec Ideal S1x1x1024 .f32 from iblk m c 2 t) (ix3 0 0 k) = (show FVec Ideal S32x1x1024 .f32 from V m c main_v9) (ix3 b 0 k) := by
    blk_ext [iblk, idx t]
  rw [h]
  entry_read
  pointwise

/-- The gate block of a grid point. -/
theorem blk3 (c : Dev nD) (t : Fin cfg0.N) (k : Fin 1024) (b : Fin 32) (hb : b.val = t.val / 4) :
    (show FVec Ideal S1x1x1024 .f32 from iblk m c 3 t) (ix3 0 0 k)
      = (show FVec Ideal S32x6144 .f32 from m ((c : Thread nD τ).loc main_arg1)) (ix2 b ⟨5120 + k.val, by omega⟩) := by
  have h : (show FVec Ideal S1x1x1024 .f32 from iblk m c 3 t) (ix3 0 0 k) = (show FVec Ideal S32x1x1024 .f32 from V m c main_v11) (ix3 b 0 k) := by
    blk_ext [iblk, idx t]
  rw [h]
  entry_read
  pointwise

/-- The gain before the block. -/
theorem blk4 (c : Dev nD) (t : Fin cfg0.N) (k : Fin 1024) :
    (show FVec Ideal S1x1024 .f32 from iblk m c 4 t) (ix2 0 k)
      = (show FVec Ideal S2x1024 .f32 from m ((c : Thread nD τ).loc main_arg2)) (ix2 1 k) := by
  have h : (show FVec Ideal S1x1024 .f32 from iblk m c 4 t) (ix2 0 k) = (show FVec Ideal S1x1024 .f32 from V m c main_v15) (ix2 0 k) := by
    blk_ext [iblk, idx t]
  rw [h]
  entry_read
  pointwise

/-- The gain after the block. -/
theorem blk5 (c : Dev nD) (t : Fin cfg0.N) (k : Fin 1024) :
    (show FVec Ideal S1x1024 .f32 from iblk m c 5 t) (ix2 0 k)
      = (show FVec Ideal S2x1024 .f32 from m ((c : Thread nD τ).loc main_arg3)) (ix2 1 k) := by
  have h : (show FVec Ideal S1x1024 .f32 from iblk m c 5 t) (ix2 0 k) = (show FVec Ideal S1x1024 .f32 from V m c main_v18) (ix2 0 k) := by
    blk_ext [iblk, idx t]
  rw [h]
  entry_read
  pointwise

/-- The first weight, whole at every grid point. -/
theorem blk6 (c : Dev nD) (t : Fin cfg0.N) (k : Fin 1024) (u : Fin 4096) :
    (show FVec Ideal S1024x4096 .bf16 from iblk m c 6 t) (ix2 k u)
      = (show FVec Ideal S1024x4096 .f32 from m ((c : Thread nD τ).loc main_arg4)) (ix2 k u) := by
  have h : (show FVec Ideal S1024x4096 .bf16 from iblk m c 6 t) (ix2 k u) = (show FVec Ideal S1024x4096 .bf16 from V m c main_v19) (ix2 k u) := by
    blk_ext [iblk, idx t]
  rw [h]
  entry_read
  pointwise

/-- The second weight, whole at every grid point. -/
theorem blk7 (c : Dev nD) (t : Fin cfg0.N) (u : Fin 4096) (l : Fin 1024) :
    (show FVec Ideal S4096x1024 .bf16 from iblk m c 7 t) (ix2 u l)
      = (show FVec Ideal S4096x1024 .f32 from m ((c : Thread nD τ).loc main_arg5)) (ix2 u l) := by
  have h : (show FVec Ideal S4096x1024 .bf16 from iblk m c 7 t) (ix2 u l) = (show FVec Ideal S4096x1024 .bf16 from V m c main_v20) (ix2 u l) := by
    blk_ext [iblk, idx t]
  rw [h]
  entry_read
  pointwise

/-- The reference's result at the launch's arguments. -/
abbrev REFM (c : Dev nD) : FVec Ideal S65536x1024 .f32 :=
  Cert.FfnRefIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What a grid point stores at an index of its block is the reference's row at the array index it sits at. -/
theorem point (c : Dev nD) (t : Fin cfg0.N) (y) : out0_8 (iblk m c 0 t) (iblk m c 1 t) (iblk m c 2 t) (iblk m c 3 t) (iblk m c 4 t) (iblk m c 5 t) (iblk m c 6 t) (iblk m c 7 t) y
    = REFM m c (((cfg0.win 8).blk t).view.emb y) := by
  obtain ⟨r, l, rfl⟩ : ∃ (r : Fin 512) (l : Fin 1024), y = ix2 r l := ⟨y 0, y 1, eq_ix2 y⟩
  have ht := (idx t).2.2.2.2.2.2.2.2.2
  have hd : (t.val * 512 + r.val) / 2048 = t.val / 4 := by omega
  have he : ((cfg0.win 8).blk t).view.emb (ix2 r l) = ix2 ⟨t.val * 512 + r.val, by omega⟩ l := by
    blk_ext [idx t]
  rw [he]
  refine (out_at _ _ _ _ _ _ _ _ r l).trans (Eq.trans ?_ (Cert.FfnRefIdeal.RefTerm.ref_at _ _ _ _ _ _ _ _).symm)
  have e0 := funext fun k => blk0 m c t r k ⟨t.val * 512 + r.val, by omega⟩ rfl
  have e1 := funext fun k => blk1 m c t k ⟨(t.val * 512 + r.val) / 2048, by omega⟩ hd
  have e2 := funext fun k => blk2 m c t k ⟨(t.val * 512 + r.val) / 2048, by omega⟩ hd
  have e3 := funext fun k => blk3 m c t k ⟨(t.val * 512 + r.val) / 2048, by omega⟩ hd
  have e4 := funext fun k => blk4 m c t k
  have e5 := funext fun k => blk5 m c t k
  have e6 := funext fun k => funext fun u => blk6 m c t k u
  have e7 := funext fun u => funext fun l => blk7 m c t u l
  exact congrFun (congr (congr (congr (congrArg upd e0) (congr (congr (congrArg ffn (congr (congr (congr (congrArg hid e0) e4) e1) e2)) e6) e7)) e3) e5) l

/-- The result array after the run is the reference's result of the argument arrays. -/
theorem final (c : Dev nD) : (dats m 0 c).arrAt 8 (cfgs 0).N = REFM m c := by
  refine (dats m 0 c).arrAt_eq_of_covers 8 _ (by decide +kernel) fun t _ y => ?_
  blk_simp
  rw [after0_8]
  exact point m c t y

end Cert.FfnIdeal.RefValue

namespace Cert.Proof.Ffn

/-- The prompt's feed-forward block equals the reference's on the same arguments. -/
theorem algebraic : Cert.algebraic_FfnIdeal_FfnRefIdeal := by
  intro m g m' g' _ hagree
  refine ⟨fun c => Cert.FfnIdeal.RefValue.REFM m c, ?_, ?_⟩
  · exact (θ_run Cert.FfnIdeal.defs _ _).mono (fun r h c => ⟨(h c).1.trans (Cert.FfnIdeal.RefValue.final m c), (h c).2⟩)
      (Cert.FfnIdeal.Value.run_blocks m g)
  · refine (θ_run Cert.FfnRefIdeal.defs _ _).mono (fun r h c => ⟨(h c).1.trans ((Cert.FfnRefIdeal.Read.val_main_v56_eq m' c).trans ?_), (h c).2⟩)
      (Cert.FfnRefIdeal.Value.run m' g')
    obtain ⟨a0, a1, a2, a3, a4, a5⟩ := hagree c
    rw [a0, a1, a2, a3, a4, a5]

end Cert.Proof.Ffn
-- ==== Proof.ValFfnS.lean ====
module

public import proofs.«01_k».proof.Defs
public import proofs.«01_k».proof.Proof.Row
public import proofs.«01_k».proof.Proof.Gen.FfnSIdeal.Value
public import proofs.«01_k».proof.Proof.Gen.FfnSRefIdeal.Read
public import Idealize.ShloMosaic.Lib.Pointwise
public import Idealize.ShloMosaic.Lib.Pipeline.ValueKit
public import Idealize.ShloMosaic.Lib.Claim

@[expose] public section
set_option maxRecDepth 16384

noncomputable section

open Idealize.ShloMosaic Idealize.ShloMosaic.TcCoe Idealize.SL.Sem
open Idealize.ShloMosaic.Pipeline (Dat)
open Cert.Proof.Row

namespace Cert.FfnSRefIdeal.RefTerm
open Cert.FfnSRefIdeal Cert.FfnSRefIdeal.Gen Cert.FfnSRefIdeal.Read

/-- The reference's hidden activation, read at an index. -/
theorem hid_at (X : FVec Ideal S32x16x1024 .f32) (M : FVec Ideal S32x6144 .f32) (G : FVec Ideal S2x1024 .f32) (b : Fin 32) (r : Fin 16) (l : Fin 1024) :
    val_main_v32 (F := Ideal) X M G (ix3 b r l)
      = hid (fun k => X (ix3 b r k)) (fun k => G (ix2 1 k)) (fun k => M (ix2 b ⟨4096 + k.val, by omega⟩)) (fun k => M (ix2 b ⟨3072 + k.val, by omega⟩)) l := by
  pointwise [val_main_v32, val_main_v31, val_main_v30, val_main_v29, val_main_v28, val_main_v27, val_main_cst_2, val_main_v26, val_main_v25, val_main_v24, val_main_v23, val_main_v22, val_main_v21, val_main_v20, val_main_v19, val_main_cst_1, val_main_v18, val_main_v17, val_main_cst_0, val_main_v16, val_main_v15, val_main_cst, val_main_v14, val_main_v13, val_main_v12, val_main_v10, val_main_v9, val_main_v4, val_main_v3, hid, rms, rs]

/-- The reference's feed-forward product, read at an index. -/
theorem ffn_at (X : FVec Ideal S32x16x1024 .f32) (M : FVec Ideal S32x6144 .f32) (G : FVec Ideal S2x1024 .f32) (U : FVec Ideal S1024x4096 .f32) (D : FVec Ideal S4096x1024 .f32) (b : Fin 32) (r : Fin 16) (l : Fin 1024) :
    val_main_v37 (F := Ideal) X M G U D (ix3 b r l)
      = ffn (hid (fun k => X (ix3 b r k)) (fun k => G (ix2 1 k)) (fun k => M (ix2 b ⟨4096 + k.val, by omega⟩)) (fun k => M (ix2 b ⟨3072 + k.val, by omega⟩)))
          (fun k u => U (ix2 k u)) (fun u l => D (ix2 u l)) l := by
  pointwise [val_main_v37, val_main_v36, val_main_v35, val_main_v34, val_main_cst_3, val_main_v33, hid_at, ffn, act]

/-- The reference's result, read at an index: the updated row. -/
theorem ref_at (X : FVec Ideal S32x16x1024 .f32) (M : FVec Ideal S32x6144 .f32) (G P : FVec Ideal S2x1024 .f32) (U : FVec Ideal S1024x4096 .f32) (D : FVec Ideal S4096x1024 .f32) (r : Fin 512) (l : Fin 1024) :
    val_main_v56 (F := Ideal) X M G P U D (ix2 r l)
      = upd (fun k => X (ix3 ⟨r.val / 16, by omega⟩ ⟨r.val % 16, by omega⟩ k))
          (ffn (hid (fun k => X (ix3 ⟨r.val / 16, by omega⟩ ⟨r.val % 16, by omega⟩ k)) (fun k => G (ix2 1 k)) (fun k => M (ix2 ⟨r.val / 16, by omega⟩ ⟨4096 + k.val, by omega⟩)) (fun k => M (ix2 ⟨r.val / 16, by omega⟩ ⟨3072 + k.val, by omega⟩)))
            (fun k u => U (ix2 k u)) (fun u l => D (ix2 u l)))
          (fun k => M (ix2 ⟨r.val / 16, by omega⟩ ⟨5120 + k.val, by omega⟩)) (fun k => P (ix2 1 k)) l := by
  pointwise [val_main_v56, val_main_v55, val_main_v54, val_main_v53, val_main_v52, val_main_v51, val_main_v50, val_main_v49, val_main_v48, val_main_v47, val_main_v46, val_main_v45, val_main_cst_6, val_main_v44, val_main_v43, val_main_cst_5, val_main_v42, val_main_v41, val_main_cst_4, val_main_v40, ffn_at, val_main_v39, val_main_v38, val_main_v11, val_main_v5, upd, rms, rs]

end Cert.FfnSRefIdeal.RefTerm

namespace Cert.FfnSIdeal.RefValue
open Cert.FfnSIdeal Cert.FfnSIdeal.Gen

/-- The hidden activation of the first half of the block, read at an index. -/
theorem pay5_at (X : FVec Ideal S256x1024 .f32) (G : FVec Ideal S1x1024 .f32) (SC SH : FVec Ideal S1x256x1024 .f32) (r : Fin 256) (l : Fin 1024) :
    k0_pay5 (F := Ideal) X G SC SH (ix2 r l) = hid (fun k => X (ix2 r k)) (fun k => G (ix2 0 k)) (fun k => SC (ix3 0 r k)) (fun k => SH (ix3 0 r k)) l := by
  pointwise [k0_pay5, k0_pay3, hid, rms, rs]

/-- The hidden activation of the second half of the block, read at an index. -/
theorem pay8_at (X : FVec Ideal S256x1024 .f32) (G : FVec Ideal S1x1024 .f32) (SC SH : FVec Ideal S1x256x1024 .f32) (r : Fin 256) (l : Fin 1024) :
    k0_pay8 (F := Ideal) (k0_pay4 X) (k0_pay6 G) (k0_pay7 X) SC SH (ix2 r l)
      = hid (fun k => X (ix2 r k)) (fun k => G (ix2 0 k)) (fun k => SC (ix3 0 r k)) (fun k => SH (ix3 0 r k)) l := by
  pointwise [k0_pay8, k0_pay4, k0_pay6, k0_pay7, hid, rms, rs]

/-- The feed-forward product of the first half of the block: four slabs. -/
theorem top_at (H : FVec Ideal S256x1024 .bf16)
    (U0 D0 U1 D1 U2 D2 U3 D3 : FVec Ideal S1024x1024 .bf16) (r : Fin 256) (l : Fin 1024) :
    (k0_pay16 (F := Ideal) H (k0_pay11 H (k0_pay9 H U0 D0) U1 D1) (k0_pay14 D2) (k0_pay15 H U2) (constant S256x1024 .f32 0x00000000#32) U3 D3) (ix2 r l)
      = slab (fun k => H (ix2 r k)) (fun k u => U0 (ix2 k u)) (fun u l => D0 (ix2 u l)) l
        + slab (fun k => H (ix2 r k)) (fun k u => U1 (ix2 k u)) (fun u l => D1 (ix2 u l)) l
        + slab (fun k => H (ix2 r k)) (fun k u => U2 (ix2 k u)) (fun u l => D2 (ix2 u l)) l
        + slab (fun k => H (ix2 r k)) (fun k u => U3 (ix2 k u)) (fun u l => D3 (ix2 u l)) l := by
  pointwise [k0_pay16, k0_pay11, k0_pay9, k0_pay14, k0_pay15, slab, act]

/-- The feed-forward product of the second half of the block: four slabs. -/
theorem bot_at (X : FVec Ideal S256x1024 .f32) (G : FVec Ideal S1x1024 .f32) (SC SH : FVec Ideal S1x256x1024 .f32)
    (U0 D0 U1 D1 U2 D2 U3 D3 : FVec Ideal S1024x1024 .bf16) (r : Fin 256) (l : Fin 1024) :
    k0_pay17 (F := Ideal) (k0_pay8 (k0_pay4 X) (k0_pay6 G) (k0_pay7 X) SC SH) (k0_pay12 (k0_pay8 (k0_pay4 X) (k0_pay6 G) (k0_pay7 X) SC SH) (k0_pay10 (k0_pay4 X) (k0_pay6 G) (k0_pay7 X) SC SH U0 D0) U1 D1)
        (k0_pay13 (k0_pay8 (k0_pay4 X) (k0_pay6 G) (k0_pay7 X) SC SH) U2) D2 U3 D3 (ix2 r l)
      = slab (hid (fun k => X (ix2 r k)) (fun k => G (ix2 0 k)) (fun k => SC (ix3 0 r k)) (fun k => SH (ix3 0 r k))) (fun k u => U0 (ix2 k u)) (fun u l => D0 (ix2 u l)) l
        + slab (hid (fun k => X (ix2 r k)) (fun k => G (ix2 0 k)) (fun k => SC (ix3 0 r k)) (fun k => SH (ix3 0 r k))) (fun k u => U1 (ix2 k u)) (fun u l => D1 (ix2 u l)) l
        + slab (hid (fun k => X (ix2 r k)) (fun k => G (ix2 0 k)) (fun k => SC (ix3 0 r k)) (fun k => SH (ix3 0 r k))) (fun k u => U2 (ix2 k u)) (fun u l => D2 (ix2 u l)) l
        + slab (hid (fun k => X (ix2 r k)) (fun k => G (ix2 0 k)) (fun k => SC (ix3 0 r k)) (fun k => SH (ix3 0 r k))) (fun k u => U3 (ix2 k u)) (fun u l => D3 (ix2 u l)) l := by
  pointwise [k0_pay17, k0_pay12, k0_pay13, k0_pay10, pay8_at, slab, act]

/-- The stored first half, read at an index. -/
theorem pay1_at (X : FVec Ideal S256x1024 .f32) (H : FVec Ideal S256x1024 .bf16) (A C : FVec Ideal S256x1024 .f32) (Q : FVec Ideal S256x1024 .bf16) (D2 U3 D3 : FVec Ideal S1024x1024 .bf16)
    (GT : FVec Ideal S1x256x1024 .f32) (P : FVec Ideal S1x1024 .f32) (r : Fin 256) (l : Fin 1024) :
    k0_pay1 (F := Ideal) (k0_pay3 X) (k0_pay16 H A D2 Q C U3 D3) (k0_pay18 GT) (k0_pay19 P) (k0_pay20 H A D2 Q C U3 D3) (ix2 r l)
      = upd (fun k => X (ix2 r k)) (fun k => k0_pay16 (F := Ideal) H A D2 Q C U3 D3 (ix2 r k)) (fun k => GT (ix3 0 r k)) (fun k => P (ix2 0 k)) l := by
  pointwise [k0_pay1, k0_pay3, k0_pay18, k0_pay19, k0_pay20, upd, rms, rs]

/-- The stored second half, read at an index. -/
theorem pay2_at (X F : FVec Ideal S256x1024 .f32) (GT : FVec Ideal S1x256x1024 .f32) (P : FVec Ideal S1x1024 .f32) (r : Fin 256) (l : Fin 1024) :
    k0_pay2 (F := Ideal) (k0_pay4 X) F GT P (ix2 r l)
      = upd (fun k => X (ix2 r k)) (fun k => F (ix2 r k)) (fun k => GT (ix3 0 r k)) (fun k => P (ix2 0 k)) l := by
  pointwise [k0_pay2, k0_pay4, upd, rms, rs]

/-- The stored block, read at an index: the updated row of the blocks read. -/
theorem out_at (x0 : Vec Ideal S512x1024 .f32) (x1 x2 x3 : Vec Ideal S1x512x1024 .f32) (x4 x5 : Vec Ideal S1x1024 .f32) (x6 : Vec Ideal S1024x4096 .bf16) (x7 : Vec Ideal S4096x1024 .bf16) (R : Fin 512) (l : Fin 1024) :
    out0_8 (F := Ideal) x0 x1 x2 x3 x4 x5 x6 x7 (ix2 R l)
      = upd (fun k => x0 (ix2 R k))
          (ffn (hid (fun k => x0 (ix2 R k)) (fun k => x4 (ix2 0 k)) (fun k => x1 (ix3 0 R k)) (fun k => x2 (ix3 0 R k)))
            (fun k u => x6 (ix2 k u)) (fun u l => x7 (ix2 u l)))
          (fun k => x3 (ix3 0 R k)) (fun k => x5 (ix2 0 k)) l := by
  rw [show ffn (hid (fun k => x0 (ix2 R k)) (fun k => x4 (ix2 0 k)) (fun k => x1 (ix3 0 R k)) (fun k => x2 (ix3 0 R k)))
            (fun k u => x6 (ix2 k u)) (fun u l => x7 (ix2 u l)) = _ from funext fun l => ffn_slabs _ _ _ l]
  have b0 : ∀ r : Fin 256, r.val < 512 := fun r => by omega
  have b1 : ∀ r : Fin 256, 256 + r.val < 512 := fun r => by omega
  unfold_out out0_8
  canon_tiles x h
  · obtain ⟨r, k, rfl⟩ : ∃ (r : Fin 256) (k : Fin 1024), x = ix2 r k := ⟨x 0, x 1, eq_ix2 x⟩
    obtain rfl : l = k := Fin.ext h1
    obtain rfl : R = ⟨256 + r.val, b1 r⟩ := Fin.ext h0
    pointwise [pay2_at, bot_at]
  · obtain ⟨r, k, rfl⟩ : ∃ (r : Fin 256) (k : Fin 1024), x = ix2 r k := ⟨x 0, x 1, eq_ix2 x⟩
    obtain rfl : l = k := Fin.ext h1
    obtain rfl : R = ⟨r.val, b0 r⟩ := Fin.ext h0
    pointwise [pay1_at, top_at, pay5_at]

variable (m : (ℓ : Loc nD τ sig) → Buf (Elt Ideal) ℓ)

/-- Every window stages its whole array at the one grid point. -/
theorem idx : ∀ t : Fin cfg0.N, win0_0.index t = ![0, 0] ∧ win0_1.index t = ![0, 0, 0] ∧ win0_2.index t = ![0, 0, 0] ∧ win0_3.index t = ![0, 0, 0]
    ∧ win0_4.index t = ![0, 0] ∧ win0_5.index t = ![0, 0] ∧ win0_6.index t = ![0, 0] ∧ win0_7.index t = ![0, 0] ∧ win0_8.index t = ![0, 0] ∧ t.val < 1 :=
  (by decide +kernel : ∀ t : Fin grid0.N, _)

/-- The activation block holds the rows of the batch. -/
theorem blk0 (c : Dev nD) (t : Fin cfg0.N) (r : Fin 512) (k : Fin 1024) :
    (show FVec Ideal S512x1024 .f32 from iblk m c 0 t) (ix2 r k)
      = (show FVec Ideal S32x16x1024 .f32 from m ((c : Thread nD τ).loc main_arg0)) (ix3 ⟨r.val / 16, by omega⟩ ⟨r.val % 16, by omega⟩ k) := by
  have h : (show FVec Ideal S512x1024 .f32 from iblk m c 0 t) (ix2 r k) = (show FVec Ideal S512x1024 .f32 from V m c main_v24) (ix2 r k) := by
    blk_ext [iblk, idx t]
  rw [h]
  entry_read
  pointwise

/-- The scale block holds each row's scale. -/
theorem blk1 (c : Dev nD) (t : Fin cfg0.N) (r : Fin 512) (k : Fin 1024) :
    (show FVec Ideal S1x512x1024 .f32 from iblk m c 1 t) (ix3 0 r k)
      = (show FVec Ideal S32x6144 .f32 from m ((c : Thread nD τ).loc main_arg1)) (ix2 ⟨r.val / 16, by omega⟩ ⟨4096 + k.val, by omega⟩) := by
  have h : (show FVec Ideal S1x512x1024 .f32 from iblk m c 1 t) (ix3 0 r k) = (show FVec Ideal S1x512x1024 .f32 from V m c main_v20) (ix3 0 r k) := by
    blk_ext [iblk, idx t]
  rw [h]
  entry_read
  pointwise

/-- The shift block holds each row's shift. -/
theorem blk2 (c : Dev nD) (t : Fin cfg0.N) (r : Fin 512) (k : Fin 1024) :
    (show FVec Ideal S1x512x1024 .f32 from iblk m c 2 t) (ix3 0 r k)
      = (show FVec Ideal S32x6144 .f32 from m ((c : Thread nD τ).loc main_arg1)) (ix2 ⟨r.val / 16, by omega⟩ ⟨3072 + k.val, by omega⟩) := by
  have h : (show FVec Ideal S1x512x1024 .f32 from iblk m c 2 t) (ix3 0 r k) = (show FVec Ideal S1x512x1024 .f32 from V m c main_v17) (ix3 0 r k) := by
    blk_ext [iblk, idx t]
  rw [h]
  entry_read
  pointwise

/-- The gate block holds each row's gate. -/
theorem blk3 (c : Dev nD) (t : Fin cfg0.N) (r : Fin 512) (k : Fin 1024) :
    (show FVec Ideal S1x512x1024 .f32 from iblk m c 3 t) (ix3 0 r k)
      = (show FVec Ideal S32x6144 .f32 from m ((c : Thread nD τ).loc main_arg1)) (ix2 ⟨r.val / 16, by omega⟩ ⟨5120 + k.val, by omega⟩) := by
  have h : (show FVec Ideal S1x512x1024 .f32 from iblk m c 3 t) (ix3 0 r k) = (show FVec Ideal S1x512x1024 .f32 from V m c main_v23) (ix3 0 r k) := by
    blk_ext [iblk, idx t]
  rw [h]
  entry_read
  pointwise

/-- The gain before the block. -/
theorem blk4 (c : Dev nD) (t : Fin cfg0.N) (k : Fin 1024) :
    (show FVec Ideal S1x1024 .f32 from iblk m c 4 t) (ix2 0 k)
      = (show FVec Ideal S2x1024 .f32 from m ((c : Thread nD τ).loc main_arg2)) (ix2 1 k) := by
  have h : (show FVec Ideal S1x1024 .f32 from iblk m c 4 t) (ix2 0 k) = (show FVec Ideal S1x1024 .f32 from V m c main_v27) (ix2 0 k) := by
    blk_ext [iblk, idx t]
  rw [h]
  entry_read
  pointwise

/-- The gain after the block. -/
theorem blk5 (c : Dev nD) (t : Fin cfg0.N) (k : Fin 1024) :
    (show FVec Ideal S1x1024 .f32 from iblk m c 5 t) (ix2 0 k)
      = (show FVec Ideal S2x1024 .f32 from m ((c : Thread nD τ).loc main_arg3)) (ix2 1 k) := by
  have h : (show FVec Ideal S1x1024 .f32 from iblk m c 5 t) (ix2 0 k) = (show FVec Ideal S1x1024 .f32 from V m c main_v30) (ix2 0 k) := by
    blk_ext [iblk, idx t]
  rw [h]
  entry_read
  pointwise

/-- The first weight. -/
theorem blk6 (c : Dev nD) (t : Fin cfg0.N) (k : Fin 1024) (u : Fin 4096) :
    (show FVec Ideal S1024x4096 .bf16 from iblk m c 6 t) (ix2 k u)
      = (show FVec Ideal S1024x4096 .f32 from m ((c : Thread nD τ).loc main_arg4)) (ix2 k u) := by
  have h : (show FVec Ideal S1024x4096 .bf16 from iblk m c 6 t) (ix2 k u) = (show FVec Ideal S1024x4096 .bf16 from V m c main_v31) (ix2 k u) := by
    blk_ext [iblk, idx t]
  rw [h]
  entry_read
  pointwise

/-- The second weight. -/
theorem blk7 (c : Dev nD) (t : Fin cfg0.N) (u : Fin 4096) (l : Fin 1024) :
    (show FVec Ideal S4096x1024 .bf16 from iblk m c 7 t) (ix2 u l)
      = (show FVec Ideal S4096x1024 .f32 from m ((c : Thread nD τ).loc main_arg5)) (ix2 u l) := by
  have h : (show FVec Ideal S4096x1024 .bf16 from iblk m c 7 t) (ix2 u l) = (show FVec Ideal S4096x1024 .bf16 from V m c main_v32) (ix2 u l) := by
    blk_ext [iblk, idx t]
  rw [h]
  entry_read
  pointwise

/-- The reference's result at the launch's arguments. -/
abbrev REFM (c : Dev nD) : FVec Ideal S512x1024 .f32 :=
  Cert.FfnSRefIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What a grid point stores at an index of its block is the reference's row at the array index it sits at. -/
theorem point (c : Dev nD) (t : Fin cfg0.N) (y) : out0_8 (iblk m c 0 t) (iblk m c 1 t) (iblk m c 2 t) (iblk m c 3 t) (iblk m c 4 t) (iblk m c 5 t) (iblk m c 6 t) (iblk m c 7 t) y
    = REFM m c (((cfg0.win 8).blk t).view.emb y) := by
  obtain ⟨r, l, rfl⟩ : ∃ (r : Fin 512) (l : Fin 1024), y = ix2 r l := ⟨y 0, y 1, eq_ix2 y⟩
  have he : ((cfg0.win 8).blk t).view.emb (ix2 r l) = ix2 r l := by
    blk_ext [idx t]
  rw [he]
  refine (out_at _ _ _ _ _ _ _ _ r l).trans (Eq.trans ?_ (Cert.FfnSRefIdeal.RefTerm.ref_at _ _ _ _ _ _ _ _).symm)
  have e0 := funext fun k => blk0 m c t r k
  have e1 := funext fun k => blk1 m c t r k
  have e2 := funext fun k => blk2 m c t r k
  have e3 := funext fun k => blk3 m c t r k
  have e4 := funext fun k => blk4 m c t k
  have e5 := funext fun k => blk5 m c t k
  have e6 := funext fun k => funext fun u => blk6 m c t k u
  have e7 := funext fun u => funext fun l => blk7 m c t u l
  exact congrFun (congr (congr (congr (congrArg upd e0) (congr (congr (congrArg ffn (congr (congr (congr (congrArg hid e0) e4) e1) e2)) e6) e7)) e3) e5) l

/-- The result array after the run is the reference's result of the argument arrays. -/
theorem final (c : Dev nD) : (dats m 0 c).arrAt 8 (cfgs 0).N = REFM m c := by
  refine (dats m 0 c).arrAt_eq_of_covers 8 _ (by decide +kernel) fun t _ y => ?_
  blk_simp
  rw [after0_8]
  exact point m c t y

end Cert.FfnSIdeal.RefValue

namespace Cert.Proof.FfnS

/-- The sample's feed-forward block equals the reference's on the same arguments. -/
theorem algebraic : Cert.algebraic_FfnSIdeal_FfnSRefIdeal := by
  intro m g m' g' _ hagree
  refine ⟨fun c => Cert.FfnSIdeal.RefValue.REFM m c, ?_, ?_⟩
  · exact (θ_run Cert.FfnSIdeal.defs _ _).mono (fun r h c => ⟨(h c).1.trans (Cert.FfnSIdeal.RefValue.final m c), (h c).2⟩)
      (Cert.FfnSIdeal.Value.run_blocks m g)
  · refine (θ_run Cert.FfnSRefIdeal.defs _ _).mono (fun r h c => ⟨(h c).1.trans ((Cert.FfnSRefIdeal.Read.val_main_v56_eq m' c).trans ?_), (h c).2⟩)
      (Cert.FfnSRefIdeal.Value.run m' g')
    obtain ⟨a0, a1, a2, a3, a4, a5⟩ := hagree c
    rw [a0, a1, a2, a3, a4, a5]

end Cert.Proof.FfnS
-- ==== Proof.ValMerge.lean ====
module

public import proofs.«01_k».proof.Defs
public import proofs.«01_k».proof.Proof.Row
public import proofs.«01_k».proof.Proof.Gen.MergeIdeal.Value
public import proofs.«01_k».proof.Proof.Gen.MergeRefIdeal.Read
public import Idealize.ShloMosaic.Lib.Pointwise
public import Idealize.ShloMosaic.Lib.Pipeline.ValueKit
public import Idealize.ShloMosaic.Lib.Claim

@[expose] public section
set_option maxRecDepth 16384

noncomputable section

open Idealize.ShloMosaic Idealize.ShloMosaic.TcCoe Idealize.SL.Sem
open Idealize.ShloMosaic.Pipeline (Dat)
open Cert.Proof.Row

namespace Cert.Proof.Merge

/-- A row of the two branches, each gated and projected, summed. -/
def mrg (a : Fin 1024 → EReal) (b : Fin 2048 → EReal) (z : Fin 2048 → EReal) (wa : Fin 1024 → Fin 1024 → EReal) (wb : Fin 2048 → Fin 1024 → EReal) (l : Fin 1024) : EReal :=
  Ideal.logistic (z ⟨l.val, by omega⟩) * (∑ k, a k * wa k l) + Ideal.logistic (z ⟨1024 + l.val, by omega⟩) * (∑ k, b k * wb k l)

/-- The output projection of a row. -/
def prj (v : Fin 1024 → EReal) (w : Fin 1024 → Fin 1024 → EReal) (l : Fin 1024) : EReal := ∑ k, v k * w k l

end Cert.Proof.Merge

open Cert.Proof.Merge

namespace Cert.MergeRefIdeal.RefTerm
open Cert.MergeRefIdeal Cert.MergeRefIdeal.Gen Cert.MergeRefIdeal.Read

/-- The reference's merged branches, read at an index. -/
theorem mrg_at (A : FVec Ideal S32x2048x1024 .bf16) (B Z : FVec Ideal S32x2048x2048 .bf16) (WA : FVec Ideal S1024x1024 .f32) (WB : FVec Ideal S2048x1024 .f32) (b : Fin 32) (r : Fin 2048) (l : Fin 1024) :
    val_main_v30 (F := Ideal) A B Z WA WB (ix3 b r l)
      = mrg (fun k => A (ix3 b r k)) (fun k => B (ix3 b r k)) (fun k => Z (ix3 b r k)) (fun k l => WA (ix2 k l)) (fun k l => WB (ix2 k l)) l := by
  pointwise [val_main_v30, val_main_v29, val_main_v28, val_main_v27, val_main_v26, val_main_v25, val_main_v24, val_main_v23, val_main_v22, val_main_v21, val_main_v20, val_main_v19, val_main_v18, val_main_v17, val_main_cst_0, val_main_v16, val_main_v15, val_main_cst, val_main_v14, val_main_v13, val_main_v12, mrg]
  try rfl

/-- The reference's result, read at an index: the updated row. -/
theorem ref_at (A : FVec Ideal S32x2048x1024 .bf16) (B Z : FVec Ideal S32x2048x2048 .bf16) (X : FVec Ideal S32x2048x1024 .f32) (M : FVec Ideal S32x6144 .f32) (P : FVec Ideal S2x1024 .f32) (WA : FVec Ideal S1024x1024 .f32) (WB : FVec Ideal S2048x1024 .f32) (WO : FVec Ideal S1024x1024 .f32) (r : Fin 65536) (l : Fin 1024) :
    val_main_v50 (F := Ideal) A B Z X M P WA WB WO (ix2 r l)
      = upd (fun k => X (ix3 ⟨r.val / 2048, by omega⟩ ⟨r.val % 2048, by omega⟩ k))
          (prj (mrg (fun k => A (ix3 ⟨r.val / 2048, by omega⟩ ⟨r.val % 2048, by omega⟩ k)) (fun k => B (ix3 ⟨r.val / 2048, by omega⟩ ⟨r.val % 2048, by omega⟩ k)) (fun k => Z (ix3 ⟨r.val / 2048, by omega⟩ ⟨r.val % 2048, by omega⟩ k)) (fun k l => WA (ix2 k l)) (fun k l => WB (ix2 k l)))
            (fun k l => WO (ix2 k l)))
          (fun k => M (ix2 ⟨r.val / 2048, by omega⟩ ⟨2048 + k.val, by omega⟩)) (fun k => P (ix2 0 k)) l := by
  pointwise [val_main_v50, val_main_v49, val_main_v48, val_main_v47, val_main_v46, val_main_v45, val_main_v44, val_main_v43, val_main_v42, val_main_v41, val_main_v40, val_main_v39, val_main_cst_3, val_main_v38, val_main_v37, val_main_cst_2, val_main_v36, val_main_v35, val_main_cst_1, val_main_v34, val_main_v33, val_main_v32, val_main_v31, mrg_at, val_main_v8, val_main_v2, upd, rms, rs, prj]

end Cert.MergeRefIdeal.RefTerm

namespace Cert.MergeIdeal.RefValue
open Cert.MergeIdeal Cert.MergeIdeal.Gen

/-- The merged branches of the first half of a block, read at an index. -/
theorem pay4_at (A : FVec Ideal S256x1024 .bf16) (WA : FVec Ideal S1024x1024 .bf16) (B : FVec Ideal S256x2048 .bf16) (WB : FVec Ideal S2048x1024 .bf16) (Z Y : FVec Ideal S256x1024 .bf16) (r : Fin 256) (l : Fin 1024) :
    k0_pay4 (F := Ideal) A WA B WB Z Y (ix2 r l)
      = Ideal.logistic (Z (ix2 r l)) * (∑ k : Fin 1024, A (ix2 r k) * WA (ix2 k l)) + Ideal.logistic (Y (ix2 r l)) * (∑ k : Fin 2048, B (ix2 r k) * WB (ix2 k l)) := by
  pointwise [k0_pay4]

/-- The stored first half, read at an index. -/
theorem pay7_at (V : FVec Ideal S256x1024 .f32) (WO : FVec Ideal S1024x1024 .bf16) (X : FVec Ideal S256x1024 .f32) (GT : FVec Ideal S1x1x1024 .f32) (P : FVec Ideal S1x1024 .f32) (r : Fin 256) (l : Fin 1024) :
    k0_pay7 (F := Ideal) V WO X GT P (ix2 r l)
      = upd (fun k => X (ix2 r k)) (prj (fun k => V (ix2 r k)) (fun k l => WO (ix2 k l))) (fun k => GT (ix3 0 0 k)) (fun k => P (ix2 0 k)) l := by
  pointwise [k0_pay7, upd, rms, rs, prj]

/-- The projected merge of the second half of a block, read at an index. -/
theorem pay6_at (A : FVec Ideal S256x1024 .bf16) (WA : FVec Ideal S1024x1024 .bf16) (B : FVec Ideal S256x2048 .bf16) (WB : FVec Ideal S2048x1024 .bf16) (Z Y : FVec Ideal S256x1024 .bf16) (WO : FVec Ideal S1024x1024 .bf16) (r : Fin 256) (l : Fin 1024) :
    k0_pay6 (F := Ideal) (k0_pay2 A WA) (k0_pay3 B WB) (k0_pay5 Z) Y WO (ix2 r l)
      = prj (fun l => Ideal.logistic (Z (ix2 r l)) * (∑ k : Fin 1024, A (ix2 r k) * WA (ix2 k l)) + Ideal.logistic (Y (ix2 r l)) * (∑ k : Fin 2048, B (ix2 r k) * WB (ix2 k l))) (fun k l => WO (ix2 k l)) l := by
  pointwise [k0_pay6, k0_pay2, k0_pay3, k0_pay5, prj]

/-- The stored second half, read at an index. -/
theorem pay1_at (V : FVec Ideal S256x1024 .f32) (X : FVec Ideal S256x1024 .f32) (GT : FVec Ideal S1x1x1024 .f32) (P : FVec Ideal S1x1024 .f32) (r : Fin 256) (l : Fin 1024) :
    k0_pay1 (F := Ideal) V X GT P (ix2 r l)
      = upd (fun k => X (ix2 r k)) (fun k => V (ix2 r k)) (fun k => GT (ix3 0 0 k)) (fun k => P (ix2 0 k)) l := by
  pointwise [k0_pay1, upd, rms, rs]

/-- The stored block, read at an index: the updated row of the blocks read. -/
theorem out_at (x0 : Vec Ideal S512x1024 .bf16) (x1 x2 : Vec Ideal S512x2048 .bf16) (x3 : Vec Ideal S512x1024 .f32) (x4 : Vec Ideal S1x1x1024 .f32) (x5 : Vec Ideal S1x1024 .f32) (x6 : Vec Ideal S1024x1024 .bf16) (x7 : Vec Ideal S2048x1024 .bf16) (x8 : Vec Ideal S1024x1024 .bf16) (R : Fin 512) (l : Fin 1024) :
    out0_9 (F := Ideal) x0 x1 x2 x3 x4 x5 x6 x7 x8 (ix2 R l)
      = upd (fun k => x3 (ix2 R k))
          (prj (mrg (fun k => x0 (ix2 R k)) (fun k => x1 (ix2 R k)) (fun k => x2 (ix2 R k)) (fun k l => x6 (ix2 k l)) (fun k l => x7 (ix2 k l))) (fun k l => x8 (ix2 k l)))
          (fun k => x4 (ix3 0 0 k)) (fun k => x5 (ix2 0 k)) l := by
  have b0 : ∀ r : Fin 256, r.val < 512 := fun r => by omega
  have b1 : ∀ r : Fin 256, 256 + r.val < 512 := fun r => by omega
  unfold out0_9
  canon_tiles x h
  · obtain ⟨r, k, rfl⟩ : ∃ (r : Fin 256) (k : Fin 1024), x = ix2 r k := ⟨x 0, x 1, eq_ix2 x⟩
    obtain rfl : l = k := Fin.ext h1
    obtain rfl : R = ⟨256 + r.val, b1 r⟩ := Fin.ext h0
    pointwise [pay1_at, pay6_at, mrg]
    rfl
  · obtain ⟨r, k, rfl⟩ : ∃ (r : Fin 256) (k : Fin 1024), x = ix2 r k := ⟨x 0, x 1, eq_ix2 x⟩
    obtain rfl : l = k := Fin.ext h1
    obtain rfl : R = ⟨r.val, b0 r⟩ := Fin.ext h0
    pointwise [pay7_at, pay4_at, mrg]
    rfl

variable (m : (ℓ : Loc nD τ sig) → Buf (Elt Ideal) ℓ)

/-- Where each grid point's blocks sit. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val / 4, 0, 0] ∧ win0_5.index t = ![0, 0] ∧ win0_6.index t = ![0, 0] ∧ win0_7.index t = ![0, 0] ∧ win0_8.index t = ![0, 0] ∧ win0_9.index t = ![t.val, 0] ∧ t.val < 128 :=
  (by decide +kernel : ∀ t : Fin grid0.N, _)

/-- The first branch's rows of a grid point's tile. -/
theorem blk0 (c : Dev nD) (t : Fin cfg0.N) (r : Fin 512) (k : Fin 1024) (R : Fin 65536) (hR : R.val = t.val * 512 + r.val) :
    (show FVec Ideal S512x1024 .bf16 from iblk m c 0 t) (ix2 r k)
      = (show FVec Ideal S32x2048x1024 .bf16 from m ((c : Thread nD τ).loc main_arg0)) (ix3 ⟨R.val / 2048, by omega⟩ ⟨R.val % 2048, by omega⟩ k) := by
  have h : (show FVec Ideal S512x1024 .bf16 from iblk m c 0 t) (ix2 r k) = (show FVec Ideal S65536x1024 .bf16 from V m c main_v12) (ix2 R k) := by
    blk_ext [iblk, idx t]
  rw [h]
  entry_read
  pointwise

/-- The second branch's rows of a grid point's tile. -/
theorem blk1 (c : Dev nD) (t : Fin cfg0.N) (r : Fin 512) (k : Fin 2048) (R : Fin 65536) (hR : R.val = t.val * 512 + r.val) :
    (show FVec Ideal S512x2048 .bf16 from iblk m c 1 t) (ix2 r k)
      = (show FVec Ideal S32x2048x2048 .bf16 from m ((c : Thread nD τ).loc main_arg1)) (ix3 ⟨R.val / 2048, by omega⟩ ⟨R.val % 2048, by omega⟩ k) := by
  have h : (show FVec Ideal S512x2048 .bf16 from iblk m c 1 t) (ix2 r k) = (show FVec Ideal S65536x2048 .bf16 from V m c main_v13) (ix2 R k) := by
    blk_ext [iblk, idx t]
  rw [h]
  entry_read
  pointwise

/-- The gates' rows of a grid point's tile. -/
theorem blk2 (c : Dev nD) (t : Fin cfg0.N) (r : Fin 512) (k : Fin 2048) (R : Fin 65536) (hR : R.val = t.val * 512 + r.val) :
    (show FVec Ideal S512x2048 .bf16 from iblk m c 2 t) (ix2 r k)
      = (show FVec Ideal S32x2048x2048 .bf16 from m ((c : Thread nD τ).loc main_arg2)) (ix3 ⟨R.val / 2048, by omega⟩ ⟨R.val % 2048, by omega⟩ k) := by
  have h : (show FVec Ideal S512x2048 .bf16 from iblk m c 2 t) (ix2 r k) = (show FVec Ideal S65536x2048 .bf16 from V m c main_v14) (ix2 R k) := by
    blk_ext [iblk, idx t]
  rw [h]
  entry_read
  pointwise

/-- The layer input's rows of a grid point's tile. -/
theorem blk3 (c : Dev nD) (t : Fin cfg0.N) (r : Fin 512) (k : Fin 1024) (R : Fin 65536) (hR : R.val = t.val * 512 + r.val) :
    (show FVec Ideal S512x1024 .f32 from iblk m c 3 t) (ix2 r k)
      = (show FVec Ideal S32x2048x1024 .f32 from m ((c : Thread nD τ).loc main_arg3)) (ix3 ⟨R.val / 2048, by omega⟩ ⟨R.val % 2048, by omega⟩ k) := by
  have h : (show FVec Ideal S512x1024 .f32 from iblk m c 3 t) (ix2 r k) = (show FVec Ideal S65536x1024 .f32 from V m c main_v15) (ix2 R k) := by
    blk_ext [iblk, idx t]
  rw [h]
  entry_read
  pointwise

/-- The gate of the update of a grid point. -/
theorem blk4 (c : Dev nD) (t : Fin cfg0.N) (k : Fin 1024) (b : Fin 32) (hb : b.val = t.val / 4) :
    (show FVec Ideal S1x1x1024 .f32 from iblk m c 4 t) (ix3 0 0 k)
      = (show FVec Ideal S32x6144 .f32 from m ((c : Thread nD τ).loc main_arg4)) (ix2 b ⟨2048 + k.val, by omega⟩) := by
  have h : (show FVec Ideal S1x1x1024 .f32 from iblk m c 4 t) (ix3 0 0 k) = (show FVec Ideal S32x1x1024 .f32 from V m c main_v8) (ix3 b 0 k) := by
    blk_ext [iblk, idx t]
  rw [h]
  entry_read
  pointwise

/-- The gain after the projection. -/
theorem blk5 (c : Dev nD) (t : Fin cfg0.N) (k : Fin 1024) :
    (show FVec Ideal S1x1024 .f32 from iblk m c 5 t) (ix2 0 k)
      = (show FVec Ideal S2x1024 .f32 from m ((c : Thread nD τ).loc main_arg5)) (ix2 0 k) := by
  have h : (show FVec Ideal S1x1024 .f32 from iblk m c 5 t) (ix2 0 k) = (show FVec Ideal S1x1024 .f32 from V m c main_v18) (ix2 0 k) := by
    blk_ext [iblk, idx t]
  rw [h]
  entry_read
  pointwise

/-- The first branch's weight. -/
theorem blk6 (c : Dev nD) (t : Fin cfg0.N) (k l : Fin 1024) :
    (show FVec Ideal S1024x1024 .bf16 from iblk m c 6 t) (ix2 k l)
      = (show FVec Ideal S1024x1024 .f32 from m ((c : Thread nD τ).loc main_arg6)) (ix2 k l) := by
  have h : (show FVec Ideal S1024x1024 .bf16 from iblk m c 6 t) (ix2 k l) = (show FVec Ideal S1024x1024 .bf16 from V m c main_v19) (ix2 k l) := by
    blk_ext [iblk, idx t]
  rw [h]
  entry_read
  pointwise

/-- The second branch's weight. -/
theorem blk7 (c : Dev nD) (t : Fin cfg0.N) (k : Fin 2048) (l : Fin 1024) :
    (show FVec Ideal S2048x1024 .bf16 from iblk m c 7 t) (ix2 k l)
      = (show FVec Ideal S2048x1024 .f32 from m ((c : Thread nD τ).loc main_arg7)) (ix2 k l) := by
  have h : (show FVec Ideal S2048x1024 .bf16 from iblk m c 7 t) (ix2 k l) = (show FVec Ideal S2048x1024 .bf16 from V m c main_v20) (ix2 k l) := by
    blk_ext [iblk, idx t]
  rw [h]
  entry_read
  pointwise

/-- The output weight. -/
theorem blk8 (c : Dev nD) (t : Fin cfg0.N) (k l : Fin 1024) :
    (show FVec Ideal S1024x1024 .bf16 from iblk m c 8 t) (ix2 k l)
      = (show FVec Ideal S1024x1024 .f32 from m ((c : Thread nD τ).loc main_arg8)) (ix2 k l) := by
  have h : (show FVec Ideal S1024x1024 .bf16 from iblk m c 8 t) (ix2 k l) = (show FVec Ideal S1024x1024 .bf16 from V m c main_v21) (ix2 k l) := by
    blk_ext [iblk, idx t]
  rw [h]
  entry_read
  pointwise

/-- The reference's result at the launch's arguments. -/
abbrev REFM (c : Dev nD) : FVec Ideal S65536x1024 .f32 :=
  Cert.MergeRefIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- What a grid point stores at an index of its block is the reference's row at the array index it sits at. -/
theorem point (c : Dev nD) (t : Fin cfg0.N) (y) : out0_9 (iblk m c 0 t) (iblk m c 1 t) (iblk m c 2 t) (iblk m c 3 t) (iblk m c 4 t) (iblk m c 5 t) (iblk m c 6 t) (iblk m c 7 t) (iblk m c 8 t) y
    = REFM m c (((cfg0.win 9).blk t).view.emb y) := by
  obtain ⟨r, l, rfl⟩ : ∃ (r : Fin 512) (l : Fin 1024), y = ix2 r l := ⟨y 0, y 1, eq_ix2 y⟩
  have ht := (idx t).2.2.2.2.2.2.2.2.2.2
  have hd : (t.val * 512 + r.val) / 2048 = t.val / 4 := by omega
  have he : ((cfg0.win 9).blk t).view.emb (ix2 r l) = ix2 ⟨t.val * 512 + r.val, by omega⟩ l := by
    blk_ext [idx t]
  rw [he]
  refine (out_at _ _ _ _ _ _ _ _ _ r l).trans (Eq.trans ?_ (Cert.MergeRefIdeal.RefTerm.ref_at _ _ _ _ _ _ _ _ _ _ _).symm)
  have e0 := funext fun k => blk0 m c t r k ⟨t.val * 512 + r.val, by omega⟩ rfl
  have e1 := funext fun k => blk1 m c t r k ⟨t.val * 512 + r.val, by omega⟩ rfl
  have e2 := funext fun k => blk2 m c t r k ⟨t.val * 512 + r.val, by omega⟩ rfl
  have e3 := funext fun k => blk3 m c t r k ⟨t.val * 512 + r.val, by omega⟩ rfl
  have e4 := funext fun k => blk4 m c t k ⟨(t.val * 512 + r.val) / 2048, by omega⟩ hd
  have e5 := funext fun k => blk5 m c t k
  have e6 := funext fun k => funext fun u => blk6 m c t k u
  have e7 := funext fun k => funext fun u => blk7 m c t k u
  have e8 := funext fun k => funext fun u => blk8 m c t k u
  exact congrFun (congr (congr (congr (congrArg upd e3) (congr (congrArg prj (congr (congr (congr (congr (congrArg mrg e0) e1) e2) e6) e7)) e8)) e4) e5) l

/-- The result array after the run is the reference's result of the argument arrays. -/
theorem final (c : Dev nD) : (dats m 0 c).arrAt 9 (cfgs 0).N = REFM m c := by
  refine (dats m 0 c).arrAt_eq_of_covers 9 _ (by decide +kernel) fun t _ y => ?_
  blk_simp
  rw [after0_9]
  exact point m c t y

end Cert.MergeIdeal.RefValue

namespace Cert.Proof.Merge

/-- The merge of the two branches equals the reference's on the same arguments. -/
theorem algebraic : Cert.algebraic_MergeIdeal_MergeRefIdeal := by
  intro m g m' g' _ hagree
  refine ⟨fun c => Cert.MergeIdeal.RefValue.REFM m c, ?_, ?_⟩
  · exact (θ_run Cert.MergeIdeal.defs _ _).mono (fun r h c => ⟨(h c).1.trans (Cert.MergeIdeal.RefValue.final m c), (h c).2⟩)
      (Cert.MergeIdeal.Value.run_blocks m g)
  · refine (θ_run Cert.MergeRefIdeal.defs _ _).mono (fun r h c => ⟨(h c).1.trans ((Cert.MergeRefIdeal.Read.val_main_v50_eq m' c).trans ?_), (h c).2⟩)
      (Cert.MergeRefIdeal.Value.run m' g')
    obtain ⟨a0, a1, a2, a3, a4, a5, a6, a7, a8⟩ := hagree c
    rw [a0, a1, a2, a3, a4, a5, a6, a7, a8]

end Cert.Proof.Merge
-- ==== Proof.ValInA.lean ====
module

public import proofs.«01_k».proof.Defs
public import proofs.«01_k».proof.Proof.Gen.InAIdeal.Value
public import proofs.«01_k».proof.Proof.Gen.InARefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InARefIdeal.RefTerm
open Cert.InARefIdeal Cert.InARefIdeal.Gen

/-- The reference's projection onto the first group of columns, of any activations and weights. -/
abbrev REF (X : FVec Ideal S32x2048x1024 .bf16) (W : FVec Ideal S1024x11520 .f32) : FVec Ideal S65536x3328 .bf16 :=
  truncf .bf16 (shapeCast _ (extractStridedSlice S32x2048x3328 ![0, 0, 0] (Host.dotGeneral dot_S32x2048x1024_S1024x11520_S32x2048x11520_2_0_01_1_n_n none (extf .f32 X bitsLt_bf16_f32) W) slices_S32x2048x11520_S32x2048x3328_0_0_0) shapeCasts_S32x2048x3328_S65536x3328) bitsLt_bf16_f32

end Cert.InARefIdeal.RefTerm

namespace Cert.InAIdeal.RefValue
open Cert.InAIdeal Cert.InAIdeal.Gen Cert.InARefIdeal.RefTerm

variable (m : (ℓ : Loc nD τ sig) → Buf (Elt Ideal) ℓ)

/-- Where each grid point's blocks sit. -/
theorem idx : ∀ t : Fin cfg0.N, win0_0.index t = ![t.val % 64, 0] ∧ win0_1.index t = ![0, t.val / 64] ∧ win0_2.index t = ![t.val % 64, t.val / 64] ∧ t.val / 64 < 1 :=
  (by decide +kernel : ∀ t : Fin grid0.N, _)

/-- The stored block, read at an index: the sum of products. -/
theorem pay_at (A : FVec Ideal S1024x1024 .bf16) (B : FVec Ideal S1024x3328 .bf16) (r : Fin 1024) (l : Fin 3328) :
    k0_pay1 (F := Ideal) A B (ix2 r l) = ∑ k : Fin 1024, A (ix2 r k) * B (ix2 k l) := by
  pointwise [k0_pay1]

/-- The reference, read at an index: the row's sum of products with the full weight's column. -/
theorem ref_at (X : FVec Ideal S32x2048x1024 .bf16) (W : FVec Ideal S1024x11520 .f32) (r : Fin 65536) (l : Fin 3328) :
    REF X W (ix2 r l) = ∑ k : Fin 1024, X (ix3 ⟨r.val / 2048, by omega⟩ ⟨r.val % 2048, by omega⟩ k) * W (ix2 k ⟨l.val, by omega⟩) := by
  pointwise [REF]

/-- The activation block of a grid point holds the rows of its tile. -/
theorem blk0 (c : Dev nD) (t : Fin cfg0.N) (r : Fin 1024) (k : Fin 1024) (R : Fin 65536) (hR : R.val = t.val % 64 * 1024 + r.val) :
    (show FVec Ideal S1024x1024 .bf16 from iblk m c 0 t) (ix2 r k)
      = (show FVec Ideal S32x2048x1024 .bf16 from m ((c : Thread nD τ).loc main_arg0)) (ix3 ⟨R.val / 2048, by omega⟩ ⟨R.val % 2048, by omega⟩ k) := by
  have h : (show FVec Ideal S1024x1024 .bf16 from iblk m c 0 t) (ix2 r k) = (show FVec Ideal S65536x1024 .bf16 from V m c main_v0) (ix2 R k) := by
    blk_ext [iblk, idx t]
  rw [h]
  entry_read
  pointwise

/-- The weight block of a grid point holds the group's columns of the full weight. -/
theorem blk1 (c : Dev nD) (t : Fin cfg0.N) (k : Fin 1024) (l : Fin 3328) (L : Fin 3328) (hL : L.val = t.val / 64 * 3328 + l.val) :
    (show FVec Ideal S1024x3328 .bf16 from iblk m c 1 t) (ix2 k l)
      = (show FVec Ideal S1024x11520 .f32 from m ((c : Thread nD τ).loc main_arg1)) (ix2 k ⟨L.val, by omega⟩) := by
  have h : (show FVec Ideal S1024x3328 .bf16 from iblk m c 1 t) (ix2 k l) = (show FVec Ideal S1024x3328 .bf16 from V m c main_v2) (ix2 k L) := by
    blk_ext [iblk, idx t]
  rw [h]
  entry_read
  pointwise

/-- What a grid point stores at an index of its block is the reference's product at the array index it sits at. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  obtain ⟨r, l, rfl⟩ : ∃ (r : Fin 1024) (l : Fin 3328), y = ix2 r l := ⟨y 0, y 1, eq_ix2 y⟩
  have ht := (idx t).2.2.2
  have he : ((cfg0.win 2).blk t).view.emb (ix2 r l) = ix2 ⟨t.val % 64 * 1024 + r.val, by omega⟩ ⟨t.val / 64 * 3328 + l.val, by omega⟩ := by
    blk_ext [idx t]
  rw [he]
  refine (pay_at _ _ r l).trans (Eq.trans ?_ (ref_at _ _ _ _).symm)
  exact Finset.sum_congr rfl fun k _ => Ideal.mul_congr (blk0 m c t r k _ rfl) (blk1 m c t k l _ rfl)

/-- The result array after the run is the reference's product of the argument arrays. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InAIdeal.RefValue

namespace Cert.Proof.InA

/-- The first group's projection equals the reference's on the same arguments. -/
theorem algebraic : Cert.algebraic_InAIdeal_InARefIdeal := by
  intro m g m' g' _ hagree
  refine ⟨fun c => Cert.InARefIdeal.RefTerm.REF (m ((c.tc : Thread Cert.InAIdeal.nD Cert.InAIdeal.τ).loc Cert.InAIdeal.main_arg0)) (m ((c.tc : Thread Cert.InAIdeal.nD Cert.InAIdeal.τ).loc Cert.InAIdeal.main_arg1)), ?_, ?_⟩
  · exact (θ_run Cert.InAIdeal.defs _ _).mono (fun r h c => ⟨(h c).1.trans (Cert.InAIdeal.RefValue.final m c), (h c).2⟩)
      (Cert.InAIdeal.Value.run_blocks m g)
  · refine (θ_run Cert.InARefIdeal.defs _ _).mono (fun r h c => ⟨(h c).1.trans ?_, (h c).2⟩)
      (Cert.InARefIdeal.Value.run m' g')
    rw [(hagree c).1, (hagree c).2]

end Cert.Proof.InA
-- ==== Proof.ValInB.lean ====
module

public import proofs.«01_k».proof.Defs
public import proofs.«01_k».proof.Proof.Gen.InBIdeal.Value
public import proofs.«01_k».proof.Proof.Gen.InBRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InBRefIdeal.RefTerm
open Cert.InBRefIdeal Cert.InBRefIdeal.Gen

/-- The reference's projection onto the second group of columns, of any activations and weights. -/
abbrev REF (X : FVec Ideal S32x2048x1024 .bf16) (W : FVec Ideal S1024x11520 .f32) : FVec Ideal S65536x6144 .bf16 :=
  truncf .bf16 (shapeCast _ (extractStridedSlice S32x2048x6144 ![0, 0, 3328] (Host.dotGeneral dot_S32x2048x1024_S1024x11520_S32x2048x11520_2_0_01_1_n_n none (extf .f32 X bitsLt_bf16_f32) W) slices_S32x2048x11520_S32x2048x6144_0_0_3328) shapeCasts_S32x2048x6144_S65536x6144) bitsLt_bf16_f32

end Cert.InBRefIdeal.RefTerm

namespace Cert.InBIdeal.RefValue
open Cert.InBIdeal Cert.InBIdeal.Gen Cert.InBRefIdeal.RefTerm

variable (m : (ℓ : Loc nD τ sig) → Buf (Elt Ideal) ℓ)

/-- Where each grid point's blocks sit. -/
theorem idx : ∀ t : Fin cfg0.N, win0_0.index t = ![t.val % 64, 0] ∧ win0_1.index t = ![0, t.val / 64] ∧ win0_2.index t = ![t.val % 64, t.val / 64] ∧ t.val / 64 < 4 :=
  (by decide +kernel : ∀ t : Fin grid0.N, _)

/-- The stored block, read at an index: the sum of products. -/
theorem pay_at (A : FVec Ideal S1024x1024 .bf16) (B : FVec Ideal S1024x1536 .bf16) (r : Fin 1024) (l : Fin 1536) :
    k0_pay1 (F := Ideal) A B (ix2 r l) = ∑ k : Fin 1024, A (ix2 r k) * B (ix2 k l) := by
  pointwise [k0_pay1]

/-- The reference, read at an index: the row's sum of products with the full weight's column. -/
theorem ref_at (X : FVec Ideal S32x2048x1024 .bf16) (W : FVec Ideal S1024x11520 .f32) (r : Fin 65536) (l : Fin 6144) :
    REF X W (ix2 r l) = ∑ k : Fin 1024, X (ix3 ⟨r.val / 2048, by omega⟩ ⟨r.val % 2048, by omega⟩ k) * W (ix2 k ⟨3328 + l.val, by omega⟩) := by
  pointwise [REF]

/-- The activation block of a grid point holds the rows of its tile. -/
theorem blk0 (c : Dev nD) (t : Fin cfg0.N) (r : Fin 1024) (k : Fin 1024) (R : Fin 65536) (hR : R.val = t.val % 64 * 1024 + r.val) :
    (show FVec Ideal S1024x1024 .bf16 from iblk m c 0 t) (ix2 r k)
      = (show FVec Ideal S32x2048x1024 .bf16 from m ((c : Thread nD τ).loc main_arg0)) (ix3 ⟨R.val / 2048, by omega⟩ ⟨R.val % 2048, by omega⟩ k) := by
  have h : (show FVec Ideal S1024x1024 .bf16 from iblk m c 0 t) (ix2 r k) = (show FVec Ideal S65536x1024 .bf16 from V m c main_v0) (ix2 R k) := by
    blk_ext [iblk, idx t]
  rw [h]
  entry_read
  pointwise

/-- The weight block of a grid point holds the group's columns of the full weight. -/
theorem blk1 (c : Dev nD) (t : Fin cfg0.N) (k : Fin 1024) (l : Fin 1536) (L : Fin 6144) (hL : L.val = t.val / 64 * 1536 + l.val) :
    (show FVec Ideal S1024x1536 .bf16 from iblk m c 1 t) (ix2 k l)
      = (show FVec Ideal S1024x11520 .f32 from m ((c : Thread nD τ).loc main_arg1)) (ix2 k ⟨3328 + L.val, by omega⟩) := by
  have h : (show FVec Ideal S1024x1536 .bf16 from iblk m c 1 t) (ix2 k l) = (show FVec Ideal S1024x6144 .bf16 from V m c main_v2) (ix2 k L) := by
    blk_ext [iblk, idx t]
  rw [h]
  entry_read
  pointwise

/-- What a grid point stores at an index of its block is the reference's product at the array index it sits at. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  obtain ⟨r, l, rfl⟩ : ∃ (r : Fin 1024) (l : Fin 1536), y = ix2 r l := ⟨y 0, y 1, eq_ix2 y⟩
  have ht := (idx t).2.2.2
  have he : ((cfg0.win 2).blk t).view.emb (ix2 r l) = ix2 ⟨t.val % 64 * 1024 + r.val, by omega⟩ ⟨t.val / 64 * 1536 + l.val, by omega⟩ := by
    blk_ext [idx t]
  rw [he]
  refine (pay_at _ _ r l).trans (Eq.trans ?_ (ref_at _ _ _ _).symm)
  exact Finset.sum_congr rfl fun k _ => Ideal.mul_congr (blk0 m c t r k _ rfl) (blk1 m c t k l _ rfl)

/-- The result array after the run is the reference's product of the argument arrays. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InBIdeal.RefValue

namespace Cert.Proof.InB

/-- The second group's projection equals the reference's on the same arguments. -/
theorem algebraic : Cert.algebraic_InBIdeal_InBRefIdeal := by
  intro m g m' g' _ hagree
  refine ⟨fun c => Cert.InBRefIdeal.RefTerm.REF (m ((c.tc : Thread Cert.InBIdeal.nD Cert.InBIdeal.τ).loc Cert.InBIdeal.main_arg0)) (m ((c.tc : Thread Cert.InBIdeal.nD Cert.InBIdeal.τ).loc Cert.InBIdeal.main_arg1)), ?_, ?_⟩
  · exact (θ_run Cert.InBIdeal.defs _ _).mono (fun r h c => ⟨(h c).1.trans (Cert.InBIdeal.RefValue.final m c), (h c).2⟩)
      (Cert.InBIdeal.Value.run_blocks m g)
  · refine (θ_run Cert.InBRefIdeal.defs _ _).mono (fun r h c => ⟨(h c).1.trans ?_, (h c).2⟩)
      (Cert.InBRefIdeal.Value.run m' g')
    rw [(hagree c).1, (hagree c).2]

end Cert.Proof.InB
-- ==== Proof.ValInG.lean ====
module

public import proofs.«01_k».proof.Defs
public import proofs.«01_k».proof.Proof.Gen.InGIdeal.Value
public import proofs.«01_k».proof.Proof.Gen.InGRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InGRefIdeal.RefTerm
open Cert.InGRefIdeal Cert.InGRefIdeal.Gen

/-- The reference's projection onto the third group of columns, of any activations and weights. -/
abbrev REF (X : FVec Ideal S32x2048x1024 .bf16) (W : FVec Ideal S1024x11520 .f32) : FVec Ideal S65536x2048 .bf16 :=
  truncf .bf16 (shapeCast _ (extractStridedSlice S32x2048x2048 ![0, 0, 9472] (Host.dotGeneral dot_S32x2048x1024_S1024x11520_S32x2048x11520_2_0_01_1_n_n none (extf .f32 X bitsLt_bf16_f32) W) slices_S32x2048x11520_S32x2048x2048_0_0_9472) shapeCasts_S32x2048x2048_S65536x2048) bitsLt_bf16_f32

end Cert.InGRefIdeal.RefTerm

namespace Cert.InGIdeal.RefValue
open Cert.InGIdeal Cert.InGIdeal.Gen Cert.InGRefIdeal.RefTerm

variable (m : (ℓ : Loc nD τ sig) → Buf (Elt Ideal) ℓ)

/-- Where each grid point's blocks sit. -/
theorem idx : ∀ t : Fin cfg0.N, win0_0.index t = ![t.val % 64, 0] ∧ win0_1.index t = ![0, t.val / 64] ∧ win0_2.index t = ![t.val % 64, t.val / 64] ∧ t.val / 64 < 1 :=
  (by decide +kernel : ∀ t : Fin grid0.N, _)

/-- The stored block, read at an index: the sum of products. -/
theorem pay_at (A : FVec Ideal S1024x1024 .bf16) (B : FVec Ideal S1024x2048 .bf16) (r : Fin 1024) (l : Fin 2048) :
    k0_pay1 (F := Ideal) A B (ix2 r l) = ∑ k : Fin 1024, A (ix2 r k) * B (ix2 k l) := by
  pointwise [k0_pay1]

/-- The reference, read at an index: the row's sum of products with the full weight's column. -/
theorem ref_at (X : FVec Ideal S32x2048x1024 .bf16) (W : FVec Ideal S1024x11520 .f32) (r : Fin 65536) (l : Fin 2048) :
    REF X W (ix2 r l) = ∑ k : Fin 1024, X (ix3 ⟨r.val / 2048, by omega⟩ ⟨r.val % 2048, by omega⟩ k) * W (ix2 k ⟨9472 + l.val, by omega⟩) := by
  pointwise [REF]

/-- The activation block of a grid point holds the rows of its tile. -/
theorem blk0 (c : Dev nD) (t : Fin cfg0.N) (r : Fin 1024) (k : Fin 1024) (R : Fin 65536) (hR : R.val = t.val % 64 * 1024 + r.val) :
    (show FVec Ideal S1024x1024 .bf16 from iblk m c 0 t) (ix2 r k)
      = (show FVec Ideal S32x2048x1024 .bf16 from m ((c : Thread nD τ).loc main_arg0)) (ix3 ⟨R.val / 2048, by omega⟩ ⟨R.val % 2048, by omega⟩ k) := by
  have h : (show FVec Ideal S1024x1024 .bf16 from iblk m c 0 t) (ix2 r k) = (show FVec Ideal S65536x1024 .bf16 from V m c main_v0) (ix2 R k) := by
    blk_ext [iblk, idx t]
  rw [h]
  entry_read
  pointwise

/-- The weight block of a grid point holds the group's columns of the full weight. -/
theorem blk1 (c : Dev nD) (t : Fin cfg0.N) (k : Fin 1024) (l : Fin 2048) (L : Fin 2048) (hL : L.val = t.val / 64 * 2048 + l.val) :
    (show FVec Ideal S1024x2048 .bf16 from iblk m c 1 t) (ix2 k l)
      = (show FVec Ideal S1024x11520 .f32 from m ((c : Thread nD τ).loc main_arg1)) (ix2 k ⟨9472 + L.val, by omega⟩) := by
  have h : (show FVec Ideal S1024x2048 .bf16 from iblk m c 1 t) (ix2 k l) = (show FVec Ideal S1024x2048 .bf16 from V m c main_v2) (ix2 k L) := by
    blk_ext [iblk, idx t]
  rw [h]
  entry_read
  pointwise

/-- What a grid point stores at an index of its block is the reference's product at the array index it sits at. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  obtain ⟨r, l, rfl⟩ : ∃ (r : Fin 1024) (l : Fin 2048), y = ix2 r l := ⟨y 0, y 1, eq_ix2 y⟩
  have ht := (idx t).2.2.2
  have he : ((cfg0.win 2).blk t).view.emb (ix2 r l) = ix2 ⟨t.val % 64 * 1024 + r.val, by omega⟩ ⟨t.val / 64 * 2048 + l.val, by omega⟩ := by
    blk_ext [idx t]
  rw [he]
  refine (pay_at _ _ r l).trans (Eq.trans ?_ (ref_at _ _ _ _).symm)
  exact Finset.sum_congr rfl fun k _ => Ideal.mul_congr (blk0 m c t r k _ rfl) (blk1 m c t k l _ rfl)

/-- The result array after the run is the reference's product of the argument arrays. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InGIdeal.RefValue

namespace Cert.Proof.InG

/-- The third group's projection equals the reference's on the same arguments. -/
theorem algebraic : Cert.algebraic_InGIdeal_InGRefIdeal := by
  intro m g m' g' _ hagree
  refine ⟨fun c => Cert.InGRefIdeal.RefTerm.REF (m ((c.tc : Thread Cert.InGIdeal.nD Cert.InGIdeal.τ).loc Cert.InGIdeal.main_arg0)) (m ((c.tc : Thread Cert.InGIdeal.nD Cert.InGIdeal.τ).loc Cert.InGIdeal.main_arg1)), ?_, ?_⟩
  · exact (θ_run Cert.InGIdeal.defs _ _).mono (fun r h c => ⟨(h c).1.trans (Cert.InGIdeal.RefValue.final m c), (h c).2⟩)
      (Cert.InGIdeal.Value.run_blocks m g)
  · refine (θ_run Cert.InGRefIdeal.defs _ _).mono (fun r h c => ⟨(h c).1.trans ?_, (h c).2⟩)
      (Cert.InGRefIdeal.Value.run m' g')
    rw [(hagree c).1, (hagree c).2]

end Cert.Proof.InG
-- ==== Proof.ValAda.lean ====
module

public import proofs.«01_k».proof.Defs
public import proofs.«01_k».proof.Proof.Row
public import proofs.«01_k».proof.Proof.Gen.AdaIdeal.Value
public import proofs.«01_k».proof.Proof.Gen.AdaRefIdeal.Read
public import Idealize.ShloMosaic.Lib.Pointwise
public import Idealize.ShloMosaic.Lib.Pipeline.ValueKit
public import Idealize.ShloMosaic.Lib.Claim

@[expose] public section
set_option maxRecDepth 16384

noncomputable section

open Idealize.ShloMosaic Idealize.ShloMosaic.TcCoe Idealize.SL.Sem
open Idealize.ShloMosaic.Pipeline (Dat)
open Cert.Proof.Row

namespace Cert.AdaRefIdeal.RefTerm
open Cert.AdaRefIdeal Cert.AdaRefIdeal.Gen Cert.AdaRefIdeal.Read

/-- The reference's first half, read at an index. -/
theorem ref0_at (C : FVec Ideal S32x1024 .f32) (W : FVec Ideal S1024x6144 .f32) (B : FVec Ideal S6144 .f32) (r : Fin 32) (l : Fin 6144) :
    val_main_v4 (F := Ideal) C W B (ix2 r l) = (∑ k : Fin 1024, C (ix2 r k) * Ideal.logistic (C (ix2 r k)) * W (ix2 k l)) + B (ix1 l) := by
  pointwise [val_main_v4, val_main_v3, val_main_v2, val_main_v1, val_main_v0, val_main_call0_v5, val_main_call0_v4, val_main_call0_cst_0, val_main_call0_v3, val_main_call0_v2, val_main_call0_cst, val_main_call0_v1, val_main_call0_v0]
  try rfl

/-- The reference's second half, read at an index. -/
theorem ref1_at (C : FVec Ideal S32x1024 .f32) (W : FVec Ideal S1024x6144 .f32) (B : FVec Ideal S6144 .f32) (r : Fin 32) (l : Fin 6144) :
    val_main_v9 (F := Ideal) C W B (ix2 r l) = (∑ k : Fin 1024, C (ix2 r k) * Ideal.logistic (C (ix2 r k)) * W (ix2 k l)) + B (ix1 l) := by
  pointwise [val_main_v9, val_main_v8, val_main_v7, val_main_v6, val_main_v5, val_main_call1_v5, val_main_call1_v4, val_main_call1_cst_0, val_main_call1_v3, val_main_call1_v2, val_main_call1_cst, val_main_call1_v1, val_main_call1_v0]
  try rfl

/-- Row `r` of the two conditioning arrays stacked. -/
def cat (C D : FVec Ideal S32x1024 .f32) (r : Fin 64) (k : Fin 1024) : EReal :=
  if h : r.val < 32 then C (ix2 ⟨r.val, h⟩ k) else D (ix2 ⟨r.val - 32, by omega⟩ k)

/-- The reference's result, read at an index. -/
theorem ref_at (C D : FVec Ideal S32x1024 .f32) (W : FVec Ideal S1024x6144 .f32) (B : FVec Ideal S6144 .f32) (r : Fin 64) (l : Fin 6144) :
    val_main_v10 (F := Ideal) C D W B (ix2 r l) = (∑ k : Fin 1024, cat C D r k * Ideal.logistic (cat C D r k) * W (ix2 k l)) + B (ix1 l) := by
  pointwise [val_main_v10, ref0_at, ref1_at]
  by_cases h : r.val < 32
  · simp only [dif_pos h, cat]
  · simp only [dif_neg h, cat]

end Cert.AdaRefIdeal.RefTerm

namespace Cert.AdaIdeal.RefValue
open Cert.AdaIdeal Cert.AdaIdeal.Gen

/-- The stored block, read at an index. -/
theorem pay_at (X : FVec Ideal S64x1024 .f32) (W : FVec Ideal S1024x1536 .bf16) (B : FVec Ideal S1x1536 .f32) (r : Fin 64) (l : Fin 1536) :
    k0_pay1 (F := Ideal) X W B (ix2 r l) = (∑ k : Fin 1024, X (ix2 r k) * Ideal.logistic (X (ix2 r k)) * W (ix2 k l)) + B (ix2 0 l) := by
  pointwise [k0_pay1]

variable (m : (ℓ : Loc nD τ sig) → Buf (Elt Ideal) ℓ)

/-- Where each grid point's blocks sit. -/
theorem idx : ∀ t : Fin cfg0.N, win0_0.index t = ![0, 0] ∧ win0_1.index t = ![0, t.val] ∧ win0_2.index t = ![0, t.val] ∧ win0_3.index t = ![0, t.val] ∧ t.val < 4 :=
  (by decide +kernel : ∀ t : Fin grid0.N, _)

/-- The conditioning block: the two arrays stacked. -/
theorem blk0 (c : Dev nD) (t : Fin cfg0.N) (r : Fin 64) (k : Fin 1024) :
    (show FVec Ideal S64x1024 .f32 from iblk m c 0 t) (ix2 r k)
      = Cert.AdaRefIdeal.RefTerm.cat (m ((c : Thread nD τ).loc main_arg0)) (m ((c : Thread nD τ).loc main_arg1)) r k := by
  have h : (show FVec Ideal S64x1024 .f32 from iblk m c 0 t) (ix2 r k) = (show FVec Ideal S64x1024 .f32 from V m c main_v0) (ix2 r k) := by
    blk_ext [iblk, idx t]
  rw [h]
  entry_read
  pointwise [Cert.AdaRefIdeal.RefTerm.cat]

/-- The weight block of a grid point holds its columns. -/
theorem blk1 (c : Dev nD) (t : Fin cfg0.N) (k : Fin 1024) (l : Fin 1536) (L : Fin 6144) (hL : L.val = t.val * 1536 + l.val) :
    (show FVec Ideal S1024x1536 .bf16 from iblk m c 1 t) (ix2 k l)
      = (show FVec Ideal S1024x6144 .f32 from m ((c : Thread nD τ).loc main_arg2)) (ix2 k L) := by
  have h : (show FVec Ideal S1024x1536 .bf16 from iblk m c 1 t) (ix2 k l) = (show FVec Ideal S1024x6144 .bf16 from V m c main_v1) (ix2 k L) := by
    blk_ext [iblk, idx t]
  rw [h]
  entry_read
  pointwise

/-- The bias block of a grid point holds its columns. -/
theorem blk2 (c : Dev nD) (t : Fin cfg0.N) (l : Fin 1536) (L : Fin 6144) (hL : L.val = t.val * 1536 + l.val) :
    (show FVec Ideal S1x1536 .f32 from iblk m c 2 t) (ix2 0 l)
      = (show FVec Ideal S6144 .f32 from m ((c : Thread nD τ).loc main_arg3)) (ix1 L) := by
  have h : (show FVec Ideal S1x1536 .f32 from iblk m c 2 t) (ix2 0 l) = (show FVec Ideal S1x6144 .f32 from V m c main_v2) (ix2 0 L) := by
    blk_ext [iblk, idx t]
  rw [h]
  entry_read
  pointwise

/-- The reference's result at the launch's arguments. -/
abbrev REFM (c : Dev nD) : FVec Ideal S64x6144 .f32 :=
  Cert.AdaRefIdeal.Read.val_main_v10 (F := Ideal) (m ((c : Thread nD τ).loc main_arg0)) (m ((c : Thread nD τ).loc main_arg1)) (m ((c : Thread nD τ).loc main_arg2)) (m ((c : Thread nD τ).loc main_arg3))

/-- What a grid point stores at an index of its block is the reference's value at the array index it sits at. -/
theorem point (c : Dev nD) (t : Fin cfg0.N) (y) : k0_pay1 (iblk m c 0 t) (iblk m c 1 t) (iblk m c 2 t) y
    = REFM m c (((cfg0.win 3).blk t).view.emb y) := by
  obtain ⟨r, l, rfl⟩ : ∃ (r : Fin 64) (l : Fin 1536), y = ix2 r l := ⟨y 0, y 1, eq_ix2 y⟩
  have ht := (idx t).2.2.2.2
  have he : ((cfg0.win 3).blk t).view.emb (ix2 r l) = ix2 r ⟨t.val * 1536 + l.val, by omega⟩ := by
    blk_ext [idx t]
  rw [he]
  refine (pay_at _ _ _ r l).trans (Eq.trans ?_ (Cert.AdaRefIdeal.RefTerm.ref_at _ _ _ _ _ _).symm)
  refine Ideal.add_congr (Finset.sum_congr rfl fun k _ => Ideal.mul_congr ?_ (blk1 m c t k l _ rfl)) (blk2 m c t l _ rfl)
  exact Ideal.mul_congr (blk0 m c t r k) (congrArg Ideal.logistic (blk0 m c t r k))

/-- The result array after the run is the reference's result of the argument arrays. -/
theorem final (c : Dev nD) : (dats m 0 c).arrAt 3 (cfgs 0).N = REFM m c := by
  refine (dats m 0 c).arrAt_eq_of_covers 3 _ (by decide +kernel) fun t _ y => ?_
  blk_simp
  rw [after0_3]; frame_out
  exact point m c t y

end Cert.AdaIdeal.RefValue

namespace Cert.Proof.Ada

/-- The modulation of both batches equals the reference's on the same arguments. -/
theorem algebraic : Cert.algebraic_AdaIdeal_AdaRefIdeal := by
  intro m g m' g' _ hagree
  refine ⟨fun c => Cert.AdaIdeal.RefValue.REFM m c, ?_, ?_⟩
  · exact (θ_run Cert.AdaIdeal.defs _ _).mono (fun r h c => ⟨(h c).1.trans (Cert.AdaIdeal.RefValue.final m c), (h c).2⟩)
      (Cert.AdaIdeal.Value.run_blocks m g)
  · refine (θ_run Cert.AdaRefIdeal.defs _ _).mono (fun r h c => ⟨(h c).1.trans ((Cert.AdaRefIdeal.Read.val_main_v10_eq _ _ _ _ ).trans ?_), (h c).2⟩)
      (Cert.AdaRefIdeal.Value.run m' g')
    obtain ⟨a0, a1, a2, a3⟩ := hagree c
    rw [a0, a1, a2, a3]

end Cert.Proof.Ada
-- ==== Proof.ValPrenorm.lean ====
module

public import proofs.«01_k».proof.Defs
public import proofs.«01_k».proof.Proof.Row
public import proofs.«01_k».proof.Proof.Gen.PrenormIdeal.Value
public import proofs.«01_k».proof.Proof.Gen.PrenormRefIdeal.Read
public import Idealize.ShloMosaic.Lib.Pointwise
public import Idealize.ShloMosaic.Lib.Pipeline.ValueKit
public import Idealize.ShloMosaic.Lib.Claim

@[expose] public section
set_option maxRecDepth 16384

noncomputable section

open Idealize.ShloMosaic Idealize.ShloMosaic.TcCoe Idealize.SL.Sem
open Idealize.ShloMosaic.Pipeline (Dat)
open Cert.Proof.Row

namespace Cert.PrenormRefIdeal.RefTerm
open Cert.PrenormRefIdeal Cert.PrenormRefIdeal.Gen Cert.PrenormRefIdeal.Read

/-- The reference's result, read at an index: the normalised row, scaled and shifted. -/
theorem ref_at (X : FVec Ideal S32x2048x1024 .f32) (M : FVec Ideal S32x6144 .f32) (G : FVec Ideal S2x1024 .f32) (r : Fin 65536) (l : Fin 1024) :
    val_main_v34 (F := Ideal) X M G (ix2 r l)
      = hid (fun k => X (ix3 ⟨r.val / 2048, by omega⟩ ⟨r.val % 2048, by omega⟩ k)) (fun k => G (ix2 0 k)) (fun k => M (ix2 ⟨r.val / 2048, by omega⟩ ⟨1024 + k.val, by omega⟩)) (fun k => M (ix2 ⟨r.val / 2048, by omega⟩ ⟨k.val, by omega⟩)) l := by
  pointwise [val_main_v34, val_main_v33, val_main_v32, val_main_v31, val_main_v30, val_main_v29, val_main_v28, val_main_v27, val_main_cst_2, val_main_v26, val_main_v25, val_main_v24, val_main_v23, val_main_v22, val_main_v21, val_main_v20, val_main_v19, val_main_cst_1, val_main_v18, val_main_v17, val_main_cst_0, val_main_v16, val_main_v15, val_main_cst, val_main_v14, val_main_v13, val_main_v12, val_main_v7, val_main_v6, val_main_v1, val_main_v0, hid, rms, rs]

end Cert.PrenormRefIdeal.RefTerm

namespace Cert.PrenormIdeal.RefValue
open Cert.PrenormIdeal Cert.PrenormIdeal.Gen

/-- The stored block, read at an index. -/
theorem pay_at (X : FVec Ideal S512x1024 .f32) (G : FVec Ideal S1x1024 .f32) (SC SH : FVec Ideal S1x1x1024 .f32) (r : Fin 512) (l : Fin 1024) :
    k0_pay1 (F := Ideal) X G SC SH (ix2 r l)
      = hid (fun k => X (ix2 r k)) (fun k => G (ix2 0 k)) (fun k => SC (ix3 0 0 k)) (fun k => SH (ix3 0 0 k)) l := by
  pointwise [k0_pay1, hid, rms, rs]

variable (m : (ℓ : Loc nD τ sig) → Buf (Elt Ideal) ℓ)

/-- Where each grid point's blocks sit. -/
theorem idx : ∀ t : Fin cfg0.N, win0_0.index t = ![t.val, 0] ∧ win0_1.index t = ![0, 0] ∧ win0_2.index t = ![t.val / 4, 0, 0] ∧ win0_3.index t = ![t.val / 4, 0, 0] ∧ win0_4.index t = ![t.val, 0] ∧ t.val < 128 :=
  (by decide +kernel : ∀ t : Fin grid0.N, _)

/-- The activation block of a grid point holds the rows of its tile. -/
theorem blk0 (c : Dev nD) (t : Fin cfg0.N) (r : Fin 512) (k : Fin 1024) (R : Fin 65536) (hR : R.val = t.val * 512 + r.val) :
    (show FVec Ideal S512x1024 .f32 from iblk m c 0 t) (ix2 r k)
      = (show FVec Ideal S32x2048x1024 .f32 from m ((c : Thread nD τ).loc main_arg0)) (ix3 ⟨R.val / 2048, by omega⟩ ⟨R.val % 2048, by omega⟩ k) := by
  have h : (show FVec Ideal S512x1024 .f32 from iblk m c 0 t) (ix2 r k) = (show FVec Ideal S65536x1024 .f32 from V m c main_v12) (ix2 R k) := by
    blk_ext [iblk, idx t]
  rw [h]
  entry_read
  pointwise

/-- The gain. -/
theorem blk1 (c : Dev nD) (t : Fin cfg0.N) (k : Fin 1024) :
    (show FVec Ideal S1x1024 .f32 from iblk m c 1 t) (ix2 0 k)
      = (show FVec Ideal S2x1024 .f32 from m ((c : Thread nD τ).loc main_arg2)) (ix2 0 k) := by
  have h : (show FVec Ideal S1x1024 .f32 from iblk m c 1 t) (ix2 0 k) = (show FVec Ideal S1x1024 .f32 from V m c main_v15) (ix2 0 k) := by
    blk_ext [iblk, idx t]
  rw [h]
  entry_read
  pointwise

/-- The scale block of a grid point. -/
theorem blk2 (c : Dev nD) (t : Fin cfg0.N) (k : Fin 1024) (b : Fin 32) (hb : b.val = t.val / 4) :
    (show FVec Ideal S1x1x1024 .f32 from iblk m c 2 t) (ix3 0 0 k)
      = (show FVec Ideal S32x6144 .f32 from m ((c : Thread nD τ).loc main_arg1)) (ix2 b ⟨1024 + k.val, by omega⟩) := by
  have h : (show FVec Ideal S1x1x1024 .f32 from iblk m c 2 t) (ix3 0 0 k) = (show FVec Ideal S32x1x1024 .f32 from V m c main_v7) (ix3 b 0 k) := by
    blk_ext [iblk, idx t]
  rw [h]
  entry_read
  pointwise

/-- The shift block of a grid point. -/
theorem blk3 (c : Dev nD) (t : Fin cfg0.N) (k : Fin 1024) (b : Fin 32) (hb : b.val = t.val / 4) :
    (show FVec Ideal S1x1x1024 .f32 from iblk m c 3 t) (ix3 0 0 k)
      = (show FVec Ideal S32x6144 .f32 from m ((c : Thread nD τ).loc main_arg1)) (ix2 b ⟨k.val, by omega⟩) := by
  have h : (show FVec Ideal S1x1x1024 .f32 from iblk m c 3 t) (ix3 0 0 k) = (show FVec Ideal S32x1x1024 .f32 from V m c main_v6) (ix3 b 0 k) := by
    blk_ext [iblk, idx t]
  rw [h]
  entry_read
  pointwise

/-- The reference's result at the launch's arguments. -/
abbrev REFM (c : Dev nD) : FVec Ideal S65536x1024 .bf16 :=
  Cert.PrenormRefIdeal.Read.val_main_v34 (F := Ideal) (m ((c : Thread nD τ).loc main_arg0)) (m ((c : Thread nD τ).loc main_arg1)) (m ((c : Thread nD τ).loc main_arg2))

/-- What a grid point stores at an index of its block is the reference's row at the array index it sits at. -/
theorem point (c : Dev nD) (t : Fin cfg0.N) (y) : k0_pay1 (iblk m c 0 t) (iblk m c 1 t) (iblk m c 2 t) (iblk m c 3 t) y
    = REFM m c (((cfg0.win 4).blk t).view.emb y) := by
  obtain ⟨r, l, rfl⟩ : ∃ (r : Fin 512) (l : Fin 1024), y = ix2 r l := ⟨y 0, y 1, eq_ix2 y⟩
  have ht := (idx t).2.2.2.2.2
  have hd : (t.val * 512 + r.val) / 2048 = t.val / 4 := by omega
  have he : ((cfg0.win 4).blk t).view.emb (ix2 r l) = ix2 ⟨t.val * 512 + r.val, by omega⟩ l := by
    blk_ext [idx t]
  rw [he]
  refine (pay_at _ _ _ _ r l).trans (Eq.trans ?_ (Cert.PrenormRefIdeal.RefTerm.ref_at _ _ _ _ _).symm)
  have e0 := funext fun k => blk0 m c t r k ⟨t.val * 512 + r.val, by omega⟩ rfl
  have e1 := funext fun k => blk1 m c t k
  have e2 := funext fun k => blk2 m c t k ⟨(t.val * 512 + r.val) / 2048, by omega⟩ hd
  have e3 := funext fun k => blk3 m c t k ⟨(t.val * 512 + r.val) / 2048, by omega⟩ hd
  exact congrFun (congr (congr (congr (congrArg hid e0) e1) e2) e3) l

/-- The result array after the run is the reference's result of the argument arrays. -/
theorem final (c : Dev nD) : (dats m 0 c).arrAt 4 (cfgs 0).N = REFM m c := by
  refine (dats m 0 c).arrAt_eq_of_covers 4 _ (by decide +kernel) fun t _ y => ?_
  blk_simp
  rw [after0_4]; frame_out
  exact point m c t y

end Cert.PrenormIdeal.RefValue

namespace Cert.Proof.Prenorm

/-- The prompt's first normalisation equals the reference's on the same arguments. -/
theorem algebraic : Cert.algebraic_PrenormIdeal_PrenormRefIdeal := by
  intro m g m' g' _ hagree
  refine ⟨fun c => Cert.PrenormIdeal.RefValue.REFM m c, ?_, ?_⟩
  · exact (θ_run Cert.PrenormIdeal.defs _ _).mono (fun r h c => ⟨(h c).1.trans (Cert.PrenormIdeal.RefValue.final m c), (h c).2⟩)
      (Cert.PrenormIdeal.Value.run_blocks m g)
  · refine (θ_run Cert.PrenormRefIdeal.defs _ _).mono (fun r h c => ⟨(h c).1.trans ((Cert.PrenormRefIdeal.Read.val_main_v34_eq _ _ _ ).trans ?_), (h c).2⟩)
      (Cert.PrenormRefIdeal.Value.run m' g')
    obtain ⟨a0, a1, a2⟩ := hagree c
    rw [a0, a1, a2]

end Cert.Proof.Prenorm
-- ==== Proof.ValInAS.lean ====
module

public import proofs.«01_k».proof.Defs
public import proofs.«01_k».proof.Proof.Gen.InASIdeal.Value
public import proofs.«01_k».proof.Proof.Gen.InASRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InASRefIdeal.RefTerm
open Cert.InASRefIdeal Cert.InASRefIdeal.Gen

/-- The reference's projection onto the first group of columns, of any activations and weights. -/
abbrev REF (X : FVec Ideal S32x16x1024 .bf16) (W : FVec Ideal S1024x11520 .f32) : FVec Ideal S512x3328 .bf16 :=
  truncf .bf16 (shapeCast _ (extractStridedSlice S32x16x3328 ![0, 0, 0] (Host.dotGeneral dot_S32x16x1024_S1024x11520_S32x16x11520_2_0_01_1_n_n none (extf .f32 X bitsLt_bf16_f32) W) slices_S32x16x11520_S32x16x3328_0_0_0) shapeCasts_S32x16x3328_S512x3328) bitsLt_bf16_f32

end Cert.InASRefIdeal.RefTerm

namespace Cert.InASIdeal.RefValue
open Cert.InASIdeal Cert.InASIdeal.Gen Cert.InASRefIdeal.RefTerm

variable (m : (ℓ : Loc nD τ sig) → Buf (Elt Ideal) ℓ)

/-- Where each grid point's blocks sit. -/
theorem idx : ∀ t : Fin cfg0.N, win0_0.index t = ![t.val % 1, 0] ∧ win0_1.index t = ![0, t.val / 1] ∧ win0_2.index t = ![t.val % 1, t.val / 1] ∧ t.val / 1 < 1 :=
  (by decide +kernel : ∀ t : Fin grid0.N, _)

/-- The stored block, read at an index: the sum of products. -/
theorem pay_at (A : FVec Ideal S512x1024 .bf16) (B : FVec Ideal S1024x3328 .bf16) (r : Fin 512) (l : Fin 3328) :
    k0_pay1 (F := Ideal) A B (ix2 r l) = ∑ k : Fin 1024, A (ix2 r k) * B (ix2 k l) := by
  pointwise [k0_pay1]

/-- The reference, read at an index: the row's sum of products with the full weight's column. -/
theorem ref_at (X : FVec Ideal S32x16x1024 .bf16) (W : FVec Ideal S1024x11520 .f32) (r : Fin 512) (l : Fin 3328) :
    REF X W (ix2 r l) = ∑ k : Fin 1024, X (ix3 ⟨r.val / 16, by omega⟩ ⟨r.val % 16, by omega⟩ k) * W (ix2 k ⟨l.val, by omega⟩) := by
  pointwise [REF]

/-- The activation block of a grid point holds the rows of its tile. -/
theorem blk0 (c : Dev nD) (t : Fin cfg0.N) (r : Fin 512) (k : Fin 1024) (R : Fin 512) (hR : R.val = t.val % 1 * 512 + r.val) :
    (show FVec Ideal S512x1024 .bf16 from iblk m c 0 t) (ix2 r k)
      = (show FVec Ideal S32x16x1024 .bf16 from m ((c : Thread nD τ).loc main_arg0)) (ix3 ⟨R.val / 16, by omega⟩ ⟨R.val % 16, by omega⟩ k) := by
  have h : (show FVec Ideal S512x1024 .bf16 from iblk m c 0 t) (ix2 r k) = (show FVec Ideal S512x1024 .bf16 from V m c main_v0) (ix2 R k) := by
    blk_ext [iblk, idx t]
  rw [h]
  entry_read
  pointwise

/-- The weight block of a grid point holds the group's columns of the full weight. -/
theorem blk1 (c : Dev nD) (t : Fin cfg0.N) (k : Fin 1024) (l : Fin 3328) (L : Fin 3328) (hL : L.val = t.val / 1 * 3328 + l.val) :
    (show FVec Ideal S1024x3328 .bf16 from iblk m c 1 t) (ix2 k l)
      = (show FVec Ideal S1024x11520 .f32 from m ((c : Thread nD τ).loc main_arg1)) (ix2 k ⟨L.val, by omega⟩) := by
  have h : (show FVec Ideal S1024x3328 .bf16 from iblk m c 1 t) (ix2 k l) = (show FVec Ideal S1024x3328 .bf16 from V m c main_v2) (ix2 k L) := by
    blk_ext [iblk, idx t]
  rw [h]
  entry_read
  pointwise

/-- What a grid point stores at an index of its block is the reference's product at the array index it sits at. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  obtain ⟨r, l, rfl⟩ : ∃ (r : Fin 512) (l : Fin 3328), y = ix2 r l := ⟨y 0, y 1, eq_ix2 y⟩
  have ht := (idx t).2.2.2
  have he : ((cfg0.win 2).blk t).view.emb (ix2 r l) = ix2 ⟨t.val % 1 * 512 + r.val, by omega⟩ ⟨t.val / 1 * 3328 + l.val, by omega⟩ := by
    blk_ext [idx t]
  rw [he]
  refine (pay_at _ _ r l).trans (Eq.trans ?_ (ref_at _ _ _ _).symm)
  exact Finset.sum_congr rfl fun k _ => Ideal.mul_congr (blk0 m c t r k _ rfl) (blk1 m c t k l _ rfl)

/-- The result array after the run is the reference's product of the argument arrays. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InASIdeal.RefValue

namespace Cert.Proof.InAS

/-- The sample batch's first group's projection equals the reference's on the same arguments. -/
theorem algebraic : Cert.algebraic_InASIdeal_InASRefIdeal := by
  intro m g m' g' _ hagree
  refine ⟨fun c => Cert.InASRefIdeal.RefTerm.REF (m ((c.tc : Thread Cert.InASIdeal.nD Cert.InASIdeal.τ).loc Cert.InASIdeal.main_arg0)) (m ((c.tc : Thread Cert.InASIdeal.nD Cert.InASIdeal.τ).loc Cert.InASIdeal.main_arg1)), ?_, ?_⟩
  · exact (θ_run Cert.InASIdeal.defs _ _).mono (fun r h c => ⟨(h c).1.trans (Cert.InASIdeal.RefValue.final m c), (h c).2⟩)
      (Cert.InASIdeal.Value.run_blocks m g)
  · refine (θ_run Cert.InASRefIdeal.defs _ _).mono (fun r h c => ⟨(h c).1.trans ?_, (h c).2⟩)
      (Cert.InASRefIdeal.Value.run m' g')
    rw [(hagree c).1, (hagree c).2]

end Cert.Proof.InAS
-- ==== Proof.ValInBS.lean ====
module

public import proofs.«01_k».proof.Defs
public import proofs.«01_k».proof.Proof.Gen.InBSIdeal.Value
public import proofs.«01_k».proof.Proof.Gen.InBSRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InBSRefIdeal.RefTerm
open Cert.InBSRefIdeal Cert.InBSRefIdeal.Gen

/-- The reference's projection onto the second group of columns, of any activations and weights. -/
abbrev REF (X : FVec Ideal S32x16x1024 .bf16) (W : FVec Ideal S1024x11520 .f32) : FVec Ideal S512x6144 .bf16 :=
  truncf .bf16 (shapeCast _ (extractStridedSlice S32x16x6144 ![0, 0, 3328] (Host.dotGeneral dot_S32x16x1024_S1024x11520_S32x16x11520_2_0_01_1_n_n none (extf .f32 X bitsLt_bf16_f32) W) slices_S32x16x11520_S32x16x6144_0_0_3328) shapeCasts_S32x16x6144_S512x6144) bitsLt_bf16_f32

end Cert.InBSRefIdeal.RefTerm

namespace Cert.InBSIdeal.RefValue
open Cert.InBSIdeal Cert.InBSIdeal.Gen Cert.InBSRefIdeal.RefTerm

variable (m : (ℓ : Loc nD τ sig) → Buf (Elt Ideal) ℓ)

/-- Where each grid point's blocks sit. -/
theorem idx : ∀ t : Fin cfg0.N, win0_0.index t = ![t.val % 1, 0] ∧ win0_1.index t = ![0, t.val / 1] ∧ win0_2.index t = ![t.val % 1, t.val / 1] ∧ t.val / 1 < 4 :=
  (by decide +kernel : ∀ t : Fin grid0.N, _)

/-- The stored block, read at an index: the sum of products. -/
theorem pay_at (A : FVec Ideal S512x1024 .bf16) (B : FVec Ideal S1024x1536 .bf16) (r : Fin 512) (l : Fin 1536) :
    k0_pay1 (F := Ideal) A B (ix2 r l) = ∑ k : Fin 1024, A (ix2 r k) * B (ix2 k l) := by
  pointwise [k0_pay1]

/-- The reference, read at an index: the row's sum of products with the full weight's column. -/
theorem ref_at (X : FVec Ideal S32x16x1024 .bf16) (W : FVec Ideal S1024x11520 .f32) (r : Fin 512) (l : Fin 6144) :
    REF X W (ix2 r l) = ∑ k : Fin 1024, X (ix3 ⟨r.val / 16, by omega⟩ ⟨r.val % 16, by omega⟩ k) * W (ix2 k ⟨3328 + l.val, by omega⟩) := by
  pointwise [REF]

/-- The activation block of a grid point holds the rows of its tile. -/
theorem blk0 (c : Dev nD) (t : Fin cfg0.N) (r : Fin 512) (k : Fin 1024) (R : Fin 512) (hR : R.val = t.val % 1 * 512 + r.val) :
    (show FVec Ideal S512x1024 .bf16 from iblk m c 0 t) (ix2 r k)
      = (show FVec Ideal S32x16x1024 .bf16 from m ((c : Thread nD τ).loc main_arg0)) (ix3 ⟨R.val / 16, by omega⟩ ⟨R.val % 16, by omega⟩ k) := by
  have h : (show FVec Ideal S512x1024 .bf16 from iblk m c 0 t) (ix2 r k) = (show FVec Ideal S512x1024 .bf16 from V m c main_v0) (ix2 R k) := by
    blk_ext [iblk, idx t]
  rw [h]
  entry_read
  pointwise

/-- The weight block of a grid point holds the group's columns of the full weight. -/
theorem blk1 (c : Dev nD) (t : Fin cfg0.N) (k : Fin 1024) (l : Fin 1536) (L : Fin 6144) (hL : L.val = t.val / 1 * 1536 + l.val) :
    (show FVec Ideal S1024x1536 .bf16 from iblk m c 1 t) (ix2 k l)
      = (show FVec Ideal S1024x11520 .f32 from m ((c : Thread nD τ).loc main_arg1)) (ix2 k ⟨3328 + L.val, by omega⟩) := by
  have h : (show FVec Ideal S1024x1536 .bf16 from iblk m c 1 t) (ix2 k l) = (show FVec Ideal S1024x6144 .bf16 from V m c main_v2) (ix2 k L) := by
    blk_ext [iblk, idx t]
  rw [h]
  entry_read
  pointwise

/-- What a grid point stores at an index of its block is the reference's product at the array index it sits at. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  obtain ⟨r, l, rfl⟩ : ∃ (r : Fin 512) (l : Fin 1536), y = ix2 r l := ⟨y 0, y 1, eq_ix2 y⟩
  have ht := (idx t).2.2.2
  have he : ((cfg0.win 2).blk t).view.emb (ix2 r l) = ix2 ⟨t.val % 1 * 512 + r.val, by omega⟩ ⟨t.val / 1 * 1536 + l.val, by omega⟩ := by
    blk_ext [idx t]
  rw [he]
  refine (pay_at _ _ r l).trans (Eq.trans ?_ (ref_at _ _ _ _).symm)
  exact Finset.sum_congr rfl fun k _ => Ideal.mul_congr (blk0 m c t r k _ rfl) (blk1 m c t k l _ rfl)

/-- The result array after the run is the reference's product of the argument arrays. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InBSIdeal.RefValue

namespace Cert.Proof.InBS

/-- The sample batch's second group's projection equals the reference's on the same arguments. -/
theorem algebraic : Cert.algebraic_InBSIdeal_InBSRefIdeal := by
  intro m g m' g' _ hagree
  refine ⟨fun c => Cert.InBSRefIdeal.RefTerm.REF (m ((c.tc : Thread Cert.InBSIdeal.nD Cert.InBSIdeal.τ).loc Cert.InBSIdeal.main_arg0)) (m ((c.tc : Thread Cert.InBSIdeal.nD Cert.InBSIdeal.τ).loc Cert.InBSIdeal.main_arg1)), ?_, ?_⟩
  · exact (θ_run Cert.InBSIdeal.defs _ _).mono (fun r h c => ⟨(h c).1.trans (Cert.InBSIdeal.RefValue.final m c), (h c).2⟩)
      (Cert.InBSIdeal.Value.run_blocks m g)
  · refine (θ_run Cert.InBSRefIdeal.defs _ _).mono (fun r h c => ⟨(h c).1.trans ?_, (h c).2⟩)
      (Cert.InBSRefIdeal.Value.run m' g')
    rw [(hagree c).1, (hagree c).2]

end Cert.Proof.InBS
-- ==== Proof.ValInGS.lean ====
module

public import proofs.«01_k».proof.Defs
public import proofs.«01_k».proof.Proof.Gen.InGSIdeal.Value
public import proofs.«01_k».proof.Proof.Gen.InGSRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InGSRefIdeal.RefTerm
open Cert.InGSRefIdeal Cert.InGSRefIdeal.Gen

/-- The reference's projection onto the third group of columns, of any activations and weights. -/
abbrev REF (X : FVec Ideal S32x16x1024 .bf16) (W : FVec Ideal S1024x11520 .f32) : FVec Ideal S512x2048 .bf16 :=
  truncf .bf16 (shapeCast _ (extractStridedSlice S32x16x2048 ![0, 0, 9472] (Host.dotGeneral dot_S32x16x1024_S1024x11520_S32x16x11520_2_0_01_1_n_n none (extf .f32 X bitsLt_bf16_f32) W) slices_S32x16x11520_S32x16x2048_0_0_9472) shapeCasts_S32x16x2048_S512x2048) bitsLt_bf16_f32

end Cert.InGSRefIdeal.RefTerm

namespace Cert.InGSIdeal.RefValue
open Cert.InGSIdeal Cert.InGSIdeal.Gen Cert.InGSRefIdeal.RefTerm

variable (m : (ℓ : Loc nD τ sig) → Buf (Elt Ideal) ℓ)

/-- Where each grid point's blocks sit. -/
theorem idx : ∀ t : Fin cfg0.N, win0_0.index t = ![t.val % 1, 0] ∧ win0_1.index t = ![0, t.val / 1] ∧ win0_2.index t = ![t.val % 1, t.val / 1] ∧ t.val / 1 < 1 :=
  (by decide +kernel : ∀ t : Fin grid0.N, _)

/-- The stored block, read at an index: the sum of products. -/
theorem pay_at (A : FVec Ideal S512x1024 .bf16) (B : FVec Ideal S1024x2048 .bf16) (r : Fin 512) (l : Fin 2048) :
    k0_pay1 (F := Ideal) A B (ix2 r l) = ∑ k : Fin 1024, A (ix2 r k) * B (ix2 k l) := by
  pointwise [k0_pay1]

/-- The reference, read at an index: the row's sum of products with the full weight's column. -/
theorem ref_at (X : FVec Ideal S32x16x1024 .bf16) (W : FVec Ideal S1024x11520 .f32) (r : Fin 512) (l : Fin 2048) :
    REF X W (ix2 r l) = ∑ k : Fin 1024, X (ix3 ⟨r.val / 16, by omega⟩ ⟨r.val % 16, by omega⟩ k) * W (ix2 k ⟨9472 + l.val, by omega⟩) := by
  pointwise [REF]

/-- The activation block of a grid point holds the rows of its tile. -/
theorem blk0 (c : Dev nD) (t : Fin cfg0.N) (r : Fin 512) (k : Fin 1024) (R : Fin 512) (hR : R.val = t.val % 1 * 512 + r.val) :
    (show FVec Ideal S512x1024 .bf16 from iblk m c 0 t) (ix2 r k)
      = (show FVec Ideal S32x16x1024 .bf16 from m ((c : Thread nD τ).loc main_arg0)) (ix3 ⟨R.val / 16, by omega⟩ ⟨R.val % 16, by omega⟩ k) := by
  have h : (show FVec Ideal S512x1024 .bf16 from iblk m c 0 t) (ix2 r k) = (show FVec Ideal S512x1024 .bf16 from V m c main_v0) (ix2 R k) := by
    blk_ext [iblk, idx t]
  rw [h]
  entry_read
  pointwise

/-- The weight block of a grid point holds the group's columns of the full weight. -/
theorem blk1 (c : Dev nD) (t : Fin cfg0.N) (k : Fin 1024) (l : Fin 2048) (L : Fin 2048) (hL : L.val = t.val / 1 * 2048 + l.val) :
    (show FVec Ideal S1024x2048 .bf16 from iblk m c 1 t) (ix2 k l)
      = (show FVec Ideal S1024x11520 .f32 from m ((c : Thread nD τ).loc main_arg1)) (ix2 k ⟨9472 + L.val, by omega⟩) := by
  have h : (show FVec Ideal S1024x2048 .bf16 from iblk m c 1 t) (ix2 k l) = (show FVec Ideal S1024x2048 .bf16 from V m c main_v2) (ix2 k L) := by
    blk_ext [iblk, idx t]
  rw [h]
  entry_read
  pointwise

/-- What a grid point stores at an index of its block is the reference's product at the array index it sits at. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  obtain ⟨r, l, rfl⟩ : ∃ (r : Fin 512) (l : Fin 2048), y = ix2 r l := ⟨y 0, y 1, eq_ix2 y⟩
  have ht := (idx t).2.2.2
  have he : ((cfg0.win 2).blk t).view.emb (ix2 r l) = ix2 ⟨t.val % 1 * 512 + r.val, by omega⟩ ⟨t.val / 1 * 2048 + l.val, by omega⟩ := by
    blk_ext [idx t]
  rw [he]
  refine (pay_at _ _ r l).trans (Eq.trans ?_ (ref_at _ _ _ _).symm)
  exact Finset.sum_congr rfl fun k _ => Ideal.mul_congr (blk0 m c t r k _ rfl) (blk1 m c t k l _ rfl)

/-- The result array after the run is the reference's product of the argument arrays. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InGSIdeal.RefValue

namespace Cert.Proof.InGS

/-- The third group's projection equals the reference's on the same arguments. -/
theorem algebraic : Cert.algebraic_InGSIdeal_InGSRefIdeal := by
  intro m g m' g' _ hagree
  refine ⟨fun c => Cert.InGSRefIdeal.RefTerm.REF (m ((c.tc : Thread Cert.InGSIdeal.nD Cert.InGSIdeal.τ).loc Cert.InGSIdeal.main_arg0)) (m ((c.tc : Thread Cert.InGSIdeal.nD Cert.InGSIdeal.τ).loc Cert.InGSIdeal.main_arg1)), ?_, ?_⟩
  · exact (θ_run Cert.InGSIdeal.defs _ _).mono (fun r h c => ⟨(h c).1.trans (Cert.InGSIdeal.RefValue.final m c), (h c).2⟩)
      (Cert.InGSIdeal.Value.run_blocks m g)
  · refine (θ_run Cert.InGSRefIdeal.defs _ _).mono (fun r h c => ⟨(h c).1.trans ?_, (h c).2⟩)
      (Cert.InGSRefIdeal.Value.run m' g')
    rw [(hagree c).1, (hagree c).2]

end Cert.Proof.InGS
-- ==== Proof.ValMergeS.lean ====
module

public import proofs.«01_k».proof.Defs
public import proofs.«01_k».proof.Proof.Row
public import proofs.«01_k».proof.Proof.Gen.MergeSIdeal.Value
public import proofs.«01_k».proof.Proof.Gen.MergeSRefIdeal.Read
public import Idealize.ShloMosaic.Lib.Pointwise
public import Idealize.ShloMosaic.Lib.Pipeline.ValueKit
public import Idealize.ShloMosaic.Lib.Claim

@[expose] public section
set_option maxRecDepth 16384

noncomputable section

open Idealize.ShloMosaic Idealize.ShloMosaic.TcCoe Idealize.SL.Sem
open Idealize.ShloMosaic.Pipeline (Dat)
open Cert.Proof.Row

namespace Cert.Proof.MergeS

/-- A row of the two branches, each gated and projected, summed. -/
def mrg (a : Fin 1024 → EReal) (b : Fin 2048 → EReal) (z : Fin 2048 → EReal) (wa : Fin 1024 → Fin 1024 → EReal) (wb : Fin 2048 → Fin 1024 → EReal) (l : Fin 1024) : EReal :=
  Ideal.logistic (z ⟨l.val, by omega⟩) * (∑ k, a k * wa k l) + Ideal.logistic (z ⟨1024 + l.val, by omega⟩) * (∑ k, b k * wb k l)

/-- The output projection of a row. -/
def prj (v : Fin 1024 → EReal) (w : Fin 1024 → Fin 1024 → EReal) (l : Fin 1024) : EReal := ∑ k, v k * w k l

end Cert.Proof.MergeS

open Cert.Proof.MergeS

namespace Cert.MergeSRefIdeal.RefTerm
open Cert.MergeSRefIdeal Cert.MergeSRefIdeal.Gen Cert.MergeSRefIdeal.Read

/-- The reference's merged branches, read at an index. -/
theorem mrg_at (A : FVec Ideal S32x16x1024 .bf16) (B Z : FVec Ideal S32x16x2048 .bf16) (WA : FVec Ideal S1024x1024 .f32) (WB : FVec Ideal S2048x1024 .f32) (b : Fin 32) (r : Fin 16) (l : Fin 1024) :
    val_main_v30 (F := Ideal) A B Z WA WB (ix3 b r l)
      = mrg (fun k => A (ix3 b r k)) (fun k => B (ix3 b r k)) (fun k => Z (ix3 b r k)) (fun k l => WA (ix2 k l)) (fun k l => WB (ix2 k l)) l := by
  pointwise [val_main_v30, val_main_v29, val_main_v28, val_main_v27, val_main_v26, val_main_v25, val_main_v24, val_main_v23, val_main_v22, val_main_v21, val_main_v20, val_main_v19, val_main_v18, val_main_v17, val_main_cst_0, val_main_v16, val_main_v15, val_main_cst, val_main_v14, val_main_v13, val_main_v12, mrg]
  try rfl

/-- The reference's result, read at an index: the updated row. -/
theorem ref_at (A : FVec Ideal S32x16x1024 .bf16) (B Z : FVec Ideal S32x16x2048 .bf16) (X : FVec Ideal S32x16x1024 .f32) (M : FVec Ideal S32x6144 .f32) (P : FVec Ideal S2x1024 .f32) (WA : FVec Ideal S1024x1024 .f32) (WB : FVec Ideal S2048x1024 .f32) (WO : FVec Ideal S1024x1024 .f32) (r : Fin 512) (l : Fin 1024) :
    val_main_v50 (F := Ideal) A B Z X M P WA WB WO (ix2 r l)
      = upd (fun k => X (ix3 ⟨r.val / 16, by omega⟩ ⟨r.val % 16, by omega⟩ k))
          (prj (mrg (fun k => A (ix3 ⟨r.val / 16, by omega⟩ ⟨r.val % 16, by omega⟩ k)) (fun k => B (ix3 ⟨r.val / 16, by omega⟩ ⟨r.val % 16, by omega⟩ k)) (fun k => Z (ix3 ⟨r.val / 16, by omega⟩ ⟨r.val % 16, by omega⟩ k)) (fun k l => WA (ix2 k l)) (fun k l => WB (ix2 k l)))
            (fun k l => WO (ix2 k l)))
          (fun k => M (ix2 ⟨r.val / 16, by omega⟩ ⟨2048 + k.val, by omega⟩)) (fun k => P (ix2 0 k)) l := by
  pointwise [val_main_v50, val_main_v49, val_main_v48, val_main_v47, val_main_v46, val_main_v45, val_main_v44, val_main_v43, val_main_v42, val_main_v41, val_main_v40, val_main_v39, val_main_cst_3, val_main_v38, val_main_v37, val_main_cst_2, val_main_v36, val_main_v35, val_main_cst_1, val_main_v34, val_main_v33, val_main_v32, val_main_v31, mrg_at, val_main_v8, val_main_v2, upd, rms, rs, prj]

end Cert.MergeSRefIdeal.RefTerm

namespace Cert.MergeSIdeal.RefValue
open Cert.MergeSIdeal Cert.MergeSIdeal.Gen

/-- The merged branches of the first half of a block, read at an index. -/
theorem pay4_at (A : FVec Ideal S256x1024 .bf16) (WA : FVec Ideal S1024x1024 .bf16) (B : FVec Ideal S256x2048 .bf16) (WB : FVec Ideal S2048x1024 .bf16) (Z Y : FVec Ideal S256x1024 .bf16) (r : Fin 256) (l : Fin 1024) :
    k0_pay4 (F := Ideal) A WA B WB Z Y (ix2 r l)
      = Ideal.logistic (Z (ix2 r l)) * (∑ k : Fin 1024, A (ix2 r k) * WA (ix2 k l)) + Ideal.logistic (Y (ix2 r l)) * (∑ k : Fin 2048, B (ix2 r k) * WB (ix2 k l)) := by
  pointwise [k0_pay4]

/-- The stored first half, read at an index. -/
theorem pay7_at (V : FVec Ideal S256x1024 .f32) (WO : FVec Ideal S1024x1024 .bf16) (X : FVec Ideal S256x1024 .f32) (GT : FVec Ideal S1x256x1024 .f32) (P : FVec Ideal S1x1024 .f32) (r : Fin 256) (l : Fin 1024) :
    k0_pay7 (F := Ideal) V WO X GT P (ix2 r l)
      = upd (fun k => X (ix2 r k)) (prj (fun k => V (ix2 r k)) (fun k l => WO (ix2 k l))) (fun k => GT (ix3 0 r k)) (fun k => P (ix2 0 k)) l := by
  pointwise [k0_pay7, upd, rms, rs, prj]

/-- The projected merge of the second half of a block, read at an index. -/
theorem pay6_at (A : FVec Ideal S256x1024 .bf16) (WA : FVec Ideal S1024x1024 .bf16) (B : FVec Ideal S256x2048 .bf16) (WB : FVec Ideal S2048x1024 .bf16) (Z Y : FVec Ideal S256x1024 .bf16) (WO : FVec Ideal S1024x1024 .bf16) (r : Fin 256) (l : Fin 1024) :
    k0_pay6 (F := Ideal) (k0_pay2 A WA) (k0_pay3 B WB) (k0_pay5 Z) Y WO (ix2 r l)
      = prj (fun l => Ideal.logistic (Z (ix2 r l)) * (∑ k : Fin 1024, A (ix2 r k) * WA (ix2 k l)) + Ideal.logistic (Y (ix2 r l)) * (∑ k : Fin 2048, B (ix2 r k) * WB (ix2 k l))) (fun k l => WO (ix2 k l)) l := by
  pointwise [k0_pay6, k0_pay2, k0_pay3, k0_pay5, prj]

/-- The stored second half, read at an index. -/
theorem pay1_at (V : FVec Ideal S256x1024 .f32) (X : FVec Ideal S256x1024 .f32) (GT : FVec Ideal S1x256x1024 .f32) (P : FVec Ideal S1x1024 .f32) (r : Fin 256) (l : Fin 1024) :
    k0_pay1 (F := Ideal) V X GT P (ix2 r l)
      = upd (fun k => X (ix2 r k)) (fun k => V (ix2 r k)) (fun k => GT (ix3 0 r k)) (fun k => P (ix2 0 k)) l := by
  pointwise [k0_pay1, upd, rms, rs]

/-- The stored block, read at an index: the updated row of the blocks read. -/
theorem out_at (x0 : Vec Ideal S512x1024 .bf16) (x1 x2 : Vec Ideal S512x2048 .bf16) (x3 : Vec Ideal S512x1024 .f32) (x4 : Vec Ideal S1x512x1024 .f32) (x5 : Vec Ideal S1x1024 .f32) (x6 : Vec Ideal S1024x1024 .bf16) (x7 : Vec Ideal S2048x1024 .bf16) (x8 : Vec Ideal S1024x1024 .bf16) (R : Fin 512) (l : Fin 1024) :
    out0_9 (F := Ideal) x0 x1 x2 x3 x4 x5 x6 x7 x8 (ix2 R l)
      = upd (fun k => x3 (ix2 R k))
          (prj (mrg (fun k => x0 (ix2 R k)) (fun k => x1 (ix2 R k)) (fun k => x2 (ix2 R k)) (fun k l => x6 (ix2 k l)) (fun k l => x7 (ix2 k l))) (fun k l => x8 (ix2 k l)))
          (fun k => x4 (ix3 0 R k)) (fun k => x5 (ix2 0 k)) l := by
  have b0 : ∀ r : Fin 256, r.val < 512 := fun r => by omega
  have b1 : ∀ r : Fin 256, 256 + r.val < 512 := fun r => by omega
  unfold out0_9
  canon_tiles x h
  · obtain ⟨r, k, rfl⟩ : ∃ (r : Fin 256) (k : Fin 1024), x = ix2 r k := ⟨x 0, x 1, eq_ix2 x⟩
    obtain rfl : l = k := Fin.ext h1
    obtain rfl : R = ⟨256 + r.val, b1 r⟩ := Fin.ext h0
    pointwise [pay1_at, pay6_at, mrg]
    rfl
  · obtain ⟨r, k, rfl⟩ : ∃ (r : Fin 256) (k : Fin 1024), x = ix2 r k := ⟨x 0, x 1, eq_ix2 x⟩
    obtain rfl : l = k := Fin.ext h1
    obtain rfl : R = ⟨r.val, b0 r⟩ := Fin.ext h0
    pointwise [pay7_at, pay4_at, mrg]
    rfl

variable (m : (ℓ : Loc nD τ sig) → Buf (Elt Ideal) ℓ)

/-- Every window stages its whole array at the one grid point. -/
theorem idx : ∀ t : Fin cfg0.N, win0_0.index t = ![0, 0] ∧ win0_1.index t = ![0, 0] ∧ win0_2.index t = ![0, 0] ∧ win0_3.index t = ![0, 0]
    ∧ win0_4.index t = ![0, 0, 0] ∧ win0_5.index t = ![0, 0] ∧ win0_6.index t = ![0, 0] ∧ win0_7.index t = ![0, 0] ∧ win0_8.index t = ![0, 0] ∧ win0_9.index t = ![0, 0] ∧ t.val < 1 :=
  (by decide +kernel : ∀ t : Fin grid0.N, _)

/-- The first branch's rows of the batch. -/
theorem blk0 (c : Dev nD) (t : Fin cfg0.N) (r : Fin 512) (k : Fin 1024) :
    (show FVec Ideal S512x1024 .bf16 from iblk m c 0 t) (ix2 r k)
      = (show FVec Ideal S32x16x1024 .bf16 from m ((c : Thread nD τ).loc main_arg0)) (ix3 ⟨r.val / 16, by omega⟩ ⟨r.val % 16, by omega⟩ k) := by
  have h : (show FVec Ideal S512x1024 .bf16 from iblk m c 0 t) (ix2 r k) = (show FVec Ideal S512x1024 .bf16 from V m c main_v24) (ix2 r k) := by
    blk_ext [iblk, idx t]
  rw [h]
  entry_read
  pointwise

/-- The second branch's rows of the batch. -/
theorem blk1 (c : Dev nD) (t : Fin cfg0.N) (r : Fin 512) (k : Fin 2048) :
    (show FVec Ideal S512x2048 .bf16 from iblk m c 1 t) (ix2 r k)
      = (show FVec Ideal S32x16x2048 .bf16 from m ((c : Thread nD τ).loc main_arg1)) (ix3 ⟨r.val / 16, by omega⟩ ⟨r.val % 16, by omega⟩ k) := by
  have h : (show FVec Ideal S512x2048 .bf16 from iblk m c 1 t) (ix2 r k) = (show FVec Ideal S512x2048 .bf16 from V m c main_v25) (ix2 r k) := by
    blk_ext [iblk, idx t]
  rw [h]
  entry_read
  pointwise

/-- The gates' rows of the batch. -/
theorem blk2 (c : Dev nD) (t : Fin cfg0.N) (r : Fin 512) (k : Fin 2048) :
    (show FVec Ideal S512x2048 .bf16 from iblk m c 2 t) (ix2 r k)
      = (show FVec Ideal S32x16x2048 .bf16 from m ((c : Thread nD τ).loc main_arg2)) (ix3 ⟨r.val / 16, by omega⟩ ⟨r.val % 16, by omega⟩ k) := by
  have h : (show FVec Ideal S512x2048 .bf16 from iblk m c 2 t) (ix2 r k) = (show FVec Ideal S512x2048 .bf16 from V m c main_v26) (ix2 r k) := by
    blk_ext [iblk, idx t]
  rw [h]
  entry_read
  pointwise

/-- The layer input's rows of the batch. -/
theorem blk3 (c : Dev nD) (t : Fin cfg0.N) (r : Fin 512) (k : Fin 1024) :
    (show FVec Ideal S512x1024 .f32 from iblk m c 3 t) (ix2 r k)
      = (show FVec Ideal S32x16x1024 .f32 from m ((c : Thread nD τ).loc main_arg3)) (ix3 ⟨r.val / 16, by omega⟩ ⟨r.val % 16, by omega⟩ k) := by
  have h : (show FVec Ideal S512x1024 .f32 from iblk m c 3 t) (ix2 r k) = (show FVec Ideal S512x1024 .f32 from V m c main_v27) (ix2 r k) := by
    blk_ext [iblk, idx t]
  rw [h]
  entry_read
  pointwise

/-- The gate of the update of a grid point. -/
theorem blk4 (c : Dev nD) (t : Fin cfg0.N) (r : Fin 512) (k : Fin 1024) :
    (show FVec Ideal S1x512x1024 .f32 from iblk m c 4 t) (ix3 0 r k)
      = (show FVec Ideal S32x6144 .f32 from m ((c : Thread nD τ).loc main_arg4)) (ix2 ⟨r.val / 16, by omega⟩ ⟨2048 + k.val, by omega⟩) := by
  have h : (show FVec Ideal S1x512x1024 .f32 from iblk m c 4 t) (ix3 0 r k) = (show FVec Ideal S1x512x1024 .f32 from V m c main_v14) (ix3 0 r k) := by
    blk_ext [iblk, idx t]
  rw [h]
  entry_read
  pointwise

/-- The gain after the projection. -/
theorem blk5 (c : Dev nD) (t : Fin cfg0.N) (k : Fin 1024) :
    (show FVec Ideal S1x1024 .f32 from iblk m c 5 t) (ix2 0 k)
      = (show FVec Ideal S2x1024 .f32 from m ((c : Thread nD τ).loc main_arg5)) (ix2 0 k) := by
  have h : (show FVec Ideal S1x1024 .f32 from iblk m c 5 t) (ix2 0 k) = (show FVec Ideal S1x1024 .f32 from V m c main_v30) (ix2 0 k) := by
    blk_ext [iblk, idx t]
  rw [h]
  entry_read
  pointwise

/-- The first branch's weight. -/
theorem blk6 (c : Dev nD) (t : Fin cfg0.N) (k l : Fin 1024) :
    (show FVec Ideal S1024x1024 .bf16 from iblk m c 6 t) (ix2 k l)
      = (show FVec Ideal S1024x1024 .f32 from m ((c : Thread nD τ).loc main_arg6)) (ix2 k l) := by
  have h : (show FVec Ideal S1024x1024 .bf16 from iblk m c 6 t) (ix2 k l) = (show FVec Ideal S1024x1024 .bf16 from V m c main_v31) (ix2 k l) := by
    blk_ext [iblk, idx t]
  rw [h]
  entry_read
  pointwise

/-- The second branch's weight. -/
theorem blk7 (c : Dev nD) (t : Fin cfg0.N) (k : Fin 2048) (l : Fin 1024) :
    (show FVec Ideal S2048x1024 .bf16 from iblk m c 7 t) (ix2 k l)
      = (show FVec Ideal S2048x1024 .f32 from m ((c : Thread nD τ).loc main_arg7)) (ix2 k l) := by
  have h : (show FVec Ideal S2048x1024 .bf16 from iblk m c 7 t) (ix2 k l) = (show FVec Ideal S2048x1024 .bf16 from V m c main_v32) (ix2 k l) := by
    blk_ext [iblk, idx t]
  rw [h]
  entry_read
  pointwise

/-- The output weight. -/
theorem blk8 (c : Dev nD) (t : Fin cfg0.N) (k l : Fin 1024) :
    (show FVec Ideal S1024x1024 .bf16 from iblk m c 8 t) (ix2 k l)
      = (show FVec Ideal S1024x1024 .f32 from m ((c : Thread nD τ).loc main_arg8)) (ix2 k l) := by
  have h : (show FVec Ideal S1024x1024 .bf16 from iblk m c 8 t) (ix2 k l) = (show FVec Ideal S1024x1024 .bf16 from V m c main_v33) (ix2 k l) := by
    blk_ext [iblk, idx t]
  rw [h]
  entry_read
  pointwise

/-- The reference's result at the launch's arguments. -/
abbrev REFM (c : Dev nD) : FVec Ideal S512x1024 .f32 :=
  Cert.MergeSRefIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- What a grid point stores at an index of its block is the reference's row at the array index it sits at. -/
theorem point (c : Dev nD) (t : Fin cfg0.N) (y) : out0_9 (iblk m c 0 t) (iblk m c 1 t) (iblk m c 2 t) (iblk m c 3 t) (iblk m c 4 t) (iblk m c 5 t) (iblk m c 6 t) (iblk m c 7 t) (iblk m c 8 t) y
    = REFM m c (((cfg0.win 9).blk t).view.emb y) := by
  obtain ⟨r, l, rfl⟩ : ∃ (r : Fin 512) (l : Fin 1024), y = ix2 r l := ⟨y 0, y 1, eq_ix2 y⟩
  have he : ((cfg0.win 9).blk t).view.emb (ix2 r l) = ix2 r l := by
    blk_ext [idx t]
  rw [he]
  refine (out_at _ _ _ _ _ _ _ _ _ r l).trans (Eq.trans ?_ (Cert.MergeSRefIdeal.RefTerm.ref_at _ _ _ _ _ _ _ _ _ _ _).symm)
  have e0 := funext fun k => blk0 m c t r k
  have e1 := funext fun k => blk1 m c t r k
  have e2 := funext fun k => blk2 m c t r k
  have e3 := funext fun k => blk3 m c t r k
  have e4 := funext fun k => blk4 m c t r k
  have e5 := funext fun k => blk5 m c t k
  have e6 := funext fun k => funext fun u => blk6 m c t k u
  have e7 := funext fun k => funext fun u => blk7 m c t k u
  have e8 := funext fun k => funext fun u => blk8 m c t k u
  exact congrFun (congr (congr (congr (congrArg upd e3) (congr (congrArg prj (congr (congr (congr (congr (congrArg mrg e0) e1) e2) e6) e7)) e8)) e4) e5) l

/-- The result array after the run is the reference's result of the argument arrays. -/
theorem final (c : Dev nD) : (dats m 0 c).arrAt 9 (cfgs 0).N = REFM m c := by
  refine (dats m 0 c).arrAt_eq_of_covers 9 _ (by decide +kernel) fun t _ y => ?_
  blk_simp
  rw [after0_9]
  exact point m c t y

end Cert.MergeSIdeal.RefValue

namespace Cert.Proof.MergeS

/-- The sample batch's merge of the two branches equals the reference's on the same arguments. -/
theorem algebraic : Cert.algebraic_MergeSIdeal_MergeSRefIdeal := by
  intro m g m' g' _ hagree
  refine ⟨fun c => Cert.MergeSIdeal.RefValue.REFM m c, ?_, ?_⟩
  · exact (θ_run Cert.MergeSIdeal.defs _ _).mono (fun r h c => ⟨(h c).1.trans (Cert.MergeSIdeal.RefValue.final m c), (h c).2⟩)
      (Cert.MergeSIdeal.Value.run_blocks m g)
  · refine (θ_run Cert.MergeSRefIdeal.defs _ _).mono (fun r h c => ⟨(h c).1.trans ((Cert.MergeSRefIdeal.Read.val_main_v50_eq m' c).trans ?_), (h c).2⟩)
      (Cert.MergeSRefIdeal.Value.run m' g')
    obtain ⟨a0, a1, a2, a3, a4, a5, a6, a7, a8⟩ := hagree c
    rw [a0, a1, a2, a3, a4, a5, a6, a7, a8]

end Cert.Proof.MergeS
-- ==== Proof.ValPrenormS.lean ====
module

public import proofs.«01_k».proof.Defs
public import proofs.«01_k».proof.Proof.Row
public import proofs.«01_k».proof.Proof.Gen.PrenormSIdeal.Value
public import proofs.«01_k».proof.Proof.Gen.PrenormSRefIdeal.Read
public import Idealize.ShloMosaic.Lib.Pointwise
public import Idealize.ShloMosaic.Lib.Pipeline.ValueKit
public import Idealize.ShloMosaic.Lib.Claim

@[expose] public section
set_option maxRecDepth 16384

noncomputable section

open Idealize.ShloMosaic Idealize.ShloMosaic.TcCoe Idealize.SL.Sem
open Idealize.ShloMosaic.Pipeline (Dat)
open Cert.Proof.Row

namespace Cert.PrenormSRefIdeal.RefTerm
open Cert.PrenormSRefIdeal Cert.PrenormSRefIdeal.Gen Cert.PrenormSRefIdeal.Read

/-- The reference's result, read at an index: the normalised row, scaled and shifted. -/
theorem ref_at (X : FVec Ideal S32x16x1024 .f32) (M : FVec Ideal S32x6144 .f32) (G : FVec Ideal S2x1024 .f32) (r : Fin 512) (l : Fin 1024) :
    val_main_v34 (F := Ideal) X M G (ix2 r l)
      = hid (fun k => X (ix3 ⟨r.val / 16, by omega⟩ ⟨r.val % 16, by omega⟩ k)) (fun k => G (ix2 0 k)) (fun k => M (ix2 ⟨r.val / 16, by omega⟩ ⟨1024 + k.val, by omega⟩)) (fun k => M (ix2 ⟨r.val / 16, by omega⟩ ⟨k.val, by omega⟩)) l := by
  pointwise [val_main_v34, val_main_v33, val_main_v32, val_main_v31, val_main_v30, val_main_v29, val_main_v28, val_main_v27, val_main_cst_2, val_main_v26, val_main_v25, val_main_v24, val_main_v23, val_main_v22, val_main_v21, val_main_v20, val_main_v19, val_main_cst_1, val_main_v18, val_main_v17, val_main_cst_0, val_main_v16, val_main_v15, val_main_cst, val_main_v14, val_main_v13, val_main_v12, val_main_v7, val_main_v6, val_main_v1, val_main_v0, hid, rms, rs]

end Cert.PrenormSRefIdeal.RefTerm

namespace Cert.PrenormSIdeal.RefValue
open Cert.PrenormSIdeal Cert.PrenormSIdeal.Gen

/-- The stored block, read at an index. -/
theorem pay_at (X : FVec Ideal S512x1024 .f32) (G : FVec Ideal S1x1024 .f32) (SC SH : FVec Ideal S1x512x1024 .f32) (r : Fin 512) (l : Fin 1024) :
    k0_pay1 (F := Ideal) X G SC SH (ix2 r l)
      = hid (fun k => X (ix2 r k)) (fun k => G (ix2 0 k)) (fun k => SC (ix3 0 r k)) (fun k => SH (ix3 0 r k)) l := by
  pointwise [k0_pay1, hid, rms, rs]

variable (m : (ℓ : Loc nD τ sig) → Buf (Elt Ideal) ℓ)

/-- Every window stages its whole array at the one grid point. -/
theorem idx : ∀ t : Fin cfg0.N, win0_0.index t = ![0, 0] ∧ win0_1.index t = ![0, 0] ∧ win0_2.index t = ![0, 0, 0] ∧ win0_3.index t = ![0, 0, 0] ∧ win0_4.index t = ![0, 0] ∧ t.val < 1 :=
  (by decide +kernel : ∀ t : Fin grid0.N, _)

/-- The activation block holds the rows of the batch. -/
theorem blk0 (c : Dev nD) (t : Fin cfg0.N) (r : Fin 512) (k : Fin 1024) :
    (show FVec Ideal S512x1024 .f32 from iblk m c 0 t) (ix2 r k)
      = (show FVec Ideal S32x16x1024 .f32 from m ((c : Thread nD τ).loc main_arg0)) (ix3 ⟨r.val / 16, by omega⟩ ⟨r.val % 16, by omega⟩ k) := by
  have h : (show FVec Ideal S512x1024 .f32 from iblk m c 0 t) (ix2 r k) = (show FVec Ideal S512x1024 .f32 from V m c main_v24) (ix2 r k) := by
    blk_ext [iblk, idx t]
  rw [h]
  entry_read
  pointwise

/-- The gain. -/
theorem blk1 (c : Dev nD) (t : Fin cfg0.N) (k : Fin 1024) :
    (show FVec Ideal S1x1024 .f32 from iblk m c 1 t) (ix2 0 k)
      = (show FVec Ideal S2x1024 .f32 from m ((c : Thread nD τ).loc main_arg2)) (ix2 0 k) := by
  have h : (show FVec Ideal S1x1024 .f32 from iblk m c 1 t) (ix2 0 k) = (show FVec Ideal S1x1024 .f32 from V m c main_v27) (ix2 0 k) := by
    blk_ext [iblk, idx t]
  rw [h]
  entry_read
  pointwise

/-- The scale block of a grid point. -/
theorem blk2 (c : Dev nD) (t : Fin cfg0.N) (r : Fin 512) (k : Fin 1024) :
    (show FVec Ideal S1x512x1024 .f32 from iblk m c 2 t) (ix3 0 r k)
      = (show FVec Ideal S32x6144 .f32 from m ((c : Thread nD τ).loc main_arg1)) (ix2 ⟨r.val / 16, by omega⟩ ⟨1024 + k.val, by omega⟩) := by
  have h : (show FVec Ideal S1x512x1024 .f32 from iblk m c 2 t) (ix3 0 r k) = (show FVec Ideal S1x512x1024 .f32 from V m c main_v11) (ix3 0 r k) := by
    blk_ext [iblk, idx t]
  rw [h]
  entry_read
  pointwise

/-- The shift block of a grid point. -/
theorem blk3 (c : Dev nD) (t : Fin cfg0.N) (r : Fin 512) (k : Fin 1024) :
    (show FVec Ideal S1x512x1024 .f32 from iblk m c 3 t) (ix3 0 r k)
      = (show FVec Ideal S32x6144 .f32 from m ((c : Thread nD τ).loc main_arg1)) (ix2 ⟨r.val / 16, by omega⟩ ⟨k.val, by omega⟩) := by
  have h : (show FVec Ideal S1x512x1024 .f32 from iblk m c 3 t) (ix3 0 r k) = (show FVec Ideal S1x512x1024 .f32 from V m c main_v8) (ix3 0 r k) := by
    blk_ext [iblk, idx t]
  rw [h]
  entry_read
  pointwise

/-- The reference's result at the launch's arguments. -/
abbrev REFM (c : Dev nD) : FVec Ideal S512x1024 .bf16 :=
  Cert.PrenormSRefIdeal.Read.val_main_v34 (F := Ideal) (m ((c : Thread nD τ).loc main_arg0)) (m ((c : Thread nD τ).loc main_arg1)) (m ((c : Thread nD τ).loc main_arg2))

/-- What a grid point stores at an index of its block is the reference's row at the array index it sits at. -/
theorem point (c : Dev nD) (t : Fin cfg0.N) (y) : k0_pay1 (iblk m c 0 t) (iblk m c 1 t) (iblk m c 2 t) (iblk m c 3 t) y
    = REFM m c (((cfg0.win 4).blk t).view.emb y) := by
  obtain ⟨r, l, rfl⟩ : ∃ (r : Fin 512) (l : Fin 1024), y = ix2 r l := ⟨y 0, y 1, eq_ix2 y⟩
  have he : ((cfg0.win 4).blk t).view.emb (ix2 r l) = ix2 r l := by
    blk_ext [idx t]
  rw [he]
  refine (pay_at _ _ _ _ r l).trans (Eq.trans ?_ (Cert.PrenormSRefIdeal.RefTerm.ref_at _ _ _ _ _).symm)
  have e0 := funext fun k => blk0 m c t r k
  have e1 := funext fun k => blk1 m c t k
  have e2 := funext fun k => blk2 m c t r k
  have e3 := funext fun k => blk3 m c t r k
  exact congrFun (congr (congr (congr (congrArg hid e0) e1) e2) e3) l

/-- The result array after the run is the reference's result of the argument arrays. -/
theorem final (c : Dev nD) : (dats m 0 c).arrAt 4 (cfgs 0).N = REFM m c := by
  refine (dats m 0 c).arrAt_eq_of_covers 4 _ (by decide +kernel) fun t _ y => ?_
  blk_simp
  rw [after0_4]; frame_out
  exact point m c t y

end Cert.PrenormSIdeal.RefValue

namespace Cert.Proof.PrenormS

/-- The sample batch's first normalisation equals the reference's on the same arguments. -/
theorem algebraic : Cert.algebraic_PrenormSIdeal_PrenormSRefIdeal := by
  intro m g m' g' _ hagree
  refine ⟨fun c => Cert.PrenormSIdeal.RefValue.REFM m c, ?_, ?_⟩
  · exact (θ_run Cert.PrenormSIdeal.defs _ _).mono (fun r h c => ⟨(h c).1.trans (Cert.PrenormSIdeal.RefValue.final m c), (h c).2⟩)
      (Cert.PrenormSIdeal.Value.run_blocks m g)
  · refine (θ_run Cert.PrenormSRefIdeal.defs _ _).mono (fun r h c => ⟨(h c).1.trans ((Cert.PrenormSRefIdeal.Read.val_main_v34_eq _ _ _ ).trans ?_), (h c).2⟩)
      (Cert.PrenormSRefIdeal.Value.run m' g')
    obtain ⟨a0, a1, a2⟩ := hagree c
    rw [a0, a1, a2]

end Cert.Proof.PrenormS
-- ==== Proof.ValFfnN.lean ====
module

public import proofs.«01_k».proof.Defs
public import proofs.«01_k».proof.Proof.Row
public import proofs.«01_k».proof.Proof.Gen.FfnNIdeal.Value
public import proofs.«01_k».proof.Proof.Gen.FfnNRefIdeal.Read
public import Idealize.ShloMosaic.Lib.Pointwise
public import Idealize.ShloMosaic.Lib.Pipeline.ValueKit
public import Idealize.ShloMosaic.Lib.Claim

@[expose] public section
set_option maxRecDepth 16384

noncomputable section

open Idealize.ShloMosaic Idealize.ShloMosaic.TcCoe Idealize.SL.Sem
open Idealize.ShloMosaic.Pipeline (Dat)
open Cert.Proof.Row

namespace Cert.FfnNRefIdeal.RefTerm
open Cert.FfnNRefIdeal Cert.FfnNRefIdeal.Gen Cert.FfnNRefIdeal.Read

/-- The reference's hidden activation, read at an index. -/
theorem hid_at (X : FVec Ideal S32x2048x1024 .f32) (M : FVec Ideal S32x6144 .f32) (G : FVec Ideal S2x1024 .f32) (b : Fin 32) (r : Fin 2048) (l : Fin 1024) :
    val_main_v32 (F := Ideal) X M G (ix3 b r l)
      = hid (fun k => X (ix3 b r k)) (fun k => G (ix2 1 k)) (fun k => M (ix2 b ⟨4096 + k.val, by omega⟩)) (fun k => M (ix2 b ⟨3072 + k.val, by omega⟩)) l := by
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_cst_2, val_main_cst_1, val_main_cst_0, val_main_cst, val_main_v10, val_main_v9, val_main_v4, val_main_v3, hid, rms, rs]

/-- The reference's feed-forward product, read at an index. -/
theorem ffn_at (X : FVec Ideal S32x2048x1024 .f32) (M : FVec Ideal S32x6144 .f32) (G : FVec Ideal S2x1024 .f32) (U : FVec Ideal S1024x4096 .f32) (D : FVec Ideal S4096x1024 .f32) (b : Fin 32) (r : Fin 2048) (l : Fin 1024) :
    val_main_v37 (F := Ideal) X M G U D (ix3 b r l)
      = ffn (hid (fun k => X (ix3 b r k)) (fun k => G (ix2 1 k)) (fun k => M (ix2 b ⟨4096 + k.val, by omega⟩)) (fun k => M (ix2 b ⟨3072 + k.val, by omega⟩)))
          (fun k u => U (ix2 k u)) (fun u l => D (ix2 u l)) l := by
  pointwise [val_main_v37, val_main_v36, val_main_v35, val_main_v34, val_main_v33, val_main_cst_3, hid_at, ffn, act]

/-- The reference's updated row, read at an index. -/
theorem upd_at (X : FVec Ideal S32x2048x1024 .f32) (M : FVec Ideal S32x6144 .f32) (G P : FVec Ideal S2x1024 .f32) (U : FVec Ideal S1024x4096 .f32) (D : FVec Ideal S4096x1024 .f32) (b : Fin 32) (r : Fin 2048) (l : Fin 1024) :
    val_main_v55 (F := Ideal) X M G P U D (ix3 b r l)
      = upd (fun k => X (ix3 b r k))
          (ffn (hid (fun k => X (ix3 b r k)) (fun k => G (ix2 1 k)) (fun k => M (ix2 b ⟨4096 + k.val, by omega⟩)) (fun k => M (ix2 b ⟨3072 + k.val, by omega⟩)))
            (fun k u => U (ix2 k u)) (fun u l => D (ix2 u l)))
          (fun k => M (ix2 b ⟨5120 + k.val, by omega⟩)) (fun k => P (ix2 1 k)) l := by
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_cst_6, val_main_cst_5, val_main_cst_4, ffn_at, val_main_v11, val_main_v5, upd, rms, rs]

/-- The reference's first result, read at an index: the updated row. -/
theorem ref_at (X : FVec Ideal S32x2048x1024 .f32) (M : FVec Ideal S32x6144 .f32) (G P : FVec Ideal S2x1024 .f32) (U : FVec Ideal S1024x4096 .f32) (D : FVec Ideal S4096x1024 .f32) (r : Fin 65536) (l : Fin 1024) :
    val_main_v89 (F := Ideal) X M G P U D (ix2 r l)
      = upd (fun k => X (ix3 ⟨r.val / 2048, by omega⟩ ⟨r.val % 2048, by omega⟩ k))
          (ffn (hid (fun k => X (ix3 ⟨r.val / 2048, by omega⟩ ⟨r.val % 2048, by omega⟩ k)) (fun k => G (ix2 1 k)) (fun k => M (ix2 ⟨r.val / 2048, by omega⟩ ⟨4096 + k.val, by omega⟩)) (fun k => M (ix2 ⟨r.val / 2048, by omega⟩ ⟨3072 + k.val, by omega⟩)))
            (fun k u => U (ix2 k u)) (fun u l => D (ix2 u l)))
          (fun k => M (ix2 ⟨r.val / 2048, by omega⟩ ⟨5120 + k.val, by omega⟩)) (fun k => P (ix2 1 k)) l := by
  pointwise [val_main_v89, upd_at]

/-- The reference's second result, read at an index: the updated row under the next layer's first norm, scaled and shifted. -/
theorem next_at (X : FVec Ideal S32x2048x1024 .f32) (M : FVec Ideal S32x6144 .f32) (G P : FVec Ideal S2x1024 .f32) (U : FVec Ideal S1024x4096 .f32) (D : FVec Ideal S4096x1024 .f32) (MN : FVec Ideal S32x6144 .f32) (GN : FVec Ideal S2x1024 .f32) (r : Fin 65536) (l : Fin 1024) :
    val_main_v91 (F := Ideal) X M G P U D MN GN (ix2 r l)
      = hid (upd (fun k => X (ix3 ⟨r.val / 2048, by omega⟩ ⟨r.val % 2048, by omega⟩ k))
          (ffn (hid (fun k => X (ix3 ⟨r.val / 2048, by omega⟩ ⟨r.val % 2048, by omega⟩ k)) (fun k => G (ix2 1 k)) (fun k => M (ix2 ⟨r.val / 2048, by omega⟩ ⟨4096 + k.val, by omega⟩)) (fun k => M (ix2 ⟨r.val / 2048, by omega⟩ ⟨3072 + k.val, by omega⟩)))
            (fun k u => U (ix2 k u)) (fun u l => D (ix2 u l)))
          (fun k => M (ix2 ⟨r.val / 2048, by omega⟩ ⟨5120 + k.val, by omega⟩)) (fun k => P (ix2 1 k)))
          (fun k => GN (ix2 0 k)) (fun k => MN (ix2 ⟨r.val / 2048, by omega⟩ ⟨1024 + k.val, by omega⟩)) (fun k => MN (ix2 ⟨r.val / 2048, by omega⟩ ⟨k.val, by omega⟩)) l := by
  pointwise [val_main_v91, val_main_v90, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_cst_10, val_main_cst_9, val_main_cst_8, val_main_cst_7, val_main_v63, val_main_v62, val_main_v57, val_main_v56, upd_at, hid, rms, rs]

end Cert.FfnNRefIdeal.RefTerm

namespace Cert.FfnNIdeal.RefValue
open Cert.FfnNIdeal Cert.FfnNIdeal.Gen

/-- The hidden activation of the first half of a block, read at an index. -/
theorem pay4_at (X : FVec Ideal S256x1024 .f32) (G : FVec Ideal S1x1024 .f32) (SC SH : FVec Ideal S1x1x1024 .f32) (r : Fin 256) (l : Fin 1024) :
    k0_pay4 (F := Ideal) X G SC SH (ix2 r l)
      = hid (fun k => X (ix2 r k)) (fun k => G (ix2 0 k)) (fun k => SC (ix3 0 0 k)) (fun k => SH (ix3 0 0 k)) l := by
  pointwise [k0_pay4, k0_pay2, hid, rms, rs]

/-- The hidden activation of the second half of a block, read at an index. -/
theorem pay7_at (X : FVec Ideal S256x1024 .f32) (G : FVec Ideal S1x1024 .f32) (SC SH : FVec Ideal S1x1x1024 .f32) (r : Fin 256) (l : Fin 1024) :
    k0_pay7 (F := Ideal) (k0_pay3 X) (k0_pay5 G) (k0_pay6 X) SC SH (ix2 r l)
      = hid (fun k => X (ix2 r k)) (fun k => G (ix2 0 k)) (fun k => SC (ix3 0 0 k)) (fun k => SH (ix3 0 0 k)) l := by
  pointwise [k0_pay7, k0_pay3, k0_pay5, k0_pay6, hid, rms, rs]

/-- The feed-forward product of the first half of a block: four slabs. -/
theorem top_at (H : FVec Ideal S256x1024 .bf16) (U0 D0 U1 D1 U2 D2 U3 D3 : FVec Ideal S1024x1024 .bf16) (r : Fin 256) (l : Fin 1024) :
    k0_pay16 (F := Ideal) H (k0_pay12 H (k0_pay9 H U0 D0) U1 D1) (k0_pay15 H U2) D2 U3 D3 (ix2 r l)
      = slab (fun k => H (ix2 r k)) (fun k u => U0 (ix2 k u)) (fun u l => D0 (ix2 u l)) l
        + slab (fun k => H (ix2 r k)) (fun k u => U1 (ix2 k u)) (fun u l => D1 (ix2 u l)) l
        + slab (fun k => H (ix2 r k)) (fun k u => U2 (ix2 k u)) (fun u l => D2 (ix2 u l)) l
        + slab (fun k => H (ix2 r k)) (fun k u => U3 (ix2 k u)) (fun u l => D3 (ix2 u l)) l := by
  pointwise [k0_pay16, k0_pay12, k0_pay9, k0_pay15, slab, act]

/-- The feed-forward product of the second half of a block: four slabs. -/
theorem bot_at (X : FVec Ideal S256x1024 .f32) (G : FVec Ideal S1x1024 .f32) (SC SH : FVec Ideal S1x1x1024 .f32)
    (U0 D0 U1 D1 U2 D2 U3 D3 : FVec Ideal S1024x1024 .bf16) (r : Fin 256) (l : Fin 1024) :
    k0_pay17 (F := Ideal) (k0_pay7 (k0_pay3 X) (k0_pay5 G) (k0_pay6 X) SC SH) (k0_pay13 (k0_pay7 (k0_pay3 X) (k0_pay5 G) (k0_pay6 X) SC SH) (k0_pay8 (F := Ideal)) (k0_pay10 D0) (k0_pay11 (k0_pay3 X) (k0_pay5 G) (k0_pay6 X) SC SH U0) U1 D1) (k0_pay14 (k0_pay7 (k0_pay3 X) (k0_pay5 G) (k0_pay6 X) SC SH) U2) D2 U3 D3 (ix2 r l)
      = slab (hid (fun k => X (ix2 r k)) (fun k => G (ix2 0 k)) (fun k => SC (ix3 0 0 k)) (fun k => SH (ix3 0 0 k))) (fun k u => U0 (ix2 k u)) (fun u l => D0 (ix2 u l)) l
        + slab (hid (fun k => X (ix2 r k)) (fun k => G (ix2 0 k)) (fun k => SC (ix3 0 0 k)) (fun k => SH (ix3 0 0 k))) (fun k u => U1 (ix2 k u)) (fun u l => D1 (ix2 u l)) l
        + slab (hid (fun k => X (ix2 r k)) (fun k => G (ix2 0 k)) (fun k => SC (ix3 0 0 k)) (fun k => SH (ix3 0 0 k))) (fun k u => U2 (ix2 k u)) (fun u l => D2 (ix2 u l)) l
        + slab (hid (fun k => X (ix2 r k)) (fun k => G (ix2 0 k)) (fun k => SC (ix3 0 0 k)) (fun k => SH (ix3 0 0 k))) (fun k u => U3 (ix2 k u)) (fun u l => D3 (ix2 u l)) l := by
  pointwise [k0_pay17, k0_pay13, k0_pay14, k0_pay8, k0_pay10, k0_pay11, pay7_at, slab, act]

/-- The stored first half of the updated rows, read at an index. -/
theorem fst_at (X F : FVec Ideal S256x1024 .f32) (GT : FVec Ideal S1x1x1024 .f32) (P : FVec Ideal S1x1024 .f32) (r : Fin 256) (l : Fin 1024) :
    k0_pay20 (F := Ideal) (k0_pay2 X) F (k0_pay18 GT) (k0_pay19 P) (ix2 r l)
      = upd (fun k => X (ix2 r k)) (fun k => F (ix2 r k)) (fun k => GT (ix3 0 0 k)) (fun k => P (ix2 0 k)) l := by
  pointwise [k0_pay20, k0_pay2, k0_pay18, k0_pay19, upd, rms, rs]

/-- The stored second half of the updated rows, read at an index. -/
theorem snd_at (X F : FVec Ideal S256x1024 .f32) (GT : FVec Ideal S1x1x1024 .f32) (P : FVec Ideal S1x1024 .f32) (r : Fin 256) (l : Fin 1024) :
    k0_pay22 (F := Ideal) (k0_pay3 X) F GT P (ix2 r l)
      = upd (fun k => X (ix2 r k)) (fun k => F (ix2 r k)) (fun k => GT (ix3 0 0 k)) (fun k => P (ix2 0 k)) l := by
  pointwise [k0_pay22, k0_pay3, upd, rms, rs]

/-- The stored first half of the rows under the next norm, read at an index. -/
theorem fst_next_at (X F : FVec Ideal S256x1024 .f32) (GT : FVec Ideal S1x1x1024 .f32) (P : FVec Ideal S1x1024 .f32) (GN : FVec Ideal S1x1024 .f32) (SCN SHN : FVec Ideal S1x1x1024 .f32) (r : Fin 256) (l : Fin 1024) :
    k0_pay21 (F := Ideal) (k0_pay2 X) F (k0_pay18 GT) (k0_pay19 P) GN SCN SHN (ix2 r l)
      = hid (upd (fun k => X (ix2 r k)) (fun k => F (ix2 r k)) (fun k => GT (ix3 0 0 k)) (fun k => P (ix2 0 k))) (fun k => GN (ix2 0 k)) (fun k => SCN (ix3 0 0 k)) (fun k => SHN (ix3 0 0 k)) l := by
  pointwise [k0_pay21, fst_at, hid, rms, rs]

/-- The stored second half of the rows under the next norm, read at an index. -/
theorem snd_next_at (X F : FVec Ideal S256x1024 .f32) (GT : FVec Ideal S1x1x1024 .f32) (P : FVec Ideal S1x1024 .f32) (GN : FVec Ideal S1x1024 .f32) (SCN SHN : FVec Ideal S1x1x1024 .f32) (r : Fin 256) (l : Fin 1024) :
    k0_pay1 (F := Ideal) (k0_pay23 (k0_pay3 X) F GT P GN SCN) SHN (ix2 r l)
      = hid (upd (fun k => X (ix2 r k)) (fun k => F (ix2 r k)) (fun k => GT (ix3 0 0 k)) (fun k => P (ix2 0 k))) (fun k => GN (ix2 0 k)) (fun k => SCN (ix3 0 0 k)) (fun k => SHN (ix3 0 0 k)) l := by
  pointwise [k0_pay1, k0_pay23, snd_at, hid, rms, rs]

/-- The stored block of the updated rows, read at an index. -/
theorem out11_at (x0 : Vec Ideal S512x1024 .f32) (x1 x2 x3 : Vec Ideal S1x1x1024 .f32) (x4 x5 : Vec Ideal S1x1024 .f32) (x6 : Vec Ideal S1024x4096 .bf16) (x7 : Vec Ideal S4096x1024 .bf16) (x8 : Vec Ideal S1x1024 .f32) (x9 x10 : Vec Ideal S1x1x1024 .f32) (R : Fin 512) (l : Fin 1024) :
    out0_11 (F := Ideal) x0 x1 x2 x3 x4 x5 x6 x7 x8 x9 x10 (ix2 R l)
      = upd (fun k => x0 (ix2 R k))
          (ffn (hid (fun k => x0 (ix2 R k)) (fun k => x4 (ix2 0 k)) (fun k => x1 (ix3 0 0 k)) (fun k => x2 (ix3 0 0 k)))
            (fun k u => x6 (ix2 k u)) (fun u l => x7 (ix2 u l)))
          (fun k => x3 (ix3 0 0 k)) (fun k => x5 (ix2 0 k)) l := by
  rw [show ffn (hid (fun k => x0 (ix2 R k)) (fun k => x4 (ix2 0 k)) (fun k => x1 (ix3 0 0 k)) (fun k => x2 (ix3 0 0 k)))
            (fun k u => x6 (ix2 k u)) (fun u l => x7 (ix2 u l)) = _ from funext fun l => ffn_slabs _ _ _ l]
  have b0 : ∀ r : Fin 256, r.val < 512 := fun r => by omega
  have b1 : ∀ r : Fin 256, 256 + r.val < 512 := fun r => by omega
  unfold_out out0_11
  canon_tiles x h
  · obtain ⟨r, k, rfl⟩ : ∃ (r : Fin 256) (k : Fin 1024), x = ix2 r k := ⟨x 0, x 1, eq_ix2 x⟩
    obtain rfl : l = k := Fin.ext h1
    obtain rfl : R = ⟨256 + r.val, b1 r⟩ := Fin.ext h0
    pointwise [snd_at, bot_at]
  · obtain ⟨r, k, rfl⟩ : ∃ (r : Fin 256) (k : Fin 1024), x = ix2 r k := ⟨x 0, x 1, eq_ix2 x⟩
    obtain rfl : l = k := Fin.ext h1
    obtain rfl : R = ⟨r.val, b0 r⟩ := Fin.ext h0
    pointwise [fst_at, top_at, pay4_at]

/-- The stored block of the rows under the next norm, read at an index. -/
theorem out12_at (x0 : Vec Ideal S512x1024 .f32) (x1 x2 x3 : Vec Ideal S1x1x1024 .f32) (x4 x5 : Vec Ideal S1x1024 .f32) (x6 : Vec Ideal S1024x4096 .bf16) (x7 : Vec Ideal S4096x1024 .bf16) (x8 : Vec Ideal S1x1024 .f32) (x9 x10 : Vec Ideal S1x1x1024 .f32) (R : Fin 512) (l : Fin 1024) :
    out0_12 (F := Ideal) x0 x1 x2 x3 x4 x5 x6 x7 x8 x9 x10 (ix2 R l)
      = hid (upd (fun k => x0 (ix2 R k))
          (ffn (hid (fun k => x0 (ix2 R k)) (fun k => x4 (ix2 0 k)) (fun k => x1 (ix3 0 0 k)) (fun k => x2 (ix3 0 0 k)))
            (fun k u => x6 (ix2 k u)) (fun u l => x7 (ix2 u l)))
          (fun k => x3 (ix3 0 0 k)) (fun k => x5 (ix2 0 k)))
          (fun k => x8 (ix2 0 k)) (fun k => x9 (ix3 0 0 k)) (fun k => x10 (ix3 0 0 k)) l := by
  rw [show ffn (hid (fun k => x0 (ix2 R k)) (fun k => x4 (ix2 0 k)) (fun k => x1 (ix3 0 0 k)) (fun k => x2 (ix3 0 0 k)))
            (fun k u => x6 (ix2 k u)) (fun u l => x7 (ix2 u l)) = _ from funext fun l => ffn_slabs _ _ _ l]
  have b0 : ∀ r : Fin 256, r.val < 512 := fun r => by omega
  have b1 : ∀ r : Fin 256, 256 + r.val < 512 := fun r => by omega
  unfold_out out0_12
  canon_tiles x h
  · obtain ⟨r, k, rfl⟩ : ∃ (r : Fin 256) (k : Fin 1024), x = ix2 r k := ⟨x 0, x 1, eq_ix2 x⟩
    obtain rfl : l = k := Fin.ext h1
    obtain rfl : R = ⟨256 + r.val, b1 r⟩ := Fin.ext h0
    pointwise [snd_next_at, bot_at]
  · obtain ⟨r, k, rfl⟩ : ∃ (r : Fin 256) (k : Fin 1024), x = ix2 r k := ⟨x 0, x 1, eq_ix2 x⟩
    obtain rfl : l = k := Fin.ext h1
    obtain rfl : R = ⟨r.val, b0 r⟩ := Fin.ext h0
    pointwise [fst_next_at, top_at, pay4_at]

variable (m : (ℓ : Loc nD τ sig) → Buf (Elt Ideal) ℓ)

/-- Where each grid point's blocks sit. -/
theorem idx : ∀ t : Fin cfg0.N, win0_0.index t = ![t.val, 0] ∧ win0_1.index t = ![t.val / 4, 0, 0] ∧ win0_2.index t = ![t.val / 4, 0, 0] ∧ win0_3.index t = ![t.val / 4, 0, 0] ∧ win0_4.index t = ![0, 0] ∧ win0_5.index t = ![0, 0] ∧ win0_6.index t = ![0, 0] ∧ win0_7.index t = ![0, 0] ∧ win0_8.index t = ![0, 0] ∧ win0_9.index t = ![t.val / 4, 0, 0] ∧ win0_10.index t = ![t.val / 4, 0, 0] ∧ win0_11.index t = ![t.val, 0] ∧ win0_12.index t = ![t.val, 0] ∧ t.val < 128 :=
  (by decide +kernel : ∀ t : Fin grid0.N, _)

/-- The rows of a grid point's tile. -/
theorem blk0 (c : Dev nD) (t : Fin cfg0.N) (r : Fin 512) (k : Fin 1024) (R : Fin 65536) (hR : R.val = t.val * 512 + r.val) :
    (show FVec Ideal S512x1024 .f32 from iblk m c 0 t) (ix2 r k)
      = (show FVec Ideal S32x2048x1024 .f32 from m ((c : Thread nD τ).loc main_arg0)) (ix3 ⟨R.val / 2048, by omega⟩ ⟨R.val % 2048, by omega⟩ k) := by
  have h : (show FVec Ideal S512x1024 .f32 from iblk m c 0 t) (ix2 r k) = (show FVec Ideal S65536x1024 .f32 from V m c main_v24) (ix2 R k) := by
    blk_ext [iblk, idx t]
  rw [h]
  entry_read
  pointwise

/-- The scale before the block. -/
theorem blk1 (c : Dev nD) (t : Fin cfg0.N) (k : Fin 1024) (b : Fin 32) (hb : b.val = t.val / 4) :
    (show FVec Ideal S1x1x1024 .f32 from iblk m c 1 t) (ix3 0 0 k)
      = (show FVec Ideal S32x6144 .f32 from m ((c : Thread nD τ).loc main_arg1)) (ix2 b ⟨4096 + k.val, by omega⟩) := by
  have h : (show FVec Ideal S1x1x1024 .f32 from iblk m c 1 t) (ix3 0 0 k) = (show FVec Ideal S32x1x1024 .f32 from V m c main_v10) (ix3 b 0 k) := by
    blk_ext [iblk, idx t]
  rw [h]
  entry_read
  pointwise

/-- The shift before the block. -/
theorem blk2 (c : Dev nD) (t : Fin cfg0.N) (k : Fin 1024) (b : Fin 32) (hb : b.val = t.val / 4) :
    (show FVec Ideal S1x1x1024 .f32 from iblk m c 2 t) (ix3 0 0 k)
      = (show FVec Ideal S32x6144 .f32 from m ((c : Thread nD τ).loc main_arg1)) (ix2 b ⟨3072 + k.val, by omega⟩) := by
  have h : (show FVec Ideal S1x1x1024 .f32 from iblk m c 2 t) (ix3 0 0 k) = (show FVec Ideal S32x1x1024 .f32 from V m c main_v9) (ix3 b 0 k) := by
    blk_ext [iblk, idx t]
  rw [h]
  entry_read
  pointwise

/-- The gate of the update. -/
theorem blk3 (c : Dev nD) (t : Fin cfg0.N) (k : Fin 1024) (b : Fin 32) (hb : b.val = t.val / 4) :
    (show FVec Ideal S1x1x1024 .f32 from iblk m c 3 t) (ix3 0 0 k)
      = (show FVec Ideal S32x6144 .f32 from m ((c : Thread nD τ).loc main_arg1)) (ix2 b ⟨5120 + k.val, by omega⟩) := by
  have h : (show FVec Ideal S1x1x1024 .f32 from iblk m c 3 t) (ix3 0 0 k) = (show FVec Ideal S32x1x1024 .f32 from V m c main_v11) (ix3 b 0 k) := by
    blk_ext [iblk, idx t]
  rw [h]
  entry_read
  pointwise

/-- The gain before the block. -/
theorem blk4 (c : Dev nD) (t : Fin cfg0.N) (k : Fin 1024) :
    (show FVec Ideal S1x1024 .f32 from iblk m c 4 t) (ix2 0 k)
      = (show FVec Ideal S2x1024 .f32 from m ((c : Thread nD τ).loc main_arg2)) (ix2 1 k) := by
  have h : (show FVec Ideal S1x1024 .f32 from iblk m c 4 t) (ix2 0 k) = (show FVec Ideal S1x1024 .f32 from V m c main_v27) (ix2 0 k) := by
    blk_ext [iblk, idx t]
  rw [h]
  entry_read
  pointwise

/-- The gain after the block. -/
theorem blk5 (c : Dev nD) (t : Fin cfg0.N) (k : Fin 1024) :
    (show FVec Ideal S1x1024 .f32 from iblk m c 5 t) (ix2 0 k)
      = (show FVec Ideal S2x1024 .f32 from m ((c : Thread nD τ).loc main_arg3)) (ix2 1 k) := by
  have h : (show FVec Ideal S1x1024 .f32 from iblk m c 5 t) (ix2 0 k) = (show FVec Ideal S1x1024 .f32 from V m c main_v30) (ix2 0 k) := by
    blk_ext [iblk, idx t]
  rw [h]
  entry_read
  pointwise

/-- The first weight. -/
theorem blk6 (c : Dev nD) (t : Fin cfg0.N) (k : Fin 1024) (u : Fin 4096) :
    (show FVec Ideal S1024x4096 .bf16 from iblk m c 6 t) (ix2 k u)
      = (show FVec Ideal S1024x4096 .f32 from m ((c : Thread nD τ).loc main_arg4)) (ix2 k u) := by
  have h : (show FVec Ideal S1024x4096 .bf16 from iblk m c 6 t) (ix2 k u) = (show FVec Ideal S1024x4096 .bf16 from V m c main_v31) (ix2 k u) := by
    blk_ext [iblk, idx t]
  rw [h]
  entry_read
  pointwise

/-- The second weight. -/
theorem blk7 (c : Dev nD) (t : Fin cfg0.N) (u : Fin 4096) (l : Fin 1024) :
    (show FVec Ideal S4096x1024 .bf16 from iblk m c 7 t) (ix2 u l)
      = (show FVec Ideal S4096x1024 .f32 from m ((c : Thread nD τ).loc main_arg5)) (ix2 u l) := by
  have h : (show FVec Ideal S4096x1024 .bf16 from iblk m c 7 t) (ix2 u l) = (show FVec Ideal S4096x1024 .bf16 from V m c main_v32) (ix2 u l) := by
    blk_ext [iblk, idx t]
  rw [h]
  entry_read
  pointwise

/-- The next layer's gain. -/
theorem blk8 (c : Dev nD) (t : Fin cfg0.N) (k : Fin 1024) :
    (show FVec Ideal S1x1024 .f32 from iblk m c 8 t) (ix2 0 k)
      = (show FVec Ideal S2x1024 .f32 from m ((c : Thread nD τ).loc main_arg7)) (ix2 0 k) := by
  have h : (show FVec Ideal S1x1024 .f32 from iblk m c 8 t) (ix2 0 k) = (show FVec Ideal S1x1024 .f32 from V m c main_v35) (ix2 0 k) := by
    blk_ext [iblk, idx t]
  rw [h]
  entry_read
  pointwise

/-- The next layer's scale. -/
theorem blk9 (c : Dev nD) (t : Fin cfg0.N) (k : Fin 1024) (b : Fin 32) (hb : b.val = t.val / 4) :
    (show FVec Ideal S1x1x1024 .f32 from iblk m c 9 t) (ix3 0 0 k)
      = (show FVec Ideal S32x6144 .f32 from m ((c : Thread nD τ).loc main_arg6)) (ix2 b ⟨1024 + k.val, by omega⟩) := by
  have h : (show FVec Ideal S1x1x1024 .f32 from iblk m c 9 t) (ix3 0 0 k) = (show FVec Ideal S32x1x1024 .f32 from V m c main_v19) (ix3 b 0 k) := by
    blk_ext [iblk, idx t]
  rw [h]
  entry_read
  pointwise

/-- The next layer's shift. -/
theorem blk10 (c : Dev nD) (t : Fin cfg0.N) (k : Fin 1024) (b : Fin 32) (hb : b.val = t.val / 4) :
    (show FVec Ideal S1x1x1024 .f32 from iblk m c 10 t) (ix3 0 0 k)
      = (show FVec Ideal S32x6144 .f32 from m ((c : Thread nD τ).loc main_arg6)) (ix2 b ⟨k.val, by omega⟩) := by
  have h : (show FVec Ideal S1x1x1024 .f32 from iblk m c 10 t) (ix3 0 0 k) = (show FVec Ideal S32x1x1024 .f32 from V m c main_v18) (ix3 b 0 k) := by
    blk_ext [iblk, idx t]
  rw [h]
  entry_read
  pointwise

/-- The reference's updated rows at the launch's arguments. -/
abbrev REFM (c : Dev nD) : FVec Ideal S65536x1024 .f32 :=
  Cert.FfnNRefIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The reference's rows under the next norm at the launch's arguments. -/
abbrev REFN (c : Dev nD) : FVec Ideal S65536x1024 .bf16 :=
  Cert.FfnNRefIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- What a grid point stores at an index of its block is the reference's row at the array index it sits at. -/
theorem point (c : Dev nD) (t : Fin cfg0.N) (y) : out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = REFM m c (((cfg0.win 11).blk t).view.emb y) := by
  obtain ⟨r, l, rfl⟩ : ∃ (r : Fin 512) (l : Fin 1024), y = ix2 r l := ⟨y 0, y 1, eq_ix2 y⟩
  have ht := (idx t).2.2.2.2.2.2.2.2.2.2.2.2.2
  have hd : (t.val * 512 + r.val) / 2048 = t.val / 4 := by omega
  have he : ((cfg0.win 11).blk t).view.emb (ix2 r l) = ix2 ⟨t.val * 512 + r.val, by omega⟩ l := by
    blk_ext [idx t]
  rw [he]
  refine (out11_at _ _ _ _ _ _ _ _ _ _ _ r l).trans (Eq.trans ?_ (Cert.FfnNRefIdeal.RefTerm.ref_at _ _ _ _ _ _ _ _).symm)
  have e0 := funext fun k => blk0 m c t r k ⟨t.val * 512 + r.val, by omega⟩ rfl
  have e1 := funext fun k => blk1 m c t k ⟨(t.val * 512 + r.val) / 2048, by omega⟩ hd
  have e2 := funext fun k => blk2 m c t k ⟨(t.val * 512 + r.val) / 2048, by omega⟩ hd
  have e3 := funext fun k => blk3 m c t k ⟨(t.val * 512 + r.val) / 2048, by omega⟩ hd
  have e4 := funext fun k => blk4 m c t k
  have e5 := funext fun k => blk5 m c t k
  have e6 := funext fun k => funext fun u => blk6 m c t k u
  have e7 := funext fun u => funext fun l => blk7 m c t u l
  exact congrFun (congr (congr (congr (congrArg upd e0) (congr (congr (congrArg ffn (congr (congr (congr (congrArg hid e0) e4) e1) e2)) e6) e7)) e3) e5) l

/-- The result array after the run is the reference's result of the argument arrays. -/
theorem final (c : Dev nD) : (dats m 0 c).arrAt 11 (cfgs 0).N = REFM m c := by
  refine (dats m 0 c).arrAt_eq_of_covers 11 _ (by decide +kernel) fun t _ y => ?_
  blk_simp
  rw [after0_11]
  exact point m c t y

/-- What a grid point stores at an index of its block is the reference's row at the array index it sits at. -/
theorem point_next (c : Dev nD) (t : Fin cfg0.N) (y) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = REFN m c (((cfg0.win 12).blk t).view.emb y) := by
  obtain ⟨r, l, rfl⟩ : ∃ (r : Fin 512) (l : Fin 1024), y = ix2 r l := ⟨y 0, y 1, eq_ix2 y⟩
  have ht := (idx t).2.2.2.2.2.2.2.2.2.2.2.2.2
  have hd : (t.val * 512 + r.val) / 2048 = t.val / 4 := by omega
  have he : ((cfg0.win 12).blk t).view.emb (ix2 r l) = ix2 ⟨t.val * 512 + r.val, by omega⟩ l := by
    blk_ext [idx t]
  rw [he]
  refine (out12_at _ _ _ _ _ _ _ _ _ _ _ r l).trans (Eq.trans ?_ (Cert.FfnNRefIdeal.RefTerm.next_at _ _ _ _ _ _ _ _ _ _).symm)
  have e0 := funext fun k => blk0 m c t r k ⟨t.val * 512 + r.val, by omega⟩ rfl
  have e1 := funext fun k => blk1 m c t k ⟨(t.val * 512 + r.val) / 2048, by omega⟩ hd
  have e2 := funext fun k => blk2 m c t k ⟨(t.val * 512 + r.val) / 2048, by omega⟩ hd
  have e3 := funext fun k => blk3 m c t k ⟨(t.val * 512 + r.val) / 2048, by omega⟩ hd
  have e4 := funext fun k => blk4 m c t k
  have e5 := funext fun k => blk5 m c t k
  have e8 := funext fun k => blk8 m c t k
  have e9 := funext fun k => blk9 m c t k ⟨(t.val * 512 + r.val) / 2048, by omega⟩ hd
  have e10 := funext fun k => blk10 m c t k ⟨(t.val * 512 + r.val) / 2048, by omega⟩ hd
  have e6 := funext fun k => funext fun u => blk6 m c t k u
  have e7 := funext fun u => funext fun l => blk7 m c t u l
  exact congrFun (congr (congr (congr (congrArg hid (congr (congr (congr (congrArg upd e0) (congr (congr (congrArg ffn (congr (congr (congr (congrArg hid e0) e4) e1) e2)) e6) e7)) e3) e5)) e8) e9) e10) l

/-- The result array after the run is the reference's result of the argument arrays. -/
theorem final_next (c : Dev nD) : (dats m 0 c).arrAt 12 (cfgs 0).N = REFN m c := by
  refine (dats m 0 c).arrAt_eq_of_covers 12 _ (by decide +kernel) fun t _ y => ?_
  blk_simp
  rw [after0_12]
  exact point_next m c t y

end Cert.FfnNIdeal.RefValue

namespace Cert.Proof.FfnN

/-- The prompt batch's feed-forward block with the next layer's first norm equals the reference's on the same arguments. -/
theorem algebraic : Cert.algebraic_FfnNIdeal_FfnNRefIdeal := by
  intro m g m' g' _ hagree
  refine ⟨fun c => Cert.FfnNIdeal.RefValue.REFM m c, fun c => Cert.FfnNIdeal.RefValue.REFN m c, ?_, ?_⟩
  · exact (θ_run Cert.FfnNIdeal.defs _ _).mono (fun r h c => ⟨(h c).1.trans (Cert.FfnNIdeal.RefValue.final m c), (h c).2.1.trans (Cert.FfnNIdeal.RefValue.final_next m c), (h c).2.2⟩)
      (Cert.FfnNIdeal.Value.run_blocks m g)
  · refine (θ_run Cert.FfnNRefIdeal.defs _ _).mono (fun r h c => ⟨(h c).1.trans ((Cert.FfnNRefIdeal.Read.val_main_v89_eq m' c).trans ?_), (h c).2.1.trans ((Cert.FfnNRefIdeal.Read.val_main_v91_eq m' c).trans ?_), (h c).2.2⟩)
      (Cert.FfnNRefIdeal.Value.run m' g')
    · obtain ⟨a0, a1, a2, a3, a4, a5, a6, a7⟩ := hagree c
      rw [a0, a1, a2, a3, a4, a5]
    · obtain ⟨a0, a1, a2, a3, a4, a5, a6, a7⟩ := hagree c
      rw [a0, a1, a2, a3, a4, a5, a6, a7]

end Cert.Proof.FfnN
-- ==== Proof.ValFfnNS.lean ====
module

public import proofs.«01_k».proof.Defs
public import proofs.«01_k».proof.Proof.Row
public import proofs.«01_k».proof.Proof.Gen.FfnNSIdeal.Value
public import proofs.«01_k».proof.Proof.Gen.FfnNSRefIdeal.Read
public import Idealize.ShloMosaic.Lib.Pointwise
public import Idealize.ShloMosaic.Lib.Pipeline.ValueKit
public import Idealize.ShloMosaic.Lib.Claim

@[expose] public section
set_option maxRecDepth 16384

noncomputable section

open Idealize.ShloMosaic Idealize.ShloMosaic.TcCoe Idealize.SL.Sem
open Idealize.ShloMosaic.Pipeline (Dat)
open Cert.Proof.Row

namespace Cert.FfnNSRefIdeal.RefTerm
open Cert.FfnNSRefIdeal Cert.FfnNSRefIdeal.Gen Cert.FfnNSRefIdeal.Read

/-- The reference's hidden activation, read at an index. -/
theorem hid_at (X : FVec Ideal S32x16x1024 .f32) (M : FVec Ideal S32x6144 .f32) (G : FVec Ideal S2x1024 .f32) (b : Fin 32) (r : Fin 16) (l : Fin 1024) :
    val_main_v32 (F := Ideal) X M G (ix3 b r l)
      = hid (fun k => X (ix3 b r k)) (fun k => G (ix2 1 k)) (fun k => M (ix2 b ⟨4096 + k.val, by omega⟩)) (fun k => M (ix2 b ⟨3072 + k.val, by omega⟩)) l := by
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_cst_2, val_main_cst_1, val_main_cst_0, val_main_cst, val_main_v10, val_main_v9, val_main_v4, val_main_v3, hid, rms, rs]

/-- The reference's feed-forward product, read at an index. -/
theorem ffn_at (X : FVec Ideal S32x16x1024 .f32) (M : FVec Ideal S32x6144 .f32) (G : FVec Ideal S2x1024 .f32) (U : FVec Ideal S1024x4096 .f32) (D : FVec Ideal S4096x1024 .f32) (b : Fin 32) (r : Fin 16) (l : Fin 1024) :
    val_main_v37 (F := Ideal) X M G U D (ix3 b r l)
      = ffn (hid (fun k => X (ix3 b r k)) (fun k => G (ix2 1 k)) (fun k => M (ix2 b ⟨4096 + k.val, by omega⟩)) (fun k => M (ix2 b ⟨3072 + k.val, by omega⟩)))
          (fun k u => U (ix2 k u)) (fun u l => D (ix2 u l)) l := by
  pointwise [val_main_v37, val_main_v36, val_main_v35, val_main_v34, val_main_v33, val_main_cst_3, hid_at, ffn, act]

/-- The reference's updated row, read at an index. -/
theorem upd_at (X : FVec Ideal S32x16x1024 .f32) (M : FVec Ideal S32x6144 .f32) (G P : FVec Ideal S2x1024 .f32) (U : FVec Ideal S1024x4096 .f32) (D : FVec Ideal S4096x1024 .f32) (b : Fin 32) (r : Fin 16) (l : Fin 1024) :
    val_main_v55 (F := Ideal) X M G P U D (ix3 b r l)
      = upd (fun k => X (ix3 b r k))
          (ffn (hid (fun k => X (ix3 b r k)) (fun k => G (ix2 1 k)) (fun k => M (ix2 b ⟨4096 + k.val, by omega⟩)) (fun k => M (ix2 b ⟨3072 + k.val, by omega⟩)))
            (fun k u => U (ix2 k u)) (fun u l => D (ix2 u l)))
          (fun k => M (ix2 b ⟨5120 + k.val, by omega⟩)) (fun k => P (ix2 1 k)) l := by
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_cst_6, val_main_cst_5, val_main_cst_4, ffn_at, val_main_v11, val_main_v5, upd, rms, rs]

/-- The reference's first result, read at an index: the updated row. -/
theorem ref_at (X : FVec Ideal S32x16x1024 .f32) (M : FVec Ideal S32x6144 .f32) (G P : FVec Ideal S2x1024 .f32) (U : FVec Ideal S1024x4096 .f32) (D : FVec Ideal S4096x1024 .f32) (r : Fin 512) (l : Fin 1024) :
    val_main_v89 (F := Ideal) X M G P U D (ix2 r l)
      = upd (fun k => X (ix3 ⟨r.val / 16, by omega⟩ ⟨r.val % 16, by omega⟩ k))
          (ffn (hid (fun k => X (ix3 ⟨r.val / 16, by omega⟩ ⟨r.val % 16, by omega⟩ k)) (fun k => G (ix2 1 k)) (fun k => M (ix2 ⟨r.val / 16, by omega⟩ ⟨4096 + k.val, by omega⟩)) (fun k => M (ix2 ⟨r.val / 16, by omega⟩ ⟨3072 + k.val, by omega⟩)))
            (fun k u => U (ix2 k u)) (fun u l => D (ix2 u l)))
          (fun k => M (ix2 ⟨r.val / 16, by omega⟩ ⟨5120 + k.val, by omega⟩)) (fun k => P (ix2 1 k)) l := by
  pointwise [val_main_v89, upd_at]

/-- The reference's second result, read at an index: the updated row under the next layer's first norm, scaled and shifted. -/
theorem next_at (X : FVec Ideal S32x16x1024 .f32) (M : FVec Ideal S32x6144 .f32) (G P : FVec Ideal S2x1024 .f32) (U : FVec Ideal S1024x4096 .f32) (D : FVec Ideal S4096x1024 .f32) (MN : FVec Ideal S32x6144 .f32) (GN : FVec Ideal S2x1024 .f32) (r : Fin 512) (l : Fin 1024) :
    val_main_v91 (F := Ideal) X M G P U D MN GN (ix2 r l)
      = hid (upd (fun k => X (ix3 ⟨r.val / 16, by omega⟩ ⟨r.val % 16, by omega⟩ k))
          (ffn (hid (fun k => X (ix3 ⟨r.val / 16, by omega⟩ ⟨r.val % 16, by omega⟩ k)) (fun k => G (ix2 1 k)) (fun k => M (ix2 ⟨r.val / 16, by omega⟩ ⟨4096 + k.val, by omega⟩)) (fun k => M (ix2 ⟨r.val / 16, by omega⟩ ⟨3072 + k.val, by omega⟩)))
            (fun k u => U (ix2 k u)) (fun u l => D (ix2 u l)))
          (fun k => M (ix2 ⟨r.val / 16, by omega⟩ ⟨5120 + k.val, by omega⟩)) (fun k => P (ix2 1 k)))
          (fun k => GN (ix2 0 k)) (fun k => MN (ix2 ⟨r.val / 16, by omega⟩ ⟨1024 + k.val, by omega⟩)) (fun k => MN (ix2 ⟨r.val / 16, by omega⟩ ⟨k.val, by omega⟩)) l := by
  pointwise [val_main_v91, val_main_v90, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_cst_10, val_main_cst_9, val_main_cst_8, val_main_cst_7, val_main_v63, val_main_v62, val_main_v57, val_main_v56, upd_at, hid, rms, rs]

end Cert.FfnNSRefIdeal.RefTerm

namespace Cert.FfnNSIdeal.RefValue
open Cert.FfnNSIdeal Cert.FfnNSIdeal.Gen

/-- The hidden activation of the first half of a block, read at an index. -/
theorem pay3_at (X : FVec Ideal S256x1024 .f32) (G : FVec Ideal S1x1024 .f32) (SC SH : FVec Ideal S1x256x1024 .f32) (r : Fin 256) (l : Fin 1024) :
    k0_pay3 (F := Ideal) X G SC SH (ix2 r l)
      = hid (fun k => X (ix2 r k)) (fun k => G (ix2 0 k)) (fun k => SC (ix3 0 r k)) (fun k => SH (ix3 0 r k)) l := by
  pointwise [k0_pay3, k0_pay1, hid, rms, rs]

/-- The hidden activation of the second half of a block, read at an index. -/
theorem pay6_at (X : FVec Ideal S256x1024 .f32) (G : FVec Ideal S1x1024 .f32) (SC SH : FVec Ideal S1x256x1024 .f32) (r : Fin 256) (l : Fin 1024) :
    k0_pay6 (F := Ideal) (k0_pay2 X) (k0_pay4 G) (k0_pay5 X) SC SH (ix2 r l)
      = hid (fun k => X (ix2 r k)) (fun k => G (ix2 0 k)) (fun k => SC (ix3 0 r k)) (fun k => SH (ix3 0 r k)) l := by
  pointwise [k0_pay6, k0_pay2, k0_pay4, k0_pay5, hid, rms, rs]

/-- The feed-forward product of the first half of a block: four slabs. -/
theorem top_at (H : FVec Ideal S256x1024 .bf16) (U0 D0 U1 D1 U2 D2 U3 D3 : FVec Ideal S1024x1024 .bf16) (r : Fin 256) (l : Fin 1024) :
    k0_pay14 (F := Ideal) H (k0_pay9 H (k0_pay7 H U0 D0) U1 D1) (k0_pay12 D2) (k0_pay13 H U2) (constant S256x1024 .f32 0x00000000#32) U3 D3 (ix2 r l)
      = slab (fun k => H (ix2 r k)) (fun k u => U0 (ix2 k u)) (fun u l => D0 (ix2 u l)) l
        + slab (fun k => H (ix2 r k)) (fun k u => U1 (ix2 k u)) (fun u l => D1 (ix2 u l)) l
        + slab (fun k => H (ix2 r k)) (fun k u => U2 (ix2 k u)) (fun u l => D2 (ix2 u l)) l
        + slab (fun k => H (ix2 r k)) (fun k u => U3 (ix2 k u)) (fun u l => D3 (ix2 u l)) l := by
  pointwise [k0_pay14, k0_pay9, k0_pay7, k0_pay12, k0_pay13, slab, act]

/-- The feed-forward product of the second half of a block: four slabs. -/
theorem bot_at (X : FVec Ideal S256x1024 .f32) (G : FVec Ideal S1x1024 .f32) (SC SH : FVec Ideal S1x256x1024 .f32)
    (U0 D0 U1 D1 U2 D2 U3 D3 : FVec Ideal S1024x1024 .bf16) (r : Fin 256) (l : Fin 1024) :
    k0_pay15 (F := Ideal) (k0_pay6 (k0_pay2 X) (k0_pay4 G) (k0_pay5 X) SC SH) (k0_pay10 (k0_pay6 (k0_pay2 X) (k0_pay4 G) (k0_pay5 X) SC SH) (k0_pay8 (k0_pay2 X) (k0_pay4 G) (k0_pay5 X) SC SH U0 D0) U1 D1) (k0_pay11 (k0_pay6 (k0_pay2 X) (k0_pay4 G) (k0_pay5 X) SC SH) U2) D2 U3 D3 (ix2 r l)
      = slab (hid (fun k => X (ix2 r k)) (fun k => G (ix2 0 k)) (fun k => SC (ix3 0 r k)) (fun k => SH (ix3 0 r k))) (fun k u => U0 (ix2 k u)) (fun u l => D0 (ix2 u l)) l
        + slab (hid (fun k => X (ix2 r k)) (fun k => G (ix2 0 k)) (fun k => SC (ix3 0 r k)) (fun k => SH (ix3 0 r k))) (fun k u => U1 (ix2 k u)) (fun u l => D1 (ix2 u l)) l
        + slab (hid (fun k => X (ix2 r k)) (fun k => G (ix2 0 k)) (fun k => SC (ix3 0 r k)) (fun k => SH (ix3 0 r k))) (fun k u => U2 (ix2 k u)) (fun u l => D2 (ix2 u l)) l
        + slab (hid (fun k => X (ix2 r k)) (fun k => G (ix2 0 k)) (fun k => SC (ix3 0 r k)) (fun k => SH (ix3 0 r k))) (fun k u => U3 (ix2 k u)) (fun u l => D3 (ix2 u l)) l := by
  pointwise [k0_pay15, k0_pay10, k0_pay8, k0_pay11, pay6_at, slab, act]

/-- The stored first half of the updated rows, read at an index. -/
theorem fst_at (X : FVec Ideal S256x1024 .f32) (H : FVec Ideal S256x1024 .bf16) (A C : FVec Ideal S256x1024 .f32) (Q : FVec Ideal S256x1024 .bf16) (D2 U3 D3 : FVec Ideal S1024x1024 .bf16)
     (GT : FVec Ideal S1x256x1024 .f32) (P : FVec Ideal S1x1024 .f32) (r : Fin 256) (l : Fin 1024) :
    k0_pay19 (F := Ideal) (k0_pay1 X) (k0_pay14 H A D2 Q C U3 D3) (k0_pay16 GT) (k0_pay17 P) (k0_pay18 H A D2 Q C U3 D3) (ix2 r l)
      = upd (fun k => X (ix2 r k)) (fun k => k0_pay14 (F := Ideal) H A D2 Q C U3 D3 (ix2 r k)) (fun k => GT (ix3 0 r k)) (fun k => P (ix2 0 k)) l := by
  pointwise [k0_pay19, k0_pay1, k0_pay16, k0_pay17, k0_pay18, upd, rms, rs]

/-- The stored second half of the updated rows, read at an index. -/
theorem snd_at (X F : FVec Ideal S256x1024 .f32) (GT : FVec Ideal S1x256x1024 .f32) (P : FVec Ideal S1x1024 .f32) (r : Fin 256) (l : Fin 1024) :
    k0_pay21 (F := Ideal) (k0_pay2 X) F GT P (ix2 r l)
      = upd (fun k => X (ix2 r k)) (fun k => F (ix2 r k)) (fun k => GT (ix3 0 r k)) (fun k => P (ix2 0 k)) l := by
  pointwise [k0_pay21, k0_pay2, upd, rms, rs]

/-- The stored first half of the rows under the next norm, read at an index. -/
theorem fst_next_at (X : FVec Ideal S256x1024 .f32) (H : FVec Ideal S256x1024 .bf16) (A C : FVec Ideal S256x1024 .f32) (Q : FVec Ideal S256x1024 .bf16) (D2 U3 D3 : FVec Ideal S1024x1024 .bf16)
     (GT : FVec Ideal S1x256x1024 .f32) (P : FVec Ideal S1x1024 .f32) (GN : FVec Ideal S1x1024 .f32) (SCN SHN : FVec Ideal S1x256x1024 .f32) (r : Fin 256) (l : Fin 1024) :
    k0_pay20 (F := Ideal) (k0_pay1 X) (k0_pay14 H A D2 Q C U3 D3) (k0_pay16 GT) (k0_pay17 P) (k0_pay18 H A D2 Q C U3 D3) GN SCN SHN (ix2 r l)
      = hid (upd (fun k => X (ix2 r k)) (fun k => k0_pay14 (F := Ideal) H A D2 Q C U3 D3 (ix2 r k)) (fun k => GT (ix3 0 r k)) (fun k => P (ix2 0 k))) (fun k => GN (ix2 0 k)) (fun k => SCN (ix3 0 r k)) (fun k => SHN (ix3 0 r k)) l := by
  pointwise [k0_pay20, fst_at, hid, rms, rs]

/-- The stored second half of the rows under the next norm, read at an index. -/
theorem snd_next_at (X F : FVec Ideal S256x1024 .f32) (GT : FVec Ideal S1x256x1024 .f32) (P : FVec Ideal S1x1024 .f32) (GN : FVec Ideal S1x1024 .f32) (SCN SHN : FVec Ideal S1x256x1024 .f32) (r : Fin 256) (l : Fin 1024) :
    k0_pay22 (F := Ideal) (k0_pay2 X) F GT P GN SCN SHN (ix2 r l)
      = hid (upd (fun k => X (ix2 r k)) (fun k => F (ix2 r k)) (fun k => GT (ix3 0 r k)) (fun k => P (ix2 0 k))) (fun k => GN (ix2 0 k)) (fun k => SCN (ix3 0 r k)) (fun k => SHN (ix3 0 r k)) l := by
  pointwise [k0_pay22, snd_at, hid, rms, rs]

/-- The stored block of the updated rows, read at an index. -/
theorem out11_at (x0 : Vec Ideal S512x1024 .f32) (x1 x2 x3 : Vec Ideal S1x512x1024 .f32) (x4 x5 : Vec Ideal S1x1024 .f32) (x6 : Vec Ideal S1024x4096 .bf16) (x7 : Vec Ideal S4096x1024 .bf16) (x8 : Vec Ideal S1x1024 .f32) (x9 x10 : Vec Ideal S1x512x1024 .f32) (R : Fin 512) (l : Fin 1024) :
    out0_11 (F := Ideal) x0 x1 x2 x3 x4 x5 x6 x7 x8 x9 x10 (ix2 R l)
      = upd (fun k => x0 (ix2 R k))
          (ffn (hid (fun k => x0 (ix2 R k)) (fun k => x4 (ix2 0 k)) (fun k => x1 (ix3 0 R k)) (fun k => x2 (ix3 0 R k)))
            (fun k u => x6 (ix2 k u)) (fun u l => x7 (ix2 u l)))
          (fun k => x3 (ix3 0 R k)) (fun k => x5 (ix2 0 k)) l := by
  rw [show ffn (hid (fun k => x0 (ix2 R k)) (fun k => x4 (ix2 0 k)) (fun k => x1 (ix3 0 R k)) (fun k => x2 (ix3 0 R k)))
            (fun k u => x6 (ix2 k u)) (fun u l => x7 (ix2 u l)) = _ from funext fun l => ffn_slabs _ _ _ l]
  have b0 : ∀ r : Fin 256, r.val < 512 := fun r => by omega
  have b1 : ∀ r : Fin 256, 256 + r.val < 512 := fun r => by omega
  unfold_out out0_11
  canon_tiles x h
  · obtain ⟨r, k, rfl⟩ : ∃ (r : Fin 256) (k : Fin 1024), x = ix2 r k := ⟨x 0, x 1, eq_ix2 x⟩
    obtain rfl : l = k := Fin.ext h1
    obtain rfl : R = ⟨256 + r.val, b1 r⟩ := Fin.ext h0
    pointwise [snd_at, bot_at]
  · obtain ⟨r, k, rfl⟩ : ∃ (r : Fin 256) (k : Fin 1024), x = ix2 r k := ⟨x 0, x 1, eq_ix2 x⟩
    obtain rfl : l = k := Fin.ext h1
    obtain rfl : R = ⟨r.val, b0 r⟩ := Fin.ext h0
    pointwise [fst_at, top_at, pay3_at]

/-- The stored block of the rows under the next norm, read at an index. -/
theorem out12_at (x0 : Vec Ideal S512x1024 .f32) (x1 x2 x3 : Vec Ideal S1x512x1024 .f32) (x4 x5 : Vec Ideal S1x1024 .f32) (x6 : Vec Ideal S1024x4096 .bf16) (x7 : Vec Ideal S4096x1024 .bf16) (x8 : Vec Ideal S1x1024 .f32) (x9 x10 : Vec Ideal S1x512x1024 .f32) (R : Fin 512) (l : Fin 1024) :
    out0_12 (F := Ideal) x0 x1 x2 x3 x4 x5 x6 x7 x8 x9 x10 (ix2 R l)
      = hid (upd (fun k => x0 (ix2 R k))
          (ffn (hid (fun k => x0 (ix2 R k)) (fun k => x4 (ix2 0 k)) (fun k => x1 (ix3 0 R k)) (fun k => x2 (ix3 0 R k)))
            (fun k u => x6 (ix2 k u)) (fun u l => x7 (ix2 u l)))
          (fun k => x3 (ix3 0 R k)) (fun k => x5 (ix2 0 k)))
          (fun k => x8 (ix2 0 k)) (fun k => x9 (ix3 0 R k)) (fun k => x10 (ix3 0 R k)) l := by
  rw [show ffn (hid (fun k => x0 (ix2 R k)) (fun k => x4 (ix2 0 k)) (fun k => x1 (ix3 0 R k)) (fun k => x2 (ix3 0 R k)))
            (fun k u => x6 (ix2 k u)) (fun u l => x7 (ix2 u l)) = _ from funext fun l => ffn_slabs _ _ _ l]
  have b0 : ∀ r : Fin 256, r.val < 512 := fun r => by omega
  have b1 : ∀ r : Fin 256, 256 + r.val < 512 := fun r => by omega
  unfold_out out0_12
  canon_tiles x h
  · obtain ⟨r, k, rfl⟩ : ∃ (r : Fin 256) (k : Fin 1024), x = ix2 r k := ⟨x 0, x 1, eq_ix2 x⟩
    obtain rfl : l = k := Fin.ext h1
    obtain rfl : R = ⟨256 + r.val, b1 r⟩ := Fin.ext h0
    pointwise [snd_next_at, bot_at]
  · obtain ⟨r, k, rfl⟩ : ∃ (r : Fin 256) (k : Fin 1024), x = ix2 r k := ⟨x 0, x 1, eq_ix2 x⟩
    obtain rfl : l = k := Fin.ext h1
    obtain rfl : R = ⟨r.val, b0 r⟩ := Fin.ext h0
    pointwise [fst_next_at, top_at, pay3_at]

variable (m : (ℓ : Loc nD τ sig) → Buf (Elt Ideal) ℓ)

/-- Where each grid point's blocks sit. -/
theorem idx : ∀ t : Fin cfg0.N, win0_0.index t = ![0, 0] ∧ win0_1.index t = ![0, 0, 0] ∧ win0_2.index t = ![0, 0, 0] ∧ win0_3.index t = ![0, 0, 0] ∧ win0_4.index t = ![0, 0] ∧ win0_5.index t = ![0, 0] ∧ win0_6.index t = ![0, 0] ∧ win0_7.index t = ![0, 0] ∧ win0_8.index t = ![0, 0] ∧ win0_9.index t = ![0, 0, 0] ∧ win0_10.index t = ![0, 0, 0] ∧ win0_11.index t = ![0, 0] ∧ win0_12.index t = ![0, 0] ∧ t.val < 1 :=
  (by decide +kernel : ∀ t : Fin grid0.N, _)

/-- The rows of the batch. -/
theorem blk0 (c : Dev nD) (t : Fin cfg0.N) (r : Fin 512) (k : Fin 1024) :
    (show FVec Ideal S512x1024 .f32 from iblk m c 0 t) (ix2 r k)
      = (show FVec Ideal S32x16x1024 .f32 from m ((c : Thread nD τ).loc main_arg0)) (ix3 ⟨r.val / 16, by omega⟩ ⟨r.val % 16, by omega⟩ k) := by
  have h : (show FVec Ideal S512x1024 .f32 from iblk m c 0 t) (ix2 r k) = (show FVec Ideal S512x1024 .f32 from V m c main_v48) (ix2 r k) := by
    blk_ext [iblk, idx t]
  rw [h]
  entry_read
  pointwise

/-- The scale before the block. -/
theorem blk1 (c : Dev nD) (t : Fin cfg0.N) (r : Fin 512) (k : Fin 1024) :
    (show FVec Ideal S1x512x1024 .f32 from iblk m c 1 t) (ix3 0 r k)
      = (show FVec Ideal S32x6144 .f32 from m ((c : Thread nD τ).loc main_arg1)) (ix2 ⟨r.val / 16, by omega⟩ ⟨4096 + k.val, by omega⟩) := by
  have h : (show FVec Ideal S1x512x1024 .f32 from iblk m c 1 t) (ix3 0 r k) = (show FVec Ideal S1x512x1024 .f32 from V m c main_v20) (ix3 0 r k) := by
    blk_ext [iblk, idx t]
  rw [h]
  entry_read
  pointwise

/-- The shift before the block. -/
theorem blk2 (c : Dev nD) (t : Fin cfg0.N) (r : Fin 512) (k : Fin 1024) :
    (show FVec Ideal S1x512x1024 .f32 from iblk m c 2 t) (ix3 0 r k)
      = (show FVec Ideal S32x6144 .f32 from m ((c : Thread nD τ).loc main_arg1)) (ix2 ⟨r.val / 16, by omega⟩ ⟨3072 + k.val, by omega⟩) := by
  have h : (show FVec Ideal S1x512x1024 .f32 from iblk m c 2 t) (ix3 0 r k) = (show FVec Ideal S1x512x1024 .f32 from V m c main_v17) (ix3 0 r k) := by
    blk_ext [iblk, idx t]
  rw [h]
  entry_read
  pointwise

/-- The gate of the update. -/
theorem blk3 (c : Dev nD) (t : Fin cfg0.N) (r : Fin 512) (k : Fin 1024) :
    (show FVec Ideal S1x512x1024 .f32 from iblk m c 3 t) (ix3 0 r k)
      = (show FVec Ideal S32x6144 .f32 from m ((c : Thread nD τ).loc main_arg1)) (ix2 ⟨r.val / 16, by omega⟩ ⟨5120 + k.val, by omega⟩) := by
  have h : (show FVec Ideal S1x512x1024 .f32 from iblk m c 3 t) (ix3 0 r k) = (show FVec Ideal S1x512x1024 .f32 from V m c main_v23) (ix3 0 r k) := by
    blk_ext [iblk, idx t]
  rw [h]
  entry_read
  pointwise

/-- The gain before the block. -/
theorem blk4 (c : Dev nD) (t : Fin cfg0.N) (k : Fin 1024) :
    (show FVec Ideal S1x1024 .f32 from iblk m c 4 t) (ix2 0 k)
      = (show FVec Ideal S2x1024 .f32 from m ((c : Thread nD τ).loc main_arg2)) (ix2 1 k) := by
  have h : (show FVec Ideal S1x1024 .f32 from iblk m c 4 t) (ix2 0 k) = (show FVec Ideal S1x1024 .f32 from V m c main_v51) (ix2 0 k) := by
    blk_ext [iblk, idx t]
  rw [h]
  entry_read
  pointwise

/-- The gain after the block. -/
theorem blk5 (c : Dev nD) (t : Fin cfg0.N) (k : Fin 1024) :
    (show FVec Ideal S1x1024 .f32 from iblk m c 5 t) (ix2 0 k)
      = (show FVec Ideal S2x1024 .f32 from m ((c : Thread nD τ).loc main_arg3)) (ix2 1 k) := by
  have h : (show FVec Ideal S1x1024 .f32 from iblk m c 5 t) (ix2 0 k) = (show FVec Ideal S1x1024 .f32 from V m c main_v54) (ix2 0 k) := by
    blk_ext [iblk, idx t]
  rw [h]
  entry_read
  pointwise

/-- The first weight. -/
theorem blk6 (c : Dev nD) (t : Fin cfg0.N) (k : Fin 1024) (u : Fin 4096) :
    (show FVec Ideal S1024x4096 .bf16 from iblk m c 6 t) (ix2 k u)
      = (show FVec Ideal S1024x4096 .f32 from m ((c : Thread nD τ).loc main_arg4)) (ix2 k u) := by
  have h : (show FVec Ideal S1024x4096 .bf16 from iblk m c 6 t) (ix2 k u) = (show FVec Ideal S1024x4096 .bf16 from V m c main_v55) (ix2 k u) := by
    blk_ext [iblk, idx t]
  rw [h]
  entry_read
  pointwise

/-- The second weight. -/
theorem blk7 (c : Dev nD) (t : Fin cfg0.N) (u : Fin 4096) (l : Fin 1024) :
    (show FVec Ideal S4096x1024 .bf16 from iblk m c 7 t) (ix2 u l)
      = (show FVec Ideal S4096x1024 .f32 from m ((c : Thread nD τ).loc main_arg5)) (ix2 u l) := by
  have h : (show FVec Ideal S4096x1024 .bf16 from iblk m c 7 t) (ix2 u l) = (show FVec Ideal S4096x1024 .bf16 from V m c main_v56) (ix2 u l) := by
    blk_ext [iblk, idx t]
  rw [h]
  entry_read
  pointwise

/-- The next layer's gain. -/
theorem blk8 (c : Dev nD) (t : Fin cfg0.N) (k : Fin 1024) :
    (show FVec Ideal S1x1024 .f32 from iblk m c 8 t) (ix2 0 k)
      = (show FVec Ideal S2x1024 .f32 from m ((c : Thread nD τ).loc main_arg7)) (ix2 0 k) := by
  have h : (show FVec Ideal S1x1024 .f32 from iblk m c 8 t) (ix2 0 k) = (show FVec Ideal S1x1024 .f32 from V m c main_v59) (ix2 0 k) := by
    blk_ext [iblk, idx t]
  rw [h]
  entry_read
  pointwise

/-- The next layer's scale. -/
theorem blk9 (c : Dev nD) (t : Fin cfg0.N) (r : Fin 512) (k : Fin 1024) :
    (show FVec Ideal S1x512x1024 .f32 from iblk m c 9 t) (ix3 0 r k)
      = (show FVec Ideal S32x6144 .f32 from m ((c : Thread nD τ).loc main_arg6)) (ix2 ⟨r.val / 16, by omega⟩ ⟨1024 + k.val, by omega⟩) := by
  have h : (show FVec Ideal S1x512x1024 .f32 from iblk m c 9 t) (ix3 0 r k) = (show FVec Ideal S1x512x1024 .f32 from V m c main_v35) (ix3 0 r k) := by
    blk_ext [iblk, idx t]
  rw [h]
  entry_read
  pointwise

/-- The next layer's shift. -/
theorem blk10 (c : Dev nD) (t : Fin cfg0.N) (r : Fin 512) (k : Fin 1024) :
    (show FVec Ideal S1x512x1024 .f32 from iblk m c 10 t) (ix3 0 r k)
      = (show FVec Ideal S32x6144 .f32 from m ((c : Thread nD τ).loc main_arg6)) (ix2 ⟨r.val / 16, by omega⟩ ⟨k.val, by omega⟩) := by
  have h : (show FVec Ideal S1x512x1024 .f32 from iblk m c 10 t) (ix3 0 r k) = (show FVec Ideal S1x512x1024 .f32 from V m c main_v32) (ix3 0 r k) := by
    blk_ext [iblk, idx t]
  rw [h]
  entry_read
  pointwise

/-- The reference's updated rows at the launch's arguments. -/
abbrev REFM (c : Dev nD) : FVec Ideal S512x1024 .f32 :=
  Cert.FfnNSRefIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The reference's rows under the next norm at the launch's arguments. -/
abbrev REFN (c : Dev nD) : FVec Ideal S512x1024 .bf16 :=
  Cert.FfnNSRefIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- What a grid point stores at an index of its block is the reference's row at the array index it sits at. -/
theorem point (c : Dev nD) (t : Fin cfg0.N) (y) : out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = REFM m c (((cfg0.win 11).blk t).view.emb y) := by
  obtain ⟨r, l, rfl⟩ : ∃ (r : Fin 512) (l : Fin 1024), y = ix2 r l := ⟨y 0, y 1, eq_ix2 y⟩
  have he : ((cfg0.win 11).blk t).view.emb (ix2 r l) = ix2 r l := by
    blk_ext [idx t]
  rw [he]
  refine (out11_at _ _ _ _ _ _ _ _ _ _ _ r l).trans (Eq.trans ?_ (Cert.FfnNSRefIdeal.RefTerm.ref_at _ _ _ _ _ _ _ _).symm)
  have e0 := funext fun k => blk0 m c t r k
  have e1 := funext fun k => blk1 m c t r k
  have e2 := funext fun k => blk2 m c t r k
  have e3 := funext fun k => blk3 m c t r k
  have e4 := funext fun k => blk4 m c t k
  have e5 := funext fun k => blk5 m c t k
  have e6 := funext fun k => funext fun u => blk6 m c t k u
  have e7 := funext fun u => funext fun l => blk7 m c t u l
  exact congrFun (congr (congr (congr (congrArg upd e0) (congr (congr (congrArg ffn (congr (congr (congr (congrArg hid e0) e4) e1) e2)) e6) e7)) e3) e5) l

/-- The result array after the run is the reference's result of the argument arrays. -/
theorem final (c : Dev nD) : (dats m 0 c).arrAt 11 (cfgs 0).N = REFM m c := by
  refine (dats m 0 c).arrAt_eq_of_covers 11 _ (by decide +kernel) fun t _ y => ?_
  blk_simp
  rw [after0_11]
  exact point m c t y

/-- What a grid point stores at an index of its block is the reference's row at the array index it sits at. -/
theorem point_next (c : Dev nD) (t : Fin cfg0.N) (y) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = REFN m c (((cfg0.win 12).blk t).view.emb y) := by
  obtain ⟨r, l, rfl⟩ : ∃ (r : Fin 512) (l : Fin 1024), y = ix2 r l := ⟨y 0, y 1, eq_ix2 y⟩
  have he : ((cfg0.win 12).blk t).view.emb (ix2 r l) = ix2 r l := by
    blk_ext [idx t]
  rw [he]
  refine (out12_at _ _ _ _ _ _ _ _ _ _ _ r l).trans (Eq.trans ?_ (Cert.FfnNSRefIdeal.RefTerm.next_at _ _ _ _ _ _ _ _ _ _).symm)
  have e0 := funext fun k => blk0 m c t r k
  have e1 := funext fun k => blk1 m c t r k
  have e2 := funext fun k => blk2 m c t r k
  have e3 := funext fun k => blk3 m c t r k
  have e4 := funext fun k => blk4 m c t k
  have e5 := funext fun k => blk5 m c t k
  have e8 := funext fun k => blk8 m c t k
  have e9 := funext fun k => blk9 m c t r k
  have e10 := funext fun k => blk10 m c t r k
  have e6 := funext fun k => funext fun u => blk6 m c t k u
  have e7 := funext fun u => funext fun l => blk7 m c t u l
  exact congrFun (congr (congr (congr (congrArg hid (congr (congr (congr (congrArg upd e0) (congr (congr (congrArg ffn (congr (congr (congr (congrArg hid e0) e4) e1) e2)) e6) e7)) e3) e5)) e8) e9) e10) l

/-- The result array after the run is the reference's result of the argument arrays. -/
theorem final_next (c : Dev nD) : (dats m 0 c).arrAt 12 (cfgs 0).N = REFN m c := by
  refine (dats m 0 c).arrAt_eq_of_covers 12 _ (by decide +kernel) fun t _ y => ?_
  blk_simp
  rw [after0_12]
  exact point_next m c t y

end Cert.FfnNSIdeal.RefValue

namespace Cert.Proof.FfnNS

/-- The sample batch's feed-forward block with the next layer's first norm equals the reference's on the same arguments. -/
theorem algebraic : Cert.algebraic_FfnNSIdeal_FfnNSRefIdeal := by
  intro m g m' g' _ hagree
  refine ⟨fun c => Cert.FfnNSIdeal.RefValue.REFM m c, fun c => Cert.FfnNSIdeal.RefValue.REFN m c, ?_, ?_⟩
  · exact (θ_run Cert.FfnNSIdeal.defs _ _).mono (fun r h c => ⟨(h c).1.trans (Cert.FfnNSIdeal.RefValue.final m c), (h c).2.1.trans (Cert.FfnNSIdeal.RefValue.final_next m c), (h c).2.2⟩)
      (Cert.FfnNSIdeal.Value.run_blocks m g)
  · refine (θ_run Cert.FfnNSRefIdeal.defs _ _).mono (fun r h c => ⟨(h c).1.trans ((Cert.FfnNSRefIdeal.Read.val_main_v89_eq m' c).trans ?_), (h c).2.1.trans ((Cert.FfnNSRefIdeal.Read.val_main_v91_eq m' c).trans ?_), (h c).2.2⟩)
      (Cert.FfnNSRefIdeal.Value.run m' g')
    · obtain ⟨a0, a1, a2, a3, a4, a5, a6, a7⟩ := hagree c
      rw [a0, a1, a2, a3, a4, a5]
    · obtain ⟨a0, a1, a2, a3, a4, a5, a6, a7⟩ := hagree c
      rw [a0, a1, a2, a3, a4, a5, a6, a7]

end Cert.Proof.FfnNS
-- ==== Proof.ValRetF.lean ====
module

public import proofs.«01_k».proof.Defs
public import proofs.«01_k».proof.Proof.RetRow
public import proofs.«01_k».proof.Proof.Gen.RetFIdeal.Frame
public import proofs.«01_k».proof.Proof.Gen.RetFRefIdeal.Read
public import Idealize.ShloMosaic.Lib.Pointwise
public import Idealize.ShloMosaic.Lib.Pipeline.ValueKit
public import Idealize.ShloMosaic.Lib.Pipeline.ReadBack
public import Idealize.ShloMosaic.Lib.Claim

@[expose] public section
set_option maxRecDepth 16384

noncomputable section

open Idealize.ShloMosaic Idealize.ShloMosaic.TcCoe Idealize.SL.Sem
open Idealize.ShloMosaic.Pipeline (Dat)
open Cert.Proof.RetRow

namespace Cert.RetFRefIdeal.RefTerm
open Cert.RetFRefIdeal Cert.RetFRefIdeal.Gen Cert.RetFRefIdeal.Read

/-- The logarithm of each head's decay. -/
theorem lg_ref (h : Fin 4) : val_main_v79 (F := Ideal) (ix1 h) = (lg h.val : EReal) := by
  have e : val_main_v79 (F := Ideal) (ix1 h) = Ideal.log (1 - Ideal.pow ((2 : ℝ) : EReal) (((-5 : ℝ) : EReal) - FloatOps.sitofp (F := Ideal) .f32 (BitVec.ofNat 32 h.val))) := by
    pointwise [val_main_v79, val_main_v78, val_main_v77, val_main_cst_8, val_main_v76, val_main_v75, val_main_cst_7, val_main_v74, val_main_v73, val_main_cst_6, val_main_v72, word2, word_neg5]
  rw [e, float_nat _ (by omega), lg_at]

/-- The rotated query. -/
theorem q_ref (X : FVec Ideal S32x16x6144 .bf16) (b : Fin 32) (r : Fin 16) (h : Fin 4) (l : Fin 256) :
    val_main_v37 (F := Ideal) X (ix4 b r h l)
      = rope (fun d => X (ix3 b r ⟨h.val * 256 + d.val, by omega⟩)) (fun d => val_main_v21 (F := Ideal) (ix2 r d)) (fun d => val_main_v23 (F := Ideal) (ix2 r d)) l := by
  pointwise [val_main_v37, val_main_v36, val_main_v35, val_main_v34, val_main_v33, val_main_v32, val_main_v31, val_main_v30, val_main_v29, val_main_v28, val_main_v27, val_main_v26, val_main_v25, val_main_v24, val_main_v22, val_main_v10, val_main_v6, val_main_v5, rope]

/-- The key's cosines are the query's. -/
theorem cos_ref : val_main_v49 (F := Ideal) = val_main_v21 := rfl

/-- The key's sines are the query's. -/
theorem sin_ref : val_main_v51 (F := Ideal) = val_main_v23 := rfl

/-- The rotated and scaled key. -/
theorem k_ref (X : FVec Ideal S32x16x6144 .bf16) (b : Fin 32) (r : Fin 16) (h : Fin 4) (l : Fin 256) :
    val_main_v67 (F := Ideal) X (ix4 b r h l)
      = key (fun d => X (ix3 b r ⟨1024 + h.val * 256 + d.val, by omega⟩)) (fun d => val_main_v21 (F := Ideal) (ix2 r d)) (fun d => val_main_v23 (F := Ideal) (ix2 r d)) l := by
  pointwise [val_main_v67, val_main_v66, val_main_cst_5, val_main_v65, val_main_v64, val_main_v63, val_main_v62, val_main_v61, val_main_v60, val_main_v59, val_main_v58, val_main_v57, val_main_v56, val_main_v55, val_main_v54, val_main_v53, val_main_v52, val_main_v50, cos_ref, sin_ref, val_main_v38, val_main_v7, val_main_v5, key, rope, Nat.add_assoc]

/-- The value. -/
theorem v_ref (X : FVec Ideal S32x16x6144 .bf16) (b : Fin 32) (r : Fin 16) (h : Fin 4) (l : Fin 512) :
    val_main_v68 (F := Ideal) X (ix4 b r h l) = X (ix3 b r ⟨2048 + h.val * 512 + l.val, by omega⟩) := by
  pointwise [val_main_v68, val_main_v8, val_main_v5, Nat.add_assoc]

/-- The decay matrix. -/
theorem msk_ref (h : Fin 4) (i j : Fin 16) : val_main_v96 (F := Ideal) (ix3 h i j) = msk (lg h.val) i.val j.val := by
  have e : val_main_v96 (F := Ideal) (ix3 h i j)
      = if 0 ≤ FloatOps.sitofp (F := Ideal) .f32 (BitVec.ofNat 32 i.val) - FloatOps.sitofp (F := Ideal) .f32 (BitVec.ofNat 32 j.val)
        then Ideal.exp (max (FloatOps.sitofp (F := Ideal) .f32 (BitVec.ofNat 32 i.val) - FloatOps.sitofp (F := Ideal) .f32 (BitVec.ofNat 32 j.val)) 0 * (lg h.val : EReal)) else 0 := by
    pointwise [val_main_v96, val_main_call2_v2, val_main_call2_v1, val_main_call2_v0, val_main_cst_11, val_main_v95, val_main_v94, val_main_v93, val_main_v92, val_main_v91, val_main_v90, val_main_v89, val_main_v88, val_main_cst_10, val_main_v87, val_main_v86, val_main_cst_9, val_main_v85, val_main_v84, val_main_v83, val_main_v82, val_main_v81, val_main_v80, lg_ref, id]
  rw [e, float_nat _ (by omega), float_nat _ (by omega), ← EReal.coe_sub, msk_at]

/-- The decay of the carried state. -/
theorem qd_ref (h : Fin 4) (i : Fin 16) : val_main_v109 (F := Ideal) (ix2 h i) = qd (lg h.val) i.val := by
  have e : val_main_v109 (F := Ideal) (ix2 h i) = Ideal.exp ((FloatOps.sitofp (F := Ideal) .f32 (BitVec.ofNat 32 i.val) + 1) * (lg h.val : EReal)) := by
    pointwise [val_main_v109, val_main_v108, val_main_v107, val_main_v106, val_main_v105, val_main_v104, val_main_v103, val_main_v102, val_main_cst_12, val_main_v80, lg_ref]
  rw [e, float_nat _ (by omega), qd_at]

/-- The decay to the chunk's end. -/
theorem kd_ref (h : Fin 4) (i : Fin 16) : val_main_v121 (F := Ideal) (ix2 h i) = kd (lg h.val) i.val := by
  have e : val_main_v121 (F := Ideal) (ix2 h i) = Ideal.exp ((((15 : ℝ) : EReal) - FloatOps.sitofp (F := Ideal) .f32 (BitVec.ofNat 32 i.val)) * (lg h.val : EReal)) := by
    pointwise [val_main_v121, val_main_v120, val_main_v119, val_main_v118, val_main_v117, val_main_v116, val_main_v115, val_main_v114, val_main_cst_13, val_main_v80, lg_ref, word15]
  rw [e, float_nat _ (by omega), kd_at]

/-- The decay over a whole chunk. -/
theorem g16_ref (h : Fin 4) : val_main_v127 (F := Ideal) (ix1 h) = g16 (lg h.val) := by
  have e : val_main_v127 (F := Ideal) (ix1 h) = Ideal.exp (((16 : ℝ) : EReal) * (lg h.val : EReal)) := by
    pointwise [val_main_v127, val_main_v126, val_main_v125, val_main_cst_14, lg_ref, word16]
  rw [e, g16_at]

/-- The retention product. -/
theorem y_ref (X : FVec Ideal S32x16x6144 .bf16) (St : FVec Ideal S2x32x4x256x512 .f32) (b : Fin 32) (h : Fin 4) (r : Fin 16) (l : Fin 512) :
    val_main_v133 (F := Ideal) X St (ix4 b h r l)
      = retY (lg h.val) (fun d => val_main_v37 (F := Ideal) X (ix4 b r h d)) (fun (j : Fin 16) d => val_main_v67 (F := Ideal) X (ix4 b j h d))
          (fun j => val_main_v68 (F := Ideal) X (ix4 b j h l)) (fun d => St (ix5 0 b h d l)) r.val := by
  pointwise [val_main_v133, val_main_v113, val_main_v112, val_main_v111, val_main_v110, qd_ref, val_main_v101, val_main_v100, val_main_v99, val_main_v98, msk_ref, val_main_v97, val_main_v71, val_main_v70, val_main_v69, val_main_v1, val_main_v0, retY]

/-- The new state. -/
theorem s_ref (X : FVec Ideal S32x16x6144 .bf16) (St : FVec Ideal S2x32x4x256x512 .f32) (b : Fin 32) (h : Fin 4) (d : Fin 256) (l : Fin 512) :
    val_main_v132 (F := Ideal) X St (ix4 b h d l)
      = srow (fun j c => X (ix3 b j c)) (fun j d => val_main_v21 (F := Ideal) (ix2 j d)) (fun j d => val_main_v23 (F := Ideal) (ix2 j d)) (fun h d l => St (ix5 0 b h d l)) h d l := by
  have e : val_main_v132 (F := Ideal) X St (ix4 b h d l)
      = St (ix5 0 b h d l) * g16 (lg h.val) + ∑ j : Fin 16, (val_main_v67 (F := Ideal) X (ix4 b j h d) * kd (lg h.val) j.val) * val_main_v68 (F := Ideal) X (ix4 b j h l) := by
    pointwise [val_main_v132, val_main_v131, val_main_v130, val_main_v129, val_main_v128, g16_ref, val_main_v124, val_main_v123, val_main_v122, kd_ref, val_main_v71, val_main_v70, val_main_v1, val_main_v0]
  rw [e]
  unfold srow retS
  simp only [k_ref, v_ref, Fin.is_lt, if_true]

/-- The gated output, before its batch is flattened. -/
theorem o_ref (X : FVec Ideal S32x16x6144 .bf16) (St : FVec Ideal S2x32x4x256x512 .f32) (b : Fin 32) (r : Fin 16) (C : Fin 2048) :
    val_main_v147 (F := Ideal) X St (ix3 b r C)
      = yrow (fun j c => X (ix3 b j c)) (fun j d => val_main_v21 (F := Ideal) (ix2 j d)) (fun j d => val_main_v23 (F := Ideal) (ix2 j d)) (fun h d l => St (ix5 0 b h d l))
          ⟨C.val / 512, by omega⟩ r ⟨C.val % 512, by omega⟩ := by
  have e : val_main_v147 (F := Ideal) X St (ix3 b r C)
      = gated (fun l => X (ix3 b r ⟨4096 + C.val / 512 * 512 + l.val, by omega⟩)) (fun l => val_main_v133 (F := Ideal) X St (ix4 b ⟨C.val / 512, by omega⟩ r l)) ⟨C.val % 512, by omega⟩ := by
    have c : (⟨4096 + C.val / 512 * 512 + C.val % 512, by omega⟩ : Fin 6144) = ⟨4096 + C.val, by omega⟩ := Fin.ext (by show 4096 + C.val / 512 * 512 + C.val % 512 = 4096 + C.val; omega)
    unfold gated
    beta_reduce
    rw [c]
    pointwise [val_main_v147, val_main_v146, val_main_v145, val_main_v144, val_main_v143, val_main_v142, val_main_v141, val_main_v140, val_main_cst_17, val_main_v139, val_main_v138, val_main_cst_16, val_main_v137, val_main_v136, val_main_cst_15, val_main_v135, val_main_v134, val_main_call3_v5, val_main_call3_v4, val_main_call3_cst_0, val_main_call3_v3, val_main_call3_v2, val_main_call3_cst, val_main_call3_v1, val_main_call3_v0, val_main_v9, val_main_v5]
    rfl
  rw [e]
  unfold yrow
  congr 1
  funext l
  rw [y_ref]
  simp only [q_ref, k_ref, v_ref]

end Cert.RetFRefIdeal.RefTerm

namespace Cert.RetFIdeal.RefValue
open Cert.RetFIdeal Cert.RetFIdeal.Gen

/-- The named logarithm of head 0's decay. -/
theorem nl0 : Named.named (F := Ideal) (φ := .f32) κ "log_g0" 0xBD020AEC#32 = (lg 0 : EReal) := by
  show ((Real.log (31/32) : ℝ) : EReal) = _
  unfold lg; norm_num

/-- The named decay of head 0 over a chunk. -/
theorem ng0 : Named.named (F := Ideal) (φ := .f32) κ "g16_0" 0x3F1A09B0#32 = g16 (lg 0) := by
  rw [g16_lg]
  show ((_ : ℝ) : EReal) = _
  congr 1; norm_num

/-- The named logarithm of head 1's decay. -/
theorem nl1 : Named.named (F := Ideal) (φ := .f32) κ "log_g1" 0xBC8102B3#32 = (lg 1 : EReal) := by
  show ((Real.log (63/64) : ℝ) : EReal) = _
  unfold lg; norm_num

/-- The named decay of head 1 over a chunk. -/
theorem ng1 : Named.named (F := Ideal) (φ := .f32) κ "g16_1" 0x3F46FADA#32 = g16 (lg 1) := by
  rw [g16_lg]
  show ((_ : ℝ) : EReal) = _
  congr 1; norm_num

/-- The named logarithm of head 2's decay. -/
theorem nl2 : Named.named (F := Ideal) (φ := .f32) κ "log_g2" 0xBC0080AC#32 = (lg 2 : EReal) := by
  show ((Real.log (127/128) : ℝ) : EReal) = _
  unfold lg; norm_num

/-- The named decay of head 2 over a chunk. -/
theorem ng2 : Named.named (F := Ideal) (φ := .f32) κ "g16_2" 0x3F61CEF0#32 = g16 (lg 2) := by
  rw [g16_lg]
  show ((_ : ℝ) : EReal) = _
  congr 1; norm_num

/-- The named logarithm of head 3's decay. -/
theorem nl3 : Named.named (F := Ideal) (φ := .f32) κ "log_g3" 0xBB80402B#32 = (lg 3 : EReal) := by
  show ((Real.log (255/256) : ℝ) : EReal) = _
  unfold lg; norm_num

/-- The named decay of head 3 over a chunk. -/
theorem ng3 : Named.named (F := Ideal) (φ := .f32) κ "g16_3" 0x3F7075D7#32 = g16 (lg 3) := by
  rw [g16_lg]
  show ((_ : ℝ) : EReal) = _
  congr 1; norm_num

/-- The retention product of head 0, read at an index. -/
theorem y0_at (C Sn : FVec Ideal S128x128 .f32) (Q K : FVec Ideal S128x256 .bf16) (V : FVec Ideal S128x512 .bf16) (S : FVec Ideal S1x1x1x256x512 .f32) (r : Fin 128) (l : Fin 512) :
    (k0_pay13 (F := Ideal) k0_pay4 k0_pay5 (k0_pay8 C Sn Q) (k0_pay9 C Sn K) (k0_pay10 V) S) (ix2 r l) = retY (lg 0) (rope (fun d => Q (ix2 r d)) (fun d => C (ix2 r d)) (fun d => Sn (ix2 r d))) (fun j => key (fun d => K (ix2 j d)) (fun d => C (ix2 j d)) (fun d => Sn (ix2 j d))) (fun j => V (ix2 j l)) (fun d => S (ix5 0 0 0 d l)) r.val := by
  pointwise [k0_pay13, k0_pay4, k0_pay5, k0_pay8, k0_pay9, k0_pay10, k0_pay12, k0_pay6, k0_pay7, float_sub, float_nat, nl0, msk_at, qd_at, retY, key, rope]

/-- The stored output of head 0, read at an index. -/
theorem o0_at (C Sn : FVec Ideal S128x128 .f32) (Q K : FVec Ideal S128x256 .bf16) (V G : FVec Ideal S128x512 .bf16) (S : FVec Ideal S1x1x1x256x512 .f32) (r : Fin 128) (l : Fin 512) :
    k0_pay18 (F := Ideal) (k0_pay11 G) (k0_pay13 (F := Ideal) k0_pay4 k0_pay5 (k0_pay8 C Sn Q) (k0_pay9 C Sn K) (k0_pay10 V) S) (ix2 r l)
      = gated (fun l => G (ix2 r l)) (fun l => retY (lg 0) (rope (fun d => Q (ix2 r d)) (fun d => C (ix2 r d)) (fun d => Sn (ix2 r d)))
          (fun j => key (fun d => K (ix2 j d)) (fun d => C (ix2 j d)) (fun d => Sn (ix2 j d))) (fun j => V (ix2 j l)) (fun d => S (ix5 0 0 0 d l)) r.val) l := by
  rw [show (fun l => retY (lg 0) (rope (fun d => Q (ix2 r d)) (fun d => C (ix2 r d)) (fun d => Sn (ix2 r d))) (fun j => key (fun d => K (ix2 j d)) (fun d => C (ix2 j d)) (fun d => Sn (ix2 j d))) (fun j => V (ix2 j l)) (fun d => S (ix5 0 0 0 d l)) r.val) = fun l => (k0_pay13 (F := Ideal) k0_pay4 k0_pay5 (k0_pay8 C Sn Q) (k0_pay9 C Sn K) (k0_pay10 V) S) (ix2 r l) from funext fun l => (y0_at C Sn Q K V S r l).symm]
  pointwise [k0_pay18, k0_pay11, gated]

/-- The stored state of head 0, read at an index. -/
theorem s0_at (C Sn : FVec Ideal S128x128 .f32) (K : FVec Ideal S128x256 .bf16) (V : FVec Ideal S128x512 .bf16) (S : FVec Ideal S1x1x1x256x512 .f32) (d : Fin 256) (l : Fin 512) :
    k0_pay17 (F := Ideal) (k0_pay10 V) (k0_pay12 S) (k0_pay14 k0_pay5 (k0_pay9 C Sn K)) (k0_pay15 (F := Ideal) k0_pay5) k0_pay16 (ix5 0 0 0 d l)
      = retS (lg 0) (fun j => key (fun d => K (ix2 j d)) (fun d => C (ix2 j d)) (fun d => Sn (ix2 j d)) d) (fun j => V (ix2 j l)) (S (ix5 0 0 0 d l)) := by
  pointwise [k0_pay17, k0_pay10, k0_pay12, k0_pay14, k0_pay5, k0_pay9, k0_pay15, k0_pay16, k0_pay6, k0_pay7, float_nat, word15, word16, nl0, ng0, kd_at, lt16, retS, key, rope]

/-- The retention product of head 1, read at an index. -/
theorem y1_at (C Sn : FVec Ideal S128x128 .f32) (Q K : FVec Ideal S128x256 .bf16) (V : FVec Ideal S128x512 .bf16) (S : FVec Ideal S1x1x1x256x512 .f32) (r : Fin 128) (l : Fin 512) :
    (addf (k0_pay27 (F := Ideal) k0_pay4 (k0_pay6 C) (k0_pay7 Sn) (k0_pay19 (k0_pay6 C) (k0_pay7 Sn) Q) (k0_pay21 K) (k0_pay22 K) V) (k0_pay28 (F := Ideal) k0_pay5 (k0_pay19 (k0_pay6 C) (k0_pay7 Sn) Q) S)) (ix2 r l) = retY (lg 1) (rope (fun d => Q (ix2 r d)) (fun d => C (ix2 r d)) (fun d => Sn (ix2 r d))) (fun j => key (fun d => K (ix2 j d)) (fun d => C (ix2 j d)) (fun d => Sn (ix2 j d))) (fun j => V (ix2 j l)) (fun d => S (ix5 0 0 0 d l)) r.val := by
  pointwise [k0_pay27, k0_pay4, k0_pay6, k0_pay7, k0_pay19, k0_pay21, k0_pay22, k0_pay28, k0_pay5, k0_pay20, k0_pay23, k0_pay24, k0_pay26, float_sub, float_nat, nl1, msk_at, qd_at, retY, key, rope]

/-- The stored output of head 1, read at an index. -/
theorem o1_at (C Sn : FVec Ideal S128x128 .f32) (Q K : FVec Ideal S128x256 .bf16) (V G : FVec Ideal S128x512 .bf16) (S : FVec Ideal S1x1x1x256x512 .f32) (r : Fin 128) (l : Fin 512) :
    k0_pay30 (F := Ideal) (k0_pay25 G) (k0_pay27 (F := Ideal) k0_pay4 (k0_pay6 C) (k0_pay7 Sn) (k0_pay19 (k0_pay6 C) (k0_pay7 Sn) Q) (k0_pay21 K) (k0_pay22 K) V) (k0_pay28 (F := Ideal) k0_pay5 (k0_pay19 (k0_pay6 C) (k0_pay7 Sn) Q) S) (ix2 r l)
      = gated (fun l => G (ix2 r l)) (fun l => retY (lg 1) (rope (fun d => Q (ix2 r d)) (fun d => C (ix2 r d)) (fun d => Sn (ix2 r d)))
          (fun j => key (fun d => K (ix2 j d)) (fun d => C (ix2 j d)) (fun d => Sn (ix2 j d))) (fun j => V (ix2 j l)) (fun d => S (ix5 0 0 0 d l)) r.val) l := by
  rw [show (fun l => retY (lg 1) (rope (fun d => Q (ix2 r d)) (fun d => C (ix2 r d)) (fun d => Sn (ix2 r d))) (fun j => key (fun d => K (ix2 j d)) (fun d => C (ix2 j d)) (fun d => Sn (ix2 j d))) (fun j => V (ix2 j l)) (fun d => S (ix5 0 0 0 d l)) r.val) = fun l => (addf (k0_pay27 (F := Ideal) k0_pay4 (k0_pay6 C) (k0_pay7 Sn) (k0_pay19 (k0_pay6 C) (k0_pay7 Sn) Q) (k0_pay21 K) (k0_pay22 K) V) (k0_pay28 (F := Ideal) k0_pay5 (k0_pay19 (k0_pay6 C) (k0_pay7 Sn) Q) S)) (ix2 r l) from funext fun l => (y1_at C Sn Q K V S r l).symm]
  pointwise [k0_pay30, k0_pay25, gated]

/-- The stored state of head 1, read at an index. -/
theorem s1_at (C Sn : FVec Ideal S128x128 .f32) (K : FVec Ideal S128x256 .bf16) (V : FVec Ideal S128x512 .bf16) (S : FVec Ideal S1x1x1x256x512 .f32) (d : Fin 256) (l : Fin 512) :
    k0_pay29 (F := Ideal) k0_pay5 (k0_pay23 (k0_pay6 C) (k0_pay7 Sn) (k0_pay21 K) (k0_pay22 K)) (k0_pay24 V) (k0_pay26 S) (ix5 0 0 0 d l)
      = retS (lg 1) (fun j => key (fun d => K (ix2 j d)) (fun d => C (ix2 j d)) (fun d => Sn (ix2 j d)) d) (fun j => V (ix2 j l)) (S (ix5 0 0 0 d l)) := by
  pointwise [k0_pay29, k0_pay5, k0_pay23, k0_pay6, k0_pay7, k0_pay21, k0_pay22, k0_pay24, k0_pay26, k0_pay20, float_nat, word15, word16, nl1, ng1, kd_at, lt16, retS, key, rope]

/-- The retention product of head 2, read at an index. -/
theorem y2_at (C Sn : FVec Ideal S128x128 .f32) (Q K : FVec Ideal S128x256 .bf16) (V : FVec Ideal S128x512 .bf16) (S : FVec Ideal S1x1x1x256x512 .f32) (r : Fin 128) (l : Fin 512) :
    (k0_pay38 (F := Ideal) k0_pay5 (k0_pay32 (k0_pay6 C) (k0_pay7 Sn) (k0_pay31 Q)) (k0_pay34 V) (k0_pay36 k0_pay4 (k0_pay6 C) (k0_pay7 Sn) (k0_pay31 Q) K) S) (ix2 r l) = retY (lg 2) (rope (fun d => Q (ix2 r d)) (fun d => C (ix2 r d)) (fun d => Sn (ix2 r d))) (fun j => key (fun d => K (ix2 j d)) (fun d => C (ix2 j d)) (fun d => Sn (ix2 j d))) (fun j => V (ix2 j l)) (fun d => S (ix5 0 0 0 d l)) r.val := by
  pointwise [k0_pay38, k0_pay5, k0_pay32, k0_pay6, k0_pay7, k0_pay31, k0_pay34, k0_pay36, k0_pay4, k0_pay33, k0_pay37, float_sub, float_nat, nl2, msk_at, qd_at, retY, key, rope]

/-- The stored output of head 2, read at an index. -/
theorem o2_at (C Sn : FVec Ideal S128x128 .f32) (Q K : FVec Ideal S128x256 .bf16) (V G : FVec Ideal S128x512 .bf16) (S : FVec Ideal S1x1x1x256x512 .f32) (r : Fin 128) (l : Fin 512) :
    k0_pay41 (F := Ideal) (k0_pay35 G) (k0_pay38 (F := Ideal) k0_pay5 (k0_pay32 (k0_pay6 C) (k0_pay7 Sn) (k0_pay31 Q)) (k0_pay34 V) (k0_pay36 k0_pay4 (k0_pay6 C) (k0_pay7 Sn) (k0_pay31 Q) K) S) (k0_pay40 (F := Ideal) k0_pay5 (k0_pay32 (k0_pay6 C) (k0_pay7 Sn) (k0_pay31 Q)) (k0_pay34 V) (k0_pay36 k0_pay4 (k0_pay6 C) (k0_pay7 Sn) (k0_pay31 Q) K) S) (FloatOps.ofBits (F := Ideal) .f32 897988541#32) (ix2 r l)
      = gated (fun l => G (ix2 r l)) (fun l => retY (lg 2) (rope (fun d => Q (ix2 r d)) (fun d => C (ix2 r d)) (fun d => Sn (ix2 r d)))
          (fun j => key (fun d => K (ix2 j d)) (fun d => C (ix2 j d)) (fun d => Sn (ix2 j d))) (fun j => V (ix2 j l)) (fun d => S (ix5 0 0 0 d l)) r.val) l := by
  rw [show (fun l => retY (lg 2) (rope (fun d => Q (ix2 r d)) (fun d => C (ix2 r d)) (fun d => Sn (ix2 r d))) (fun j => key (fun d => K (ix2 j d)) (fun d => C (ix2 j d)) (fun d => Sn (ix2 j d))) (fun j => V (ix2 j l)) (fun d => S (ix5 0 0 0 d l)) r.val) = fun l => (k0_pay38 (F := Ideal) k0_pay5 (k0_pay32 (k0_pay6 C) (k0_pay7 Sn) (k0_pay31 Q)) (k0_pay34 V) (k0_pay36 k0_pay4 (k0_pay6 C) (k0_pay7 Sn) (k0_pay31 Q) K) S) (ix2 r l) from funext fun l => (y2_at C Sn Q K V S r l).symm]
  pointwise [k0_pay41, k0_pay40, k0_pay35, gated]

/-- The stored state of head 2, read at an index. -/
theorem s2_at (C Sn : FVec Ideal S128x128 .f32) (K : FVec Ideal S128x256 .bf16) (V : FVec Ideal S128x512 .bf16) (S : FVec Ideal S1x1x1x256x512 .f32) (d : Fin 256) (l : Fin 512) :
    k0_pay39 (F := Ideal) k0_pay5 (k0_pay33 (k0_pay6 C) (k0_pay7 Sn) K) (k0_pay34 V) S (ix5 0 0 0 d l)
      = retS (lg 2) (fun j => key (fun d => K (ix2 j d)) (fun d => C (ix2 j d)) (fun d => Sn (ix2 j d)) d) (fun j => V (ix2 j l)) (S (ix5 0 0 0 d l)) := by
  pointwise [k0_pay39, k0_pay5, k0_pay33, k0_pay6, k0_pay7, k0_pay34, k0_pay37, float_nat, word15, word16, nl2, ng2, kd_at, lt16, retS, key, rope]

/-- The retention product of head 3, read at an index. -/
theorem y3_at (C Sn : FVec Ideal S128x128 .f32) (Q K : FVec Ideal S128x256 .bf16) (V : FVec Ideal S128x512 .bf16) (S : FVec Ideal S1x1x1x256x512 .f32) (r : Fin 128) (l : Fin 512) :
    (k0_pay49 (F := Ideal) k0_pay5 (k0_pay42 (k0_pay6 C) (k0_pay7 Sn) Q) (k0_pay43 (k0_pay6 C) (k0_pay7 Sn) K) (k0_pay44 V) (k0_pay46 (F := Ideal) k0_pay4) (k0_pay47 k0_pay4) (Named.named (F := Ideal) (φ := .f32) κ "log_g3" 0xBB80402B#32) S) (ix2 r l) = retY (lg 3) (rope (fun d => Q (ix2 r d)) (fun d => C (ix2 r d)) (fun d => Sn (ix2 r d))) (fun j => key (fun d => K (ix2 j d)) (fun d => C (ix2 j d)) (fun d => Sn (ix2 j d))) (fun j => V (ix2 j l)) (fun d => S (ix5 0 0 0 d l)) r.val := by
  pointwise [k0_pay49, k0_pay5, k0_pay42, k0_pay6, k0_pay7, k0_pay43, k0_pay44, k0_pay46, k0_pay4, k0_pay47, k0_pay48, float_sub, float_nat, nl3, msk_at, qd_at, retY, key, rope]

/-- The stored output of head 3, read at an index. -/
theorem o3_at (C Sn : FVec Ideal S128x128 .f32) (Q K : FVec Ideal S128x256 .bf16) (V G : FVec Ideal S128x512 .bf16) (S : FVec Ideal S1x1x1x256x512 .f32) (r : Fin 128) (l : Fin 512) :
    k0_pay2 (F := Ideal) (k0_pay45 G) (k0_pay49 (F := Ideal) k0_pay5 (k0_pay42 (k0_pay6 C) (k0_pay7 Sn) Q) (k0_pay43 (k0_pay6 C) (k0_pay7 Sn) K) (k0_pay44 V) (k0_pay46 (F := Ideal) k0_pay4) (k0_pay47 k0_pay4) (Named.named (F := Ideal) (φ := .f32) κ "log_g3" 0xBB80402B#32) S) (ix2 r l)
      = gated (fun l => G (ix2 r l)) (fun l => retY (lg 3) (rope (fun d => Q (ix2 r d)) (fun d => C (ix2 r d)) (fun d => Sn (ix2 r d)))
          (fun j => key (fun d => K (ix2 j d)) (fun d => C (ix2 j d)) (fun d => Sn (ix2 j d))) (fun j => V (ix2 j l)) (fun d => S (ix5 0 0 0 d l)) r.val) l := by
  rw [show (fun l => retY (lg 3) (rope (fun d => Q (ix2 r d)) (fun d => C (ix2 r d)) (fun d => Sn (ix2 r d))) (fun j => key (fun d => K (ix2 j d)) (fun d => C (ix2 j d)) (fun d => Sn (ix2 j d))) (fun j => V (ix2 j l)) (fun d => S (ix5 0 0 0 d l)) r.val) = fun l => (k0_pay49 (F := Ideal) k0_pay5 (k0_pay42 (k0_pay6 C) (k0_pay7 Sn) Q) (k0_pay43 (k0_pay6 C) (k0_pay7 Sn) K) (k0_pay44 V) (k0_pay46 (F := Ideal) k0_pay4) (k0_pay47 k0_pay4) (Named.named (F := Ideal) (φ := .f32) κ "log_g3" 0xBB80402B#32) S) (ix2 r l) from funext fun l => (y3_at C Sn Q K V S r l).symm]
  pointwise [k0_pay2, k0_pay45, gated]

/-- The stored state of head 3, read at an index. -/
theorem s3_at (C Sn : FVec Ideal S128x128 .f32) (K : FVec Ideal S128x256 .bf16) (V : FVec Ideal S128x512 .bf16) (S : FVec Ideal S1x1x1x256x512 .f32) (d : Fin 256) (l : Fin 512) :
    k0_pay1 (F := Ideal) (k0_pay50 (F := Ideal) k0_pay5 (k0_pay43 (k0_pay6 C) (k0_pay7 Sn) K) (k0_pay44 V) S) (ix5 0 0 0 d l)
      = retS (lg 3) (fun j => key (fun d => K (ix2 j d)) (fun d => C (ix2 j d)) (fun d => Sn (ix2 j d)) d) (fun j => V (ix2 j l)) (S (ix5 0 0 0 d l)) := by
  pointwise [k0_pay1, k0_pay50, k0_pay5, k0_pay43, k0_pay6, k0_pay7, k0_pay44, k0_pay48, float_nat, word15, word16, nl3, ng3, kd_at, lt16, retS, key, rope]

variable (m : (ℓ : Loc nD τ sig) → Buf (Elt Ideal) ℓ)

/-- Grid point `t` stages batch element `t`'s padded rows and its carried state, and the whole tables of cosines and sines. -/
theorem idx : ∀ t : Fin cfg0.N, win0_0.index t = ![t.val, 0] ∧ win0_1.index t = ![0, 0] ∧ win0_2.index t = ![0, 0] ∧ win0_3.index t = ![0, t.val, 0, 0, 0]
    ∧ win0_4.index t = ![t.val, 0] ∧ win0_5.index t = ![0, t.val, 0, 0, 0] ∧ t.val < 32 :=
  (by decide +kernel : ∀ t : Fin grid0.N, _)

/-- The padded projections the host prepares. -/
def ZP (c : Dev nD) : FVec Ideal S4096x6144 .bf16 := V m c main_v16

/-- The table of cosines the host prepares. -/
def CT (c : Dev nD) : FVec Ideal S128x128 .f32 := V m c main_v17

/-- The table of sines the host prepares. -/
def ST (c : Dev nD) : FVec Ideal S128x128 .f32 := V m c main_v18

/-- The carried state. -/
def SA (c : Dev nD) : FVec Ideal S2x32x4x256x512 .f32 := m ((c : Thread nD τ).loc main_arg1)

/-- A row of a head's output for batch element `b`, over the padded rows. -/
def krow (c : Dev nD) (b : Fin 32) (h : Fin 4) (r : Fin 128) (l : Fin 512) : EReal :=
  yrow (fun (j : Fin 128) k => ZP m c (ix2 ⟨b.val * 128 + j.val, by omega⟩ k)) (fun j d => CT m c (ix2 j d)) (fun j d => ST m c (ix2 j d))
    (fun h d l => SA m c (ix5 0 b h d l)) h r l

/-- A head's new state for batch element `b`, over the padded rows. -/
def kstate (c : Dev nD) (b : Fin 32) (h : Fin 4) (d : Fin 256) (l : Fin 512) : EReal :=
  srow (fun (j : Fin 128) k => ZP m c (ix2 ⟨b.val * 128 + j.val, by omega⟩ k)) (fun j d => CT m c (ix2 j d)) (fun j d => ST m c (ix2 j d))
    (fun h d l => SA m c (ix5 0 b h d l)) h d l

/-- The padded output array. -/
def W4 (c : Dev nD) : S4096x2048.Idx → EReal := fun i =>
  krow m c ⟨(i 0).val / 128, by have : (i 0).val < 4096 := (i 0).isLt; omega⟩ ⟨(i 1).val / 512, by have : (i 1).val < 2048 := (i 1).isLt; omega⟩
    ⟨(i 0).val % 128, by omega⟩ ⟨(i 1).val % 512, by omega⟩

/-- The new state array's first layer. -/
def W5 (c : Dev nD) : S2x32x4x256x512.Idx → EReal := fun i => kstate m c (i 1) (i 2) (i 3) (i 4)

/-- The projection block holds the batch element's padded rows. -/
theorem blk0 (c : Dev nD) (t : Fin cfg0.N) (r : Fin 128) (k : Fin 6144) (R : Fin 4096) (hR : R.val = t.val * 128 + r.val) :
    (show FVec Ideal S128x6144 .bf16 from iblk m c 0 t) (ix2 r k) = ZP m c (ix2 R k) := by
  unfold ZP
  blk_ext [iblk, idx t]

/-- The cosine block is the whole table. -/
theorem blk1 (c : Dev nD) (t : Fin cfg0.N) (r : Fin 128) (k : Fin 128) : (show FVec Ideal S128x128 .f32 from iblk m c 1 t) (ix2 r k) = CT m c (ix2 r k) := by
  unfold CT
  blk_ext [iblk, idx t]

/-- The sine block is the whole table. -/
theorem blk2 (c : Dev nD) (t : Fin cfg0.N) (r : Fin 128) (k : Fin 128) : (show FVec Ideal S128x128 .f32 from iblk m c 2 t) (ix2 r k) = ST m c (ix2 r k) := by
  unfold ST
  blk_ext [iblk, idx t]

/-- The host leaves the carried state as it was. -/
theorem entry_state (c : Dev nD) : V m c main_arg1 = SA m c := V_main_arg1 m c

/-- The padded projections, computed out: every batch element's sixteen rows followed by rows of zeros. -/
theorem table_rows (c : Dev nD) : ZP m c = shapeCast S4096x6144 (pad S32x128x6144 ![0, 0, 0] ![0, 112, 0] ![0, 0, 0]
    (shapeCast S32x16x6144 (shapeCast S512x6144 (show FVec Ideal S32x16x6144 .bf16 from m ((c : Thread nD τ).loc main_arg0)) shapeCasts_S32x16x6144_S512x6144) shapeCasts_S512x6144_S32x16x6144)
    (sitofp (F := Ideal) .bf16 (constantI S_ 32 0#32)) pads_S32x16x6144_S32x128x6144_000_01120_000 h_S_) shapeCasts_S32x128x6144_S4096x6144 := by
  unfold ZP
  simp only [V, V0, hostOps0, hostOps0_1, hostOps0_2, hostOps0_3, hostOps0_4, List.flatten_cons, List.flatten_nil, List.append_nil, List.cons_append, List.nil_append, StableHlo.after_cons, StableHlo.after_nil]
  after_results_simp
  after_results_loop
  rfl

/-- The padded projections hold the batch element's rows. -/
theorem entry_rows (c : Dev nD) (b : Fin 32) (r : Fin 16) (k : Fin 6144) :
    ZP m c (ix2 ⟨b.val * 128 + r.val, by omega⟩ k) = (show FVec Ideal S32x16x6144 .bf16 from m ((c : Thread nD τ).loc main_arg0)) (ix3 b r k) := by
  have h : r.val < 16 := r.isLt
  rw [table_rows]
  have e : (⟨(b.val * 128 + r.val) % 128, by omega⟩ : Fin 16) = r := Fin.ext (by show (b.val * 128 + r.val) % 128 = r.val; omega)
  pointwise
  rw [dif_pos (by omega), e]

/-- The angles the host tabulates: a position counted from the start of the sequence, times each of the frequencies. -/
def angles : FVec Ideal S128x128 .f32 :=
  mulf (broadcastInDim S128x128 ![0, 1] bcast_S128x1_S128x128_0_1 (broadcastInDim S128x1 ![0] bcast_S128_S128x1_0 (sitofp .f32 (addi (broadcastInDim S128 ![] bcast_S_S128 (constantI S_ 32 4096#32)) (iotaInDim S128 32 0)))))
    (broadcastInDim S128x128 ![0, 1] bcast_S1x128_S128x128_0_1 (broadcastInDim S1x128 ![1] bcast_S128_S1x128_1 (Cert.RetFRefIdeal.Read.val_main_v14 (F := Ideal))))

/-- The table of cosines, computed out. -/
theorem table_cos (c : Dev nD) : CT m c = Host.cos (angles) := by
  unfold CT
  simp only [V, V0, hostOps0, hostOps0_1, hostOps0_2, hostOps0_3, hostOps0_4, List.flatten_cons, List.flatten_nil, List.append_nil, List.cons_append, List.nil_append, StableHlo.after_cons, StableHlo.after_nil]
  after_results_simp
  after_results_loop
  rfl

/-- The first rows of the table of cosines are the reference's. -/
theorem entry_cos (c : Dev nD) (r : Fin 16) (d : Fin 128) :
    CT m c (ix2 ⟨r.val, by omega⟩ d) = Cert.RetFRefIdeal.Read.val_main_v21 (F := Ideal) (ix2 r d) := by
  rw [table_cos]
  pointwise [angles, Cert.RetFRefIdeal.Read.val_main_v21, Cert.RetFRefIdeal.Read.val_main_v20, Cert.RetFRefIdeal.Read.val_main_v19, Cert.RetFRefIdeal.Read.val_main_v18, Cert.RetFRefIdeal.Read.val_main_v17, Cert.RetFRefIdeal.Read.val_main_v16, Cert.RetFRefIdeal.Read.val_main_v15, Cert.RetFRefIdeal.Read.val_main_v4, Cert.RetFRefIdeal.Read.val_main_v3, Cert.RetFRefIdeal.Read.val_main_v2, Cert.RetFRefIdeal.Read.val_main_c]

/-- The table of sines, computed out. -/
theorem table_sin (c : Dev nD) : ST m c = Host.sin (angles) := by
  unfold ST
  simp only [V, V0, hostOps0, hostOps0_1, hostOps0_2, hostOps0_3, hostOps0_4, List.flatten_cons, List.flatten_nil, List.append_nil, List.cons_append, List.nil_append, StableHlo.after_cons, StableHlo.after_nil]
  after_results_simp
  after_results_loop
  rfl

/-- The first rows of the table of sines are the reference's. -/
theorem entry_sin (c : Dev nD) (r : Fin 16) (d : Fin 128) :
    ST m c (ix2 ⟨r.val, by omega⟩ d) = Cert.RetFRefIdeal.Read.val_main_v23 (F := Ideal) (ix2 r d) := by
  rw [table_sin]
  pointwise [angles, Cert.RetFRefIdeal.Read.val_main_v23, Cert.RetFRefIdeal.Read.val_main_v20, Cert.RetFRefIdeal.Read.val_main_v19, Cert.RetFRefIdeal.Read.val_main_v18, Cert.RetFRefIdeal.Read.val_main_v17, Cert.RetFRefIdeal.Read.val_main_v16, Cert.RetFRefIdeal.Read.val_main_v15, Cert.RetFRefIdeal.Read.val_main_v4, Cert.RetFRefIdeal.Read.val_main_v3, Cert.RetFRefIdeal.Read.val_main_v2, Cert.RetFRefIdeal.Read.val_main_c]

/-- The state block holds the batch element's carried state. -/
theorem blk3 (c : Dev nD) (t : Fin cfg0.N) (h : Fin 4) (d : Fin 256) (l : Fin 512) (b : Fin 32) (hb : b.val = t.val) :
    (show FVec Ideal S1x1x4x256x512 .f32 from iblk m c 3 t) (ix5 0 0 h d l) = SA m c (ix5 0 b h d l) := by
  have e : (show FVec Ideal S1x1x4x256x512 .f32 from iblk m c 3 t) (ix5 0 0 h d l) = (show FVec Ideal S2x32x4x256x512 .f32 from V m c main_arg1) (ix5 0 b h d l) := by
    blk_ext [iblk, idx t]
  rw [e]
  exact congrFun (entry_state m c) _

/-- An output row over the blocks of a grid point is the row of its batch element. -/
theorem krow_of (c : Dev nD) (t : Fin cfg0.N) (x0 : FVec Ideal S128x6144 .bf16) (x1 x2 : FVec Ideal S128x128 .f32) (x3 : FVec Ideal S1x1x4x256x512 .f32)
    (h0 : x0 = iblk m c 0 t) (h1 : x1 = iblk m c 1 t) (h2 : x2 = iblk m c 2 t) (h3 : x3 = iblk m c 3 t) (h : Fin 4) (r : Fin 128) (l : Fin 512) :
    yrow (fun j k => x0 (ix2 j k)) (fun j d => x1 (ix2 j d)) (fun j d => x2 (ix2 j d)) (fun h d l => x3 (ix5 0 0 h d l)) h r l
      = krow m c ⟨t.val, (idx t).2.2.2.2.2.2⟩ h r l := by
  subst h0 h1 h2 h3
  have e0 := funext fun j => funext fun k => blk0 m c t j k ⟨t.val * 128 + j.val, by have := (idx t).2.2.2.2.2.2; omega⟩ rfl
  have e1 := funext fun j => funext fun k => blk1 m c t j k
  have e2 := funext fun j => funext fun k => blk2 m c t j k
  have e3 := funext fun h => funext fun d => funext fun l => blk3 m c t h d l ⟨t.val, (idx t).2.2.2.2.2.2⟩ rfl
  exact congrFun (congrFun (congrFun (congr (congr (congr (congrArg yrow e0) e1) e2) e3) h) r) l

/-- A new state over the blocks of a grid point is that of its batch element. -/
theorem kstate_of (c : Dev nD) (t : Fin cfg0.N) (x0 : FVec Ideal S128x6144 .bf16) (x1 x2 : FVec Ideal S128x128 .f32) (x3 : FVec Ideal S1x1x4x256x512 .f32)
    (h0 : x0 = iblk m c 0 t) (h1 : x1 = iblk m c 1 t) (h2 : x2 = iblk m c 2 t) (h3 : x3 = iblk m c 3 t) (h : Fin 4) (d : Fin 256) (l : Fin 512) :
    srow (fun j k => x0 (ix2 j k)) (fun j d => x1 (ix2 j d)) (fun j d => x2 (ix2 j d)) (fun h d l => x3 (ix5 0 0 h d l)) h d l
      = kstate m c ⟨t.val, (idx t).2.2.2.2.2.2⟩ h d l := by
  subst h0 h1 h2 h3
  have e0 := funext fun j => funext fun k => blk0 m c t j k ⟨t.val * 128 + j.val, by have := (idx t).2.2.2.2.2.2; omega⟩ rfl
  have e1 := funext fun j => funext fun k => blk1 m c t j k
  have e2 := funext fun j => funext fun k => blk2 m c t j k
  have e3 := funext fun h => funext fun d => funext fun l => blk3 m c t h d l ⟨t.val, (idx t).2.2.2.2.2.2⟩ rfl
  exact congrFun (congrFun (congrFun (congr (congr (congr (congrArg srow e0) e1) e2) e3) h) d) l

/-- The padded output at a position of head `h`. -/
theorem W4_at (c : Dev nD) (b : Fin 32) (h : Fin 4) (r : Fin 128) (l : Fin 512) (R : Fin 4096) (C : Fin 2048) (hR : R.val = b.val * 128 + r.val) (hC : C.val = h.val * 512 + l.val) :
    W4 m c (ix2 R C) = krow m c b h r l := by
  have e0 : (⟨R.val / 128, by omega⟩ : Fin 32) = b := Fin.ext (by show R.val / 128 = b.val; omega)
  have e1 : (⟨C.val / 512, by omega⟩ : Fin 4) = h := Fin.ext (by show C.val / 512 = h.val; omega)
  have e2 : (⟨R.val % 128, by omega⟩ : Fin 128) = r := Fin.ext (by show R.val % 128 = r.val; omega)
  have e3 : (⟨C.val % 512, by omega⟩ : Fin 512) = l := Fin.ext (by show C.val % 512 = l.val; omega)
  show krow m c ⟨R.val / 128, _⟩ ⟨C.val / 512, _⟩ ⟨R.val % 128, _⟩ ⟨C.val % 512, _⟩ = _
  rw [e0, e1, e2, e3]

/-- Reading the carried state's block does not change it. -/
theorem init_at (S : FVec Ideal S1x1x4x256x512 .f32) : k0_pay3 (F := Ideal) S = S := by
  funext i
  obtain ⟨a, b, h, d, l, rfl⟩ : ∃ (a : Fin 1) (b : Fin 1) (h : Fin 4) (d : Fin 256) (l : Fin 512), i = ix5 a b h d l := ⟨i 0, i 1, i 2, i 3, i 4, eq_ix5 i⟩
  pointwise [k0_pay3]

/-- The padded output array after the run. -/
theorem final4 (c : Dev nD) : (dats m 0 c).arrAt 4 (cfgs 0).N = W4 m c := by
  refine (dats m 0 c).arrAt_eq_of_covers 4 _ (by decide +kernel) fun t _ y => ?_
  blk_simp
  rw [after0_4]; unfold Gen.outsAt0; frame_open; simp (disch := decide) only [↓ View.readCov_skip, ↓ View.readCov_cons_toLoadRect, ↓ View.readCov_fill]; frame_out
  obtain ⟨R, C, rfl⟩ : ∃ (R : Fin 128) (C : Fin 2048), y = ix2 R C := ⟨y 0, y 1, eq_ix2 y⟩
  have ht := (idx t).2.2.2.2.2.2
  have he : ((View.whole main_v19_0).slice (win0_4.rect t)).emb (ix2 R C) = ix2 ⟨t.val * 128 + R.val, by omega⟩ C := by
    blk_ext [idx t]
  rw [he, W4_at m c ⟨t.val, ht⟩ ⟨C.val / 512, by omega⟩ R ⟨C.val % 512, by omega⟩ _ _ rfl (by show C.val = C.val / 512 * 512 + C.val % 512; omega),
    ← krow_of m c t _ _ _ _ rfl rfl rfl rfl, init_at]
  generalize (iblk m c 0 t) = x0
  generalize (iblk m c 1 t) = x1
  generalize (iblk m c 2 t) = x2
  generalize (iblk m c 3 t) = x3
  clear he ht
  canon_tiles x h
  · obtain ⟨r, k, rfl⟩ : ∃ (r : Fin 128) (k : Fin 512), x = ix2 r k := ⟨x 0, x 1, eq_ix2 x⟩
    obtain rfl : R = r := Fin.ext h0
    have hC : C.val = 1536 + k.val := h1
    rw [show (⟨C.val / 512, by omega⟩ : Fin 4) = 3 from Fin.ext (by show C.val / 512 = 3; omega), show (⟨C.val % 512, by omega⟩ : Fin 512) = k from Fin.ext (by show C.val % 512 = k.val; omega)]
    refine (o3_at _ _ _ _ _ _ _ R k).trans ?_
    unfold yrow
    pointwise
  · obtain ⟨r, k, rfl⟩ : ∃ (r : Fin 128) (k : Fin 512), x = ix2 r k := ⟨x 0, x 1, eq_ix2 x⟩
    obtain rfl : R = r := Fin.ext h0
    have hC : C.val = 1024 + k.val := h1
    rw [show (⟨C.val / 512, by omega⟩ : Fin 4) = 2 from Fin.ext (by show C.val / 512 = 2; omega), show (⟨C.val % 512, by omega⟩ : Fin 512) = k from Fin.ext (by show C.val % 512 = k.val; omega)]
    refine (o2_at _ _ _ _ _ _ _ R k).trans ?_
    unfold yrow
    pointwise
  · obtain ⟨r, k, rfl⟩ : ∃ (r : Fin 128) (k : Fin 512), x = ix2 r k := ⟨x 0, x 1, eq_ix2 x⟩
    obtain rfl : R = r := Fin.ext h0
    have hC : C.val = 512 + k.val := h1
    rw [show (⟨C.val / 512, by omega⟩ : Fin 4) = 1 from Fin.ext (by show C.val / 512 = 1; omega), show (⟨C.val % 512, by omega⟩ : Fin 512) = k from Fin.ext (by show C.val % 512 = k.val; omega)]
    refine (o1_at _ _ _ _ _ _ _ R k).trans ?_
    unfold yrow
    pointwise
  · obtain ⟨r, k, rfl⟩ : ∃ (r : Fin 128) (k : Fin 512), x = ix2 r k := ⟨x 0, x 1, eq_ix2 x⟩
    obtain rfl : R = r := Fin.ext h0
    have hC : C.val = k.val := h1
    rw [show (⟨C.val / 512, by omega⟩ : Fin 4) = 0 from Fin.ext (by show C.val / 512 = 0; omega), show (⟨C.val % 512, by omega⟩ : Fin 512) = k from Fin.ext (by show C.val % 512 = k.val; omega)]
    refine (o0_at _ _ _ _ _ _ _ R k).trans ?_
    unfold yrow
    pointwise

/-- Stores over earlier stores that they cover leave what they would leave alone. -/
theorem canon_drop {s : Shape} {e : EltTy} (L L' : List (View.Piece (Elt Ideal) s e)) (y : s.Idx) (hc : ∃ p ∈ L, y ∈ p.1.set) :
    View.canon (L ++ L') y = View.canon L y := by
  induction L with
  | nil => obtain ⟨p, hp, _⟩ := hc; exact absurd hp List.not_mem_nil
  | cons p L ih =>
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem _ _ hm, View.canon_cons_of_not_mem _ _ hm]
      refine ih ?_
      obtain ⟨q, hq, hyq⟩ := hc
      rcases List.mem_cons.mp hq with rfl | hq'
      · exact absurd hyq hm
      · exact ⟨q, hq', hyq⟩

/-- The state array after the run: its first layer is new, its second as it was. -/
theorem final5 (c : Dev nD) : (dats m 0 c).arrAt 5 (cfgs 0).N = fun i => if (i 0).val = 0 then W5 m c i else V m c main_v19_1 i := by
  refine (dats m 0 c).arrAt_eq_of_coversWhere 5 _ (fun β => β 0 = 0) (by decide +kernel) (fun t hf y => ?_)
    (fun j => by blk_simp [Pipeline.Window.cell_apply]; omega)
  blk_simp
  rw [after0_5]; unfold Gen.outsAt0; frame_open; simp (disch := decide) only [↓ View.readCov_skip, ↓ View.readCov_cons_toLoadRect, ↓ View.readCov_fill]; frame_out
  obtain ⟨a, b, w, d, l, rfl⟩ : ∃ (a : Fin 1) (b : Fin 1) (w : Fin 4) (d : Fin 256) (l : Fin 512), y = ix5 a b w d l := ⟨y 0, y 1, y 2, y 3, y 4, eq_ix5 y⟩
  have ht := (idx t).2.2.2.2.2.2
  have he : ((View.whole main_v19_1).slice (win0_5.rect t)).emb (ix5 a b w d l) = ix5 0 ⟨t.val, ht⟩ w d l := by
    blk_ext [idx t]
  rw [he]
  show _ = kstate m c ⟨t.val, ht⟩ w d l
  rw [← kstate_of m c t _ _ _ _ rfl rfl rfl rfl, init_at]
  generalize (iblk m c 0 t) = x0
  generalize (iblk m c 1 t) = x1
  generalize (iblk m c 2 t) = x2
  generalize (iblk m c 3 t) = x3
  clear he ht
  refine (canon_drop [_, _, _, _] [_] _ (View.cover_of_tiled_head _ _ _ rfl _)).trans ?_
  obtain rfl : a = 0 := Subsingleton.elim _ _
  obtain rfl : b = 0 := Subsingleton.elim _ _
  canon_tiles x h
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext h3
    obtain rfl : l = l' := Fin.ext h4
    obtain rfl : w = 3 := Fin.ext h2
    refine (s3_at _ _ _ _ _ d l).trans ?_
    unfold srow
    pointwise
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext h3
    obtain rfl : l = l' := Fin.ext h4
    obtain rfl : w = 2 := Fin.ext h2
    refine (s2_at _ _ _ _ _ d l).trans ?_
    unfold srow
    pointwise
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext h3
    obtain rfl : l = l' := Fin.ext h4
    obtain rfl : w = 1 := Fin.ext h2
    refine (s1_at _ _ _ _ _ d l).trans ?_
    unfold srow
    pointwise
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext h3
    obtain rfl : l = l' := Fin.ext h4
    obtain rfl : w = 0 := Fin.ext h2
    refine (s0_at _ _ _ _ _ d l).trans ?_
    unfold srow
    pointwise

/-- An output row of the sixteen rows of a batch element, over the arrays given. -/
theorem krow_ref (c : Dev nD) (b : Fin 32) (h : Fin 4) (r : Fin 16) (l : Fin 512) :
    krow m c b h ⟨r.val, by omega⟩ l = yrow (fun (j : Fin 16) k => (show FVec Ideal S32x16x6144 .bf16 from m ((c : Thread nD τ).loc main_arg0)) (ix3 b j k))
      (fun j d => Cert.RetFRefIdeal.Read.val_main_v21 (F := Ideal) (ix2 j d)) (fun j d => Cert.RetFRefIdeal.Read.val_main_v23 (F := Ideal) (ix2 j d))
      (fun h d l => SA m c (ix5 0 b h d l)) h r l := by
  unfold krow
  rw [yrow_pad]
  have e0 := funext fun j => funext fun k => entry_rows m c b j k
  have e1 := funext fun j => funext fun d => entry_cos m c j d
  have e2 := funext fun j => funext fun d => entry_sin m c j d
  exact congrFun (congrFun (congrFun (congrFun (congr (congr (congrArg yrow e0) e1) e2) _) h) r) l

/-- A new state over the sixteen rows of a batch element, over the arrays given. -/
theorem kstate_ref (c : Dev nD) (b : Fin 32) (h : Fin 4) (d : Fin 256) (l : Fin 512) :
    kstate m c b h d l = srow (fun (j : Fin 16) k => (show FVec Ideal S32x16x6144 .bf16 from m ((c : Thread nD τ).loc main_arg0)) (ix3 b j k))
      (fun j d => Cert.RetFRefIdeal.Read.val_main_v21 (F := Ideal) (ix2 j d)) (fun j d => Cert.RetFRefIdeal.Read.val_main_v23 (F := Ideal) (ix2 j d))
      (fun h d l => SA m c (ix5 0 b h d l)) h d l := by
  unfold kstate
  rw [srow_pad]
  have e0 := funext fun j => funext fun k => entry_rows m c b j k
  have e1 := funext fun j => funext fun d => entry_cos m c j d
  have e2 := funext fun j => funext fun d => entry_sin m c j d
  exact congrFun (congrFun (congrFun (congrFun (congr (congr (congrArg srow e0) e1) e2) _) h) d) l

/-- The gated outputs, padding rows dropped, are the reference's. -/
theorem result_out (c : Dev nD) :
    shapeCast S512x2048 (extractStridedSlice S32x16x2048 ![0, 0, 0] (shapeCast S32x128x2048 (show FVec Ideal S4096x2048 .bf16 from W4 m c) shapeCasts_S4096x2048_S32x128x2048) slices_S32x128x2048_S32x16x2048_0_0_0) shapeCasts_S32x16x2048_S512x2048
      = Cert.RetFRefIdeal.Read.val_main_v149 (F := Ideal) (m ((c : Thread nD τ).loc main_arg0)) (m ((c : Thread nD τ).loc main_arg1)) := by
  funext i
  obtain ⟨R, C, rfl⟩ : ∃ (R : Fin 512) (C : Fin 2048), i = ix2 R C := ⟨i 0, i 1, eq_ix2 i⟩
  have el : shapeCast S512x2048 (extractStridedSlice S32x16x2048 ![0, 0, 0] (shapeCast S32x128x2048 (show FVec Ideal S4096x2048 .bf16 from W4 m c) shapeCasts_S4096x2048_S32x128x2048) slices_S32x128x2048_S32x16x2048_0_0_0) shapeCasts_S32x16x2048_S512x2048 (ix2 R C)
      = W4 m c (ix2 ⟨R.val / 16 * 128 + R.val % 16, by omega⟩ C) := by
    generalize W4 m c = w
    pointwise
  have er : Cert.RetFRefIdeal.Read.val_main_v149 (F := Ideal) (m ((c : Thread nD τ).loc main_arg0)) (m ((c : Thread nD τ).loc main_arg1)) (ix2 R C)
      = Cert.RetFRefIdeal.Read.val_main_v147 (F := Ideal) (m ((c : Thread nD τ).loc main_arg0)) (m ((c : Thread nD τ).loc main_arg1)) (ix3 ⟨R.val / 16, by omega⟩ ⟨R.val % 16, by omega⟩ C) := by
    pointwise [Cert.RetFRefIdeal.Read.val_main_v149, Cert.RetFRefIdeal.Read.val_main_v148]
  rw [el, er, Cert.RetFRefIdeal.RefTerm.o_ref, W4_at m c ⟨R.val / 16, by omega⟩ ⟨C.val / 512, by omega⟩ ⟨R.val % 16, by omega⟩ ⟨C.val % 512, by omega⟩ _ _ rfl (by show C.val = C.val / 512 * 512 + C.val % 512; omega)]
  exact krow_ref m c _ _ ⟨R.val % 16, by omega⟩ _

/-- The host's last result is the output array with the padding rows dropped. -/
theorem tail_out (c : Dev nD) : Pipeline.afterTail₀ cfgs (dats m) 0 (V0 m) [hostOps1] c main_v22
    = shapeCast S512x2048 (extractStridedSlice S32x16x2048 ![0, 0, 0] (shapeCast S32x128x2048 (show FVec Ideal S4096x2048 .bf16 from (dats m 0 c).arrAt 4 (cfgs 0).N) shapeCasts_S4096x2048_S32x128x2048) slices_S32x128x2048_S32x16x2048_0_0_0) shapeCasts_S32x16x2048_S512x2048 := by
  unfold Pipeline.afterTail₀
  simp only [hostOps1, List.flatten_cons, List.flatten_nil, List.append_nil, List.cons_append, List.nil_append, StableHlo.after_cons, StableHlo.after_nil]
  after_results_simp
  have e : Pipeline.withArrays (cfgs 0).spec c (V0 m c) (fun w => (dats m 0 c).arrAt w (cfgs 0).N) (Proc.devRef .tc main_v19_0) = (dats m 0 c).arrAt 4 (cfgs 0).N :=
    Pipeline.withArrays_arr spec0 (by decide) c (V0 m c) _ 4
  rw [e]
  rfl

/-- The host's other result is the state array's first layer. -/
theorem tail_state (c : Dev nD) : Pipeline.afterTail₀ cfgs (dats m) 0 (V0 m) [hostOps1] c main_v24
    = shapeCast S32x4x256x512 (extractStridedSlice S1x32x4x256x512 ![0, 0, 0, 0, 0] (show FVec Ideal S2x32x4x256x512 .f32 from (dats m 0 c).arrAt 5 (cfgs 0).N) slices_S2x32x4x256x512_S1x32x4x256x512_0_0_0_0_0) shapeCasts_S1x32x4x256x512_S32x4x256x512 := by
  unfold Pipeline.afterTail₀
  simp only [hostOps1, List.flatten_cons, List.flatten_nil, List.append_nil, List.cons_append, List.nil_append, StableHlo.after_cons, StableHlo.after_nil]
  after_results_simp
  have e : Pipeline.withArrays (cfgs 0).spec c (V0 m c) (fun w => (dats m 0 c).arrAt w (cfgs 0).N) (Proc.devRef .tc main_v19_1) = (dats m 0 c).arrAt 5 (cfgs 0).N :=
    Pipeline.withArrays_arr spec0 (by decide) c (V0 m c) _ 5
  rw [e]
  rfl

/-- The first layer of an array is read at its index with a zero before it. -/
theorem layer_at (w : FVec Ideal S2x32x4x256x512 .f32) (b : Fin 32) (h : Fin 4) (d : Fin 256) (l : Fin 512) :
    shapeCast S32x4x256x512 (extractStridedSlice S1x32x4x256x512 ![0, 0, 0, 0, 0] w slices_S2x32x4x256x512_S1x32x4x256x512_0_0_0_0_0) shapeCasts_S1x32x4x256x512_S32x4x256x512 (ix4 b h d l)
      = w (ix5 0 b h d l) := by
  pointwise

/-- The new state is the reference's. -/
theorem result_state (c : Dev nD) :
    shapeCast S32x4x256x512 (extractStridedSlice S1x32x4x256x512 ![0, 0, 0, 0, 0] (show FVec Ideal S2x32x4x256x512 .f32 from (dats m 0 c).arrAt 5 (cfgs 0).N) slices_S2x32x4x256x512_S1x32x4x256x512_0_0_0_0_0) shapeCasts_S1x32x4x256x512_S32x4x256x512
      = Cert.RetFRefIdeal.Read.val_main_v132 (F := Ideal) (m ((c : Thread nD τ).loc main_arg0)) (m ((c : Thread nD τ).loc main_arg1)) := by
  rw [final5]
  funext i
  obtain ⟨b, h, d, l, rfl⟩ : ∃ (b : Fin 32) (h : Fin 4) (d : Fin 256) (l : Fin 512), i = ix4 b h d l := ⟨i 0, i 1, i 2, i 3, eq_ix4 i⟩
  refine (layer_at _ b h d l).trans ?_
  show kstate m c b h d l = _
  rw [kstate_ref]
  exact (Cert.RetFRefIdeal.RefTerm.s_ref _ _ b h d l).symm

end Cert.RetFIdeal.RefValue

namespace Cert.Proof.RetF

/-- The first layer's retention: the kernel's gated outputs and new state equal the reference's on the same arguments. -/
theorem algebraic : Cert.algebraic_RetFIdeal_RetFRefIdeal := by
  intro m g m' g' _ hagree
  refine ⟨fun c => Cert.RetFRefIdeal.Read.val_main_v149 (F := Ideal) (m ((c.tc : Thread Cert.RetFIdeal.nD Cert.RetFIdeal.τ).loc Cert.RetFIdeal.main_arg0)) (m ((c.tc : Thread Cert.RetFIdeal.nD Cert.RetFIdeal.τ).loc Cert.RetFIdeal.main_arg1)),
    fun c => Cert.RetFRefIdeal.Read.val_main_v132 (F := Ideal) (m ((c.tc : Thread Cert.RetFIdeal.nD Cert.RetFIdeal.τ).loc Cert.RetFIdeal.main_arg0)) (m ((c.tc : Thread Cert.RetFIdeal.nD Cert.RetFIdeal.τ).loc Cert.RetFIdeal.main_arg1)), ?_, ?_⟩
  · refine (θ_run Cert.RetFIdeal.defs _ _).mono (fun r h c => ⟨?_, ?_, h.2 c⟩)
      (θ_run_and (Cert.RetFIdeal.Gen.run_main (F := Ideal) m g) (Cert.RetFIdeal.Gen.unchanged (F := Ideal) m g))
    · refine ((h.1 c).2 Cert.RetFIdeal.main_v22 (Pipeline.mem_restRefs_of Cert.RetFIdeal.main_v22 (by decide) (by decide))).trans ?_
      rw [Cert.RetFIdeal.RefValue.tail_out, Cert.RetFIdeal.RefValue.final4]
      exact Cert.RetFIdeal.RefValue.result_out m c
    · refine ((h.1 c).2 Cert.RetFIdeal.main_v24 (Pipeline.mem_restRefs_of Cert.RetFIdeal.main_v24 (by decide) (by decide))).trans ?_
      rw [Cert.RetFIdeal.RefValue.tail_state]
      exact Cert.RetFIdeal.RefValue.result_state m c
  · refine (θ_run Cert.RetFRefIdeal.defs _ _).mono (fun r h c => ⟨(h c).1.trans ?_, (h c).2.1.trans ?_, (h c).2.2⟩)
      (Cert.RetFRefIdeal.Value.run (F := Ideal) m' g')
    · obtain ⟨a0, a1⟩ := hagree c
      refine (Cert.RetFRefIdeal.Read.val_main_v149_eq _).trans ?_
      exact congr (congrArg (Cert.RetFRefIdeal.Read.val_main_v149 (F := Ideal)) a0) a1
    · obtain ⟨a0, a1⟩ := hagree c
      refine (Cert.RetFRefIdeal.Read.val_main_v132_eq _).trans ?_
      exact congr (congrArg (Cert.RetFRefIdeal.Read.val_main_v132 (F := Ideal)) a0) a1

end Cert.Proof.RetF
-- ==== Proof.MixRefF.lean ====
module

public import proofs.«01_k».proof.Defs
public import proofs.«01_k».proof.Proof.MixRow
public import proofs.«01_k».proof.Proof.Gen.MixersFRefIdeal.Read
public import Idealize.ShloMosaic.Lib.Pointwise
public import Idealize.ShloMosaic.Lib.Pipeline.ValueKit

@[expose] public section
set_option maxRecDepth 16384

noncomputable section

open Idealize.ShloMosaic
open Cert.Proof.RetRow Cert.Proof.MixRow

/-! What the reference's retention state is after each of its chunks of 64 rows. -/

namespace Cert.MixersFRefIdeal.RefTerm
open Cert.MixersFRefIdeal Cert.MixersFRefIdeal.Gen Cert.MixersFRefIdeal.Read

/-- One chunk of the retention recurrence, read at an index. -/
theorem step_at (n : ℕ) (hn : n < 32) (K : FVec Ideal S32x32x4x64x256 .f32) (W : FVec Ideal S32x32x4x64x512 .f32) (S : FVec Ideal S32x4x256x512 .f32)
    (g : FVec Ideal S1x4x1x1 .f32) (kd : FVec Ideal S1x4x64x1 .f32)
    (h1 : S32x32x4x64x256.Slices ![n, 0, 0, 0, 0] S1x32x4x64x256) (h2 : S32x32x4x64x512.Slices ![n, 0, 0, 0, 0] S1x32x4x64x512)
    (b : Fin 32) (h : Fin 4) (d : Fin 256) (l : Fin 512) :
    addf (mulf S (broadcastInDim S32x4x256x512 ![0, 1, 2, 3] bcast_S1x4x1x1_S32x4x256x512_0_1_2_3 g))
      (Host.dotGeneral dot_S32x4x64x256_S32x4x64x512_S32x4x256x512_2_2_3_3_01_01 none
        (mulf (shapeCast S32x4x64x256 (extractStridedSlice S1x32x4x64x256 ![n, 0, 0, 0, 0] K h1) shapeCasts_S1x32x4x64x256_S32x4x64x256)
          (broadcastInDim S32x4x64x256 ![0, 1, 2, 3] bcast_S1x4x64x1_S32x4x64x256_0_1_2_3 kd))
        (shapeCast S32x4x64x512 (extractStridedSlice S1x32x4x64x512 ![n, 0, 0, 0, 0] W h2) shapeCasts_S1x32x4x64x512_S32x4x64x512)) (ix4 b h d l)
      = S (ix4 b h d l) * g (ix4 0 h 0 0) + ∑ j : Fin 64, (K (ix5 ⟨n, hn⟩ b h j d) * kd (ix4 0 h j 0)) * W (ix5 ⟨n, hn⟩ b h j l) := by
  pointwise

/-- The logarithm of each head's decay. -/
theorem lg_ref (h : Fin 4) : val_main_v52 (F := Ideal) (ix1 h) = (lg h.val : EReal) := by
  have e : val_main_v52 (F := Ideal) (ix1 h) = Ideal.log (1 - Ideal.pow ((2 : ℝ) : EReal) (((-5 : ℝ) : EReal) - FloatOps.sitofp (F := Ideal) .f32 (BitVec.ofNat 32 h.val))) := by
    pointwise [val_main_v52, val_main_v51, val_main_v50, val_main_cst_6, val_main_v49, val_main_v48, val_main_cst_5, val_main_v47, val_main_v46, val_main_cst_4, val_main_v45, word2, word_neg5]
  rw [e, float_pos _ (by omega), lg_at]

/-- The decay to a chunk's end. -/
theorem kd_ref (h : Fin 4) (j : Fin 64) : val_main_v61 (F := Ideal) (ix2 h j) = dec (lg h.val) (64 - 1 - j.val) := by
  have e : val_main_v61 (F := Ideal) (ix2 h j) = Ideal.exp ((((63 : ℝ) : EReal) - FloatOps.sitofp (F := Ideal) .f32 (BitVec.ofNat 32 j.val)) * (lg h.val : EReal)) := by
    pointwise [val_main_v61, val_main_v60, val_main_v59, val_main_v58, val_main_v57, val_main_v56, val_main_v55, val_main_v54, val_main_cst_7, val_main_v53, lg_ref, word63]
  rw [e, float_pos _ (by omega), kd64_at]

/-- The decay over a whole chunk. -/
theorem g64_ref (h : Fin 4) : val_main_v65 (F := Ideal) (ix1 h) = dec (lg h.val) 64 := by
  have e : val_main_v65 (F := Ideal) (ix1 h) = Ideal.exp (((64 : ℝ) : EReal) * (lg h.val : EReal)) := by
    pointwise [val_main_v65, val_main_v64, val_main_v63, val_main_cst_8, lg_ref, word64]
  rw [e, g64_at]

/-- The rotated and scaled key. -/
theorem k_ref (X : FVec Ideal S32x2048x6144 .bf16) (b : Fin 32) (r : Fin 2048) (h : Fin 4) (d : Fin 256) :
    val_main_v38 (F := Ideal) X (ix4 b r h d)
      = key (fun d => X (ix3 b r ⟨1024 + h.val * 256 + d.val, by omega⟩)) (fun d => val_main_v20 (F := Ideal) (ix2 r d)) (fun d => val_main_v22 (F := Ideal) (ix2 r d)) d := by
  pointwise [val_main_v38, val_main_v37, val_main_cst_2, val_main_v36, val_main_v35, val_main_v34, val_main_v33, val_main_v32, val_main_v31, val_main_v30, val_main_v29, val_main_v28, val_main_v27, val_main_v26, val_main_v25, val_main_v24, val_main_v23, val_main_v21, val_main_v9, val_main_v6, val_main_v4, key, rope, Nat.add_assoc]

/-- The value. -/
theorem v_ref (X : FVec Ideal S32x2048x6144 .bf16) (b : Fin 32) (r : Fin 2048) (h : Fin 4) (l : Fin 512) :
    val_main_v39 (F := Ideal) X (ix4 b r h l) = X (ix3 b r ⟨2048 + h.val * 512 + l.val, by omega⟩) := by
  pointwise [val_main_v39, val_main_v7, val_main_v4, Nat.add_assoc]

/-- The keys cut into chunks. -/
theorem kc_ref (X : FVec Ideal S32x2048x6144 .bf16) (n b : Fin 32) (h : Fin 4) (j : Fin 64) (d : Fin 256) :
    val_main_v42 (F := Ideal) X (ix5 n b h j d) = val_main_v38 (F := Ideal) X (ix4 b ⟨n.val * 64 + j.val, by omega⟩ h d) := by
  pointwise [val_main_v42, val_main_v41]

/-- The values cut into chunks. -/
theorem vc_ref (X : FVec Ideal S32x2048x6144 .bf16) (n b : Fin 32) (h : Fin 4) (j : Fin 64) (l : Fin 512) :
    val_main_v44 (F := Ideal) X (ix5 n b h j l) = val_main_v39 (F := Ideal) X (ix4 b ⟨n.val * 64 + j.val, by omega⟩ h l) := by
  pointwise [val_main_v44, val_main_v43]

/-- The state of head `h` of batch element `b` after `n` rows, over the projections given. -/
def stateR (X : FVec Ideal S32x2048x6144 .bf16) (b : Fin 32) (h : Fin 4) (d : Fin 256) (l : Fin 512) (n : ℕ) : EReal :=
  state (fun r k => X (ix3 b r k)) (fun r d => val_main_v20 (F := Ideal) (ix2 r d)) (fun r d => val_main_v22 (F := Ideal) (ix2 r d)) h d l n

/-- The decay over a whole chunk, as the recurrence multiplies by it. -/
theorem g_ref (h : Fin 4) : val_main_v66 (F := Ideal) (ix4 0 h 0 0) = dec (lg h.val) 64 := by
  rw [← g64_ref]
  pointwise [val_main_v66]

/-- The decay to a chunk's end, as the recurrence multiplies by it. -/
theorem kdec_ref (h : Fin 4) (j : Fin 64) : val_main_v62 (F := Ideal) (ix4 0 h j 0) = dec (lg h.val) (64 - 1 - j.val) := by
  rw [← kd_ref]
  pointwise [val_main_v62]

/-- One chunk of the recurrence carries the state 64 rows on. -/
theorem step_ref (X : FVec Ideal S32x2048x6144 .bf16) (n : ℕ) (hn : n < 32) (b : Fin 32) (h : Fin 4) (d : Fin 256) (l : Fin 512) (s : EReal) (hs : s = stateR X b h d l (n * 64)) :
    s * val_main_v66 (F := Ideal) (ix4 0 h 0 0) + ∑ j : Fin 64, (val_main_v42 (F := Ideal) X (ix5 ⟨n, hn⟩ b h j d) * val_main_v62 (F := Ideal) (ix4 0 h j 0)) * val_main_v44 (F := Ideal) X (ix5 ⟨n, hn⟩ b h j l)
      = stateR X b h d l (n * 64 + 64) := by
  refine Eq.trans ?_ (state_64 (fun r k => X (ix3 b r k)) (fun r d => val_main_v20 (F := Ideal) (ix2 r d)) (fun r d => val_main_v22 (F := Ideal) (ix2 r d)) h d l (n * 64) (by omega) s hs)
  rw [g_ref]
  refine congrArg (fun x : EReal => s * dec (lg h.val) 64 + x) ?_
  refine Finset.sum_congr rfl fun j _ => ?_
  rw [kdec_ref, kc_ref, vc_ref, k_ref, v_ref]

/-- The state starts at zero. -/
theorem st0 (X : FVec Ideal S32x2048x6144 .bf16) (b : Fin 32) (h : Fin 4) (d : Fin 256) (l : Fin 512) : val_main_v40 (F := Ideal) (ix4 b h d l) = stateR X b h d l 0 := by
  rw [stateR, state, acc_zero]
  pointwise [val_main_v40, val_main_cst_3]

/-- The state after chunk 0. -/
theorem st1 (X : FVec Ideal S32x2048x6144 .bf16) (b : Fin 32) (h : Fin 4) (d : Fin 256) (l : Fin 512) :
    val_main_v76 (F := Ideal) X (ix4 b h d l) = stateR X b h d l (0 * 64 + 64) := by
  unfold val_main_v76 val_main_v75 val_main_v74 val_main_v73 val_main_v72 val_main_v71 val_main_v70 val_main_v69 val_main_v68 val_main_v67
  refine (step_at 0 (by omega) (val_main_v42 (F := Ideal) X) (val_main_v44 (F := Ideal) X) (val_main_v40 (F := Ideal)) (val_main_v66 (F := Ideal)) (val_main_v62 (F := Ideal)) _ _ b h d l).trans ?_
  exact step_ref X 0 (by omega) b h d l _ (st0 X b h d l)

/-- The state after chunk 1. -/
theorem st2 (X : FVec Ideal S32x2048x6144 .bf16) (b : Fin 32) (h : Fin 4) (d : Fin 256) (l : Fin 512) :
    val_main_v86 (F := Ideal) X (ix4 b h d l) = stateR X b h d l (1 * 64 + 64) := by
  unfold val_main_v86 val_main_v85 val_main_v84 val_main_v83 val_main_v82 val_main_v81 val_main_v80 val_main_v79 val_main_v78 val_main_v77
  refine (step_at 1 (by omega) (val_main_v42 (F := Ideal) X) (val_main_v44 (F := Ideal) X) (val_main_v76 (F := Ideal) X) (val_main_v66 (F := Ideal)) (val_main_v62 (F := Ideal)) _ _ b h d l).trans ?_
  exact step_ref X 1 (by omega) b h d l _ (st1 X b h d l)

/-- The state after chunk 2. -/
theorem st3 (X : FVec Ideal S32x2048x6144 .bf16) (b : Fin 32) (h : Fin 4) (d : Fin 256) (l : Fin 512) :
    val_main_v96 (F := Ideal) X (ix4 b h d l) = stateR X b h d l (2 * 64 + 64) := by
  unfold val_main_v96 val_main_v95 val_main_v94 val_main_v93 val_main_v92 val_main_v91 val_main_v90 val_main_v89 val_main_v88 val_main_v87
  refine (step_at 2 (by omega) (val_main_v42 (F := Ideal) X) (val_main_v44 (F := Ideal) X) (val_main_v86 (F := Ideal) X) (val_main_v66 (F := Ideal)) (val_main_v62 (F := Ideal)) _ _ b h d l).trans ?_
  exact step_ref X 2 (by omega) b h d l _ (st2 X b h d l)

/-- The state after chunk 3. -/
theorem st4 (X : FVec Ideal S32x2048x6144 .bf16) (b : Fin 32) (h : Fin 4) (d : Fin 256) (l : Fin 512) :
    val_main_v106 (F := Ideal) X (ix4 b h d l) = stateR X b h d l (3 * 64 + 64) := by
  unfold val_main_v106 val_main_v105 val_main_v104 val_main_v103 val_main_v102 val_main_v101 val_main_v100 val_main_v99 val_main_v98 val_main_v97
  refine (step_at 3 (by omega) (val_main_v42 (F := Ideal) X) (val_main_v44 (F := Ideal) X) (val_main_v96 (F := Ideal) X) (val_main_v66 (F := Ideal)) (val_main_v62 (F := Ideal)) _ _ b h d l).trans ?_
  exact step_ref X 3 (by omega) b h d l _ (st3 X b h d l)

/-- The state after chunk 4. -/
theorem st5 (X : FVec Ideal S32x2048x6144 .bf16) (b : Fin 32) (h : Fin 4) (d : Fin 256) (l : Fin 512) :
    val_main_v116 (F := Ideal) X (ix4 b h d l) = stateR X b h d l (4 * 64 + 64) := by
  unfold val_main_v116 val_main_v115 val_main_v114 val_main_v113 val_main_v112 val_main_v111 val_main_v110 val_main_v109 val_main_v108 val_main_v107
  refine (step_at 4 (by omega) (val_main_v42 (F := Ideal) X) (val_main_v44 (F := Ideal) X) (val_main_v106 (F := Ideal) X) (val_main_v66 (F := Ideal)) (val_main_v62 (F := Ideal)) _ _ b h d l).trans ?_
  exact step_ref X 4 (by omega) b h d l _ (st4 X b h d l)

/-- The state after chunk 5. -/
theorem st6 (X : FVec Ideal S32x2048x6144 .bf16) (b : Fin 32) (h : Fin 4) (d : Fin 256) (l : Fin 512) :
    val_main_v126 (F := Ideal) X (ix4 b h d l) = stateR X b h d l (5 * 64 + 64) := by
  unfold val_main_v126 val_main_v125 val_main_v124 val_main_v123 val_main_v122 val_main_v121 val_main_v120 val_main_v119 val_main_v118 val_main_v117
  refine (step_at 5 (by omega) (val_main_v42 (F := Ideal) X) (val_main_v44 (F := Ideal) X) (val_main_v116 (F := Ideal) X) (val_main_v66 (F := Ideal)) (val_main_v62 (F := Ideal)) _ _ b h d l).trans ?_
  exact step_ref X 5 (by omega) b h d l _ (st5 X b h d l)

/-- The state after chunk 6. -/
theorem st7 (X : FVec Ideal S32x2048x6144 .bf16) (b : Fin 32) (h : Fin 4) (d : Fin 256) (l : Fin 512) :
    val_main_v136 (F := Ideal) X (ix4 b h d l) = stateR X b h d l (6 * 64 + 64) := by
  unfold val_main_v136 val_main_v135 val_main_v134 val_main_v133 val_main_v132 val_main_v131 val_main_v130 val_main_v129 val_main_v128 val_main_v127
  refine (step_at 6 (by omega) (val_main_v42 (F := Ideal) X) (val_main_v44 (F := Ideal) X) (val_main_v126 (F := Ideal) X) (val_main_v66 (F := Ideal)) (val_main_v62 (F := Ideal)) _ _ b h d l).trans ?_
  exact step_ref X 6 (by omega) b h d l _ (st6 X b h d l)

/-- The state after chunk 7. -/
theorem st8 (X : FVec Ideal S32x2048x6144 .bf16) (b : Fin 32) (h : Fin 4) (d : Fin 256) (l : Fin 512) :
    val_main_v146 (F := Ideal) X (ix4 b h d l) = stateR X b h d l (7 * 64 + 64) := by
  unfold val_main_v146 val_main_v145 val_main_v144 val_main_v143 val_main_v142 val_main_v141 val_main_v140 val_main_v139 val_main_v138 val_main_v137
  refine (step_at 7 (by omega) (val_main_v42 (F := Ideal) X) (val_main_v44 (F := Ideal) X) (val_main_v136 (F := Ideal) X) (val_main_v66 (F := Ideal)) (val_main_v62 (F := Ideal)) _ _ b h d l).trans ?_
  exact step_ref X 7 (by omega) b h d l _ (st7 X b h d l)

/-- The state after chunk 8. -/
theorem st9 (X : FVec Ideal S32x2048x6144 .bf16) (b : Fin 32) (h : Fin 4) (d : Fin 256) (l : Fin 512) :
    val_main_v156 (F := Ideal) X (ix4 b h d l) = stateR X b h d l (8 * 64 + 64) := by
  unfold val_main_v156 val_main_v155 val_main_v154 val_main_v153 val_main_v152 val_main_v151 val_main_v150 val_main_v149 val_main_v148 val_main_v147
  refine (step_at 8 (by omega) (val_main_v42 (F := Ideal) X) (val_main_v44 (F := Ideal) X) (val_main_v146 (F := Ideal) X) (val_main_v66 (F := Ideal)) (val_main_v62 (F := Ideal)) _ _ b h d l).trans ?_
  exact step_ref X 8 (by omega) b h d l _ (st8 X b h d l)

/-- The state after chunk 9. -/
theorem st10 (X : FVec Ideal S32x2048x6144 .bf16) (b : Fin 32) (h : Fin 4) (d : Fin 256) (l : Fin 512) :
    val_main_v166 (F := Ideal) X (ix4 b h d l) = stateR X b h d l (9 * 64 + 64) := by
  unfold val_main_v166 val_main_v165 val_main_v164 val_main_v163 val_main_v162 val_main_v161 val_main_v160 val_main_v159 val_main_v158 val_main_v157
  refine (step_at 9 (by omega) (val_main_v42 (F := Ideal) X) (val_main_v44 (F := Ideal) X) (val_main_v156 (F := Ideal) X) (val_main_v66 (F := Ideal)) (val_main_v62 (F := Ideal)) _ _ b h d l).trans ?_
  exact step_ref X 9 (by omega) b h d l _ (st9 X b h d l)

/-- The state after chunk 10. -/
theorem st11 (X : FVec Ideal S32x2048x6144 .bf16) (b : Fin 32) (h : Fin 4) (d : Fin 256) (l : Fin 512) :
    val_main_v176 (F := Ideal) X (ix4 b h d l) = stateR X b h d l (10 * 64 + 64) := by
  unfold val_main_v176 val_main_v175 val_main_v174 val_main_v173 val_main_v172 val_main_v171 val_main_v170 val_main_v169 val_main_v168 val_main_v167
  refine (step_at 10 (by omega) (val_main_v42 (F := Ideal) X) (val_main_v44 (F := Ideal) X) (val_main_v166 (F := Ideal) X) (val_main_v66 (F := Ideal)) (val_main_v62 (F := Ideal)) _ _ b h d l).trans ?_
  exact step_ref X 10 (by omega) b h d l _ (st10 X b h d l)

/-- The state after chunk 11. -/
theorem st12 (X : FVec Ideal S32x2048x6144 .bf16) (b : Fin 32) (h : Fin 4) (d : Fin 256) (l : Fin 512) :
    val_main_v186 (F := Ideal) X (ix4 b h d l) = stateR X b h d l (11 * 64 + 64) := by
  unfold val_main_v186 val_main_v185 val_main_v184 val_main_v183 val_main_v182 val_main_v181 val_main_v180 val_main_v179 val_main_v178 val_main_v177
  refine (step_at 11 (by omega) (val_main_v42 (F := Ideal) X) (val_main_v44 (F := Ideal) X) (val_main_v176 (F := Ideal) X) (val_main_v66 (F := Ideal)) (val_main_v62 (F := Ideal)) _ _ b h d l).trans ?_
  exact step_ref X 11 (by omega) b h d l _ (st11 X b h d l)

/-- The state after chunk 12. -/
theorem st13 (X : FVec Ideal S32x2048x6144 .bf16) (b : Fin 32) (h : Fin 4) (d : Fin 256) (l : Fin 512) :
    val_main_v196 (F := Ideal) X (ix4 b h d l) = stateR X b h d l (12 * 64 + 64) := by
  unfold val_main_v196 val_main_v195 val_main_v194 val_main_v193 val_main_v192 val_main_v191 val_main_v190 val_main_v189 val_main_v188 val_main_v187
  refine (step_at 12 (by omega) (val_main_v42 (F := Ideal) X) (val_main_v44 (F := Ideal) X) (val_main_v186 (F := Ideal) X) (val_main_v66 (F := Ideal)) (val_main_v62 (F := Ideal)) _ _ b h d l).trans ?_
  exact step_ref X 12 (by omega) b h d l _ (st12 X b h d l)

/-- The state after chunk 13. -/
theorem st14 (X : FVec Ideal S32x2048x6144 .bf16) (b : Fin 32) (h : Fin 4) (d : Fin 256) (l : Fin 512) :
    val_main_v206 (F := Ideal) X (ix4 b h d l) = stateR X b h d l (13 * 64 + 64) := by
  unfold val_main_v206 val_main_v205 val_main_v204 val_main_v203 val_main_v202 val_main_v201 val_main_v200 val_main_v199 val_main_v198 val_main_v197
  refine (step_at 13 (by omega) (val_main_v42 (F := Ideal) X) (val_main_v44 (F := Ideal) X) (val_main_v196 (F := Ideal) X) (val_main_v66 (F := Ideal)) (val_main_v62 (F := Ideal)) _ _ b h d l).trans ?_
  exact step_ref X 13 (by omega) b h d l _ (st13 X b h d l)

/-- The state after chunk 14. -/
theorem st15 (X : FVec Ideal S32x2048x6144 .bf16) (b : Fin 32) (h : Fin 4) (d : Fin 256) (l : Fin 512) :
    val_main_v216 (F := Ideal) X (ix4 b h d l) = stateR X b h d l (14 * 64 + 64) := by
  unfold val_main_v216 val_main_v215 val_main_v214 val_main_v213 val_main_v212 val_main_v211 val_main_v210 val_main_v209 val_main_v208 val_main_v207
  refine (step_at 14 (by omega) (val_main_v42 (F := Ideal) X) (val_main_v44 (F := Ideal) X) (val_main_v206 (F := Ideal) X) (val_main_v66 (F := Ideal)) (val_main_v62 (F := Ideal)) _ _ b h d l).trans ?_
  exact step_ref X 14 (by omega) b h d l _ (st14 X b h d l)

/-- The state after chunk 15. -/
theorem st16 (X : FVec Ideal S32x2048x6144 .bf16) (b : Fin 32) (h : Fin 4) (d : Fin 256) (l : Fin 512) :
    val_main_v226 (F := Ideal) X (ix4 b h d l) = stateR X b h d l (15 * 64 + 64) := by
  unfold val_main_v226 val_main_v225 val_main_v224 val_main_v223 val_main_v222 val_main_v221 val_main_v220 val_main_v219 val_main_v218 val_main_v217
  refine (step_at 15 (by omega) (val_main_v42 (F := Ideal) X) (val_main_v44 (F := Ideal) X) (val_main_v216 (F := Ideal) X) (val_main_v66 (F := Ideal)) (val_main_v62 (F := Ideal)) _ _ b h d l).trans ?_
  exact step_ref X 15 (by omega) b h d l _ (st15 X b h d l)

/-- The state after chunk 16. -/
theorem st17 (X : FVec Ideal S32x2048x6144 .bf16) (b : Fin 32) (h : Fin 4) (d : Fin 256) (l : Fin 512) :
    val_main_v236 (F := Ideal) X (ix4 b h d l) = stateR X b h d l (16 * 64 + 64) := by
  unfold val_main_v236 val_main_v235 val_main_v234 val_main_v233 val_main_v232 val_main_v231 val_main_v230 val_main_v229 val_main_v228 val_main_v227
  refine (step_at 16 (by omega) (val_main_v42 (F := Ideal) X) (val_main_v44 (F := Ideal) X) (val_main_v226 (F := Ideal) X) (val_main_v66 (F := Ideal)) (val_main_v62 (F := Ideal)) _ _ b h d l).trans ?_
  exact step_ref X 16 (by omega) b h d l _ (st16 X b h d l)

/-- The state after chunk 17. -/
theorem st18 (X : FVec Ideal S32x2048x6144 .bf16) (b : Fin 32) (h : Fin 4) (d : Fin 256) (l : Fin 512) :
    val_main_v246 (F := Ideal) X (ix4 b h d l) = stateR X b h d l (17 * 64 + 64) := by
  unfold val_main_v246 val_main_v245 val_main_v244 val_main_v243 val_main_v242 val_main_v241 val_main_v240 val_main_v239 val_main_v238 val_main_v237
  refine (step_at 17 (by omega) (val_main_v42 (F := Ideal) X) (val_main_v44 (F := Ideal) X) (val_main_v236 (F := Ideal) X) (val_main_v66 (F := Ideal)) (val_main_v62 (F := Ideal)) _ _ b h d l).trans ?_
  exact step_ref X 17 (by omega) b h d l _ (st17 X b h d l)

/-- The state after chunk 18. -/
theorem st19 (X : FVec Ideal S32x2048x6144 .bf16) (b : Fin 32) (h : Fin 4) (d : Fin 256) (l : Fin 512) :
    val_main_v256 (F := Ideal) X (ix4 b h d l) = stateR X b h d l (18 * 64 + 64) := by
  unfold val_main_v256 val_main_v255 val_main_v254 val_main_v253 val_main_v252 val_main_v251 val_main_v250 val_main_v249 val_main_v248 val_main_v247
  refine (step_at 18 (by omega) (val_main_v42 (F := Ideal) X) (val_main_v44 (F := Ideal) X) (val_main_v246 (F := Ideal) X) (val_main_v66 (F := Ideal)) (val_main_v62 (F := Ideal)) _ _ b h d l).trans ?_
  exact step_ref X 18 (by omega) b h d l _ (st18 X b h d l)

/-- The state after chunk 19. -/
theorem st20 (X : FVec Ideal S32x2048x6144 .bf16) (b : Fin 32) (h : Fin 4) (d : Fin 256) (l : Fin 512) :
    val_main_v266 (F := Ideal) X (ix4 b h d l) = stateR X b h d l (19 * 64 + 64) := by
  unfold val_main_v266 val_main_v265 val_main_v264 val_main_v263 val_main_v262 val_main_v261 val_main_v260 val_main_v259 val_main_v258 val_main_v257
  refine (step_at 19 (by omega) (val_main_v42 (F := Ideal) X) (val_main_v44 (F := Ideal) X) (val_main_v256 (F := Ideal) X) (val_main_v66 (F := Ideal)) (val_main_v62 (F := Ideal)) _ _ b h d l).trans ?_
  exact step_ref X 19 (by omega) b h d l _ (st19 X b h d l)

/-- The state after chunk 20. -/
theorem st21 (X : FVec Ideal S32x2048x6144 .bf16) (b : Fin 32) (h : Fin 4) (d : Fin 256) (l : Fin 512) :
    val_main_v276 (F := Ideal) X (ix4 b h d l) = stateR X b h d l (20 * 64 + 64) := by
  unfold val_main_v276 val_main_v275 val_main_v274 val_main_v273 val_main_v272 val_main_v271 val_main_v270 val_main_v269 val_main_v268 val_main_v267
  refine (step_at 20 (by omega) (val_main_v42 (F := Ideal) X) (val_main_v44 (F := Ideal) X) (val_main_v266 (F := Ideal) X) (val_main_v66 (F := Ideal)) (val_main_v62 (F := Ideal)) _ _ b h d l).trans ?_
  exact step_ref X 20 (by omega) b h d l _ (st20 X b h d l)

/-- The state after chunk 21. -/
theorem st22 (X : FVec Ideal S32x2048x6144 .bf16) (b : Fin 32) (h : Fin 4) (d : Fin 256) (l : Fin 512) :
    val_main_v286 (F := Ideal) X (ix4 b h d l) = stateR X b h d l (21 * 64 + 64) := by
  unfold val_main_v286 val_main_v285 val_main_v284 val_main_v283 val_main_v282 val_main_v281 val_main_v280 val_main_v279 val_main_v278 val_main_v277
  refine (step_at 21 (by omega) (val_main_v42 (F := Ideal) X) (val_main_v44 (F := Ideal) X) (val_main_v276 (F := Ideal) X) (val_main_v66 (F := Ideal)) (val_main_v62 (F := Ideal)) _ _ b h d l).trans ?_
  exact step_ref X 21 (by omega) b h d l _ (st21 X b h d l)

/-- The state after chunk 22. -/
theorem st23 (X : FVec Ideal S32x2048x6144 .bf16) (b : Fin 32) (h : Fin 4) (d : Fin 256) (l : Fin 512) :
    val_main_v296 (F := Ideal) X (ix4 b h d l) = stateR X b h d l (22 * 64 + 64) := by
  unfold val_main_v296 val_main_v295 val_main_v294 val_main_v293 val_main_v292 val_main_v291 val_main_v290 val_main_v289 val_main_v288 val_main_v287
  refine (step_at 22 (by omega) (val_main_v42 (F := Ideal) X) (val_main_v44 (F := Ideal) X) (val_main_v286 (F := Ideal) X) (val_main_v66 (F := Ideal)) (val_main_v62 (F := Ideal)) _ _ b h d l).trans ?_
  exact step_ref X 22 (by omega) b h d l _ (st22 X b h d l)

/-- The state after chunk 23. -/
theorem st24 (X : FVec Ideal S32x2048x6144 .bf16) (b : Fin 32) (h : Fin 4) (d : Fin 256) (l : Fin 512) :
    val_main_v306 (F := Ideal) X (ix4 b h d l) = stateR X b h d l (23 * 64 + 64) := by
  unfold val_main_v306 val_main_v305 val_main_v304 val_main_v303 val_main_v302 val_main_v301 val_main_v300 val_main_v299 val_main_v298 val_main_v297
  refine (step_at 23 (by omega) (val_main_v42 (F := Ideal) X) (val_main_v44 (F := Ideal) X) (val_main_v296 (F := Ideal) X) (val_main_v66 (F := Ideal)) (val_main_v62 (F := Ideal)) _ _ b h d l).trans ?_
  exact step_ref X 23 (by omega) b h d l _ (st23 X b h d l)

/-- The state after chunk 24. -/
theorem st25 (X : FVec Ideal S32x2048x6144 .bf16) (b : Fin 32) (h : Fin 4) (d : Fin 256) (l : Fin 512) :
    val_main_v316 (F := Ideal) X (ix4 b h d l) = stateR X b h d l (24 * 64 + 64) := by
  unfold val_main_v316 val_main_v315 val_main_v314 val_main_v313 val_main_v312 val_main_v311 val_main_v310 val_main_v309 val_main_v308 val_main_v307
  refine (step_at 24 (by omega) (val_main_v42 (F := Ideal) X) (val_main_v44 (F := Ideal) X) (val_main_v306 (F := Ideal) X) (val_main_v66 (F := Ideal)) (val_main_v62 (F := Ideal)) _ _ b h d l).trans ?_
  exact step_ref X 24 (by omega) b h d l _ (st24 X b h d l)

/-- The state after chunk 25. -/
theorem st26 (X : FVec Ideal S32x2048x6144 .bf16) (b : Fin 32) (h : Fin 4) (d : Fin 256) (l : Fin 512) :
    val_main_v326 (F := Ideal) X (ix4 b h d l) = stateR X b h d l (25 * 64 + 64) := by
  unfold val_main_v326 val_main_v325 val_main_v324 val_main_v323 val_main_v322 val_main_v321 val_main_v320 val_main_v319 val_main_v318 val_main_v317
  refine (step_at 25 (by omega) (val_main_v42 (F := Ideal) X) (val_main_v44 (F := Ideal) X) (val_main_v316 (F := Ideal) X) (val_main_v66 (F := Ideal)) (val_main_v62 (F := Ideal)) _ _ b h d l).trans ?_
  exact step_ref X 25 (by omega) b h d l _ (st25 X b h d l)

/-- The state after chunk 26. -/
theorem st27 (X : FVec Ideal S32x2048x6144 .bf16) (b : Fin 32) (h : Fin 4) (d : Fin 256) (l : Fin 512) :
    val_main_v336 (F := Ideal) X (ix4 b h d l) = stateR X b h d l (26 * 64 + 64) := by
  unfold val_main_v336 val_main_v335 val_main_v334 val_main_v333 val_main_v332 val_main_v331 val_main_v330 val_main_v329 val_main_v328 val_main_v327
  refine (step_at 26 (by omega) (val_main_v42 (F := Ideal) X) (val_main_v44 (F := Ideal) X) (val_main_v326 (F := Ideal) X) (val_main_v66 (F := Ideal)) (val_main_v62 (F := Ideal)) _ _ b h d l).trans ?_
  exact step_ref X 26 (by omega) b h d l _ (st26 X b h d l)

/-- The state after chunk 27. -/
theorem st28 (X : FVec Ideal S32x2048x6144 .bf16) (b : Fin 32) (h : Fin 4) (d : Fin 256) (l : Fin 512) :
    val_main_v346 (F := Ideal) X (ix4 b h d l) = stateR X b h d l (27 * 64 + 64) := by
  unfold val_main_v346 val_main_v345 val_main_v344 val_main_v343 val_main_v342 val_main_v341 val_main_v340 val_main_v339 val_main_v338 val_main_v337
  refine (step_at 27 (by omega) (val_main_v42 (F := Ideal) X) (val_main_v44 (F := Ideal) X) (val_main_v336 (F := Ideal) X) (val_main_v66 (F := Ideal)) (val_main_v62 (F := Ideal)) _ _ b h d l).trans ?_
  exact step_ref X 27 (by omega) b h d l _ (st27 X b h d l)

/-- The state after chunk 28. -/
theorem st29 (X : FVec Ideal S32x2048x6144 .bf16) (b : Fin 32) (h : Fin 4) (d : Fin 256) (l : Fin 512) :
    val_main_v356 (F := Ideal) X (ix4 b h d l) = stateR X b h d l (28 * 64 + 64) := by
  unfold val_main_v356 val_main_v355 val_main_v354 val_main_v353 val_main_v352 val_main_v351 val_main_v350 val_main_v349 val_main_v348 val_main_v347
  refine (step_at 28 (by omega) (val_main_v42 (F := Ideal) X) (val_main_v44 (F := Ideal) X) (val_main_v346 (F := Ideal) X) (val_main_v66 (F := Ideal)) (val_main_v62 (F := Ideal)) _ _ b h d l).trans ?_
  exact step_ref X 28 (by omega) b h d l _ (st28 X b h d l)

/-- The state after chunk 29. -/
theorem st30 (X : FVec Ideal S32x2048x6144 .bf16) (b : Fin 32) (h : Fin 4) (d : Fin 256) (l : Fin 512) :
    val_main_v366 (F := Ideal) X (ix4 b h d l) = stateR X b h d l (29 * 64 + 64) := by
  unfold val_main_v366 val_main_v365 val_main_v364 val_main_v363 val_main_v362 val_main_v361 val_main_v360 val_main_v359 val_main_v358 val_main_v357
  refine (step_at 29 (by omega) (val_main_v42 (F := Ideal) X) (val_main_v44 (F := Ideal) X) (val_main_v356 (F := Ideal) X) (val_main_v66 (F := Ideal)) (val_main_v62 (F := Ideal)) _ _ b h d l).trans ?_
  exact step_ref X 29 (by omega) b h d l _ (st29 X b h d l)

/-- The state after chunk 30. -/
theorem st31 (X : FVec Ideal S32x2048x6144 .bf16) (b : Fin 32) (h : Fin 4) (d : Fin 256) (l : Fin 512) :
    val_main_v376 (F := Ideal) X (ix4 b h d l) = stateR X b h d l (30 * 64 + 64) := by
  unfold val_main_v376 val_main_v375 val_main_v374 val_main_v373 val_main_v372 val_main_v371 val_main_v370 val_main_v369 val_main_v368 val_main_v367
  refine (step_at 30 (by omega) (val_main_v42 (F := Ideal) X) (val_main_v44 (F := Ideal) X) (val_main_v366 (F := Ideal) X) (val_main_v66 (F := Ideal)) (val_main_v62 (F := Ideal)) _ _ b h d l).trans ?_
  exact step_ref X 30 (by omega) b h d l _ (st30 X b h d l)

/-- The state after chunk 31. -/
theorem st32 (X : FVec Ideal S32x2048x6144 .bf16) (b : Fin 32) (h : Fin 4) (d : Fin 256) (l : Fin 512) :
    val_main_v386 (F := Ideal) X (ix4 b h d l) = stateR X b h d l (31 * 64 + 64) := by
  unfold val_main_v386 val_main_v385 val_main_v384 val_main_v383 val_main_v382 val_main_v381 val_main_v380 val_main_v379 val_main_v378 val_main_v377
  refine (step_at 31 (by omega) (val_main_v42 (F := Ideal) X) (val_main_v44 (F := Ideal) X) (val_main_v376 (F := Ideal) X) (val_main_v66 (F := Ideal)) (val_main_v62 (F := Ideal)) _ _ b h d l).trans ?_
  exact step_ref X 31 (by omega) b h d l _ (st31 X b h d l)

/-- The final state: every row of the sequence. -/
theorem s_ref (X : FVec Ideal S32x2048x6144 .bf16) (b : Fin 32) (h : Fin 4) (d : Fin 256) (l : Fin 512) :
    val_main_v386 (F := Ideal) X (ix4 b h d l) = stateR X b h d l 2048 := st32 X b h d l

end Cert.MixersFRefIdeal.RefTerm
-- ==== Proof.MixPayF.lean ====
module

public import proofs.«01_k».proof.Defs
public import proofs.«01_k».proof.Proof.MixRow
public import proofs.«01_k».proof.Proof.Gen.MixersFIdeal.Skeleton
public import Idealize.ShloMosaic.Lib.Pointwise
public import Idealize.ShloMosaic.Lib.Pipeline.ValueKit

@[expose] public section
set_option maxRecDepth 16384

noncomputable section

open Idealize.ShloMosaic Idealize.ShloMosaic.TcCoe
open Cert.Proof.RetRow Cert.Proof.MixRow

/-! What each of the kernel's stores of the retention state holds, read at an index. -/

namespace Cert.MixersFIdeal.RefValue
open Cert.MixersFIdeal Cert.MixersFIdeal.Gen

/-- One entry of the state after a chunk of 128 rows, from the one before it. -/
def chunk (L : ℝ) (K V : Fin 128 → EReal) (s : EReal) : EReal :=
  s * dec L 128 + ∑ j : Fin 128, (K j * dec L (128 - 1 - j.val)) * V j

/-- The named logarithm of head 0's decay. -/
theorem nl0 : Named.named (F := Ideal) (φ := .f32) κ "log_g0" 0xBD020AEC#32 = (lg 0 : EReal) := by
  show ((Real.log (31/32) : ℝ) : EReal) = _
  unfold lg; norm_num

/-- The named decay of head 0 over a chunk. -/
theorem ng0 : Named.named (F := Ideal) (φ := .f32) κ "g128_0" 0x3C8CC36A#32 = dec (lg 0) 128 := by
  rw [g128_lg]
  show ((_ : ℝ) : EReal) = _
  congr 1; norm_num

/-- The named logarithm of head 1's decay. -/
theorem nl1 : Named.named (F := Ideal) (φ := .f32) κ "log_g1" 0xBC8102B3#32 = (lg 1 : EReal) := by
  show ((Real.log (63/64) : ℝ) : EReal) = _
  unfold lg; norm_num

/-- The named decay of head 1 over a chunk. -/
theorem ng1 : Named.named (F := Ideal) (φ := .f32) κ "g128_1" 0x3E08698E#32 = dec (lg 1) 128 := by
  rw [g128_lg]
  show ((_ : ℝ) : EReal) = _
  congr 1; norm_num

/-- The named logarithm of head 2's decay. -/
theorem nl2 : Named.named (F := Ideal) (φ := .f32) κ "log_g2" 0xBC0080AC#32 = (lg 2 : EReal) := by
  show ((Real.log (127/128) : ℝ) : EReal) = _
  unfold lg; norm_num

/-- The named decay of head 2 over a chunk. -/
theorem ng2 : Named.named (F := Ideal) (φ := .f32) κ "g128_2" 0x3EBB9DB9#32 = dec (lg 2) 128 := by
  rw [g128_lg]
  show ((_ : ℝ) : EReal) = _
  congr 1; norm_num

/-- The named logarithm of head 3's decay. -/
theorem nl3 : Named.named (F := Ideal) (φ := .f32) κ "log_g3" 0xBB80402B#32 = (lg 3 : EReal) := by
  show ((Real.log (255/256) : ℝ) : EReal) = _
  unfold lg; norm_num

/-- The named decay of head 3 over a chunk. -/
theorem ng3 : Named.named (F := Ideal) (φ := .f32) κ "g128_3" 0x3F1B1EB1#32 = dec (lg 3) 128 := by
  rw [g128_lg]
  show ((_ : ℝ) : EReal) = _
  congr 1; norm_num

/-- The state of head 0 stored after the step's first chunk, read at an index. -/
theorem s00_at (C Sn : FVec Ideal S128x128 .f32) (K : FVec Ideal S128x256 .bf16) (V : FVec Ideal S128x512 .bf16) (S : FVec Ideal S1x1x1x256x512 .f32) (d : Fin 256) (l : Fin 512) :
    k0_pay955 (F := Ideal) k0_pay945 (k0_pay949 (k0_pay946 C) (k0_pay947 Sn) K) (k0_pay950 V) S (ix5 0 0 0 d l)
      = chunk (lg 0) (fun j => key (fun d => K (ix2 j d)) (fun d => C (ix2 j d)) (fun d => Sn (ix2 j d)) d) (fun j => V (ix2 j l)) (S (ix5 0 0 0 d l)) := by
  pointwise [k0_pay955, k0_pay945, k0_pay949, k0_pay946, k0_pay947, k0_pay950, k0_pay953, float_nat, word127, word128, nl0, ng0, kd128_at, lt128, chunk, key, rope]

/-- The state of head 1 stored after the step's first chunk, read at an index. -/
theorem s10_at (C Sn : FVec Ideal S128x128 .f32) (K : FVec Ideal S128x256 .bf16) (V : FVec Ideal S128x512 .bf16) (S : FVec Ideal S1x1x1x256x512 .f32) (d : Fin 256) (l : Fin 512) :
    k0_pay969 (F := Ideal) (k0_pay961 V) (k0_pay967 S) (k0_pay968 k0_pay945 (k0_pay960 (k0_pay946 C) (k0_pay947 Sn) K)) (constant S256x512 .f32 0x00000000#32) (ix5 0 0 0 d l)
      = chunk (lg 1) (fun j => key (fun d => K (ix2 j d)) (fun d => C (ix2 j d)) (fun d => Sn (ix2 j d)) d) (fun j => V (ix2 j l)) (S (ix5 0 0 0 d l)) := by
  pointwise [k0_pay969, k0_pay961, k0_pay967, k0_pay968, k0_pay945, k0_pay960, k0_pay946, k0_pay947, k0_pay965, float_nat, word127, word128, nl1, ng1, kd128_at, lt128, chunk, key, rope]

/-- The state of head 2 stored after the step's first chunk, read at an index. -/
theorem s20_at (C Sn : FVec Ideal S128x128 .f32) (K : FVec Ideal S128x256 .bf16) (V : FVec Ideal S128x512 .bf16) (S : FVec Ideal S1x1x1x256x512 .f32) (d : Fin 256) (l : Fin 512) :
    k0_pay980 (F := Ideal) (k0_pay973 (k0_pay972 (k0_pay946 C) (k0_pay947 Sn) K)) (k0_pay974 V) (k0_pay976 S) (k0_pay978 (F := Ideal) k0_pay945) (k0_pay979 k0_pay945) (ix5 0 0 0 d l)
      = chunk (lg 2) (fun j => key (fun d => K (ix2 j d)) (fun d => C (ix2 j d)) (fun d => Sn (ix2 j d)) d) (fun j => V (ix2 j l)) (S (ix5 0 0 0 d l)) := by
  pointwise [k0_pay980, k0_pay973, k0_pay972, k0_pay946, k0_pay947, k0_pay974, k0_pay976, k0_pay978, k0_pay945, k0_pay979, float_nat, word127, word128, nl2, ng2, kd128_at, lt128, chunk, key, rope]

/-- The state of head 3 stored after the step's first chunk, read at an index. -/
theorem s30_at (C Sn : FVec Ideal S128x128 .f32) (K : FVec Ideal S128x256 .bf16) (V : FVec Ideal S128x512 .bf16) (S : FVec Ideal S1x1x1x256x512 .f32) (d : Fin 256) (l : Fin 512) :
    k0_pay994 (F := Ideal) k0_pay945 (k0_pay988 (k0_pay946 C) (k0_pay947 Sn) K) (k0_pay989 V) (k0_pay991 S) (ix5 0 0 0 d l)
      = chunk (lg 3) (fun j => key (fun d => K (ix2 j d)) (fun d => C (ix2 j d)) (fun d => Sn (ix2 j d)) d) (fun j => V (ix2 j l)) (S (ix5 0 0 0 d l)) := by
  pointwise [k0_pay994, k0_pay945, k0_pay988, k0_pay946, k0_pay947, k0_pay989, k0_pay991, float_nat, word127, word128, nl3, ng3, kd128_at, lt128, chunk, key, rope]

/-- The state of head 0 stored after the step's second chunk, read at an index. -/
theorem s01_at (C Sn : FVec Ideal S128x128 .f32) (K : FVec Ideal S128x256 .bf16) (V : FVec Ideal S128x512 .bf16) (S : FVec Ideal S1x1x1x256x512 .f32) (d : Fin 256) (l : Fin 512) :
    k0_pay1010 (F := Ideal) (k0_pay1008 S) (k0_pay1009 k0_pay945 (k0_pay1001 C Sn K) (k0_pay1002 V)) (ix5 0 0 0 d l)
      = chunk (lg 0) (fun j => key (fun d => K (ix2 j d)) (fun d => C (ix2 j d)) (fun d => Sn (ix2 j d)) d) (fun j => V (ix2 j l)) (S (ix5 0 0 0 d l)) := by
  pointwise [k0_pay1010, k0_pay1008, k0_pay1009, k0_pay945, k0_pay1001, k0_pay998, k0_pay999, k0_pay1002, k0_pay1006, float_nat, word127, word128, nl0, ng0, kd128_at, lt128, chunk, key, rope]

/-- The state of head 1 stored after the step's second chunk, read at an index. -/
theorem s11_at (C Sn : FVec Ideal S128x128 .f32) (K : FVec Ideal S128x256 .bf16) (V : FVec Ideal S128x512 .bf16) (S : FVec Ideal S1x1x1x256x512 .f32) (d : Fin 256) (l : Fin 512) :
    k0_pay1021 (F := Ideal) (k0_pay1014 (k0_pay1013 (k0_pay998 C) (k0_pay999 Sn) K) (Scalar.ofBits .f32 0x3D800000#32)) (k0_pay1015 V) (k0_pay1017 S) (k0_pay1019 (F := Ideal) k0_pay945) (k0_pay1020 k0_pay945) (Named.named κ "log_g1" 0xBC8102B3#32) (ix5 0 0 0 d l)
      = chunk (lg 1) (fun j => key (fun d => K (ix2 j d)) (fun d => C (ix2 j d)) (fun d => Sn (ix2 j d)) d) (fun j => V (ix2 j l)) (S (ix5 0 0 0 d l)) := by
  pointwise [k0_pay1021, k0_pay1014, k0_pay1013, k0_pay998, k0_pay999, k0_pay1015, k0_pay1017, k0_pay1019, k0_pay945, k0_pay1020, float_nat, word127, word128, nl1, ng1, kd128_at, lt128, chunk, key, rope]

/-- The state of head 2 stored after the step's second chunk, read at an index. -/
theorem s21_at (C Sn : FVec Ideal S128x128 .f32) (K : FVec Ideal S128x256 .bf16) (V : FVec Ideal S128x512 .bf16) (S : FVec Ideal S1x1x1x256x512 .f32) (d : Fin 256) (l : Fin 512) :
    k0_pay1036 (F := Ideal) k0_pay945 (k0_pay1030 (k0_pay998 C) (k0_pay999 Sn) K) (k0_pay1031 V) (k0_pay1033 S) (ix5 0 0 0 d l)
      = chunk (lg 2) (fun j => key (fun d => K (ix2 j d)) (fun d => C (ix2 j d)) (fun d => Sn (ix2 j d)) d) (fun j => V (ix2 j l)) (S (ix5 0 0 0 d l)) := by
  pointwise [k0_pay1036, k0_pay945, k0_pay1030, k0_pay998, k0_pay999, k0_pay1031, k0_pay1033, float_nat, word127, word128, nl2, ng2, kd128_at, lt128, chunk, key, rope]

/-- The state of head 3 stored after the step's second chunk, read at an index. -/
theorem s31_at (C Sn : FVec Ideal S128x128 .f32) (K : FVec Ideal S128x256 .bf16) (V : FVec Ideal S128x512 .bf16) (S : FVec Ideal S1x1x1x256x512 .f32) (d : Fin 256) (l : Fin 512) :
    k0_pay1048 (F := Ideal) k0_pay945 (k0_pay1040 (k0_pay998 C) (k0_pay999 Sn) K) (k0_pay1041 V) S (ix5 0 0 0 d l)
      = chunk (lg 3) (fun j => key (fun d => K (ix2 j d)) (fun d => C (ix2 j d)) (fun d => Sn (ix2 j d)) d) (fun j => V (ix2 j l)) (S (ix5 0 0 0 d l)) := by
  pointwise [k0_pay1048, k0_pay945, k0_pay1040, k0_pay998, k0_pay999, k0_pay1041, k0_pay1046, float_nat, word127, word128, nl3, ng3, kd128_at, lt128, chunk, key, rope]

/-- The state starts at zero. -/
theorem zero_at (h : Fin 4) (d : Fin 256) (l : Fin 512) : k0_pay4 (F := Ideal) (ix5 0 0 h d l) = 0 := by
  pointwise [k0_pay4]

/-- The last row of the projections, stored as the new shift row, read at an index. -/
theorem shift_at (X : FVec Ideal S256x3328 .bf16) (k : Fin 3328) : k0_pay7 (F := Ideal) X (ix4 0 0 0 k) = X (ix2 255 k) := by
  pointwise [k0_pay7, k0_pay5]

end Cert.MixersFIdeal.RefValue
-- ==== Proof.MixQF.lean ====
module

public import proofs.«01_k».proof.Defs
public import proofs.«01_k».proof.Proof.MixRefF
public import proofs.«01_k».proof.Proof.MixPayF
public import proofs.«01_k».proof.Proof.Gen.MixersFIdeal.Frame
public import Idealize.ShloMosaic.Lib.Pointwise
public import Idealize.ShloMosaic.Lib.Pipeline.ValueKit
public import Idealize.ShloMosaic.Lib.Pipeline.ReadBack
public import Idealize.ShloMosaic.Lib.Claim

@[expose] public section
set_option maxRecDepth 16384

noncomputable section

open Idealize.ShloMosaic Idealize.ShloMosaic.TcCoe Idealize.SL.Sem
open Idealize.ShloMosaic.Pipeline (Dat)
open Cert.Proof.RetRow Cert.Proof.MixRow

/-! What the retention state of the prompt batch is after each step of 256 rows. -/

namespace Cert.MixersFIdeal.RefValue
open Cert.MixersFIdeal Cert.MixersFIdeal.Gen

/-- Stores over earlier stores that they cover leave what they would leave alone. -/
theorem canon_drop {s : Shape} {e : EltTy} (L L' : List (View.Piece (Elt Ideal) s e)) (y : s.Idx) (hc : ∃ p ∈ L, y ∈ p.1.set) :
    View.canon (L ++ L') y = View.canon L y := by
  induction L with
  | nil => obtain ⟨p, hp, _⟩ := hc; exact absurd hp List.not_mem_nil
  | cons p L ih =>
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem _ _ hm, View.canon_cons_of_not_mem _ _ hm]
      refine ih ?_
      obtain ⟨q, hq, hyq⟩ := hc
      rcases List.mem_cons.mp hq with rfl | hq'
      · exact absurd hyq hm
      · exact ⟨q, hq', hyq⟩

/-- One chunk of 128 rows, from row `n` of a step's block on, applied to an entry of head `h`'s state. -/
def half (Z : FVec Ideal S256x6144 .bf16) (C Sn : FVec Ideal S256x128 .f32) (h : Fin 4) (d : Fin 256) (l : Fin 512) (n : ℕ) (hn : n + 128 ≤ 256) (s : EReal) : EReal :=
  chunk (lg h.val) (fun j => key (fun d => Z (ix2 ⟨n + j.val, by omega⟩ ⟨1024 + h.val * 256 + d.val, by omega⟩)) (fun d => C (ix2 ⟨n + j.val, by omega⟩ d)) (fun d => Sn (ix2 ⟨n + j.val, by omega⟩ d)) d)
    (fun j => Z (ix2 ⟨n + j.val, by omega⟩ ⟨2048 + h.val * 512 + l.val, by omega⟩)) s

/-- A step's two chunks, applied to an entry of head `h`'s state. -/
def both (Z : FVec Ideal S256x6144 .bf16) (C Sn : FVec Ideal S256x128 .f32) (h : Fin 4) (d : Fin 256) (l : Fin 512) (s : EReal) : EReal :=
  half Z C Sn h d l 128 (by omega) (half Z C Sn h d l 0 (by omega) s)

/-- The state of head 0 stored after chunk 0 of a step, written out, read at an index. -/
theorem q00_at (C Sn : FVec Ideal S128x128 .f32) (K : FVec Ideal S128x256 .bf16) (V : FVec Ideal S128x512 .bf16) (S : FVec Ideal S1x1x1x256x512 .f32) (d : Fin 256) (l : Fin 512) :
    (k0_pay955 (F := Ideal) (sitofp (F := Ideal) .f32 (iota .tc S128x1 32 [0] iota_S128x1_d0_w32)) (k0_pay949 (shapeCast S128x128 C shapeCasts_S128x128_S128x128) (shapeCast S128x128 Sn shapeCasts_S128x128_S128x128) K) (k0_pay950 V) S) (ix5 0 0 0 d l)
      = chunk (lg 0) (fun j => key (fun d => K (ix2 j d)) (fun d => C (ix2 j d)) (fun d => Sn (ix2 j d)) d) (fun j => V (ix2 j l)) (S (ix5 0 0 0 d l)) := s00_at C Sn K V S d l

/-- The state of head 1 stored after chunk 0 of a step, written out, read at an index. -/
theorem q10_at (C Sn : FVec Ideal S128x128 .f32) (K : FVec Ideal S128x256 .bf16) (V : FVec Ideal S128x512 .bf16) (S : FVec Ideal S1x1x1x256x512 .f32) (d : Fin 256) (l : Fin 512) :
    (shapeCast S1x1x1x256x512 (addf (F := Ideal) (k0_pay967 S) (matmul dot_S256x128_S128x512_S256x512_1_0_0_1_n_n none (k0_pay968 (F := Ideal) (sitofp (F := Ideal) .f32 (iota .tc S128x1 32 [0] iota_S128x1_d0_w32)) (mulf (concatenate S128x256 1 [⟨S128x128, subf (mulf (extractStridedSlice S128x128 ![0, 0] (extf .f32 (shapeCast S128x256 K shapeCasts_S128x256_S128x256) bitsLt_bf16_f32) slices_S128x256_o0_0_S128x128) (shapeCast S128x128 C shapeCasts_S128x128_S128x128)) (mulf (extractStridedSlice S128x128 ![0, 128] (extf .f32 (shapeCast S128x256 K shapeCasts_S128x256_S128x256) bitsLt_bf16_f32) slices_S128x256_o0_128_S128x128) (shapeCast S128x128 Sn shapeCasts_S128x128_S128x128))⟩, ⟨S128x128, addf (mulf (extractStridedSlice S128x128 ![0, 0] (extf .f32 (shapeCast S128x256 K shapeCasts_S128x256_S128x256) bitsLt_bf16_f32) slices_S128x256_o0_0_S128x128) (shapeCast S128x128 Sn shapeCasts_S128x128_S128x128)) (mulf (extractStridedSlice S128x128 ![0, 128] (extf .f32 (shapeCast S128x256 K shapeCasts_S128x256_S128x256) bitsLt_bf16_f32) slices_S128x256_o0_128_S128x128) (shapeCast S128x128 C shapeCasts_S128x128_S128x128))⟩] concatenates_S128x128_S128x128_S128x256_d1) (broadcast S128x256 (FloatOps.ofBits (F := Ideal) .f32 0x3D800000#32)))) (shapeCast S128x512 V shapeCasts_S128x512_S128x512) (constant (F := Ideal) S256x512 .f32 0x00000000#32))) shapeCasts_S256x512_S1x1x1x256x512) (ix5 0 0 0 d l)
      = chunk (lg 1) (fun j => key (fun d => K (ix2 j d)) (fun d => C (ix2 j d)) (fun d => Sn (ix2 j d)) d) (fun j => V (ix2 j l)) (S (ix5 0 0 0 d l)) := s10_at C Sn K V S d l

/-- The state of head 2 stored after chunk 0 of a step, written out, read at an index. -/
theorem q20_at (C Sn : FVec Ideal S128x128 .f32) (K : FVec Ideal S128x256 .bf16) (V : FVec Ideal S128x512 .bf16) (S : FVec Ideal S1x1x1x256x512 .f32) (d : Fin 256) (l : Fin 512) :
    (k0_pay980 (F := Ideal) (k0_pay973 (concatenate S128x256 1 [⟨S128x128, subf (mulf (extractStridedSlice S128x128 ![0, 0] (extf .f32 (shapeCast S128x256 K shapeCasts_S128x256_S128x256) bitsLt_bf16_f32) slices_S128x256_o0_0_S128x128) (shapeCast S128x128 C shapeCasts_S128x128_S128x128)) (mulf (extractStridedSlice S128x128 ![0, 128] (extf .f32 (shapeCast S128x256 K shapeCasts_S128x256_S128x256) bitsLt_bf16_f32) slices_S128x256_o0_128_S128x128) (shapeCast S128x128 Sn shapeCasts_S128x128_S128x128))⟩, ⟨S128x128, addf (mulf (extractStridedSlice S128x128 ![0, 0] (extf .f32 (shapeCast S128x256 K shapeCasts_S128x256_S128x256) bitsLt_bf16_f32) slices_S128x256_o0_0_S128x128) (shapeCast S128x128 Sn shapeCasts_S128x128_S128x128)) (mulf (extractStridedSlice S128x128 ![0, 128] (extf .f32 (shapeCast S128x256 K shapeCasts_S128x256_S128x256) bitsLt_bf16_f32) slices_S128x256_o0_128_S128x128) (shapeCast S128x128 C shapeCasts_S128x128_S128x128))⟩] concatenates_S128x128_S128x128_S128x256_d1)) (k0_pay974 V) (k0_pay976 S) (k0_pay978 (F := Ideal) (sitofp (F := Ideal) .f32 (iota .tc S128x1 32 [0] iota_S128x1_d0_w32))) (k0_pay979 (F := Ideal) (sitofp (F := Ideal) .f32 (iota .tc S128x1 32 [0] iota_S128x1_d0_w32)))) (ix5 0 0 0 d l)
      = chunk (lg 2) (fun j => key (fun d => K (ix2 j d)) (fun d => C (ix2 j d)) (fun d => Sn (ix2 j d)) d) (fun j => V (ix2 j l)) (S (ix5 0 0 0 d l)) := s20_at C Sn K V S d l

/-- The state of head 3 stored after chunk 0 of a step, written out, read at an index. -/
theorem q30_at (C Sn : FVec Ideal S128x128 .f32) (K : FVec Ideal S128x256 .bf16) (V : FVec Ideal S128x512 .bf16) (S : FVec Ideal S1x1x1x256x512 .f32) (d : Fin 256) (l : Fin 512) :
    (k0_pay994 (F := Ideal) (sitofp (F := Ideal) .f32 (iota .tc S128x1 32 [0] iota_S128x1_d0_w32)) (k0_pay988 (shapeCast S128x128 C shapeCasts_S128x128_S128x128) (shapeCast S128x128 Sn shapeCasts_S128x128_S128x128) K) (k0_pay989 V) (k0_pay991 S)) (ix5 0 0 0 d l)
      = chunk (lg 3) (fun j => key (fun d => K (ix2 j d)) (fun d => C (ix2 j d)) (fun d => Sn (ix2 j d)) d) (fun j => V (ix2 j l)) (S (ix5 0 0 0 d l)) := s30_at C Sn K V S d l

/-- The state of head 0 stored after chunk 1 of a step, written out, read at an index. -/
theorem q01_at (C Sn : FVec Ideal S128x128 .f32) (K : FVec Ideal S128x256 .bf16) (V : FVec Ideal S128x512 .bf16) (S : FVec Ideal S1x1x1x256x512 .f32) (d : Fin 256) (l : Fin 512) :
    (shapeCast S1x1x1x256x512 (addf (F := Ideal) (k0_pay1008 S) (k0_pay1009 (sitofp (F := Ideal) .f32 (iota .tc S128x1 32 [0] iota_S128x1_d0_w32)) (mulf (concatenate S128x256 1 [⟨S128x128, subf (mulf (extractStridedSlice S128x128 ![0, 0] (extf .f32 (shapeCast S128x256 K shapeCasts_S128x256_S128x256) bitsLt_bf16_f32) slices_S128x256_o0_0_S128x128) (shapeCast S128x128 C shapeCasts_S128x128_S128x128)) (mulf (extractStridedSlice S128x128 ![0, 128] (extf .f32 (shapeCast S128x256 K shapeCasts_S128x256_S128x256) bitsLt_bf16_f32) slices_S128x256_o0_128_S128x128) (shapeCast S128x128 Sn shapeCasts_S128x128_S128x128))⟩, ⟨S128x128, addf (mulf (extractStridedSlice S128x128 ![0, 0] (extf .f32 (shapeCast S128x256 K shapeCasts_S128x256_S128x256) bitsLt_bf16_f32) slices_S128x256_o0_0_S128x128) (shapeCast S128x128 Sn shapeCasts_S128x128_S128x128)) (mulf (extractStridedSlice S128x128 ![0, 128] (extf .f32 (shapeCast S128x256 K shapeCasts_S128x256_S128x256) bitsLt_bf16_f32) slices_S128x256_o0_128_S128x128) (shapeCast S128x128 C shapeCasts_S128x128_S128x128))⟩] concatenates_S128x128_S128x128_S128x256_d1) (broadcast S128x256 (FloatOps.ofBits (F := Ideal) .f32 0x3D800000#32))) (shapeCast S128x512 V shapeCasts_S128x512_S128x512))) shapeCasts_S256x512_S1x1x1x256x512) (ix5 0 0 0 d l)
      = chunk (lg 0) (fun j => key (fun d => K (ix2 j d)) (fun d => C (ix2 j d)) (fun d => Sn (ix2 j d)) d) (fun j => V (ix2 j l)) (S (ix5 0 0 0 d l)) := s01_at C Sn K V S d l

/-- The state of head 1 stored after chunk 1 of a step, written out, read at an index. -/
theorem q11_at (C Sn : FVec Ideal S128x128 .f32) (K : FVec Ideal S128x256 .bf16) (V : FVec Ideal S128x512 .bf16) (S : FVec Ideal S1x1x1x256x512 .f32) (d : Fin 256) (l : Fin 512) :
    (k0_pay1021 (F := Ideal) (k0_pay1014 (concatenate S128x256 1 [⟨S128x128, subf (mulf (extractStridedSlice S128x128 ![0, 0] (extf .f32 (shapeCast S128x256 K shapeCasts_S128x256_S128x256) bitsLt_bf16_f32) slices_S128x256_o0_0_S128x128) (shapeCast S128x128 C shapeCasts_S128x128_S128x128)) (mulf (extractStridedSlice S128x128 ![0, 128] (extf .f32 (shapeCast S128x256 K shapeCasts_S128x256_S128x256) bitsLt_bf16_f32) slices_S128x256_o0_128_S128x128) (shapeCast S128x128 Sn shapeCasts_S128x128_S128x128))⟩, ⟨S128x128, addf (mulf (extractStridedSlice S128x128 ![0, 0] (extf .f32 (shapeCast S128x256 K shapeCasts_S128x256_S128x256) bitsLt_bf16_f32) slices_S128x256_o0_0_S128x128) (shapeCast S128x128 Sn shapeCasts_S128x128_S128x128)) (mulf (extractStridedSlice S128x128 ![0, 128] (extf .f32 (shapeCast S128x256 K shapeCasts_S128x256_S128x256) bitsLt_bf16_f32) slices_S128x256_o0_128_S128x128) (shapeCast S128x128 C shapeCasts_S128x128_S128x128))⟩] concatenates_S128x128_S128x128_S128x256_d1) (FloatOps.ofBits (F := Ideal) .f32 0x3D800000#32)) (k0_pay1015 V) (k0_pay1017 S) (k0_pay1019 (F := Ideal) (sitofp (F := Ideal) .f32 (iota .tc S128x1 32 [0] iota_S128x1_d0_w32))) (k0_pay1020 (F := Ideal) (sitofp (F := Ideal) .f32 (iota .tc S128x1 32 [0] iota_S128x1_d0_w32))) (Named.named κ "log_g1" 0xBC8102B3#32)) (ix5 0 0 0 d l)
      = chunk (lg 1) (fun j => key (fun d => K (ix2 j d)) (fun d => C (ix2 j d)) (fun d => Sn (ix2 j d)) d) (fun j => V (ix2 j l)) (S (ix5 0 0 0 d l)) := s11_at C Sn K V S d l

/-- The state of head 2 stored after chunk 1 of a step, written out, read at an index. -/
theorem q21_at (C Sn : FVec Ideal S128x128 .f32) (K : FVec Ideal S128x256 .bf16) (V : FVec Ideal S128x512 .bf16) (S : FVec Ideal S1x1x1x256x512 .f32) (d : Fin 256) (l : Fin 512) :
    (k0_pay1036 (F := Ideal) (sitofp (F := Ideal) .f32 (iota .tc S128x1 32 [0] iota_S128x1_d0_w32)) (k0_pay1030 (shapeCast S128x128 C shapeCasts_S128x128_S128x128) (shapeCast S128x128 Sn shapeCasts_S128x128_S128x128) K) (k0_pay1031 V) (k0_pay1033 S)) (ix5 0 0 0 d l)
      = chunk (lg 2) (fun j => key (fun d => K (ix2 j d)) (fun d => C (ix2 j d)) (fun d => Sn (ix2 j d)) d) (fun j => V (ix2 j l)) (S (ix5 0 0 0 d l)) := s21_at C Sn K V S d l

/-- The state of head 3 stored after chunk 1 of a step, written out, read at an index. -/
theorem q31_at (C Sn : FVec Ideal S128x128 .f32) (K : FVec Ideal S128x256 .bf16) (V : FVec Ideal S128x512 .bf16) (S : FVec Ideal S1x1x1x256x512 .f32) (d : Fin 256) (l : Fin 512) :
    (k0_pay1048 (F := Ideal) (sitofp (F := Ideal) .f32 (iota .tc S128x1 32 [0] iota_S128x1_d0_w32)) (k0_pay1040 (shapeCast S128x128 C shapeCasts_S128x128_S128x128) (shapeCast S128x128 Sn shapeCasts_S128x128_S128x128) K) (k0_pay1041 V) S) (ix5 0 0 0 d l)
      = chunk (lg 3) (fun j => key (fun d => K (ix2 j d)) (fun d => C (ix2 j d)) (fun d => Sn (ix2 j d)) d) (fun j => V (ix2 j l)) (S (ix5 0 0 0 d l)) := s31_at C Sn K V S d l

end Cert.MixersFIdeal.RefValue
-- ==== Proof.MixStateF.lean ====
module

public import proofs.«01_k».proof.Defs
public import proofs.«01_k».proof.Proof.MixRefF
public import proofs.«01_k».proof.Proof.MixQF
public import proofs.«01_k».proof.Proof.Gen.MixersFIdeal.Frame
public import Idealize.ShloMosaic.Lib.Pointwise
public import Idealize.ShloMosaic.Lib.Pipeline.ValueKit
public import Idealize.ShloMosaic.Lib.Pipeline.ReadBack
public import Idealize.ShloMosaic.Lib.Claim

@[expose] public section
set_option maxRecDepth 16384

noncomputable section

open Idealize.ShloMosaic Idealize.ShloMosaic.TcCoe Idealize.SL.Sem
open Idealize.ShloMosaic.Pipeline (Dat)
open Cert.Proof.RetRow Cert.Proof.MixRow

/-! What the retention state of the prompt batch is after each step of 256 rows. -/

namespace Cert.MixersFIdeal.RefValue
open Cert.MixersFIdeal Cert.MixersFIdeal.Gen

variable (m : (ℓ : Loc nD τ sig) → Buf (Elt Ideal) ℓ)

/-- A sequence's first step starts its state from zero. -/
theorem stateA (c : Dev nD) (t : Fin cfg0.N) (h0 : t.val % 8 = 0) (h : Fin 4) (d : Fin 256) (l : Fin 512) :
    (outsAt0 m c t.val t.isLt).2.2.2.2.1 (ix5 0 0 h d l) = both (iblk m c 1 t) (iblk m c 2 t) (iblk m c 3 t) h d l 0 := by
  rw [outsAt0_A m c t h0]; dsimp only; frame_open; simp (disch := decide) only [↓ View.readCov_skip, ↓ View.readCov_cons_toLoadRect, ↓ View.readCov_fill]; frame_out
  refine (canon_drop [_, _, _, _] [_, _, _, _, _] _ (View.cover_of_tiled_head _ _ _ rfl _)).trans ?_
  canon_tiles x hx
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext hx3
    obtain rfl : l = l' := Fin.ext hx4
    obtain rfl : h = 3 := Fin.ext hx2
    clear x0_lt x1_lt x2_lt x3_lt x4_lt hx0 hx1 hx2 hx3 hx4
    generalize (iblk m c 1 t) = Z
    generalize (iblk m c 2 t) = C
    generalize (iblk m c 3 t) = Sn
    change FVec Ideal S256x6144 .bf16 at Z
    change FVec Ideal S256x128 .f32 at C
    change FVec Ideal S256x128 .f32 at Sn
    refine (q31_at _ _ _ _ _ d l).trans ?_
    refine Eq.trans (congrArg (chunk _ _ _) (q30_at _ _ _ _ _ d l)) ?_
    try simp only [Memref.IsWhole.read_unread]
    unfold both half
    pointwise
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext hx3
    obtain rfl : l = l' := Fin.ext hx4
    obtain rfl : h = 2 := Fin.ext hx2
    clear x0_lt x1_lt x2_lt x3_lt x4_lt hx0 hx1 hx2 hx3 hx4
    generalize (iblk m c 1 t) = Z
    generalize (iblk m c 2 t) = C
    generalize (iblk m c 3 t) = Sn
    change FVec Ideal S256x6144 .bf16 at Z
    change FVec Ideal S256x128 .f32 at C
    change FVec Ideal S256x128 .f32 at Sn
    refine (q21_at _ _ _ _ _ d l).trans ?_
    refine Eq.trans (congrArg (chunk _ _ _) (q20_at _ _ _ _ _ d l)) ?_
    try simp only [Memref.IsWhole.read_unread]
    unfold both half
    pointwise
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext hx3
    obtain rfl : l = l' := Fin.ext hx4
    obtain rfl : h = 1 := Fin.ext hx2
    clear x0_lt x1_lt x2_lt x3_lt x4_lt hx0 hx1 hx2 hx3 hx4
    generalize (iblk m c 1 t) = Z
    generalize (iblk m c 2 t) = C
    generalize (iblk m c 3 t) = Sn
    change FVec Ideal S256x6144 .bf16 at Z
    change FVec Ideal S256x128 .f32 at C
    change FVec Ideal S256x128 .f32 at Sn
    refine (q11_at _ _ _ _ _ d l).trans ?_
    refine Eq.trans (congrArg (chunk _ _ _) (q10_at _ _ _ _ _ d l)) ?_
    try simp only [Memref.IsWhole.read_unread]
    unfold both half
    pointwise
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext hx3
    obtain rfl : l = l' := Fin.ext hx4
    obtain rfl : h = 0 := Fin.ext hx2
    clear x0_lt x1_lt x2_lt x3_lt x4_lt hx0 hx1 hx2 hx3 hx4
    generalize (iblk m c 1 t) = Z
    generalize (iblk m c 2 t) = C
    generalize (iblk m c 3 t) = Sn
    change FVec Ideal S256x6144 .bf16 at Z
    change FVec Ideal S256x128 .f32 at C
    change FVec Ideal S256x128 .f32 at Sn
    refine (q01_at _ _ _ _ _ d l).trans ?_
    refine Eq.trans (congrArg (chunk _ _ _) (q00_at _ _ _ _ _ d l)) ?_
    try simp only [Memref.IsWhole.read_unread]
    unfold both half
    pointwise

/-- Every later step starts from the state the step before left. -/
theorem stateB (c : Dev nD) (t : Fin cfg0.N) (h0 : ¬t.val % 8 = 0) (h : Fin 4) (d : Fin 256) (l : Fin 512) :
    (outsAt0 m c t.val t.isLt).2.2.2.2.1 (ix5 0 0 h d l) = both (iblk m c 1 t) (iblk m c 2 t) (iblk m c 3 t) h d l ((outsAt0 m c (t.val - 1) (Nat.lt_of_le_of_lt (Nat.sub_le _ _) t.isLt)).2.2.2.2.1 (ix5 0 0 h d l)) := by
  rw [outsAt0_B m c t h0]; dsimp only; frame_open; simp (disch := decide) only [↓ View.readCov_skip, ↓ View.readCov_cons_toLoadRect, ↓ View.readCov_fill]; frame_out
  refine (canon_drop [_, _, _, _] [_, _, _, _] _ (View.cover_of_tiled_head _ _ _ rfl _)).trans ?_
  canon_tiles x hx
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext hx3
    obtain rfl : l = l' := Fin.ext hx4
    obtain rfl : h = 3 := Fin.ext hx2
    clear x0_lt x1_lt x2_lt x3_lt x4_lt hx0 hx1 hx2 hx3 hx4
    generalize (iblk m c 1 t) = Z
    generalize (iblk m c 2 t) = C
    generalize (iblk m c 3 t) = Sn
    change FVec Ideal S256x6144 .bf16 at Z
    change FVec Ideal S256x128 .f32 at C
    change FVec Ideal S256x128 .f32 at Sn
    generalize (outsAt0 m c (t.val - 1) (Nat.lt_of_le_of_lt (Nat.sub_le _ _) t.isLt)).2.2.2.2.1 = P
    change FVec Ideal S1x1x4x256x512 .f32 at P
    refine (q31_at _ _ _ _ _ d l).trans ?_
    refine Eq.trans (congrArg (chunk _ _ _) (q30_at _ _ _ _ _ d l)) ?_
    try simp only [Memref.IsWhole.read_unread]
    unfold both half
    pointwise
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext hx3
    obtain rfl : l = l' := Fin.ext hx4
    obtain rfl : h = 2 := Fin.ext hx2
    clear x0_lt x1_lt x2_lt x3_lt x4_lt hx0 hx1 hx2 hx3 hx4
    generalize (iblk m c 1 t) = Z
    generalize (iblk m c 2 t) = C
    generalize (iblk m c 3 t) = Sn
    change FVec Ideal S256x6144 .bf16 at Z
    change FVec Ideal S256x128 .f32 at C
    change FVec Ideal S256x128 .f32 at Sn
    generalize (outsAt0 m c (t.val - 1) (Nat.lt_of_le_of_lt (Nat.sub_le _ _) t.isLt)).2.2.2.2.1 = P
    change FVec Ideal S1x1x4x256x512 .f32 at P
    refine (q21_at _ _ _ _ _ d l).trans ?_
    refine Eq.trans (congrArg (chunk _ _ _) (q20_at _ _ _ _ _ d l)) ?_
    try simp only [Memref.IsWhole.read_unread]
    unfold both half
    pointwise
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext hx3
    obtain rfl : l = l' := Fin.ext hx4
    obtain rfl : h = 1 := Fin.ext hx2
    clear x0_lt x1_lt x2_lt x3_lt x4_lt hx0 hx1 hx2 hx3 hx4
    generalize (iblk m c 1 t) = Z
    generalize (iblk m c 2 t) = C
    generalize (iblk m c 3 t) = Sn
    change FVec Ideal S256x6144 .bf16 at Z
    change FVec Ideal S256x128 .f32 at C
    change FVec Ideal S256x128 .f32 at Sn
    generalize (outsAt0 m c (t.val - 1) (Nat.lt_of_le_of_lt (Nat.sub_le _ _) t.isLt)).2.2.2.2.1 = P
    change FVec Ideal S1x1x4x256x512 .f32 at P
    refine (q11_at _ _ _ _ _ d l).trans ?_
    refine Eq.trans (congrArg (chunk _ _ _) (q10_at _ _ _ _ _ d l)) ?_
    try simp only [Memref.IsWhole.read_unread]
    unfold both half
    pointwise
  · obtain ⟨u, v, p, d', l', rfl⟩ : ∃ (u : Fin 1) (v : Fin 1) (p : Fin 1) (d' : Fin 256) (l' : Fin 512), x = ix5 u v p d' l' := ⟨x 0, x 1, x 2, x 3, x 4, eq_ix5 x⟩
    obtain rfl : u = 0 := Subsingleton.elim _ _
    obtain rfl : v = 0 := Subsingleton.elim _ _
    obtain rfl : p = 0 := Subsingleton.elim _ _
    obtain rfl : d = d' := Fin.ext hx3
    obtain rfl : l = l' := Fin.ext hx4
    obtain rfl : h = 0 := Fin.ext hx2
    clear x0_lt x1_lt x2_lt x3_lt x4_lt hx0 hx1 hx2 hx3 hx4
    generalize (iblk m c 1 t) = Z
    generalize (iblk m c 2 t) = C
    generalize (iblk m c 3 t) = Sn
    change FVec Ideal S256x6144 .bf16 at Z
    change FVec Ideal S256x128 .f32 at C
    change FVec Ideal S256x128 .f32 at Sn
    generalize (outsAt0 m c (t.val - 1) (Nat.lt_of_le_of_lt (Nat.sub_le _ _) t.isLt)).2.2.2.2.1 = P
    change FVec Ideal S1x1x4x256x512 .f32 at P
    refine (q01_at _ _ _ _ _ d l).trans ?_
    refine Eq.trans (congrArg (chunk _ _ _) (q00_at _ _ _ _ _ d l)) ?_
    try simp only [Memref.IsWhole.read_unread]
    unfold both half
    pointwise

end Cert.MixersFIdeal.RefValue
-- ==== Proof.ValMixersF.lean ====
module

public import proofs.«01_k».proof.Defs
public import proofs.«01_k».proof.Proof.Gen.MixersFIdeal.Frame
public import proofs.«01_k».proof.Proof.Gen.MixersFRefIdeal.Run
public import proofs.«01_k».proof.Proof.Gen.MixersFRefIdeal.Read
public import proofs.«01_k».proof.Proof.MixStateF
public import Idealize.ShloMosaic.Lib.Pointwise
public import Idealize.ShloMosaic.Lib.Pipeline.ValueKit
public import Idealize.ShloMosaic.Lib.Pipeline.ReadBack
public import Idealize.ShloMosaic.Lib.Claim

@[expose] public section
set_option maxRecDepth 16384

noncomputable section

open Idealize.ShloMosaic Idealize.ShloMosaic.TcCoe Idealize.SL.Sem
open Idealize.ShloMosaic.Pipeline (Dat)
open Cert.Proof.RetRow Cert.Proof.MixRow

/-! The prompt batch's new shift rows and its retention state after all 2048 rows. -/

namespace Cert.MixersFIdeal.RefValue
open Cert.MixersFIdeal Cert.MixersFIdeal.Gen

variable (m : (ℓ : Loc nD τ sig) → Buf (Elt Ideal) ℓ)

/-- Grid point `t` stages rows `256 t` to `256 t + 255` of the projections and rows `256 (t mod 8)` on of the angles, and writes batch element `t / 8`'s shift row and state of the first layer. -/
theorem idx : ∀ t : Fin cfg0.N, win0_0.index t = ![t.val, 0] ∧ win0_1.index t = ![t.val, 0] ∧ win0_2.index t = ![t.val % 8, 0] ∧ win0_3.index t = ![t.val % 8, 0]
    ∧ win0_17.index t = ![0, t.val / 8, 0, 0] ∧ win0_19.index t = ![0, t.val / 8, 0, 0, 0] ∧ t.val < 256 :=
  (by decide +kernel : ∀ t : Fin grid0.N, _)

/-- The first projections given. -/
def ZA (c : Dev nD) : FVec Ideal S32x2048x3328 .bf16 := m ((c : Thread nD τ).loc main_arg0)

/-- The second projections given. -/
def ZB (c : Dev nD) : FVec Ideal S32x2048x6144 .bf16 := m ((c : Thread nD τ).loc main_arg1)

/-- The first projections as one table of rows. -/
def RA (c : Dev nD) : FVec Ideal S65536x3328 .bf16 := V m c main_v27

/-- The second projections as one table of rows. -/
def RB (c : Dev nD) : FVec Ideal S65536x6144 .bf16 := V m c main_v28

/-- The cosines. -/
def CT (c : Dev nD) : FVec Ideal S2048x128 .f32 := V m c main_v29

/-- The sines. -/
def ST (c : Dev nD) : FVec Ideal S2048x128 .f32 := V m c main_v30

/-- The rows of the first projections. -/
theorem ra_rows (c : Dev nD) : RA m c = shapeCast S65536x3328 (ZA m c) shapeCasts_S32x2048x3328_S65536x3328 := by
  unfold RA ZA
  simp only [V, V0, hostOps0, hostOps0_1, hostOps0_2, List.flatten_cons, List.flatten_nil, List.append_nil, List.cons_append, List.nil_append, StableHlo.after_cons, StableHlo.after_nil]
  after_results_simp
  try after_results_loop
  rfl

/-- The rows of the second projections. -/
theorem rb_rows (c : Dev nD) : RB m c = shapeCast S65536x6144 (ZB m c) shapeCasts_S32x2048x6144_S65536x6144 := by
  unfold RB ZB
  simp only [V, V0, hostOps0, hostOps0_1, hostOps0_2, List.flatten_cons, List.flatten_nil, List.append_nil, List.cons_append, List.nil_append, StableHlo.after_cons, StableHlo.after_nil]
  after_results_simp
  try after_results_loop
  rfl

/-- The angles the host tabulates: every position times each of the frequencies. -/
def angles : FVec Ideal S2048x128 .f32 :=
  mulf (broadcastInDim S2048x128 ![0, 1] bcast_S2048x1_S2048x128_0_1 (broadcastInDim S2048x1 ![0] bcast_S2048_S2048x1_0 (sitofp .f32 (addi (broadcastInDim S2048 ![] bcast_S_S2048 (constantI S_ 32 0#32)) (iotaInDim S2048 32 0)))))
    (broadcastInDim S2048x128 ![0, 1] bcast_S1x128_S2048x128_0_1 (broadcastInDim S1x128 ![1] bcast_S128_S1x128_1 (Cert.MixersFRefIdeal.Read.val_main_v13 (F := Ideal))))

/-- The table of cosines, computed out. -/
theorem table_cos (c : Dev nD) : CT m c = Host.cos (angles) := by
  unfold CT
  simp only [V, V0, hostOps0, hostOps0_1, hostOps0_2, List.flatten_cons, List.flatten_nil, List.append_nil, List.cons_append, List.nil_append, StableHlo.after_cons, StableHlo.after_nil]
  after_results_simp
  try after_results_loop
  rfl

/-- The table of sines, computed out. -/
theorem table_sin (c : Dev nD) : ST m c = Host.sin (angles) := by
  unfold ST
  simp only [V, V0, hostOps0, hostOps0_1, hostOps0_2, List.flatten_cons, List.flatten_nil, List.append_nil, List.cons_append, List.nil_append, StableHlo.after_cons, StableHlo.after_nil]
  after_results_simp
  try after_results_loop
  rfl

/-- The host's angles are the reference's. -/
theorem angles_eq : angles = Cert.MixersFRefIdeal.Read.val_main_v19 (F := Ideal) := by
  have e : addi (broadcastInDim S2048 ![] bcast_S_S2048 (constantI S_ 32 0#32)) (iotaInDim S2048 32 0) = Cert.MixersFRefIdeal.Read.val_main_v0 (F := Ideal) := by
    funext i
    exact BitVec.zero_add _
  unfold angles
  rw [e]
  rfl

/-- The host's cosines are the reference's. -/
theorem ct_eq (c : Dev nD) : CT m c = Cert.MixersFRefIdeal.Read.val_main_v20 (F := Ideal) := by
  rw [table_cos, angles_eq]
  rfl

/-- The host's sines are the reference's. -/
theorem st_eq (c : Dev nD) : ST m c = Cert.MixersFRefIdeal.Read.val_main_v22 (F := Ideal) := by
  rw [table_sin, angles_eq]
  rfl

/-- Row `r` of batch element `b` in the table of first projections. -/
theorem ra_at (c : Dev nD) (b : Fin 32) (r : Fin 2048) (k : Fin 3328) (R : Fin 65536) (hR : R.val = b.val * 2048 + r.val) : RA m c (ix2 R k) = ZA m c (ix3 b r k) := by
  rw [ra_rows]
  have e1 : (⟨R.val / 2048, by omega⟩ : Fin 32) = b := Fin.ext (by show R.val / 2048 = b.val; omega)
  have e2 : (⟨R.val % 2048, by omega⟩ : Fin 2048) = r := Fin.ext (by show R.val % 2048 = r.val; omega)
  pointwise [e1, e2]

/-- Row `r` of batch element `b` in the table of second projections. -/
theorem rb_at (c : Dev nD) (b : Fin 32) (r : Fin 2048) (k : Fin 6144) (R : Fin 65536) (hR : R.val = b.val * 2048 + r.val) : RB m c (ix2 R k) = ZB m c (ix3 b r k) := by
  rw [rb_rows]
  have e1 : (⟨R.val / 2048, by omega⟩ : Fin 32) = b := Fin.ext (by show R.val / 2048 = b.val; omega)
  have e2 : (⟨R.val % 2048, by omega⟩ : Fin 2048) = r := Fin.ext (by show R.val % 2048 = r.val; omega)
  pointwise [e1, e2]

/-- The block of first projections. -/
theorem blk0 (c : Dev nD) (t : Fin cfg0.N) (r : Fin 256) (k : Fin 3328) (R : Fin 65536) (hR : R.val = t.val * 256 + r.val) :
    (show FVec Ideal S256x3328 .bf16 from iblk m c 0 t) (ix2 r k) = RA m c (ix2 R k) := by
  unfold RA
  blk_ext [iblk, idx t]

/-- The block of second projections. -/
theorem blk1 (c : Dev nD) (t : Fin cfg0.N) (r : Fin 256) (k : Fin 6144) (R : Fin 65536) (hR : R.val = t.val * 256 + r.val) :
    (show FVec Ideal S256x6144 .bf16 from iblk m c 1 t) (ix2 r k) = RB m c (ix2 R k) := by
  unfold RB
  blk_ext [iblk, idx t]

/-- The block of cosines. -/
theorem blk2 (c : Dev nD) (t : Fin cfg0.N) (r : Fin 256) (k : Fin 128) (R : Fin 2048) (hR : R.val = t.val % 8 * 256 + r.val) :
    (show FVec Ideal S256x128 .f32 from iblk m c 2 t) (ix2 r k) = CT m c (ix2 R k) := by
  unfold CT
  blk_ext [iblk, idx t]

/-- The block of sines. -/
theorem blk3 (c : Dev nD) (t : Fin cfg0.N) (r : Fin 256) (k : Fin 128) (R : Fin 2048) (hR : R.val = t.val % 8 * 256 + r.val) :
    (show FVec Ideal S256x128 .f32 from iblk m c 3 t) (ix2 r k) = ST m c (ix2 R k) := by
  unfold ST
  blk_ext [iblk, idx t]

/-- One chunk carries the reference's state on by 128 rows. -/
theorem half_state (Z : FVec Ideal S256x6144 .bf16) (C Sn : FVec Ideal S256x128 .f32) (X : FVec Ideal S32x2048x6144 .bf16) (b : Fin 32) (h : Fin 4) (d : Fin 256) (l : Fin 512)
    (n : ℕ) (hn : n + 128 ≤ 256) (N : ℕ) (hN : N + 128 ≤ 2048) (s : EReal)
    (hz : ∀ (j : Fin 128) (k : Fin 6144), Z (ix2 ⟨n + j.val, by omega⟩ k) = X (ix3 b ⟨N + j.val, by omega⟩ k))
    (hc : ∀ (j : Fin 128) (k : Fin 128), C (ix2 ⟨n + j.val, by omega⟩ k) = Cert.MixersFRefIdeal.Read.val_main_v20 (F := Ideal) (ix2 ⟨N + j.val, by omega⟩ k))
    (hs : ∀ (j : Fin 128) (k : Fin 128), Sn (ix2 ⟨n + j.val, by omega⟩ k) = Cert.MixersFRefIdeal.Read.val_main_v22 (F := Ideal) (ix2 ⟨N + j.val, by omega⟩ k))
    (h0 : s = Cert.MixersFRefIdeal.RefTerm.stateR X b h d l N) :
    half Z C Sn h d l n hn s = Cert.MixersFRefIdeal.RefTerm.stateR X b h d l (N + 128) := by
  unfold half chunk
  refine Eq.trans ?_ (state_128 (fun r k => X (ix3 b r k)) (fun r d => Cert.MixersFRefIdeal.Read.val_main_v20 (F := Ideal) (ix2 r d)) (fun r d => Cert.MixersFRefIdeal.Read.val_main_v22 (F := Ideal) (ix2 r d)) h d l N hN s h0)
  simp only [hz, hc, hs]

/-- A step carries the reference's state on by 256 rows. -/
theorem both_state (c : Dev nD) (t : Fin cfg0.N) (b : Fin 32) (hb : b.val = t.val / 8) (h : Fin 4) (d : Fin 256) (l : Fin 512) (s : EReal)
    (h0 : s = Cert.MixersFRefIdeal.RefTerm.stateR (ZB m c) b h d l (t.val % 8 * 256)) :
    both (iblk m c 1 t) (iblk m c 2 t) (iblk m c 3 t) h d l s = Cert.MixersFRefIdeal.RefTerm.stateR (ZB m c) b h d l (t.val % 8 * 256 + 256) := by
  have hb32 := b.isLt
  have e1 : ∀ (r : Fin 256) (k : Fin 6144), (show FVec Ideal S256x6144 .bf16 from iblk m c 1 t) (ix2 r k) = ZB m c (ix3 b ⟨t.val % 8 * 256 + r.val, by omega⟩ k) := fun r k =>
    (blk1 m c t r k ⟨t.val * 256 + r.val, by omega⟩ rfl).trans (rb_at m c b ⟨t.val % 8 * 256 + r.val, by omega⟩ k _ (by show t.val * 256 + r.val = b.val * 2048 + (t.val % 8 * 256 + r.val); omega))
  have e2 : ∀ (r : Fin 256) (k : Fin 128), (show FVec Ideal S256x128 .f32 from iblk m c 2 t) (ix2 r k) = Cert.MixersFRefIdeal.Read.val_main_v20 (F := Ideal) (ix2 ⟨t.val % 8 * 256 + r.val, by omega⟩ k) := fun r k =>
    (blk2 m c t r k ⟨t.val % 8 * 256 + r.val, by omega⟩ rfl).trans (congrFun (ct_eq m c) _)
  have e3 : ∀ (r : Fin 256) (k : Fin 128), (show FVec Ideal S256x128 .f32 from iblk m c 3 t) (ix2 r k) = Cert.MixersFRefIdeal.Read.val_main_v22 (F := Ideal) (ix2 ⟨t.val % 8 * 256 + r.val, by omega⟩ k) := fun r k =>
    (blk3 m c t r k ⟨t.val % 8 * 256 + r.val, by omega⟩ rfl).trans (congrFun (st_eq m c) _)
  have a : ∀ n j : ℕ, t.val % 8 * 256 + (n + j) = t.val % 8 * 256 + n + j := fun n j => (Nat.add_assoc _ _ _).symm
  unfold both
  refine half_state (iblk m c 1 t) (iblk m c 2 t) (iblk m c 3 t) (ZB m c) b h d l 128 (by omega) (t.val % 8 * 256 + 128) (by omega) _ (fun j k => ?_) (fun j k => ?_) (fun j k => ?_) ?_
  · refine (e1 ⟨128 + j.val, by omega⟩ k).trans (congrArg (fun r => ZB m c (ix3 b r k)) (Fin.ext (a 128 j.val)))
  · refine (e2 ⟨128 + j.val, by omega⟩ k).trans (congrArg (fun r => Cert.MixersFRefIdeal.Read.val_main_v20 (F := Ideal) (ix2 r k)) (Fin.ext (a 128 j.val)))
  · refine (e3 ⟨128 + j.val, by omega⟩ k).trans (congrArg (fun r => Cert.MixersFRefIdeal.Read.val_main_v22 (F := Ideal) (ix2 r k)) (Fin.ext (a 128 j.val)))
  refine half_state (iblk m c 1 t) (iblk m c 2 t) (iblk m c 3 t) (ZB m c) b h d l 0 (by omega) (t.val % 8 * 256) (by omega) _ (fun j k => ?_) (fun j k => ?_) (fun j k => ?_) h0
  · refine (e1 ⟨0 + j.val, by omega⟩ k).trans (congrArg (fun r => ZB m c (ix3 b r k)) (Fin.ext (a 0 j.val)))
  · refine (e2 ⟨0 + j.val, by omega⟩ k).trans (congrArg (fun r => Cert.MixersFRefIdeal.Read.val_main_v20 (F := Ideal) (ix2 r k)) (Fin.ext (a 0 j.val)))
  · refine (e3 ⟨0 + j.val, by omega⟩ k).trans (congrArg (fun r => Cert.MixersFRefIdeal.Read.val_main_v22 (F := Ideal) (ix2 r k)) (Fin.ext (a 0 j.val)))

/-- Before any row the reference's state is zero. -/
theorem state_zero (X : FVec Ideal S32x2048x6144 .bf16) (b : Fin 32) (h : Fin 4) (d : Fin 256) (l : Fin 512) : Cert.MixersFRefIdeal.RefTerm.stateR X b h d l 0 = 0 := by
  rw [Cert.MixersFRefIdeal.RefTerm.stateR, state, acc_zero]

/-- After grid point `n` the state held is the reference's over the rows the batch element has had so far. -/
theorem run_state (c : Dev nD) : ∀ (n : ℕ) (hn : n < cfg0.N) (b : Fin 32) (_ : b.val = n / 8) (h : Fin 4) (d : Fin 256) (l : Fin 512),
    (outsAt0 m c n hn).2.2.2.2.1 (ix5 0 0 h d l) = Cert.MixersFRefIdeal.RefTerm.stateR (ZB m c) b h d l (n % 8 * 256 + 256) := by
  intro n
  induction n using Nat.strong_induction_on with
  | _ n ih =>
    intro hn b hb h d l
    by_cases h0 : n % 8 = 0
    · refine (stateA m c ⟨n, hn⟩ h0 h d l).trans (both_state m c ⟨n, hn⟩ b hb h d l 0 ?_)
      show 0 = Cert.MixersFRefIdeal.RefTerm.stateR (ZB m c) b h d l (n % 8 * 256)
      rw [h0]
      exact (state_zero _ _ _ _ _).symm
    · refine (stateB m c ⟨n, hn⟩ h0 h d l).trans (both_state m c ⟨n, hn⟩ b hb h d l _ ?_)
      refine (ih (n - 1) (by omega) _ b (by omega) h d l).trans ?_
      exact congrArg (Cert.MixersFRefIdeal.RefTerm.stateR (ZB m c) b h d l) (by show (n - 1) % 8 * 256 + 256 = n % 8 * 256; omega)

/-- The shift array's first layer. -/
def W17 (c : Dev nD) : S2x32x1x3328.Idx → EReal := fun i => ZA m c (ix3 (i 1) 2047 (i 3))

/-- The state array's first layer. -/
def W19 (c : Dev nD) : S2x32x4x256x512.Idx → EReal := fun i => Cert.MixersFRefIdeal.RefTerm.stateR (ZB m c) (i 1) (i 2) (i 3) (i 4) 2048

/-- The shift row a grid point leaves, which is the last of its block's rows. -/
theorem shift_out (c : Dev nD) (t : Fin cfg0.N) (h0 : ¬t.val % 8 = 0) (k : Fin 3328) :
    (outsAt0 m c t.val t.isLt).2.2.1 (ix4 0 0 0 k) = (show FVec Ideal S256x3328 .bf16 from iblk m c 0 t) (ix2 255 k) := by
  rw [outsAt0_B m c t h0]; dsimp only; frame_open; simp (disch := decide) only [↓ View.readCov_skip, ↓ View.readCov_cons_toLoadRect, ↓ View.readCov_fill]; frame_out
  exact shift_at (iblk m c 0 t) k

/-- Where a grid point's shift row lies in the array. -/
theorem emb17 (t : Fin cfg0.N) (a b d : Fin 1) (k : Fin 3328) (B : Fin 32) (hB : B.val = t.val / 8) :
    ((View.whole main_v31_2).slice (win0_17.rect t)).emb (ix4 a b d k) = ix4 0 B 0 k := by
  blk_ext [idx t]

/-- Where a grid point's state lies in the array. -/
theorem emb19 (t : Fin cfg0.N) (a b : Fin 1) (h : Fin 4) (d : Fin 256) (l : Fin 512) (B : Fin 32) (hB : B.val = t.val / 8) :
    ((View.whole main_v31_4).slice (win0_19.rect t)).emb (ix5 a b h d l) = ix5 0 B h d l := by
  blk_ext [idx t]

set_option maxHeartbeats 4000000 in
/-- The shift array after the run: its first layer is new, its second as it was. -/
theorem final17 (c : Dev nD) : (dats m 0 c).arrAt 17 (cfgs 0).N = fun i => if (i 0).val = 0 then W17 m c i else V m c main_v31_2 i := by
  refine (dats m 0 c).arrAt_eq_of_coversWhere 17 _ (fun β => β 0 = 0) (by decide +kernel) (fun t hf y => ?_)
    (fun j => by blk_simp [Pipeline.Window.cell_apply]; omega)
  have h7 : t.val % 8 = 7 := (flush0_17 t).mp hf
  blk_simp
  rw [after0_17]
  obtain ⟨a, b, d, k, rfl⟩ : ∃ (a : Fin 1) (b : Fin 1) (d : Fin 1) (k : Fin 3328), y = ix4 a b d k := ⟨y 0, y 1, y 2, y 3, eq_ix4 y⟩
  have ht : t.val < 256 := (idx t).2.2.2.2.2.2
  rw [emb17 t a b d k ⟨t.val / 8, by omega⟩ rfl]
  show _ = ZA m c (ix3 ⟨t.val / 8, by omega⟩ 2047 k)
  obtain rfl : a = 0 := Subsingleton.elim _ _
  obtain rfl : b = 0 := Subsingleton.elim _ _
  obtain rfl : d = 0 := Subsingleton.elim _ _
  refine Eq.trans (shift_out m c t (by omega) k) ?_
  exact (blk0 m c t 255 k ⟨t.val * 256 + 255, by omega⟩ rfl).trans (ra_at m c ⟨t.val / 8, by omega⟩ 2047 k _ (by show t.val * 256 + 255 = t.val / 8 * 2048 + 2047; omega))

set_option maxHeartbeats 4000000 in
/-- The state array after the run: its first layer is new, its second as it was. -/
theorem final19 (c : Dev nD) : (dats m 0 c).arrAt 19 (cfgs 0).N = fun i => if (i 0).val = 0 then W19 m c i else V m c main_v31_4 i := by
  refine (dats m 0 c).arrAt_eq_of_coversWhere 19 _ (fun β => β 0 = 0) (by decide +kernel) (fun t hf y => ?_)
    (fun j => by blk_simp [Pipeline.Window.cell_apply]; omega)
  have h7 : t.val % 8 = 7 := (flush0_19 t).mp hf
  blk_simp
  rw [after0_19]
  obtain ⟨a, b, h, d, l, rfl⟩ : ∃ (a : Fin 1) (b : Fin 1) (h : Fin 4) (d : Fin 256) (l : Fin 512), y = ix5 a b h d l := ⟨y 0, y 1, y 2, y 3, y 4, eq_ix5 y⟩
  have ht : t.val < 256 := (idx t).2.2.2.2.2.2
  rw [emb19 t a b h d l ⟨t.val / 8, by omega⟩ rfl]
  show _ = Cert.MixersFRefIdeal.RefTerm.stateR (ZB m c) ⟨t.val / 8, by omega⟩ h d l 2048
  obtain rfl : a = 0 := Subsingleton.elim _ _
  obtain rfl : b = 0 := Subsingleton.elim _ _
  refine (run_state m c t.val t.isLt ⟨t.val / 8, by omega⟩ rfl h d l).trans ?_
  rw [h7]

/-- The host's first result is the shift array's first layer with its unit axis dropped. -/
theorem tail_out (c : Dev nD) : Pipeline.afterTail₀ cfgs (dats m) 0 (V0 m) [hostOps1] c main_v34
    = shapeCast S32x3328 (extractStridedSlice S1x32x3328 ![0, 0, 0] (shapeCast S2x32x3328 (show FVec Ideal S2x32x1x3328 .f32 from (dats m 0 c).arrAt 17 (cfgs 0).N) shapeCasts_S2x32x1x3328_S2x32x3328) slices_S2x32x3328_S1x32x3328_0_0_0) shapeCasts_S1x32x3328_S32x3328 := by
  unfold Pipeline.afterTail₀
  simp only [hostOps1, List.flatten_cons, List.flatten_nil, List.append_nil, List.cons_append, List.nil_append, StableHlo.after_cons, StableHlo.after_nil]
  after_results_simp
  have e : Pipeline.withArrays (cfgs 0).spec c (V0 m c) (fun w => (dats m 0 c).arrAt w (cfgs 0).N) (Proc.devRef .tc main_v31_2) = (dats m 0 c).arrAt 17 (cfgs 0).N :=
    Pipeline.withArrays_arr spec0 (by decide) c (V0 m c) _ 17
  rw [e]
  rfl

/-- The host's other result is the state array's first layer. -/
theorem tail_state (c : Dev nD) : Pipeline.afterTail₀ cfgs (dats m) 0 (V0 m) [hostOps1] c main_v36
    = shapeCast S32x4x256x512 (extractStridedSlice S1x32x4x256x512 ![0, 0, 0, 0, 0] (show FVec Ideal S2x32x4x256x512 .f32 from (dats m 0 c).arrAt 19 (cfgs 0).N) slices_S2x32x4x256x512_S1x32x4x256x512_0_0_0_0_0) shapeCasts_S1x32x4x256x512_S32x4x256x512 := by
  unfold Pipeline.afterTail₀
  simp only [hostOps1, List.flatten_cons, List.flatten_nil, List.append_nil, List.cons_append, List.nil_append, StableHlo.after_cons, StableHlo.after_nil]
  after_results_simp
  have e : Pipeline.withArrays (cfgs 0).spec c (V0 m c) (fun w => (dats m 0 c).arrAt w (cfgs 0).N) (Proc.devRef .tc main_v31_4) = (dats m 0 c).arrAt 19 (cfgs 0).N :=
    Pipeline.withArrays_arr spec0 (by decide) c (V0 m c) _ 19
  rw [e]
  rfl

/-- The first layer of the shift array, its unit axis dropped, is read at its index with zeros put back. -/
theorem shift_layer (w : FVec Ideal S2x32x1x3328 .f32) (b : Fin 32) (k : Fin 3328) :
    shapeCast S32x3328 (extractStridedSlice S1x32x3328 ![0, 0, 0] (shapeCast S2x32x3328 w shapeCasts_S2x32x1x3328_S2x32x3328) slices_S2x32x3328_S1x32x3328_0_0_0) shapeCasts_S1x32x3328_S32x3328 (ix2 b k)
      = w (ix4 0 b 0 k) := by
  pointwise

/-- The first layer of the state array is read at its index with a zero before it. -/
theorem state_layer (w : FVec Ideal S2x32x4x256x512 .f32) (b : Fin 32) (h : Fin 4) (d : Fin 256) (l : Fin 512) :
    shapeCast S32x4x256x512 (extractStridedSlice S1x32x4x256x512 ![0, 0, 0, 0, 0] w slices_S2x32x4x256x512_S1x32x4x256x512_0_0_0_0_0) shapeCasts_S1x32x4x256x512_S32x4x256x512 (ix4 b h d l)
      = w (ix5 0 b h d l) := by
  pointwise

/-- The shift rows are the reference's. -/
theorem result_shift (c : Dev nD) :
    shapeCast S32x3328 (extractStridedSlice S1x32x3328 ![0, 0, 0] (shapeCast S2x32x3328 (show FVec Ideal S2x32x1x3328 .f32 from (dats m 0 c).arrAt 17 (cfgs 0).N) shapeCasts_S2x32x1x3328_S2x32x3328) slices_S2x32x3328_S1x32x3328_0_0_0) shapeCasts_S1x32x3328_S32x3328
      = Cert.MixersFRefIdeal.Read.val_main_v3 (F := Ideal) (m ((c : Thread nD τ).loc main_arg0)) := by
  rw [final17]
  funext i
  obtain ⟨b, k, rfl⟩ : ∃ (b : Fin 32) (k : Fin 3328), i = ix2 b k := ⟨i 0, i 1, eq_ix2 i⟩
  refine (shift_layer _ b k).trans ?_
  show ZA m c (ix3 b 2047 k) = _
  unfold ZA
  pointwise [Cert.MixersFRefIdeal.Read.val_main_v3, Cert.MixersFRefIdeal.Read.val_main_v2, Cert.MixersFRefIdeal.Read.val_main_v1]

/-- The new state is the reference's. -/
theorem result_state (c : Dev nD) :
    shapeCast S32x4x256x512 (extractStridedSlice S1x32x4x256x512 ![0, 0, 0, 0, 0] (show FVec Ideal S2x32x4x256x512 .f32 from (dats m 0 c).arrAt 19 (cfgs 0).N) slices_S2x32x4x256x512_S1x32x4x256x512_0_0_0_0_0) shapeCasts_S1x32x4x256x512_S32x4x256x512
      = Cert.MixersFRefIdeal.Read.val_main_v386 (F := Ideal) (m ((c : Thread nD τ).loc main_arg1)) := by
  rw [final19]
  funext i
  obtain ⟨b, h, d, l, rfl⟩ : ∃ (b : Fin 32) (h : Fin 4) (d : Fin 256) (l : Fin 512), i = ix4 b h d l := ⟨i 0, i 1, i 2, i 3, eq_ix4 i⟩
  refine (state_layer _ b h d l).trans ?_
  show Cert.MixersFRefIdeal.RefTerm.stateR (ZB m c) b h d l 2048 = _
  exact (Cert.MixersFRefIdeal.RefTerm.s_ref (ZB m c) b h d l).symm

end Cert.MixersFIdeal.RefValue

namespace Cert.Proof.MixersF

/-- The first layer's new shift rows and new retention state of the prompt batch equal the reference's on the same arguments. -/
theorem algebraic : Cert.algebraic_MixersFIdeal_MixersFRefIdeal := by
  intro m g m' g' _ hagree
  refine ⟨fun c => Cert.MixersFRefIdeal.Read.val_main_v3 (F := Ideal) (m ((c.tc : Thread Cert.MixersFIdeal.nD Cert.MixersFIdeal.τ).loc Cert.MixersFIdeal.main_arg0)),
    fun c => Cert.MixersFRefIdeal.Read.val_main_v386 (F := Ideal) (m ((c.tc : Thread Cert.MixersFIdeal.nD Cert.MixersFIdeal.τ).loc Cert.MixersFIdeal.main_arg1)), ?_, ?_⟩
  · refine (θ_run Cert.MixersFIdeal.defs _ _).mono (fun r h c => ⟨?_, ?_, h.2 c⟩)
      (θ_run_and (Cert.MixersFIdeal.Gen.run_main (F := Ideal) m g) (Cert.MixersFIdeal.Gen.unchanged (F := Ideal) m g))
    · refine ((h.1 c).2 Cert.MixersFIdeal.main_v34 (Pipeline.mem_restRefs_of Cert.MixersFIdeal.main_v34 (by decide) (by decide))).trans ?_
      rw [Cert.MixersFIdeal.RefValue.tail_out]
      exact Cert.MixersFIdeal.RefValue.result_shift m c
    · refine ((h.1 c).2 Cert.MixersFIdeal.main_v36 (Pipeline.mem_restRefs_of Cert.MixersFIdeal.main_v36 (by decide) (by decide))).trans ?_
      rw [Cert.MixersFIdeal.RefValue.tail_state]
      exact Cert.MixersFIdeal.RefValue.result_state m c
  · refine (θ_run Cert.MixersFRefIdeal.defs _ _).mono (fun r h c => ⟨(h c).1.trans ?_, (h c).2.1.trans ?_, (h c).2.2⟩)
      (Cert.MixersFRefIdeal.Value.run (F := Ideal) m' g')
    · obtain ⟨a0, a1, a2, a3, a4, a5, a6, a7, a8, a9, a10, a11, a12⟩ := hagree c
      refine (Cert.MixersFRefIdeal.Read.val_main_v3_eq _).trans ?_
      exact congrArg (Cert.MixersFRefIdeal.Read.val_main_v3 (F := Ideal)) a0
    · obtain ⟨a0, a1, a2, a3, a4, a5, a6, a7, a8, a9, a10, a11, a12⟩ := hagree c
      refine (Cert.MixersFRefIdeal.Read.val_main_v386_eq _).trans ?_
      exact congrArg (Cert.MixersFRefIdeal.Read.val_main_v386 (F := Ideal)) a1

end Cert.Proof.MixersF
-- ==== Proof.ValRwkvF.lean ====
module

public import proofs.«01_k».proof.Defs
public import proofs.«01_k».proof.Proof.Gen.RwkvFIdeal.Frame
public import proofs.«01_k».proof.Proof.Gen.RwkvFRefIdeal.Read
public import Idealize.ShloMosaic.Lib.Pointwise
public import Idealize.ShloMosaic.Lib.Pipeline.ValueKit
public import Idealize.ShloMosaic.Lib.Pipeline.ReadBack
public import Idealize.ShloMosaic.Lib.Claim

@[expose] public section
set_option maxRecDepth 16384

noncomputable section

open Idealize.ShloMosaic Idealize.ShloMosaic.TcCoe Idealize.SL.Sem
open Idealize.ShloMosaic.Pipeline (Dat)

/-! The new shift rows of the sample batch: the last of the sixteen rows of each batch element's projections. -/

namespace Cert.RwkvFIdeal.RefValue
open Cert.RwkvFIdeal Cert.RwkvFIdeal.Gen

variable (m : (ℓ : Loc nD τ sig) → Buf (Elt Ideal) ℓ)

/-- Grid point `t` stages batch element `t`'s padded rows and writes its shift row of the first layer. -/
theorem idx : ∀ t : Fin cfg0.N, win0_0.index t = ![t.val, 0] ∧ win0_16.index t = ![0, t.val, 0, 0] ∧ t.val < 32 :=
  (by decide +kernel : ∀ t : Fin grid0.N, _)

/-- The padded projections the host prepares. -/
def ZP (c : Dev nD) : FVec Ideal S2048x3328 .bf16 := V m c main_v17

/-- The projections given. -/
def ZA (c : Dev nD) : FVec Ideal S32x16x3328 .bf16 := m ((c : Thread nD τ).loc main_arg0)

/-- The shift array's first layer. -/
def W16 (c : Dev nD) : S2x32x1x3328.Idx → EReal := fun i => ZA m c (ix3 (i 1) 15 (i 3))

/-- The projection block holds the batch element's padded rows. -/
theorem blk0 (c : Dev nD) (t : Fin cfg0.N) (r : Fin 64) (k : Fin 3328) (R : Fin 2048) (hR : R.val = t.val * 64 + r.val) :
    (show FVec Ideal S64x3328 .bf16 from iblk m c 0 t) (ix2 r k) = ZP m c (ix2 R k) := by
  unfold ZP
  blk_ext [iblk, idx t]

/-- The padded projections, computed out: every batch element's sixteen rows followed by rows of zeros. -/
theorem table_rows (c : Dev nD) : ZP m c = shapeCast S2048x3328 (pad S32x64x3328 ![0, 0, 0] ![0, 48, 0] ![0, 0, 0]
    (shapeCast S32x16x3328 (shapeCast S512x3328 (ZA m c) shapeCasts_S32x16x3328_S512x3328) shapeCasts_S512x3328_S32x16x3328)
    (sitofp (F := Ideal) .bf16 (constantI S_ 32 0#32)) pads_S32x16x3328_S32x64x3328_000_0480_000 h_S_) shapeCasts_S32x64x3328_S2048x3328 := by
  unfold ZP ZA
  simp only [V, V0, hostOps0, hostOps0_1, hostOps0_2, List.flatten_cons, List.flatten_nil, List.append_nil, List.cons_append, List.nil_append, StableHlo.after_cons, StableHlo.after_nil]
  after_results_simp
  after_results_loop
  rfl

/-- The padded projections hold the batch element's rows. -/
theorem entry_rows (c : Dev nD) (b : Fin 32) (r : Fin 16) (k : Fin 3328) :
    ZP m c (ix2 ⟨b.val * 64 + r.val, by omega⟩ k) = ZA m c (ix3 b r k) := by
  have h : r.val < 16 := r.isLt
  rw [table_rows]
  have e : (⟨(b.val * 64 + r.val) % 64, by omega⟩ : Fin 16) = r := Fin.ext (by show (b.val * 64 + r.val) % 64 = r.val; omega)
  pointwise
  rw [dif_pos (by omega), e]

/-- The stored shift row, read at an index. -/
theorem shift_at (X : FVec Ideal S64x3328 .bf16) (k : Fin 3328) : k0_pay5 (F := Ideal) X (ix4 0 0 0 k) = X (ix2 15 k) := by
  pointwise [k0_pay5, k0_pay3]

/-- The shift array after the run: its first layer is new, its second as it was. -/
theorem final16 (c : Dev nD) : (dats m 0 c).arrAt 16 (cfgs 0).N = fun i => if (i 0).val = 0 then W16 m c i else V m c main_v30_2 i := by
  refine (dats m 0 c).arrAt_eq_of_coversWhere 16 _ (fun β => β 0 = 0) (by decide +kernel) (fun t hf y => ?_)
    (fun j => by blk_simp [Pipeline.Window.cell_apply]; omega)
  blk_simp
  rw [after0_16]; unfold Gen.outsAt0; frame_open; simp (disch := decide) only [↓ View.readCov_skip, ↓ View.readCov_cons_toLoadRect, ↓ View.readCov_fill]; frame_out
  obtain ⟨a, b, d, k, rfl⟩ : ∃ (a : Fin 1) (b : Fin 1) (d : Fin 1) (k : Fin 3328), y = ix4 a b d k := ⟨y 0, y 1, y 2, y 3, eq_ix4 y⟩
  have ht := (idx t).2.2
  have he : ((View.whole main_v30_2).slice (win0_16.rect t)).emb (ix4 a b d k) = ix4 0 ⟨t.val, ht⟩ 0 k := by
    blk_ext [idx t]
  rw [he]
  show _ = ZA m c (ix3 ⟨t.val, ht⟩ 15 k)
  obtain rfl : a = 0 := Subsingleton.elim _ _
  obtain rfl : b = 0 := Subsingleton.elim _ _
  obtain rfl : d = 0 := Subsingleton.elim _ _
  refine Eq.trans (shift_at (iblk m c 0 t) k) ?_
  exact (blk0 m c t 15 k ⟨t.val * 64 + 15, by omega⟩ rfl).trans (entry_rows m c ⟨t.val, ht⟩ 15 k)

/-- The host's last result is the shift array's first layer with its unit axis dropped. -/
theorem tail_out (c : Dev nD) : Pipeline.afterTail₀ cfgs (dats m) 0 (V0 m) [hostOps1] c main_v33
    = shapeCast S32x3328 (extractStridedSlice S1x32x3328 ![0, 0, 0] (shapeCast S2x32x3328 (show FVec Ideal S2x32x1x3328 .f32 from (dats m 0 c).arrAt 16 (cfgs 0).N) shapeCasts_S2x32x1x3328_S2x32x3328) slices_S2x32x3328_S1x32x3328_0_0_0) shapeCasts_S1x32x3328_S32x3328 := by
  unfold Pipeline.afterTail₀
  simp only [hostOps1, List.flatten_cons, List.flatten_nil, List.append_nil, List.cons_append, List.nil_append, StableHlo.after_cons, StableHlo.after_nil]
  after_results_simp
  have e : Pipeline.withArrays (cfgs 0).spec c (V0 m c) (fun w => (dats m 0 c).arrAt w (cfgs 0).N) (Proc.devRef .tc main_v30_2) = (dats m 0 c).arrAt 16 (cfgs 0).N :=
    Pipeline.withArrays_arr spec0 (by decide) c (V0 m c) _ 16
  rw [e]
  rfl

/-- The first layer of an array, its unit axis dropped, is read at its index with zeros put back. -/
theorem layer_at (w : FVec Ideal S2x32x1x3328 .f32) (b : Fin 32) (k : Fin 3328) :
    shapeCast S32x3328 (extractStridedSlice S1x32x3328 ![0, 0, 0] (shapeCast S2x32x3328 w shapeCasts_S2x32x1x3328_S2x32x3328) slices_S2x32x3328_S1x32x3328_0_0_0) shapeCasts_S1x32x3328_S32x3328 (ix2 b k)
      = w (ix4 0 b 0 k) := by
  pointwise

/-- The shift rows are the reference's. -/
theorem result_shift (c : Dev nD) :
    shapeCast S32x3328 (extractStridedSlice S1x32x3328 ![0, 0, 0] (shapeCast S2x32x3328 (show FVec Ideal S2x32x1x3328 .f32 from (dats m 0 c).arrAt 16 (cfgs 0).N) shapeCasts_S2x32x1x3328_S2x32x3328) slices_S2x32x3328_S1x32x3328_0_0_0) shapeCasts_S1x32x3328_S32x3328
      = Cert.RwkvFRefIdeal.Read.val_main_v2 (F := Ideal) (m ((c : Thread nD τ).loc main_arg0)) := by
  rw [final16]
  funext i
  obtain ⟨b, k, rfl⟩ : ∃ (b : Fin 32) (k : Fin 3328), i = ix2 b k := ⟨i 0, i 1, eq_ix2 i⟩
  refine (layer_at _ b k).trans ?_
  show ZA m c (ix3 b 15 k) = _
  unfold ZA
  pointwise [Cert.RwkvFRefIdeal.Read.val_main_v2, Cert.RwkvFRefIdeal.Read.val_main_v1, Cert.RwkvFRefIdeal.Read.val_main_v0]

end Cert.RwkvFIdeal.RefValue

namespace Cert.Proof.RwkvF

/-- The first layer's new shift rows of the sample batch equal the reference's on the same arguments. -/
theorem algebraic : Cert.algebraic_RwkvFIdeal_RwkvFRefIdeal := by
  intro m g m' g' _ hagree
  refine ⟨fun c => Cert.RwkvFRefIdeal.Read.val_main_v2 (F := Ideal) (m ((c.tc : Thread Cert.RwkvFIdeal.nD Cert.RwkvFIdeal.τ).loc Cert.RwkvFIdeal.main_arg0)), ?_, ?_⟩
  · refine (θ_run Cert.RwkvFIdeal.defs _ _).mono (fun r h c => ⟨?_, h.2 c⟩)
      (θ_run_and (Cert.RwkvFIdeal.Gen.run_main (F := Ideal) m g) (Cert.RwkvFIdeal.Gen.unchanged (F := Ideal) m g))
    refine ((h.1 c).2 Cert.RwkvFIdeal.main_v33 (Pipeline.mem_restRefs_of Cert.RwkvFIdeal.main_v33 (by decide) (by decide))).trans ?_
    rw [Cert.RwkvFIdeal.RefValue.tail_out]
    exact Cert.RwkvFIdeal.RefValue.result_shift m c
  · refine (θ_run Cert.RwkvFRefIdeal.defs _ _).mono (fun r h c => ⟨(h c).1.trans ?_, (h c).2⟩)
      (Cert.RwkvFRefIdeal.Value.run (F := Ideal) m' g')
    obtain ⟨a0, a1, a2, a3, a4, a5, a6, a7, a8, a9, a10, a11, a12, a13⟩ := hagree c
    refine (Cert.RwkvFRefIdeal.Read.val_main_v2_eq _).trans ?_
    exact congrArg (Cert.RwkvFRefIdeal.Read.val_main_v2 (F := Ideal)) a0

end Cert.Proof.RwkvF
-- ==== Proof.lean ====
/- The proof of the certificate's claim: for every program the frame of its three forms, that the idealisation
   preserves the program, and that the idealised kernel computes the reference's result over the extended reals. -/
module

public import proofs.«01_k».proof.Defs
public import proofs.«01_k».proof.Proof.Gen.Ret.Frame
public import proofs.«01_k».proof.Proof.ValRet
public import proofs.«01_k».proof.Proof.Gen.RetRefIdeal.Run
public import proofs.«01_k».proof.Proof.Gen.Mixers.Frame
public import proofs.«01_k».proof.Proof.ValMixers
public import proofs.«01_k».proof.Proof.Gen.MixersRefIdeal.Run
public import proofs.«01_k».proof.Proof.Gen.Rwkv.Frame
public import proofs.«01_k».proof.Proof.ValRwkv
public import proofs.«01_k».proof.Proof.Gen.RwkvRefIdeal.Run
public import proofs.«01_k».proof.Proof.Gen.Ffn.Frame
public import proofs.«01_k».proof.Proof.ValFfn
public import proofs.«01_k».proof.Proof.Gen.FfnRefIdeal.Run
public import proofs.«01_k».proof.Proof.Gen.FfnS.Frame
public import proofs.«01_k».proof.Proof.ValFfnS
public import proofs.«01_k».proof.Proof.Gen.FfnSRefIdeal.Run
public import proofs.«01_k».proof.Proof.Gen.Merge.Frame
public import proofs.«01_k».proof.Proof.ValMerge
public import proofs.«01_k».proof.Proof.Gen.MergeRefIdeal.Run
public import proofs.«01_k».proof.Proof.Gen.InA.Frame
public import proofs.«01_k».proof.Proof.ValInA
public import proofs.«01_k».proof.Proof.Gen.InARefIdeal.Run
public import proofs.«01_k».proof.Proof.Gen.InB.Frame
public import proofs.«01_k».proof.Proof.ValInB
public import proofs.«01_k».proof.Proof.Gen.InBRefIdeal.Run
public import proofs.«01_k».proof.Proof.Gen.InG.Frame
public import proofs.«01_k».proof.Proof.ValInG
public import proofs.«01_k».proof.Proof.Gen.InGRefIdeal.Run
public import proofs.«01_k».proof.Proof.Gen.Ada.Frame
public import proofs.«01_k».proof.Proof.ValAda
public import proofs.«01_k».proof.Proof.Gen.AdaRefIdeal.Run
public import proofs.«01_k».proof.Proof.Gen.Prenorm.Frame
public import proofs.«01_k».proof.Proof.ValPrenorm
public import proofs.«01_k».proof.Proof.Gen.PrenormRefIdeal.Run
public import proofs.«01_k».proof.Proof.Gen.InAS.Frame
public import proofs.«01_k».proof.Proof.ValInAS
public import proofs.«01_k».proof.Proof.Gen.InASRefIdeal.Run
public import proofs.«01_k».proof.Proof.Gen.InBS.Frame
public import proofs.«01_k».proof.Proof.ValInBS
public import proofs.«01_k».proof.Proof.Gen.InBSRefIdeal.Run
public import proofs.«01_k».proof.Proof.Gen.InGS.Frame
public import proofs.«01_k».proof.Proof.ValInGS
public import proofs.«01_k».proof.Proof.Gen.InGSRefIdeal.Run
public import proofs.«01_k».proof.Proof.Gen.MergeS.Frame
public import proofs.«01_k».proof.Proof.ValMergeS
public import proofs.«01_k».proof.Proof.Gen.MergeSRefIdeal.Run
public import proofs.«01_k».proof.Proof.Gen.PrenormS.Frame
public import proofs.«01_k».proof.Proof.ValPrenormS
public import proofs.«01_k».proof.Proof.Gen.PrenormSRefIdeal.Run
public import proofs.«01_k».proof.Proof.Gen.FfnN.Frame
public import proofs.«01_k».proof.Proof.ValFfnN
public import proofs.«01_k».proof.Proof.Gen.FfnNRefIdeal.Run
public import proofs.«01_k».proof.Proof.Gen.FfnNS.Frame
public import proofs.«01_k».proof.Proof.ValFfnNS
public import proofs.«01_k».proof.Proof.Gen.FfnNSRefIdeal.Run
public import proofs.«01_k».proof.Proof.Gen.RetF.Frame
public import proofs.«01_k».proof.Proof.ValRetF
public import proofs.«01_k».proof.Proof.Gen.RetFRefIdeal.Run
public import proofs.«01_k».proof.Proof.Gen.MixersF.Frame
public import proofs.«01_k».proof.Proof.ValMixersF
public import proofs.«01_k».proof.Proof.Gen.MixersFRefIdeal.Run
public import proofs.«01_k».proof.Proof.Gen.RwkvF.Frame
public import proofs.«01_k».proof.Proof.ValRwkvF
public import proofs.«01_k».proof.Proof.Gen.RwkvFRefIdeal.Run
public import Idealize.ShloMosaic.Adequacy
public import Idealize.ShloMosaic.Init

@[expose] public section

noncomputable section

open Idealize.ShloMosaic Idealize.SL.Sem

/-- The reference of `Ret` ends with its arguments unchanged and every counter at zero. -/
theorem Cert.Proof.frame_RetRefIdeal : Cert.quiescent_RetRefIdeal := fun m g _ =>
  (θ_run Cert.RetRefIdeal.defs _ _).mono (fun r h => ⟨fun c => (h c).2.2, sem_eq_zero_of_no_sems (by decide) r.2⟩) (Cert.RetRefIdeal.Value.run m g)

/-- The reference of `Mixers` ends with its arguments unchanged and every counter at zero. -/
theorem Cert.Proof.frame_MixersRefIdeal : Cert.quiescent_MixersRefIdeal := fun m g _ =>
  (θ_run Cert.MixersRefIdeal.defs _ _).mono (fun r h => ⟨fun c => (h c).2.2, sem_eq_zero_of_no_sems (by decide) r.2⟩) (Cert.MixersRefIdeal.Value.run m g)

/-- The reference of `Rwkv` ends with its arguments unchanged and every counter at zero. -/
theorem Cert.Proof.frame_RwkvRefIdeal : Cert.quiescent_RwkvRefIdeal := fun m g _ =>
  (θ_run Cert.RwkvRefIdeal.defs _ _).mono (fun r h => ⟨fun c => (h c).2, sem_eq_zero_of_no_sems (by decide) r.2⟩) (Cert.RwkvRefIdeal.Value.run m g)

/-- The reference of `Ffn` ends with its arguments unchanged and every counter at zero. -/
theorem Cert.Proof.frame_FfnRefIdeal : Cert.quiescent_FfnRefIdeal := fun m g _ =>
  (θ_run Cert.FfnRefIdeal.defs _ _).mono (fun r h => ⟨fun c => (h c).2, sem_eq_zero_of_no_sems (by decide) r.2⟩) (Cert.FfnRefIdeal.Value.run m g)

/-- The reference of `FfnS` ends with its arguments unchanged and every counter at zero. -/
theorem Cert.Proof.frame_FfnSRefIdeal : Cert.quiescent_FfnSRefIdeal := fun m g _ =>
  (θ_run Cert.FfnSRefIdeal.defs _ _).mono (fun r h => ⟨fun c => (h c).2, sem_eq_zero_of_no_sems (by decide) r.2⟩) (Cert.FfnSRefIdeal.Value.run m g)

/-- The reference of `Merge` ends with its arguments unchanged and every counter at zero. -/
theorem Cert.Proof.frame_MergeRefIdeal : Cert.quiescent_MergeRefIdeal := fun m g _ =>
  (θ_run Cert.MergeRefIdeal.defs _ _).mono (fun r h => ⟨fun c => (h c).2, sem_eq_zero_of_no_sems (by decide) r.2⟩) (Cert.MergeRefIdeal.Value.run m g)

/-- The reference of `InA` ends with its arguments unchanged and every counter at zero. -/
theorem Cert.Proof.frame_InARefIdeal : Cert.quiescent_InARefIdeal := fun m g _ =>
  (θ_run Cert.InARefIdeal.defs _ _).mono (fun r h => ⟨fun c => (h c).2, sem_eq_zero_of_no_sems (by decide) r.2⟩) (Cert.InARefIdeal.Value.run m g)

/-- The reference of `InB` ends with its arguments unchanged and every counter at zero. -/
theorem Cert.Proof.frame_InBRefIdeal : Cert.quiescent_InBRefIdeal := fun m g _ =>
  (θ_run Cert.InBRefIdeal.defs _ _).mono (fun r h => ⟨fun c => (h c).2, sem_eq_zero_of_no_sems (by decide) r.2⟩) (Cert.InBRefIdeal.Value.run m g)

/-- The reference of `InG` ends with its arguments unchanged and every counter at zero. -/
theorem Cert.Proof.frame_InGRefIdeal : Cert.quiescent_InGRefIdeal := fun m g _ =>
  (θ_run Cert.InGRefIdeal.defs _ _).mono (fun r h => ⟨fun c => (h c).2, sem_eq_zero_of_no_sems (by decide) r.2⟩) (Cert.InGRefIdeal.Value.run m g)

/-- The reference of `Ada` ends with its arguments unchanged and every counter at zero. -/
theorem Cert.Proof.frame_AdaRefIdeal : Cert.quiescent_AdaRefIdeal := fun m g _ =>
  (θ_run Cert.AdaRefIdeal.defs _ _).mono (fun r h => ⟨fun c => (h c).2, sem_eq_zero_of_no_sems (by decide) r.2⟩) (Cert.AdaRefIdeal.Value.run m g)

/-- The reference of `Prenorm` ends with its arguments unchanged and every counter at zero. -/
theorem Cert.Proof.frame_PrenormRefIdeal : Cert.quiescent_PrenormRefIdeal := fun m g _ =>
  (θ_run Cert.PrenormRefIdeal.defs _ _).mono (fun r h => ⟨fun c => (h c).2, sem_eq_zero_of_no_sems (by decide) r.2⟩) (Cert.PrenormRefIdeal.Value.run m g)

/-- The reference of `InAS` ends with its arguments unchanged and every counter at zero. -/
theorem Cert.Proof.frame_InASRefIdeal : Cert.quiescent_InASRefIdeal := fun m g _ =>
  (θ_run Cert.InASRefIdeal.defs _ _).mono (fun r h => ⟨fun c => (h c).2, sem_eq_zero_of_no_sems (by decide) r.2⟩) (Cert.InASRefIdeal.Value.run m g)

/-- The reference of `InBS` ends with its arguments unchanged and every counter at zero. -/
theorem Cert.Proof.frame_InBSRefIdeal : Cert.quiescent_InBSRefIdeal := fun m g _ =>
  (θ_run Cert.InBSRefIdeal.defs _ _).mono (fun r h => ⟨fun c => (h c).2, sem_eq_zero_of_no_sems (by decide) r.2⟩) (Cert.InBSRefIdeal.Value.run m g)

/-- The reference of `InGS` ends with its arguments unchanged and every counter at zero. -/
theorem Cert.Proof.frame_InGSRefIdeal : Cert.quiescent_InGSRefIdeal := fun m g _ =>
  (θ_run Cert.InGSRefIdeal.defs _ _).mono (fun r h => ⟨fun c => (h c).2, sem_eq_zero_of_no_sems (by decide) r.2⟩) (Cert.InGSRefIdeal.Value.run m g)

/-- The reference of `MergeS` ends with its arguments unchanged and every counter at zero. -/
theorem Cert.Proof.frame_MergeSRefIdeal : Cert.quiescent_MergeSRefIdeal := fun m g _ =>
  (θ_run Cert.MergeSRefIdeal.defs _ _).mono (fun r h => ⟨fun c => (h c).2, sem_eq_zero_of_no_sems (by decide) r.2⟩) (Cert.MergeSRefIdeal.Value.run m g)

/-- The reference of `PrenormS` ends with its arguments unchanged and every counter at zero. -/
theorem Cert.Proof.frame_PrenormSRefIdeal : Cert.quiescent_PrenormSRefIdeal := fun m g _ =>
  (θ_run Cert.PrenormSRefIdeal.defs _ _).mono (fun r h => ⟨fun c => (h c).2, sem_eq_zero_of_no_sems (by decide) r.2⟩) (Cert.PrenormSRefIdeal.Value.run m g)

/-- The reference of `FfnN` ends with its arguments unchanged and every counter at zero. -/
theorem Cert.Proof.frame_FfnNRefIdeal : Cert.quiescent_FfnNRefIdeal := fun m g _ =>
  (θ_run Cert.FfnNRefIdeal.defs _ _).mono (fun r h => ⟨fun c => (h c).2.2, sem_eq_zero_of_no_sems (by decide) r.2⟩) (Cert.FfnNRefIdeal.Value.run m g)

/-- The reference of `FfnNS` ends with its arguments unchanged and every counter at zero. -/
theorem Cert.Proof.frame_FfnNSRefIdeal : Cert.quiescent_FfnNSRefIdeal := fun m g _ =>
  (θ_run Cert.FfnNSRefIdeal.defs _ _).mono (fun r h => ⟨fun c => (h c).2.2, sem_eq_zero_of_no_sems (by decide) r.2⟩) (Cert.FfnNSRefIdeal.Value.run m g)

/-- The reference of `RetF` ends with its arguments unchanged and every counter at zero. -/
theorem Cert.Proof.frame_RetFRefIdeal : Cert.quiescent_RetFRefIdeal := fun m g _ =>
  (θ_run Cert.RetFRefIdeal.defs _ _).mono (fun r h => ⟨fun c => (h c).2.2, sem_eq_zero_of_no_sems (by decide) r.2⟩) (Cert.RetFRefIdeal.Value.run m g)

/-- The reference of `MixersF` ends with its arguments unchanged and every counter at zero. -/
theorem Cert.Proof.frame_MixersFRefIdeal : Cert.quiescent_MixersFRefIdeal := fun m g _ =>
  (θ_run Cert.MixersFRefIdeal.defs _ _).mono (fun r h => ⟨fun c => (h c).2.2, sem_eq_zero_of_no_sems (by decide) r.2⟩) (Cert.MixersFRefIdeal.Value.run m g)

/-- The reference of `RwkvF` ends with its arguments unchanged and every counter at zero. -/
theorem Cert.Proof.frame_RwkvFRefIdeal : Cert.quiescent_RwkvFRefIdeal := fun m g _ =>
  (θ_run Cert.RwkvFRefIdeal.defs _ _).mono (fun r h => ⟨fun c => (h c).2, sem_eq_zero_of_no_sems (by decide) r.2⟩) (Cert.RwkvFRefIdeal.Value.run m g)

/-- The whole certificate. -/
theorem Cert.Proof.claim : Cert.Claim :=
  ⟨Cert.Ret.Gen.facts,
    Cert.RetIdeal.Gen.facts,
    Cert.RetRefIdeal.Gen.facts,
    Cert.Mixers.Gen.facts,
    Cert.MixersIdeal.Gen.facts,
    Cert.MixersRefIdeal.Gen.facts,
    Cert.Rwkv.Gen.facts,
    Cert.RwkvIdeal.Gen.facts,
    Cert.RwkvRefIdeal.Gen.facts,
    Cert.Ffn.Gen.facts,
    Cert.FfnIdeal.Gen.facts,
    Cert.FfnRefIdeal.Gen.facts,
    Cert.FfnS.Gen.facts,
    Cert.FfnSIdeal.Gen.facts,
    Cert.FfnSRefIdeal.Gen.facts,
    Cert.Merge.Gen.facts,
    Cert.MergeIdeal.Gen.facts,
    Cert.MergeRefIdeal.Gen.facts,
    Cert.InA.Gen.facts,
    Cert.InAIdeal.Gen.facts,
    Cert.InARefIdeal.Gen.facts,
    Cert.InB.Gen.facts,
    Cert.InBIdeal.Gen.facts,
    Cert.InBRefIdeal.Gen.facts,
    Cert.InG.Gen.facts,
    Cert.InGIdeal.Gen.facts,
    Cert.InGRefIdeal.Gen.facts,
    Cert.Ada.Gen.facts,
    Cert.AdaIdeal.Gen.facts,
    Cert.AdaRefIdeal.Gen.facts,
    Cert.Prenorm.Gen.facts,
    Cert.PrenormIdeal.Gen.facts,
    Cert.PrenormRefIdeal.Gen.facts,
    Cert.InAS.Gen.facts,
    Cert.InASIdeal.Gen.facts,
    Cert.InASRefIdeal.Gen.facts,
    Cert.InBS.Gen.facts,
    Cert.InBSIdeal.Gen.facts,
    Cert.InBSRefIdeal.Gen.facts,
    Cert.InGS.Gen.facts,
    Cert.InGSIdeal.Gen.facts,
    Cert.InGSRefIdeal.Gen.facts,
    Cert.MergeS.Gen.facts,
    Cert.MergeSIdeal.Gen.facts,
    Cert.MergeSRefIdeal.Gen.facts,
    Cert.PrenormS.Gen.facts,
    Cert.PrenormSIdeal.Gen.facts,
    Cert.PrenormSRefIdeal.Gen.facts,
    Cert.FfnN.Gen.facts,
    Cert.FfnNIdeal.Gen.facts,
    Cert.FfnNRefIdeal.Gen.facts,
    Cert.FfnNS.Gen.facts,
    Cert.FfnNSIdeal.Gen.facts,
    Cert.FfnNSRefIdeal.Gen.facts,
    Cert.RetF.Gen.facts,
    Cert.RetFIdeal.Gen.facts,
    Cert.RetFRefIdeal.Gen.facts,
    Cert.MixersF.Gen.facts,
    Cert.MixersFIdeal.Gen.facts,
    Cert.MixersFRefIdeal.Gen.facts,
    Cert.RwkvF.Gen.facts,
    Cert.RwkvFIdeal.Gen.facts,
    Cert.RwkvFRefIdeal.Gen.facts,
    fun m ρ _ => Cert.Ret.Gen.frame m ρ,
    fun m ρ _ => Cert.RetIdeal.Gen.frame m ρ,
    Cert.Proof.frame_RetRefIdeal,
    fun m ρ _ => Cert.Mixers.Gen.frame m ρ,
    fun m ρ _ => Cert.MixersIdeal.Gen.frame m ρ,
    Cert.Proof.frame_MixersRefIdeal,
    fun m ρ _ => Cert.Rwkv.Gen.frame m ρ,
    fun m ρ _ => Cert.RwkvIdeal.Gen.frame m ρ,
    Cert.Proof.frame_RwkvRefIdeal,
    fun m ρ _ => Cert.Ffn.Gen.frame m ρ,
    fun m ρ _ => Cert.FfnIdeal.Gen.frame m ρ,
    Cert.Proof.frame_FfnRefIdeal,
    fun m ρ _ => Cert.FfnS.Gen.frame m ρ,
    fun m ρ _ => Cert.FfnSIdeal.Gen.frame m ρ,
    Cert.Proof.frame_FfnSRefIdeal,
    fun m ρ _ => Cert.Merge.Gen.frame m ρ,
    fun m ρ _ => Cert.MergeIdeal.Gen.frame m ρ,
    Cert.Proof.frame_MergeRefIdeal,
    fun m ρ _ => Cert.InA.Gen.frame m ρ,
    fun m ρ _ => Cert.InAIdeal.Gen.frame m ρ,
    Cert.Proof.frame_InARefIdeal,
    fun m ρ _ => Cert.InB.Gen.frame m ρ,
    fun m ρ _ => Cert.InBIdeal.Gen.frame m ρ,
    Cert.Proof.frame_InBRefIdeal,
    fun m ρ _ => Cert.InG.Gen.frame m ρ,
    fun m ρ _ => Cert.InGIdeal.Gen.frame m ρ,
    Cert.Proof.frame_InGRefIdeal,
    fun m ρ _ => Cert.Ada.Gen.frame m ρ,
    fun m ρ _ => Cert.AdaIdeal.Gen.frame m ρ,
    Cert.Proof.frame_AdaRefIdeal,
    fun m ρ _ => Cert.Prenorm.Gen.frame m ρ,
    fun m ρ _ => Cert.PrenormIdeal.Gen.frame m ρ,
    Cert.Proof.frame_PrenormRefIdeal,
    fun m ρ _ => Cert.InAS.Gen.frame m ρ,
    fun m ρ _ => Cert.InASIdeal.Gen.frame m ρ,
    Cert.Proof.frame_InASRefIdeal,
    fun m ρ _ => Cert.InBS.Gen.frame m ρ,
    fun m ρ _ => Cert.InBSIdeal.Gen.frame m ρ,
    Cert.Proof.frame_InBSRefIdeal,
    fun m ρ _ => Cert.InGS.Gen.frame m ρ,
    fun m ρ _ => Cert.InGSIdeal.Gen.frame m ρ,
    Cert.Proof.frame_InGSRefIdeal,
    fun m ρ _ => Cert.MergeS.Gen.frame m ρ,
    fun m ρ _ => Cert.MergeSIdeal.Gen.frame m ρ,
    Cert.Proof.frame_MergeSRefIdeal,
    fun m ρ _ => Cert.PrenormS.Gen.frame m ρ,
    fun m ρ _ => Cert.PrenormSIdeal.Gen.frame m ρ,
    Cert.Proof.frame_PrenormSRefIdeal,
    fun m ρ _ => Cert.FfnN.Gen.frame m ρ,
    fun m ρ _ => Cert.FfnNIdeal.Gen.frame m ρ,
    Cert.Proof.frame_FfnNRefIdeal,
    fun m ρ _ => Cert.FfnNS.Gen.frame m ρ,
    fun m ρ _ => Cert.FfnNSIdeal.Gen.frame m ρ,
    Cert.Proof.frame_FfnNSRefIdeal,
    fun m ρ _ => Cert.RetF.Gen.frame m ρ,
    fun m ρ _ => Cert.RetFIdeal.Gen.frame m ρ,
    Cert.Proof.frame_RetFRefIdeal,
    fun m ρ _ => Cert.MixersF.Gen.frame m ρ,
    fun m ρ _ => Cert.MixersFIdeal.Gen.frame m ρ,
    Cert.Proof.frame_MixersFRefIdeal,
    fun m ρ _ => Cert.RwkvF.Gen.frame m ρ,
    fun m ρ _ => Cert.RwkvFIdeal.Gen.frame m ρ,
    Cert.Proof.frame_RwkvFRefIdeal,
    ⟨IdealRules.named_const.statement Cert.RetIdeal.κ "log_g0" .f32 0xBD020AEC#32 ((Real.log (31 / 32) : ℝ) : EReal) rfl,
      IdealRules.named_const.statement Cert.RetIdeal.κ "g16_0" .f32 0x3F1A09B0#32 ((727423121747185263828481 / 1208925819614629174706176 : ℝ) : EReal) rfl,
      IdealRules.named_const.statement Cert.RetIdeal.κ "log_g1" .f32 0xBC8102B3#32 ((Real.log (63 / 64) : ℝ) : EReal) rfl,
      IdealRules.named_const.statement Cert.RetIdeal.κ "g16_1" .f32 0x3F46FADA#32 ((61581291280182164914327485441 / 79228162514264337593543950336 : ℝ) : EReal) rfl,
      IdealRules.named_const.statement Cert.RetIdeal.κ "log_g2" .f32 0xBC0080AC#32 ((Real.log (127 / 128) : ℝ) : EReal) rfl,
      IdealRules.named_const.statement Cert.RetIdeal.κ "g16_2" .f32 0x3F61CEF0#32 ((4579937329576774398276408998492161 / 5192296858534827628530496329220096 : ℝ) : EReal) rfl,
      IdealRules.named_const.statement Cert.RetIdeal.κ "log_g3" .f32 0xBB80402B#32 ((Real.log (255 / 256) : ℝ) : EReal) rfl,
      IdealRules.named_const.statement Cert.RetIdeal.κ "g16_3" .f32 0x3F7075D7#32 ((319626579315078487616775634918212890625 / 340282366920938463463374607431768211456 : ℝ) : EReal) rfl⟩,
    Cert.Proof.Ret.algebraic,
    ⟨IdealRules.named_const.statement Cert.MixersIdeal.κ "log_g0" .f32 0xBD020AEC#32 ((Real.log (31 / 32) : ℝ) : EReal) rfl,
      IdealRules.named_const.statement Cert.MixersIdeal.κ "g128_0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal) rfl,
      IdealRules.named_const.statement Cert.MixersIdeal.κ "log_g1" .f32 0xBC8102B3#32 ((Real.log (63 / 64) : ℝ) : EReal) rfl,
      IdealRules.named_const.statement Cert.MixersIdeal.κ "g128_1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal) rfl,
      IdealRules.named_const.statement Cert.MixersIdeal.κ "log_g2" .f32 0xBC0080AC#32 ((Real.log (127 / 128) : ℝ) : EReal) rfl,
      IdealRules.named_const.statement Cert.MixersIdeal.κ "g128_2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal) rfl,
      IdealRules.named_const.statement Cert.MixersIdeal.κ "log_g3" .f32 0xBB80402B#32 ((Real.log (255 / 256) : ℝ) : EReal) rfl,
      IdealRules.named_const.statement Cert.MixersIdeal.κ "g128_3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal) rfl⟩,
    Cert.Proof.Mixers.algebraic,
    trivial,
    Cert.Proof.Rwkv.algebraic,
    trivial,
    Cert.Proof.Ffn.algebraic,
    trivial,
    Cert.Proof.FfnS.algebraic,
    trivial,
    Cert.Proof.Merge.algebraic,
    trivial,
    Cert.Proof.InA.algebraic,
    trivial,
    Cert.Proof.InB.algebraic,
    trivial,
    Cert.Proof.InG.algebraic,
    trivial,
    Cert.Proof.Ada.algebraic,
    trivial,
    Cert.Proof.Prenorm.algebraic,
    trivial,
    Cert.Proof.InAS.algebraic,
    trivial,
    Cert.Proof.InBS.algebraic,
    trivial,
    Cert.Proof.InGS.algebraic,
    trivial,
    Cert.Proof.MergeS.algebraic,
    trivial,
    Cert.Proof.PrenormS.algebraic,
    trivial,
    Cert.Proof.FfnN.algebraic,
    trivial,
    Cert.Proof.FfnNS.algebraic,
    ⟨IdealRules.named_const.statement Cert.RetFIdeal.κ "log_g0" .f32 0xBD020AEC#32 ((Real.log (31 / 32) : ℝ) : EReal) rfl,
      IdealRules.named_const.statement Cert.RetFIdeal.κ "g16_0" .f32 0x3F1A09B0#32 ((727423121747185263828481 / 1208925819614629174706176 : ℝ) : EReal) rfl,
      IdealRules.named_const.statement Cert.RetFIdeal.κ "log_g1" .f32 0xBC8102B3#32 ((Real.log (63 / 64) : ℝ) : EReal) rfl,
      IdealRules.named_const.statement Cert.RetFIdeal.κ "g16_1" .f32 0x3F46FADA#32 ((61581291280182164914327485441 / 79228162514264337593543950336 : ℝ) : EReal) rfl,
      IdealRules.named_const.statement Cert.RetFIdeal.κ "log_g2" .f32 0xBC0080AC#32 ((Real.log (127 / 128) : ℝ) : EReal) rfl,
      IdealRules.named_const.statement Cert.RetFIdeal.κ "g16_2" .f32 0x3F61CEF0#32 ((4579937329576774398276408998492161 / 5192296858534827628530496329220096 : ℝ) : EReal) rfl,
      IdealRules.named_const.statement Cert.RetFIdeal.κ "log_g3" .f32 0xBB80402B#32 ((Real.log (255 / 256) : ℝ) : EReal) rfl,
      IdealRules.named_const.statement Cert.RetFIdeal.κ "g16_3" .f32 0x3F7075D7#32 ((319626579315078487616775634918212890625 / 340282366920938463463374607431768211456 : ℝ) : EReal) rfl⟩,
    Cert.Proof.RetF.algebraic,
    ⟨IdealRules.named_const.statement Cert.MixersFIdeal.κ "log_g0" .f32 0xBD020AEC#32 ((Real.log (31 / 32) : ℝ) : EReal) rfl,
      IdealRules.named_const.statement Cert.MixersFIdeal.κ "g128_0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal) rfl,
      IdealRules.named_const.statement Cert.MixersFIdeal.κ "log_g1" .f32 0xBC8102B3#32 ((Real.log (63 / 64) : ℝ) : EReal) rfl,
      IdealRules.named_const.statement Cert.MixersFIdeal.κ "g128_1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal) rfl,
      IdealRules.named_const.statement Cert.MixersFIdeal.κ "log_g2" .f32 0xBC0080AC#32 ((Real.log (127 / 128) : ℝ) : EReal) rfl,
      IdealRules.named_const.statement Cert.MixersFIdeal.κ "g128_2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal) rfl,
      IdealRules.named_const.statement Cert.MixersFIdeal.κ "log_g3" .f32 0xBB80402B#32 ((Real.log (255 / 256) : ℝ) : EReal) rfl,
      IdealRules.named_const.statement Cert.MixersFIdeal.κ "g128_3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal) rfl⟩,
    Cert.Proof.MixersF.algebraic,
    trivial,
    Cert.Proof.RwkvF.algebraic⟩
